-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_ret_finite [hPre_ret_finite : Cert.Pre_ret_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))).1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))).2 = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_ret_finite [hPre_ret_finite : Cert.Pre_ret_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))).1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))).2 = (fun _ => 1#1)

def Pre_RetFwdKernel (m : (ℓ : Loc Cert.RetFwdKernel.nD Cert.RetFwdKernel.τ Cert.RetFwdKernel.sig) → Buf (Elt Bits) ℓ) : Prop :=
  True

def Pre_RetFwdKernelIdeal (m : (ℓ : Loc Cert.RetFwdKernelIdeal.nD Cert.RetFwdKernelIdeal.τ Cert.RetFwdKernelIdeal.sig) → Buf (Elt Ideal) ℓ) : Prop :=
  True

def Pre_RetFwdKernelIdeal_proj_finite [hPre_proj_finite : Cert.Pre_proj_finite.Facts] (m : (ℓ : Loc Cert.RetFwdKernelIdeal.nD Cert.RetFwdKernelIdeal.τ Cert.RetFwdKernelIdeal.sig) → Buf (Elt Ideal) ℓ) : Prop :=
  ∀ c : Dev Cert.RetFwdKernelIdeal.nD,
    (Cert.Pre_proj_finite.fn (F := Ideal) (m ((c.tc : Thread Cert.RetFwdKernelIdeal.nD Cert.RetFwdKernelIdeal.τ).loc Cert.RetFwdKernelIdeal.main_arg0))) = (fun _ => 1#1)

def Pre_RetFwdReferenceIdeal (m : (ℓ : Loc Cert.RetFwdReferenceIdeal.nD Cert.RetFwdReferenceIdeal.τ Cert.RetFwdReferenceIdeal.sig) → Buf (Elt Ideal) ℓ) : Prop :=
  True

def Pre_RetFwdReferenceIdeal_proj_finite [hPre_proj_finite : Cert.Pre_proj_finite.Facts] (m : (ℓ : Loc Cert.RetFwdReferenceIdeal.nD Cert.RetFwdReferenceIdeal.τ Cert.RetFwdReferenceIdeal.sig) → Buf (Elt Ideal) ℓ) : Prop :=
  ∀ c : Dev Cert.RetFwdReferenceIdeal.nD,
    (Cert.Pre_proj_finite.fn (F := Ideal) (m ((c.tc : Thread Cert.RetFwdReferenceIdeal.nD Cert.RetFwdReferenceIdeal.τ).loc Cert.RetFwdReferenceIdeal.main_arg0))) = (fun _ => 1#1)

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_InFwdKernel (m : (ℓ : Loc Cert.InFwdKernel.nD Cert.InFwdKernel.τ Cert.InFwdKernel.sig) → Buf (Elt Bits) ℓ) : Prop :=
  True

def Pre_InFwdKernelIdeal (m : (ℓ : Loc Cert.InFwdKernelIdeal.nD Cert.InFwdKernelIdeal.τ Cert.InFwdKernelIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetKernelIdeal_pre_ret_finite [hRetKernelIdeal : Cert.RetKernelIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_ret_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetReferenceIdeal_pre_ret_finite [hRetReferenceIdeal : Cert.RetReferenceIdeal.Facts] [hPre_ret_finite : Cert.Pre_ret_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_ret_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetFwdKernel [hRetFwdKernel : Cert.RetFwdKernel.Facts] : Prop :=
  ∀ (m : (ℓ : Loc Cert.RetFwdKernel.nD Cert.RetFwdKernel.τ Cert.RetFwdKernel.sig) → Buf (Elt Bits) ℓ) (g : Dev Cert.RetFwdKernel.nD → PrngReg), Pre_RetFwdKernel m →
    θ_run (Cert.RetFwdKernel.defs (F := Bits)) (onTc (τ := Cert.RetFwdKernel.τ) (Cert.RetFwdKernel.main (F := Bits))) ⟨m, fun _ => 0, g⟩ (fun r => (∀ c : Dev Cert.RetFwdKernel.nD,
      r.2.mem ((c.tc : Thread Cert.RetFwdKernel.nD Cert.RetFwdKernel.τ).loc Cert.RetFwdKernel.main_arg0) = m ((c.tc : Thread Cert.RetFwdKernel.nD Cert.RetFwdKernel.τ).loc Cert.RetFwdKernel.main_arg0))
      ∧ r.2.sem = fun _ => 0)

def quiescent_RetFwdKernelIdeal [hRetFwdKernelIdeal : Cert.RetFwdKernelIdeal.Facts] : Prop :=
  ∀ (m : (ℓ : Loc Cert.RetFwdKernelIdeal.nD Cert.RetFwdKernelIdeal.τ Cert.RetFwdKernelIdeal.sig) → Buf (Elt Ideal) ℓ) (g : Dev Cert.RetFwdKernelIdeal.nD → PrngReg), Pre_RetFwdKernelIdeal m →
    θ_run (Cert.RetFwdKernelIdeal.defs (F := Ideal)) (onTc (τ := Cert.RetFwdKernelIdeal.τ) (Cert.RetFwdKernelIdeal.main (F := Ideal))) ⟨m, fun _ => 0, g⟩ (fun r => (∀ c : Dev Cert.RetFwdKernelIdeal.nD,
      r.2.mem ((c.tc : Thread Cert.RetFwdKernelIdeal.nD Cert.RetFwdKernelIdeal.τ).loc Cert.RetFwdKernelIdeal.main_arg0) = m ((c.tc : Thread Cert.RetFwdKernelIdeal.nD Cert.RetFwdKernelIdeal.τ).loc Cert.RetFwdKernelIdeal.main_arg0))
      ∧ r.2.sem = fun _ => 0)

def quiescent_RetFwdKernelIdeal_pre_proj_finite [hRetFwdKernelIdeal : Cert.RetFwdKernelIdeal.Facts] [hPre_proj_finite : Cert.Pre_proj_finite.Facts] : Prop :=
  ∀ (m : (ℓ : Loc Cert.RetFwdKernelIdeal.nD Cert.RetFwdKernelIdeal.τ Cert.RetFwdKernelIdeal.sig) → Buf (Elt Ideal) ℓ) (g : Dev Cert.RetFwdKernelIdeal.nD → PrngReg), Pre_RetFwdKernelIdeal_proj_finite m →
    θ_run (Cert.RetFwdKernelIdeal.defs (F := Ideal)) (onTc (τ := Cert.RetFwdKernelIdeal.τ) (Cert.RetFwdKernelIdeal.main (F := Ideal))) ⟨m, fun _ => 0, g⟩ (fun r => (∀ c : Dev Cert.RetFwdKernelIdeal.nD,
      r.2.mem ((c.tc : Thread Cert.RetFwdKernelIdeal.nD Cert.RetFwdKernelIdeal.τ).loc Cert.RetFwdKernelIdeal.main_arg0) = m ((c.tc : Thread Cert.RetFwdKernelIdeal.nD Cert.RetFwdKernelIdeal.τ).loc Cert.RetFwdKernelIdeal.main_arg0))
      ∧ r.2.sem = fun _ => 0)

def quiescent_RetFwdReferenceIdeal [hRetFwdReferenceIdeal : Cert.RetFwdReferenceIdeal.Facts] : Prop :=
  ∀ (m : (ℓ : Loc Cert.RetFwdReferenceIdeal.nD Cert.RetFwdReferenceIdeal.τ Cert.RetFwdReferenceIdeal.sig) → Buf (Elt Ideal) ℓ) (g : Dev Cert.RetFwdReferenceIdeal.nD → PrngReg), Pre_RetFwdReferenceIdeal m →
    θ_run (Cert.RetFwdReferenceIdeal.defs (F := Ideal)) (onTc (τ := Cert.RetFwdReferenceIdeal.τ) (Cert.RetFwdReferenceIdeal.main (F := Ideal))) ⟨m, fun _ => 0, g⟩ (fun r => (∀ c : Dev Cert.RetFwdReferenceIdeal.nD,
      r.2.mem ((c.tc : Thread Cert.RetFwdReferenceIdeal.nD Cert.RetFwdReferenceIdeal.τ).loc Cert.RetFwdReferenceIdeal.main_arg0) = m ((c.tc : Thread Cert.RetFwdReferenceIdeal.nD Cert.RetFwdReferenceIdeal.τ).loc Cert.RetFwdReferenceIdeal.main_arg0))
      ∧ r.2.sem = fun _ => 0)

def quiescent_RetFwdReferenceIdeal_pre_proj_finite [hRetFwdReferenceIdeal : Cert.RetFwdReferenceIdeal.Facts] [hPre_proj_finite : Cert.Pre_proj_finite.Facts] : Prop :=
  ∀ (m : (ℓ : Loc Cert.RetFwdReferenceIdeal.nD Cert.RetFwdReferenceIdeal.τ Cert.RetFwdReferenceIdeal.sig) → Buf (Elt Ideal) ℓ) (g : Dev Cert.RetFwdReferenceIdeal.nD → PrngReg), Pre_RetFwdReferenceIdeal_proj_finite m →
    θ_run (Cert.RetFwdReferenceIdeal.defs (F := Ideal)) (onTc (τ := Cert.RetFwdReferenceIdeal.τ) (Cert.RetFwdReferenceIdeal.main (F := Ideal))) ⟨m, fun _ => 0, g⟩ (fun r => (∀ c : Dev Cert.RetFwdReferenceIdeal.nD,
      r.2.mem ((c.tc : Thread Cert.RetFwdReferenceIdeal.nD Cert.RetFwdReferenceIdeal.τ).loc Cert.RetFwdReferenceIdeal.main_arg0) = m ((c.tc : Thread Cert.RetFwdReferenceIdeal.nD Cert.RetFwdReferenceIdeal.τ).loc Cert.RetFwdReferenceIdeal.main_arg0))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4)
      ∧ r.2.mem ((c.tc : Thread Cert.MergeFwdKernel.nD Cert.MergeFwdKernel.τ).loc Cert.MergeFwdKernel.main_arg5) = m ((c.tc : Thread Cert.MergeFwdKernel.nD Cert.MergeFwdKernel.τ).loc Cert.MergeFwdKernel.main_arg5)
      ∧ r.2.mem ((c.tc : Thread Cert.MergeFwdKernel.nD Cert.MergeFwdKernel.τ).loc Cert.MergeFwdKernel.main_arg6) = m ((c.tc : Thread Cert.MergeFwdKernel.nD Cert.MergeFwdKernel.τ).loc Cert.MergeFwdKernel.main_arg6)
      ∧ r.2.mem ((c.tc : Thread Cert.MergeFwdKernel.nD Cert.MergeFwdKernel.τ).loc Cert.MergeFwdKernel.main_arg7) = m ((c.tc : Thread Cert.MergeFwdKernel.nD Cert.MergeFwdKernel.τ).loc Cert.MergeFwdKernel.main_arg7))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
      ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
      ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
      ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7))
      ∧ r.2.sem = fun _ => 0)

def quiescent_InFwdKernel [hInFwdKernel : Cert.InFwdKernel.Facts] : Prop :=
  ∀ (m : (ℓ : Loc Cert.InFwdKernel.nD Cert.InFwdKernel.τ Cert.InFwdKernel.sig) → Buf (Elt Bits) ℓ) (g : Dev Cert.InFwdKernel.nD → PrngReg), Pre_InFwdKernel m →
    θ_run (Cert.InFwdKernel.defs (F := Bits)) (onTc (τ := Cert.InFwdKernel.τ) (Cert.InFwdKernel.main (F := Bits))) ⟨m, fun _ => 0, g⟩ (fun r => (∀ c : Dev Cert.InFwdKernel.nD,
      r.2.mem ((c.tc : Thread Cert.InFwdKernel.nD Cert.InFwdKernel.τ).loc Cert.InFwdKernel.main_arg0) = m ((c.tc : Thread Cert.InFwdKernel.nD Cert.InFwdKernel.τ).loc Cert.InFwdKernel.main_arg0)
      ∧ r.2.mem ((c.tc : Thread Cert.InFwdKernel.nD Cert.InFwdKernel.τ).loc Cert.InFwdKernel.main_arg1) = m ((c.tc : Thread Cert.InFwdKernel.nD Cert.InFwdKernel.τ).loc Cert.InFwdKernel.main_arg1)
      ∧ r.2.mem ((c.tc : Thread Cert.InFwdKernel.nD Cert.InFwdKernel.τ).loc Cert.InFwdKernel.main_arg2) = m ((c.tc : Thread Cert.InFwdKernel.nD Cert.InFwdKernel.τ).loc Cert.InFwdKernel.main_arg2))
      ∧ r.2.sem = fun _ => 0)

def quiescent_InFwdKernelIdeal [hInFwdKernelIdeal : Cert.InFwdKernelIdeal.Facts] : Prop :=
  ∀ (m : (ℓ : Loc Cert.InFwdKernelIdeal.nD Cert.InFwdKernelIdeal.τ Cert.InFwdKernelIdeal.sig) → Buf (Elt Ideal) ℓ) (g : Dev Cert.InFwdKernelIdeal.nD → PrngReg), Pre_InFwdKernelIdeal m →
    θ_run (Cert.InFwdKernelIdeal.defs (F := Ideal)) (onTc (τ := Cert.InFwdKernelIdeal.τ) (Cert.InFwdKernelIdeal.main (F := Ideal))) ⟨m, fun _ => 0, g⟩ (fun r => (∀ c : Dev Cert.InFwdKernelIdeal.nD,
      r.2.mem ((c.tc : Thread Cert.InFwdKernelIdeal.nD Cert.InFwdKernelIdeal.τ).loc Cert.InFwdKernelIdeal.main_arg0) = m ((c.tc : Thread Cert.InFwdKernelIdeal.nD Cert.InFwdKernelIdeal.τ).loc Cert.InFwdKernelIdeal.main_arg0)
      ∧ r.2.mem ((c.tc : Thread Cert.InFwdKernelIdeal.nD Cert.InFwdKernelIdeal.τ).loc Cert.InFwdKernelIdeal.main_arg1) = m ((c.tc : Thread Cert.InFwdKernelIdeal.nD Cert.InFwdKernelIdeal.τ).loc Cert.InFwdKernelIdeal.main_arg1)
      ∧ r.2.mem ((c.tc : Thread Cert.InFwdKernelIdeal.nD Cert.InFwdKernelIdeal.τ).loc Cert.InFwdKernelIdeal.main_arg2) = m ((c.tc : Thread Cert.InFwdKernelIdeal.nD Cert.InFwdKernelIdeal.τ).loc Cert.InFwdKernelIdeal.main_arg2))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1)
      ∧ r.2.mem ((c.tc : Thread Cert.ConvFwdKernel.nD Cert.ConvFwdKernel.τ).loc Cert.ConvFwdKernel.main_arg2) = m ((c.tc : Thread Cert.ConvFwdKernel.nD Cert.ConvFwdKernel.τ).loc Cert.ConvFwdKernel.main_arg2)
      ∧ r.2.mem ((c.tc : Thread Cert.ConvFwdKernel.nD Cert.ConvFwdKernel.τ).loc Cert.ConvFwdKernel.main_arg3) = m ((c.tc : Thread Cert.ConvFwdKernel.nD Cert.ConvFwdKernel.τ).loc Cert.ConvFwdKernel.main_arg3)
      ∧ r.2.mem ((c.tc : Thread Cert.ConvFwdKernel.nD Cert.ConvFwdKernel.τ).loc Cert.ConvFwdKernel.main_arg4) = m ((c.tc : Thread Cert.ConvFwdKernel.nD Cert.ConvFwdKernel.τ).loc Cert.ConvFwdKernel.main_arg4))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1)
      ∧ r.2.mem ((c.tc : Thread Cert.ConvFwdKernelIdeal.nD Cert.ConvFwdKernelIdeal.τ).loc Cert.ConvFwdKernelIdeal.main_arg2) = m ((c.tc : Thread Cert.ConvFwdKernelIdeal.nD Cert.ConvFwdKernelIdeal.τ).loc Cert.ConvFwdKernelIdeal.main_arg2)
      ∧ r.2.mem ((c.tc : Thread Cert.ConvFwdKernelIdeal.nD Cert.ConvFwdKernelIdeal.τ).loc Cert.ConvFwdKernelIdeal.main_arg3) = m ((c.tc : Thread Cert.ConvFwdKernelIdeal.nD Cert.ConvFwdKernelIdeal.τ).loc Cert.ConvFwdKernelIdeal.main_arg3)
      ∧ r.2.mem ((c.tc : Thread Cert.ConvFwdKernelIdeal.nD Cert.ConvFwdKernelIdeal.τ).loc Cert.ConvFwdKernelIdeal.main_arg4) = m ((c.tc : Thread Cert.ConvFwdKernelIdeal.nD Cert.ConvFwdKernelIdeal.τ).loc Cert.ConvFwdKernelIdeal.main_arg4))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2)
      ∧ r.2.mem ((c.tc : Thread Cert.ConvFwdReferenceIdeal.nD Cert.ConvFwdReferenceIdeal.τ).loc Cert.ConvFwdReferenceIdeal.main_arg3) = m ((c.tc : Thread Cert.ConvFwdReferenceIdeal.nD Cert.ConvFwdReferenceIdeal.τ).loc Cert.ConvFwdReferenceIdeal.main_arg3)
      ∧ r.2.mem ((c.tc : Thread Cert.ConvFwdReferenceIdeal.nD Cert.ConvFwdReferenceIdeal.τ).loc Cert.ConvFwdReferenceIdeal.main_arg4) = m ((c.tc : Thread Cert.ConvFwdReferenceIdeal.nD Cert.ConvFwdReferenceIdeal.τ).loc Cert.ConvFwdReferenceIdeal.main_arg4))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v3) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v8) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_MergeKernel_MergeKernelIdeal : Prop :=
  True

def algebraic_MergeKernelIdeal_MergeReferenceIdeal_on_merge_mask [hMergeKernelIdeal : Cert.MergeKernelIdeal.Facts] [hMergeReferenceIdeal : Cert.MergeReferenceIdeal.Facts] [hOn_merge_mask : Cert.On_merge_mask.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)) →
    ∃ (v0 : (c : Dev Cert.MergeKernelIdeal.nD) → Buf (Elt Ideal) ((c.tc : Thread Cert.MergeKernelIdeal.nD Cert.MergeKernelIdeal.τ).loc Cert.MergeKernelIdeal.main_v33_0)) (v1 : (c : Dev Cert.MergeKernelIdeal.nD) → Buf (Elt Ideal) ((c.tc : Thread Cert.MergeKernelIdeal.nD Cert.MergeKernelIdeal.τ).loc Cert.MergeKernelIdeal.main_v33_1)) (v2 : (c : Dev Cert.MergeKernelIdeal.nD) → Buf (Elt Ideal) ((c.tc : Thread Cert.MergeKernelIdeal.nD Cert.MergeKernelIdeal.τ).loc Cert.MergeKernelIdeal.main_v33_2)) (v3 : (c : Dev Cert.MergeKernelIdeal.nD) → Buf (Elt Ideal) ((c.tc : Thread Cert.MergeKernelIdeal.nD Cert.MergeKernelIdeal.τ).loc Cert.MergeKernelIdeal.main_v33_3)) (v4 : (c : Dev Cert.MergeKernelIdeal.nD) → Buf (Elt Ideal) ((c.tc : Thread Cert.MergeKernelIdeal.nD Cert.MergeKernelIdeal.τ).loc Cert.MergeKernelIdeal.main_v33_4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          (∀ i : (⟨2, ![4096, 8192]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).1 i = 1#1 → r.2.mem ((c.tc : Thread Cert.MergeKernelIdeal.nD Cert.MergeKernelIdeal.τ).loc Cert.MergeKernelIdeal.main_v33_0) i = v0 c i)
          ∧ (∀ i : (⟨2, ![4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.1 i = 1#1 → r.2.mem ((c.tc : Thread Cert.MergeKernelIdeal.nD Cert.MergeKernelIdeal.τ).loc Cert.MergeKernelIdeal.main_v33_1) i = v1 c i)
          ∧ (∀ i : (⟨2, ![4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.2.1 i = 1#1 → r.2.mem ((c.tc : Thread Cert.MergeKernelIdeal.nD Cert.MergeKernelIdeal.τ).loc Cert.MergeKernelIdeal.main_v33_2) i = v2 c i)
          ∧ (∀ i : (⟨3, ![4, 768, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.2.2.1 i = 1#1 → r.2.mem ((c.tc : Thread Cert.MergeKernelIdeal.nD Cert.MergeKernelIdeal.τ).loc Cert.MergeKernelIdeal.main_v33_3) i = v3 c i)
          ∧ (∀ i : (⟨2, ![8, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.2.2.2 i = 1#1 → r.2.mem ((c.tc : Thread Cert.MergeKernelIdeal.nD Cert.MergeKernelIdeal.τ).loc Cert.MergeKernelIdeal.main_v33_4) i = v4 c i)
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          (∀ i : (⟨2, ![4096, 8192]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).1 i = 1#1 → r.2.mem ((c.tc : Thread Cert.MergeReferenceIdeal.nD Cert.MergeReferenceIdeal.τ).loc Cert.MergeReferenceIdeal.main_v86) i = v0 c i)
          ∧ (∀ i : (⟨2, ![4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.1 i = 1#1 → r.2.mem ((c.tc : Thread Cert.MergeReferenceIdeal.nD Cert.MergeReferenceIdeal.τ).loc Cert.MergeReferenceIdeal.main_v87) i = v1 c i)
          ∧ (∀ i : (⟨2, ![4096, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.2.1 i = 1#1 → r.2.mem ((c.tc : Thread Cert.MergeReferenceIdeal.nD Cert.MergeReferenceIdeal.τ).loc Cert.MergeReferenceIdeal.main_v88) i = v2 c i)
          ∧ (∀ i : (⟨3, ![4, 768, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.2.2.1 i = 1#1 → r.2.mem ((c.tc : Thread Cert.MergeReferenceIdeal.nD Cert.MergeReferenceIdeal.τ).loc Cert.MergeReferenceIdeal.main_v89) i = v3 c i)
          ∧ (∀ i : (⟨2, ![8, 1024]⟩ : Shape).Idx, (Cert.On_merge_mask.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7))).2.2.2.2 i = 1#1 → r.2.mem ((c.tc : Thread Cert.MergeReferenceIdeal.nD Cert.MergeReferenceIdeal.τ).loc Cert.MergeReferenceIdeal.main_v91) i = v4 c i)
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v5_0)) (v1 : (c : Dev Cert.InKernelIdeal.nD) → Buf (Elt Ideal) ((c.tc : Thread Cert.InKernelIdeal.nD Cert.InKernelIdeal.τ).loc Cert.InKernelIdeal.main_v5_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5_0) = v0 c
          ∧ r.2.mem ((c.tc : Thread Cert.InKernelIdeal.nD Cert.InKernelIdeal.τ).loc Cert.InKernelIdeal.main_v5_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v40) = v0 c
          ∧ r.2.mem ((c.tc : Thread Cert.InReferenceIdeal.nD Cert.InReferenceIdeal.τ).loc Cert.InReferenceIdeal.main_v42) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_RetKernel_RetKernelIdeal : Prop :=
  True

def algebraic_RetKernelIdeal_RetReferenceIdeal_pre_ret_finite [hRetKernelIdeal : Cert.RetKernelIdeal.Facts] [hRetReferenceIdeal : Cert.RetReferenceIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_ret_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v184)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v184) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v260) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def preserves_RetFwdKernel_RetFwdKernelIdeal : Prop :=
  True

def algebraic_RetFwdKernelIdeal_RetFwdReferenceIdeal_pre_proj_finite [hRetFwdKernelIdeal : Cert.RetFwdKernelIdeal.Facts] [hRetFwdReferenceIdeal : Cert.RetFwdReferenceIdeal.Facts] [hPre_proj_finite : Cert.Pre_proj_finite.Facts] : Prop :=
  ∀ (m : (ℓ : Loc Cert.RetFwdKernelIdeal.nD Cert.RetFwdKernelIdeal.τ Cert.RetFwdKernelIdeal.sig) → Buf (Elt Ideal) ℓ) (g : Dev Cert.RetFwdKernelIdeal.nD → PrngReg)
    (m' : (ℓ : Loc Cert.RetFwdReferenceIdeal.nD Cert.RetFwdReferenceIdeal.τ Cert.RetFwdReferenceIdeal.sig) → Buf (Elt Ideal) ℓ) (g' : Dev Cert.RetFwdReferenceIdeal.nD → PrngReg), Pre_RetFwdKernelIdeal_proj_finite m →
    (∀ c : Dev Cert.RetFwdKernelIdeal.nD,
      m' ((c.tc : Thread Cert.RetFwdReferenceIdeal.nD Cert.RetFwdReferenceIdeal.τ).loc Cert.RetFwdReferenceIdeal.main_arg0) = m ((c.tc : Thread Cert.RetFwdKernelIdeal.nD Cert.RetFwdKernelIdeal.τ).loc Cert.RetFwdKernelIdeal.main_arg0)) →
    ∃ (v0 : (c : Dev Cert.RetFwdKernelIdeal.nD) → Buf (Elt Ideal) ((c.tc : Thread Cert.RetFwdKernelIdeal.nD Cert.RetFwdKernelIdeal.τ).loc Cert.RetFwdKernelIdeal.main_v99_0)) (v1 : (c : Dev Cert.RetFwdKernelIdeal.nD) → Buf (Elt Ideal) ((c.tc : Thread Cert.RetFwdKernelIdeal.nD Cert.RetFwdKernelIdeal.τ).loc Cert.RetFwdKernelIdeal.main_v99_1)),
      θ_run (Cert.RetFwdKernelIdeal.defs (F := Ideal)) (onTc (τ := Cert.RetFwdKernelIdeal.τ) (Cert.RetFwdKernelIdeal.main (F := Ideal))) ⟨m, fun _ => 0, g⟩ (fun r => ∀ c : Dev Cert.RetFwdKernelIdeal.nD,
          r.2.mem ((c.tc : Thread Cert.RetFwdKernelIdeal.nD Cert.RetFwdKernelIdeal.τ).loc Cert.RetFwdKernelIdeal.main_v99_0) = v0 c
          ∧ r.2.mem ((c.tc : Thread Cert.RetFwdKernelIdeal.nD Cert.RetFwdKernelIdeal.τ).loc Cert.RetFwdKernelIdeal.main_v99_1) = v1 c
          ∧ r.2.mem ((c.tc : Thread Cert.RetFwdKernelIdeal.nD Cert.RetFwdKernelIdeal.τ).loc Cert.RetFwdKernelIdeal.main_arg0) = m ((c.tc : Thread Cert.RetFwdKernelIdeal.nD Cert.RetFwdKernelIdeal.τ).loc Cert.RetFwdKernelIdeal.main_arg0))
      ∧ θ_run (Cert.RetFwdReferenceIdeal.defs (F := Ideal)) (onTc (τ := Cert.RetFwdReferenceIdeal.τ) (Cert.RetFwdReferenceIdeal.main (F := Ideal))) ⟨m', fun _ => 0, g'⟩ (fun r => ∀ c : Dev Cert.RetFwdReferenceIdeal.nD,
          r.2.mem ((c.tc : Thread Cert.RetFwdReferenceIdeal.nD Cert.RetFwdReferenceIdeal.τ).loc Cert.RetFwdReferenceIdeal.main_v162) = v0 c
          ∧ r.2.mem ((c.tc : Thread Cert.RetFwdReferenceIdeal.nD Cert.RetFwdReferenceIdeal.τ).loc Cert.RetFwdReferenceIdeal.main_v163) = v1 c
          ∧ r.2.mem ((c.tc : Thread Cert.RetFwdReferenceIdeal.nD Cert.RetFwdReferenceIdeal.τ).loc Cert.RetFwdReferenceIdeal.main_arg0) = m' ((c.tc : Thread Cert.RetFwdReferenceIdeal.nD Cert.RetFwdReferenceIdeal.τ).loc Cert.RetFwdReferenceIdeal.main_arg0))

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)
      ∧ m' ((c.tc : Thread Cert.MergeFwdReferenceIdeal.nD Cert.MergeFwdReferenceIdeal.τ).loc Cert.MergeFwdReferenceIdeal.main_arg3) = m ((c.tc : Thread Cert.MergeFwdKernelIdeal.nD Cert.MergeFwdKernelIdeal.τ).loc Cert.MergeFwdKernelIdeal.main_arg3)
      ∧ m' ((c.tc : Thread Cert.MergeFwdReferenceIdeal.nD Cert.MergeFwdReferenceIdeal.τ).loc Cert.MergeFwdReferenceIdeal.main_arg4) = m ((c.tc : Thread Cert.MergeFwdKernelIdeal.nD Cert.MergeFwdKernelIdeal.τ).loc Cert.MergeFwdKernelIdeal.main_arg4)
      ∧ m' ((c.tc : Thread Cert.MergeFwdReferenceIdeal.nD Cert.MergeFwdReferenceIdeal.τ).loc Cert.MergeFwdReferenceIdeal.main_arg5) = m ((c.tc : Thread Cert.MergeFwdKernelIdeal.nD Cert.MergeFwdKernelIdeal.τ).loc Cert.MergeFwdKernelIdeal.main_arg5)
      ∧ m' ((c.tc : Thread Cert.MergeFwdReferenceIdeal.nD Cert.MergeFwdReferenceIdeal.τ).loc Cert.MergeFwdReferenceIdeal.main_arg6) = m ((c.tc : Thread Cert.MergeFwdKernelIdeal.nD Cert.MergeFwdKernelIdeal.τ).loc Cert.MergeFwdKernelIdeal.main_arg6)
      ∧ m' ((c.tc : Thread Cert.MergeFwdReferenceIdeal.nD Cert.MergeFwdReferenceIdeal.τ).loc Cert.MergeFwdReferenceIdeal.main_arg7) = m ((c.tc : Thread Cert.MergeFwdKernelIdeal.nD Cert.MergeFwdKernelIdeal.τ).loc Cert.MergeFwdKernelIdeal.main_arg7)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v9_0)) (v1 : (c : Dev Cert.MergeFwdKernelIdeal.nD) → Buf (Elt Ideal) ((c.tc : Thread Cert.MergeFwdKernelIdeal.nD Cert.MergeFwdKernelIdeal.τ).loc Cert.MergeFwdKernelIdeal.main_v9_1)) (v2 : (c : Dev Cert.MergeFwdKernelIdeal.nD) → Buf (Elt Ideal) ((c.tc : Thread Cert.MergeFwdKernelIdeal.nD Cert.MergeFwdKernelIdeal.τ).loc Cert.MergeFwdKernelIdeal.main_v9_2)) (v3 : (c : Dev Cert.MergeFwdKernelIdeal.nD) → Buf (Elt Ideal) ((c.tc : Thread Cert.MergeFwdKernelIdeal.nD Cert.MergeFwdKernelIdeal.τ).loc Cert.MergeFwdKernelIdeal.main_v9_3)) (v4 : (c : Dev Cert.MergeFwdKernelIdeal.nD) → Buf (Elt Ideal) ((c.tc : Thread Cert.MergeFwdKernelIdeal.nD Cert.MergeFwdKernelIdeal.τ).loc Cert.MergeFwdKernelIdeal.main_v9_4)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v9_0) = v0 c
          ∧ r.2.mem ((c.tc : Thread Cert.MergeFwdKernelIdeal.nD Cert.MergeFwdKernelIdeal.τ).loc Cert.MergeFwdKernelIdeal.main_v9_1) = v1 c
          ∧ r.2.mem ((c.tc : Thread Cert.MergeFwdKernelIdeal.nD Cert.MergeFwdKernelIdeal.τ).loc Cert.MergeFwdKernelIdeal.main_v9_2) = v2 c
          ∧ r.2.mem ((c.tc : Thread Cert.MergeFwdKernelIdeal.nD Cert.MergeFwdKernelIdeal.τ).loc Cert.MergeFwdKernelIdeal.main_v9_3) = v3 c
          ∧ r.2.mem ((c.tc : Thread Cert.MergeFwdKernelIdeal.nD Cert.MergeFwdKernelIdeal.τ).loc Cert.MergeFwdKernelIdeal.main_v9_4) = v4 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
          ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
          ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
          ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v35) = v0 c
          ∧ r.2.mem ((c.tc : Thread Cert.MergeFwdReferenceIdeal.nD Cert.MergeFwdReferenceIdeal.τ).loc Cert.MergeFwdReferenceIdeal.main_v36) = v1 c
          ∧ r.2.mem ((c.tc : Thread Cert.MergeFwdReferenceIdeal.nD Cert.MergeFwdReferenceIdeal.τ).loc Cert.MergeFwdReferenceIdeal.main_v37) = v2 c
          ∧ r.2.mem ((c.tc : Thread Cert.MergeFwdReferenceIdeal.nD Cert.MergeFwdReferenceIdeal.τ).loc Cert.MergeFwdReferenceIdeal.main_v38) = v3 c
          ∧ r.2.mem ((c.tc : Thread Cert.MergeFwdReferenceIdeal.nD Cert.MergeFwdReferenceIdeal.τ).loc Cert.MergeFwdReferenceIdeal.main_v39) = v4 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7))

def preserves_InFwdKernel_InFwdKernelIdeal : Prop :=
  True

def algebraic_InFwdKernelIdeal_InFwdReferenceIdeal [hInFwdKernelIdeal : Cert.InFwdKernelIdeal.Facts] [hInFwdReferenceIdeal : Cert.InFwdReferenceIdeal.Facts] : Prop :=
  ∀ (m : (ℓ : Loc Cert.InFwdKernelIdeal.nD Cert.InFwdKernelIdeal.τ Cert.InFwdKernelIdeal.sig) → Buf (Elt Ideal) ℓ) (g : Dev Cert.InFwdKernelIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdKernelIdeal m →
    (∀ c : Dev Cert.InFwdKernelIdeal.nD,
      m' ((c.tc : Thread Cert.InFwdReferenceIdeal.nD Cert.InFwdReferenceIdeal.τ).loc Cert.InFwdReferenceIdeal.main_arg0) = m ((c.tc : Thread Cert.InFwdKernelIdeal.nD Cert.InFwdKernelIdeal.τ).loc Cert.InFwdKernelIdeal.main_arg0)
      ∧ m' ((c.tc : Thread Cert.InFwdReferenceIdeal.nD Cert.InFwdReferenceIdeal.τ).loc Cert.InFwdReferenceIdeal.main_arg1) = m ((c.tc : Thread Cert.InFwdKernelIdeal.nD Cert.InFwdKernelIdeal.τ).loc Cert.InFwdKernelIdeal.main_arg1)
      ∧ m' ((c.tc : Thread Cert.InFwdReferenceIdeal.nD Cert.InFwdReferenceIdeal.τ).loc Cert.InFwdReferenceIdeal.main_arg2) = m ((c.tc : Thread Cert.InFwdKernelIdeal.nD Cert.InFwdKernelIdeal.τ).loc Cert.InFwdKernelIdeal.main_arg2)) →
    ∃ (v0 : (c : Dev Cert.InFwdKernelIdeal.nD) → Buf (Elt Ideal) ((c.tc : Thread Cert.InFwdKernelIdeal.nD Cert.InFwdKernelIdeal.τ).loc Cert.InFwdKernelIdeal.main_v4_0)) (v1 : (c : Dev Cert.InFwdKernelIdeal.nD) → Buf (Elt Ideal) ((c.tc : Thread Cert.InFwdKernelIdeal.nD Cert.InFwdKernelIdeal.τ).loc Cert.InFwdKernelIdeal.main_v4_1)),
      θ_run (Cert.InFwdKernelIdeal.defs (F := Ideal)) (onTc (τ := Cert.InFwdKernelIdeal.τ) (Cert.InFwdKernelIdeal.main (F := Ideal))) ⟨m, fun _ => 0, g⟩ (fun r => ∀ c : Dev Cert.InFwdKernelIdeal.nD,
          r.2.mem ((c.tc : Thread Cert.InFwdKernelIdeal.nD Cert.InFwdKernelIdeal.τ).loc Cert.InFwdKernelIdeal.main_v4_0) = v0 c
          ∧ r.2.mem ((c.tc : Thread Cert.InFwdKernelIdeal.nD Cert.InFwdKernelIdeal.τ).loc Cert.InFwdKernelIdeal.main_v4_1) = v1 c
          ∧ r.2.mem ((c.tc : Thread Cert.InFwdKernelIdeal.nD Cert.InFwdKernelIdeal.τ).loc Cert.InFwdKernelIdeal.main_arg0) = m ((c.tc : Thread Cert.InFwdKernelIdeal.nD Cert.InFwdKernelIdeal.τ).loc Cert.InFwdKernelIdeal.main_arg0)
          ∧ r.2.mem ((c.tc : Thread Cert.InFwdKernelIdeal.nD Cert.InFwdKernelIdeal.τ).loc Cert.InFwdKernelIdeal.main_arg1) = m ((c.tc : Thread Cert.InFwdKernelIdeal.nD Cert.InFwdKernelIdeal.τ).loc Cert.InFwdKernelIdeal.main_arg1)
          ∧ r.2.mem ((c.tc : Thread Cert.InFwdKernelIdeal.nD Cert.InFwdKernelIdeal.τ).loc Cert.InFwdKernelIdeal.main_arg2) = m ((c.tc : Thread Cert.InFwdKernelIdeal.nD Cert.InFwdKernelIdeal.τ).loc Cert.InFwdKernelIdeal.main_arg2))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v16) = v0 c
          ∧ r.2.mem ((c.tc : Thread Cert.InFwdReferenceIdeal.nD Cert.InFwdReferenceIdeal.τ).loc Cert.InFwdReferenceIdeal.main_v17) = v1 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2))

def preserves_ConvFwdKernel_ConvFwdKernelIdeal : Prop :=
  True

def Claim : Prop :=
  ∃ (hLossKernel : Cert.LossKernel.Facts) (hLossKernelIdeal : Cert.LossKernelIdeal.Facts) (hLossReferenceIdeal : Cert.LossReferenceIdeal.Facts) (hMergeKernel : Cert.MergeKernel.Facts) (hMergeKernelIdeal : Cert.MergeKernelIdeal.Facts) (hMergeReferenceIdeal : Cert.MergeReferenceIdeal.Facts) (hInKernel : Cert.InKernel.Facts) (hInKernelIdeal : Cert.InKernelIdeal.Facts) (hInReferenceIdeal : Cert.InReferenceIdeal.Facts) (hRetKernel : Cert.RetKernel.Facts) (hRetKernelIdeal : Cert.RetKernelIdeal.Facts) (hRetReferenceIdeal : Cert.RetReferenceIdeal.Facts) (hRetFwdKernel : Cert.RetFwdKernel.Facts) (hRetFwdKernelIdeal : Cert.RetFwdKernelIdeal.Facts) (hRetFwdReferenceIdeal : Cert.RetFwdReferenceIdeal.Facts) (hMergeFwdKernel : Cert.MergeFwdKernel.Facts) (hMergeFwdKernelIdeal : Cert.MergeFwdKernelIdeal.Facts) (hMergeFwdReferenceIdeal : Cert.MergeFwdReferenceIdeal.Facts) (hInFwdKernel : Cert.InFwdKernel.Facts) (hInFwdKernelIdeal : Cert.InFwdKernelIdeal.Facts) (hInFwdReferenceIdeal : Cert.InFwdReferenceIdeal.Facts) (hConvFwdKernel : Cert.ConvFwdKernel.Facts) (hConvFwdKernelIdeal : Cert.ConvFwdKernelIdeal.Facts) (hConvFwdReferenceIdeal : Cert.ConvFwdReferenceIdeal.Facts) (hPre_ret_finite : Cert.Pre_ret_finite.Facts) (hPre_proj_finite : Cert.Pre_proj_finite.Facts) (hOn_merge_mask : Cert.On_merge_mask.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_RetKernel (hRetKernel := hRetKernel)
    ∧ quiescent_RetKernelIdeal (hRetKernelIdeal := hRetKernelIdeal)
    ∧ quiescent_RetKernelIdeal_pre_ret_finite (hRetKernelIdeal := hRetKernelIdeal) (hPre_ret_finite := hPre_ret_finite)
    ∧ quiescent_RetReferenceIdeal (hRetReferenceIdeal := hRetReferenceIdeal)
    ∧ quiescent_RetReferenceIdeal_pre_ret_finite (hRetReferenceIdeal := hRetReferenceIdeal) (hPre_ret_finite := hPre_ret_finite)
    ∧ quiescent_RetFwdKernel (hRetFwdKernel := hRetFwdKernel)
    ∧ quiescent_RetFwdKernelIdeal (hRetFwdKernelIdeal := hRetFwdKernelIdeal)
    ∧ quiescent_RetFwdKernelIdeal_pre_proj_finite (hRetFwdKernelIdeal := hRetFwdKernelIdeal) (hPre_proj_finite := hPre_proj_finite)
    ∧ quiescent_RetFwdReferenceIdeal (hRetFwdReferenceIdeal := hRetFwdReferenceIdeal)
    ∧ quiescent_RetFwdReferenceIdeal_pre_proj_finite (hRetFwdReferenceIdeal := hRetFwdReferenceIdeal) (hPre_proj_finite := hPre_proj_finite)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_InFwdKernel (hInFwdKernel := hInFwdKernel)
    ∧ quiescent_InFwdKernelIdeal (hInFwdKernelIdeal := hInFwdKernelIdeal)
    ∧ quiescent_InFwdReferenceIdeal (hInFwdReferenceIdeal := hInFwdReferenceIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_MergeKernel_MergeKernelIdeal
    ∧ algebraic_MergeKernelIdeal_MergeReferenceIdeal_on_merge_mask (hMergeKernelIdeal := hMergeKernelIdeal) (hMergeReferenceIdeal := hMergeReferenceIdeal) (hOn_merge_mask := hOn_merge_mask)
    ∧ preserves_InKernel_InKernelIdeal
    ∧ algebraic_InKernelIdeal_InReferenceIdeal (hInKernelIdeal := hInKernelIdeal) (hInReferenceIdeal := hInReferenceIdeal)
    ∧ preserves_RetKernel_RetKernelIdeal
    ∧ algebraic_RetKernelIdeal_RetReferenceIdeal_pre_ret_finite (hRetKernelIdeal := hRetKernelIdeal) (hRetReferenceIdeal := hRetReferenceIdeal) (hPre_ret_finite := hPre_ret_finite)
    ∧ preserves_RetFwdKernel_RetFwdKernelIdeal
    ∧ algebraic_RetFwdKernelIdeal_RetFwdReferenceIdeal_pre_proj_finite (hRetFwdKernelIdeal := hRetFwdKernelIdeal) (hRetFwdReferenceIdeal := hRetFwdReferenceIdeal) (hPre_proj_finite := hPre_proj_finite)
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_InFwdKernel_InFwdKernelIdeal
    ∧ algebraic_InFwdKernelIdeal_InFwdReferenceIdeal (hInFwdKernelIdeal := hInFwdKernelIdeal) (hInFwdReferenceIdeal := hInFwdReferenceIdeal)
    ∧ preserves_ConvFwdKernel_ConvFwdKernelIdeal
-- ==== On_merge_mask.lean ====
abbrev S4096x1024 : Shape := ⟨2, ![4096, 1024]⟩
abbrev S4096x8192 : Shape := ⟨2, ![4096, 8192]⟩
abbrev S1024x1024 : Shape := ⟨2, ![1024, 1024]⟩
abbrev S4x1024 : Shape := ⟨2, ![4, 1024]⟩
abbrev S_ : Shape := ⟨0, ![]⟩
abbrev S4x768x1024 : Shape := ⟨3, ![4, 768, 1024]⟩
abbrev S8x1024 : Shape := ⟨2, ![8, 1024]⟩

class Facts : Prop where
  bcast_S_S4096x8192 : S_.BroadcastsInDim S4096x8192 (![] : Fin 0 → Fin S4096x8192.rank)
  bcast_S_S4x768x1024 : S_.BroadcastsInDim S4x768x1024 (![] : Fin 0 → Fin S4x768x1024.rank)
  bcast_S_S4096x1024 : S_.BroadcastsInDim S4096x1024 (![] : Fin 0 → Fin S4096x1024.rank)
  bcast_S_S8x1024 : S_.BroadcastsInDim S8x1024 (![] : Fin 0 → Fin S8x1024.rank)

variable [Facts]

def fn {F : FTy → Type} [FloatOps F] (main_arg0 : FVec F S4096x1024 .f32) (main_arg1 : FVec F S4096x8192 .f32) (main_arg2 : FVec F S4096x1024 .f32) (main_arg3 : FVec F S4096x1024 .f32) (main_arg4 : FVec F S1024x1024 .f32) (main_arg5 : FVec F S1024x1024 .f32) (main_arg6 : FVec F S1024x1024 .f32) (main_arg7 : FVec F S4x1024 .f32) : IVec S4096x8192 1 × IVec S4096x1024 1 × IVec S4096x1024 1 × IVec S4x768x1024 1 × IVec S8x1024 1 :=
  let main_v0 : IVec S4096x8192 32 := iotaInDim S4096x8192 32 1
  let main_c : IVec S_ 32 := constantI S_ 32 6144#32
  let main_v1 : IVec S4096x8192 32 := broadcastInDim S4096x8192 ![] bcast_S_S4096x8192 main_c
  let main_v2 : IVec S4096x8192 1 := cmpi .sge main_v0 main_v1
  let main_c_0 : IVec S_ 1 := constantI S_ 1 0#1
  let main_v3 : IVec S4x768x1024 1 := broadcastInDim S4x768x1024 ![] bcast_S_S4x768x1024 main_c_0
  let main_c_1 : IVec S_ 1 := constantI S_ 1 1#1
  let main_v4 : IVec S4096x1024 1 := broadcastInDim S4096x1024 ![] bcast_S_S4096x1024 main_c_1
  let main_c_2 : IVec S_ 1 := constantI S_ 1 1#1
  let main_v5 : IVec S4096x1024 1 := broadcastInDim S4096x1024 ![] bcast_S_S4096x1024 main_c_2
  let main_c_3 : IVec S_ 1 := constantI S_ 1 1#1
  let main_v6 : IVec S8x1024 1 := broadcastInDim S8x1024 ![] bcast_S_S8x1024 main_c_3
  (main_v2, main_v4, main_v5, main_v3, main_v6)
-- ==== Pre_proj_finite.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)

variable [Facts]

def fn {F : FTy → Type} [FloatOps F] (main_arg0 : FVec F S4096x8192 .f32) : IVec S4096x8192 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  main_v2
-- ==== Pre_ret_finite.lean ====
abbrev S4096x1024 : Shape := ⟨2, ![4096, 1024]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  bcast_S_S4096x8192 : S_.BroadcastsInDim S4096x8192 (![] : Fin 0 → Fin S4096x8192.rank)

variable [Facts]

def fn {F : FTy → Type} [FloatOps F] (main_arg0 : FVec F S4096x1024 .f32) (main_arg1 : FVec F S4096x8192 .f32) : IVec S4096x1024 1 × IVec S4096x8192 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  (main_v2, main_v5)
-- ==== LossKernel.lean ====
abbrev S1x4096x1024 : Shape := ⟨3, ![1, 4096, 1024]⟩
abbrev S4096x1024 : Shape := ⟨2, ![4096, 1024]⟩
abbrev S8x1024 : Shape := ⟨2, ![8, 1024]⟩
abbrev S512x1024 : Shape := ⟨2, ![512, 1024]⟩
abbrev S64x8x1024 : Shape := ⟨3, ![64, 8, 1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x1024, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S1x4096x1024 : Shape := ⟨3, ![1, 4096, 1024]⟩
abbrev S_ : Shape := ⟨0, ![]⟩
abbrev S1x4096 : Shape := ⟨2, ![1, 4096]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096x1024, .f32⟩
  | .hbm, ⟨24, _⟩ => ⟨S1x4096x1024, .f32⟩
  | .hbm, ⟨25, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== MergeKernel.lean ====
abbrev S4096x1024 : Shape := ⟨2, ![4096, 1024]⟩
abbrev S4096x8192 : Shape := ⟨2, ![4096, 8192]⟩
abbrev S1024x1024 : Shape := ⟨2, ![1024, 1024]⟩
abbrev S4x1024 : Shape := ⟨2, ![4, 1024]⟩
abbrev S_ : Shape := ⟨0, ![]⟩
abbrev S4x256x1024 : Shape := ⟨3, ![4, 256, 1024]⟩
abbrev S4x768x1024 : Shape := ⟨3, ![4, 768, 1024]⟩
abbrev S4x1x1024 : Shape := ⟨3, ![4, 1, 1024]⟩
abbrev S8x1024 : Shape := ⟨2, ![8, 1024]⟩
abbrev S512x1024 : Shape := ⟨2, ![512, 1024]⟩
abbrev S512x2048 : Shape := ⟨2, ![512, 2048]⟩
abbrev S1x1x1024 : Shape := ⟨3, ![1, 1, 1024]⟩
abbrev S3x1024x1024 : Shape := ⟨3, ![3, 1024, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩
abbrev S1x1024x1024 : Shape := ⟨3, ![1, 1024, 1024]⟩

abbrev nBuf : Space → Nat
  | .hbm => 50
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4x256x1024, .f32⟩
  | .hbm, ⟨33, _⟩ => ⟨S4x256x1024, .f32⟩
  | .hbm, ⟨34, _⟩ => ⟨S4x256x1024, .f32⟩
  | .hbm, ⟨35, _⟩ => ⟨S4x768x1024, .f32⟩
  | .hbm, ⟨36, _⟩ => ⟨S4x768x1024, .bf16⟩
  | .hbm, ⟨37, _⟩ => ⟨S4096x8192, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4096x1024, .bf16⟩
  | .hbm, ⟨43, _⟩ => ⟨S4096x1024, .bf16⟩
  | .hbm, ⟨44, _⟩ => ⟨S4x1x1024, .f32⟩
  | .hbm, ⟨45, _⟩ => ⟨S4096x8192, .bf16⟩
  | .hbm, ⟨46, _⟩ => ⟨S4096x1024, .bf16⟩
  | .hbm, ⟨47, _⟩ => ⟨S4096x1024, .bf16⟩
  | .hbm, ⟨48, _⟩ => ⟨S4x768x1024, .bf16⟩
  | .hbm, ⟨49, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4x256x1024, .bf16⟩
  | .local _ .vmem, ⟨17, _⟩ => ⟨S4x256x1024, .bf16⟩
  | .local _ .vmem, ⟨18, _⟩ => ⟨S4x256x1024, .bf16⟩
  | .local _ .vmem, ⟨19, _⟩ => ⟨S1x1x1024, .f32⟩
  | .local _ .vmem, ⟨20, _⟩ => ⟨S512x2048, .bf16⟩
  | .local _ .vmem, ⟨21, _⟩ => ⟨S512x2048, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S8x1024, .f32⟩
  | .local _ .vmem, ⟨27, _⟩ => ⟨S3x1024x1024, .f32⟩
  | .local _ .vmem, ⟨28, _⟩ => ⟨S4x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v33_3 : Ref sig .tc := ⟨.hbm, 48, rfl⟩
abbrev main_v33_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_10 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeReferenceIdeal.lean ====
abbrev S4096x1024 : Shape := ⟨2, ![4096, 1024]⟩
abbrev S4096x8192 : Shape := ⟨2, ![4096, 8192]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x256x1024 : Shape := ⟨3, ![4, 256, 1024]⟩
abbrev S4x768x1024 : Shape := ⟨3, ![4, 768, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1024x1024, .f32⟩
  | .hbm, ⟨88, _⟩ => ⟨S1024x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S1024x1024, .f32⟩
  | .hbm, ⟨97, _⟩ => ⟨S1024x1024, .f32⟩
  | .hbm, ⟨98, _⟩ => ⟨S4096x1024, .f32⟩
  | .hbm, ⟨99, _⟩ => ⟨S1024x1024, .f32⟩
  | .hbm, ⟨100, _⟩ => ⟨S1024x1024, .f32⟩
  | .hbm, ⟨101, _⟩ => ⟨S4096x1024, .f32⟩
  | .hbm, ⟨102, _⟩ => ⟨S_, .f32⟩
  | .hbm, ⟨103, _⟩ => ⟨S4096x8192, .f32⟩
  | .hbm, ⟨104, _⟩ => ⟨S_, .f32⟩
  | .hbm, ⟨105, _⟩ => ⟨S4096x8192, .f32⟩
  | .hbm, ⟨106, _⟩ => ⟨S4096x8192, .f32⟩
  | .hbm, ⟨107, _⟩ => ⟨S4x256x1024, .f32⟩
  | .hbm, ⟨108, _⟩ => ⟨S4x256x1024, .f32⟩
  | .hbm, ⟨109, _⟩ => ⟨S4x256x1024, .f32⟩
  | .hbm, ⟨110, _⟩ => ⟨S4x768x1024, .f32⟩
  | .hbm, ⟨111, _⟩ => ⟨S4096x8192, .bf16⟩
  | .hbm, ⟨112, _⟩ => ⟨S4096x1024, .bf16⟩
  | .hbm, ⟨113, _⟩ => ⟨S4096x1024, .bf16⟩
  | .hbm, ⟨114, _⟩ => ⟨S4x768x1024, .bf16⟩
  | .hbm, ⟨115, _⟩ => ⟨S1x1024, .f32⟩
  | .hbm, ⟨116, _⟩ => ⟨S_, .i32⟩
  | .hbm, ⟨117, _⟩ => ⟨S_, .f32⟩
  | .hbm, ⟨118, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c : Ref sig .tc := ⟨.hbm, 116, rfl⟩
abbrev main_call0_v0 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== InKernel.lean ====
abbrev S4096x1024 : Shape := ⟨2, ![4096, 1024]⟩
abbrev S4096x8192 : Shape := ⟨2, ![4096, 8192]⟩
abbrev S4x1024 : Shape := ⟨2, ![4, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4x1x1024 : Shape := ⟨3, ![4, 1, 1024]⟩
abbrev S8x1024 : Shape := ⟨2, ![8, 1024]⟩
abbrev S512x1024 : Shape := ⟨2, ![512, 1024]⟩
abbrev S512x8192 : Shape := ⟨2, ![512, 8192]⟩
abbrev S1x1x1024 : Shape := ⟨3, ![1, 1, 1024]⟩
abbrev S512x2048 : Shape := ⟨2, ![512, 2048]⟩
abbrev S1x1024x2048 : Shape := ⟨3, ![1, 1024, 2048]⟩
abbrev S1024x2048 : Shape := ⟨2, ![1024, 2048]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .f32⟩
  | .hbm, ⟨3, _⟩ => ⟨S4x1024, .f32⟩
  | .hbm, ⟨4, _⟩ => ⟨S1024x8192, .f32⟩
  | .hbm, ⟨5, _⟩ => ⟨S1024x4x2048, .f32⟩
  | .hbm, ⟨6, _⟩ => ⟨S4x1024x2048, .f32⟩
  | .hbm, ⟨7, _⟩ => ⟨S4x1024x2048, .bf16⟩
  | .hbm, ⟨8, _⟩ => ⟨S4096x8192, .bf16⟩
  | .hbm, ⟨9, _⟩ => ⟨S4x1x1024, .f32⟩
  | .hbm, ⟨10, _⟩ => ⟨S4096x1024, .f32⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x8192, .bf16⟩
  | .local _ .vmem, ⟨3, _⟩ => ⟨S512x8192, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S4x1024x2048, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InReferenceIdeal.lean ====
abbrev S4096x1024 : Shape := ⟨2, ![4096, 1024]⟩
abbrev S4096x8192 : Shape := ⟨2, ![4096, 8192]⟩
abbrev S4x1024 : Shape := ⟨2, ![4, 1024]⟩
abbrev S1024x8192 : Shape := ⟨2, ![1024, 8192]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .f32⟩
  | .hbm, ⟨3, _⟩ => ⟨S4x1024, .f32⟩
  | .hbm, ⟨4, _⟩ => ⟨S1024x8192, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x8192, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S_, .i32⟩
  | .hbm, ⟨57, _⟩ => ⟨S_, .f32⟩
  | .hbm, ⟨58, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== RetKernel.lean ====
abbrev S4096x1024 : Shape := ⟨2, ![4096, 1024]⟩
abbrev S4096x8192 : Shape := ⟨2, ![4096, 8192]⟩
abbrev S128 : Shape := ⟨1, ![128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x128 : Shape := ⟨3, ![1, 4096, 128]⟩
abbrev S3x4096x128 : Shape := ⟨3, ![3, 4096, 128]⟩
abbrev S8 : Shape := ⟨1, ![8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S1x128 : Shape := ⟨2, ![1, 128]⟩
abbrev S8x1 : Shape := ⟨2, ![8, 1]⟩
abbrev S8x128 : Shape := ⟨2, ![8, 128]⟩
abbrev S8x512 : Shape := ⟨2, ![8, 512]⟩
abbrev S8x512x1 : Shape := ⟨3, ![8, 512, 1]⟩
abbrev S8x1x128 : Shape := ⟨3, ![8, 1, 128]⟩
abbrev S8x512x128 : Shape := ⟨3, ![8, 512, 128]⟩
abbrev S8x8x128 : Shape := ⟨3, ![8, 8, 128]⟩
abbrev S4096x512 : Shape := ⟨2, ![4096, 512]⟩
abbrev S4096x4x128 : Shape := ⟨3, ![4096, 4, 128]⟩
abbrev S4096x1x128 : Shape := ⟨3, ![4096, 1, 128]⟩
abbrev S4096x4x96 : Shape := ⟨3, ![4096, 4, 96]⟩
abbrev S4096x4x32 : Shape := ⟨3, ![4096, 4, 32]⟩
abbrev S4096x4x2x128 : Shape := ⟨4, ![4096, 4, 2, 128]⟩
abbrev S4096x8x128 : Shape := ⟨3, ![4096, 8, 128]⟩
abbrev S8x512x8x128 : Shape := ⟨4, ![8, 512, 8, 128]⟩
abbrev S512x8x128 : Shape := ⟨3, ![512, 8, 128]⟩
abbrev S1x512x8x128 : Shape := ⟨4, ![1, 512, 8, 128]⟩
abbrev S8x8x128x128 : Shape := ⟨4, ![8, 8, 128, 128]⟩
abbrev S8x128x128 : Shape := ⟨3, ![8, 128, 128]⟩
abbrev S1x8x128x128 : Shape := ⟨4, ![1, 8, 128, 128]⟩
abbrev S512x1024 : Shape := ⟨2, ![512, 1024]⟩
abbrev S512x3072 : Shape := ⟨2, ![512, 3072]⟩
abbrev S3x512x128 : Shape := ⟨3, ![3, 512, 128]⟩
abbrev S1x512x128 : Shape := ⟨3, ![1, 512, 128]⟩
abbrev S512x128 : Shape := ⟨2, ![512, 128]⟩
abbrev S1x1x128 : Shape := ⟨3, ![1, 1, 128]⟩
abbrev S1x1x128x128 : Shape := ⟨4, ![1, 1, 128, 128]⟩
abbrev S128x128 : Shape := ⟨2, ![128, 128]⟩
abbrev S1x128x128 : Shape := ⟨3, ![1, 128, 128]⟩

abbrev nBuf : Space → Nat
  | .hbm => 261
  | .vmem => 16
  | .smem => 0
  | _ => 0

abbrev hbmTy0_0 (i : Nat) : BufTy := match i % 128 with
  | 0 => ⟨S4096x1024, .f32⟩
  | 1 => ⟨S4096x8192, .f32⟩
  | 2 => ⟨S128, .i32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S4096, .f32⟩
  | 12 => ⟨S4096x1, .f32⟩
  | 13 => ⟨S1x32, .f32⟩
  | 14 => ⟨S4096x32, .f32⟩
  | 15 => ⟨S4096x32, .f32⟩
  | 16 => ⟨S4096x32, .f32⟩
  | 17 => ⟨S4096x32, .f32⟩
  | 18 => ⟨S4096x32, .f32⟩
  | 19 => ⟨S_, .f32⟩
  | 20 => ⟨S4096x32, .f32⟩
  | 21 => ⟨S4096x128, .f32⟩
  | 22 => ⟨S4096x32, .f32⟩
  | 23 => ⟨S4096x128, .f32⟩
  | 24 => ⟨S4096x128, .f32⟩
  | 25 => ⟨S1x4096x128, .f32⟩
  | 26 => ⟨S1x4096x128, .f32⟩
  | 27 => ⟨S1x4096x128, .f32⟩
  | 28 => ⟨S3x4096x128, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S8, .f32⟩
  | 38 => ⟨S8, .f32⟩
  | 39 => ⟨S512, .f32⟩
  | 40 => ⟨S512, .i32⟩
  | 41 => ⟨S_, .i32⟩
  | 42 => ⟨S_, .i32⟩
  | 43 => ⟨S512, .i32⟩
  | 44 => ⟨S512, .i32⟩
  | 45 => ⟨S512, .i32⟩
  | 46 => ⟨S_, .i32⟩
  | 47 => ⟨S512, .i32⟩
  | 48 => ⟨S512, .i1⟩
  | 49 => ⟨S512, .i32⟩
  | 50 => ⟨S512, .i32⟩
  | 51 => ⟨S_, .i32⟩
  | 52 => ⟨S512, .i32⟩
  | 53 => ⟨S512, .i1⟩
  | 54 => ⟨S512, .i1⟩
  | 55 => ⟨S_, .i32⟩
  | 56 => ⟨S512, .i32⟩
  | 57 => ⟨S512, .i32⟩
  | 58 => ⟨S512, .i32⟩
  | 59 => ⟨S512x1, .f32⟩
  | 60 => ⟨S1x512, .f32⟩
  | 61 => ⟨S512x512, .f32⟩
  | 62 => ⟨S512x512, .f32⟩
  | 63 => ⟨S512x512, .f32⟩
  | 64 => ⟨S512x512, .f32⟩
  | 65 => ⟨S1x512, .i32⟩
  | 66 => ⟨S512x1, .i32⟩
  | 67 => ⟨S512x512, .i32⟩
  | 68 => ⟨S512x512, .i32⟩
  | 69 => ⟨S512x512, .i1⟩
  | 70 => ⟨S8x1x1, .f32⟩
  | 71 => ⟨S1x512x512, .f32⟩
  | 72 => ⟨S8x512x512, .f32⟩
  | 73 => ⟨S8x512x512, .f32⟩
  | 74 => ⟨S8x512x512, .f32⟩
  | 75 => ⟨S8x512x512, .f32⟩
  | 76 => ⟨S_, .f32⟩
  | 77 => ⟨S_, .f32⟩
  | 78 => ⟨S8x512x512, .i1⟩
  | 79 => ⟨S8x512x512, .f32⟩
  | 80 => ⟨S8x512x512, .f32⟩
  | 81 => ⟨S8, .i32⟩
  | 82 => ⟨S1x128, .i32⟩
  | 83 => ⟨S_, .i32⟩
  | 84 => ⟨S_, .i32⟩
  | 85 => ⟨S1x128, .i32⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i32⟩
  | 92 => ⟨S1x128, .i32⟩
  | 93 => ⟨S_, .i32⟩
  | 94 => ⟨S1x128, .i32⟩
  | 95 => ⟨S1x128, .i1⟩
  | 96 => ⟨S1x128, .i1⟩
  | 97 => ⟨S_, .i32⟩
  | 98 => ⟨S1x128, .i32⟩
  | 99 => ⟨S1x128, .i32⟩
  | 100 => ⟨S1x128, .i32⟩
  | 101 => ⟨S8x1, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S8x1, .i32⟩
  | 109 => ⟨S8x1, .i32⟩
  | 110 => ⟨S_, .i32⟩
  | 111 => ⟨S8x1, .i32⟩
  | 112 => ⟨S8x1, .i1⟩
  | 113 => ⟨S_, .i32⟩
  | 114 => ⟨S8x1, .i32⟩
  | 115 => ⟨S8x1, .i1⟩
  | 116 => ⟨S_, .i32⟩
  | 117 => ⟨S_, .i1⟩
  | 118 => ⟨S8x1, .i1⟩
  | 119 => ⟨S8x1, .i1⟩
  | 120 => ⟨S8x1, .i1⟩
  | 121 => ⟨S8x1, .i32⟩
  | 122 => ⟨S8x1, .i32⟩
  | 123 => ⟨S8x1, .i32⟩
  | 124 => ⟨S8x128, .i32⟩
  | 125 => ⟨S8x128, .i32⟩
  | 126 => ⟨S8x128, .i1⟩
  | 127 => ⟨S8x128, .i32⟩
  | _ => ⟨S4096x1024, .f32⟩

abbrev hbmTy0_1 (i : Nat) : BufTy := match i % 128 with
  | 0 => ⟨S8x128, .f32⟩
  | 1 => ⟨S8x1, .f32⟩
  | 2 => ⟨S1x512, .f32⟩
  | 3 => ⟨S8x512, .f32⟩
  | 4 => ⟨S8x512, .f32⟩
  | 5 => ⟨S8x512, .f32⟩
  | 6 => ⟨S8x512, .f32⟩
  | 7 => ⟨S8x1, .f32⟩
  | 8 => ⟨S1x512, .f32⟩
  | 9 => ⟨S_, .f32⟩
  | 10 => ⟨S1x512, .f32⟩
  | 11 => ⟨S1x512, .f32⟩
  | 12 => ⟨S8x512, .f32⟩
  | 13 => ⟨S8x512, .f32⟩
  | 14 => ⟨S8x512, .f32⟩
  | 15 => ⟨S8x512, .f32⟩
  | 16 => ⟨S8x512x1, .f32⟩
  | 17 => ⟨S8x1x128, .f32⟩
  | 18 => ⟨S8x512x128, .f32⟩
  | 19 => ⟨S8x512x128, .f32⟩
  | 20 => ⟨S8x512x128, .f32⟩
  | 21 => ⟨S_, .f32⟩
  | 22 => ⟨S8x512x128, .f32⟩
  | 23 => ⟨S8x512x128, .f32⟩
  | 24 => ⟨S8x512x1, .f32⟩
  | 25 => ⟨S8x1x128, .f32⟩
  | 26 => ⟨S8x512x128, .f32⟩
  | 27 => ⟨S8x512x128, .f32⟩
  | 28 => ⟨S8x512x128, .f32⟩
  | 29 => ⟨S_, .f32⟩
  | 30 => ⟨S8x128, .f32⟩
  | 31 => ⟨S8x128, .f32⟩
  | 32 => ⟨S8x1x128, .f32⟩
  | 33 => ⟨S8x8x128, .f32⟩
  | 34 => ⟨S_, .f32⟩
  | 35 => ⟨S8, .f32⟩
  | 36 => ⟨S8, .f32⟩
  | 37 => ⟨S8, .f32⟩
  | 38 => ⟨S8x1x1, .f32⟩
  | 39 => ⟨S8x8x128, .f32⟩
  | 40 => ⟨S4096x512, .f32⟩
  | 41 => ⟨S4096x4x128, .f32⟩
  | 42 => ⟨S1x4096x128, .f32⟩
  | 43 => ⟨S4096x128, .f32⟩
  | 44 => ⟨S4096x1x128, .f32⟩
  | 45 => ⟨S1x4096x128, .f32⟩
  | 46 => ⟨S4096x128, .f32⟩
  | 47 => ⟨S4096x1x128, .f32⟩
  | 48 => ⟨S1x4096x128, .f32⟩
  | 49 => ⟨S4096x128, .f32⟩
  | 50 => ⟨S4096x1x128, .f32⟩
  | 51 => ⟨S4096x4x128, .f32⟩
  | 52 => ⟨S4096x4x128, .f32⟩
  | 53 => ⟨S4096x4x96, .f32⟩
  | 54 => ⟨S4096x4x32, .f32⟩
  | 55 => ⟨S4096x4x128, .f32⟩
  | 56 => ⟨S4096x4x128, .f32⟩
  | 57 => ⟨S4096x4x128, .f32⟩
  | 58 => ⟨S4096x4x128, .f32⟩
  | 59 => ⟨S4096x4x32, .f32⟩
  | 60 => ⟨S4096x4x96, .f32⟩
  | 61 => ⟨S4096x4x128, .f32⟩
  | 62 => ⟨S4096x4x128, .f32⟩
  | 63 => ⟨S4096x4x128, .f32⟩
  | 64 => ⟨S4096x4x128, .f32⟩
  | 65 => ⟨S4096x4x2x128, .f32⟩
  | 66 => ⟨S4096x8x128, .f32⟩
  | 67 => ⟨S8x512x8x128, .f32⟩
  | 68 => ⟨S4096x1024, .f32⟩
  | 69 => ⟨S8x512x8x128, .f32⟩
  | 70 => ⟨S512x8x128, .f32⟩
  | 71 => ⟨S1x512x8x128, .f32⟩
  | 72 => ⟨S8x512x8x128, .f32⟩
  | 73 => ⟨S8x512x8x128, .f32⟩
  | 74 => ⟨S8x8x128x128, .f32⟩
  | 75 => ⟨S_, .f32⟩
  | 76 => ⟨S8x128x128, .f32⟩
  | 77 => ⟨S8x1x128, .f32⟩
  | 78 => ⟨S8x128x128, .f32⟩
  | 79 => ⟨S8x128x128, .f32⟩
  | 80 => ⟨S1x8x128x128, .f32⟩
  | 81 => ⟨S8x128x128, .f32⟩
  | 82 => ⟨S8x128x128, .f32⟩
  | 83 => ⟨S8x1x128, .f32⟩
  | 84 => ⟨S8x128x128, .f32⟩
  | 85 => ⟨S8x128x128, .f32⟩
  | 86 => ⟨S1x8x128x128, .f32⟩
  | 87 => ⟨S8x128x128, .f32⟩
  | 88 => ⟨S8x128x128, .f32⟩
  | 89 => ⟨S8x1x128, .f32⟩
  | 90 => ⟨S8x128x128, .f32⟩
  | 91 => ⟨S8x128x128, .f32⟩
  | 92 => ⟨S1x8x128x128, .f32⟩
  | 93 => ⟨S8x128x128, .f32⟩
  | 94 => ⟨S8x128x128, .f32⟩
  | 95 => ⟨S8x1x128, .f32⟩
  | 96 => ⟨S8x128x128, .f32⟩
  | 97 => ⟨S8x128x128, .f32⟩
  | 98 => ⟨S1x8x128x128, .f32⟩
  | 99 => ⟨S8x128x128, .f32⟩
  | 100 => ⟨S8x128x128, .f32⟩
  | 101 => ⟨S8x1x128, .f32⟩
  | 102 => ⟨S8x128x128, .f32⟩
  | 103 => ⟨S8x128x128, .f32⟩
  | 104 => ⟨S1x8x128x128, .f32⟩
  | 105 => ⟨S8x128x128, .f32⟩
  | 106 => ⟨S8x128x128, .f32⟩
  | 107 => ⟨S8x1x128, .f32⟩
  | 108 => ⟨S8x128x128, .f32⟩
  | 109 => ⟨S8x128x128, .f32⟩
  | 110 => ⟨S1x8x128x128, .f32⟩
  | 111 => ⟨S8x128x128, .f32⟩
  | 112 => ⟨S8x128x128, .f32⟩
  | 113 => ⟨S8x1x128, .f32⟩
  | 114 => ⟨S8x128x128, .f32⟩
  | 115 => ⟨S8x128x128, .f32⟩
  | 116 => ⟨S1x8x128x128, .f32⟩
  | 117 => ⟨S8x128x128, .f32⟩
  | 118 => ⟨S8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S8x8x128x128, .f32⟩
  | _ => ⟨S4096x1024, .f32⟩

abbrev hbmTy0_2 (i : Nat) : BufTy := match i % 128 with
  | 0 => ⟨S_, .bf16⟩
  | 1 => ⟨S4096x8192, .bf16⟩
  | 2 => ⟨S4096x1024, .bf16⟩
  | 3 => ⟨S4096x8192, .bf16⟩
  | 4 => ⟨S4096x8192, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S1x8x128x128, .f32⟩
  | .local _ .vmem, ⟨5, _⟩ => ⟨S1x8x128x128, .f32⟩
  | .local _ .vmem, ⟨6, _⟩ => ⟨S3x512x128, .f32⟩
  | .local _ .vmem, ⟨7, _⟩ => ⟨S3x512x128, .f32⟩
  | .local _ .vmem, ⟨8, _⟩ => ⟨S8x512x512, .f32⟩
  | .local _ .vmem, ⟨9, _⟩ => ⟨S8x512x128, .f32⟩
  | .local _ .vmem, ⟨10, _⟩ => ⟨S8x512x128, .f32⟩
  | .local _ .vmem, ⟨11, _⟩ => ⟨S8x8x128, .f32⟩
  | .local _ .vmem, ⟨12, _⟩ => ⟨S8x8x128, .f32⟩
  | .local _ .vmem, ⟨13, _⟩ => ⟨S512x3072, .bf16⟩
  | .local _ .vmem, ⟨14, _⟩ => ⟨S512x3072, .bf16⟩
  | .local _ .vmem, ⟨15, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v55 : Ref sig .tc := ⟨.hbm, 100, rfl⟩
abbrev main_v56 : Ref sig .tc := ⟨.hbm, 101, rfl⟩
abbrev main_c_6 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_c_1 : Ref sig .tc := ⟨.hbm, 110, rfl⟩
abbrev main_call3_v5 : Ref sig .tc := ⟨.hbm, 111, rfl⟩
abbrev main_call3_v6 : Ref sig .tc := ⟨.hbm, 112, rfl⟩
abbrev main_call3_c_2 : Ref sig .tc := ⟨.hbm, 113, rfl⟩
abbrev main_call3_v7 : Ref sig .tc := ⟨.hbm, 114, rfl⟩
abbrev main_call3_v8 : Ref sig .tc := ⟨.hbm, 115, rfl⟩
abbrev main_call3_c_3 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_7 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_cst_8 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_9 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_cst_10 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_call4_v0 : Ref sig .tc := ⟨.hbm, 181, rfl⟩
abbrev main_call4_v1 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call5_v0 : Ref sig .tc := ⟨.hbm, 187, rfl⟩
abbrev main_call5_v1 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_cst_11 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_cst_12 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RetReferenceIdeal.lean ====
abbrev S4096x1024 : Shape := ⟨2, ![4096, 1024]⟩
abbrev S4096x8192 : Shape := ⟨2, ![4096, 8192]⟩
abbrev S4096x512 : Shape := ⟨2, ![4096, 512]⟩
abbrev S4096 : Shape := ⟨1, ![4096]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x8x128 : Shape := ⟨3, ![4096, 8, 128]⟩
abbrev S64x64x8x64 : Shape := ⟨4, ![64, 64, 8, 64]⟩
abbrev S64x64x8x128 : Shape := ⟨4, ![64, 64, 8, 128]⟩
abbrev S8 : Shape := ⟨1, ![8]⟩
abbrev S64 : Shape := ⟨1, ![64]⟩
abbrev S8x1x1 : Shape := ⟨3, ![8, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S64x8x64x64 : Shape := ⟨4, ![64, 8, 64, 64]⟩
abbrev S1x8x64x64 : Shape := ⟨4, ![1, 8, 64, 64]⟩
abbrev S64x8x128x64 : Shape := ⟨4, ![64, 8, 128, 64]⟩
abbrev S1x8 : Shape := ⟨2, ![1, 8]⟩
abbrev S64x8 : Shape := ⟨2, ![64, 8]⟩
abbrev S1x64x8x1 : Shape := ⟨4, ![1, 64, 8, 1]⟩
abbrev S64x8x64x128 : Shape := ⟨4, ![64, 8, 64, 128]⟩
abbrev S8x64x128 : Shape := ⟨3, ![8, 64, 128]⟩
abbrev S1x8x64x128 : Shape := ⟨4, ![1, 8, 64, 128]⟩
abbrev S4096x8 : Shape := ⟨2, ![4096, 8]⟩
abbrev S4096x8x1 : Shape := ⟨3, ![4096, 8, 1]⟩

abbrev nBuf : Space → Nat
  | .hbm => 363
  | .vmem => 0
  | .smem => 0
  | _ => 0

abbrev hbmTy0_0 (i : Nat) : BufTy := match i % 128 with
  | 0 => ⟨S4096x1024, .f32⟩
  | 1 => ⟨S4096x8192, .f32⟩
  | 2 => ⟨S4096x512, .f32⟩
  | 3 => ⟨S4096x512, .f32⟩
  | 4 => ⟨S4096x1024, .f32⟩
  | 5 => ⟨S4096x1024, .f32⟩
  | 6 => ⟨S4096, .f32⟩
  | 7 => ⟨S4096x8x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096x1, .f32⟩
  | 17 => ⟨S1x32, .f32⟩
  | 18 => ⟨S4096x32, .f32⟩
  | 19 => ⟨S4096x32, .f32⟩
  | 20 => ⟨S4096x32, .f32⟩
  | 21 => ⟨S4096x32, .f32⟩
  | 22 => ⟨S4096x1x32, .f32⟩
  | 23 => ⟨S4096x32, .f32⟩
  | 24 => ⟨S4096x1x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S4096x8x32, .f32⟩
  | 34 => ⟨S4096x8x32, .f32⟩
  | 35 => ⟨S4096x8x32, .f32⟩
  | 36 => ⟨S4096x8x32, .f32⟩
  | 37 => ⟨S4096x8x64, .f32⟩
  | 38 => ⟨S_, .f32⟩
  | 39 => ⟨S4096x8x64, .f32⟩
  | 40 => ⟨S4096x8x64, .f32⟩
  | 41 => ⟨S4096x8x64, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4096x1, .f32⟩
  | 51 => ⟨S1x32, .f32⟩
  | 52 => ⟨S4096x32, .f32⟩
  | 53 => ⟨S4096x32, .f32⟩
  | 54 => ⟨S4096x32, .f32⟩
  | 55 => ⟨S4096x32, .f32⟩
  | 56 => ⟨S4096x1x32, .f32⟩
  | 57 => ⟨S4096x32, .f32⟩
  | 58 => ⟨S4096x1x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x32, .f32⟩
  | 71 => ⟨S4096x8x64, .f32⟩
  | 72 => ⟨S4096x8x128, .f32⟩
  | 73 => ⟨S64x64x8x64, .f32⟩
  | 74 => ⟨S64x64x8x64, .f32⟩
  | 75 => ⟨S64x64x8x128, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .f32⟩
  | 86 => ⟨S64, .f32⟩
  | 87 => ⟨S8x1x1, .f32⟩
  | 88 => ⟨S64x1, .f32⟩
  | 89 => ⟨S1x64, .f32⟩
  | 90 => ⟨S64x64, .f32⟩
  | 91 => ⟨S64x64, .f32⟩
  | 92 => ⟨S64x64, .f32⟩
  | 93 => ⟨S64x64, .f32⟩
  | 94 => ⟨S1x64x64, .f32⟩
  | 95 => ⟨S8x64x64, .f32⟩
  | 96 => ⟨S8x64x64, .f32⟩
  | 97 => ⟨S8x64x64, .f32⟩
  | 98 => ⟨S8x64x64, .f32⟩
  | 99 => ⟨S64x8x64x64, .f32⟩
  | 100 => ⟨S1x8x64x64, .f32⟩
  | 101 => ⟨S64x8x64x64, .f32⟩
  | 102 => ⟨S64x8x64x64, .f32⟩
  | 103 => ⟨S64x8x128x64, .f32⟩
  | 104 => ⟨S64x64x8x128, .f32⟩
  | 105 => ⟨S1x8, .f32⟩
  | 106 => ⟨S64x1, .f32⟩
  | 107 => ⟨S_, .f32⟩
  | 108 => ⟨S64x1, .f32⟩
  | 109 => ⟨S64x1, .f32⟩
  | 110 => ⟨S64x8, .f32⟩
  | 111 => ⟨S64x8, .f32⟩
  | 112 => ⟨S64x8, .f32⟩
  | 113 => ⟨S64x8, .f32⟩
  | 114 => ⟨S1x64x8x1, .f32⟩
  | 115 => ⟨S64x64x8x64, .f32⟩
  | 116 => ⟨S64x64x8x64, .f32⟩
  | 117 => ⟨S64x8x64x128, .f32⟩
  | 118 => ⟨S_, .f32⟩
  | 119 => ⟨S8, .f32⟩
  | 120 => ⟨S8, .f32⟩
  | 121 => ⟨S8, .f32⟩
  | 122 => ⟨S8x1x1, .f32⟩
  | 123 => ⟨S_, .f32⟩
  | 124 => ⟨S8x64x128, .f32⟩
  | 125 => ⟨S_, .f32⟩
  | 126 => ⟨S64x8x64x128, .f32⟩
  | 127 => ⟨S_, .i32⟩
  | _ => ⟨S4096x1024, .f32⟩

abbrev hbmTy0_1 (i : Nat) : BufTy := match i % 128 with
  | 0 => ⟨S64x8x64x128, .f32⟩
  | 1 => ⟨S8x1x1, .f32⟩
  | 2 => ⟨S_, .i32⟩
  | 3 => ⟨S8x64x128, .f32⟩
  | 4 => ⟨S64x8x64x128, .f32⟩
  | 5 => ⟨S_, .i32⟩
  | 6 => ⟨S_, .i1⟩
  | 7 => ⟨S_, .i32⟩
  | 8 => ⟨S_, .i32⟩
  | 9 => ⟨S_, .i32⟩
  | 10 => ⟨S1x8x64x128, .f32⟩
  | 11 => ⟨S8x64x128, .f32⟩
  | 12 => ⟨S8x64x128, .f32⟩
  | 13 => ⟨S8x64x128, .f32⟩
  | 14 => ⟨S8x64x128, .f32⟩
  | 15 => ⟨S1x8x64x128, .f32⟩
  | 16 => ⟨S_, .i32⟩
  | 17 => ⟨S_, .i32⟩
  | 18 => ⟨S_, .i32⟩
  | 19 => ⟨S64x8x64x128, .f32⟩
  | 20 => ⟨S_, .i32⟩
  | 21 => ⟨S_, .i32⟩
  | 22 => ⟨S1x8, .f32⟩
  | 23 => ⟨S64x1, .f32⟩
  | 24 => ⟨S64x8, .f32⟩
  | 25 => ⟨S64x8, .f32⟩
  | 26 => ⟨S64x8, .f32⟩
  | 27 => ⟨S64x8, .f32⟩
  | 28 => ⟨S1x64x8x1, .f32⟩
  | 29 => ⟨S64x64x8x64, .f32⟩
  | 30 => ⟨S64x64x8x64, .f32⟩
  | 31 => ⟨S64x8x128x64, .f32⟩
  | 32 => ⟨S64x64x8x128, .f32⟩
  | 33 => ⟨S64x64x8x128, .f32⟩
  | 34 => ⟨S4096x8x128, .f32⟩
  | 35 => ⟨S_, .f32⟩
  | 36 => ⟨S4096x8, .f32⟩
  | 37 => ⟨S4096x8x1, .f32⟩
  | 38 => ⟨S_, .f32⟩
  | 39 => ⟨S4096x8x1, .f32⟩
  | 40 => ⟨S4096x8x1, .f32⟩
  | 41 => ⟨S4096x8x128, .f32⟩
  | 42 => ⟨S4096x8x128, .f32⟩
  | 43 => ⟨S4096x8x128, .f32⟩
  | 44 => ⟨S_, .f32⟩
  | 45 => ⟨S4096x8x128, .f32⟩
  | 46 => ⟨S4096x8x128, .f32⟩
  | 47 => ⟨S_, .f32⟩
  | 48 => ⟨S4096x8, .f32⟩
  | 49 => ⟨S4096x8x1, .f32⟩
  | 50 => ⟨S_, .f32⟩
  | 51 => ⟨S4096x8x1, .f32⟩
  | 52 => ⟨S4096x8x1, .f32⟩
  | 53 => ⟨S4096x8x128, .f32⟩
  | 54 => ⟨S4096x8x128, .f32⟩
  | 55 => ⟨S_, .f32⟩
  | 56 => ⟨S4096x8x1, .f32⟩
  | 57 => ⟨S4096x8x1, .f32⟩
  | 58 => ⟨S4096x8x1, .f32⟩
  | 59 => ⟨S4096x8x1, .f32⟩
  | 60 => ⟨S_, .f32⟩
  | 61 => ⟨S4096x8x1, .f32⟩
  | 62 => ⟨S4096x8x1, .f32⟩
  | 63 => ⟨S4096x8x128, .f32⟩
  | 64 => ⟨S4096x8x128, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S8x64x128, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x8x128, .f32⟩
  | 89 => ⟨S4096x8x128, .f32⟩
  | 90 => ⟨S_, .f32⟩
  | 91 => ⟨S4096x8, .f32⟩
  | 92 => ⟨S4096x8x1, .f32⟩
  | 93 => ⟨S4096x8x128, .f32⟩
  | 94 => ⟨S4096x8x128, .f32⟩
  | 95 => ⟨S4096x8x1, .f32⟩
  | 96 => ⟨S4096x8x128, .f32⟩
  | 97 => ⟨S_, .f32⟩
  | 98 => ⟨S4096x8, .f32⟩
  | 99 => ⟨S4096x8x1, .f32⟩
  | 100 => ⟨S_, .f32⟩
  | 101 => ⟨S4096x8x1, .f32⟩
  | 102 => ⟨S4096x8x1, .f32⟩
  | 103 => ⟨S_, .f32⟩
  | 104 => ⟨S4096x8, .f32⟩
  | 105 => ⟨S4096x8x128, .f32⟩
  | 106 => ⟨S4096x8x128, .f32⟩
  | 107 => ⟨S4096x8x128, .f32⟩
  | 108 => ⟨S_, .f32⟩
  | 109 => ⟨S4096x8, .f32⟩
  | 110 => ⟨S4096x8x1, .f32⟩
  | 111 => ⟨S4096x8x128, .f32⟩
  | 112 => ⟨S4096x8x1, .f32⟩
  | 113 => ⟨S_, .f32⟩
  | 114 => ⟨S4096x8x1, .f32⟩
  | 115 => ⟨S4096x8x1, .f32⟩
  | 116 => ⟨S_, .f32⟩
  | 117 => ⟨S4096x8, .f32⟩
  | 118 => ⟨S4096x8x128, .f32⟩
  | 119 => ⟨S4096x8x128, .f32⟩
  | 120 => ⟨S64x64x8x128, .f32⟩
  | 121 => ⟨S64x8x128x64, .f32⟩
  | 122 => ⟨S64x8x64x64, .f32⟩
  | 123 => ⟨S64x64x8x64, .f32⟩
  | 124 => ⟨S64x8x128x64, .f32⟩
  | 125 => ⟨S64x8x64x128, .f32⟩
  | 126 => ⟨S64x64x8x64, .f32⟩
  | 127 => ⟨S64x64x8x64, .f32⟩
  | _ => ⟨S4096x1024, .f32⟩

abbrev hbmTy0_2 (i : Nat) : BufTy := match i % 128 with
  | 0 => ⟨S_, .f32⟩
  | 1 => ⟨S8x64x128, .f32⟩
  | 2 => ⟨S_, .f32⟩
  | 3 => ⟨S64x8x64x128, .f32⟩
  | 4 => ⟨S_, .i32⟩
  | 5 => ⟨S64x8x64x128, .f32⟩
  | 6 => ⟨S8x1x1, .f32⟩
  | 7 => ⟨S_, .i32⟩
  | 8 => ⟨S8x64x128, .f32⟩
  | 9 => ⟨S64x8x64x128, .f32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S1x8x64x128, .f32⟩
  | 20 => ⟨S8x64x128, .f32⟩
  | 21 => ⟨S8x64x128, .f32⟩
  | 22 => ⟨S8x64x128, .f32⟩
  | 23 => ⟨S8x64x128, .f32⟩
  | 24 => ⟨S1x8x64x128, .f32⟩
  | 25 => ⟨S_, .i32⟩
  | 26 => ⟨S_, .i32⟩
  | 27 => ⟨S_, .i32⟩
  | 28 => ⟨S64x8x64x128, .f32⟩
  | 29 => ⟨S_, .i32⟩
  | 30 => ⟨S_, .i32⟩
  | 31 => ⟨S64x8x128x64, .f32⟩
  | 32 => ⟨S64x64x8x128, .f32⟩
  | 33 => ⟨S64x8x64x64, .f32⟩
  | 34 => ⟨S64x64x8x64, .f32⟩
  | 35 => ⟨S64x64x8x64, .f32⟩
  | 36 => ⟨S64x64x8x64, .f32⟩
  | 37 => ⟨S64x8x128x64, .f32⟩
  | 38 => ⟨S64x8x64x64, .f32⟩
  | 39 => ⟨S64x8x128x64, .f32⟩
  | 40 => ⟨S64x64x8x128, .f32⟩
  | 41 => ⟨S64x64x8x128, .f32⟩
  | 42 => ⟨S64x8x64x64, .f32⟩
  | 43 => ⟨S64x8x64x64, .f32⟩
  | 44 => ⟨S64x8x64x64, .f32⟩
  | 45 => ⟨S64x64x8x64, .f32⟩
  | 46 => ⟨S64x64x8x64, .f32⟩
  | 47 => ⟨S64x8x64x64, .f32⟩
  | 48 => ⟨S64x64x8x64, .f32⟩
  | 49 => ⟨S64x64x8x64, .f32⟩
  | 50 => ⟨S4096x8x128, .f32⟩
  | 51 => ⟨S4096x8x64, .f32⟩
  | 52 => ⟨S4096x8x64, .f32⟩
  | 53 => ⟨S4096x1024, .f32⟩
  | 54 => ⟨S4096x8x32, .f32⟩
  | 55 => ⟨S4096x8x32, .f32⟩
  | 56 => ⟨S4096x8x32, .f32⟩
  | 57 => ⟨S4096x8x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S_, .f32⟩
  | 68 => ⟨S4096x8x64, .f32⟩
  | 69 => ⟨S_, .f32⟩
  | 70 => ⟨S4096x8x64, .f32⟩
  | 71 => ⟨S4096x8x64, .f32⟩
  | 72 => ⟨S4096x512, .f32⟩
  | 73 => ⟨S_, .f32⟩
  | 74 => ⟨S4096x8x64, .f32⟩
  | 75 => ⟨S4096x8x64, .f32⟩
  | 76 => ⟨S4096x8x32, .f32⟩
  | 77 => ⟨S4096x8x32, .f32⟩
  | 78 => ⟨S4096x8x32, .f32⟩
  | 79 => ⟨S4096x8x32, .f32⟩
  | 80 => ⟨S4096x8x32, .f32⟩
  | 81 => ⟨S4096x8x32, .f32⟩
  | 82 => ⟨S4096x8x32, .f32⟩
  | 83 => ⟨S4096x8x32, .f32⟩
  | 84 => ⟨S4096x8x32, .f32⟩
  | 85 => ⟨S4096x8x32, .f32⟩
  | 86 => ⟨S4096x8x32, .f32⟩
  | 87 => ⟨S4096x8x32, .f32⟩
  | 88 => ⟨S4096x8x32, .f32⟩
  | 89 => ⟨S_, .f32⟩
  | 90 => ⟨S4096x8x64, .f32⟩
  | 91 => ⟨S_, .f32⟩
  | 92 => ⟨S4096x8x64, .f32⟩
  | 93 => ⟨S4096x8x64, .f32⟩
  | 94 => ⟨S4096x512, .f32⟩
  | 95 => ⟨S_, .f32⟩
  | 96 => ⟨S4096x8192, .f32⟩
  | 97 => ⟨S_, .f32⟩
  | 98 => ⟨S4096x8192, .f32⟩
  | 99 => ⟨S4096x8192, .f32⟩
  | 100 => ⟨S_, .f32⟩
  | 101 => ⟨S4096x8192, .f32⟩
  | 102 => ⟨S4096x8192, .f32⟩
  | 103 => ⟨S_, .f32⟩
  | 104 => ⟨S4096x8192, .f32⟩
  | 105 => ⟨S4096x8192, .f32⟩
  | 106 => ⟨S4096x8192, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_4 : Ref sig .tc := ⟨.hbm, 77, rfl⟩
abbrev main_v70 : Ref sig .tc := ⟨.hbm, 78, rfl⟩
abbrev main_v71 : Ref sig .tc := ⟨.hbm, 79, rfl⟩
abbrev main_cst_5 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_6 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_cst_7 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_cst_8 : Ref sig .tc := ⟨.hbm, 123, rfl⟩
abbrev main_v112 : Ref sig .tc := ⟨.hbm, 124, rfl⟩
abbrev main_cst_9 : Ref sig .tc := ⟨.hbm, 125, rfl⟩
abbrev main_v113 : Ref sig .tc := ⟨.hbm, 126, rfl⟩
abbrev main_c : Ref sig .tc := ⟨.hbm, 127, rfl⟩
abbrev main_v114_0 : Ref sig .tc := ⟨.hbm, 128, rfl⟩
abbrev main_v114_1 : Ref sig .tc := ⟨.hbm, 129, rfl⟩
abbrev main_v114_2 : Ref sig .tc := ⟨.hbm, 130, rfl⟩
abbrev main_v114_3 : Ref sig .tc := ⟨.hbm, 131, rfl⟩
abbrev main_v114_4 : Ref sig .tc := ⟨.hbm, 132, rfl⟩
abbrev main_while0c_c_41 : Ref sig .tc := ⟨.hbm, 133, rfl⟩
abbrev main_while0c_v261 : Ref sig .tc := ⟨.hbm, 134, rfl⟩
abbrev main_while0b_call0_c : Ref sig .tc := ⟨.hbm, 135, rfl⟩
abbrev main_while0b_call0_c_0 : Ref sig .tc := ⟨.hbm, 136, rfl⟩
abbrev main_while0b_call0_c_1 : Ref sig .tc := ⟨.hbm, 137, rfl⟩
abbrev main_while0b_call0_v0 : Ref sig .tc := ⟨.hbm, 138, rfl⟩
abbrev main_while0b_v261 : Ref sig .tc := ⟨.hbm, 139, rfl⟩
abbrev main_while0b_v262 : Ref sig .tc := ⟨.hbm, 140, rfl⟩
abbrev main_while0b_v263 : Ref sig .tc := ⟨.hbm, 141, rfl⟩
abbrev main_while0b_v264 : Ref sig .tc := ⟨.hbm, 142, rfl⟩
abbrev main_while0b_call1_v0 : Ref sig .tc := ⟨.hbm, 143, rfl⟩
abbrev main_while0b_call1_c : Ref sig .tc := ⟨.hbm, 144, rfl⟩
abbrev main_while0b_call1_c_0 : Ref sig .tc := ⟨.hbm, 145, rfl⟩
abbrev main_while0b_call1_c_1 : Ref sig .tc := ⟨.hbm, 146, rfl⟩
abbrev main_while0b_v265 : Ref sig .tc := ⟨.hbm, 147, rfl⟩
abbrev main_while0b_c_41 : Ref sig .tc := ⟨.hbm, 148, rfl⟩
abbrev main_while0b_v266 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_10 : Ref sig .tc := ⟨.hbm, 163, rfl⟩
abbrev main_v128 : Ref sig .tc := ⟨.hbm, 164, rfl⟩
abbrev main_v129 : Ref sig .tc := ⟨.hbm, 165, rfl⟩
abbrev main_cst_11 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_12 : Ref sig .tc := ⟨.hbm, 172, rfl⟩
abbrev main_v135 : Ref sig .tc := ⟨.hbm, 173, rfl⟩
abbrev main_v136 : Ref sig .tc := ⟨.hbm, 174, rfl⟩
abbrev main_cst_13 : Ref sig .tc := ⟨.hbm, 175, rfl⟩
abbrev main_v137 : Ref sig .tc := ⟨.hbm, 176, rfl⟩
abbrev main_v138 : Ref sig .tc := ⟨.hbm, 177, rfl⟩
abbrev main_cst_14 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_15 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_16 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_call2_v0 : Ref sig .tc := ⟨.hbm, 194, rfl⟩
abbrev main_call2_v1 : Ref sig .tc := ⟨.hbm, 195, rfl⟩
abbrev main_call2_cst : Ref sig .tc := ⟨.hbm, 196, rfl⟩
abbrev main_call2_v2 : Ref sig .tc := ⟨.hbm, 197, rfl⟩
abbrev main_call2_v3 : Ref sig .tc := ⟨.hbm, 198, rfl⟩
abbrev main_call2_cst_0 : Ref sig .tc := ⟨.hbm, 199, rfl⟩
abbrev main_call2_v4 : Ref sig .tc := ⟨.hbm, 200, rfl⟩
abbrev main_v152_2 : Ref sig .tc := ⟨.hbm, 201, rfl⟩
abbrev main_call2_cst_1 : Ref sig .tc := ⟨.hbm, 202, rfl⟩
abbrev main_call2_v6 : Ref sig .tc := ⟨.hbm, 203, rfl⟩
abbrev main_call2_v7 : Ref sig .tc := ⟨.hbm, 204, rfl⟩
abbrev main_v152_1 : Ref sig .tc := ⟨.hbm, 205, rfl⟩
abbrev main_v152_0 : Ref sig .tc := ⟨.hbm, 206, rfl⟩
abbrev main_v153 : Ref sig .tc := ⟨.hbm, 207, rfl⟩
abbrev main_cst_17 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_call3_v0 : Ref sig .tc := ⟨.hbm, 212, rfl⟩
abbrev main_call3_v1 : Ref sig .tc := ⟨.hbm, 213, rfl⟩
abbrev main_call3_v2 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_18 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_19 : Ref sig .tc := ⟨.hbm, 225, rfl⟩
abbrev main_v166 : Ref sig .tc := ⟨.hbm, 226, rfl⟩
abbrev main_v167 : Ref sig .tc := ⟨.hbm, 227, rfl⟩
abbrev main_cst_20 : Ref sig .tc := ⟨.hbm, 228, rfl⟩
abbrev main_v168 : Ref sig .tc := ⟨.hbm, 229, rfl⟩
abbrev main_v169 : Ref sig .tc := ⟨.hbm, 230, rfl⟩
abbrev main_cst_21 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_22 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_23 : Ref sig .tc := ⟨.hbm, 241, rfl⟩
abbrev main_v178 : Ref sig .tc := ⟨.hbm, 242, rfl⟩
abbrev main_v179 : Ref sig .tc := ⟨.hbm, 243, rfl⟩
abbrev main_cst_24 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_cst_25 : Ref sig .tc := ⟨.hbm, 256, rfl⟩
abbrev main_v191 : Ref sig .tc := ⟨.hbm, 257, rfl⟩
abbrev main_cst_26 : Ref sig .tc := ⟨.hbm, 258, rfl⟩
abbrev main_v192 : Ref sig .tc := ⟨.hbm, 259, rfl⟩
abbrev main_c_27 : Ref sig .tc := ⟨.hbm, 260, rfl⟩
abbrev main_v193_0 : Ref sig .tc := ⟨.hbm, 261, rfl⟩
abbrev main_v193_1 : Ref sig .tc := ⟨.hbm, 262, rfl⟩
abbrev main_v193_2 : Ref sig .tc := ⟨.hbm, 263, rfl⟩
abbrev main_v193_3 : Ref sig .tc := ⟨.hbm, 264, rfl⟩
abbrev main_v193_4 : Ref sig .tc := ⟨.hbm, 265, rfl⟩
abbrev main_while1c_c_41 : Ref sig .tc := ⟨.hbm, 266, rfl⟩
abbrev main_while1c_v261 : Ref sig .tc := ⟨.hbm, 267, rfl⟩
abbrev main_while1b_c_41 : Ref sig .tc := ⟨.hbm, 268, rfl⟩
abbrev main_while1b_v261 : Ref sig .tc := ⟨.hbm, 269, rfl⟩
abbrev main_while1b_c_42 : Ref sig .tc := ⟨.hbm, 270, rfl⟩
abbrev main_while1b_v262 : Ref sig .tc := ⟨.hbm, 271, rfl⟩
abbrev main_while1b_call4_c : Ref sig .tc := ⟨.hbm, 272, rfl⟩
abbrev main_while1b_call4_c_0 : Ref sig .tc := ⟨.hbm, 273, rfl⟩
abbrev main_while1b_call4_c_1 : Ref sig .tc := ⟨.hbm, 274, rfl⟩
abbrev main_while1b_call4_v0 : Ref sig .tc := ⟨.hbm, 275, rfl⟩
abbrev main_while1b_v263 : Ref sig .tc := ⟨.hbm, 276, rfl⟩
abbrev main_while1b_v264 : Ref sig .tc := ⟨.hbm, 277, rfl⟩
abbrev main_while1b_v265 : Ref sig .tc := ⟨.hbm, 278, rfl⟩
abbrev main_while1b_v266 : Ref sig .tc := ⟨.hbm, 279, rfl⟩
abbrev main_while1b_call5_v0 : Ref sig .tc := ⟨.hbm, 280, rfl⟩
abbrev main_while1b_call5_c : Ref sig .tc := ⟨.hbm, 281, rfl⟩
abbrev main_while1b_call5_c_0 : Ref sig .tc := ⟨.hbm, 282, rfl⟩
abbrev main_while1b_call5_c_1 : Ref sig .tc := ⟨.hbm, 283, rfl⟩
abbrev main_while1b_v267 : Ref sig .tc := ⟨.hbm, 284, rfl⟩
abbrev main_while1b_c_43 : Ref sig .tc := ⟨.hbm, 285, rfl⟩
abbrev main_while1b_v268 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_cst_28 : Ref sig .tc := ⟨.hbm, 323, rfl⟩
abbrev main_v230 : Ref sig .tc := ⟨.hbm, 324, rfl⟩
abbrev main_cst_29 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_cst_30 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_cst_31 : Ref sig .tc := ⟨.hbm, 345, rfl⟩
abbrev main_v249 : Ref sig .tc := ⟨.hbm, 346, rfl⟩
abbrev main_cst_32 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_cst_33 : Ref sig .tc := ⟨.hbm, 351, rfl⟩
abbrev main_v253 : Ref sig .tc := ⟨.hbm, 352, rfl⟩
abbrev main_cst_34 : Ref sig .tc := ⟨.hbm, 353, rfl⟩
abbrev main_v254 : Ref sig .tc := ⟨.hbm, 354, rfl⟩
abbrev main_v255 : Ref sig .tc := ⟨.hbm, 355, rfl⟩
abbrev main_cst_35 : Ref sig .tc := ⟨.hbm, 356, rfl⟩
abbrev main_v256 : Ref sig .tc := ⟨.hbm, 357, rfl⟩
abbrev main_v257 : Ref sig .tc := ⟨.hbm, 358, rfl⟩
abbrev main_cst_36 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== RetFwdKernel.lean ====
abbrev S4096x8192 : Shape := ⟨2, ![4096, 8192]⟩
abbrev S128 : Shape := ⟨1, ![128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x128 : Shape := ⟨3, ![1, 4096, 128]⟩
abbrev S3x4096x128 : Shape := ⟨3, ![3, 4096, 128]⟩
abbrev S8 : Shape := ⟨1, ![8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S1x128 : Shape := ⟨2, ![1, 128]⟩
abbrev S8x1 : Shape := ⟨2, ![8, 1]⟩
abbrev S8x128 : Shape := ⟨2, ![8, 128]⟩
abbrev S8x512 : Shape := ⟨2, ![8, 512]⟩
abbrev S8x512x1 : Shape := ⟨3, ![8, 512, 1]⟩
abbrev S8x1x128 : Shape := ⟨3, ![8, 1, 128]⟩
abbrev S8x512x128 : Shape := ⟨3, ![8, 512, 128]⟩
abbrev S8x8x128 : Shape := ⟨3, ![8, 8, 128]⟩
abbrev S4096x1024 : Shape := ⟨2, ![4096, 1024]⟩
abbrev S8x8x128x128 : Shape := ⟨4, ![8, 8, 128, 128]⟩
abbrev S512x3072 : Shape := ⟨2, ![512, 3072]⟩
abbrev S3x512x128 : Shape := ⟨3, ![3, 512, 128]⟩
abbrev S512x1024 : Shape := ⟨2, ![512, 1024]⟩
abbrev S1x8x128x128 : Shape := ⟨4, ![1, 8, 128, 128]⟩
abbrev S8x128x128 : Shape := ⟨3, ![8, 128, 128]⟩
abbrev S1x512x128 : Shape := ⟨3, ![1, 512, 128]⟩
abbrev S512x128 : Shape := ⟨2, ![512, 128]⟩
abbrev S1x1x128 : Shape := ⟨3, ![1, 1, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 170
  | .vmem => 14
  | .smem => 0
  | _ => 0

abbrev hbmTy0_0 (i : Nat) : BufTy := match i % 128 with
  | 0 => ⟨S4096x8192, .f32⟩
  | 1 => ⟨S4096x8192, .bf16⟩
  | 2 => ⟨S128, .i32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S4096, .f32⟩
  | 12 => ⟨S4096x1, .f32⟩
  | 13 => ⟨S1x32, .f32⟩
  | 14 => ⟨S4096x32, .f32⟩
  | 15 => ⟨S4096x32, .f32⟩
  | 16 => ⟨S4096x32, .f32⟩
  | 17 => ⟨S4096x32, .f32⟩
  | 18 => ⟨S4096x32, .f32⟩
  | 19 => ⟨S_, .f32⟩
  | 20 => ⟨S4096x32, .f32⟩
  | 21 => ⟨S4096x128, .f32⟩
  | 22 => ⟨S4096x32, .f32⟩
  | 23 => ⟨S4096x128, .f32⟩
  | 24 => ⟨S4096x128, .f32⟩
  | 25 => ⟨S1x4096x128, .f32⟩
  | 26 => ⟨S1x4096x128, .f32⟩
  | 27 => ⟨S1x4096x128, .f32⟩
  | 28 => ⟨S3x4096x128, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S8, .f32⟩
  | 38 => ⟨S8, .f32⟩
  | 39 => ⟨S512, .f32⟩
  | 40 => ⟨S512, .i32⟩
  | 41 => ⟨S_, .i32⟩
  | 42 => ⟨S_, .i32⟩
  | 43 => ⟨S512, .i32⟩
  | 44 => ⟨S512, .i32⟩
  | 45 => ⟨S512, .i32⟩
  | 46 => ⟨S_, .i32⟩
  | 47 => ⟨S512, .i32⟩
  | 48 => ⟨S512, .i1⟩
  | 49 => ⟨S512, .i32⟩
  | 50 => ⟨S512, .i32⟩
  | 51 => ⟨S_, .i32⟩
  | 52 => ⟨S512, .i32⟩
  | 53 => ⟨S512, .i1⟩
  | 54 => ⟨S512, .i1⟩
  | 55 => ⟨S_, .i32⟩
  | 56 => ⟨S512, .i32⟩
  | 57 => ⟨S512, .i32⟩
  | 58 => ⟨S512, .i32⟩
  | 59 => ⟨S512x1, .f32⟩
  | 60 => ⟨S1x512, .f32⟩
  | 61 => ⟨S512x512, .f32⟩
  | 62 => ⟨S512x512, .f32⟩
  | 63 => ⟨S512x512, .f32⟩
  | 64 => ⟨S512x512, .f32⟩
  | 65 => ⟨S1x512, .i32⟩
  | 66 => ⟨S512x1, .i32⟩
  | 67 => ⟨S512x512, .i32⟩
  | 68 => ⟨S512x512, .i32⟩
  | 69 => ⟨S512x512, .i1⟩
  | 70 => ⟨S8x1x1, .f32⟩
  | 71 => ⟨S1x512x512, .f32⟩
  | 72 => ⟨S8x512x512, .f32⟩
  | 73 => ⟨S8x512x512, .f32⟩
  | 74 => ⟨S8x512x512, .f32⟩
  | 75 => ⟨S8x512x512, .f32⟩
  | 76 => ⟨S_, .f32⟩
  | 77 => ⟨S_, .f32⟩
  | 78 => ⟨S8x512x512, .i1⟩
  | 79 => ⟨S8x512x512, .f32⟩
  | 80 => ⟨S8x512x512, .f32⟩
  | 81 => ⟨S8, .i32⟩
  | 82 => ⟨S1x128, .i32⟩
  | 83 => ⟨S_, .i32⟩
  | 84 => ⟨S_, .i32⟩
  | 85 => ⟨S1x128, .i32⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i32⟩
  | 92 => ⟨S1x128, .i32⟩
  | 93 => ⟨S_, .i32⟩
  | 94 => ⟨S1x128, .i32⟩
  | 95 => ⟨S1x128, .i1⟩
  | 96 => ⟨S1x128, .i1⟩
  | 97 => ⟨S_, .i32⟩
  | 98 => ⟨S1x128, .i32⟩
  | 99 => ⟨S1x128, .i32⟩
  | 100 => ⟨S1x128, .i32⟩
  | 101 => ⟨S8x1, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S8x1, .i32⟩
  | 109 => ⟨S8x1, .i32⟩
  | 110 => ⟨S_, .i32⟩
  | 111 => ⟨S8x1, .i32⟩
  | 112 => ⟨S8x1, .i1⟩
  | 113 => ⟨S_, .i32⟩
  | 114 => ⟨S8x1, .i32⟩
  | 115 => ⟨S8x1, .i1⟩
  | 116 => ⟨S_, .i32⟩
  | 117 => ⟨S_, .i1⟩
  | 118 => ⟨S8x1, .i1⟩
  | 119 => ⟨S8x1, .i1⟩
  | 120 => ⟨S8x1, .i1⟩
  | 121 => ⟨S8x1, .i32⟩
  | 122 => ⟨S8x1, .i32⟩
  | 123 => ⟨S8x1, .i32⟩
  | 124 => ⟨S8x128, .i32⟩
  | 125 => ⟨S8x128, .i32⟩
  | 126 => ⟨S8x128, .i1⟩
  | 127 => ⟨S8x128, .i32⟩
  | _ => ⟨S4096x8192, .f32⟩

abbrev hbmTy0_1 (i : Nat) : BufTy := match i % 128 with
  | 0 => ⟨S8x128, .f32⟩
  | 1 => ⟨S8x1, .f32⟩
  | 2 => ⟨S1x512, .f32⟩
  | 3 => ⟨S8x512, .f32⟩
  | 4 => ⟨S8x512, .f32⟩
  | 5 => ⟨S8x512, .f32⟩
  | 6 => ⟨S8x512, .f32⟩
  | 7 => ⟨S8x1, .f32⟩
  | 8 => ⟨S1x512, .f32⟩
  | 9 => ⟨S_, .f32⟩
  | 10 => ⟨S1x512, .f32⟩
  | 11 => ⟨S1x512, .f32⟩
  | 12 => ⟨S8x512, .f32⟩
  | 13 => ⟨S8x512, .f32⟩
  | 14 => ⟨S8x512, .f32⟩
  | 15 => ⟨S8x512, .f32⟩
  | 16 => ⟨S8x512x1, .f32⟩
  | 17 => ⟨S8x1x128, .f32⟩
  | 18 => ⟨S8x512x128, .f32⟩
  | 19 => ⟨S8x512x128, .f32⟩
  | 20 => ⟨S8x512x128, .f32⟩
  | 21 => ⟨S_, .f32⟩
  | 22 => ⟨S8x512x128, .f32⟩
  | 23 => ⟨S8x512x128, .f32⟩
  | 24 => ⟨S8x512x1, .f32⟩
  | 25 => ⟨S8x1x128, .f32⟩
  | 26 => ⟨S8x512x128, .f32⟩
  | 27 => ⟨S8x512x128, .f32⟩
  | 28 => ⟨S8x512x128, .f32⟩
  | 29 => ⟨S_, .f32⟩
  | 30 => ⟨S8x128, .f32⟩
  | 31 => ⟨S8x128, .f32⟩
  | 32 => ⟨S8x1x128, .f32⟩
  | 33 => ⟨S8x8x128, .f32⟩
  | 34 => ⟨S_, .f32⟩
  | 35 => ⟨S8, .f32⟩
  | 36 => ⟨S8, .f32⟩
  | 37 => ⟨S8, .f32⟩
  | 38 => ⟨S8x1x1, .f32⟩
  | 39 => ⟨S8x8x128, .f32⟩
  | 40 => ⟨S4096x1024, .bf16⟩
  | 41 => ⟨S8x8x128x128, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | .local _ .vmem, ⟨0, _⟩ => ⟨S512x3072, .bf16⟩
  | .local _ .vmem, ⟨1, _⟩ => ⟨S512x3072, .bf16⟩
  | .local _ .vmem, ⟨2, _⟩ => ⟨S3x512x128, .f32⟩
  | .local _ .vmem, ⟨3, _⟩ => ⟨S3x512x128, .f32⟩
  | .local _ .vmem, ⟨4, _⟩ => ⟨S8x512x512, .f32⟩
  | .local _ .vmem, ⟨5, _⟩ => ⟨S8x512x128, .f32⟩
  | .local _ .vmem, ⟨6, _⟩ => ⟨S8x512x128, .f32⟩
  | .local _ .vmem, ⟨7, _⟩ => ⟨S8x8x128, .f32⟩
  | .local _ .vmem, ⟨8, _⟩ => ⟨S8x8x128, .f32⟩
  | .local _ .vmem, ⟨9, _⟩ => ⟨S512x1024, .bf16⟩
  | .local _ .vmem, ⟨10, _⟩ => ⟨S512x1024, .bf16⟩
  | .local _ .vmem, ⟨11, _⟩ => ⟨S1x8x128x128, .f32⟩
  | .local _ .vmem, ⟨12, _⟩ => ⟨S1x8x128x128, .f32⟩
  | .local _ .vmem, ⟨13, _⟩ => ⟨S8x128x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_cst_3 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v56 : Ref sig .tc := ⟨.hbm, 100, rfl⟩
abbrev main_v57 : Ref sig .tc := ⟨.hbm, 101, rfl⟩
abbrev main_c_6 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_c_1 : Ref sig .tc := ⟨.hbm, 110, rfl⟩
abbrev main_call3_v5 : Ref sig .tc := ⟨.hbm, 111, rfl⟩
abbrev main_call3_v6 : Ref sig .tc := ⟨.hbm, 112, rfl⟩
abbrev main_call3_c_2 : Ref sig .tc := ⟨.hbm, 113, rfl⟩
abbrev main_call3_v7 : Ref sig .tc := ⟨.hbm, 114, rfl⟩
abbrev main_call3_v8 : Ref sig .tc := ⟨.hbm, 115, rfl⟩
abbrev main_call3_c_3 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_7 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_8 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_9 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_10 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99_0 : Ref sig .tc := ⟨.hbm, 168, rfl⟩
abbrev main_v99_1 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RetFwdReferenceIdeal.lean ====
abbrev S4096x8192 : Shape := ⟨2, ![4096, 8192]⟩
abbrev S4096x512 : Shape := ⟨2, ![4096, 512]⟩
abbrev S4096x1024 : Shape := ⟨2, ![4096, 1024]⟩
abbrev S4096 : Shape := ⟨1, ![4096]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x8x128 : Shape := ⟨3, ![4096, 8, 128]⟩
abbrev S64x64x8x64 : Shape := ⟨4, ![64, 64, 8, 64]⟩
abbrev S64x64x8x128 : Shape := ⟨4, ![64, 64, 8, 128]⟩
abbrev S8 : Shape := ⟨1, ![8]⟩
abbrev S64 : Shape := ⟨1, ![64]⟩
abbrev S8x1x1 : Shape := ⟨3, ![8, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S64x8x64x64 : Shape := ⟨4, ![64, 8, 64, 64]⟩
abbrev S1x8x64x64 : Shape := ⟨4, ![1, 8, 64, 64]⟩
abbrev S64x8x128x64 : Shape := ⟨4, ![64, 8, 128, 64]⟩
abbrev S1x8 : Shape := ⟨2, ![1, 8]⟩
abbrev S64x8 : Shape := ⟨2, ![64, 8]⟩
abbrev S1x64x8x1 : Shape := ⟨4, ![1, 64, 8, 1]⟩
abbrev S64x8x64x128 : Shape := ⟨4, ![64, 8, 64, 128]⟩
abbrev S8x64x128 : Shape := ⟨3, ![8, 64, 128]⟩
abbrev S1x8x64x128 : Shape := ⟨4, ![1, 8, 64, 128]⟩
abbrev S4096x8 : Shape := ⟨2, ![4096, 8]⟩
abbrev S4096x8x1 : Shape := ⟨3, ![4096, 8, 1]⟩
abbrev S8x8x4x2x64x128 : Shape := ⟨6, ![8, 8, 4, 2, 64, 128]⟩
abbrev S8x1x4x2x64x128 : Shape := ⟨6, ![8, 1, 4, 2, 64, 128]⟩
abbrev S8x4x2x64x128 : Shape := ⟨5, ![8, 4, 2, 64, 128]⟩
abbrev S8x4x1x64x128 : Shape := ⟨5, ![8, 4, 1, 64, 128]⟩
abbrev S8x4x64x128 : Shape := ⟨4, ![8, 4, 64, 128]⟩
abbrev S8x4x128x128 : Shape := ⟨4, ![8, 4, 128, 128]⟩
abbrev S8x4x1x128x128 : Shape := ⟨5, ![8, 4, 1, 128, 128]⟩
abbrev S8x4x2x128x128 : Shape := ⟨5, ![8, 4, 2, 128, 128]⟩
abbrev S8x8x128x128 : Shape := ⟨4, ![8, 8, 128, 128]⟩

abbrev nBuf : Space → Nat
  | .hbm => 212
  | .vmem => 0
  | .smem => 0
  | _ => 0

abbrev hbmTy0_0 (i : Nat) : BufTy := match i % 128 with
  | 0 => ⟨S4096x8192, .f32⟩
  | 1 => ⟨S4096x512, .f32⟩
  | 2 => ⟨S4096x512, .f32⟩
  | 3 => ⟨S4096x1024, .f32⟩
  | 4 => ⟨S4096x1024, .f32⟩
  | 5 => ⟨S4096, .f32⟩
  | 6 => ⟨S4096x8x64, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S4096x1, .f32⟩
  | 16 => ⟨S1x32, .f32⟩
  | 17 => ⟨S4096x32, .f32⟩
  | 18 => ⟨S4096x32, .f32⟩
  | 19 => ⟨S4096x32, .f32⟩
  | 20 => ⟨S4096x32, .f32⟩
  | 21 => ⟨S4096x1x32, .f32⟩
  | 22 => ⟨S4096x32, .f32⟩
  | 23 => ⟨S4096x1x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S4096x8x32, .f32⟩
  | 34 => ⟨S4096x8x32, .f32⟩
  | 35 => ⟨S4096x8x32, .f32⟩
  | 36 => ⟨S4096x8x64, .f32⟩
  | 37 => ⟨S_, .f32⟩
  | 38 => ⟨S4096x8x64, .f32⟩
  | 39 => ⟨S4096x8x64, .f32⟩
  | 40 => ⟨S4096x8x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S4096x1x32, .f32⟩
  | 56 => ⟨S4096x32, .f32⟩
  | 57 => ⟨S4096x1x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x64, .f32⟩
  | 71 => ⟨S4096x8x128, .f32⟩
  | 72 => ⟨S64x64x8x64, .f32⟩
  | 73 => ⟨S64x64x8x64, .f32⟩
  | 74 => ⟨S64x64x8x128, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S8, .f32⟩
  | 84 => ⟨S8, .f32⟩
  | 85 => ⟨S64, .f32⟩
  | 86 => ⟨S8x1x1, .f32⟩
  | 87 => ⟨S64x1, .f32⟩
  | 88 => ⟨S1x64, .f32⟩
  | 89 => ⟨S64x64, .f32⟩
  | 90 => ⟨S64x64, .f32⟩
  | 91 => ⟨S64x64, .f32⟩
  | 92 => ⟨S64x64, .f32⟩
  | 93 => ⟨S1x64x64, .f32⟩
  | 94 => ⟨S8x64x64, .f32⟩
  | 95 => ⟨S8x64x64, .f32⟩
  | 96 => ⟨S8x64x64, .f32⟩
  | 97 => ⟨S8x64x64, .f32⟩
  | 98 => ⟨S64x8x64x64, .f32⟩
  | 99 => ⟨S1x8x64x64, .f32⟩
  | 100 => ⟨S64x8x64x64, .f32⟩
  | 101 => ⟨S64x8x64x64, .f32⟩
  | 102 => ⟨S64x8x128x64, .f32⟩
  | 103 => ⟨S64x64x8x128, .f32⟩
  | 104 => ⟨S1x8, .f32⟩
  | 105 => ⟨S64x1, .f32⟩
  | 106 => ⟨S_, .f32⟩
  | 107 => ⟨S64x1, .f32⟩
  | 108 => ⟨S64x1, .f32⟩
  | 109 => ⟨S64x8, .f32⟩
  | 110 => ⟨S64x8, .f32⟩
  | 111 => ⟨S64x8, .f32⟩
  | 112 => ⟨S64x8, .f32⟩
  | 113 => ⟨S1x64x8x1, .f32⟩
  | 114 => ⟨S64x64x8x64, .f32⟩
  | 115 => ⟨S64x64x8x64, .f32⟩
  | 116 => ⟨S64x8x64x128, .f32⟩
  | 117 => ⟨S_, .f32⟩
  | 118 => ⟨S8, .f32⟩
  | 119 => ⟨S8, .f32⟩
  | 120 => ⟨S8, .f32⟩
  | 121 => ⟨S8x1x1, .f32⟩
  | 122 => ⟨S_, .f32⟩
  | 123 => ⟨S8x64x128, .f32⟩
  | 124 => ⟨S_, .f32⟩
  | 125 => ⟨S64x8x64x128, .f32⟩
  | 126 => ⟨S_, .i32⟩
  | 127 => ⟨S64x8x64x128, .f32⟩
  | _ => ⟨S4096x8192, .f32⟩

abbrev hbmTy0_1 (i : Nat) : BufTy := match i % 128 with
  | 0 => ⟨S8x1x1, .f32⟩
  | 1 => ⟨S_, .i32⟩
  | 2 => ⟨S8x64x128, .f32⟩
  | 3 => ⟨S64x8x64x128, .f32⟩
  | 4 => ⟨S_, .i32⟩
  | 5 => ⟨S_, .i1⟩
  | 6 => ⟨S_, .i32⟩
  | 7 => ⟨S_, .i32⟩
  | 8 => ⟨S_, .i32⟩
  | 9 => ⟨S1x8x64x128, .f32⟩
  | 10 => ⟨S8x64x128, .f32⟩
  | 11 => ⟨S8x64x128, .f32⟩
  | 12 => ⟨S8x64x128, .f32⟩
  | 13 => ⟨S8x64x128, .f32⟩
  | 14 => ⟨S1x8x64x128, .f32⟩
  | 15 => ⟨S_, .i32⟩
  | 16 => ⟨S_, .i32⟩
  | 17 => ⟨S_, .i32⟩
  | 18 => ⟨S64x8x64x128, .f32⟩
  | 19 => ⟨S_, .i32⟩
  | 20 => ⟨S_, .i32⟩
  | 21 => ⟨S1x8, .f32⟩
  | 22 => ⟨S64x1, .f32⟩
  | 23 => ⟨S64x8, .f32⟩
  | 24 => ⟨S64x8, .f32⟩
  | 25 => ⟨S64x8, .f32⟩
  | 26 => ⟨S64x8, .f32⟩
  | 27 => ⟨S1x64x8x1, .f32⟩
  | 28 => ⟨S64x64x8x64, .f32⟩
  | 29 => ⟨S64x64x8x64, .f32⟩
  | 30 => ⟨S64x8x128x64, .f32⟩
  | 31 => ⟨S64x64x8x128, .f32⟩
  | 32 => ⟨S64x64x8x128, .f32⟩
  | 33 => ⟨S4096x8x128, .f32⟩
  | 34 => ⟨S_, .f32⟩
  | 35 => ⟨S4096x8, .f32⟩
  | 36 => ⟨S4096x8x1, .f32⟩
  | 37 => ⟨S_, .f32⟩
  | 38 => ⟨S4096x8x1, .f32⟩
  | 39 => ⟨S4096x8x1, .f32⟩
  | 40 => ⟨S4096x8x128, .f32⟩
  | 41 => ⟨S4096x8x128, .f32⟩
  | 42 => ⟨S4096x8x128, .f32⟩
  | 43 => ⟨S_, .f32⟩
  | 44 => ⟨S4096x8, .f32⟩
  | 45 => ⟨S4096x8x1, .f32⟩
  | 46 => ⟨S_, .f32⟩
  | 47 => ⟨S4096x8x1, .f32⟩
  | 48 => ⟨S4096x8x1, .f32⟩
  | 49 => ⟨S4096x8x128, .f32⟩
  | 50 => ⟨S4096x8x128, .f32⟩
  | 51 => ⟨S_, .f32⟩
  | 52 => ⟨S4096x8x1, .f32⟩
  | 53 => ⟨S4096x8x1, .f32⟩
  | 54 => ⟨S4096x8x1, .f32⟩
  | 55 => ⟨S4096x8x128, .f32⟩
  | 56 => ⟨S4096x8x128, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S4096x1024, .f32⟩
  | 67 => ⟨S4096x1024, .f32⟩
  | 68 => ⟨S8x8x4x2x64x128, .f32⟩
  | 69 => ⟨S8x1x4x2x64x128, .f32⟩
  | 70 => ⟨S8x4x2x64x128, .f32⟩
  | 71 => ⟨S8x4x1x64x128, .f32⟩
  | 72 => ⟨S8x4x64x128, .f32⟩
  | 73 => ⟨S8x4x1x64x128, .f32⟩
  | 74 => ⟨S8x4x64x128, .f32⟩
  | 75 => ⟨S_, .f32⟩
  | 76 => ⟨S8x4x64x128, .f32⟩
  | 77 => ⟨S8x4x128x128, .f32⟩
  | 78 => ⟨S8x4x128x128, .f32⟩
  | 79 => ⟨S8x4x1x128x128, .f32⟩
  | 80 => ⟨S8x4x1x128x128, .f32⟩
  | 81 => ⟨S8x4x2x128x128, .f32⟩
  | 82 => ⟨S4096x1024, .bf16⟩
  | 83 => ⟨S8x8x128x128, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst_1 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_v40 : Ref sig .tc := ⟨.hbm, 45, rfl⟩
abbrev main_cst_3 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_4 : Ref sig .tc := ⟨.hbm, 76, rfl⟩
abbrev main_v70 : Ref sig .tc := ⟨.hbm, 77, rfl⟩
abbrev main_v71 : Ref sig .tc := ⟨.hbm, 78, rfl⟩
abbrev main_cst_5 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_cst_6 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_cst_7 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_cst_8 : Ref sig .tc := ⟨.hbm, 122, rfl⟩
abbrev main_v112 : Ref sig .tc := ⟨.hbm, 123, rfl⟩
abbrev main_cst_9 : Ref sig .tc := ⟨.hbm, 124, rfl⟩
abbrev main_v113 : Ref sig .tc := ⟨.hbm, 125, rfl⟩
abbrev main_c : Ref sig .tc := ⟨.hbm, 126, rfl⟩
abbrev main_v114_0 : Ref sig .tc := ⟨.hbm, 127, rfl⟩
abbrev main_v114_1 : Ref sig .tc := ⟨.hbm, 128, rfl⟩
abbrev main_v114_2 : Ref sig .tc := ⟨.hbm, 129, rfl⟩
abbrev main_v114_3 : Ref sig .tc := ⟨.hbm, 130, rfl⟩
abbrev main_v114_4 : Ref sig .tc := ⟨.hbm, 131, rfl⟩
abbrev main_while0c_c_20 : Ref sig .tc := ⟨.hbm, 132, rfl⟩
abbrev main_while0c_v164 : Ref sig .tc := ⟨.hbm, 133, rfl⟩
abbrev main_while0b_call0_c : Ref sig .tc := ⟨.hbm, 134, rfl⟩
abbrev main_while0b_call0_c_0 : Ref sig .tc := ⟨.hbm, 135, rfl⟩
abbrev main_while0b_call0_c_1 : Ref sig .tc := ⟨.hbm, 136, rfl⟩
abbrev main_while0b_call0_v0 : Ref sig .tc := ⟨.hbm, 137, rfl⟩
abbrev main_while0b_v164 : Ref sig .tc := ⟨.hbm, 138, rfl⟩
abbrev main_while0b_v165 : Ref sig .tc := ⟨.hbm, 139, rfl⟩
abbrev main_while0b_v166 : Ref sig .tc := ⟨.hbm, 140, rfl⟩
abbrev main_while0b_v167 : Ref sig .tc := ⟨.hbm, 141, rfl⟩
abbrev main_while0b_call1_v0 : Ref sig .tc := ⟨.hbm, 142, rfl⟩
abbrev main_while0b_call1_c : Ref sig .tc := ⟨.hbm, 143, rfl⟩
abbrev main_while0b_call1_c_0 : Ref sig .tc := ⟨.hbm, 144, rfl⟩
abbrev main_while0b_call1_c_1 : Ref sig .tc := ⟨.hbm, 145, rfl⟩
abbrev main_while0b_v168 : Ref sig .tc := ⟨.hbm, 146, rfl⟩
abbrev main_while0b_c_20 : Ref sig .tc := ⟨.hbm, 147, rfl⟩
abbrev main_while0b_v169 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_10 : Ref sig .tc := ⟨.hbm, 162, rfl⟩
abbrev main_v128 : Ref sig .tc := ⟨.hbm, 163, rfl⟩
abbrev main_v129 : Ref sig .tc := ⟨.hbm, 164, rfl⟩
abbrev main_cst_11 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_12 : Ref sig .tc := ⟨.hbm, 171, rfl⟩
abbrev main_v135 : Ref sig .tc := ⟨.hbm, 172, rfl⟩
abbrev main_v136 : Ref sig .tc := ⟨.hbm, 173, rfl⟩
abbrev main_cst_13 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_14 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_call2_v0 : Ref sig .tc := ⟨.hbm, 186, rfl⟩
abbrev main_call2_v1 : Ref sig .tc := ⟨.hbm, 187, rfl⟩
abbrev main_call2_cst : Ref sig .tc := ⟨.hbm, 188, rfl⟩
abbrev main_call2_v2 : Ref sig .tc := ⟨.hbm, 189, rfl⟩
abbrev main_call2_v3 : Ref sig .tc := ⟨.hbm, 190, rfl⟩
abbrev main_call2_cst_0 : Ref sig .tc := ⟨.hbm, 191, rfl⟩
abbrev main_call2_v4 : Ref sig .tc := ⟨.hbm, 192, rfl⟩
abbrev main_call2_v5 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_15 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩

abbrev nD : Nat := 1
abbrev τ : Topo := Topo.v7x

variable {F : FTy → Type} [FloatOps F]

abbrev main_while0_count : Scf.Loop 32 := ⟨0#32, 64#32, 1#32⟩
-- ==== MergeFwdKernel.lean ====
abbrev S4096x1024 : Shape := ⟨2, ![4096, 1024]⟩
abbrev S4096x8192 : Shape := ⟨2, ![4096, 8192]⟩
abbrev S1024x1024 : Shape := ⟨2, ![1024, 1024]⟩
abbrev S4x1024 : Shape := ⟨2, ![4, 1024]⟩
abbrev S4x256x1024 : Shape := ⟨3, ![4, 256, 1024]⟩
abbrev S4x768x1024 : Shape := ⟨3, ![4, 768, 1024]⟩
abbrev S4x1x1024 : Shape := ⟨3, ![4, 1, 1024]⟩
abbrev S512x1024 : Shape := ⟨2, ![512, 1024]⟩
abbrev S512x2048 : Shape := ⟨2, ![512, 2048]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x768x1024, .f32⟩
  | .hbm, ⟨12, _⟩ => ⟨S4x768x1024, .bf16⟩
  | .hbm, ⟨13, _⟩ => ⟨S4096x8192, .bf16⟩
  | .hbm, ⟨14, _⟩ => ⟨S4096x1024, .bf16⟩
  | .hbm, ⟨15, _⟩ => ⟨S4096x1024, .bf16⟩
  | .hbm, ⟨16, _⟩ => ⟨S4x1x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S4x256x1024, .bf16⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdReferenceIdeal.lean ====
abbrev S4096x1024 : Shape := ⟨2, ![4096, 1024]⟩
abbrev S4096x8192 : Shape := ⟨2, ![4096, 8192]⟩
abbrev S1024x1024 : Shape := ⟨2, ![1024, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== InFwdKernel.lean ====
abbrev S4096x1024 : Shape := ⟨2, ![4096, 1024]⟩
abbrev S4x1024 : Shape := ⟨2, ![4, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4x1x1024 : Shape := ⟨3, ![4, 1, 1024]⟩
abbrev S4096x8192 : Shape := ⟨2, ![4096, 8192]⟩
abbrev S512x1024 : Shape := ⟨2, ![512, 1024]⟩
abbrev S1x1x1024 : Shape := ⟨3, ![1, 1, 1024]⟩
abbrev S512x8192 : Shape := ⟨2, ![512, 8192]⟩
abbrev S1x1024 : Shape := ⟨2, ![1, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024x8192, .f32⟩
  | .hbm, ⟨3, _⟩ => ⟨S1024x4x2048, .f32⟩
  | .hbm, ⟨4, _⟩ => ⟨S4x1024x2048, .f32⟩
  | .hbm, ⟨5, _⟩ => ⟨S4x1024x2048, .bf16⟩
  | .hbm, ⟨6, _⟩ => ⟨S4x1x1024, .f32⟩
  | .hbm, ⟨7, _⟩ => ⟨S4096x8192, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S4x1024x2048, .bf16⟩
  | .local _ .vmem, ⟨4, _⟩ => ⟨S512x8192, .bf16⟩
  | .local _ .vmem, ⟨5, _⟩ => ⟨S512x8192, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdReferenceIdeal.lean ====
abbrev S4096x1024 : Shape := ⟨2, ![4096, 1024]⟩
abbrev S4x1024 : Shape := ⟨2, ![4, 1024]⟩
abbrev S1024x8192 : Shape := ⟨2, ![1024, 8192]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024x8192, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x8192, .f32⟩
  | .hbm, ⟨22, _⟩ => ⟨S4096x8192, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== ConvFwdKernel.lean ====
abbrev S4096x8192 : Shape := ⟨2, ![4096, 8192]⟩
abbrev S4x31x1024 : Shape := ⟨3, ![4, 31, 1024]⟩
abbrev S4x1024 : Shape := ⟨2, ![4, 1024]⟩
abbrev S4x31x4x256 : Shape := ⟨4, ![4, 31, 4, 256]⟩
abbrev S4x4x31x256 : Shape := ⟨4, ![4, 4, 31, 256]⟩
abbrev S4x1x1024 : Shape := ⟨3, ![4, 1, 1024]⟩
abbrev S4096x1024 : Shape := ⟨2, ![4096, 1024]⟩
abbrev S256x3072 : Shape := ⟨2, ![256, 3072]⟩
abbrev S4x1x31x256 : Shape := ⟨4, ![4, 1, 31, 256]⟩
abbrev S1x1x1024 : Shape := ⟨3, ![1, 1, 1024]⟩
abbrev S256x1024 : Shape := ⟨2, ![256, 1024]⟩
abbrev S288x1024 : Shape := ⟨2, ![288, 1024]⟩
abbrev S248x1024 : Shape := ⟨2, ![248, 1024]⟩
abbrev S7x280x1024 : Shape := ⟨3, ![7, 280, 1024]⟩
abbrev S32x1024 : Shape := ⟨2, ![32, 1024]⟩
abbrev S1x1x1x256 : Shape := ⟨4, ![1, 1, 1, 256]⟩
abbrev S1x256 : Shape := ⟨2, ![1, 256]⟩
abbrev S1x1024 : Shape := ⟨2, ![1, 1024]⟩
abbrev S8x1024 : Shape := ⟨2, ![8, 1024]⟩
abbrev S280x1024 : Shape := ⟨2, ![280, 1024]⟩
abbrev S1x280x1024 : Shape := ⟨3, ![1, 280, 1024]⟩
abbrev S8x512 : Shape := ⟨2, ![8, 512]⟩
abbrev S1x64x512 : Shape := ⟨3, ![1, 64, 512]⟩
abbrev S64x512 : Shape := ⟨2, ![64, 512]⟩
abbrev S8x8x512 : Shape := ⟨3, ![8, 8, 512]⟩
abbrev S1x8x512 : Shape := ⟨3, ![1, 8, 512]⟩
abbrev S1x1x512 : Shape := ⟨3, ![1, 1, 512]⟩
abbrev S1x512 : Shape := ⟨2, ![1, 512]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S4x31x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x31x4x256, .f32⟩
  | .hbm, ⟨6, _⟩ => ⟨S4x4x31x256, .f32⟩
  | .hbm, ⟨7, _⟩ => ⟨S4096x8192, .bf16⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4096x1024, .bf16⟩
  | .hbm, ⟨12, _⟩ => ⟨S4096x1024, .f32⟩
  | .local _ .vmem, ⟨0, _⟩ => ⟨S256x3072, .bf16⟩
  | .local _ .vmem, ⟨1, _⟩ => ⟨S256x3072, .bf16⟩
  | .local _ .vmem, ⟨2, _⟩ => ⟨S4x1x31x256, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S288x1024, .f32⟩
  | .local _ .vmem, ⟨11, _⟩ => ⟨S248x1024, .f32⟩
  | .local _ .vmem, ⟨12, _⟩ => ⟨S7x280x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_34 : BitVec 32 := 0#32
  let c4_i32 : BitVec 32 := 4#32
  let v45 : BitVec 32 := Scalar.addi c0_i32_34 c4_i32
  let c1_i32 : BitVec 32 := 1#32
  ⟨c0_i32_34, v45, c1_i32⟩
def k0_mult1 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  v82
def k0_mult2 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_53 : BitVec 32 := 0#32
  let v85 : BitVec 32 := Scalar.addi v83 c0_i32_53
  v85
def k0_off1 (k0_t1 : Fin k0_t1_loop.trips) (c0_i32_53 : BitVec 32) : Fin 3 → Nat :=
  let c1_54 : Index := 1#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v85 : BitVec 32 := Scalar.addi v83 c0_i32_53
  let v86 : BitVec 32 := v85
  let v87 : Index := Scalar.indexCast v86
  let c0_55 : Index := 0#32
  ![1, v87.toNat, 0]
def k0_mult3 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_57 : BitVec 32 := 0#32
  let v116 : BitVec 32 := Scalar.addi v83 c0_i32_57
  v116
def k0_off2 (k0_t1 : Fin k0_t1_loop.trips) (c0_i32_57 : BitVec 32) : Fin 3 → Nat :=
  let c2_58 : Index := 2#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v116 : BitVec 32 := Scalar.addi v83 c0_i32_57
  let v117 : BitVec 32 := v116
  let v118 : Index := Scalar.indexCast v117
  let c0_59 : Index := 0#32
  ![2, v118.toNat, 0]
def k0_mult4 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_61 : BitVec 32 := 0#32
  let v155 : BitVec 32 := Scalar.addi v83 c0_i32_61
  v155
def k0_off3 (k0_t1 : Fin k0_t1_loop.trips) (c0_i32_61 : BitVec 32) : Fin 3 → Nat :=
  let c3_62 : Index := 3#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v155 : BitVec 32 := Scalar.addi v83 c0_i32_61
  let v156 : BitVec 32 := v155
  let v157 : Index := Scalar.indexCast v156
  let c0_63 : Index := 0#32
  ![3, v157.toNat, 0]
def k0_mult5 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_65 : BitVec 32 := 0#32
  let v194 : BitVec 32 := Scalar.addi v83 c0_i32_65
  v194
def k0_off4 (k0_t1 : Fin k0_t1_loop.trips) (c0_i32_65 : BitVec 32) : Fin 3 → Nat :=
  let c4_66 : Index := 4#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v194 : BitVec 32 := Scalar.addi v83 c0_i32_65
  let v195 : BitVec 32 := v194
  let v196 : Index := Scalar.indexCast v195
  let c0_67 : Index := 0#32
  ![4, v196.toNat, 0]
def k0_mult6 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_70 : BitVec 32 := 0#32
  let v233 : BitVec 32 := Scalar.addi v83 c0_i32_70
  v233
def k0_off5 (k0_t1 : Fin k0_t1_loop.trips) (c0_i32_70 : BitVec 32) : Fin 3 → Nat :=
  let c5_71 : Index := 5#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v233 : BitVec 32 := Scalar.addi v83 c0_i32_70
  let v234 : BitVec 32 := v233
  let v235 : Index := Scalar.indexCast v234
  let c0_72 : Index := 0#32
  ![5, v235.toNat, 0]
def k0_mult7 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_74 : BitVec 32 := 0#32
  let v272 : BitVec 32 := Scalar.addi v83 c0_i32_74
  v272
def k0_off6 (k0_t1 : Fin k0_t1_loop.trips) (c0_i32_74 : BitVec 32) : Fin 3 → Nat :=
  let c6_75 : Index := 6#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v272 : BitVec 32 := Scalar.addi v83 c0_i32_74
  let v273 : BitVec 32 := v272
  let v274 : Index := Scalar.indexCast v273
  let c0_76 : Index := 0#32
  ![6, v274.toNat, 0]
def k0_mult8 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32 : BitVec 32 := 8#32
  let v311 : BitVec 32 := Scalar.addi v83 c8_i32
  v311
def k0_off7 (k0_t1 : Fin k0_t1_loop.trips) (c8_i32 : BitVec 32) : Fin 2 → Nat :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v311 : BitVec 32 := Scalar.addi v83 c8_i32
  let v312 : BitVec 32 := v311
  let v313 : Index := Scalar.indexCast v312
  let c0_78 : Index := 0#32
  ![v313.toNat, 0]
def k0_mult9 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_80 : BitVec 32 := 8#32
  let v349 : BitVec 32 := Scalar.addi v83 c8_i32_80
  v349
def k0_off8 (k0_t1 : Fin k0_t1_loop.trips) (c8_i32_80 : BitVec 32) : Fin 3 → Nat :=
  let c0_81 : Index := 0#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v349 : BitVec 32 := Scalar.addi v83 c8_i32_80
  let v350 : BitVec 32 := v349
  let v351 : Index := Scalar.indexCast v350
  let c0_82 : Index := 0#32
  ![0, v351.toNat, 0]
def k0_mult10 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_84 : BitVec 32 := 8#32
  let v388 : BitVec 32 := Scalar.addi v83 c8_i32_84
  v388
def k0_mult11 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_88 : BitVec 32 := 8#32
  let v427 : BitVec 32 := Scalar.addi v83 c8_i32_88
  v427
def k0_mult12 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_92 : BitVec 32 := 8#32
  let v466 : BitVec 32 := Scalar.addi v83 c8_i32_92
  v466
def k0_mult13 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_96 : BitVec 32 := 8#32
  let v505 : BitVec 32 := Scalar.addi v83 c8_i32_96
  v505
def k0_mult14 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_100 : BitVec 32 := 8#32
  let v544 : BitVec 32 := Scalar.addi v83 c8_i32_100
  v544
def k0_mult15 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_104 : BitVec 32 := 8#32
  let v583 : BitVec 32 := Scalar.addi v83 c8_i32_104
  v583
def k0_mult16 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32 : BitVec 32 := 16#32
  let v622 : BitVec 32 := Scalar.addi v83 c16_i32
  v622
def k0_mult17 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_110 : BitVec 32 := 16#32
  let v660 : BitVec 32 := Scalar.addi v83 c16_i32_110
  v660
def k0_mult18 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_114 : BitVec 32 := 16#32
  let v699 : BitVec 32 := Scalar.addi v83 c16_i32_114
  v699
def k0_mult19 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_118 : BitVec 32 := 16#32
  let v738 : BitVec 32 := Scalar.addi v83 c16_i32_118
  v738
def k0_mult20 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_122 : BitVec 32 := 16#32
  let v777 : BitVec 32 := Scalar.addi v83 c16_i32_122
  v777
def k0_mult21 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_126 : BitVec 32 := 16#32
  let v816 : BitVec 32 := Scalar.addi v83 c16_i32_126
  v816
def k0_mult22 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_130 : BitVec 32 := 16#32
  let v855 : BitVec 32 := Scalar.addi v83 c16_i32_130
  v855
def k0_mult23 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_134 : BitVec 32 := 16#32
  let v894 : BitVec 32 := Scalar.addi v83 c16_i32_134
  v894
def k0_mult24 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32 : BitVec 32 := 24#32
  let v933 : BitVec 32 := Scalar.addi v83 c24_i32
  v933
def k0_mult25 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_140 : BitVec 32 := 24#32
  let v971 : BitVec 32 := Scalar.addi v83 c24_i32_140
  v971
def k0_mult26 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_144 : BitVec 32 := 24#32
  let v1010 : BitVec 32 := Scalar.addi v83 c24_i32_144
  v1010
def k0_mult27 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_148 : BitVec 32 := 24#32
  let v1049 : BitVec 32 := Scalar.addi v83 c24_i32_148
  v1049
def k0_mult28 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_152 : BitVec 32 := 24#32
  let v1088 : BitVec 32 := Scalar.addi v83 c24_i32_152
  v1088
def k0_mult29 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_156 : BitVec 32 := 24#32
  let v1127 : BitVec 32 := Scalar.addi v83 c24_i32_156
  v1127
def k0_mult30 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_160 : BitVec 32 := 24#32
  let v1166 : BitVec 32 := Scalar.addi v83 c24_i32_160
  v1166
def k0_mult31 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_164 : BitVec 32 := 24#32
  let v1205 : BitVec 32 := Scalar.addi v83 c24_i32_164
  v1205
def k0_mult32 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c32_i32 : BitVec 32 := 32#32
  let v1244 : BitVec 32 := Scalar.addi v83 c32_i32
  v1244
def k0_off9 (k0_t1 : Fin k0_t1_loop.trips) : Fin 2 → Nat :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1286 : Index := Scalar.indexCast v83
  let c0_172 : Index := 0#32
  ![v1286.toNat, 0]
def k0_mult33 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_174 : BitVec 32 := 0#32
  let v1289 : BitVec 32 := Scalar.addi v83 c0_i32_174
  v1289
def k0_off10 (k0_t1 : Fin k0_t1_loop.trips) (c0_i32_174 : BitVec 32) : Fin 3 → Nat :=
  let c1_175 : Index := 1#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1289 : BitVec 32 := Scalar.addi v83 c0_i32_174
  let v1290 : BitVec 32 := v1289
  let v1291 : Index := Scalar.indexCast v1290
  let c512_176 : Index := 512#32
  ![1, v1291.toNat, 512]
def k0_mult34 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_179 : BitVec 32 := 0#32
  let v1320 : BitVec 32 := Scalar.addi v83 c0_i32_179
  v1320
def k0_off11 (k0_t1 : Fin k0_t1_loop.trips) (c0_i32_179 : BitVec 32) : Fin 3 → Nat :=
  let c2_180 : Index := 2#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1320 : BitVec 32 := Scalar.addi v83 c0_i32_179
  let v1321 : BitVec 32 := v1320
  let v1322 : Index := Scalar.indexCast v1321
  let c512_181 : Index := 512#32
  ![2, v1322.toNat, 512]
def k0_mult35 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_184 : BitVec 32 := 0#32
  let v1359 : BitVec 32 := Scalar.addi v83 c0_i32_184
  v1359
def k0_off12 (k0_t1 : Fin k0_t1_loop.trips) (c0_i32_184 : BitVec 32) : Fin 3 → Nat :=
  let c3_185 : Index := 3#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1359 : BitVec 32 := Scalar.addi v83 c0_i32_184
  let v1360 : BitVec 32 := v1359
  let v1361 : Index := Scalar.indexCast v1360
  let c512_186 : Index := 512#32
  ![3, v1361.toNat, 512]
def k0_mult36 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_189 : BitVec 32 := 0#32
  let v1398 : BitVec 32 := Scalar.addi v83 c0_i32_189
  v1398
def k0_off13 (k0_t1 : Fin k0_t1_loop.trips) (c0_i32_189 : BitVec 32) : Fin 3 → Nat :=
  let c4_190 : Index := 4#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1398 : BitVec 32 := Scalar.addi v83 c0_i32_189
  let v1399 : BitVec 32 := v1398
  let v1400 : Index := Scalar.indexCast v1399
  let c512_191 : Index := 512#32
  ![4, v1400.toNat, 512]
def k0_mult37 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_194 : BitVec 32 := 0#32
  let v1437 : BitVec 32 := Scalar.addi v83 c0_i32_194
  v1437
def k0_off14 (k0_t1 : Fin k0_t1_loop.trips) (c0_i32_194 : BitVec 32) : Fin 3 → Nat :=
  let c5_195 : Index := 5#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1437 : BitVec 32 := Scalar.addi v83 c0_i32_194
  let v1438 : BitVec 32 := v1437
  let v1439 : Index := Scalar.indexCast v1438
  let c512_196 : Index := 512#32
  ![5, v1439.toNat, 512]
def k0_mult38 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c0_i32_199 : BitVec 32 := 0#32
  let v1476 : BitVec 32 := Scalar.addi v83 c0_i32_199
  v1476
def k0_off15 (k0_t1 : Fin k0_t1_loop.trips) (c0_i32_199 : BitVec 32) : Fin 3 → Nat :=
  let c6_200 : Index := 6#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1476 : BitVec 32 := Scalar.addi v83 c0_i32_199
  let v1477 : BitVec 32 := v1476
  let v1478 : Index := Scalar.indexCast v1477
  let c512_201 : Index := 512#32
  ![6, v1478.toNat, 512]
def k0_mult39 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_204 : BitVec 32 := 8#32
  let v1515 : BitVec 32 := Scalar.addi v83 c8_i32_204
  v1515
def k0_off16 (k0_t1 : Fin k0_t1_loop.trips) (c8_i32_204 : BitVec 32) : Fin 2 → Nat :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1515 : BitVec 32 := Scalar.addi v83 c8_i32_204
  let v1516 : BitVec 32 := v1515
  let v1517 : Index := Scalar.indexCast v1516
  let c512_205 : Index := 512#32
  ![v1517.toNat, 512]
def k0_mult40 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_208 : BitVec 32 := 8#32
  let v1553 : BitVec 32 := Scalar.addi v83 c8_i32_208
  v1553
def k0_off17 (k0_t1 : Fin k0_t1_loop.trips) (c8_i32_208 : BitVec 32) : Fin 3 → Nat :=
  let c0_209 : Index := 0#32
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v1553 : BitVec 32 := Scalar.addi v83 c8_i32_208
  let v1554 : BitVec 32 := v1553
  let v1555 : Index := Scalar.indexCast v1554
  let c512_210 : Index := 512#32
  ![0, v1555.toNat, 512]
def k0_mult41 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_213 : BitVec 32 := 8#32
  let v1592 : BitVec 32 := Scalar.addi v83 c8_i32_213
  v1592
def k0_mult42 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_218 : BitVec 32 := 8#32
  let v1631 : BitVec 32 := Scalar.addi v83 c8_i32_218
  v1631
def k0_mult43 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_223 : BitVec 32 := 8#32
  let v1670 : BitVec 32 := Scalar.addi v83 c8_i32_223
  v1670
def k0_mult44 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_228 : BitVec 32 := 8#32
  let v1709 : BitVec 32 := Scalar.addi v83 c8_i32_228
  v1709
def k0_mult45 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_233 : BitVec 32 := 8#32
  let v1748 : BitVec 32 := Scalar.addi v83 c8_i32_233
  v1748
def k0_mult46 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c8_i32_238 : BitVec 32 := 8#32
  let v1787 : BitVec 32 := Scalar.addi v83 c8_i32_238
  v1787
def k0_mult47 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_243 : BitVec 32 := 16#32
  let v1826 : BitVec 32 := Scalar.addi v83 c16_i32_243
  v1826
def k0_mult48 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_247 : BitVec 32 := 16#32
  let v1864 : BitVec 32 := Scalar.addi v83 c16_i32_247
  v1864
def k0_mult49 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_252 : BitVec 32 := 16#32
  let v1903 : BitVec 32 := Scalar.addi v83 c16_i32_252
  v1903
def k0_mult50 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_257 : BitVec 32 := 16#32
  let v1942 : BitVec 32 := Scalar.addi v83 c16_i32_257
  v1942
def k0_mult51 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_262 : BitVec 32 := 16#32
  let v1981 : BitVec 32 := Scalar.addi v83 c16_i32_262
  v1981
def k0_mult52 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_267 : BitVec 32 := 16#32
  let v2020 : BitVec 32 := Scalar.addi v83 c16_i32_267
  v2020
def k0_mult53 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_272 : BitVec 32 := 16#32
  let v2059 : BitVec 32 := Scalar.addi v83 c16_i32_272
  v2059
def k0_mult54 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c16_i32_277 : BitVec 32 := 16#32
  let v2098 : BitVec 32 := Scalar.addi v83 c16_i32_277
  v2098
def k0_mult55 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_282 : BitVec 32 := 24#32
  let v2137 : BitVec 32 := Scalar.addi v83 c24_i32_282
  v2137
def k0_mult56 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_286 : BitVec 32 := 24#32
  let v2175 : BitVec 32 := Scalar.addi v83 c24_i32_286
  v2175
def k0_mult57 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_291 : BitVec 32 := 24#32
  let v2214 : BitVec 32 := Scalar.addi v83 c24_i32_291
  v2214
def k0_mult58 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_296 : BitVec 32 := 24#32
  let v2253 : BitVec 32 := Scalar.addi v83 c24_i32_296
  v2253
def k0_mult59 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_301 : BitVec 32 := 24#32
  let v2292 : BitVec 32 := Scalar.addi v83 c24_i32_301
  v2292
def k0_mult60 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_306 : BitVec 32 := 24#32
  let v2331 : BitVec 32 := Scalar.addi v83 c24_i32_306
  v2331
def k0_mult61 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_311 : BitVec 32 := 24#32
  let v2370 : BitVec 32 := Scalar.addi v83 c24_i32_311
  v2370
def k0_mult62 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c24_i32_316 : BitVec 32 := 24#32
  let v2409 : BitVec 32 := Scalar.addi v83 c24_i32_316
  v2409
def k0_mult63 (k0_t1 : Fin k0_t1_loop.trips) : BitVec 32 :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let c32_i32_321 : BitVec 32 := 32#32
  let v2448 : BitVec 32 := Scalar.addi v83 c32_i32_321
  v2448
def k0_off18 (k0_t1 : Fin k0_t1_loop.trips) : Fin 2 → Nat :=
  let c0_i32_34 : BitVec 32 := 0#32
  let c1_i32 : BitVec 32 := 1#32
  let arg11 : BitVec 32 := Scf.iv c0_i32_34 c1_i32 k0_t1
  let c64_i32 : BitVec 32 := 64#32
  let v82 : BitVec 32 := Scalar.muli arg11 c64_i32
  let v83 : BitVec 32 := v82
  let v2490 : Index := Scalar.indexCast v83
  let c512_326 : Index := 512#32
  ![v2490.toNat, 512]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdReferenceIdeal.lean ====
abbrev S4096x8192 : Shape := ⟨2, ![4096, 8192]⟩
abbrev S4x31x1024 : Shape := ⟨3, ![4, 31, 1024]⟩
abbrev S4x1024 : Shape := ⟨2, ![4, 1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S4096 : Shape := ⟨1, ![4096]⟩
abbrev S4096x1 : Shape := ⟨2, ![4096, 1]⟩
abbrev S31 : Shape := ⟨1, ![31]⟩
abbrev S1x31 : Shape := ⟨2, ![1, 31]⟩
abbrev S4096x31 : Shape := ⟨2, ![4096, 31]⟩
abbrev S4096x31x1 : Shape := ⟨3, ![4096, 31, 1]⟩
abbrev S4096x31x1024 : Shape := ⟨3, ![4096, 31, 1024]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4x31x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S30x1024, .f32⟩
  | .hbm, ⟨19, _⟩ => ⟨S4126x1024, .f32⟩
  | .hbm, ⟨20, _⟩ => ⟨S4096, .i32⟩
  | .hbm, ⟨21, _⟩ => ⟨S4096x1, .i32⟩
  | .hbm, ⟨22, _⟩ => ⟨S31, .i32⟩
  | .hbm, ⟨23, _⟩ => ⟨S1x31, .i32⟩
  | .hbm, ⟨24, _⟩ => ⟨S4096x31, .i32⟩
  | .hbm, ⟨25, _⟩ => ⟨S4096x31, .i32⟩
  | .hbm, ⟨26, _⟩ => ⟨S4096x31, .i32⟩
  | .hbm, ⟨27, _⟩ => ⟨S_, .i32⟩
  | .hbm, ⟨28, _⟩ => ⟨S4096x31, .i32⟩
  | .hbm, ⟨29, _⟩ => ⟨S4096x31, .i1⟩
  | .hbm, ⟨30, _⟩ => ⟨S_, .i32⟩
  | .hbm, ⟨31, _⟩ => ⟨S4096x31, .i32⟩
  | .hbm, ⟨32, _⟩ => ⟨S4096x31, .i32⟩
  | .hbm, ⟨33, _⟩ => ⟨S4096x31, .i32⟩
  | .hbm, ⟨34, _⟩ => ⟨S4096x31x1, .i32⟩
  | .hbm, ⟨35, _⟩ => ⟨S4096x31x1024, .f32⟩
  | .hbm, ⟨36, _⟩ => ⟨S1x31x1024, .f32⟩
  | .hbm, ⟨37, _⟩ => ⟨S31x1024, .f32⟩
  | .hbm, ⟨38, _⟩ => ⟨S1x31x1024, .f32⟩
  | .hbm, ⟨39, _⟩ => ⟨S4096x31x1024, .f32⟩
  | .hbm, ⟨40, _⟩ => ⟨S4096x31x1024, .f32⟩
  | .hbm, ⟨41, _⟩ => ⟨S_, .f32⟩
  | .hbm, ⟨42, _⟩ => ⟨S4096x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v65 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Proof.LossKernelValue.lean ====
/-
  The loss and its gradient, read off the kernel's frame run: the array `dy` block by block, the partial sums of the
  loss by the recursion over the grid's eight points, and the sum that follows the region.
-/
module

public import proofs.«01_k».proof.Proof.Gen.LossKernelIdeal.Frame
public import Idealize.ShloMosaic.Lib.Pipeline.ValueKit
public import Idealize.ShloMosaic.Lib.Pointwise
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen

/-- The reciprocal of the row's length, as the kernel writes it. -/
theorem inv_len : Ideal.ofBits .f32 0x3A800000#32 = ((1 / 1024 : ℝ) : EReal) := by
  simp [Ideal.ofBits, Ideal.ieee, -EReal.coe_mul]; norm_num

/-- Half of it. -/
theorem half_inv_len : Ideal.ofBits .f32 0x3A000000#32 = ((1 / 2048 : ℝ) : EReal) := by
  simp [Ideal.ofBits, Ideal.ieee, -EReal.coe_mul]; norm_num

/-- The difference of the arguments at row `n` and column `l`. -/
def err (y target : S1x4096x1024.Idx → EReal) (n : Fin 4096) (l : Fin 1024) : EReal :=
  y (ix3 0 n l) - target (ix3 0 n l)

variable (m : (ℓ : Loc nD τ sig) → Buf (Elt Ideal) ℓ) (ρ : Dev nD → PrngReg)

/-- The same, of the arguments in memory. -/
abbrev errAt (c : Dev nD) : Fin 4096 → Fin 1024 → EReal :=
  err (m ((c : Thread nD τ).loc main_arg0)) (m ((c : Thread nD τ).loc main_arg1))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)

theorem arr0 (c : Dev nD) (n : Fin 4096) (l : Fin 1024) :
    V m c main_v0 (ix2 n l) = m ((c : Thread nD τ).loc main_arg0) (ix3 0 n l) := by
  show StableHlo.after [hostOps0].flatten (fun b => m (c, b)) _ _ = _
  simp only [List.flatten_cons, List.flatten_nil, List.append_nil]
  after_results
  pointwise

theorem arr1 (c : Dev nD) (n : Fin 4096) (l : Fin 1024) :
    V m c main_v1 (ix2 n l) = m ((c : Thread nD τ).loc main_arg1) (ix3 0 n l) := by
  show StableHlo.after [hostOps0].flatten (fun b => m (c, b)) _ _ = _
  simp only [List.flatten_cons, List.flatten_nil, List.append_nil]
  after_results
  pointwise

/-- The row of the array that point `t` reads at row `r` of its block. -/
def rowOf (t : Fin cfg0.N) (r : Fin 512) : Fin 4096 :=
  ⟨512 * t.val + r.val, by have := lt_of_lt_of_eq t.isLt N_0; omega⟩

theorem blk0 (c : Dev nD) (t : Fin cfg0.N) (r : Fin 512) (l : Fin 1024) :
    iblk m c 0 t (ix2 r l) = m ((c : Thread nD τ).loc main_arg0) (ix3 0 (rowOf t r) l) := by
  rw [← arr0 m c]
  blk_ext [iblk, V, idx0 t, rowOf]

theorem blk1 (c : Dev nD) (t : Fin cfg0.N) (r : Fin 512) (l : Fin 1024) :
    iblk m c 1 t (ix2 r l) = m ((c : Thread nD τ).loc main_arg1) (ix3 0 (rowOf t r) l) := by
  rw [← arr1 m c]
  blk_ext [iblk, V, idx1 t, rowOf]

/-- What a point adds to the partial sums, at row `r` and column `l` of the eight rows. -/
def part (c : Dev nD) (t : Fin cfg0.N) (r : Fin 8) (l : Fin 1024) : EReal :=
  (∑ g : Fin 64, errAt m c (rowOf t ⟨g.val * 8 + r.val, by omega⟩) l * errAt m c (rowOf t ⟨g.val * 8 + r.val, by omega⟩) l)
    * ((1 / 2048 : ℝ) : EReal)

theorem pay_dy (c : Dev nD) (t : Fin cfg0.N) (r : Fin 512) (l : Fin 1024) :
    k0_pay3 (iblk m c 0 t) (iblk m c 1 t) (ix2 r l) = errAt m c (rowOf t r) l * ((1 / 1024 : ℝ) : EReal) := by
  pointwise [k0_pay3, k0_pay2]
  rw [inv_len, blk0, blk1]; rfl

theorem pay_ls (c : Dev nD) (t : Fin cfg0.N) (acc : Vec Ideal S8x1024 .f32) (r : Fin 8) (l : Fin 1024) :
    k0_pay4 (iblk m c 0 t) (iblk m c 1 t) acc (ix2 r l) = acc (ix2 r l) + part m c t r l := by
  pointwise [k0_pay4, k0_pay2]
  rw [half_inv_len]
  simp only [blk0, blk1]
  rfl

/-- The gradient's array: the difference over the row's length. -/
theorem final_dy (c : Dev nD) : (dats m 0 c).arrAt 2 cfg0.N
    = fun i : S4096x1024.Idx => errAt m c (i 0) (i 1) * ((1 / 1024 : ℝ) : EReal) := by
  refine (dats m 0 c).arrAt_eq_of_covers 2 _ (by decide +kernel) fun t hf y => ?_
  blk_simp
  rw [after0_2]
  obtain ⟨r, l, rfl⟩ : ∃ r l, y = ix2 r l := ⟨y 0, y 1, by funext a; fin_cases a <;> rfl⟩
  have hrun : (outsAt0 m c t.val t.isLt).1 = k0_pay3 (iblk m c 0 t) (iblk m c 1 t) := by
    by_cases h : t.val % 8 = 0
    · rw [outsAt0_A m c t h]; frame_out
    · rw [outsAt0_B m c t h]; frame_out
  rw [hrun, pay_dy]
  congr 2
  · exact Fin.ext (by blk_simp [idx2 t, rowOf]; show 512 * t.val + r.val = t.val * 512 + r.val; omega)
  · exact Fin.ext (by blk_simp [idx2 t, rowOf]; done)

/-- The partial sums' array: the points' terms added up. -/
theorem final_ls (c : Dev nD) : (dats m 0 c).arrAt 3 cfg0.N
    = fun i : S8x1024.Idx => ∑ t : Fin cfg0.N, part m c t (i 0) (i 1) := by
  refine (dats m 0 c).arrAt_eq_of_after_last 3 t0_7 (by decide +kernel) _ fun y => ?_
  blk_simp
  rw [after0_3]
  rw [Pipeline.eq_sum_fin_of_reset_step_apply_last (fun n h => (outsAt0 m c n h).2) 8 (fun _ => 0) (fun t i => part m c t (i 0) (i 1))
    (fun t h i => ?_) (fun t h i => ?_) (le_of_eq N_0) t0_7 rfl, zero_add]
  · obtain ⟨r, l, rfl⟩ : ∃ r l, i = ix2 r l := ⟨i 0, i 1, by funext a; fin_cases a <;> rfl⟩
    rw [outsAt0_A m c t h]
    frame_out
    rw [pay_ls]
    pointwise [k0_pay1]
  · obtain ⟨r, l, rfl⟩ : ∃ r l, i = ix2 r l := ⟨i 0, i 1, by funext a; fin_cases a <;> rfl⟩
    rw [outsAt0_B m c t h]
    frame_out
    rw [pay_ls]
    rfl

/-- The loss, from the partial sums. -/
def loss (c : Dev nD) : EReal := ∑ r : Fin 8, ∑ l : Fin 1024, ∑ t : Fin cfg0.N, part m c t r l

/-- The sum that follows the region reads the partial sums' array. -/
theorem tail_ls (c : Dev nD) : Pipeline.afterTail₀ cfgs (dats m) 0 (V0 m) [hostOps1] c main_v3 = fun _ => loss m c := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v2_1)
    = (dats m 0 c).arrAt 3 cfg0.N from Pipeline.withArrays_arr spec0 (by decide) c (V0 m c) (fun w => (dats m 0 c).arrAt w cfg0.N) 3, final_ls]
  funext j
  pointwise
  rfl

/-- The run: both results, and the arguments unchanged. -/
theorem run : θ_run defs (onTc (τ := τ) (main (F := Ideal))) ⟨m, fun _ => 0, ρ⟩ fun r => ∀ c : Dev nD,
      r.2.mem ((c.tc : Thread nD τ).loc main_v2_0) = (fun i : S4096x1024.Idx => errAt m c (i 0) (i 1) * ((1 / 1024 : ℝ) : EReal))
      ∧ r.2.mem ((c.tc : Thread nD τ).loc main_v3) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h.1.out_eq c 2).trans (final_dy m c), (h.1.rest_eq c main_v3 (by decide)).trans (tail_ls m c), (h.2 c).1, (h.2 c).2⟩)
    (θ_run_and (run_main m ρ) (unchanged m ρ))

end Cert.LossKernelIdeal.Value

end
-- ==== Proof.LossEq.lean ====
/-
  The loss and its gradient: what the kernel leaves is what the reference leaves, over the extended reals. The gradient's
  factors are constants and multiply together; the loss is one sum over all entries of the squared difference, taken in
  two orders, and a positive constant factor moves in and out of a sum of extended reals.
-/
module

public import proofs.«01_k».proof.Proof.LossKernelValue
public import proofs.«01_k».proof.Defs
public import Idealize.ShloMosaic.Lib.Quiescent
public import proofs.«01_k».proof.Proof.Gen.LossReferenceIdeal.Run

@[expose] public section

set_option maxRecDepth 16384

noncomputable section

open Idealize.ShloMosaic Idealize.ShloMosaic.TcCoe Idealize.SL.Sem

namespace Cert.LossEq

open Cert.LossKernelIdeal.Value (err part loss errAt rowOf)

theorem bits_two : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_len : Ideal.ofBits .f32 0x44800000#32 = ((1024 : ℝ) : EReal) := by
  simp [Ideal.ofBits, Ideal.ieee, -EReal.coe_mul]; norm_num

/-- A nonnegative real factor moves into a finite sum of extended reals. -/
theorem sum_mul_const {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih,
      EReal.right_distrib_of_nonneg_of_ne_top (EReal.coe_nonneg.mpr ha) (EReal.coe_ne_top a)]

theorem coe_mul' (a b : ℝ) : (a : EReal) * (b : EReal) = ((a * b : ℝ) : EReal) := (EReal.coe_mul a b).symm

/-- The gradient. -/
theorem dy_eq (y target : Cert.LossReferenceIdeal.S1x4096x1024.Idx → EReal) (n : Fin 4096) (l : Fin 1024) :
    err y target n l * ((1 / 1024 : ℝ) : EReal)
      = Ideal.div (((1 / 2 : ℝ) : EReal)) ((1024 : ℝ) : EReal) * (((2 : ℝ) : EReal) * err y target n l) := by
  rw [Ideal.div_coe (by norm_num : (1024 : ℝ) ≠ 0), coe_mul', ← mul_assoc, coe_mul', mul_comm]
  norm_num

/-- The loss: the kernel's three sums are the reference's two. -/
theorem loss_eq (e : Fin 4096 → Fin 1024 → EReal) :
    (∑ r : Fin 8, ∑ l : Fin 1024, ∑ t : Fin 8,
      (∑ g : Fin 64, e ⟨512 * t.val + (g.val * 8 + r.val), by omega⟩ l * e ⟨512 * t.val + (g.val * 8 + r.val), by omega⟩ l)
        * ((1 / 2048 : ℝ) : EReal))
      = ((1 / 2 : ℝ) : EReal) * ∑ n : Fin 4096, Ideal.div (∑ l : Fin 1024, e n l * e n l) ((1024 : ℝ) : EReal) := by
  have hR : ((1 / 2 : ℝ) : EReal) * ∑ n : Fin 4096, Ideal.div (∑ l : Fin 1024, e n l * e n l) ((1024 : ℝ) : EReal)
      = ∑ n : Fin 4096, ∑ l : Fin 1024, e n l * e n l * ((1 / 2048 : ℝ) : EReal) := by
    rw [mul_comm, sum_mul_const _ _ (by norm_num)]
    refine Finset.sum_congr rfl fun n _ => ?_
    rw [Ideal.div_coe (by norm_num : (1024 : ℝ) ≠ 0), mul_assoc, coe_mul', sum_mul_const _ _ (by norm_num)]
    norm_num
  rw [hR]
  simp only [sum_mul_const _ _ (by norm_num : (0 : ℝ) ≤ 1 / 2048)]
  have hN : ∀ F : Fin 4096 → EReal, ∑ n, F n
      = ∑ t : Fin 8, ∑ g : Fin 64, ∑ r : Fin 8, F ⟨512 * t.val + (g.val * 8 + r.val), by omega⟩ := fun F => by
    rw [← Fin.sum_mul_add_fin 8 512 F]
    refine Finset.sum_congr rfl fun t _ => ?_
    rw [← Fin.sum_mul_add_fin 64 8 (fun k : Fin 512 => F ⟨t.val * 512 + k.val, _⟩)]
    refine Finset.sum_congr rfl fun g _ => Finset.sum_congr rfl fun r _ => ?_
    exact congrArg F (Fin.ext (by show t.val * 512 + (g.val * 8 + r.val) = 512 * t.val + (g.val * 8 + r.val); omega))
  rw [hN]
  rw [Finset.sum_comm]
  conv_lhs => enter [2, l]; rw [Finset.sum_comm]; enter [2, t]; rw [Finset.sum_comm]
  conv_rhs => enter [2, t, 2, g]; rw [Finset.sum_comm]
  conv_rhs => enter [2, t]; rw [Finset.sum_comm]
  rw [Finset.sum_comm]

/-- The claim: from memories agreeing on the arguments both programs run and leave the same gradient and the same loss. -/
theorem value : Cert.algebraic_LossKernelIdeal_LossReferenceIdeal
    (hLossKernelIdeal := Cert.LossKernelIdeal.Gen.facts) (hLossReferenceIdeal := Cert.LossReferenceIdeal.Gen.facts) := by
  intro m g m' g' _ hargs
  refine ⟨_, _, Cert.LossKernelIdeal.Value.run m g, (θ_run _ _ _).mono (fun r h c => ?_) (Cert.LossReferenceIdeal.Value.run m' g')⟩
  obtain ⟨h1, h2, h3, h4⟩ := h c
  refine ⟨h1.trans ?_, h2.trans ?_, h3, h4⟩
  · rw [(hargs c).1, (hargs c).2]
    funext i
    obtain ⟨n, l, rfl⟩ : ∃ n l, i = ix2 n l := ⟨i 0, i 1, by funext a; fin_cases a <;> rfl⟩
    pointwise
    rw [bits_half, bits_len, bits_two]
    exact (dy_eq _ _ n l).symm
  · rw [(hargs c).1, (hargs c).2]
    funext i
    pointwise
    rw [bits_half, bits_len]
    rw [Fin.sum_univ_one]
    refine (loss_eq (errAt m c)).symm.trans ?_
    unfold loss
    refine Finset.sum_congr rfl fun r _ => Finset.sum_congr rfl fun l _ => ?_
    exact (Equiv.sum_comp (finCongr Cert.LossKernelIdeal.Gen.N_0.symm) fun t => part m c t r l)

/-- The reference runs, leaves its arguments, and declares no semaphore. -/
theorem frame_ref : Cert.quiescent_LossReferenceIdeal (hLossReferenceIdeal := Cert.LossReferenceIdeal.Gen.facts) :=
  fun m ρ _ => (θ_run Cert.LossReferenceIdeal.defs _ _).mono
    (fun r h => ⟨fun c => (h c).2.2, sem_eq_zero_of_no_sems (by decide) r.2⟩) (Cert.LossReferenceIdeal.Value.run m ρ)

end Cert.LossEq

end
-- ==== Proof.Pieces.lean ====
/-
  Contents left by a list of stores, read at an index: under the newest store, and off it.
-/
module

public import Idealize.ShloMosaic.Lib.Pipeline.ValueKit
public import Idealize.ShloMosaic.Lib.WritesUnit
public import Idealize.ShloMosaic.Lib.Pointwise

@[expose] public section

namespace Cert.Pieces

open Idealize.ShloMosaic

universe u

variable {Val : EltTy → Type} {s : Shape} {e : EltTy} [∀ e, Nonempty (Val e)]

/-- An index at position `x` of the newest store's rectangle holds what the store wrote at `x`. -/
theorem canon_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- An index outside it on axis `a` holds what the stores before left. -/
theorem canon_not_mem {off size : Fin s.rank → ℕ} (inb : ∀ a, off a + size a ≤ s.size a)
    (w : (Rect.unit off size inb).shape.Idx → Val e) (L : List (View.Piece Val s e)) (y : s.Idx) (a : Fin s.rank)
    (ha : (y a).val < off a ∨ off a + size a ≤ (y a).val) :
    View.canon ((⟨Rect.unit off size inb, w⟩ : View.Piece Val s e) :: L) y = View.canon L y :=
  View.canon_cons_of_not_mem _ L fun h => by
    rw [Rect.mem_set_unit] at h
    have h' := h a
    omega

/-- The same two of a view's contents over what it held before. -/
theorem read_mem {sig : RefSig} {κ : Kind} {sp : Space} (v : View sig κ sp s e) (f : v.ty.Contents Val) {off size : Fin s.rank → ℕ}
    (inb : ∀ a, off a + size a ≤ s.size a) (w : (Rect.unit off size inb).shape.Idx → Val e) (L : List (View.Piece Val s e)) (y : s.Idx)
    (x : (Rect.unit off size inb).shape.Idx) (hx : ∀ a, (y a).val = off a + (x a).val) :
    v.read Val (v.writes Val f ((⟨Rect.unit off size inb, w⟩ : View.Piece Val s e) :: L)) y = w x :=
  View.read_writes_cons_unit_of_mem v f inb w L y x rfl hx

theorem read_not_mem {sig : RefSig} {κ : Kind} {sp : Space} (v : View sig κ sp s e) (f : v.ty.Contents Val) {off size : Fin s.rank → ℕ}
    (inb : ∀ a, off a + size a ≤ s.size a) (w : (Rect.unit off size inb).shape.Idx → Val e) (L : List (View.Piece Val s e)) (y : s.Idx)
    (a : Fin s.rank) (ha : (y a).val < off a ∨ off a + size a ≤ (y a).val) :
    v.read Val (v.writes Val f ((⟨Rect.unit off size inb, w⟩ : View.Piece Val s e) :: L)) y = v.read Val (v.writes Val f L) y :=
  View.read_writes_cons_unit_of_not_mem v f inb w L y rfl a ha

/-- A load at position `x` of a rectangle reads the contents at the rectangle's corner plus `x`. -/
theorem ld_at (X : s.Idx → Val e) {off size : Fin s.rank → ℕ} (inb : ∀ a, off a + size a ≤ s.size a)
    (x : (Rect.unit off size inb).shape.Idx) (y : s.Idx) (hx : ∀ a, (y a).val = off a + (x a).val) :
    View.ld X (Rect.unit off size inb) x = X y := by
  rw [View.ld_apply]
  exact congrArg X (funext fun a => Fin.ext (by
    show off a + 1 * (x a).val = (y a).val
    rw [hx a, Nat.one_mul]))

end Cert.Pieces
-- ==== Proof.MergeKernelValue.lean ====
/-
  The merge of the two mixers and its norm, backward: what the kernel's frame run leaves in its result arrays, in terms of
  the arguments. The weights' gradients go out by the body's own copies and are not read here.
-/
module

public import proofs.«01_k».proof.Proof.Gen.MergeKernelIdeal.Value
public import proofs.«01_k».proof.Proof.Pieces
public import Idealize.ShloMosaic.Lib.Pipeline.ValueKit
public import Idealize.ShloMosaic.Lib.Pointwise
public import Idealize.ShloMosaic.Lib.IdealHost
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeKernelIdeal.Value

open Cert.MergeKernelIdeal Cert.MergeKernelIdeal.Gen

/-- The arguments, as functions of the row and the column. -/
structure Args where
  ct : Fin 4096 → Fin 1024 → EReal
  proj : Fin 4096 → Fin 8192 → EReal
  ar : Fin 4096 → Fin 1024 → EReal
  ac : Fin 4096 → Fin 1024 → EReal
  wr : Fin 1024 → Fin 1024 → EReal
  wc : Fin 1024 → Fin 1024 → EReal
  wo : Fin 1024 → Fin 1024 → EReal
  g : Fin 1024 → EReal

namespace Args

/-- The functions that arrays hold. -/
def of (x0 : S4096x1024.Idx → EReal) (x1 : S4096x8192.Idx → EReal) (x2 x3 : S4096x1024.Idx → EReal) (x4 x5 x6 : S1024x1024.Idx → EReal)
    (x7 : S4x1024.Idx → EReal) : Args where
  ct n j := x0 (ix2 n j)
  proj n j := x1 (ix2 n j)
  ar n j := x2 (ix2 n j)
  ac n j := x3 (ix2 n j)
  wr n j := x4 (ix2 n j)
  wc n j := x5 (ix2 n j)
  wo n j := x6 (ix2 n j)
  g j := x7 (ix2 3 j)

variable (A : Args)

/-- The two mixers' outputs. -/
def ro (n : Fin 4096) (j : Fin 1024) : EReal := ∑ k : Fin 1024, A.ar n k * A.wr k j
def co (n : Fin 4096) (j : Fin 1024) : EReal := ∑ k : Fin 1024, A.ac n k * A.wc k j

/-- The two gates. -/
def g1 (n : Fin 4096) (j : Fin 1024) : EReal := Ideal.logistic (A.proj n ⟨6144 + j.val, by omega⟩)
def g2 (n : Fin 4096) (j : Fin 1024) : EReal := Ideal.logistic (A.proj n ⟨7168 + j.val, by omega⟩)

/-- The merged rows, before and after the output projection. -/
def y (n : Fin 4096) (j : Fin 1024) : EReal := A.g1 n j * A.ro n j + A.g2 n j * A.co n j
def z (n : Fin 4096) (j : Fin 1024) : EReal := ∑ k : Fin 1024, A.y n k * A.wo k j

/-- The norm's mean square and its root's reciprocal. -/
def q (n : Fin 4096) : EReal :=
  Ideal.div (∑ j : Fin 1024, A.z n j * A.z n j) (Ideal.ofBits .f32 0x44800000#32) + Ideal.ofBits .f32 0x358637BD#32
def rs (n : Fin 4096) : EReal := Ideal.rsqrt (A.q n)

/-- The cotangent times the gain, and what the norm's scale passes back to each column. -/
def cg (n : Fin 4096) (j : Fin 1024) : EReal := A.ct n j * A.g j
def back (n : Fin 4096) : EReal :=
  Ideal.div ((∑ j : Fin 1024, A.z n j * A.cg n j) * (Ideal.ofBits .f32 0xBF000000#32 * Ideal.div (A.rs n) (A.q n)))
    (Ideal.ofBits .f32 0x44800000#32)

/-- The gradients of the norm's argument, of the merged rows, and of the gain. -/
def dz (n : Fin 4096) (j : Fin 1024) : EReal := A.cg n j * A.rs n + A.z n j * A.back n + A.back n * A.z n j
def dy (n : Fin 4096) (j : Fin 1024) : EReal := ∑ k : Fin 1024, A.dz n k * A.wo j k
def dg (n : Fin 4096) (j : Fin 1024) : EReal := A.z n j * A.rs n * A.ct n j

/-- The gradients of the gates' arguments and of the mixers' outputs. -/
def dg1 (n : Fin 4096) (j : Fin 1024) : EReal := A.dy n j * A.ro n j * A.g1 n j * (1 - A.g1 n j)
def dg2 (n : Fin 4096) (j : Fin 1024) : EReal := A.dy n j * A.co n j * A.g2 n j * (1 - A.g2 n j)
def dar (n : Fin 4096) (j : Fin 1024) : EReal := ∑ k : Fin 1024, A.dy n k * A.g1 n k * A.wr j k
def dac (n : Fin 4096) (j : Fin 1024) : EReal := ∑ k : Fin 1024, A.dy n k * A.g2 n k * A.wc j k

end Args

variable (m : (ℓ : Loc nD τ sig) → Buf (Elt Ideal) ℓ) (ρ : Dev nD → PrngReg)

/-- The arguments in memory. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The host's spelling of a gate. -/
theorem gate (x : EReal) : Ideal.div 1 (1 + Ideal.exp (-x)) = Ideal.logistic x := by
  rfl

theorem arr25 (c : Dev nD) (n : Fin 4096) (l : Fin 8192) :
    V m c main_v25 (ix2 n l) = (args m c).proj n l := by
  show StableHlo.after [hostOps0].flatten (fun b => m (c, b)) _ _ = _
  simp only [List.flatten_cons, List.flatten_nil, List.append_nil]
  after_results
  pointwise
  rfl

theorem arr26 (c : Dev nD) (n : Fin 4096) (l : Fin 1024) :
    V m c main_v26 (ix2 n l) = (args m c).ar n l := by
  show StableHlo.after [hostOps0].flatten (fun b => m (c, b)) _ _ = _
  simp only [List.flatten_cons, List.flatten_nil, List.append_nil]
  after_results
  pointwise
  rfl

theorem arr27 (c : Dev nD) (n : Fin 4096) (l : Fin 1024) :
    V m c main_v27 (ix2 n l) = (args m c).ac n l := by
  show StableHlo.after [hostOps0].flatten (fun b => m (c, b)) _ _ = _
  simp only [List.flatten_cons, List.flatten_nil, List.append_nil]
  after_results
  pointwise
  rfl

theorem arr28 (c : Dev nD) (n : Fin 4096) (l : Fin 1024) :
    V m c main_v28 (ix2 n l) = (args m c).ro n l := by
  show StableHlo.after [hostOps0].flatten (fun b => m (c, b)) _ _ = _
  simp only [List.flatten_cons, List.flatten_nil, List.append_nil]
  after_results
  pointwise
  rfl

theorem arr29 (c : Dev nD) (n : Fin 4096) (l : Fin 1024) :
    V m c main_v29 (ix2 n l) = (args m c).co n l := by
  show StableHlo.after [hostOps0].flatten (fun b => m (c, b)) _ _ = _
  simp only [List.flatten_cons, List.flatten_nil, List.append_nil]
  after_results
  pointwise
  rfl

theorem arr30 (c : Dev nD) (n : Fin 4096) (l : Fin 1024) :
    V m c main_v30 (ix2 n l) = (args m c).y n l := by
  show StableHlo.after [hostOps0].flatten (fun b => m (c, b)) _ _ = _
  simp only [List.flatten_cons, List.flatten_nil, List.append_nil]
  after_results
  pointwise
  simp only [gate]
  rfl

theorem arr31 (c : Dev nD) (n : Fin 4096) (l : Fin 1024) :
    V m c main_v31 (ix2 n l) = (args m c).z n l := by
  show StableHlo.after [hostOps0].flatten (fun b => m (c, b)) _ _ = _
  simp only [List.flatten_cons, List.flatten_nil, List.append_nil]
  after_results
  pointwise
  simp only [gate]
  rfl

theorem arr32 (c : Dev nD) (l : Fin 1024) : V m c main_v32 (ix3 3 0 l) = (args m c).g l := by
  show StableHlo.after [hostOps0].flatten (fun b => m (c, b)) _ _ = _
  simp only [List.flatten_cons, List.flatten_nil, List.append_nil]
  after_results
  pointwise
  rfl

theorem arr24_0 (c : Dev nD) (a : Fin 4) (r : Fin 256) (l : Fin 1024) :
    V m c main_v24 (ix3 a ⟨0 + r.val, by omega⟩ l) = (args m c).wr ⟨256 * a.val + r.val, by omega⟩ l := by
  show StableHlo.after [hostOps0].flatten (fun b => m (c, b)) _ _ = _
  simp only [List.flatten_cons, List.flatten_nil, List.append_nil]
  after_results
  pointwise
  try simp only [show ¬ (512 + r.val < 256) by omega, show ¬ (512 + r.val - 256 < 256) by omega, r.isLt, dif_pos, dif_neg, not_false_eq_true]
  all_goals after_results_simp
  pointwise
  unfold args Args.of
  congr 2
  exact Fin.ext (by simp only []; omega)

theorem arr24_1 (c : Dev nD) (a : Fin 4) (r : Fin 256) (l : Fin 1024) :
    V m c main_v24 (ix3 a ⟨256 + r.val, by omega⟩ l) = (args m c).wc ⟨256 * a.val + r.val, by omega⟩ l := by
  show StableHlo.after [hostOps0].flatten (fun b => m (c, b)) _ _ = _
  simp only [List.flatten_cons, List.flatten_nil, List.append_nil]
  after_results
  pointwise
  try simp only [show ¬ (512 + r.val < 256) by omega, show ¬ (512 + r.val - 256 < 256) by omega, r.isLt, dif_pos, dif_neg, not_false_eq_true]
  all_goals after_results_simp
  pointwise
  unfold args Args.of
  congr 2
  exact Fin.ext (by simp only []; omega)

theorem arr24_2 (c : Dev nD) (a : Fin 4) (r : Fin 256) (l : Fin 1024) :
    V m c main_v24 (ix3 a ⟨512 + r.val, by omega⟩ l) = (args m c).wo ⟨256 * a.val + r.val, by omega⟩ l := by
  show StableHlo.after [hostOps0].flatten (fun b => m (c, b)) _ _ = _
  simp only [List.flatten_cons, List.flatten_nil, List.append_nil]
  after_results
  pointwise
  try simp only [show ¬ (512 + r.val < 256) by omega, show ¬ (512 + r.val - 256 < 256) by omega, r.isLt, dif_pos, dif_neg, not_false_eq_true]
  all_goals after_results_simp
  pointwise
  unfold args Args.of
  congr 2
  exact Fin.ext (by simp only []; omega)

theorem idx0 : ∀ t : Fin cfg0.N, win0_0.index t = ![t.val, 0] := (by decide +kernel : ∀ t : Fin grid0.N, _)
theorem idx1 : ∀ t : Fin cfg0.N, win0_1.index t = ![t.val, 3] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx12 : ∀ t : Fin cfg0.N, win0_12.index t = ![t.val, 3] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 1, 0] := (by decide +kernel : ∀ t : Fin grid0.N, _)
theorem idx10 : ∀ t : Fin cfg0.N, win0_10.index t = ![0, 2, 0] := (by decide +kernel : ∀ t : Fin grid0.N, _)
theorem idx11 : ∀ t : Fin cfg0.N, win0_11.index t = ![3, 0, 0] := (by decide +kernel : ∀ t : Fin grid0.N, _)
theorem idx15 : ∀ t : Fin cfg0.N, win0_15.index t = ![0, 0] := (by decide +kernel : ∀ t : Fin grid0.N, _)

/-- The row of the array that point `t` reads at row `r` of its block. -/
def rowOf (t : Fin cfg0.N) (r : Fin 512) : Fin 4096 :=
  ⟨512 * t.val + r.val, by have := lt_of_lt_of_eq t.isLt N_0; omega⟩

theorem blk0 (c : Dev nD) (t : Fin cfg0.N) (r : Fin 512) (l : Fin 1024) :
    iblk m c 0 t (ix2 r l) = (args m c).ct (rowOf t r) l := by
  show _ = V m c main_arg0 (ix2 (rowOf t r) l)
  blk_ext [iblk, V, idx0 t, rowOf]

theorem blk1 (c : Dev nD) (t : Fin cfg0.N) (r : Fin 512) (l : Fin 2048) :
    iblk m c 1 t (ix2 r l) = (args m c).proj (rowOf t r) ⟨6144 + l.val, by omega⟩ := by
  rw [← arr25 m c]
  blk_ext [iblk, V, idx1 t, rowOf]

theorem blk2 (c : Dev nD) (t : Fin cfg0.N) (r : Fin 512) (l : Fin 1024) :
    iblk m c 2 t (ix2 r l) = (args m c).ar (rowOf t r) l := by
  rw [← arr26 m c]
  blk_ext [iblk, V, idx2 t, rowOf]

theorem blk3 (c : Dev nD) (t : Fin cfg0.N) (r : Fin 512) (l : Fin 1024) :
    iblk m c 3 t (ix2 r l) = (args m c).ac (rowOf t r) l := by
  rw [← arr27 m c]
  blk_ext [iblk, V, idx3 t, rowOf]

theorem blk4 (c : Dev nD) (t : Fin cfg0.N) (r : Fin 512) (l : Fin 1024) :
    iblk m c 4 t (ix2 r l) = (args m c).ro (rowOf t r) l := by
  rw [← arr28 m c]
  blk_ext [iblk, V, idx4 t, rowOf]

theorem blk5 (c : Dev nD) (t : Fin cfg0.N) (r : Fin 512) (l : Fin 1024) :
    iblk m c 5 t (ix2 r l) = (args m c).co (rowOf t r) l := by
  rw [← arr29 m c]
  blk_ext [iblk, V, idx5 t, rowOf]

theorem blk6 (c : Dev nD) (t : Fin cfg0.N) (r : Fin 512) (l : Fin 1024) :
    iblk m c 6 t (ix2 r l) = (args m c).y (rowOf t r) l := by
  rw [← arr30 m c]
  blk_ext [iblk, V, idx6 t, rowOf]

theorem blk7 (c : Dev nD) (t : Fin cfg0.N) (r : Fin 512) (l : Fin 1024) :
    iblk m c 7 t (ix2 r l) = (args m c).z (rowOf t r) l := by
  rw [← arr31 m c]
  blk_ext [iblk, V, idx7 t, rowOf]

theorem blk8 (c : Dev nD) (t : Fin cfg0.N) (a : Fin 4) (r : Fin 256) (l : Fin 1024) :
    iblk m c 8 t (ix3 a r l) = (args m c).wr ⟨256 * a.val + r.val, by omega⟩ l := by
  rw [← arr24_0 m c]
  blk_ext [iblk, V, idx8 t]

theorem blk9 (c : Dev nD) (t : Fin cfg0.N) (a : Fin 4) (r : Fin 256) (l : Fin 1024) :
    iblk m c 9 t (ix3 a r l) = (args m c).wc ⟨256 * a.val + r.val, by omega⟩ l := by
  rw [← arr24_1 m c]
  blk_ext [iblk, V, idx9 t]

theorem blk10 (c : Dev nD) (t : Fin cfg0.N) (a : Fin 4) (r : Fin 256) (l : Fin 1024) :
    iblk m c 10 t (ix3 a r l) = (args m c).wo ⟨256 * a.val + r.val, by omega⟩ l := by
  rw [← arr24_2 m c]
  blk_ext [iblk, V, idx10 t]

theorem blk11 (c : Dev nD) (t : Fin cfg0.N) (l : Fin 1024) :
    iblk m c 11 t (ix3 0 0 l) = (args m c).g l := by
  rw [← arr32 m c]
  blk_ext [iblk, V, idx11 t]

theorem pay_q (c : Dev nD) (t : Fin cfg0.N) (r : Fin 512) : k0_pay10 (iblk m c 7 t) (ix2 r 0) = (args m c).q (rowOf t r) := by
  pointwise [k0_pay10, k0_pay9]
  simp only [blk7]
  rfl

theorem pay_rs (c : Dev nD) (t : Fin cfg0.N) (r : Fin 512) : k0_pay11 (iblk m c 7 t) (ix2 r 0) = (args m c).rs (rowOf t r) := by
  unfold Args.rs
  rw [← pay_q m c t r]
  pointwise [k0_pay11]

theorem pay_cg (c : Dev nD) (t : Fin cfg0.N) (r : Fin 512) (l : Fin 1024) :
    k0_pay13 (iblk m c 11 t) (iblk m c 0 t) (ix2 r l) = (args m c).cg (rowOf t r) l := by
  pointwise [k0_pay13]
  rw [blk0, blk11]; rfl

theorem pay_back (c : Dev nD) (t : Fin cfg0.N) (r : Fin 512) (l : Fin 1024) :
    k0_pay14 (iblk m c 7 t) (iblk m c 11 t) (iblk m c 0 t) (ix2 r l) = (args m c).back (rowOf t r) := by
  pointwise [k0_pay14, k0_pay9]
  simp only [pay_q, pay_rs, pay_cg, blk7, Fin.sum_univ_one]
  rfl

/-- The gradient of the norm's argument, on a block. -/
abbrev bdz (c : Dev nD) (t : Fin cfg0.N) : S512x1024.Idx → EReal :=
  k0_pay18 (k0_pay15 (iblk m c 7 t) (iblk m c 11 t) (iblk m c 0 t)) (k0_pay16 (iblk m c 7 t) (iblk m c 11 t) (iblk m c 0 t))

theorem pay_dz (c : Dev nD) (t : Fin cfg0.N) (r : Fin 512) (l : Fin 1024) : bdz m c t (ix2 r l) = (args m c).dz (rowOf t r) l := by
  pointwise [bdz, k0_pay18, k0_pay15, k0_pay16, k0_pay9]
  simp only [pay_rs, pay_cg, pay_back, blk7]
  rfl

/-- The gradient of the merged rows, on a block. -/
abbrev bdy (c : Dev nD) (t : Fin cfg0.N) : S512x1024.Idx → EReal :=
  k0_pay19 (k0_pay15 (iblk m c 7 t) (iblk m c 11 t) (iblk m c 0 t)) (k0_pay16 (iblk m c 7 t) (iblk m c 11 t) (iblk m c 0 t)) (iblk m c 10 t)

/-- A row of the packed weights, found back. -/
theorem row_found (l : Fin 1024) : (⟨256 * (l.val / 256) + l.val % 256, by omega⟩ : Fin 1024) = l :=
  Fin.ext (Nat.div_add_mod _ _)

theorem pay_dy (c : Dev nD) (t : Fin cfg0.N) (r : Fin 512) (l : Fin 1024) : bdy m c t (ix2 r l) = (args m c).dy (rowOf t r) l := by
  pointwise [bdy, k0_pay19]
  simp only [blk10, row_found]
  exact Finset.sum_congr rfl fun k _ => congrArg (· * _) (pay_dz m c t r k)

theorem pay_dg (c : Dev nD) (t : Fin cfg0.N) (l : Fin 1024) :
    k0_pay12 (iblk m c 7 t) (iblk m c 0 t) (ix2 0 l) = ∑ r : Fin 512, (args m c).dg (rowOf t r) l := by
  pointwise [k0_pay12, k0_pay9]
  simp only [pay_rs, blk7, blk0]
  rfl

theorem pay_dar (c : Dev nD) (t : Fin cfg0.N) (v60 : S512x1024.Idx → EReal) (h : ∀ r l, v60 (ix2 r l) = (args m c).proj (rowOf t r) ⟨6144 + l.val, by omega⟩) (r : Fin 512) (l : Fin 1024) :
    k0_pay29 (F := Ideal) (bdy m c t) (k0_pay21 (F := Ideal) v60) (iblk m c 8 t) (ix2 r l) = (args m c).dar (rowOf t r) l := by
  pointwise [k0_pay29, k0_pay27, k0_pay21]
  simp only [pay_dy, blk8, row_found, h]
  rfl

theorem pay_dac (c : Dev nD) (t : Fin cfg0.N) (v60 : S512x1024.Idx → EReal) (h : ∀ r l, v60 (ix2 r l) = (args m c).proj (rowOf t r) ⟨7168 + l.val, by omega⟩) (r : Fin 512) (l : Fin 1024) :
    k0_pay30 (F := Ideal) (bdy m c t) (k0_pay22 (F := Ideal) v60) (iblk m c 9 t) (ix2 r l) = (args m c).dac (rowOf t r) l := by
  pointwise [k0_pay30, k0_pay28, k0_pay22]
  simp only [pay_dy, blk9, row_found, h]
  rfl

theorem pay_dg1 (c : Dev nD) (t : Fin cfg0.N) (v60 : S512x1024.Idx → EReal) (h : ∀ r l, v60 (ix2 r l) = (args m c).proj (rowOf t r) ⟨6144 + l.val, by omega⟩) (r : Fin 512) (l : Fin 1024) :
    k0_pay25 (F := Ideal) (bdy m c t) (k0_pay21 (F := Ideal) v60) (k0_pay23 (iblk m c 4 t)) (ix2 r l) = (args m c).dg1 (rowOf t r) l := by
  pointwise [k0_pay25, k0_pay21, k0_pay23]
  simp only [pay_dy, blk4, h]
  rfl

theorem pay_dg2 (c : Dev nD) (t : Fin cfg0.N) (v60 : S512x1024.Idx → EReal) (h : ∀ r l, v60 (ix2 r l) = (args m c).proj (rowOf t r) ⟨7168 + l.val, by omega⟩) (r : Fin 512) (l : Fin 1024) :
    k0_pay26 (F := Ideal) (bdy m c t) (k0_pay22 (F := Ideal) v60) (k0_pay24 (iblk m c 5 t)) (ix2 r l) = (args m c).dg2 (rowOf t r) l := by
  pointwise [k0_pay26, k0_pay22, k0_pay24]
  simp only [pay_dy, blk5, h]
  rfl

/-- The two halves of the projections' block. -/
theorem half1 (c : Dev nD) (t : Fin cfg0.N) (r : Fin 512) (l : Fin 1024) :
    View.ld (iblk m c 1 t) (Rect.unit ![0, 0] ![512, 1024] inb_S512x2048_S512x1024_0_0) (ix2 r l)
      = (args m c).proj (rowOf t r) ⟨6144 + l.val, by omega⟩ := by
  rw [← blk1 m c t r ⟨l.val, by omega⟩]
  exact congrArg (iblk m c 1 t) (by funext a; fin_cases a <;> exact Fin.ext (by simp [LoadRect.idx, Rect.unit, ix2]))

theorem half2 (c : Dev nD) (t : Fin cfg0.N) (r : Fin 512) (l : Fin 1024) :
    View.ld (iblk m c 1 t) (Rect.unit ![0, 1024] ![512, 1024] inb_S512x2048_S512x1024_0_1024) (ix2 r l)
      = (args m c).proj (rowOf t r) ⟨7168 + l.val, by omega⟩ := by
  rw [show (⟨7168 + l.val, by omega⟩ : Fin 8192) = ⟨6144 + (1024 + l.val), by omega⟩ from Fin.ext (by simp only []; omega),
    ← blk1 m c t r ⟨1024 + l.val, by omega⟩]
  exact congrArg (iblk m c 1 t) (by funext a; fin_cases a <;> exact Fin.ext (by simp [LoadRect.idx, Rect.unit, ix2]))

/-- What a point leaves in the outputs' blocks, the same in each of the three cases. -/
theorem outs (c : Dev nD) (t : Fin cfg0.N) :
    (outsAt0 m c t.val t.isLt).1 = View.canon
      [⟨Rect.unit ![0, 1024] ![512, 1024] inb_S512x2048_S512x1024_0_1024,
          k0_pay26 (bdy m c t) (k0_pay22 (View.ld (iblk m c 1 t) (Rect.unit ![0, 1024] ![512, 1024] inb_S512x2048_S512x1024_0_1024)))
            (k0_pay24 (iblk m c 5 t))⟩,
        ⟨Rect.unit ![0, 0] ![512, 1024] inb_S512x2048_S512x1024_0_0,
          k0_pay25 (bdy m c t) (k0_pay21 (View.ld (iblk m c 1 t) (Rect.unit ![0, 0] ![512, 1024] inb_S512x2048_S512x1024_0_0)))
            (k0_pay23 (iblk m c 4 t))⟩]
    ∧ (outsAt0 m c t.val t.isLt).2.1 = k0_pay29 (bdy m c t)
      (k0_pay21 (View.ld (iblk m c 1 t) (Rect.unit ![0, 0] ![512, 1024] inb_S512x2048_S512x1024_0_0))) (iblk m c 8 t)
    ∧ (outsAt0 m c t.val t.isLt).2.2.1 = k0_pay30 (bdy m c t)
      (k0_pay22 (View.ld (iblk m c 1 t) (Rect.unit ![0, 1024] ![512, 1024] inb_S512x2048_S512x1024_0_1024))) (iblk m c 9 t) := by
  have hN := lt_of_lt_of_eq t.isLt N_0
  by_cases h0 : t.val % 8 = 0
  · rw [outsAt0_A m c t h0 (by omega)]
    refine ⟨?_, ?_, ?_⟩ <;> (frame_out; rfl)
  · by_cases h7 : t.val % 8 = 7
    · rw [outsAt0_C m c t h0 h7]
      refine ⟨?_, ?_, ?_⟩ <;> (frame_out; rfl)
    · rw [outsAt0_B m c t h0 h7]
      refine ⟨?_, ?_, ?_⟩ <;> (frame_out; rfl)

/-- The gradient of the gates' columns: the block of point `t`. -/
theorem out_gates (c : Dev nD) (t : Fin cfg0.N) (r : Fin 512) (l : Fin 1024) :
    (outsAt0 m c t.val t.isLt).1 (ix2 r ⟨l.val, by omega⟩) = (args m c).dg1 (rowOf t r) l
    ∧ (outsAt0 m c t.val t.isLt).1 (ix2 r ⟨1024 + l.val, by omega⟩) = (args m c).dg2 (rowOf t r) l := by
  rw [(outs m c t).1]
  constructor
  · rw [Pieces.canon_not_mem _ _ _ _ 1 (.inl (by show l.val < 1024; omega)),
      Pieces.canon_mem _ _ _ _ (ix2 r l) fun a => by fin_cases a <;> simp [ix2]]
    exact pay_dg1 m c t _ (half1 m c t) r l
  · rw [Pieces.canon_mem _ _ _ _ (ix2 r l) fun a => by fin_cases a <;> simp [ix2]]
    exact pay_dg2 m c t _ (half2 m c t) r l

theorem final_dar (c : Dev nD) : (dats m 0 c).arrAt 13 cfg0.N = fun i : S4096x1024.Idx => (args m c).dar (i 0) (i 1) := by
  refine (dats m 0 c).arrAt_eq_of_covers 13 _ (by decide +kernel) fun t hf y => ?_
  blk_simp
  rw [after0_13]
  obtain ⟨r, l, rfl⟩ : ∃ r l, y = ix2 r l := ⟨y 0, y 1, by funext a; fin_cases a <;> rfl⟩
  rw [(outs m c t).2.1, pay_dar m c t _ (half1 m c t)]
  congr 1
  · exact Fin.ext (by blk_simp [idx13 t, rowOf]; show 512 * t.val + r.val = t.val * 512 + r.val; omega)
  · exact Fin.ext (by blk_simp [idx13 t, rowOf]; done)

theorem final_dac (c : Dev nD) : (dats m 0 c).arrAt 14 cfg0.N = fun i : S4096x1024.Idx => (args m c).dac (i 0) (i 1) := by
  refine (dats m 0 c).arrAt_eq_of_covers 14 _ (by decide +kernel) fun t hf y => ?_
  blk_simp
  rw [after0_14]
  obtain ⟨r, l, rfl⟩ : ∃ r l, y = ix2 r l := ⟨y 0, y 1, by funext a; fin_cases a <;> rfl⟩
  rw [(outs m c t).2.2, pay_dac m c t _ (half2 m c t)]
  congr 1
  · exact Fin.ext (by blk_simp [idx14 t, rowOf]; show 512 * t.val + r.val = t.val * 512 + r.val; omega)
  · exact Fin.ext (by blk_simp [idx14 t, rowOf]; done)

/-- The columns of the two gates in the projections' gradient. -/
theorem final_gates (c : Dev nD) (n : Fin 4096) (l : Fin 1024) :
    (dats m 0 c).arrAt 12 cfg0.N (ix2 n ⟨6144 + l.val, by omega⟩) = (args m c).dg1 n l
    ∧ (dats m 0 c).arrAt 12 cfg0.N (ix2 n ⟨7168 + l.val, by omega⟩) = (args m c).dg2 n l := by
  have ht : n.val / 512 < cfg0.N := by rw [show cfg0.N = 8 from N_0]; omega
  have hn : rowOf ⟨n.val / 512, ht⟩ ⟨n.val % 512, by omega⟩ = n := Fin.ext (Nat.div_add_mod _ _)
  have hb := blocks12 m c ⟨n.val / 512, ht⟩ ((by decide +kernel : ∀ t : Fin cfg0.N, (cfg0.win 12).flush t = true) _)
  have key : ∀ x : Fin 2048, (dats m 0 c).arrAt 12 cfg0.N (ix2 n ⟨6144 + x.val, by omega⟩)
      = (outsAt0 m c (n.val / 512) ht).1 (ix2 ⟨n.val % 512, by omega⟩ x) := fun x => by
    have hx := congrFun hb (ix2 ⟨n.val % 512, by omega⟩ x)
    rw [flushed12] at hx
    refine Eq.trans ?_ hx
    show _ = (dats m 0 c).arrAt 12 cfg0.N (((cfg0.win 12).blk ⟨n.val / 512, ht⟩).view.emb (ix2 ⟨n.val % 512, by omega⟩ x))
    congr 1
    funext a
    fin_cases a
    · exact Fin.ext (by blk_simp [idx12 ⟨n.val / 512, ht⟩]; show n.val = n.val / 512 * 512 + n.val % 512; omega)
    · exact Fin.ext (by blk_simp [idx12 ⟨n.val / 512, ht⟩]; show 6144 + x.val = 3 * 2048 + x.val; omega)
  rw [← hn]
  have hg := out_gates m c ⟨n.val / 512, ht⟩ ⟨n.val % 512, by omega⟩ l
  constructor
  · rw [← hg.1, ← key ⟨l.val, by omega⟩, hn]
  · rw [← hg.2, ← key ⟨1024 + l.val, by omega⟩, hn]
    congr 2
    exact Fin.ext (by simp only []; omega)

/-- The gain's gradient in its first row, summed over the points; the other rows are zero. -/
def gain (c : Dev nD) (t : Fin cfg0.N) (i : S8x1024.Idx) : EReal :=
  if (i 0).val = 0 then ∑ r : Fin 512, (args m c).dg (rowOf t r) (i 1) else 0

/-- The row a point adds to what the row held. -/
theorem pay_gain (c : Dev nD) (t : Fin cfg0.N) (v : S1x1024.Idx → EReal) (l : Fin 1024) :
    k0_pay17 (F := Ideal) (k0_pay12 (iblk m c 7 t) (iblk m c 0 t)) v (ix2 0 l) = v (ix2 0 l) + gain m c t (ix2 0 l) := by
  rw [show gain m c t (ix2 0 l) = ∑ r : Fin 512, (args m c).dg (rowOf t r) l from if_pos rfl]
  pointwise [k0_pay17]
  exact congrArg (_ + ·) (pay_dg m c t l)

theorem gain_row (c : Dev nD) (t : Fin cfg0.N) (r : Fin 8) (hr : ¬ r.val = 0) (l : Fin 1024) : gain m c t (ix2 r l) = 0 :=
  if_neg hr

theorem gain_start (c : Dev nD) (t : Fin cfg0.N) (h : t.val % 8 = 0) (i : S8x1024.Idx) :
    (outsAt0 m c t.val t.isLt).2.2.2.1 i = 0 + gain m c t i := by
  obtain ⟨r, l, rfl⟩ : ∃ r l, i = ix2 r l := ⟨i 0, i 1, by funext a; fin_cases a <;> rfl⟩
  rw [outsAt0_A m c t h (by omega)]
  frame_out
  have hz : View.canon (Val := Elt Ideal) (e := .f32) [(⟨Rect.unit ![0, 0] ![8, 1024] inb_S8x1024_S8x1024_0_0, k0_pay8 (F := Ideal)⟩ : View.Piece (Elt Ideal) S8x1024 .f32)] = fun _ => (0 : EReal) := by
    funext y
    obtain ⟨r, l, rfl⟩ : ∃ r l, y = ix2 r l := ⟨y 0, y 1, by funext a; fin_cases a <;> rfl⟩
    rw [Pieces.canon_mem _ _ _ _ (ix2 r l) fun a => by fin_cases a <;> simp [ix2]]
    pointwise [k0_pay8]
  by_cases hr : r.val = 0
  · obtain rfl : r = 0 := Fin.ext hr
    rw [Pieces.canon_mem _ _ _ _ (ix2 0 l) fun a => by fin_cases a <;> simp [ix2]]
    refine (pay_gain m c t _ l).trans (congrArg (· + _) ?_)
    rw [View.readCov_eq_canon_ld _ _ _ fun y => ⟨_, List.mem_singleton_self _, by
      rw [Rect.mem_set_unit]
      intro a
      have := (y a).isLt
      fin_cases a <;> exact ⟨Nat.zero_le _, by simpa using this⟩⟩, hz]
  · rw [Pieces.canon_not_mem _ _ _ _ 0 (.inr (by show 0 + 1 ≤ r.val; omega)), hz, gain_row m c t r hr, add_zero]

/-- A point adds its block's rows to the first row. -/
theorem gain_step (c : Dev nD) (t : Fin cfg0.N) (h : ¬ t.val % 8 = 0) (i : S8x1024.Idx) :
    (outsAt0 m c t.val t.isLt).2.2.2.1 i = (outsAt0 m c (t.val - 1) (Nat.lt_of_le_of_lt (Nat.sub_le _ _) t.isLt)).2.2.2.1 i + gain m c t i := by
  obtain ⟨r, l, rfl⟩ : ∃ r l, i = ix2 r l := ⟨i 0, i 1, by funext a; fin_cases a <;> rfl⟩
  by_cases h7 : t.val % 8 = 7
  all_goals
    first | rw [outsAt0_C m c t h h7] | rw [outsAt0_B m c t h h7]
    frame_out
    by_cases hr : r.val = 0
    · obtain rfl : r = 0 := Fin.ext hr
      rw [Pieces.read_mem _ _ _ _ _ _ (ix2 0 l) fun a => by fin_cases a <;> simp [ix2]]
      rw [pay_gain m c t _ l, Pieces.ld_at _ _ _ (ix2 0 l) fun a => by fin_cases a <;> simp [ix2]]
    · rw [Pieces.read_not_mem _ _ _ _ _ _ 0 (.inr (by show 0 + 1 ≤ r.val; omega)), gain_row m c t r hr, add_zero]
      exact congrFun (Memref.IsWhole.read_unread (hs0_15 t) _) _

/-- The gain's gradient: the sum over all rows, in the first row. -/
theorem final_gain (c : Dev nD) : (dats m 0 c).arrAt 15 cfg0.N
    = fun i : S8x1024.Idx => ∑ t : Fin cfg0.N, gain m c t i := by
  refine (dats m 0 c).arrAt_eq_of_after_last 15 t0_7 (by decide +kernel) _ fun y => ?_
  blk_simp
  rw [after0_15]
  rw [Pipeline.eq_sum_fin_of_reset_step_apply_last (fun n h => (outsAt0 m c n h).2.2.2.1) 8 (fun _ => 0) (fun t i => gain m c t i)
    (fun t h i => gain_start m c t h i) (fun t h i => gain_step m c t h i) (le_of_eq N_0) t0_7 rfl, zero_add]

/-- The run: the results in terms of the arguments, and the arguments unchanged. -/
theorem run : θ_run defs (onTc (τ := τ) (main (F := Ideal))) ⟨m, fun _ => 0, ρ⟩ fun r => ∀ c : Dev nD,
      ((∀ (n : Fin 4096) (l : Fin 1024), r.2.mem ((c.tc : Thread nD τ).loc main_v33_0) (ix2 n ⟨6144 + l.val, by omega⟩) = (args m c).dg1 n l
          ∧ r.2.mem ((c.tc : Thread nD τ).loc main_v33_0) (ix2 n ⟨7168 + l.val, by omega⟩) = (args m c).dg2 n l)
        ∧ r.2.mem ((c.tc : Thread nD τ).loc main_v33_1) = (fun i : S4096x1024.Idx => (args m c).dar (i 0) (i 1))
        ∧ r.2.mem ((c.tc : Thread nD τ).loc main_v33_2) = (fun i : S4096x1024.Idx => (args m c).dac (i 0) (i 1))
        ∧ r.2.mem ((c.tc : Thread nD τ).loc main_v33_4) = (fun i : S8x1024.Idx => ∑ t : Fin cfg0.N, gain m c t i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨⟨fun n l => by rw [(h c).1]; exact final_gates m c n l, (h c).2.1.trans (final_dar m c), (h c).2.2.1.trans (final_dac m c),
        (h c).2.2.2.1.trans (final_gain m c)⟩, (h c).2.2.2.2⟩)
    (run_blocks m ρ)

end Cert.MergeKernelIdeal.Value
end
-- ==== Proof.MergeEq.lean ====
/-
  The merge's backward pass: the reference's stages are the kernel's, and the claim that the results agree.
-/
module

public import proofs.«01_k».proof.Proof.MergeKernelValue
public import proofs.«01_k».proof.Proof.Gen.MergeReferenceIdeal.Run
public import proofs.«01_k».proof.Proof.Gen.MergeReferenceIdeal.Read
public import proofs.«01_k».proof.Proof.Gen.On_merge_mask
public import proofs.«01_k».proof.Defs
public import Idealize.ShloMosaic.Lib.Quiescent

@[expose] public section

set_option maxRecDepth 16384

noncomputable section

open Idealize.ShloMosaic Idealize.ShloMosaic.TcCoe Idealize.SL.Sem

namespace Cert.MergeEq

open Cert.MergeKernelIdeal.Value (Args gate args)
open Cert.MergeReferenceIdeal Cert.MergeReferenceIdeal.Read
open Cert.MergeReferenceIdeal.Value (res_main_v86 res_main_v87 res_main_v88 res_main_v89 res_main_v91)

variable (x0 : S4096x1024.Idx → EReal) (x1 : S4096x8192.Idx → EReal) (x2 x3 : S4096x1024.Idx → EReal) (x4 x5 x6 : S1024x1024.Idx → EReal)
    (x7 : S4x1024.Idx → EReal)

theorem r_ro (n : Fin 4096) (j : Fin 1024) : val_main_v4 (F := Ideal) x2 x4 (ix2 n j) = (Args.of x0 x1 x2 x3 x4 x5 x6 x7).ro n j := by
  pointwise [val_main_v4]
  rfl

theorem r_co (n : Fin 4096) (j : Fin 1024) : val_main_v5 (F := Ideal) x3 x5 (ix2 n j) = (Args.of x0 x1 x2 x3 x4 x5 x6 x7).co n j := by
  pointwise [val_main_v5]
  rfl

theorem r_g1 (n : Fin 4096) (j : Fin 1024) : val_main_v11 (F := Ideal) x1 (ix2 n j) = (Args.of x0 x1 x2 x3 x4 x5 x6 x7).g1 n j := by
  pointwise [val_main_v11, val_main_v10, val_main_v9, val_main_v8, val_main_v7, val_main_v6, val_main_v2, val_main_cst, val_main_cst_0]
  simp only [gate]
  rfl

theorem r_g2 (n : Fin 4096) (j : Fin 1024) : val_main_v21 (F := Ideal) x1 (ix2 n j) = (Args.of x0 x1 x2 x3 x4 x5 x6 x7).g2 n j := by
  pointwise [val_main_v21, val_main_v20, val_main_v19, val_main_v18, val_main_v17, val_main_v16, val_main_v3, val_main_cst_2, val_main_cst_3]
  simp only [gate]
  rfl

theorem r_y (n : Fin 4096) (j : Fin 1024) : val_main_v26 (F := Ideal) x1 x2 x3 x4 x5 (ix2 n j) = (Args.of x0 x1 x2 x3 x4 x5 x6 x7).y n j := by
  pointwise [val_main_v26, val_main_v25, val_main_v15]
  simp only [r_ro x0 x1 x2 x3 x4 x5 x6 x7, r_co x0 x1 x2 x3 x4 x5 x6 x7, r_g1 x0 x1 x2 x3 x4 x5 x6 x7, r_g2 x0 x1 x2 x3 x4 x5 x6 x7]
  rfl

theorem r_z (n : Fin 4096) (j : Fin 1024) : val_main_v27 (F := Ideal) x1 x2 x3 x4 x5 x6 (ix2 n j) = (Args.of x0 x1 x2 x3 x4 x5 x6 x7).z n j := by
  pointwise [val_main_v27]
  simp only [r_y x0 x1 x2 x3 x4 x5 x6 x7]
  rfl

theorem r_q (n : Fin 4096) : val_main_v34 (F := Ideal) x1 x2 x3 x4 x5 x6 (ix2 n 0) = (Args.of x0 x1 x2 x3 x4 x5 x6 x7).q n := by
  pointwise [val_main_v34, val_main_v33, val_main_v32, val_main_v31, val_main_v30, val_main_v29, val_main_v28, val_main_cst_5, val_main_cst_6, val_main_cst_7]
  simp only [r_z x0 x1 x2 x3 x4 x5 x6 x7]
  rfl

theorem r_rs (n : Fin 4096) : val_main_v35 (F := Ideal) x1 x2 x3 x4 x5 x6 (ix2 n 0) = (Args.of x0 x1 x2 x3 x4 x5 x6 x7).rs n := by
  pointwise [val_main_v35]
  simp only [r_q x0 x1 x2 x3 x4 x5 x6 x7]
  rfl

theorem r_cg (n : Fin 4096) (j : Fin 1024) : val_main_v48 (F := Ideal) x0 x7 (ix2 n j) = (Args.of x0 x1 x2 x3 x4 x5 x6 x7).cg n j := by
  pointwise [val_main_v48, val_main_v47, val_main_v41, val_main_v1, val_main_v0]
  rfl

theorem r_back (n : Fin 4096) (j : Fin 1024) : val_main_v59 (F := Ideal) x0 x1 x2 x3 x4 x5 x6 x7 (ix2 n j) = (Args.of x0 x1 x2 x3 x4 x5 x6 x7).back n := by
  pointwise [val_main_v59, val_main_v58, val_main_v57, val_main_v56, val_main_v55, val_main_v52, val_main_v51, val_main_v50, val_main_v38, val_main_v37, val_main_v36, val_main_cst_8, val_main_cst_11, val_main_cst_12, val_main_cst_13]
  simp only [r_cg x0 x1 x2 x3 x4 x5 x6 x7, r_z x0 x1 x2 x3 x4 x5 x6 x7, r_q x0 x1 x2 x3 x4 x5 x6 x7, r_rs x0 x1 x2 x3 x4 x5 x6 x7, Fin.sum_univ_one]
  rfl

theorem r_dz (n : Fin 4096) (j : Fin 1024) : val_main_v63 (F := Ideal) x0 x1 x2 x3 x4 x5 x6 x7 (ix2 n j) = (Args.of x0 x1 x2 x3 x4 x5 x6 x7).dz n j := by
  pointwise [val_main_v63, val_main_v62, val_main_v61, val_main_v60, val_main_v54, val_main_v53]
  simp only [r_cg x0 x1 x2 x3 x4 x5 x6 x7, r_z x0 x1 x2 x3 x4 x5 x6 x7, r_rs x0 x1 x2 x3 x4 x5 x6 x7, r_back x0 x1 x2 x3 x4 x5 x6 x7]
  rfl

theorem r_dy (n : Fin 4096) (j : Fin 1024) : val_main_v66 (F := Ideal) x0 x1 x2 x3 x4 x5 x6 x7 (ix2 n j) = (Args.of x0 x1 x2 x3 x4 x5 x6 x7).dy n j := by
  pointwise [val_main_v66]
  simp only [r_dz x0 x1 x2 x3 x4 x5 x6 x7]
  rfl

theorem r_dg1 (n : Fin 4096) (j : Fin 1024) : val_main_v86 (F := Ideal) x0 x1 x2 x3 x4 x5 x6 x7 (ix2 n ⟨6144 + j.val, by omega⟩) = (Args.of x0 x1 x2 x3 x4 x5 x6 x7).dg1 n j := by
  pointwise [val_main_v86, val_main_v81, val_main_v80, val_main_v79, val_main_v72, val_main_v69, val_main_v71, val_main_v14, val_main_v13, val_main_v12, val_main_cst_1, val_main_cst_14, val_main_cst_15]
  rw [dif_neg (by omega), zero_add]
  simp only [r_dy x0 x1 x2 x3 x4 x5 x6 x7, r_ro x0 x1 x2 x3 x4 x5 x6 x7, r_g1 x0 x1 x2 x3 x4 x5 x6 x7]
  exact (mul_assoc _ _ _).symm

theorem r_dg2 (n : Fin 4096) (j : Fin 1024) : val_main_v86 (F := Ideal) x0 x1 x2 x3 x4 x5 x6 x7 (ix2 n ⟨7168 + j.val, by omega⟩) = (Args.of x0 x1 x2 x3 x4 x5 x6 x7).dg2 n j := by
  pointwise [val_main_v86, val_main_v81, val_main_v80, val_main_v79, val_main_v72, val_main_v69, val_main_v68, val_main_v24, val_main_v23, val_main_v22, val_main_cst_4, val_main_cst_14, val_main_cst_15]
  rw [dif_neg (by omega), add_zero]
  simp only [r_dy x0 x1 x2 x3 x4 x5 x6 x7, r_co x0 x1 x2 x3 x4 x5 x6 x7, r_g2 x0 x1 x2 x3 x4 x5 x6 x7]
  exact (mul_assoc _ _ _).symm

theorem r_dg (j : Fin 1024) : val_main_v91 (F := Ideal) x0 x1 x2 x3 x4 x5 x6 (ix2 0 j) = ∑ n, (Args.of x0 x1 x2 x3 x4 x5 x6 x7).dg n j := by
  pointwise [val_main_v91, val_main_v90, val_main_v49, val_main_v46, val_main_v45, val_main_v44, val_main_v40, val_main_v39, val_main_cst_9, val_main_cst_10]
  rw [Fin.sum_univ_one]
  simp only [r_z x0 x1 x2 x3 x4 x5 x6 x7, r_rs x0 x1 x2 x3 x4 x5 x6 x7]
  rfl

theorem r_dg_rest (r : Fin 8) (h : ¬ r.val = 0) (j : Fin 1024) : val_main_v91 (F := Ideal) x0 x1 x2 x3 x4 x5 x6 (ix2 r j) = (0 : EReal) := by
  pointwise [val_main_v91]
  split_ifs with h1
  · omega
  · show ((((0#32 : BitVec 32).toInt : ℤ) : ℝ) : EReal) = 0
    simp

theorem r_dar (n : Fin 4096) (j : Fin 1024) : val_main_v87 (F := Ideal) x0 x1 x2 x3 x4 x5 x6 x7 (ix2 n j) = (Args.of x0 x1 x2 x3 x4 x5 x6 x7).dar n j := by
  pointwise [val_main_v87, val_main_v78, val_main_v70]
  simp only [r_g1 x0 x1 x2 x3 x4 x5 x6 x7, r_dy x0 x1 x2 x3 x4 x5 x6 x7]
  exact Finset.sum_congr rfl fun k _ => congrArg (· * _) (mul_comm _ _)

theorem r_dac (n : Fin 4096) (j : Fin 1024) : val_main_v88 (F := Ideal) x0 x1 x2 x3 x4 x5 x6 x7 (ix2 n j) = (Args.of x0 x1 x2 x3 x4 x5 x6 x7).dac n j := by
  pointwise [val_main_v88, val_main_v75, val_main_v67]
  simp only [r_g2 x0 x1 x2 x3 x4 x5 x6 x7, r_dy x0 x1 x2 x3 x4 x5 x6 x7]
  exact Finset.sum_congr rfl fun k _ => congrArg (· * _) (mul_comm _ _)

/-- The gain's gradient, by points and rows, is the sum over all rows. -/
theorem gain_sum (F : Fin 4096 → EReal) : ∑ t : Fin Cert.MergeKernelIdeal.cfg0.N, ∑ r : Fin 512, F (Cert.MergeKernelIdeal.Value.rowOf t r) = ∑ n, F n := by
  rw [← Fin.sum_mul_add_fin 8 512 F, ← Equiv.sum_comp (finCongr Cert.MergeKernelIdeal.Gen.N_0.symm)]
  refine Finset.sum_congr rfl fun t _ => Finset.sum_congr rfl fun r _ => ?_
  exact congrArg F (Fin.ext (by show 512 * t.val + r.val = t.val * 512 + r.val; omega))

/-- The other rows of the gain's gradient stay zero. -/
theorem gain_rest (m : (ℓ : Loc Cert.MergeKernelIdeal.nD Cert.MergeKernelIdeal.τ Cert.MergeKernelIdeal.sig) → Buf (Elt Ideal) ℓ)
    (c : Dev Cert.MergeKernelIdeal.nD) {r : Fin 8} {l : Fin 1024} (h : ¬ r.val = 0) :
    ∑ t : Fin Cert.MergeKernelIdeal.cfg0.N, Cert.MergeKernelIdeal.Value.gain m c t (ix2 r l) = (0 : EReal) :=
  Finset.sum_eq_zero fun t _ => if_neg h

/-- The first row is the gain's gradient. -/
theorem gain_first (m : (ℓ : Loc Cert.MergeKernelIdeal.nD Cert.MergeKernelIdeal.τ Cert.MergeKernelIdeal.sig) → Buf (Elt Ideal) ℓ)
    (c : Dev Cert.MergeKernelIdeal.nD) (l : Fin 1024) :
    ∑ t : Fin Cert.MergeKernelIdeal.cfg0.N, Cert.MergeKernelIdeal.Value.gain m c t (ix2 0 l) = ∑ n, (args m c).dg n l := by
  rw [← gain_sum]
  exact Finset.sum_congr rfl fun t _ => if_pos rfl

/-- Where the mask of the packed gradient stands, the column is one of the last 2048. -/
theorem mask_col (n : Fin 4096) (l : Fin 8192)
    (h : (Cert.On_merge_mask.fn (F := Ideal) x0 x1 x2 x3 x4 x5 x6 x7).1 (ix2 n l) = 1#1) : 6144 ≤ l.val :=
  (by decide +kernel : ∀ l : Fin 8192, BitVec.ofBool ((6144#32 : BitVec 32).sle (BitVec.ofNat 32 l.val)) = 1#1 → 6144 ≤ l.val) l h

/-- The claim. -/
theorem value : Cert.algebraic_MergeKernelIdeal_MergeReferenceIdeal_on_merge_mask
    (hMergeKernelIdeal := Cert.MergeKernelIdeal.Gen.facts) (hMergeReferenceIdeal := Cert.MergeReferenceIdeal.Gen.facts)
    (hOn_merge_mask := Cert.On_merge_mask.Gen.facts) := by
  intro m g m' g' _ hargs
  refine ⟨fun c => res_main_v86 m' c, fun c => res_main_v87 m' c, fun c => res_main_v88 m' c, fun c => res_main_v89 m' c, fun c => res_main_v91 m' c,
    (θ_run _ _ _).mono (fun r h c => ?_) (Cert.MergeKernelIdeal.Value.run m g), (θ_run _ _ _).mono (fun r h c => ?_) (Cert.MergeReferenceIdeal.Value.run m' g')⟩
  · obtain ⟨⟨hg, hr, hc, hn⟩, hk⟩ := h c
    refine ⟨fun i hi => ?_, fun i _ => ?_, fun i _ => ?_, fun i hi => ?_, fun i _ => ?_, hk⟩
    all_goals simp only [val_main_v86_eq, val_main_v87_eq, val_main_v88_eq, val_main_v91_eq, hargs]
    · obtain ⟨n, l, rfl⟩ : ∃ n l, i = ix2 n l := ⟨i 0, i 1, by funext a; fin_cases a <;> rfl⟩
      have hl := mask_col (h := hi)
      by_cases h7 : l.val < 7168
      · obtain ⟨j, rfl⟩ : ∃ j : Fin 1024, l = ⟨6144 + j.val, by clear * - j; omega⟩ := ⟨⟨l.val - 6144, by omega⟩, Fin.ext (by show l.val = 6144 + (l.val - 6144); omega)⟩
        exact (hg n j).1.trans (r_dg1 ..).symm
      · obtain ⟨j, rfl⟩ : ∃ j : Fin 1024, l = ⟨7168 + j.val, by clear * - j; omega⟩ := ⟨⟨l.val - 7168, by omega⟩, Fin.ext (by show l.val = 7168 + (l.val - 7168); omega)⟩
        exact (hg n j).2.trans (r_dg2 ..).symm
    · obtain ⟨n, l, rfl⟩ : ∃ n l, i = ix2 n l := ⟨i 0, i 1, by funext a; fin_cases a <;> rfl⟩
      exact (congrFun hr _).trans (r_dar ..).symm
    · obtain ⟨n, l, rfl⟩ : ∃ n l, i = ix2 n l := ⟨i 0, i 1, by funext a; fin_cases a <;> rfl⟩
      exact (congrFun hc _).trans (r_dac ..).symm
    · exact absurd hi (by decide : ¬ (0#1 : BitVec 1) = 1#1)
    · obtain ⟨r, l, rfl⟩ : ∃ n l, i = ix2 n l := ⟨i 0, i 1, by funext a; fin_cases a <;> rfl⟩
      refine (congrFun hn _).trans ?_
      by_cases h0 : r.val = 0
      · obtain rfl : r = 0 := Fin.ext h0
        exact (gain_first m c l).trans (r_dg (x7 := m ((c.tc : Thread Cert.MergeKernelIdeal.nD Cert.MergeKernelIdeal.τ).loc Cert.MergeKernelIdeal.main_arg7)) ..).symm
      · exact (gain_rest m c h0).trans (r_dg_rest (h := h0) ..).symm
  · obtain ⟨h0, h1, h2, h3, h4, hr⟩ := h c
    exact ⟨fun i _ => congrFun h0 i, fun i _ => congrFun h1 i, fun i _ => congrFun h2 i, fun i _ => congrFun h3 i, fun i _ => congrFun h4 i, hr⟩

/-- The reference runs, leaves its arguments, and declares no semaphore. -/
theorem frame_ref : Cert.quiescent_MergeReferenceIdeal (hMergeReferenceIdeal := Cert.MergeReferenceIdeal.Gen.facts) :=
  fun m ρ _ => (θ_run Cert.MergeReferenceIdeal.defs _ _).mono
    (fun r h => ⟨fun c => (h c).2.2.2.2.2, sem_eq_zero_of_no_sems (by decide) r.2⟩) (Cert.MergeReferenceIdeal.Value.run m ρ)

end Cert.MergeEq

end
-- ==== Proof.InKernelValue.lean ====
/-
  The input projection and its norm, backward: what the kernel's frame run leaves in its result arrays, in terms of the
  arguments.
-/
module

public import proofs.«01_k».proof.Proof.Gen.InKernelIdeal.Value
public import proofs.«01_k».proof.Proof.Pieces
public import Idealize.ShloMosaic.Lib.Pipeline.ValueKit
public import Idealize.ShloMosaic.Lib.Pointwise
public import Idealize.ShloMosaic.Lib.IdealHost
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InKernelIdeal.Value

open Cert.InKernelIdeal Cert.InKernelIdeal.Gen

/-- The arguments, as functions of the row and the column: the cotangent of the stream and of the projection, the stream,
    the gain, the weight. -/
structure Args where
  dh : Fin 4096 → Fin 1024 → EReal
  dp : Fin 4096 → Fin 8192 → EReal
  x : Fin 4096 → Fin 1024 → EReal
  g : Fin 1024 → EReal
  w : Fin 1024 → Fin 8192 → EReal

namespace Args

/-- The functions that arrays hold. -/
def of (x0 : S4096x1024.Idx → EReal) (x1 : S4096x8192.Idx → EReal) (x2 : S4096x1024.Idx → EReal) (x3 : S4x1024.Idx → EReal)
    (x4 : S1024x8192.Idx → EReal) : Args where
  dh n j := x0 (ix2 n j)
  dp n j := x1 (ix2 n j)
  x n j := x2 (ix2 n j)
  g j := x3 (ix2 3 j)
  w k j := x4 (ix2 k j)

variable (A : Args)

/-- The gradient of the normed rows: the projection's cotangent times the weight's transpose. -/
def dn (n : Fin 4096) (j : Fin 1024) : EReal := ∑ k : Fin 8192, A.dp n k * A.w j k

/-- The norm's mean square and its root's reciprocal. -/
def q (n : Fin 4096) : EReal :=
  Ideal.div (∑ j : Fin 1024, A.x n j * A.x n j) (Ideal.ofBits .f32 0x44800000#32) + Ideal.ofBits .f32 0x358637BD#32
def rs (n : Fin 4096) : EReal := Ideal.rsqrt (A.q n)

/-- The cotangent times the gain, and what the norm's scale passes back to each column. -/
def cg (n : Fin 4096) (j : Fin 1024) : EReal := A.dn n j * A.g j
def back (n : Fin 4096) : EReal :=
  Ideal.div ((∑ j : Fin 1024, A.x n j * A.cg n j) * (Ideal.ofBits .f32 0xBF000000#32 * Ideal.div (A.rs n) (A.q n)))
    (Ideal.ofBits .f32 0x44800000#32)

/-- The gradients of the stream and of the gain. -/
def dx (n : Fin 4096) (j : Fin 1024) : EReal := A.dh n j + (A.cg n j * A.rs n + A.x n j * A.back n + A.back n * A.x n j)
def dg (n : Fin 4096) (j : Fin 1024) : EReal := A.x n j * A.rs n * A.dn n j

/-- The product by four ranges of columns. -/
theorem dn_ranges (n : Fin 4096) (j : Fin 1024) : A.dn n j
    = ∑ k : Fin 2048, A.dp n ⟨k.val, by omega⟩ * A.w j ⟨k.val, by omega⟩
      + ∑ k : Fin 2048, A.dp n ⟨2048 + k.val, by omega⟩ * A.w j ⟨2048 + k.val, by omega⟩
      + ∑ k : Fin 2048, A.dp n ⟨4096 + k.val, by omega⟩ * A.w j ⟨4096 + k.val, by omega⟩
      + ∑ k : Fin 2048, A.dp n ⟨6144 + k.val, by omega⟩ * A.w j ⟨6144 + k.val, by omega⟩ := by
  unfold dn
  rw [← Fin.sum_mul_add_fin 4 2048 fun k => A.dp n k * A.w j k, Fin.sum_univ_four]
  simp

end Args

variable (m : (ℓ : Loc nD τ sig) → Buf (Elt Ideal) ℓ) (ρ : Dev nD → PrngReg)

/-- The arguments in memory. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4))

theorem arr3 (c : Dev nD) (n : Fin 4096) (l : Fin 8192) : V m c main_v3 (ix2 n l) = (args m c).dp n l := by
  show StableHlo.after [hostOps0].flatten (fun b => m (c, b)) _ _ = _
  simp only [List.flatten_cons, List.flatten_nil, List.append_nil]
  after_results
  pointwise
  rfl

theorem arr4 (c : Dev nD) (l : Fin 1024) : V m c main_v4 (ix3 3 0 l) = (args m c).g l := by
  show StableHlo.after [hostOps0].flatten (fun b => m (c, b)) _ _ = _
  simp only [List.flatten_cons, List.flatten_nil, List.append_nil]
  after_results
  pointwise
  rfl

theorem arr2 (c : Dev nD) (a : Fin 4) (j : Fin 1024) (l : Fin 2048) :
    V m c main_v2 (ix3 a j l) = (args m c).w j ⟨2048 * a.val + l.val, by omega⟩ := by
  show StableHlo.after [hostOps0].flatten (fun b => m (c, b)) _ _ = _
  simp only [List.flatten_cons, List.flatten_nil, List.append_nil]
  after_results
  pointwise
  unfold args Args.of
  congr 2
  exact Fin.ext (by simp only []; omega)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![3, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The row of the array that point `t` reads at row `r` of its block. -/
def rowOf (t : Fin cfg0.N) (r : Fin 512) : Fin 4096 :=
  ⟨512 * t.val + r.val, by have := lt_of_lt_of_eq t.isLt N_0; omega⟩

theorem blk0 (c : Dev nD) (t : Fin cfg0.N) (r : Fin 512) (l : Fin 1024) :
    iblk m c 0 t (ix2 r l) = (args m c).dh (rowOf t r) l := by
  show _ = V m c main_arg0 (ix2 (rowOf t r) l)
  blk_ext [iblk, V, idx0 t, rowOf]

theorem blk1 (c : Dev nD) (t : Fin cfg0.N) (r : Fin 512) (l : Fin 8192) :
    iblk m c 1 t (ix2 r l) = (args m c).dp (rowOf t r) l := by
  rw [← arr3 m c]
  blk_ext [iblk, V, idx1 t, rowOf]

theorem blk2 (c : Dev nD) (t : Fin cfg0.N) (r : Fin 512) (l : Fin 1024) :
    iblk m c 2 t (ix2 r l) = (args m c).x (rowOf t r) l := by
  show _ = V m c main_arg2 (ix2 (rowOf t r) l)
  blk_ext [iblk, V, idx2 t, rowOf]

theorem blk3 (c : Dev nD) (t : Fin cfg0.N) (l : Fin 1024) :
    iblk m c 3 t (ix3 0 0 l) = (args m c).g l := by
  rw [← arr4 m c]
  blk_ext [iblk, V, idx3 t]

theorem blk4 (c : Dev nD) (t : Fin cfg0.N) (a : Fin 4) (j : Fin 1024) (l : Fin 2048) :
    iblk m c 4 t (ix3 a j l) = (args m c).w j ⟨2048 * a.val + l.val, by omega⟩ := by
  rw [← arr2 m c]
  blk_ext [iblk, V, idx4 t]

/-- The gradient of the normed rows, as the body computes it from point `t`'s blocks. -/
abbrev body (c : Dev nD) (t : Fin cfg0.N) : FVec Ideal S512x1024 .f32 :=
  k0_pay2 (View.ld (iblk m c 1 t) (Rect.unit ![0, 0] ![512, 2048] inb_S512x8192_S512x2048_0_0))
    (View.ld (iblk m c 4 t) (Rect.unit ![0, 0, 0] ![1, 1024, 2048] inb_S4x1024x2048_S1x1024x2048_0_0_0))
    (View.ld (iblk m c 1 t) (Rect.unit ![0, 2048] ![512, 2048] inb_S512x8192_S512x2048_0_2048))
    (View.ld (iblk m c 4 t) (Rect.unit ![1, 0, 0] ![1, 1024, 2048] inb_S4x1024x2048_S1x1024x2048_1_0_0))
    (View.ld (iblk m c 1 t) (Rect.unit ![0, 4096] ![512, 2048] inb_S512x8192_S512x2048_0_4096))
    (View.ld (iblk m c 4 t) (Rect.unit ![2, 0, 0] ![1, 1024, 2048] inb_S4x1024x2048_S1x1024x2048_2_0_0))
    (View.ld (iblk m c 1 t) (Rect.unit ![0, 6144] ![512, 2048] inb_S512x8192_S512x2048_0_6144))
    (View.ld (iblk m c 4 t) (Rect.unit ![3, 0, 0] ![1, 1024, 2048] inb_S4x1024x2048_S1x1024x2048_3_0_0))

theorem body_at (c : Dev nD) (t : Fin cfg0.N) (r : Fin 512) (j : Fin 1024) : body m c t (ix2 r j) = (args m c).dn (rowOf t r) j := by
  rw [Args.dn_ranges]
  unfold body
  pointwise [k0_pay2]
  simp only [blk1, blk4]
  refine congrArg (· + _) (congrArg (· + _) (congrArg (· + _) (Finset.sum_congr rfl fun k _ => ?_)))
  exact congrArg (_ * ·) (congrArg ((args m c).w j) (Fin.ext (Nat.zero_add k.val)))

theorem pay_q (c : Dev nD) (t : Fin cfg0.N) (r : Fin 512) : k0_pay3 (F := Ideal) (iblk m c 2 t) (ix2 r 0) = (args m c).q (rowOf t r) := by
  pointwise [k0_pay3]
  simp only [blk2]
  rfl

theorem pay_rs (c : Dev nD) (t : Fin cfg0.N) (r : Fin 512) : k0_pay4 (F := Ideal) (iblk m c 2 t) (ix2 r 0) = (args m c).rs (rowOf t r) := by
  pointwise [k0_pay4]
  rw [pay_q]
  rfl

theorem pay_dx (c : Dev nD) (t : Fin cfg0.N) (r : Fin 512) (j : Fin 1024) :
    k0_pay5 (body m c t) (iblk m c 2 t) (iblk m c 3 t) (iblk m c 0 t) (ix2 r j) = (args m c).dx (rowOf t r) j := by
  pointwise [k0_pay5]
  simp only [Fin.sum_univ_one, body_at, pay_q, pay_rs, blk0, blk2, blk3]
  rfl

/-- The gain's row: the row before plus the block's rows. -/
theorem pay_dg (c : Dev nD) (t : Fin cfg0.N) (p : Vec Ideal S1x1024 .f32) (j : Fin 1024) :
    k0_pay6 (body m c t) (iblk m c 2 t) p (ix2 0 j) = p (ix2 0 j) + ∑ r : Fin 512, (args m c).dg (rowOf t r) j := by
  pointwise [k0_pay6]
  simp only [body_at, pay_rs, blk2]
  rfl

theorem outs (c : Dev nD) (t : Fin cfg0.N) (r : Fin 512) (j : Fin 1024) : (outsAt0 m c t.val t.isLt).1 (ix2 r j) = (args m c).dx (rowOf t r) j := by
  by_cases h : t.val % 8 = 0
  all_goals
    first | rw [outsAt0_A m c t h] | rw [outsAt0_B m c t h]
    frame_out
    exact pay_dx m c t r j

theorem final_dx (c : Dev nD) : (dats m 0 c).arrAt 5 cfg0.N = fun i : S4096x1024.Idx => (args m c).dx (i 0) (i 1) := by
  refine (dats m 0 c).arrAt_eq_of_covers 5 _ (by decide +kernel) fun t hf y => ?_
  obtain ⟨r, l, rfl⟩ : ∃ r l, y = ix2 r l := ⟨y 0, y 1, by funext a; fin_cases a <;> rfl⟩
  blk_simp [idx5 t]
  rw [after0_5]
  rw [outs m c t]
  congr 1
  · exact Fin.ext (by blk_simp [idx5 t, rowOf]; show 512 * t.val + r.val = t.val * 512 + r.val; omega)
  · exact Fin.ext (by blk_simp [idx5 t, rowOf]; done)

/-- What point `t` adds to the gain's window: its rows' sum, in the first row. -/
def gain (c : Dev nD) (t : Fin cfg0.N) (i : S8x1024.Idx) : EReal :=
  if (i 0).val = 0 then ∑ r : Fin 512, (args m c).dg (rowOf t r) (i 1) else 0

theorem gain_row (c : Dev nD) (t : Fin cfg0.N) (r : Fin 8) (h : ¬ r.val = 0) (l : Fin 1024) : gain m c t (ix2 r l) = 0 := if_neg h

theorem pay_gain (c : Dev nD) (t : Fin cfg0.N) (p : Vec Ideal S1x1024 .f32) (l : Fin 1024) :
    k0_pay6 (body m c t) (iblk m c 2 t) p (ix2 0 l) = p (ix2 0 l) + gain m c t (ix2 0 l) := by
  rw [pay_dg, show gain m c t (ix2 0 l) = ∑ r : Fin 512, (args m c).dg (rowOf t r) l from if_pos rfl]

/-- The first point stores zeros and adds its rows. -/
theorem gain_start (c : Dev nD) (t : Fin cfg0.N) (h : t.val % 8 = 0) (i : S8x1024.Idx) :
    (outsAt0 m c t.val t.isLt).2 i = 0 + gain m c t i := by
  obtain ⟨r, l, rfl⟩ : ∃ r l, i = ix2 r l := ⟨i 0, i 1, by funext a; fin_cases a <;> rfl⟩
  rw [zero_add, outsAt0_A m c t h]
  frame_out
  have hz : View.canon (Val := Elt Ideal) (e := .f32) [(⟨Rect.unit ![0, 0] ![8, 1024] inb_S8x1024_S8x1024_0_0, k0_pay1 (F := Ideal)⟩ : View.Piece (Elt Ideal) S8x1024 .f32)] = fun _ => (0 : EReal) := by
    funext y
    obtain ⟨r, l, rfl⟩ : ∃ r l, y = ix2 r l := ⟨y 0, y 1, by funext a; fin_cases a <;> rfl⟩
    rw [Pieces.canon_mem _ _ _ _ (ix2 r l) fun a => by fin_cases a <;> simp [ix2]]
    pointwise [k0_pay1]
  by_cases hr : r.val = 0
  · obtain rfl : r = 0 := Fin.ext hr
    rw [Pieces.canon_mem _ _ _ _ (ix2 0 l) fun a => by fin_cases a <;> simp [ix2]]
    refine (pay_gain m c t _ l).trans ?_
    rw [View.readCov_eq_canon_ld _ _ _ fun y => ⟨_, List.mem_singleton_self _, by
      rw [Rect.mem_set_unit]
      intro a
      have := (y a).isLt
      fin_cases a <;> exact ⟨Nat.zero_le _, by simpa using this⟩⟩, hz]
    exact zero_add _
  · rw [Pieces.canon_not_mem _ _ _ _ 0 (.inr (by show 0 + 1 ≤ r.val; omega)), hz, gain_row m c t r hr]

/-- A later point adds its rows to what is there. -/
theorem gain_step (c : Dev nD) (t : Fin cfg0.N) (h : ¬ t.val % 8 = 0) (i : S8x1024.Idx) :
    (outsAt0 m c t.val t.isLt).2 i = (outsAt0 m c (t.val - 1) (Nat.lt_of_le_of_lt (Nat.sub_le _ _) t.isLt)).2 i + gain m c t i := by
  obtain ⟨r, l, rfl⟩ : ∃ r l, i = ix2 r l := ⟨i 0, i 1, by funext a; fin_cases a <;> rfl⟩
  rw [outsAt0_B m c t h]
  frame_out
  by_cases hr : r.val = 0
  · obtain rfl : r = 0 := Fin.ext hr
    rw [Pieces.read_mem _ _ _ _ _ _ (ix2 0 l) fun a => by fin_cases a <;> simp [ix2]]
    refine (pay_gain m c t _ l).trans ?_
    rw [Pieces.ld_at _ _ _ (ix2 0 l) fun a => by fin_cases a <;> simp [ix2]]
  · rw [Pieces.read_not_mem _ _ _ _ _ _ 0 (.inr (by show 0 + 1 ≤ r.val; omega)), gain_row m c t r hr, add_zero]
    exact congrFun (Memref.IsWhole.read_unread (hs0_6 t) _) _

theorem final_gain (c : Dev nD) : (dats m 0 c).arrAt 6 cfg0.N = fun i : S8x1024.Idx => ∑ t : Fin cfg0.N, gain m c t i := by
  refine (dats m 0 c).arrAt_eq_of_after_last 6 t0_7 (by decide +kernel) _ fun y => ?_
  blk_simp
  rw [after0_6]
  rw [Pipeline.eq_sum_fin_of_reset_step_apply_last (fun n h => (outsAt0 m c n h).2) 8 (fun _ => 0) (fun t i => gain m c t i)
    (fun t h i => gain_start m c t h i) (fun t h i => gain_step m c t h i) (le_of_eq N_0) t0_7 rfl, zero_add]

/-- The run: the results in terms of the arguments, and the arguments unchanged. -/
theorem run : θ_run defs (onTc (τ := τ) (main (F := Ideal))) ⟨m, fun _ => 0, ρ⟩ fun r => ∀ c : Dev nD,
      (r.2.mem ((c.tc : Thread nD τ).loc main_v5_0) = (fun i : S4096x1024.Idx => (args m c).dx (i 0) (i 1))
        ∧ r.2.mem ((c.tc : Thread nD τ).loc main_v5_1) = (fun i : S8x1024.Idx => ∑ t : Fin cfg0.N, gain m c t i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨⟨(h c).1.trans (final_dx m c), (h c).2.1.trans (final_gain m c)⟩, (h c).2.2⟩) (run_blocks m ρ)

end Cert.InKernelIdeal.Value
end
-- ==== Proof.InEq.lean ====
/-
  The input projection's and its norm's backward pass: the reference's stages are the kernel's, and the claim that the results agree.
-/
module

public import proofs.«01_k».proof.Proof.InKernelValue
public import proofs.«01_k».proof.Proof.Gen.InReferenceIdeal.Run
public import proofs.«01_k».proof.Proof.Gen.InReferenceIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.InEq

open Cert.InKernelIdeal.Value (Args args)
open Cert.InReferenceIdeal Cert.InReferenceIdeal.Read
open Cert.InReferenceIdeal.Value (res_main_v40)

variable (x0 : S4096x1024.Idx → EReal) (x1 : S4096x8192.Idx → EReal) (x2 : S4096x1024.Idx → EReal) (x3 : S4x1024.Idx → EReal)
    (x4 : S1024x8192.Idx → EReal)

theorem r_dn (n : Fin 4096) (j : Fin 1024) : val_main_v19 (F := Ideal) x1 x4 (ix2 n j) = (Args.of x0 x1 x2 x3 x4).dn n j := by
  pointwise [val_main_v19]
  rfl

theorem r_q (n : Fin 4096) : val_main_v8 (F := Ideal) x2 (ix2 n 0) = (Args.of x0 x1 x2 x3 x4).q n := by
  pointwise [val_main_v8, val_main_v7, val_main_v6, val_main_v5, val_main_v4, val_main_v3, val_main_v2, val_main_cst, val_main_cst_0, val_main_cst_1]
  rfl

theorem r_rs (n : Fin 4096) : val_main_v9 (F := Ideal) x2 (ix2 n 0) = (Args.of x0 x1 x2 x3 x4).rs n := by
  pointwise [val_main_v9]
  rw [r_q x0 x1 x2 x3 x4]
  rfl

theorem r_cg (n : Fin 4096) (j : Fin 1024) : val_main_v24 (F := Ideal) x1 x3 x4 (ix2 n j) = (Args.of x0 x1 x2 x3 x4).cg n j := by
  pointwise [val_main_v24, val_main_v23, val_main_v15, val_main_v1, val_main_v0]
  rw [r_dn x0 x1 x2 x3 x4]
  rfl

theorem r_back (n : Fin 4096) (j : Fin 1024) : val_main_v36 (F := Ideal) x1 x2 x3 x4 (ix2 n j) = (Args.of x0 x1 x2 x3 x4).back n := by
  pointwise [val_main_v36, val_main_v35, val_main_v34, val_main_v33, val_main_v32, val_main_v28, val_main_v27, val_main_v26, val_main_v12, val_main_v11, val_main_v10, val_main_cst_2, val_main_cst_5, val_main_cst_6, val_main_cst_7]
  rw [Fin.sum_univ_one]
  simp only [r_cg x0 x1 x2 x3 x4, r_rs x0 x1 x2 x3 x4, r_q x0 x1 x2 x3 x4]
  rfl

theorem r_dx (n : Fin 4096) (j : Fin 1024) : val_main_v40 (F := Ideal) x0 x1 x2 x3 x4 (ix2 n j) = (Args.of x0 x1 x2 x3 x4).dx n j := by
  pointwise [val_main_v40, val_main_v39, val_main_v38, val_main_v37, val_main_v31, val_main_v30, val_main_v29]
  simp only [r_cg x0 x1 x2 x3 x4, r_rs x0 x1 x2 x3 x4, r_back x0 x1 x2 x3 x4]
  exact (congrArg (· + _) (add_assoc _ _ _)).trans (add_assoc _ _ _)

theorem r_dg (j : Fin 1024) : val_main_v42 (F := Ideal) x1 x2 x4 (ix2 0 j) = ∑ n, (Args.of x0 x1 x2 x3 x4).dg n j := by
  pointwise [val_main_v42, val_main_v41, val_main_v25, val_main_v22, val_main_v21, val_main_v20, val_main_v14, val_main_v13, val_main_cst_3, val_main_cst_4]
  rw [Fin.sum_univ_one]
  simp only [r_dn x0 x1 x2 x3 x4, r_rs x0 x1 x2 x3 x4]
  rfl

theorem r_dg_rest (r : Fin 8) (h : ¬ r.val = 0) (j : Fin 1024) : val_main_v42 (F := Ideal) x1 x2 x4 (ix2 r j) = (0 : EReal) := by
  pointwise [val_main_v42]
  split_ifs with h1
  · omega
  · show ((((0#32 : BitVec 32).toInt : ℤ) : ℝ) : EReal) = 0
    simp

/-- The gain's gradient, by points and rows, is the sum over all rows in the first row, and zero below. -/
theorem r_gain (m : (ℓ : Loc Cert.InKernelIdeal.nD Cert.InKernelIdeal.τ Cert.InKernelIdeal.sig) → Buf (Elt Ideal) ℓ)
    (c : Dev Cert.InKernelIdeal.nD) (r : Fin 8) (l : Fin 1024) :
    ∑ t : Fin Cert.InKernelIdeal.cfg0.N, Cert.InKernelIdeal.Value.gain m c t (ix2 r l) = if r.val = 0 then ∑ n, (args m c).dg n l else (0 : EReal) := by
  split_ifs with h
  · rw [← Fin.sum_mul_add_fin 8 512 fun n => (args m c).dg n l, ← Equiv.sum_comp (finCongr Cert.InKernelIdeal.Gen.N_0.symm)]
    refine Finset.sum_congr rfl fun t _ => (if_pos h).trans (Finset.sum_congr rfl fun k _ => ?_)
    exact congrArg (fun n => (args m c).dg n l) (Fin.ext (by show 512 * t.val + k.val = t.val * 512 + k.val; omega))
  · exact Finset.sum_eq_zero fun t _ => if_neg h

/-- The claim. -/
theorem value : Cert.algebraic_InKernelIdeal_InReferenceIdeal
    (hInKernelIdeal := Cert.InKernelIdeal.Gen.facts) (hInReferenceIdeal := Cert.InReferenceIdeal.Gen.facts) := by
  intro m g m' g' _ hargs
  refine ⟨fun c => res_main_v40 m' c, fun c => val_main_v42 (F := Ideal) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2))
      (m ((c.tc : Thread Cert.InKernelIdeal.nD Cert.InKernelIdeal.τ).loc Cert.InKernelIdeal.main_arg4)),
    (θ_run _ _ _).mono (fun r h c => ?_) (Cert.InKernelIdeal.Value.run m g), (θ_run _ _ _).mono (fun r h c => ?_) (Cert.InReferenceIdeal.Value.run m' g')⟩
  · obtain ⟨⟨hx, hn⟩, hk⟩ := h c
    refine ⟨funext fun i => ?_, funext fun i => ?_, hk⟩
    all_goals
      simp only [val_main_v40_eq, val_main_v42_eq, hargs]
      obtain ⟨r, l, rfl⟩ : ∃ r l, i = ix2 r l := ⟨i 0, i 1, by funext a; fin_cases a <;> rfl⟩
    · exact (congrFun hx _).trans (r_dx ..).symm
    · refine (congrFun hn _).trans ((r_gain m c r l).trans ?_)
      split_ifs with h0
      · obtain rfl : r = 0 := Fin.ext h0
        exact (r_dg (x0 := m ((c.tc : Thread Cert.InKernelIdeal.nD Cert.InKernelIdeal.τ).loc Cert.InKernelIdeal.main_arg0))
          (x3 := m ((c.tc : Thread Cert.InKernelIdeal.nD Cert.InKernelIdeal.τ).loc Cert.InKernelIdeal.main_arg3)) ..).symm
      · exact (r_dg_rest (h := h0) ..).symm
  · obtain ⟨h0, h1, hk⟩ := h c
    refine ⟨h0, h1.trans ?_, hk⟩
    rw [val_main_v42_eq]
    simp only [hargs]

/-- The reference runs, leaves its arguments, and declares no semaphore. -/
theorem frame_ref : Cert.quiescent_InReferenceIdeal (hInReferenceIdeal := Cert.InReferenceIdeal.Gen.facts) :=
  fun m ρ _ => (θ_run Cert.InReferenceIdeal.defs _ _).mono
    (fun r h => ⟨fun c => (h c).2.2, sem_eq_zero_of_no_sems (by decide) r.2⟩) (Cert.InReferenceIdeal.Value.run m ρ)

end Cert.InEq

end
-- ==== Proof.RetLists.lean ====
/-
The reference of the retention backward pass as lists of host operations: the stretches of @main between
its two loops, the two loop bodies and their conditions, each with the buffers it writes. @main and the
loop bodies are the chains of these stretches.
-/
module

public import proofs.«01_k».proof.Proof.Gen.RetReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.RetReferenceIdeal.Lists

open Idealize.ShloMosaic Idealize.ShloMosaic.TcCoe
open Idealize.SL.Sem
open Cert.RetReferenceIdeal Cert.RetReferenceIdeal.Gen

variable {F : FTy → Type} [FloatOps F]

set_option maxHeartbeats 40000000 in
/-- From `main_v0` to `main_v35`. -/
abbrev s0 : List (HloOp τ sig (Elt F)) :=
  [ StableHlo.unary main_arg1 main_v0 ((extractStridedSlice S4096x512 ![0, 0] · slices_S4096x8192_S4096x512_0_0) : (⟨S4096x8192, .f32⟩ : BufTy).Contents (Elt F) → (⟨S4096x512, .f32⟩ : BufTy).Contents (Elt F)),
    StableHlo.unary main_arg1 main_v1 ((extractStridedSlice S4096x512 ![0, 512] · slices_S4096x8192_S4096x512_0_512) : (⟨S4096x8192, .f32⟩ : BufTy).Contents (Elt F) → (⟨S4096x512, .f32⟩ : BufTy).Contents (Elt F)),
    StableHlo.unary main_arg1 main_v2 ((extractStridedSlice S4096x1024 ![0, 1024] · slices_S4096x8192_S4096x1024_0_1024) : (⟨S4096x8192, .f32⟩ : BufTy).Contents (Elt F) → (⟨S4096x1024, .f32⟩ : BufTy).Contents (Elt F)),
    StableHlo.unary main_arg1 main_v3 ((extractStridedSlice S4096x1024 ![0, 2048] · slices_S4096x8192_S4096x1024_0_2048) : (⟨S4096x8192, .f32⟩ : BufTy).Contents (Elt F) → (⟨S4096x1024, .f32⟩ : BufTy).Contents (Elt F)),
    StableHlo.nullary main_v4 (sitofp .f32 (iotaInDim S4096 32 0)),
    StableHlo.reshape main_v0 main_v5 (rfl : (.f32 : EltTy) = .f32) shapeCasts_S4096x512_S4096x8x64,
    StableHlo.nullary main_v6 (sitofp .f32 (iotaInDim S32 32 0)),
    StableHlo.unary main_v6 main_v7 (Host.negf : (⟨S32, .f32⟩ : BufTy).Contents (Elt F) → (⟨S32, .f32⟩ : BufTy).Contents (Elt F)),
    StableHlo.nullary main_cst (constant S_ .f32 0x42000000#32),
    StableHlo.unary main_cst main_v8 (broadcastInDim S32 ![] bcast_S_S32 : (⟨S_, .f32⟩ : BufTy).Contents (Elt F) → (⟨S32, .f32⟩ : BufTy).Contents (Elt F)),
    StableHlo.binary main_v7 main_v8 main_v9 (Host.divf : (⟨S32, .f32⟩ : BufTy).Contents (Elt F) → (⟨S32, .f32⟩ : BufTy).Contents (Elt F) → (⟨S32, .f32⟩ : BufTy).Contents (Elt F)),
    StableHlo.nullary main_cst_0 (constant S_ .f32 0x461C4000#32),
    StableHlo.unary main_cst_0 main_v10 (broadcastInDim S32 ![] bcast_S_S32 : (⟨S_, .f32⟩ : BufTy).Contents (Elt F) → (⟨S32, .f32⟩ : BufTy).Contents (Elt F)),
    StableHlo.binary main_v10 main_v9 main_v11 (Host.powf : (⟨S32, .f32⟩ : BufTy).Contents (Elt F) → (⟨S32, .f32⟩ : BufTy).Contents (Elt F) → (⟨S32, .f32⟩ : BufTy).Contents (Elt F)),
    StableHlo.unary main_v4 main_v12 (broadcastInDim S4096x1 ![0] bcast_S4096_S4096x1_0 : (⟨S4096, .f32⟩ : BufTy).Contents (Elt F) → (⟨S4096x1, .f32⟩ : BufTy).Contents (Elt F)),
    StableHlo.unary main_v11 main_v13 (broadcastInDim S1x32 ![1] bcast_S32_S1x32_1 : (⟨S32, .f32⟩ : BufTy).Contents (Elt F) → (⟨S1x32, .f32⟩ : BufTy).Contents (Elt F)),
    StableHlo.unary main_v12 main_v14 (broadcastInDim S4096x32 ![0, 1] bcast_S4096x1_S4096x32_0_1 : (⟨S4096x1, .f32⟩ : BufTy).Contents (Elt F) → (⟨S4096x32, .f32⟩ : BufTy).Contents (Elt F)),
    StableHlo.unary main_v13 main_v15 (broadcastInDim S4096x32 ![0, 1] bcast_S1x32_S4096x32_0_1 : (⟨S1x32, .f32⟩ : BufTy).Contents (Elt F) → (⟨S4096x32, .f32⟩ : BufTy).Contents (Elt F)),
    StableHlo.binary main_v14 main_v15 main_v16 (mulf : (⟨S4096x32, .f32⟩ : BufTy).Contents (Elt F) → (⟨S4096x32, .f32⟩ : BufTy).Contents (Elt F) → (⟨S4096x32, .f32⟩ : BufTy).Contents (Elt F)),
    StableHlo.unary main_v16 main_v17 (Host.cos : (⟨S4096x32, .f32⟩ : BufTy).Contents (Elt F) → (⟨S4096x32, .f32⟩ : BufTy).Contents (Elt F)),
    StableHlo.unary main_v17 main_v18 (broadcastInDim S4096x1x32 ![0, 2] bcast_S4096x32_S4096x1x32_0_2 : (⟨S4096x32, .f32⟩ : BufTy).Contents (Elt F) → (⟨S4096x1x32, .f32⟩ : BufTy).Contents (Elt F)),
    StableHlo.unary main_v16 main_v19 (Host.sin : (⟨S4096x32, .f32⟩ : BufTy).Contents (Elt F) → (⟨S4096x32, .f32⟩ : BufTy).Contents (Elt F)),
    StableHlo.unary main_v19 main_v20 (broadcastInDim S4096x1x32 ![0, 2] bcast_S4096x32_S4096x1x32_0_2 : (⟨S4096x32, .f32⟩ : BufTy).Contents (Elt F) → (⟨S4096x1x32, .f32⟩ : BufTy).Contents (Elt F)),
    StableHlo.unary main_v5 main_v21 ((extractStridedSlice S4096x8x32 ![0, 0, 0] · slices_S4096x8x64_S4096x8x32_0_0_0) : (⟨S4096x8x64, .f32⟩ : BufTy).Contents (Elt F) → (⟨S4096x8x32, .f32⟩ : BufTy).Contents (Elt F)),
    StableHlo.unary main_v5 main_v22 ((extractStridedSlice S4096x8x32 ![0, 0, 32] · slices_S4096x8x64_S4096x8x32_0_0_32) : (⟨S4096x8x64, .f32⟩ : BufTy).Contents (Elt F) → (⟨S4096x8x32, .f32⟩ : BufTy).Contents (Elt F)),
    StableHlo.unary main_v18 main_v23 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v21 main_v23 main_v24 (mulf : (⟨S4096x8x32, .f32⟩ : BufTy).Contents (Elt F) → (⟨S4096x8x32, .f32⟩ : BufTy).Contents (Elt F) → (⟨S4096x8x32, .f32⟩ : BufTy).Contents (Elt F)),
    StableHlo.unary main_v20 main_v25 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v22 main_v25 main_v26 (mulf : (⟨S4096x8x32, .f32⟩ : BufTy).Contents (Elt F) → (⟨S4096x8x32, .f32⟩ : BufTy).Contents (Elt F) → (⟨S4096x8x32, .f32⟩ : BufTy).Contents (Elt F)),
    StableHlo.binary main_v24 main_v26 main_v27 (subf : (⟨S4096x8x32, .f32⟩ : BufTy).Contents (Elt F) → (⟨S4096x8x32, .f32⟩ : BufTy).Contents (Elt F) → (⟨S4096x8x32, .f32⟩ : BufTy).Contents (Elt F)),
    StableHlo.unary main_v20 main_v28 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v21 main_v28 main_v29 (mulf : (⟨S4096x8x32, .f32⟩ : BufTy).Contents (Elt F) → (⟨S4096x8x32, .f32⟩ : BufTy).Contents (Elt F) → (⟨S4096x8x32, .f32⟩ : BufTy).Contents (Elt F)),
    StableHlo.unary main_v18 main_v30 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v22 main_v30 main_v31 (mulf : (⟨S4096x8x32, .f32⟩ : BufTy).Contents (Elt F) → (⟨S4096x8x32, .f32⟩ : BufTy).Contents (Elt F) → (⟨S4096x8x32, .f32⟩ : BufTy).Contents (Elt F)),
    StableHlo.binary main_v29 main_v31 main_v32 (addf : (⟨S4096x8x32, .f32⟩ : BufTy).Contents (Elt F) → (⟨S4096x8x32, .f32⟩ : BufTy).Contents (Elt F) → (⟨S4096x8x32, .f32⟩ : BufTy).Contents (Elt F)),
    StableHlo.binary main_v27 main_v32 main_v33 ((fun a b => concatenate S4096x8x64 2 [⟨S4096x8x32, a⟩, ⟨S4096x8x32, b⟩] concatenates_S4096x8x32_S4096x8x32_S4096x8x64_d2) : (⟨S4096x8x32, .f32⟩ : BufTy).Contents (Elt F) → (⟨S4096x8x32, .f32⟩ : BufTy).Contents (Elt F) → (⟨S4096x8x64, .f32⟩ : BufTy).Contents (Elt F)),
    StableHlo.nullary main_cst_1 (constant S_ .f32 0x3E000000#32),
    StableHlo.unary main_cst_1 main_v34 (broadcastInDim S4096x8x64 ![] bcast_S_S4096x8x64 : (⟨S_, .f32⟩ : BufTy).Contents (Elt F) → (⟨S4096x8x64, .f32⟩ : BufTy).Contents (Elt F)),
    StableHlo.binary main_v33 main_v34 main_v35 (mulf : (⟨S4096x8x64, .f32⟩ : BufTy).Contents (Elt F) → (⟨S4096x8x64, .f32⟩ : BufTy).Contents (Elt F) → (⟨S4096x8x64, .f32⟩ : BufTy).Contents (Elt F)) ]
set_option maxHeartbeats 40000000 in
theorem s0_sub : (s0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩
set_option maxHeartbeats 40000000 in
theorem s0_fresh : (s0 : List (HloOp τ sig (Elt F))).Forall fun op => op.fresh = ∅ :=
  StableHlo.forall_fresh_of_map rfl
abbrev s0_W : List (Ref sig .tc) := [main_v0, main_v1, main_v2, main_v3, main_v4, main_v5, main_v6, main_v7, main_cst, main_v8, main_v9, main_cst_0, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35]
set_option maxHeartbeats 40000000 in
theorem s0_writes : (s0 : List (HloOp τ sig (Elt F))).Forall fun op => op.writes ⊆ (s0_W.map (Proc.devRef (τ := τ) .tc)).toFinset :=
  StableHlo.forall_writes_sub_of_map rfl

set_option maxHeartbeats 40000000 in
/-- From `main_v36` to `main_v51`. -/
abbrev s1 : List (HloOp τ sig (Elt F)) :=
  [ StableHlo.reshape main_v1 main_v36 (rfl : (.f32 : EltTy) = .f32) shapeCasts_S4096x512_S4096x8x64,
    StableHlo.nullary main_v37 (sitofp .f32 (iotaInDim S32 32 0)),
    StableHlo.unary main_v37 main_v38 (Host.negf : (⟨S32, .f32⟩ : BufTy).Contents (Elt F) → (⟨S32, .f32⟩ : BufTy).Contents (Elt F)),
    StableHlo.nullary main_cst_2 (constant S_ .f32 0x42000000#32),
    StableHlo.unary main_cst_2 main_v39 (broadcastInDim S32 ![] bcast_S_S32 : (⟨S_, .f32⟩ : BufTy).Contents (Elt F) → (⟨S32, .f32⟩ : BufTy).Contents (Elt F)),
    StableHlo.binary main_v38 main_v39 main_v40 (Host.divf : (⟨S32, .f32⟩ : BufTy).Contents (Elt F) → (⟨S32, .f32⟩ : BufTy).Contents (Elt F) → (⟨S32, .f32⟩ : BufTy).Contents (Elt F)),
    StableHlo.nullary main_cst_3 (constant S_ .f32 0x461C4000#32),
    StableHlo.unary main_cst_3 main_v41 (broadcastInDim S32 ![] bcast_S_S32 : (⟨S_, .f32⟩ : BufTy).Contents (Elt F) → (⟨S32, .f32⟩ : BufTy).Contents (Elt F)),
    StableHlo.binary main_v41 main_v40 main_v42 (Host.powf : (⟨S32, .f32⟩ : BufTy).Contents (Elt F) → (⟨S32, .f32⟩ : BufTy).Contents (Elt F) → (⟨S32, .f32⟩ : BufTy).Contents (Elt F)),
    StableHlo.unary main_v4 main_v43 (broadcastInDim S4096x1 ![0] bcast_S4096_S4096x1_0 : (⟨S4096, .f32⟩ : BufTy).Contents (Elt F) → (⟨S4096x1, .f32⟩ : BufTy).Contents (Elt F)),
    StableHlo.unary main_v42 main_v44 (broadcastInDim S1x32 ![1] bcast_S32_S1x32_1 : (⟨S32, .f32⟩ : BufTy).Contents (Elt F) → (⟨S1x32, .f32⟩ : BufTy).Contents (Elt F)),
    StableHlo.unary main_v43 main_v45 (broadcastInDim S4096x32 ![0, 1] bcast_S4096x1_S4096x32_0_1 : (⟨S4096x1, .f32⟩ : BufTy).Contents (Elt F) → (⟨S4096x32, .f32⟩ : BufTy).Contents (Elt F)),
    StableHlo.unary main_v44 main_v46 (broadcastInDim S4096x32 ![0, 1] bcast_S1x32_S4096x32_0_1 : (⟨S1x32, .f32⟩ : BufTy).Contents (Elt F) → (⟨S4096x32, .f32⟩ : BufTy).Contents (Elt F)),
    StableHlo.binary main_v45 main_v46 main_v47 (mulf : (⟨S4096x32, .f32⟩ : BufTy).Contents (Elt F) → (⟨S4096x32, .f32⟩ : BufTy).Contents (Elt F) → (⟨S4096x32, .f32⟩ : BufTy).Contents (Elt F)),
    StableHlo.unary main_v47 main_v48 (Host.cos : (⟨S4096x32, .f32⟩ : BufTy).Contents (Elt F) → (⟨S4096x32, .f32⟩ : BufTy).Contents (Elt F)),
    StableHlo.unary main_v48 main_v49 (broadcastInDim S4096x1x32 ![0, 2] bcast_S4096x32_S4096x1x32_0_2 : (⟨S4096x32, .f32⟩ : BufTy).Contents (Elt F) → (⟨S4096x1x32, .f32⟩ : BufTy).Contents (Elt F)),
    StableHlo.unary main_v47 main_v50 (Host.sin : (⟨S4096x32, .f32⟩ : BufTy).Contents (Elt F) → (⟨S4096x32, .f32⟩ : BufTy).Contents (Elt F)),
    StableHlo.unary main_v50 main_v51 (broadcastInDim S4096x1x32 ![0, 2] bcast_S4096x32_S4096x1x32_0_2 : (⟨S4096x32, .f32⟩ : BufTy).Contents (Elt F) → (⟨S4096x1x32, .f32⟩ : BufTy).Contents (Elt F)) ]
set_option maxHeartbeats 40000000 in
theorem s1_sub : (s1 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub ..⟩
set_option maxHeartbeats 40000000 in
theorem s1_fresh : (s1 : List (HloOp τ sig (Elt F))).Forall fun op => op.fresh = ∅ :=
  StableHlo.forall_fresh_of_map rfl
abbrev s1_W : List (Ref sig .tc) := [main_v36, main_v37, main_v38, main_cst_2, main_v39, main_v40, main_cst_3, main_v41, main_v42, main_v43, main_v44, main_v45, main_v46, main_v47, main_v48, main_v49, main_v50, main_v51]
set_option maxHeartbeats 40000000 in
theorem s1_writes : (s1 : List (HloOp τ sig (Elt F))).Forall fun op => op.writes ⊆ (s1_W.map (Proc.devRef (τ := τ) .tc)).toFinset :=
  StableHlo.forall_writes_sub_of_map rfl

set_option maxHeartbeats 40000000 in
/-- From `main_v52` to `main_v54`. -/
abbrev s2 : List (HloOp τ sig (Elt F)) :=
  [ StableHlo.unary main_v36 main_v52 ((extractStridedSlice S4096x8x32 ![0, 0, 0] · slices_S4096x8x64_S4096x8x32_0_0_0) : (⟨S4096x8x64, .f32⟩ : BufTy).Contents (Elt F) → (⟨S4096x8x32, .f32⟩ : BufTy).Contents (Elt F)),
    StableHlo.unary main_v36 main_v53 ((extractStridedSlice S4096x8x32 ![0, 0, 32] · slices_S4096x8x64_S4096x8x32_0_0_32) : (⟨S4096x8x64, .f32⟩ : BufTy).Contents (Elt F) → (⟨S4096x8x32, .f32⟩ : BufTy).Contents (Elt F)),
    StableHlo.unary main_v49 main_v54 (broadcastInDim S4096x8x32 ![0, 1, 2] bcast_S4096x1x32_S4096x8x32_0_1_2 : (⟨S4096x1x32, .f32⟩ : BufTy).Contents (Elt F) → (⟨S4096x8x32, .f32⟩ : BufTy).Contents (Elt F)) ]
set_option maxHeartbeats 40000000 in
theorem s2_sub : (s2 : List (HloOp τ sig (Elt F))).Forall fun op => op.bufs ⊆ StableHlo.tcRefs τ sig :=
  ⟨StableHlo.unary_bufs_sub .., StableHlo.unary_bufs_sub .., StableHlo.unary_bufs_sub ..⟩
set_option maxHeartbeats 40000000 in
theorem s2_fresh : (s2 : List (HloOp τ sig (Elt F))).Forall fun op => op.fresh = ∅ :=
  StableHlo.forall_fresh_of_map rfl
abbrev s2_W : List (Ref sig .tc) := [main_v52, main_v53, main_v54]
set_option maxHeartbeats 40000000 in
theorem s2_writes : (s2 : List (HloOp τ sig (Elt F))).Forall fun op => op.writes ⊆ (s2_W.map (Proc.devRef (τ := τ) .tc)).toFinset :=
  StableHlo.forall_writes_sub_of_map rfl

set_option maxHeartbeats 40000000 in
/-- From `main_v55` to `main_v68`. -/
abbrev s3 : List (HloOp τ sig (Elt F)) :=
  [ StableHlo.binary main_v52 main_v54 main_v55 (mulf : (⟨S4096x8x32, .f32⟩ : BufTy).Contents (Elt F) → (⟨S4096x8x32, .f32⟩ : BufTy).Contents (Elt F) → (⟨S4096x8x32, .f32⟩ : BufTy).Contents (Elt F)),
    StableHlo.unary main_v51 main_v56 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v53 main_v56 main_v57 (mulf : (⟨S4096x8x32, .f32⟩ : BufTy).Contents (Elt F) → (⟨S4096x8x32, .f32⟩ : BufTy).Contents (Elt F) → (⟨S4096x8x32, .f32⟩ : BufTy).Contents (Elt F)),
    StableHlo.binary main_v55 main_v57 main_v58 (subf : (⟨S4096x8x32, .f32⟩ : BufTy).Contents (Elt F) → (⟨S4096x8x32, .f32⟩ : BufTy).Contents (Elt F) → (⟨S4096x8x32, .f32⟩ : BufTy).Contents (Elt F)),
    StableHlo.unary main_v51 main_v59 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v52 main_v59 main_v60 (mulf : (⟨S4096x8x32, .f32⟩ : BufTy).Contents (Elt F) → (⟨S4096x8x32, .f32⟩ : BufTy).Contents (Elt F) → (⟨S4096x8x32, .f32⟩ : BufTy).Contents (Elt F)),
    StableHlo.unary main_v49 main_v61 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v53 main_v61 main_v62 (mulf : (⟨S4096x8x32, .f32⟩ : BufTy).Contents (Elt F) → (⟨S4096x8x32, .f32⟩ : BufTy).Contents (Elt F) → (⟨S4096x8x32, .f32⟩ : BufTy).Contents (Elt F)),
    StableHlo.binary main_v60 main_v62 main_v63 (addf : (⟨S4096x8x32, .f32⟩ : BufTy).Contents (Elt F) → (⟨S4096x8x32, .f32⟩ : BufTy).Contents (Elt F) → (⟨S4096x8x32, .f32⟩ : BufTy).Contents (Elt F)),
    StableHlo.binary main_v58 main_v63 main_v64 ((fun a b => concatenate S4096x8x64 2 [⟨S4096x8x32, a⟩, ⟨S4096x8x32, b⟩] concatenates_S4096x8x32_S4096x8x32_S4096x8x64_d2) : (⟨S4096x8x32, .f32⟩ : BufTy).Contents (Elt F) → (⟨S4096x8x32, .f32⟩ : BufTy).Contents (Elt F) → (⟨S4096x8x64, .f32⟩ : BufTy).Contents (Elt F)),
    StableHlo.reshape main_v2 main_v65 (rfl : (.f32 : EltTy) = .f32) shapeCasts_S4096x1024_S4096x8x128,
    StableHlo.reshape main_v35 main_v66 (rfl : (.f32 : EltTy) = .f32) shapeCasts_S4096x8x64_S64x64x8x64,
    StableHlo.reshape main_v64 main_v67 (rfl : (.f32 : EltTy) = .f32) shapeCasts_S4096x8x64_S64x64x8x64,
    StableHlo.reshape main_v65 main_v68 (rfl : (.f32 : EltTy) = .f32) shapeCasts_S4096x8x128_S64x64x8x128 ]
set_option maxHeartbeats 40000000 in
theorem s3_sub : (s3 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.reshape_bufs_sub .., StableHlo.reshape_bufs_sub .., StableHlo.reshape_bufs_sub .., StableHlo.reshape_bufs_sub ..⟩
set_option maxHeartbeats 40000000 in
theorem s3_fresh : (s3 : List (HloOp τ sig (Elt F))).Forall fun op => op.fresh = ∅ :=
  StableHlo.forall_fresh_of_map rfl
abbrev s3_W : List (Ref sig .tc) := [main_v55, main_v56, main_v57, main_v58, main_v59, main_v60, main_v61, main_v62, main_v63, main_v64, main_v65, main_v66, main_v67, main_v68]
set_option maxHeartbeats 40000000 in
theorem s3_writes : (s3 : List (HloOp τ sig (Elt F))).Forall fun op => op.writes ⊆ (s3_W.map (Proc.devRef (τ := τ) .tc)).toFinset :=
  StableHlo.forall_writes_sub_of_map rfl

set_option maxHeartbeats 40000000 in
/-- From `main_v69` to `main_v76`. -/
abbrev s4 : List (HloOp τ sig (Elt F)) :=
  [ StableHlo.nullary main_v69 (sitofp .f32 (iotaInDim S8 32 0)),
    StableHlo.nullary main_cst_4 (constant S_ .f32 0xC0A00000#32),
    StableHlo.unary main_cst_4 main_v70 (broadcastInDim S8 ![] bcast_S_S8 : (⟨S_, .f32⟩ : BufTy).Contents (Elt F) → (⟨S8, .f32⟩ : BufTy).Contents (Elt F)),
    StableHlo.binary main_v70 main_v69 main_v71 (subf : (⟨S8, .f32⟩ : BufTy).Contents (Elt F) → (⟨S8, .f32⟩ : BufTy).Contents (Elt F) → (⟨S8, .f32⟩ : BufTy).Contents (Elt F)),
    StableHlo.nullary main_cst_5 (constant S_ .f32 0x3F317218#32),
    StableHlo.unary main_cst_5 main_v72 (broadcastInDim S8 ![] bcast_S_S8 : (⟨S_, .f32⟩ : BufTy).Contents (Elt F) → (⟨S8, .f32⟩ : BufTy).Contents (Elt F)),
    StableHlo.binary main_v72 main_v71 main_v73 (mulf : (⟨S8, .f32⟩ : BufTy).Contents (Elt F) → (⟨S8, .f32⟩ : BufTy).Contents (Elt F) → (⟨S8, .f32⟩ : BufTy).Contents (Elt F)),
    StableHlo.unary main_v73 main_v74 (Host.exp : (⟨S8, .f32⟩ : BufTy).Contents (Elt F) → (⟨S8, .f32⟩ : BufTy).Contents (Elt F)),
    StableHlo.unary main_v74 main_v75 (Host.negf : (⟨S8, .f32⟩ : BufTy).Contents (Elt F) → (⟨S8, .f32⟩ : BufTy).Contents (Elt F)),
    StableHlo.unary main_v75 main_v76 (Host.log1p : (⟨S8, .f32⟩ : BufTy).Contents (Elt F) → (⟨S8, .f32⟩ : BufTy).Contents (Elt F)) ]
set_option maxHeartbeats 40000000 in
theorem s4_sub : (s4 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub ..⟩
set_option maxHeartbeats 40000000 in
theorem s4_fresh : (s4 : List (HloOp τ sig (Elt F))).Forall fun op => op.fresh = ∅ :=
  StableHlo.forall_fresh_of_map rfl
abbrev s4_W : List (Ref sig .tc) := [main_v69, main_cst_4, main_v70, main_v71, main_cst_5, main_v72, main_v73, main_v74, main_v75, main_v76]
set_option maxHeartbeats 40000000 in
theorem s4_writes : (s4 : List (HloOp τ sig (Elt F))).Forall fun op => op.writes ⊆ (s4_W.map (Proc.devRef (τ := τ) .tc)).toFinset :=
  StableHlo.forall_writes_sub_of_map rfl

set_option maxHeartbeats 40000000 in
/-- From `main_v77` to `main_v95`. -/
abbrev s5 : List (HloOp τ sig (Elt F)) :=
  [ StableHlo.nullary main_v77 (sitofp .f32 (iotaInDim S64 32 0)),
    StableHlo.unary main_v76 main_v78 (broadcastInDim S8x1x1 ![0] bcast_S8_S8x1x1_0 : (⟨S8, .f32⟩ : BufTy).Contents (Elt F) → (⟨S8x1x1, .f32⟩ : BufTy).Contents (Elt F)),
    StableHlo.unary main_v77 main_v79 (broadcastInDim S64x1 ![0] bcast_S64_S64x1_0 : (⟨S64, .f32⟩ : BufTy).Contents (Elt F) → (⟨S64x1, .f32⟩ : BufTy).Contents (Elt F)),
    StableHlo.unary main_v77 main_v80 (broadcastInDim S1x64 ![1] bcast_S64_S1x64_1 : (⟨S64, .f32⟩ : BufTy).Contents (Elt F) → (⟨S1x64, .f32⟩ : BufTy).Contents (Elt F)),
    StableHlo.unary main_v79 main_v81 (broadcastInDim S64x64 ![0, 1] bcast_S64x1_S64x64_0_1 : (⟨S64x1, .f32⟩ : BufTy).Contents (Elt F) → (⟨S64x64, .f32⟩ : BufTy).Contents (Elt F)),
    StableHlo.unary main_v80 main_v82 (broadcastInDim S64x64 ![0, 1] bcast_S1x64_S64x64_0_1 : (⟨S1x64, .f32⟩ : BufTy).Contents (Elt F) → (⟨S64x64, .f32⟩ : BufTy).Contents (Elt F)),
    StableHlo.binary main_v81 main_v82 main_v83 (subf : (⟨S64x64, .f32⟩ : BufTy).Contents (Elt F) → (⟨S64x64, .f32⟩ : BufTy).Contents (Elt F) → (⟨S64x64, .f32⟩ : BufTy).Contents (Elt F)),
    StableHlo.unary main_v83 main_v84 (Host.absf : (⟨S64x64, .f32⟩ : BufTy).Contents (Elt F) → (⟨S64x64, .f32⟩ : BufTy).Contents (Elt F)),
    StableHlo.unary main_v84 main_v85 (broadcastInDim S1x64x64 ![1, 2] bcast_S64x64_S1x64x64_1_2 : (⟨S64x64, .f32⟩ : BufTy).Contents (Elt F) → (⟨S1x64x64, .f32⟩ : BufTy).Contents (Elt F)),
    StableHlo.unary main_v78 main_v86 (broadcastInDim S8x64x64 ![0, 1, 2] bcast_S8x1x1_S8x64x64_0_1_2 : (⟨S8x1x1, .f32⟩ : BufTy).Contents (Elt F) → (⟨S8x64x64, .f32⟩ : BufTy).Contents (Elt F)),
    StableHlo.unary main_v85 main_v87 (broadcastInDim S8x64x64 ![0, 1, 2] bcast_S1x64x64_S8x64x64_0_1_2 : (⟨S1x64x64, .f32⟩ : BufTy).Contents (Elt F) → (⟨S8x64x64, .f32⟩ : BufTy).Contents (Elt F)),
    StableHlo.binary main_v86 main_v87 main_v88 (mulf : (⟨S8x64x64, .f32⟩ : BufTy).Contents (Elt F) → (⟨S8x64x64, .f32⟩ : BufTy).Contents (Elt F) → (⟨S8x64x64, .f32⟩ : BufTy).Contents (Elt F)),
    StableHlo.unary main_v88 main_v89 (Host.exp : (⟨S8x64x64, .f32⟩ : BufTy).Contents (Elt F) → (⟨S8x64x64, .f32⟩ : BufTy).Contents (Elt F)),
    StableHlo.binary main_v66 main_v67 main_v90 ((fun l r => Host.dotGeneral dot_S64x64x8x64_S64x64x8x64_S64x8x64x64_3_3_1_1_02_02 none l r) : (⟨S64x64x8x64, .f32⟩ : BufTy).Contents (Elt F) → (⟨S64x64x8x64, .f32⟩ : BufTy).Contents (Elt F) → (⟨S64x8x64x64, .f32⟩ : BufTy).Contents (Elt F)),
    StableHlo.unary main_v89 main_v91 (broadcastInDim S1x8x64x64 ![1, 2, 3] bcast_S8x64x64_S1x8x64x64_1_2_3 : (⟨S8x64x64, .f32⟩ : BufTy).Contents (Elt F) → (⟨S1x8x64x64, .f32⟩ : BufTy).Contents (Elt F)),
    StableHlo.unary main_v91 main_v92 (broadcastInDim S64x8x64x64 ![0, 1, 2, 3] bcast_S1x8x64x64_S64x8x64x64_0_1_2_3 : (⟨S1x8x64x64, .f32⟩ : BufTy).Contents (Elt F) → (⟨S64x8x64x64, .f32⟩ : BufTy).Contents (Elt F)),
    StableHlo.binary main_v90 main_v92 main_v93 (mulf : (⟨S64x8x64x64, .f32⟩ : BufTy).Contents (Elt F) → (⟨S64x8x64x64, .f32⟩ : BufTy).Contents (Elt F) → (⟨S64x8x64x64, .f32⟩ : BufTy).Contents (Elt F)),
    StableHlo.binary main_v68 main_v93 main_v94 ((fun l r => Host.dotGeneral dot_S64x64x8x128_S64x8x64x64_S64x8x128x64_1_3_3_2_02_01 none l r) : (⟨S64x64x8x128, .f32⟩ : BufTy).Contents (Elt F) → (⟨S64x8x64x64, .f32⟩ : BufTy).Contents (Elt F) → (⟨S64x8x128x64, .f32⟩ : BufTy).Contents (Elt F)),
    StableHlo.unary main_v94 main_v95 ((transpose S64x64x8x128 [0, 3, 1, 2] · transposes_S64x8x128x64_S64x64x8x128_0_3_1_2) : (⟨S64x8x128x64, .f32⟩ : BufTy).Contents (Elt F) → (⟨S64x64x8x128, .f32⟩ : BufTy).Contents (Elt F)) ]
set_option maxHeartbeats 40000000 in
theorem s5_sub : (s5 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub ..⟩
set_option maxHeartbeats 40000000 in
theorem s5_fresh : (s5 : List (HloOp τ sig (Elt F))).Forall fun op => op.fresh = ∅ :=
  StableHlo.forall_fresh_of_map rfl
abbrev s5_W : List (Ref sig .tc) := [main_v77, main_v78, main_v79, main_v80, main_v81, main_v82, main_v83, main_v84, main_v85, main_v86, main_v87, main_v88, main_v89, main_v90, main_v91, main_v92, main_v93, main_v94, main_v95]
set_option maxHeartbeats 40000000 in
theorem s5_writes : (s5 : List (HloOp τ sig (Elt F))).Forall fun op => op.writes ⊆ (s5_W.map (Proc.devRef (τ := τ) .tc)).toFinset :=
  StableHlo.forall_writes_sub_of_map rfl

set_option maxHeartbeats 40000000 in
/-- From `main_v96` to `main_v110`. -/
abbrev s6 : List (HloOp τ sig (Elt F)) :=
  [ StableHlo.unary main_v76 main_v96 (broadcastInDim S1x8 ![1] bcast_S8_S1x8_1 : (⟨S8, .f32⟩ : BufTy).Contents (Elt F) → (⟨S1x8, .f32⟩ : BufTy).Contents (Elt F)),
    StableHlo.unary main_v77 main_v97 (broadcastInDim S64x1 ![0] bcast_S64_S64x1_0 : (⟨S64, .f32⟩ : BufTy).Contents (Elt F) → (⟨S64x1, .f32⟩ : BufTy).Contents (Elt F)),
    StableHlo.nullary main_cst_6 (constant S_ .f32 0x42800000#32),
    StableHlo.unary main_cst_6 main_v98 (broadcastInDim S64x1 ![] bcast_S_S64x1 : (⟨S_, .f32⟩ : BufTy).Contents (Elt F) → (⟨S64x1, .f32⟩ : BufTy).Contents (Elt F)),
    StableHlo.binary main_v98 main_v97 main_v99 (subf : (⟨S64x1, .f32⟩ : BufTy).Contents (Elt F) → (⟨S64x1, .f32⟩ : BufTy).Contents (Elt F) → (⟨S64x1, .f32⟩ : BufTy).Contents (Elt F)),
    StableHlo.unary main_v96 main_v100 (broadcastInDim S64x8 ![0, 1] bcast_S1x8_S64x8_0_1 : (⟨S1x8, .f32⟩ : BufTy).Contents (Elt F) → (⟨S64x8, .f32⟩ : BufTy).Contents (Elt F)),
    StableHlo.unary main_v99 main_v101 (broadcastInDim S64x8 ![0, 1] bcast_S64x1_S64x8_0_1 : (⟨S64x1, .f32⟩ : BufTy).Contents (Elt F) → (⟨S64x8, .f32⟩ : BufTy).Contents (Elt F)),
    StableHlo.binary main_v100 main_v101 main_v102 (mulf : (⟨S64x8, .f32⟩ : BufTy).Contents (Elt F) → (⟨S64x8, .f32⟩ : BufTy).Contents (Elt F) → (⟨S64x8, .f32⟩ : BufTy).Contents (Elt F)),
    StableHlo.unary main_v102 main_v103 (Host.exp : (⟨S64x8, .f32⟩ : BufTy).Contents (Elt F) → (⟨S64x8, .f32⟩ : BufTy).Contents (Elt F)),
    StableHlo.unary main_v103 main_v104 (broadcastInDim S1x64x8x1 ![1, 2] bcast_S64x8_S1x64x8x1_1_2 : (⟨S64x8, .f32⟩ : BufTy).Contents (Elt F) → (⟨S1x64x8x1, .f32⟩ : BufTy).Contents (Elt F)),
    StableHlo.unary main_v104 main_v105 (broadcastInDim S64x64x8x64 ![0, 1, 2, 3] bcast_S1x64x8x1_S64x64x8x64_0_1_2_3 : (⟨S1x64x8x1, .f32⟩ : BufTy).Contents (Elt F) → (⟨S64x64x8x64, .f32⟩ : BufTy).Contents (Elt F)),
    StableHlo.binary main_v67 main_v105 main_v106 (mulf : (⟨S64x64x8x64, .f32⟩ : BufTy).Contents (Elt F) → (⟨S64x64x8x64, .f32⟩ : BufTy).Contents (Elt F) → (⟨S64x64x8x64, .f32⟩ : BufTy).Contents (Elt F)),
    StableHlo.binary main_v106 main_v68 main_v107 ((fun l r => Host.dotGeneral dot_S64x64x8x64_S64x64x8x128_S64x8x64x128_1_1_3_3_02_02 none l r) : (⟨S64x64x8x64, .f32⟩ : BufTy).Contents (Elt F) → (⟨S64x64x8x128, .f32⟩ : BufTy).Contents (Elt F) → (⟨S64x8x64x128, .f32⟩ : BufTy).Contents (Elt F)),
    StableHlo.nullary main_cst_7 (constant S_ .f32 0x42800000#32),
    StableHlo.unary main_cst_7 main_v108 (broadcastInDim S8 ![] bcast_S_S8 : (⟨S_, .f32⟩ : BufTy).Contents (Elt F) → (⟨S8, .f32⟩ : BufTy).Contents (Elt F)),
    StableHlo.binary main_v76 main_v108 main_v109 (mulf : (⟨S8, .f32⟩ : BufTy).Contents (Elt F) → (⟨S8, .f32⟩ : BufTy).Contents (Elt F) → (⟨S8, .f32⟩ : BufTy).Contents (Elt F)),
    StableHlo.unary main_v109 main_v110 (Host.exp : (⟨S8, .f32⟩ : BufTy).Contents (Elt F) → (⟨S8, .f32⟩ : BufTy).Contents (Elt F)) ]
set_option maxHeartbeats 40000000 in
theorem s6_sub : (s6 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩
set_option maxHeartbeats 40000000 in
theorem s6_fresh : (s6 : List (HloOp τ sig (Elt F))).Forall fun op => op.fresh = ∅ :=
  StableHlo.forall_fresh_of_map rfl
abbrev s6_W : List (Ref sig .tc) := [main_v96, main_v97, main_cst_6, main_v98, main_v99, main_v100, main_v101, main_v102, main_v103, main_v104, main_v105, main_v106, main_v107, main_cst_7, main_v108, main_v109, main_v110]
set_option maxHeartbeats 40000000 in
theorem s6_writes : (s6 : List (HloOp τ sig (Elt F))).Forall fun op => op.writes ⊆ (s6_W.map (Proc.devRef (τ := τ) .tc)).toFinset :=
  StableHlo.forall_writes_sub_of_map rfl

set_option maxHeartbeats 40000000 in
/-- From `main_v111` to `main_v111`. -/
abbrev s7 : List (HloOp τ sig (Elt F)) :=
  [ StableHlo.unary main_v110 main_v111 (broadcastInDim S8x1x1 ![0] bcast_S8_S8x1x1_0 : (⟨S8, .f32⟩ : BufTy).Contents (Elt F) → (⟨S8x1x1, .f32⟩ : BufTy).Contents (Elt F)) ]
set_option maxHeartbeats 40000000 in
theorem s7_sub : (s7 : List (HloOp τ sig (Elt F))).Forall fun op => op.bufs ⊆ StableHlo.tcRefs τ sig :=
  StableHlo.unary_bufs_sub ..
set_option maxHeartbeats 40000000 in
theorem s7_fresh : (s7 : List (HloOp τ sig (Elt F))).Forall fun op => op.fresh = ∅ :=
  StableHlo.forall_fresh_of_map rfl
abbrev s7_W : List (Ref sig .tc) := [main_v111]
set_option maxHeartbeats 40000000 in
theorem s7_writes : (s7 : List (HloOp τ sig (Elt F))).Forall fun op => op.writes ⊆ (s7_W.map (Proc.devRef (τ := τ) .tc)).toFinset :=
  StableHlo.forall_writes_sub_of_map rfl

set_option maxHeartbeats 40000000 in
/-- From `main_cst_8` to `main_v114_4`. -/
abbrev s8 : List (HloOp τ sig (Elt F)) :=
  [ StableHlo.nullary main_cst_8 (constant S_ .f32 0x00000000#32),
    StableHlo.unary main_cst_8 main_v112 (broadcastInDim S8x64x128 ![] bcast_S_S8x64x128 : (⟨S_, .f32⟩ : BufTy).Contents (Elt F) → (⟨S8x64x128, .f32⟩ : BufTy).Contents (Elt F)),
    StableHlo.nullary main_cst_9 (constant S_ .f32 0x00000000#32),
    StableHlo.unary main_cst_9 main_v113 (broadcastInDim S64x8x64x128 ![] bcast_S_S64x8x64x128 : (⟨S_, .f32⟩ : BufTy).Contents (Elt F) → (⟨S64x8x64x128, .f32⟩ : BufTy).Contents (Elt F)),
    StableHlo.nullary main_c (constantI S_ 32 0#32),
    StableHlo.unary main_v107 main_v114_0 id,
    StableHlo.unary main_v111 main_v114_1 id,
    StableHlo.unary main_c main_v114_2 id,
    StableHlo.unary main_v112 main_v114_3 id,
    StableHlo.unary main_v113 main_v114_4 id ]
set_option maxHeartbeats 40000000 in
theorem s8_sub : (s8 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
set_option maxHeartbeats 40000000 in
theorem s8_fresh : (s8 : List (HloOp τ sig (Elt F))).Forall fun op => op.fresh = ∅ :=
  StableHlo.forall_fresh_of_map rfl
abbrev s8_W : List (Ref sig .tc) := [main_cst_8, main_v112, main_cst_9, main_v113, main_c, main_v114_0, main_v114_1, main_v114_2, main_v114_3, main_v114_4]
set_option maxHeartbeats 40000000 in
theorem s8_writes : (s8 : List (HloOp τ sig (Elt F))).Forall fun op => op.writes ⊆ (s8_W.map (Proc.devRef (τ := τ) .tc)).toFinset :=
  StableHlo.forall_writes_sub_of_map rfl

set_option maxHeartbeats 40000000 in
/-- From `main_v115` to `main_v127`. -/
abbrev s9 : List (HloOp τ sig (Elt F)) :=
  [ StableHlo.unary main_v76 main_v115 (broadcastInDim S1x8 ![1] bcast_S8_S1x8_1 : (⟨S8, .f32⟩ : BufTy).Contents (Elt F) → (⟨S1x8, .f32⟩ : BufTy).Contents (Elt F)),
    StableHlo.unary main_v77 main_v116 (broadcastInDim S64x1 ![0] bcast_S64_S64x1_0 : (⟨S64, .f32⟩ : BufTy).Contents (Elt F) → (⟨S64x1, .f32⟩ : BufTy).Contents (Elt F)),
    StableHlo.unary main_v115 main_v117 (broadcastInDim S64x8 ![0, 1] bcast_S1x8_S64x8_0_1 : (⟨S1x8, .f32⟩ : BufTy).Contents (Elt F) → (⟨S64x8, .f32⟩ : BufTy).Contents (Elt F)),
    StableHlo.unary main_v116 main_v118 (broadcastInDim S64x8 ![0, 1] bcast_S64x1_S64x8_0_1 : (⟨S64x1, .f32⟩ : BufTy).Contents (Elt F) → (⟨S64x8, .f32⟩ : BufTy).Contents (Elt F)),
    StableHlo.binary main_v117 main_v118 main_v119 (mulf : (⟨S64x8, .f32⟩ : BufTy).Contents (Elt F) → (⟨S64x8, .f32⟩ : BufTy).Contents (Elt F) → (⟨S64x8, .f32⟩ : BufTy).Contents (Elt F)),
    StableHlo.unary main_v119 main_v120 (Host.exp : (⟨S64x8, .f32⟩ : BufTy).Contents (Elt F) → (⟨S64x8, .f32⟩ : BufTy).Contents (Elt F)),
    StableHlo.unary main_v120 main_v121 (broadcastInDim S1x64x8x1 ![1, 2] bcast_S64x8_S1x64x8x1_1_2 : (⟨S64x8, .f32⟩ : BufTy).Contents (Elt F) → (⟨S1x64x8x1, .f32⟩ : BufTy).Contents (Elt F)),
    StableHlo.unary main_v121 main_v122 (broadcastInDim S64x64x8x64 ![0, 1, 2, 3] bcast_S1x64x8x1_S64x64x8x64_0_1_2_3 : (⟨S1x64x8x1, .f32⟩ : BufTy).Contents (Elt F) → (⟨S64x64x8x64, .f32⟩ : BufTy).Contents (Elt F)),
    StableHlo.binary main_v66 main_v122 main_v123 (mulf : (⟨S64x64x8x64, .f32⟩ : BufTy).Contents (Elt F) → (⟨S64x64x8x64, .f32⟩ : BufTy).Contents (Elt F) → (⟨S64x64x8x64, .f32⟩ : BufTy).Contents (Elt F)),
    StableHlo.binary main_v114_4 main_v123 main_v124 ((fun l r => Host.dotGeneral dot_S64x8x64x128_S64x64x8x64_S64x8x128x64_2_3_3_1_01_02 none l r) : (⟨S64x8x64x128, .f32⟩ : BufTy).Contents (Elt F) → (⟨S64x64x8x64, .f32⟩ : BufTy).Contents (Elt F) → (⟨S64x8x128x64, .f32⟩ : BufTy).Contents (Elt F)),
    StableHlo.unary main_v124 main_v125 ((transpose S64x64x8x128 [0, 3, 1, 2] · transposes_S64x8x128x64_S64x64x8x128_0_3_1_2) : (⟨S64x8x128x64, .f32⟩ : BufTy).Contents (Elt F) → (⟨S64x64x8x128, .f32⟩ : BufTy).Contents (Elt F)),
    StableHlo.binary main_v95 main_v125 main_v126 (addf : (⟨S64x64x8x128, .f32⟩ : BufTy).Contents (Elt F) → (⟨S64x64x8x128, .f32⟩ : BufTy).Contents (Elt F) → (⟨S64x64x8x128, .f32⟩ : BufTy).Contents (Elt F)),
    StableHlo.reshape main_v126 main_v127 (rfl : (.f32 : EltTy) = .f32) shapeCasts_S64x64x8x128_S4096x8x128 ]
set_option maxHeartbeats 40000000 in
theorem s9_sub : (s9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub ..⟩
set_option maxHeartbeats 40000000 in
theorem s9_fresh : (s9 : List (HloOp τ sig (Elt F))).Forall fun op => op.fresh = ∅ :=
  StableHlo.forall_fresh_of_map rfl
abbrev s9_W : List (Ref sig .tc) := [main_v115, main_v116, main_v117, main_v118, main_v119, main_v120, main_v121, main_v122, main_v123, main_v124, main_v125, main_v126, main_v127]
set_option maxHeartbeats 40000000 in
theorem s9_writes : (s9 : List (HloOp τ sig (Elt F))).Forall fun op => op.writes ⊆ (s9_W.map (Proc.devRef (τ := τ) .tc)).toFinset :=
  StableHlo.forall_writes_sub_of_map rfl

set_option maxHeartbeats 40000000 in
/-- From `main_cst_10` to `main_v151`. -/
abbrev s10 : List (HloOp τ sig (Elt F)) :=
  [ StableHlo.nullary main_cst_10 (constant S_ .f32 0x00000000#32),
    StableHlo.binary main_v127 main_cst_10 main_v128 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.unary main_v128 main_v129 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_11 (constant S_ .f32 0x43000000#32),
    StableHlo.unary main_cst_11 main_v130 (broadcastInDim S4096x8x1 ![] bcast_S_S4096x8x1 : (⟨S_, .f32⟩ : BufTy).Contents (Elt F) → (⟨S4096x8x1, .f32⟩ : BufTy).Contents (Elt F)),
    StableHlo.binary main_v129 main_v130 main_v131 (Host.divf : (⟨S4096x8x1, .f32⟩ : BufTy).Contents (Elt F) → (⟨S4096x8x1, .f32⟩ : BufTy).Contents (Elt F) → (⟨S4096x8x1, .f32⟩ : BufTy).Contents (Elt F)),
    StableHlo.unary main_v131 main_v132 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v127 main_v132 main_v133 (subf : (⟨S4096x8x128, .f32⟩ : BufTy).Contents (Elt F) → (⟨S4096x8x128, .f32⟩ : BufTy).Contents (Elt F) → (⟨S4096x8x128, .f32⟩ : BufTy).Contents (Elt F)),
    StableHlo.binary main_v133 main_v133 main_v134 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_12 (constant S_ .f32 0x40000000#32),
    StableHlo.unary main_cst_12 main_v135 (broadcastInDim S4096x8x128 ![] bcast_S_S4096x8x128 : (⟨S_, .f32⟩ : BufTy).Contents (Elt F) → (⟨S4096x8x128, .f32⟩ : BufTy).Contents (Elt F)),
    StableHlo.binary main_v135 main_v133 main_v136 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_13 (constant S_ .f32 0x00000000#32),
    StableHlo.binary main_v134 main_cst_13 main_v137 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.unary main_v137 main_v138 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_14 (constant S_ .f32 0x43000000#32),
    StableHlo.unary main_cst_14 main_v139 (broadcastInDim S4096x8x1 ![] bcast_S_S4096x8x1 : (⟨S_, .f32⟩ : BufTy).Contents (Elt F) → (⟨S4096x8x1, .f32⟩ : BufTy).Contents (Elt F)),
    StableHlo.binary main_v138 main_v139 main_v140 (Host.divf : (⟨S4096x8x1, .f32⟩ : BufTy).Contents (Elt F) → (⟨S4096x8x1, .f32⟩ : BufTy).Contents (Elt F) → (⟨S4096x8x1, .f32⟩ : BufTy).Contents (Elt F)),
    StableHlo.unary main_v131 main_v141 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v127 main_v141 main_v142 (subf : (⟨S4096x8x128, .f32⟩ : BufTy).Contents (Elt F) → (⟨S4096x8x128, .f32⟩ : BufTy).Contents (Elt F) → (⟨S4096x8x128, .f32⟩ : BufTy).Contents (Elt F)),
    StableHlo.nullary main_cst_15 (constant S_ .f32 0x358637BD#32),
    StableHlo.unary main_cst_15 main_v143 (broadcastInDim S4096x8x1 ![] bcast_S_S4096x8x1 : (⟨S_, .f32⟩ : BufTy).Contents (Elt F) → (⟨S4096x8x1, .f32⟩ : BufTy).Contents (Elt F)),
    StableHlo.binary main_v140 main_v143 main_v144 (addf : (⟨S4096x8x1, .f32⟩ : BufTy).Contents (Elt F) → (⟨S4096x8x1, .f32⟩ : BufTy).Contents (Elt F) → (⟨S4096x8x1, .f32⟩ : BufTy).Contents (Elt F)),
    StableHlo.unary main_v144 main_v145 (Host.rsqrt : (⟨S4096x8x1, .f32⟩ : BufTy).Contents (Elt F) → (⟨S4096x8x1, .f32⟩ : BufTy).Contents (Elt F)),
    StableHlo.binary main_v145 main_v144 main_v146 (Host.divf : (⟨S4096x8x1, .f32⟩ : BufTy).Contents (Elt F) → (⟨S4096x8x1, .f32⟩ : BufTy).Contents (Elt F) → (⟨S4096x8x1, .f32⟩ : BufTy).Contents (Elt F)),
    StableHlo.nullary main_cst_16 (constant S_ .f32 0xBF000000#32),
    StableHlo.unary main_cst_16 main_v147 (broadcastInDim S4096x8x1 ![] bcast_S_S4096x8x1 : (⟨S_, .f32⟩ : BufTy).Contents (Elt F) → (⟨S4096x8x1, .f32⟩ : BufTy).Contents (Elt F)),
    StableHlo.binary main_v147 main_v146 main_v148 (mulf : (⟨S4096x8x1, .f32⟩ : BufTy).Contents (Elt F) → (⟨S4096x8x1, .f32⟩ : BufTy).Contents (Elt F) → (⟨S4096x8x1, .f32⟩ : BufTy).Contents (Elt F)),
    StableHlo.unary main_v145 main_v149 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v142 main_v149 main_v150 (mulf : (⟨S4096x8x128, .f32⟩ : BufTy).Contents (Elt F) → (⟨S4096x8x128, .f32⟩ : BufTy).Contents (Elt F) → (⟨S4096x8x128, .f32⟩ : BufTy).Contents (Elt F)),
    StableHlo.reshape main_v150 main_v151 (rfl : (.f32 : EltTy) = .f32) shapeCasts_S4096x8x128_S4096x1024 ]
set_option maxHeartbeats 40000000 in
theorem s10_sub : (s10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub ..⟩
set_option maxHeartbeats 40000000 in
theorem s10_fresh : (s10 : List (HloOp τ sig (Elt F))).Forall fun op => op.fresh = ∅ :=
  StableHlo.forall_fresh_of_map rfl
abbrev s10_W : List (Ref sig .tc) := [main_cst_10, main_v128, main_v129, main_cst_11, main_v130, main_v131, main_v132, main_v133, main_v134, main_cst_12, main_v135, main_v136, main_cst_13, main_v137, main_v138, main_cst_14, main_v139, main_v140, main_v141, main_v142, main_cst_15, main_v143, main_v144, main_v145, main_v146, main_cst_16, main_v147, main_v148, main_v149, main_v150, main_v151]
set_option maxHeartbeats 40000000 in
theorem s10_writes : (s10 : List (HloOp τ sig (Elt F))).Forall fun op => op.writes ⊆ (s10_W.map (Proc.devRef (τ := τ) .tc)).toFinset :=
  StableHlo.forall_writes_sub_of_map rfl

set_option maxHeartbeats 40000000 in
/-- From `main_call2_v0` to `main_v152_0`. -/
abbrev s11 : List (HloOp τ sig (Elt F)) :=
  [ StableHlo.TRef.unary (.of main_v3 : StableHlo.TRef sig ⟨S4096x1024, .f32⟩) (.of main_call2_v0 : StableHlo.TRef sig ⟨S4096x1024, .f32⟩) Host.negf,
    StableHlo.TRef.unary (.of main_call2_v0 : StableHlo.TRef sig ⟨S4096x1024, .f32⟩) (.of main_call2_v1 : StableHlo.TRef sig ⟨S4096x1024, .f32⟩) Host.exp,
    StableHlo.TRef.nullary (.of main_call2_cst : StableHlo.TRef sig ⟨S_, .f32⟩) (constant S_ .f32 0x3F800000#32),
    StableHlo.TRef.unary (.of main_call2_cst : StableHlo.TRef sig ⟨S_, .f32⟩) (.of main_call2_v2 : StableHlo.TRef sig ⟨S4096x1024, .f32⟩) (broadcastInDim S4096x1024 ![] bcast_S_S4096x1024),
    StableHlo.TRef.binary (.of main_call2_v2 : StableHlo.TRef sig ⟨S4096x1024, .f32⟩) (.of main_call2_v1 : StableHlo.TRef sig ⟨S4096x1024, .f32⟩) (.of main_call2_v3 : StableHlo.TRef sig ⟨S4096x1024, .f32⟩) addf,
    StableHlo.TRef.nullary (.of main_call2_cst_0 : StableHlo.TRef sig ⟨S_, .f32⟩) (constant S_ .f32 0x3F800000#32),
    StableHlo.TRef.unary (.of main_call2_cst_0 : StableHlo.TRef sig ⟨S_, .f32⟩) (.of main_call2_v4 : StableHlo.TRef sig ⟨S4096x1024, .f32⟩) (broadcastInDim S4096x1024 ![] bcast_S_S4096x1024),
    StableHlo.TRef.binary (.of main_call2_v4 : StableHlo.TRef sig ⟨S4096x1024, .f32⟩) (.of main_call2_v3 : StableHlo.TRef sig ⟨S4096x1024, .f32⟩) (.of main_v152_2 : StableHlo.TRef sig ⟨S4096x1024, .f32⟩) Host.divf,
    StableHlo.TRef.nullary (.of main_call2_cst_1 : StableHlo.TRef sig ⟨S_, .f32⟩) (constant S_ .f32 0x3F800000#32),
    StableHlo.TRef.unary (.of main_call2_cst_1 : StableHlo.TRef sig ⟨S_, .f32⟩) (.of main_call2_v6 : StableHlo.TRef sig ⟨S4096x1024, .f32⟩) (broadcastInDim S4096x1024 ![] bcast_S_S4096x1024),
    StableHlo.TRef.binary (.of main_call2_v6 : StableHlo.TRef sig ⟨S4096x1024, .f32⟩) (.of main_v152_2 : StableHlo.TRef sig ⟨S4096x1024, .f32⟩) (.of main_call2_v7 : StableHlo.TRef sig ⟨S4096x1024, .f32⟩) subf,
    StableHlo.TRef.binary (.of main_v152_2 : StableHlo.TRef sig ⟨S4096x1024, .f32⟩) (.of main_call2_v7 : StableHlo.TRef sig ⟨S4096x1024, .f32⟩) (.of main_v152_1 : StableHlo.TRef sig ⟨S4096x1024, .f32⟩) mulf,
    StableHlo.TRef.binary (.of main_v3 : StableHlo.TRef sig ⟨S4096x1024, .f32⟩) (.of main_v152_2 : StableHlo.TRef sig ⟨S4096x1024, .f32⟩) (.of main_v152_0 : StableHlo.TRef sig ⟨S4096x1024, .f32⟩) mulf ]
set_option maxHeartbeats 40000000 in
theorem s11_sub : (s11 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
set_option maxHeartbeats 40000000 in
theorem s11_fresh : (s11 : List (HloOp τ sig (Elt F))).Forall fun op => op.fresh = ∅ :=
  StableHlo.forall_fresh_of_map rfl
abbrev s11_W : List (Ref sig .tc) := [main_call2_v0, main_call2_v1, main_call2_cst, main_call2_v2, main_call2_v3, main_call2_cst_0, main_call2_v4, main_v152_2, main_call2_cst_1, main_call2_v6, main_call2_v7, main_v152_1, main_v152_0]
set_option maxHeartbeats 40000000 in
theorem s11_writes : (s11 : List (HloOp τ sig (Elt F))).Forall fun op => op.writes ⊆ (s11_W.map (Proc.devRef (τ := τ) .tc)).toFinset :=
  StableHlo.forall_writes_sub_of_map rfl

set_option maxHeartbeats 40000000 in
/-- From `main_v153` to `main_v154`. -/
abbrev s12 : List (HloOp τ sig (Elt F)) :=
  [ StableHlo.binary main_v151 main_v152_0 main_v153 (mulf : (⟨S4096x1024, .f32⟩ : BufTy).Contents (Elt F) → (⟨S4096x1024, .f32⟩ : BufTy).Contents (Elt F) → (⟨S4096x1024, .f32⟩ : BufTy).Contents (Elt F)),
    StableHlo.nullary main_cst_17 (constant S_ .f32 0x00000000#32),
    StableHlo.unary main_cst_17 main_v154 (broadcastInDim S8x64x128 ![] bcast_S_S8x64x128 : (⟨S_, .f32⟩ : BufTy).Contents (Elt F) → (⟨S8x64x128, .f32⟩ : BufTy).Contents (Elt F)) ]
set_option maxHeartbeats 40000000 in
theorem s12_sub : (s12 : List (HloOp τ sig (Elt F))).Forall fun op => op.bufs ⊆ StableHlo.tcRefs τ sig :=
  ⟨StableHlo.binary_bufs_sub .., StableHlo.nullary_bufs_sub .., StableHlo.unary_bufs_sub ..⟩
set_option maxHeartbeats 40000000 in
theorem s12_fresh : (s12 : List (HloOp τ sig (Elt F))).Forall fun op => op.fresh = ∅ :=
  StableHlo.forall_fresh_of_map rfl
abbrev s12_W : List (Ref sig .tc) := [main_v153, main_cst_17, main_v154]
set_option maxHeartbeats 40000000 in
theorem s12_writes : (s12 : List (HloOp τ sig (Elt F))).Forall fun op => op.writes ⊆ (s12_W.map (Proc.devRef (τ := τ) .tc)).toFinset :=
  StableHlo.forall_writes_sub_of_map rfl

set_option maxHeartbeats 40000000 in
/-- From `main_v155` to `main_v156`. -/
abbrev s13 : List (HloOp τ sig (Elt F)) :=
  [ StableHlo.binary main_v151 main_arg0 main_v155 (mulf : (⟨S4096x1024, .f32⟩ : BufTy).Contents (Elt F) → (⟨S4096x1024, .f32⟩ : BufTy).Contents (Elt F) → (⟨S4096x1024, .f32⟩ : BufTy).Contents (Elt F)),
    StableHlo.binary main_arg0 main_v152_0 main_v156 (mulf : (⟨S4096x1024, .f32⟩ : BufTy).Contents (Elt F) → (⟨S4096x1024, .f32⟩ : BufTy).Contents (Elt F) → (⟨S4096x1024, .f32⟩ : BufTy).Contents (Elt F)) ]
set_option maxHeartbeats 40000000 in
theorem s13_sub : (s13 : List (HloOp τ sig (Elt F))).Forall fun op => op.bufs ⊆ StableHlo.tcRefs τ sig :=
  ⟨StableHlo.binary_bufs_sub .., StableHlo.binary_bufs_sub ..⟩
set_option maxHeartbeats 40000000 in
theorem s13_fresh : (s13 : List (HloOp τ sig (Elt F))).Forall fun op => op.fresh = ∅ :=
  StableHlo.forall_fresh_of_map rfl
abbrev s13_W : List (Ref sig .tc) := [main_v155, main_v156]
set_option maxHeartbeats 40000000 in
theorem s13_writes : (s13 : List (HloOp τ sig (Elt F))).Forall fun op => op.writes ⊆ (s13_W.map (Proc.devRef (τ := τ) .tc)).toFinset :=
  StableHlo.forall_writes_sub_of_map rfl

set_option maxHeartbeats 40000000 in
/-- From `main_call3_v0` to `main_v157`. -/
abbrev s14 : List (HloOp τ sig (Elt F)) :=
  [ StableHlo.TRef.binary (.of main_v3 : StableHlo.TRef sig ⟨S4096x1024, .f32⟩) (.of main_v155 : StableHlo.TRef sig ⟨S4096x1024, .f32⟩) (.of main_call3_v0 : StableHlo.TRef sig ⟨S4096x1024, .f32⟩) mulf,
    StableHlo.TRef.binary (.of main_v155 : StableHlo.TRef sig ⟨S4096x1024, .f32⟩) (.of main_v152_2 : StableHlo.TRef sig ⟨S4096x1024, .f32⟩) (.of main_call3_v1 : StableHlo.TRef sig ⟨S4096x1024, .f32⟩) mulf,
    StableHlo.TRef.binary (.of main_call3_v0 : StableHlo.TRef sig ⟨S4096x1024, .f32⟩) (.of main_v152_1 : StableHlo.TRef sig ⟨S4096x1024, .f32⟩) (.of main_call3_v2 : StableHlo.TRef sig ⟨S4096x1024, .f32⟩) mulf,
    StableHlo.TRef.binary (.of main_call3_v1 : StableHlo.TRef sig ⟨S4096x1024, .f32⟩) (.of main_call3_v2 : StableHlo.TRef sig ⟨S4096x1024, .f32⟩) (.of main_v157 : StableHlo.TRef sig ⟨S4096x1024, .f32⟩) addf ]
set_option maxHeartbeats 40000000 in
theorem s14_sub : (s14 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩
set_option maxHeartbeats 40000000 in
theorem s14_fresh : (s14 : List (HloOp τ sig (Elt F))).Forall fun op => op.fresh = ∅ :=
  StableHlo.forall_fresh_of_map rfl
abbrev s14_W : List (Ref sig .tc) := [main_call3_v0, main_call3_v1, main_call3_v2, main_v157]
set_option maxHeartbeats 40000000 in
theorem s14_writes : (s14 : List (HloOp τ sig (Elt F))).Forall fun op => op.writes ⊆ (s14_W.map (Proc.devRef (τ := τ) .tc)).toFinset :=
  StableHlo.forall_writes_sub_of_map rfl

set_option maxHeartbeats 40000000 in
/-- From `main_v158` to `main_v184`. -/
abbrev s15 : List (HloOp τ sig (Elt F)) :=
  [ StableHlo.reshape main_v156 main_v158 (rfl : (.f32 : EltTy) = .f32) shapeCasts_S4096x1024_S4096x8x128,
    StableHlo.binary main_v142 main_v158 main_v159 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_18 (constant S_ .f32 0x00000000#32),
    StableHlo.binary main_v159 main_cst_18 main_v160 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.reshape main_v160 main_v161 (rfl : (.f32 : EltTy) = .f32) shapeCasts_S4096x8_S4096x8x1,
    StableHlo.unary main_v145 main_v162 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v158 main_v162 main_v163 (mulf : (⟨S4096x8x128, .f32⟩ : BufTy).Contents (Elt F) → (⟨S4096x8x128, .f32⟩ : BufTy).Contents (Elt F) → (⟨S4096x8x128, .f32⟩ : BufTy).Contents (Elt F)),
    StableHlo.binary main_v161 main_v148 main_v164 (mulf : (⟨S4096x8x1, .f32⟩ : BufTy).Contents (Elt F) → (⟨S4096x8x1, .f32⟩ : BufTy).Contents (Elt F) → (⟨S4096x8x1, .f32⟩ : BufTy).Contents (Elt F)),
    StableHlo.unary main_v163 main_v165 (Host.negf : (⟨S4096x8x128, .f32⟩ : BufTy).Contents (Elt F) → (⟨S4096x8x128, .f32⟩ : BufTy).Contents (Elt F)),
    StableHlo.nullary main_cst_19 (constant S_ .f32 0x00000000#32),
    StableHlo.binary main_v165 main_cst_19 main_v166 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.reshape main_v166 main_v167 (rfl : (.f32 : EltTy) = .f32) shapeCasts_S4096x8_S4096x8x1,
    StableHlo.nullary main_cst_20 (constant S_ .f32 0x43000000#32),
    StableHlo.unary main_cst_20 main_v168 (broadcastInDim S4096x8x1 ![] bcast_S_S4096x8x1 : (⟨S_, .f32⟩ : BufTy).Contents (Elt F) → (⟨S4096x8x1, .f32⟩ : BufTy).Contents (Elt F)),
    StableHlo.binary main_v164 main_v168 main_v169 (Host.divf : (⟨S4096x8x1, .f32⟩ : BufTy).Contents (Elt F) → (⟨S4096x8x1, .f32⟩ : BufTy).Contents (Elt F) → (⟨S4096x8x1, .f32⟩ : BufTy).Contents (Elt F)),
    StableHlo.nullary main_cst_21 (constant S_ .f32 0x00000000#32),
    StableHlo.binary main_v169 main_cst_21 main_v170 ((fun x v => Host.reduceAdd x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.unary main_v170 main_v171 (broadcastInDim S4096x8x128 ![0, 1] bcast_S4096x8_S4096x8x128_0_1 : (⟨S4096x8, .f32⟩ : BufTy).Contents (Elt F) → (⟨S4096x8x128, .f32⟩ : BufTy).Contents (Elt F)),
    StableHlo.binary main_v171 main_v136 main_v172 (mulf : (⟨S4096x8x128, .f32⟩ : BufTy).Contents (Elt F) → (⟨S4096x8x128, .f32⟩ : BufTy).Contents (Elt F) → (⟨S4096x8x128, .f32⟩ : BufTy).Contents (Elt F)),
    StableHlo.unary main_v172 main_v173 (Host.negf : (⟨S4096x8x128, .f32⟩ : BufTy).Contents (Elt F) → (⟨S4096x8x128, .f32⟩ : BufTy).Contents (Elt F)),
    StableHlo.nullary main_cst_22 (constant S_ .f32 0x00000000#32),
    StableHlo.binary main_v173 main_cst_22 main_v174 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.reshape main_v174 main_v175 (rfl : (.f32 : EltTy) = .f32) shapeCasts_S4096x8_S4096x8x1,
    StableHlo.binary main_v163 main_v172 main_v176 (addf : (⟨S4096x8x128, .f32⟩ : BufTy).Contents (Elt F) → (⟨S4096x8x128, .f32⟩ : BufTy).Contents (Elt F) → (⟨S4096x8x128, .f32⟩ : BufTy).Contents (Elt F)),
    StableHlo.binary main_v167 main_v175 main_v177 (addf : (⟨S4096x8x1, .f32⟩ : BufTy).Contents (Elt F) → (⟨S4096x8x1, .f32⟩ : BufTy).Contents (Elt F) → (⟨S4096x8x1, .f32⟩ : BufTy).Contents (Elt F)),
    StableHlo.nullary main_cst_23 (constant S_ .f32 0x43000000#32),
    StableHlo.unary main_cst_23 main_v178 (broadcastInDim S4096x8x1 ![] bcast_S_S4096x8x1 : (⟨S_, .f32⟩ : BufTy).Contents (Elt F) → (⟨S4096x8x1, .f32⟩ : BufTy).Contents (Elt F)),
    StableHlo.binary main_v177 main_v178 main_v179 (Host.divf : (⟨S4096x8x1, .f32⟩ : BufTy).Contents (Elt F) → (⟨S4096x8x1, .f32⟩ : BufTy).Contents (Elt F) → (⟨S4096x8x1, .f32⟩ : BufTy).Contents (Elt F)),
    StableHlo.nullary main_cst_24 (constant S_ .f32 0x00000000#32),
    StableHlo.binary main_v179 main_cst_24 main_v180 ((fun x v => Host.reduceAdd x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.unary main_v180 main_v181 (broadcastInDim S4096x8x128 ![0, 1] bcast_S4096x8_S4096x8x128_0_1 : (⟨S4096x8, .f32⟩ : BufTy).Contents (Elt F) → (⟨S4096x8x128, .f32⟩ : BufTy).Contents (Elt F)),
    StableHlo.binary main_v176 main_v181 main_v182 (addf : (⟨S4096x8x128, .f32⟩ : BufTy).Contents (Elt F) → (⟨S4096x8x128, .f32⟩ : BufTy).Contents (Elt F) → (⟨S4096x8x128, .f32⟩ : BufTy).Contents (Elt F)),
    StableHlo.reshape main_v182 main_v183 (rfl : (.f32 : EltTy) = .f32) shapeCasts_S4096x8x128_S64x64x8x128,
    StableHlo.unary main_v183 main_v184 ((transpose S64x8x128x64 [0, 2, 3, 1] · transposes_S64x64x8x128_S64x8x128x64_0_2_3_1) : (⟨S64x64x8x128, .f32⟩ : BufTy).Contents (Elt F) → (⟨S64x8x128x64, .f32⟩ : BufTy).Contents (Elt F)) ]
set_option maxHeartbeats 40000000 in
theorem s15_sub : (s15 : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub .., StableHlo.nullary_bufs_sub .., StableHlo.binary_bufs_sub .., StableHlo.reshape_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.nullary_bufs_sub .., StableHlo.binary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.reshape_bufs_sub .., StableHlo.unary_bufs_sub ..⟩
set_option maxHeartbeats 40000000 in
theorem s15_fresh : (s15 : List (HloOp τ sig (Elt F))).Forall fun op => op.fresh = ∅ :=
  StableHlo.forall_fresh_of_map rfl
abbrev s15_W : List (Ref sig .tc) := [main_v158, main_v159, main_cst_18, main_v160, main_v161, main_v162, main_v163, main_v164, main_v165, main_cst_19, main_v166, main_v167, main_cst_20, main_v168, main_v169, main_cst_21, main_v170, main_v171, main_v172, main_v173, main_cst_22, main_v174, main_v175, main_v176, main_v177, main_cst_23, main_v178, main_v179, main_cst_24, main_v180, main_v181, main_v182, main_v183, main_v184]
set_option maxHeartbeats 40000000 in
theorem s15_writes : (s15 : List (HloOp τ sig (Elt F))).Forall fun op => op.writes ⊆ (s15_W.map (Proc.devRef (τ := τ) .tc)).toFinset :=
  StableHlo.forall_writes_sub_of_map rfl

set_option maxHeartbeats 40000000 in
/-- From `main_v185` to `main_v193_4`. -/
abbrev s16 : List (HloOp τ sig (Elt F)) :=
  [ StableHlo.binary main_v184 main_v114_4 main_v185 ((fun l r => Host.dotGeneral dot_S64x8x128x64_S64x8x64x128_S64x8x64x64_2_3_3_2_01_01 none l r) : (⟨S64x8x128x64, .f32⟩ : BufTy).Contents (Elt F) → (⟨S64x8x64x128, .f32⟩ : BufTy).Contents (Elt F) → (⟨S64x8x64x64, .f32⟩ : BufTy).Contents (Elt F)),
    StableHlo.unary main_v185 main_v186 ((transpose S64x64x8x64 [0, 2, 1, 3] · transposes_S64x8x64x64_S64x64x8x64_0_2_1_3) : (⟨S64x8x64x64, .f32⟩ : BufTy).Contents (Elt F) → (⟨S64x64x8x64, .f32⟩ : BufTy).Contents (Elt F)),
    StableHlo.binary main_v184 main_v123 main_v187 ((fun l r => Host.dotGeneral dot_S64x8x128x64_S64x64x8x64_S64x8x128x64_3_1_2_3_01_02 none l r) : (⟨S64x8x128x64, .f32⟩ : BufTy).Contents (Elt F) → (⟨S64x64x8x64, .f32⟩ : BufTy).Contents (Elt F) → (⟨S64x8x128x64, .f32⟩ : BufTy).Contents (Elt F)),
    StableHlo.unary main_v187 main_v188 ((transpose S64x8x64x128 [0, 1, 3, 2] · transposes_S64x8x128x64_S64x8x64x128_0_1_3_2) : (⟨S64x8x128x64, .f32⟩ : BufTy).Contents (Elt F) → (⟨S64x8x64x128, .f32⟩ : BufTy).Contents (Elt F)),
    StableHlo.unary main_v121 main_v189 (broadcastInDim S64x64x8x64 ![0, 1, 2, 3] bcast_S1x64x8x1_S64x64x8x64_0_1_2_3 : (⟨S1x64x8x1, .f32⟩ : BufTy).Contents (Elt F) → (⟨S64x64x8x64, .f32⟩ : BufTy).Contents (Elt F)),
    StableHlo.binary main_v186 main_v189 main_v190 (mulf : (⟨S64x64x8x64, .f32⟩ : BufTy).Contents (Elt F) → (⟨S64x64x8x64, .f32⟩ : BufTy).Contents (Elt F) → (⟨S64x64x8x64, .f32⟩ : BufTy).Contents (Elt F)),
    StableHlo.nullary main_cst_25 (constant S_ .f32 0x00000000#32),
    StableHlo.unary main_cst_25 main_v191 (broadcastInDim S8x64x128 ![] bcast_S_S8x64x128 : (⟨S_, .f32⟩ : BufTy).Contents (Elt F) → (⟨S8x64x128, .f32⟩ : BufTy).Contents (Elt F)),
    StableHlo.nullary main_cst_26 (constant S_ .f32 0x00000000#32),
    StableHlo.unary main_cst_26 main_v192 (broadcastInDim S64x8x64x128 ![] bcast_S_S64x8x64x128 : (⟨S_, .f32⟩ : BufTy).Contents (Elt F) → (⟨S64x8x64x128, .f32⟩ : BufTy).Contents (Elt F)),
    StableHlo.nullary main_c_27 (constantI S_ 32 0#32),
    StableHlo.unary main_v188 main_v193_0 id,
    StableHlo.unary main_v111 main_v193_1 id,
    StableHlo.unary main_c_27 main_v193_2 id,
    StableHlo.unary main_v191 main_v193_3 id,
    StableHlo.unary main_v192 main_v193_4 id ]
set_option maxHeartbeats 40000000 in
theorem s16_sub : (s16 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
set_option maxHeartbeats 40000000 in
theorem s16_fresh : (s16 : List (HloOp τ sig (Elt F))).Forall fun op => op.fresh = ∅ :=
  StableHlo.forall_fresh_of_map rfl
abbrev s16_W : List (Ref sig .tc) := [main_v185, main_v186, main_v187, main_v188, main_v189, main_v190, main_cst_25, main_v191, main_cst_26, main_v192, main_c_27, main_v193_0, main_v193_1, main_v193_2, main_v193_3, main_v193_4]
set_option maxHeartbeats 40000000 in
theorem s16_writes : (s16 : List (HloOp τ sig (Elt F))).Forall fun op => op.writes ⊆ (s16_W.map (Proc.devRef (τ := τ) .tc)).toFinset :=
  StableHlo.forall_writes_sub_of_map rfl

set_option maxHeartbeats 40000000 in
/-- From `main_v194` to `main_v199`. -/
abbrev s17 : List (HloOp τ sig (Elt F)) :=
  [ StableHlo.binary main_v193_4 main_v106 main_v194 ((fun l r => Host.dotGeneral dot_S64x8x64x128_S64x64x8x64_S64x8x128x64_2_3_3_1_01_02 none l r) : (⟨S64x8x64x128, .f32⟩ : BufTy).Contents (Elt F) → (⟨S64x64x8x64, .f32⟩ : BufTy).Contents (Elt F) → (⟨S64x8x128x64, .f32⟩ : BufTy).Contents (Elt F)),
    StableHlo.unary main_v194 main_v195 ((transpose S64x64x8x128 [0, 3, 1, 2] · transposes_S64x8x128x64_S64x64x8x128_0_3_1_2) : (⟨S64x8x128x64, .f32⟩ : BufTy).Contents (Elt F) → (⟨S64x64x8x128, .f32⟩ : BufTy).Contents (Elt F)),
    StableHlo.binary main_v193_4 main_v68 main_v196 ((fun l r => Host.dotGeneral dot_S64x8x64x128_S64x64x8x128_S64x8x64x64_3_3_2_1_01_02 none l r) : (⟨S64x8x64x128, .f32⟩ : BufTy).Contents (Elt F) → (⟨S64x64x8x128, .f32⟩ : BufTy).Contents (Elt F) → (⟨S64x8x64x64, .f32⟩ : BufTy).Contents (Elt F)),
    StableHlo.unary main_v196 main_v197 ((transpose S64x64x8x64 [0, 3, 1, 2] · transposes_S64x8x64x64_S64x64x8x64_0_3_1_2) : (⟨S64x8x64x64, .f32⟩ : BufTy).Contents (Elt F) → (⟨S64x64x8x64, .f32⟩ : BufTy).Contents (Elt F)),
    StableHlo.unary main_v104 main_v198 (broadcastInDim S64x64x8x64 ![0, 1, 2, 3] bcast_S1x64x8x1_S64x64x8x64_0_1_2_3 : (⟨S1x64x8x1, .f32⟩ : BufTy).Contents (Elt F) → (⟨S64x64x8x64, .f32⟩ : BufTy).Contents (Elt F)),
    StableHlo.binary main_v197 main_v198 main_v199 (mulf : (⟨S64x64x8x64, .f32⟩ : BufTy).Contents (Elt F) → (⟨S64x64x8x64, .f32⟩ : BufTy).Contents (Elt F) → (⟨S64x64x8x64, .f32⟩ : BufTy).Contents (Elt F)) ]
set_option maxHeartbeats 40000000 in
theorem s17_sub : (s17 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub ..⟩
set_option maxHeartbeats 40000000 in
theorem s17_fresh : (s17 : List (HloOp τ sig (Elt F))).Forall fun op => op.fresh = ∅ :=
  StableHlo.forall_fresh_of_map rfl
abbrev s17_W : List (Ref sig .tc) := [main_v194, main_v195, main_v196, main_v197, main_v198, main_v199]
set_option maxHeartbeats 40000000 in
theorem s17_writes : (s17 : List (HloOp τ sig (Elt F))).Forall fun op => op.writes ⊆ (s17_W.map (Proc.devRef (τ := τ) .tc)).toFinset :=
  StableHlo.forall_writes_sub_of_map rfl

set_option maxHeartbeats 40000000 in
/-- From `main_v200` to `main_v204`. -/
abbrev s18 : List (HloOp τ sig (Elt F)) :=
  [ StableHlo.unary main_v183 main_v200 ((transpose S64x8x128x64 [0, 2, 3, 1] · transposes_S64x64x8x128_S64x8x128x64_0_2_3_1) : (⟨S64x64x8x128, .f32⟩ : BufTy).Contents (Elt F) → (⟨S64x8x128x64, .f32⟩ : BufTy).Contents (Elt F)),
    StableHlo.binary main_v200 main_v68 main_v201 ((fun l r => Host.dotGeneral dot_S64x8x128x64_S64x64x8x128_S64x8x64x64_2_3_3_1_01_02 none l r) : (⟨S64x8x128x64, .f32⟩ : BufTy).Contents (Elt F) → (⟨S64x64x8x128, .f32⟩ : BufTy).Contents (Elt F) → (⟨S64x8x64x64, .f32⟩ : BufTy).Contents (Elt F)),
    StableHlo.binary main_v200 main_v93 main_v202 ((fun l r => Host.dotGeneral dot_S64x8x128x64_S64x8x64x64_S64x8x128x64_3_2_2_3_01_01 none l r) : (⟨S64x8x128x64, .f32⟩ : BufTy).Contents (Elt F) → (⟨S64x8x64x64, .f32⟩ : BufTy).Contents (Elt F) → (⟨S64x8x128x64, .f32⟩ : BufTy).Contents (Elt F)),
    StableHlo.unary main_v202 main_v203 ((transpose S64x64x8x128 [0, 3, 1, 2] · transposes_S64x8x128x64_S64x64x8x128_0_3_1_2) : (⟨S64x8x128x64, .f32⟩ : BufTy).Contents (Elt F) → (⟨S64x64x8x128, .f32⟩ : BufTy).Contents (Elt F)),
    StableHlo.binary main_v195 main_v203 main_v204 (addf : (⟨S64x64x8x128, .f32⟩ : BufTy).Contents (Elt F) → (⟨S64x64x8x128, .f32⟩ : BufTy).Contents (Elt F) → (⟨S64x64x8x128, .f32⟩ : BufTy).Contents (Elt F)) ]
set_option maxHeartbeats 40000000 in
theorem s18_sub : (s18 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.binary_bufs_sub ..⟩
set_option maxHeartbeats 40000000 in
theorem s18_fresh : (s18 : List (HloOp τ sig (Elt F))).Forall fun op => op.fresh = ∅ :=
  StableHlo.forall_fresh_of_map rfl
abbrev s18_W : List (Ref sig .tc) := [main_v200, main_v201, main_v202, main_v203, main_v204]
set_option maxHeartbeats 40000000 in
theorem s18_writes : (s18 : List (HloOp τ sig (Elt F))).Forall fun op => op.writes ⊆ (s18_W.map (Proc.devRef (τ := τ) .tc)).toFinset :=
  StableHlo.forall_writes_sub_of_map rfl

set_option maxHeartbeats 40000000 in
/-- From `main_v205` to `main_v216`. -/
abbrev s19 : List (HloOp τ sig (Elt F)) :=
  [ StableHlo.unary main_v91 main_v205 (broadcastInDim S64x8x64x64 ![0, 1, 2, 3] bcast_S1x8x64x64_S64x8x64x64_0_1_2_3 : (⟨S1x8x64x64, .f32⟩ : BufTy).Contents (Elt F) → (⟨S64x8x64x64, .f32⟩ : BufTy).Contents (Elt F)),
    StableHlo.binary main_v201 main_v205 main_v206 (mulf : (⟨S64x8x64x64, .f32⟩ : BufTy).Contents (Elt F) → (⟨S64x8x64x64, .f32⟩ : BufTy).Contents (Elt F) → (⟨S64x8x64x64, .f32⟩ : BufTy).Contents (Elt F)),
    StableHlo.binary main_v206 main_v66 main_v207 ((fun l r => Host.dotGeneral dot_S64x8x64x64_S64x64x8x64_S64x8x64x64_2_1_3_3_01_02 none l r) : (⟨S64x8x64x64, .f32⟩ : BufTy).Contents (Elt F) → (⟨S64x64x8x64, .f32⟩ : BufTy).Contents (Elt F) → (⟨S64x8x64x64, .f32⟩ : BufTy).Contents (Elt F)),
    StableHlo.unary main_v207 main_v208 ((transpose S64x64x8x64 [0, 2, 1, 3] · transposes_S64x8x64x64_S64x64x8x64_0_2_1_3) : (⟨S64x8x64x64, .f32⟩ : BufTy).Contents (Elt F) → (⟨S64x64x8x64, .f32⟩ : BufTy).Contents (Elt F)),
    StableHlo.binary main_v199 main_v208 main_v209 (addf : (⟨S64x64x8x64, .f32⟩ : BufTy).Contents (Elt F) → (⟨S64x64x8x64, .f32⟩ : BufTy).Contents (Elt F) → (⟨S64x64x8x64, .f32⟩ : BufTy).Contents (Elt F)),
    StableHlo.binary main_v206 main_v67 main_v210 ((fun l r => Host.dotGeneral dot_S64x8x64x64_S64x64x8x64_S64x8x64x64_3_1_2_3_01_02 none l r) : (⟨S64x8x64x64, .f32⟩ : BufTy).Contents (Elt F) → (⟨S64x64x8x64, .f32⟩ : BufTy).Contents (Elt F) → (⟨S64x8x64x64, .f32⟩ : BufTy).Contents (Elt F)),
    StableHlo.unary main_v210 main_v211 ((transpose S64x64x8x64 [0, 2, 1, 3] · transposes_S64x8x64x64_S64x64x8x64_0_2_1_3) : (⟨S64x8x64x64, .f32⟩ : BufTy).Contents (Elt F) → (⟨S64x64x8x64, .f32⟩ : BufTy).Contents (Elt F)),
    StableHlo.binary main_v190 main_v211 main_v212 (addf : (⟨S64x64x8x64, .f32⟩ : BufTy).Contents (Elt F) → (⟨S64x64x8x64, .f32⟩ : BufTy).Contents (Elt F) → (⟨S64x64x8x64, .f32⟩ : BufTy).Contents (Elt F)),
    StableHlo.reshape main_v204 main_v213 (rfl : (.f32 : EltTy) = .f32) shapeCasts_S64x64x8x128_S4096x8x128,
    StableHlo.reshape main_v209 main_v214 (rfl : (.f32 : EltTy) = .f32) shapeCasts_S64x64x8x64_S4096x8x64,
    StableHlo.reshape main_v212 main_v215 (rfl : (.f32 : EltTy) = .f32) shapeCasts_S64x64x8x64_S4096x8x64,
    StableHlo.reshape main_v213 main_v216 (rfl : (.f32 : EltTy) = .f32) shapeCasts_S4096x8x128_S4096x1024 ]
set_option maxHeartbeats 40000000 in
theorem s19_sub : (s19 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.reshape_bufs_sub .., StableHlo.reshape_bufs_sub .., StableHlo.reshape_bufs_sub .., StableHlo.reshape_bufs_sub ..⟩
set_option maxHeartbeats 40000000 in
theorem s19_fresh : (s19 : List (HloOp τ sig (Elt F))).Forall fun op => op.fresh = ∅ :=
  StableHlo.forall_fresh_of_map rfl
abbrev s19_W : List (Ref sig .tc) := [main_v205, main_v206, main_v207, main_v208, main_v209, main_v210, main_v211, main_v212, main_v213, main_v214, main_v215, main_v216]
set_option maxHeartbeats 40000000 in
theorem s19_writes : (s19 : List (HloOp τ sig (Elt F))).Forall fun op => op.writes ⊆ (s19_W.map (Proc.devRef (τ := τ) .tc)).toFinset :=
  StableHlo.forall_writes_sub_of_map rfl

set_option maxHeartbeats 40000000 in
/-- From `main_v217` to `main_v233`. -/
abbrev s20 : List (HloOp τ sig (Elt F)) :=
  [ StableHlo.unary main_v214 main_v217 ((extractStridedSlice S4096x8x32 ![0, 0, 0] · slices_S4096x8x64_S4096x8x32_0_0_0) : (⟨S4096x8x64, .f32⟩ : BufTy).Contents (Elt F) → (⟨S4096x8x32, .f32⟩ : BufTy).Contents (Elt F)),
    StableHlo.unary main_v214 main_v218 ((extractStridedSlice S4096x8x32 ![0, 0, 32] · slices_S4096x8x64_S4096x8x32_0_0_32) : (⟨S4096x8x64, .f32⟩ : BufTy).Contents (Elt F) → (⟨S4096x8x32, .f32⟩ : BufTy).Contents (Elt F)),
    StableHlo.unary main_v49 main_v219 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v218 main_v219 main_v220 (mulf : (⟨S4096x8x32, .f32⟩ : BufTy).Contents (Elt F) → (⟨S4096x8x32, .f32⟩ : BufTy).Contents (Elt F) → (⟨S4096x8x32, .f32⟩ : BufTy).Contents (Elt F)),
    StableHlo.unary main_v51 main_v221 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v218 main_v221 main_v222 (mulf : (⟨S4096x8x32, .f32⟩ : BufTy).Contents (Elt F) → (⟨S4096x8x32, .f32⟩ : BufTy).Contents (Elt F) → (⟨S4096x8x32, .f32⟩ : BufTy).Contents (Elt F)),
    StableHlo.unary main_v217 main_v223 (Host.negf : (⟨S4096x8x32, .f32⟩ : BufTy).Contents (Elt F) → (⟨S4096x8x32, .f32⟩ : BufTy).Contents (Elt F)),
    StableHlo.unary main_v51 main_v224 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v223 main_v224 main_v225 (mulf : (⟨S4096x8x32, .f32⟩ : BufTy).Contents (Elt F) → (⟨S4096x8x32, .f32⟩ : BufTy).Contents (Elt F) → (⟨S4096x8x32, .f32⟩ : BufTy).Contents (Elt F)),
    StableHlo.binary main_v220 main_v225 main_v226 (addf : (⟨S4096x8x32, .f32⟩ : BufTy).Contents (Elt F) → (⟨S4096x8x32, .f32⟩ : BufTy).Contents (Elt F) → (⟨S4096x8x32, .f32⟩ : BufTy).Contents (Elt F)),
    StableHlo.unary main_v49 main_v227 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v217 main_v227 main_v228 (mulf : (⟨S4096x8x32, .f32⟩ : BufTy).Contents (Elt F) → (⟨S4096x8x32, .f32⟩ : BufTy).Contents (Elt F) → (⟨S4096x8x32, .f32⟩ : BufTy).Contents (Elt F)),
    StableHlo.binary main_v222 main_v228 main_v229 (addf : (⟨S4096x8x32, .f32⟩ : BufTy).Contents (Elt F) → (⟨S4096x8x32, .f32⟩ : BufTy).Contents (Elt F) → (⟨S4096x8x32, .f32⟩ : BufTy).Contents (Elt F)),
    StableHlo.nullary main_cst_28 (constant S_ .f32 0x00000000#32),
    StableHlo.binary main_v226 main_cst_28 main_v230 ((fun x v => pad S4096x8x64 ![0, 0, 32] ![0, 0, 0] ![0, 0, 0] x v pads_S4096x8x32_S4096x8x64_000_000_3200 h_S_) : (⟨S4096x8x32, .f32⟩ : BufTy).Contents (Elt F) → (⟨S_, .f32⟩ : BufTy).Contents (Elt F) → (⟨S4096x8x64, .f32⟩ : BufTy).Contents (Elt F)),
    StableHlo.nullary main_cst_29 (constant S_ .f32 0x00000000#32),
    StableHlo.binary main_v229 main_cst_29 main_v231 ((fun x v => pad S4096x8x64 ![0, 0, 0] ![0, 0, 32] ![0, 0, 0] x v pads_S4096x8x32_S4096x8x64_000_000_0320 h_S_) : (⟨S4096x8x32, .f32⟩ : BufTy).Contents (Elt F) → (⟨S_, .f32⟩ : BufTy).Contents (Elt F) → (⟨S4096x8x64, .f32⟩ : BufTy).Contents (Elt F)),
    StableHlo.binary main_v230 main_v231 main_v232 (addf : (⟨S4096x8x64, .f32⟩ : BufTy).Contents (Elt F) → (⟨S4096x8x64, .f32⟩ : BufTy).Contents (Elt F) → (⟨S4096x8x64, .f32⟩ : BufTy).Contents (Elt F)),
    StableHlo.reshape main_v232 main_v233 (rfl : (.f32 : EltTy) = .f32) shapeCasts_S4096x8x64_S4096x512 ]
set_option maxHeartbeats 40000000 in
theorem s20_sub : (s20 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.reshape_bufs_sub ..⟩
set_option maxHeartbeats 40000000 in
theorem s20_fresh : (s20 : List (HloOp τ sig (Elt F))).Forall fun op => op.fresh = ∅ :=
  StableHlo.forall_fresh_of_map rfl
abbrev s20_W : List (Ref sig .tc) := [main_v217, main_v218, main_v219, main_v220, main_v221, main_v222, main_v223, main_v224, main_v225, main_v226, main_v227, main_v228, main_v229, main_cst_28, main_v230, main_cst_29, main_v231, main_v232, main_v233]
set_option maxHeartbeats 40000000 in
theorem s20_writes : (s20 : List (HloOp τ sig (Elt F))).Forall fun op => op.writes ⊆ (s20_W.map (Proc.devRef (τ := τ) .tc)).toFinset :=
  StableHlo.forall_writes_sub_of_map rfl

set_option maxHeartbeats 40000000 in
/-- From `main_cst_30` to `main_v252`. -/
abbrev s21 : List (HloOp τ sig (Elt F)) :=
  [ StableHlo.nullary main_cst_30 (constant S_ .f32 0x3E000000#32),
    StableHlo.unary main_cst_30 main_v234 (broadcastInDim S4096x8x64 ![] bcast_S_S4096x8x64 : (⟨S_, .f32⟩ : BufTy).Contents (Elt F) → (⟨S4096x8x64, .f32⟩ : BufTy).Contents (Elt F)),
    StableHlo.binary main_v215 main_v234 main_v235 (mulf : (⟨S4096x8x64, .f32⟩ : BufTy).Contents (Elt F) → (⟨S4096x8x64, .f32⟩ : BufTy).Contents (Elt F) → (⟨S4096x8x64, .f32⟩ : BufTy).Contents (Elt F)),
    StableHlo.unary main_v235 main_v236 ((extractStridedSlice S4096x8x32 ![0, 0, 0] · slices_S4096x8x64_S4096x8x32_0_0_0) : (⟨S4096x8x64, .f32⟩ : BufTy).Contents (Elt F) → (⟨S4096x8x32, .f32⟩ : BufTy).Contents (Elt F)),
    StableHlo.unary main_v235 main_v237 ((extractStridedSlice S4096x8x32 ![0, 0, 32] · slices_S4096x8x64_S4096x8x32_0_0_32) : (⟨S4096x8x64, .f32⟩ : BufTy).Contents (Elt F) → (⟨S4096x8x32, .f32⟩ : BufTy).Contents (Elt F)),
    StableHlo.unary main_v18 main_v238 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v237 main_v238 main_v239 (mulf : (⟨S4096x8x32, .f32⟩ : BufTy).Contents (Elt F) → (⟨S4096x8x32, .f32⟩ : BufTy).Contents (Elt F) → (⟨S4096x8x32, .f32⟩ : BufTy).Contents (Elt F)),
    StableHlo.unary main_v20 main_v240 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v237 main_v240 main_v241 (mulf : (⟨S4096x8x32, .f32⟩ : BufTy).Contents (Elt F) → (⟨S4096x8x32, .f32⟩ : BufTy).Contents (Elt F) → (⟨S4096x8x32, .f32⟩ : BufTy).Contents (Elt F)),
    StableHlo.unary main_v236 main_v242 (Host.negf : (⟨S4096x8x32, .f32⟩ : BufTy).Contents (Elt F) → (⟨S4096x8x32, .f32⟩ : BufTy).Contents (Elt F)),
    StableHlo.unary main_v20 main_v243 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v242 main_v243 main_v244 (mulf : (⟨S4096x8x32, .f32⟩ : BufTy).Contents (Elt F) → (⟨S4096x8x32, .f32⟩ : BufTy).Contents (Elt F) → (⟨S4096x8x32, .f32⟩ : BufTy).Contents (Elt F)),
    StableHlo.binary main_v239 main_v244 main_v245 (addf : (⟨S4096x8x32, .f32⟩ : BufTy).Contents (Elt F) → (⟨S4096x8x32, .f32⟩ : BufTy).Contents (Elt F) → (⟨S4096x8x32, .f32⟩ : BufTy).Contents (Elt F)),
    StableHlo.unary main_v18 main_v246 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v236 main_v246 main_v247 (mulf : (⟨S4096x8x32, .f32⟩ : BufTy).Contents (Elt F) → (⟨S4096x8x32, .f32⟩ : BufTy).Contents (Elt F) → (⟨S4096x8x32, .f32⟩ : BufTy).Contents (Elt F)),
    StableHlo.binary main_v241 main_v247 main_v248 (addf : (⟨S4096x8x32, .f32⟩ : BufTy).Contents (Elt F) → (⟨S4096x8x32, .f32⟩ : BufTy).Contents (Elt F) → (⟨S4096x8x32, .f32⟩ : BufTy).Contents (Elt F)),
    StableHlo.nullary main_cst_31 (constant S_ .f32 0x00000000#32),
    StableHlo.binary main_v245 main_cst_31 main_v249 ((fun x v => pad S4096x8x64 ![0, 0, 32] ![0, 0, 0] ![0, 0, 0] x v pads_S4096x8x32_S4096x8x64_000_000_3200 h_S_) : (⟨S4096x8x32, .f32⟩ : BufTy).Contents (Elt F) → (⟨S_, .f32⟩ : BufTy).Contents (Elt F) → (⟨S4096x8x64, .f32⟩ : BufTy).Contents (Elt F)),
    StableHlo.nullary main_cst_32 (constant S_ .f32 0x00000000#32),
    StableHlo.binary main_v248 main_cst_32 main_v250 ((fun x v => pad S4096x8x64 ![0, 0, 0] ![0, 0, 32] ![0, 0, 0] x v pads_S4096x8x32_S4096x8x64_000_000_0320 h_S_) : (⟨S4096x8x32, .f32⟩ : BufTy).Contents (Elt F) → (⟨S_, .f32⟩ : BufTy).Contents (Elt F) → (⟨S4096x8x64, .f32⟩ : BufTy).Contents (Elt F)),
    StableHlo.binary main_v249 main_v250 main_v251 (addf : (⟨S4096x8x64, .f32⟩ : BufTy).Contents (Elt F) → (⟨S4096x8x64, .f32⟩ : BufTy).Contents (Elt F) → (⟨S4096x8x64, .f32⟩ : BufTy).Contents (Elt F)),
    StableHlo.reshape main_v251 main_v252 (rfl : (.f32 : EltTy) = .f32) shapeCasts_S4096x8x64_S4096x512 ]
set_option maxHeartbeats 40000000 in
theorem s21_sub : (s21 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.reshape_bufs_sub ..⟩
set_option maxHeartbeats 40000000 in
theorem s21_fresh : (s21 : List (HloOp τ sig (Elt F))).Forall fun op => op.fresh = ∅ :=
  StableHlo.forall_fresh_of_map rfl
abbrev s21_W : List (Ref sig .tc) := [main_cst_30, main_v234, main_v235, main_v236, main_v237, main_v238, main_v239, main_v240, main_v241, main_v242, main_v243, main_v244, main_v245, main_v246, main_v247, main_v248, main_cst_31, main_v249, main_cst_32, main_v250, main_v251, main_v252]
set_option maxHeartbeats 40000000 in
theorem s21_writes : (s21 : List (HloOp τ sig (Elt F))).Forall fun op => op.writes ⊆ (s21_W.map (Proc.devRef (τ := τ) .tc)).toFinset :=
  StableHlo.forall_writes_sub_of_map rfl

set_option maxHeartbeats 40000000 in
/-- From `main_cst_33` to `main_v253`. -/
abbrev s22 : List (HloOp τ sig (Elt F)) :=
  [ StableHlo.nullary main_cst_33 (constant S_ .f32 0x00000000#32),
    StableHlo.binary main_v157 main_cst_33 main_v253 ((fun x v => pad S4096x8192 ![0, 2048] ![0, 5120] ![0, 0] x v pads_S4096x1024_S4096x8192_000_204851200 h_S_) : (⟨S4096x1024, .f32⟩ : BufTy).Contents (Elt F) → (⟨S_, .f32⟩ : BufTy).Contents (Elt F) → (⟨S4096x8192, .f32⟩ : BufTy).Contents (Elt F)) ]
set_option maxHeartbeats 40000000 in
theorem s22_sub : (s22 : List (HloOp τ sig (Elt F))).Forall fun op => op.bufs ⊆ StableHlo.tcRefs τ sig :=
  ⟨StableHlo.nullary_bufs_sub .., StableHlo.binary_bufs_sub ..⟩
set_option maxHeartbeats 40000000 in
theorem s22_fresh : (s22 : List (HloOp τ sig (Elt F))).Forall fun op => op.fresh = ∅ :=
  StableHlo.forall_fresh_of_map rfl
abbrev s22_W : List (Ref sig .tc) := [main_cst_33, main_v253]
set_option maxHeartbeats 40000000 in
theorem s22_writes : (s22 : List (HloOp τ sig (Elt F))).Forall fun op => op.writes ⊆ (s22_W.map (Proc.devRef (τ := τ) .tc)).toFinset :=
  StableHlo.forall_writes_sub_of_map rfl

set_option maxHeartbeats 40000000 in
/-- From `main_cst_34` to `main_v260`. -/
abbrev s23 : List (HloOp τ sig (Elt F)) :=
  [ StableHlo.nullary main_cst_34 (constant S_ .f32 0x00000000#32),
    StableHlo.binary main_v216 main_cst_34 main_v254 ((fun x v => pad S4096x8192 ![0, 1024] ![0, 6144] ![0, 0] x v pads_S4096x1024_S4096x8192_000_102461440 h_S_) : (⟨S4096x1024, .f32⟩ : BufTy).Contents (Elt F) → (⟨S_, .f32⟩ : BufTy).Contents (Elt F) → (⟨S4096x8192, .f32⟩ : BufTy).Contents (Elt F)),
    StableHlo.binary main_v253 main_v254 main_v255 (addf : (⟨S4096x8192, .f32⟩ : BufTy).Contents (Elt F) → (⟨S4096x8192, .f32⟩ : BufTy).Contents (Elt F) → (⟨S4096x8192, .f32⟩ : BufTy).Contents (Elt F)),
    StableHlo.nullary main_cst_35 (constant S_ .f32 0x00000000#32),
    StableHlo.binary main_v233 main_cst_35 main_v256 ((fun x v => pad S4096x8192 ![0, 512] ![0, 7168] ![0, 0] x v pads_S4096x512_S4096x8192_000_51271680 h_S_) : (⟨S4096x512, .f32⟩ : BufTy).Contents (Elt F) → (⟨S_, .f32⟩ : BufTy).Contents (Elt F) → (⟨S4096x8192, .f32⟩ : BufTy).Contents (Elt F)),
    StableHlo.binary main_v255 main_v256 main_v257 (addf : (⟨S4096x8192, .f32⟩ : BufTy).Contents (Elt F) → (⟨S4096x8192, .f32⟩ : BufTy).Contents (Elt F) → (⟨S4096x8192, .f32⟩ : BufTy).Contents (Elt F)),
    StableHlo.nullary main_cst_36 (constant S_ .f32 0x00000000#32),
    StableHlo.binary main_v252 main_cst_36 main_v258 ((fun x v => pad S4096x8192 ![0, 0] ![0, 7680] ![0, 0] x v pads_S4096x512_S4096x8192_000_076800 h_S_) : (⟨S4096x512, .f32⟩ : BufTy).Contents (Elt F) → (⟨S_, .f32⟩ : BufTy).Contents (Elt F) → (⟨S4096x8192, .f32⟩ : BufTy).Contents (Elt F)),
    StableHlo.binary main_v257 main_v258 main_v259 (addf : (⟨S4096x8192, .f32⟩ : BufTy).Contents (Elt F) → (⟨S4096x8192, .f32⟩ : BufTy).Contents (Elt F) → (⟨S4096x8192, .f32⟩ : BufTy).Contents (Elt F)),
    StableHlo.unary main_v259 main_v260 ((truncf .bf16 · bitsLt_bf16_f32) : (⟨S4096x8192, .f32⟩ : BufTy).Contents (Elt F) → (⟨S4096x8192, .bf16⟩ : BufTy).Contents (Elt F)) ]
set_option maxHeartbeats 40000000 in
theorem s23_sub : (s23 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub ..⟩
set_option maxHeartbeats 40000000 in
theorem s23_fresh : (s23 : List (HloOp τ sig (Elt F))).Forall fun op => op.fresh = ∅ :=
  StableHlo.forall_fresh_of_map rfl
abbrev s23_W : List (Ref sig .tc) := [main_cst_34, main_v254, main_v255, main_cst_35, main_v256, main_v257, main_cst_36, main_v258, main_v259, main_v260]
set_option maxHeartbeats 40000000 in
theorem s23_writes : (s23 : List (HloOp τ sig (Elt F))).Forall fun op => op.writes ⊆ (s23_W.map (Proc.devRef (τ := τ) .tc)).toFinset :=
  StableHlo.forall_writes_sub_of_map rfl

set_option maxHeartbeats 40000000 in
/-- From `main_while0b_call0_c` to `main_while0b_v261`. -/
abbrev b0_0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v114_0 : StableHlo.TRef sig ⟨S64x8x64x128, .f32⟩) ![(.of main_v114_2 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while0b_call0_v0 : StableHlo.TRef sig ⟨S1x8x64x128, .f32⟩) (.of main_while0b_v261 : StableHlo.TRef sig ⟨S8x64x128, .f32⟩) (rfl : (.f32 : EltTy) = .f32) shapeCasts_S1x8x64x128_S8x64x128 ]
set_option maxHeartbeats 40000000 in
theorem b0_0_sub : (b0_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
set_option maxHeartbeats 40000000 in
theorem b0_0_fresh : (b0_0 : List (HloOp τ sig (Elt F))).Forall fun op => op.fresh = ∅ :=
  StableHlo.forall_fresh_of_map rfl
abbrev b0_0_W : List (Ref sig .tc) := [main_while0b_call0_c, main_while0b_call0_c_0, main_while0b_call0_c_1, main_while0b_call0_v0, main_while0b_v261]
set_option maxHeartbeats 40000000 in
theorem b0_0_writes : (b0_0 : List (HloOp τ sig (Elt F))).Forall fun op => op.writes ⊆ (b0_0_W.map (Proc.devRef (τ := τ) .tc)).toFinset :=
  StableHlo.forall_writes_sub_of_map rfl

set_option maxHeartbeats 40000000 in
/-- From `main_while0b_v262` to `main_while0b_v264`. -/
abbrev b0_1 : List (HloOp τ sig (Elt F)) :=
  [ StableHlo.unary main_v114_1 main_while0b_v262 (broadcastInDim S8x64x128 ![0, 1, 2] bcast_S8x1x1_S8x64x128_0_1_2 : (⟨S8x1x1, .f32⟩ : BufTy).Contents (Elt F) → (⟨S8x64x128, .f32⟩ : BufTy).Contents (Elt F)),
    StableHlo.binary main_v114_3 main_while0b_v262 main_while0b_v263 (mulf : (⟨S8x64x128, .f32⟩ : BufTy).Contents (Elt F) → (⟨S8x64x128, .f32⟩ : BufTy).Contents (Elt F) → (⟨S8x64x128, .f32⟩ : BufTy).Contents (Elt F)),
    StableHlo.binary main_while0b_v263 main_while0b_v261 main_while0b_v264 (addf : (⟨S8x64x128, .f32⟩ : BufTy).Contents (Elt F) → (⟨S8x64x128, .f32⟩ : BufTy).Contents (Elt F) → (⟨S8x64x128, .f32⟩ : BufTy).Contents (Elt F)) ]
set_option maxHeartbeats 40000000 in
theorem b0_1_sub : (b0_1 : List (HloOp τ sig (Elt F))).Forall fun op => op.bufs ⊆ StableHlo.tcRefs τ sig :=
  ⟨StableHlo.unary_bufs_sub .., StableHlo.binary_bufs_sub .., StableHlo.binary_bufs_sub ..⟩
set_option maxHeartbeats 40000000 in
theorem b0_1_fresh : (b0_1 : List (HloOp τ sig (Elt F))).Forall fun op => op.fresh = ∅ :=
  StableHlo.forall_fresh_of_map rfl
abbrev b0_1_W : List (Ref sig .tc) := [main_while0b_v262, main_while0b_v263, main_while0b_v264]
set_option maxHeartbeats 40000000 in
theorem b0_1_writes : (b0_1 : List (HloOp τ sig (Elt F))).Forall fun op => op.writes ⊆ (b0_1_W.map (Proc.devRef (τ := τ) .tc)).toFinset :=
  StableHlo.forall_writes_sub_of_map rfl

set_option maxHeartbeats 40000000 in
/-- From `main_while0b_call1_v0` to `main_while0b_v265`. -/
abbrev b0_2 : List (HloOp τ sig (Elt F)) :=
  [ StableHlo.TRef.unary (.of main_v114_3 : StableHlo.TRef sig ⟨S8x64x128, .f32⟩) (.of main_while0b_call1_v0 : StableHlo.TRef sig ⟨S1x8x64x128, .f32⟩) (broadcastInDim S1x8x64x128 ![1, 2, 3] bcast_S8x64x128_S1x8x64x128_1_2_3),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.binaryIndexed (.of main_v114_4 : StableHlo.TRef sig ⟨S64x8x64x128, .f32⟩) (.of main_while0b_call1_v0 : StableHlo.TRef sig ⟨S1x8x64x128, .f32⟩) ![(.of main_v114_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_v265 : StableHlo.TRef sig ⟨S64x8x64x128, .f32⟩) (fun x u i => Host.dynamicUpdateSlice x u (fun k => (i k (Shape.Idx.first h_S_)).toInt) updateFits_S64x8x64x128_S1x8x64x128) ]
set_option maxHeartbeats 40000000 in
theorem b0_2_sub : (b0_2 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
set_option maxHeartbeats 40000000 in
theorem b0_2_fresh : (b0_2 : List (HloOp τ sig (Elt F))).Forall fun op => op.fresh = ∅ :=
  StableHlo.forall_fresh_of_map rfl
abbrev b0_2_W : List (Ref sig .tc) := [main_while0b_call1_v0, main_while0b_call1_c, main_while0b_call1_c_0, main_while0b_call1_c_1, main_while0b_v265]
set_option maxHeartbeats 40000000 in
theorem b0_2_writes : (b0_2 : List (HloOp τ sig (Elt F))).Forall fun op => op.writes ⊆ (b0_2_W.map (Proc.devRef (τ := τ) .tc)).toFinset :=
  StableHlo.forall_writes_sub_of_map rfl

set_option maxHeartbeats 40000000 in
/-- From `main_while0b_c_41` to `main_v114_4`. -/
abbrev b0_3 : List (HloOp τ sig (Elt F)) :=
  [ StableHlo.nullary main_while0b_c_41 (constantI S_ 32 1#32),
    StableHlo.binary main_v114_2 main_while0b_c_41 main_while0b_v266 (addi : (⟨S_, .i32⟩ : BufTy).Contents (Elt F) → (⟨S_, .i32⟩ : BufTy).Contents (Elt F) → (⟨S_, .i32⟩ : BufTy).Contents (Elt F)),
    StableHlo.unary main_while0b_v266 main_v114_2 id,
    StableHlo.unary main_while0b_v264 main_v114_3 id,
    StableHlo.unary main_while0b_v265 main_v114_4 id ]
set_option maxHeartbeats 40000000 in
theorem b0_3_sub : (b0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
set_option maxHeartbeats 40000000 in
theorem b0_3_fresh : (b0_3 : List (HloOp τ sig (Elt F))).Forall fun op => op.fresh = ∅ :=
  StableHlo.forall_fresh_of_map rfl
abbrev b0_3_W : List (Ref sig .tc) := [main_while0b_c_41, main_while0b_v266, main_v114_2, main_v114_3, main_v114_4]
set_option maxHeartbeats 40000000 in
theorem b0_3_writes : (b0_3 : List (HloOp τ sig (Elt F))).Forall fun op => op.writes ⊆ (b0_3_W.map (Proc.devRef (τ := τ) .tc)).toFinset :=
  StableHlo.forall_writes_sub_of_map rfl

set_option maxHeartbeats 40000000 in
/-- From `main_while1b_c_41` to `main_while1b_v262`. -/
abbrev b1_0 : List (HloOp τ sig (Elt F)) :=
  [ StableHlo.nullary main_while1b_c_41 (constantI S_ 32 64#32),
    StableHlo.binary main_while1b_c_41 main_v193_2 main_while1b_v261 (subi : (⟨S_, .i32⟩ : BufTy).Contents (Elt F) → (⟨S_, .i32⟩ : BufTy).Contents (Elt F) → (⟨S_, .i32⟩ : BufTy).Contents (Elt F)),
    StableHlo.nullary main_while1b_c_42 (constantI S_ 32 1#32),
    StableHlo.binary main_while1b_v261 main_while1b_c_42 main_while1b_v262 (subi : (⟨S_, .i32⟩ : BufTy).Contents (Elt F) → (⟨S_, .i32⟩ : BufTy).Contents (Elt F) → (⟨S_, .i32⟩ : BufTy).Contents (Elt F)) ]
set_option maxHeartbeats 40000000 in
theorem b1_0_sub : (b1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
set_option maxHeartbeats 40000000 in
theorem b1_0_fresh : (b1_0 : List (HloOp τ sig (Elt F))).Forall fun op => op.fresh = ∅ :=
  StableHlo.forall_fresh_of_map rfl
abbrev b1_0_W : List (Ref sig .tc) := [main_while1b_c_41, main_while1b_v261, main_while1b_c_42, main_while1b_v262]
set_option maxHeartbeats 40000000 in
theorem b1_0_writes : (b1_0 : List (HloOp τ sig (Elt F))).Forall fun op => op.writes ⊆ (b1_0_W.map (Proc.devRef (τ := τ) .tc)).toFinset :=
  StableHlo.forall_writes_sub_of_map rfl

set_option maxHeartbeats 40000000 in
/-- From `main_while1b_call4_c` to `main_while1b_v263`. -/
abbrev b1_1 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.unaryIndexed (.of main_v193_0 : StableHlo.TRef sig ⟨S64x8x64x128, .f32⟩) ![(.of main_while1b_v262 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩)] (.of main_while1b_call4_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while1b_call4_v0 : StableHlo.TRef sig ⟨S1x8x64x128, .f32⟩) (.of main_while1b_v263 : StableHlo.TRef sig ⟨S8x64x128, .f32⟩) (rfl : (.f32 : EltTy) = .f32) shapeCasts_S1x8x64x128_S8x64x128 ]
set_option maxHeartbeats 40000000 in
theorem b1_1_sub : (b1_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
set_option maxHeartbeats 40000000 in
theorem b1_1_fresh : (b1_1 : List (HloOp τ sig (Elt F))).Forall fun op => op.fresh = ∅ :=
  StableHlo.forall_fresh_of_map rfl
abbrev b1_1_W : List (Ref sig .tc) := [main_while1b_call4_c, main_while1b_call4_c_0, main_while1b_call4_c_1, main_while1b_call4_v0, main_while1b_v263]
set_option maxHeartbeats 40000000 in
theorem b1_1_writes : (b1_1 : List (HloOp τ sig (Elt F))).Forall fun op => op.writes ⊆ (b1_1_W.map (Proc.devRef (τ := τ) .tc)).toFinset :=
  StableHlo.forall_writes_sub_of_map rfl

set_option maxHeartbeats 40000000 in
/-- From `main_while1b_v264` to `main_while1b_v266`. -/
abbrev b1_2 : List (HloOp τ sig (Elt F)) :=
  [ StableHlo.unary main_v193_1 main_while1b_v264 (broadcastInDim S8x64x128 ![0, 1, 2] bcast_S8x1x1_S8x64x128_0_1_2 : (⟨S8x1x1, .f32⟩ : BufTy).Contents (Elt F) → (⟨S8x64x128, .f32⟩ : BufTy).Contents (Elt F)),
    StableHlo.binary main_v193_3 main_while1b_v264 main_while1b_v265 (mulf : (⟨S8x64x128, .f32⟩ : BufTy).Contents (Elt F) → (⟨S8x64x128, .f32⟩ : BufTy).Contents (Elt F) → (⟨S8x64x128, .f32⟩ : BufTy).Contents (Elt F)),
    StableHlo.binary main_while1b_v263 main_while1b_v265 main_while1b_v266 (addf : (⟨S8x64x128, .f32⟩ : BufTy).Contents (Elt F) → (⟨S8x64x128, .f32⟩ : BufTy).Contents (Elt F) → (⟨S8x64x128, .f32⟩ : BufTy).Contents (Elt F)) ]
set_option maxHeartbeats 40000000 in
theorem b1_2_sub : (b1_2 : List (HloOp τ sig (Elt F))).Forall fun op => op.bufs ⊆ StableHlo.tcRefs τ sig :=
  ⟨StableHlo.unary_bufs_sub .., StableHlo.binary_bufs_sub .., StableHlo.binary_bufs_sub ..⟩
set_option maxHeartbeats 40000000 in
theorem b1_2_fresh : (b1_2 : List (HloOp τ sig (Elt F))).Forall fun op => op.fresh = ∅ :=
  StableHlo.forall_fresh_of_map rfl
abbrev b1_2_W : List (Ref sig .tc) := [main_while1b_v264, main_while1b_v265, main_while1b_v266]
set_option maxHeartbeats 40000000 in
theorem b1_2_writes : (b1_2 : List (HloOp τ sig (Elt F))).Forall fun op => op.writes ⊆ (b1_2_W.map (Proc.devRef (τ := τ) .tc)).toFinset :=
  StableHlo.forall_writes_sub_of_map rfl

set_option maxHeartbeats 40000000 in
/-- From `main_while1b_call5_v0` to `main_while1b_v267`. -/
abbrev b1_3 : List (HloOp τ sig (Elt F)) :=
  [ StableHlo.TRef.unary (.of main_v193_3 : StableHlo.TRef sig ⟨S8x64x128, .f32⟩) (.of main_while1b_call5_v0 : StableHlo.TRef sig ⟨S1x8x64x128, .f32⟩) (broadcastInDim S1x8x64x128 ![1, 2, 3] bcast_S8x64x128_S1x8x64x128_1_2_3),
    StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.nullary (.of main_while1b_call5_c_1 : StableHlo.TRef sig ⟨S_, .i32⟩) (constantI S_ 32 0#32),
    StableHlo.TRef.binaryIndexed (.of main_v193_4 : StableHlo.TRef sig ⟨S64x8x64x128, .f32⟩) (.of main_while1b_call5_v0 : StableHlo.TRef sig ⟨S1x8x64x128, .f32⟩) ![(.of main_while1b_v262 : StableHlo.TRef sig ⟨S_, .i32⟩), (.of main_while1b_call5_c : StableHlo.TRef sig ⟨S_, .i32⟩), (.of main_while1b_call5_c_0 : StableHlo.TRef sig ⟨S_, .i32⟩), (.of main_while1b_call5_c_1 : StableHlo.TRef sig ⟨S_, .i32⟩)] (.of main_while1b_v267 : StableHlo.TRef sig ⟨S64x8x64x128, .f32⟩) (fun x u i => Host.dynamicUpdateSlice x u (fun k => (i k (Shape.Idx.first h_S_)).toInt) updateFits_S64x8x64x128_S1x8x64x128) ]
set_option maxHeartbeats 40000000 in
theorem b1_3_sub : (b1_3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
set_option maxHeartbeats 40000000 in
theorem b1_3_fresh : (b1_3 : List (HloOp τ sig (Elt F))).Forall fun op => op.fresh = ∅ :=
  StableHlo.forall_fresh_of_map rfl
abbrev b1_3_W : List (Ref sig .tc) := [main_while1b_call5_v0, main_while1b_call5_c, main_while1b_call5_c_0, main_while1b_call5_c_1, main_while1b_v267]
set_option maxHeartbeats 40000000 in
theorem b1_3_writes : (b1_3 : List (HloOp τ sig (Elt F))).Forall fun op => op.writes ⊆ (b1_3_W.map (Proc.devRef (τ := τ) .tc)).toFinset :=
  StableHlo.forall_writes_sub_of_map rfl

set_option maxHeartbeats 40000000 in
/-- From `main_while1b_c_43` to `main_v193_4`. -/
abbrev b1_4 : List (HloOp τ sig (Elt F)) :=
  [ StableHlo.nullary main_while1b_c_43 (constantI S_ 32 1#32),
    StableHlo.binary main_v193_2 main_while1b_c_43 main_while1b_v268 (addi : (⟨S_, .i32⟩ : BufTy).Contents (Elt F) → (⟨S_, .i32⟩ : BufTy).Contents (Elt F) → (⟨S_, .i32⟩ : BufTy).Contents (Elt F)),
    StableHlo.unary main_while1b_v268 main_v193_2 id,
    StableHlo.unary main_while1b_v266 main_v193_3 id,
    StableHlo.unary main_while1b_v267 main_v193_4 id ]
set_option maxHeartbeats 40000000 in
theorem b1_4_sub : (b1_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
set_option maxHeartbeats 40000000 in
theorem b1_4_fresh : (b1_4 : List (HloOp τ sig (Elt F))).Forall fun op => op.fresh = ∅ :=
  StableHlo.forall_fresh_of_map rfl
abbrev b1_4_W : List (Ref sig .tc) := [main_while1b_c_43, main_while1b_v268, main_v193_2, main_v193_3, main_v193_4]
set_option maxHeartbeats 40000000 in
theorem b1_4_writes : (b1_4 : List (HloOp τ sig (Elt F))).Forall fun op => op.writes ⊆ (b1_4_W.map (Proc.devRef (τ := τ) .tc)).toFinset :=
  StableHlo.forall_writes_sub_of_map rfl

set_option maxHeartbeats 40000000 in
/-- From `main_while0c_c_41` to `main_while0c_v261`. -/
abbrev c0 : List (HloOp τ sig (Elt F)) :=
  [ StableHlo.nullary main_while0c_c_41 (constantI S_ 32 64#32),
    StableHlo.binary main_v114_2 main_while0c_c_41 main_while0c_v261 (cmpi .slt : (⟨S_, .i32⟩ : BufTy).Contents (Elt F) → (⟨S_, .i32⟩ : BufTy).Contents (Elt F) → (⟨S_, .i1⟩ : BufTy).Contents (Elt F)) ]
set_option maxHeartbeats 40000000 in
theorem c0_sub : (c0 : List (HloOp τ sig (Elt F))).Forall fun op => op.bufs ⊆ StableHlo.tcRefs τ sig :=
  ⟨StableHlo.nullary_bufs_sub .., StableHlo.binary_bufs_sub ..⟩
set_option maxHeartbeats 40000000 in
theorem c0_fresh : (c0 : List (HloOp τ sig (Elt F))).Forall fun op => op.fresh = ∅ :=
  StableHlo.forall_fresh_of_map rfl
abbrev c0_W : List (Ref sig .tc) := [main_while0c_c_41, main_while0c_v261]
set_option maxHeartbeats 40000000 in
theorem c0_writes : (c0 : List (HloOp τ sig (Elt F))).Forall fun op => op.writes ⊆ (c0_W.map (Proc.devRef (τ := τ) .tc)).toFinset :=
  StableHlo.forall_writes_sub_of_map rfl

set_option maxHeartbeats 40000000 in
/-- From `main_while1c_c_41` to `main_while1c_v261`. -/
abbrev c1 : List (HloOp τ sig (Elt F)) :=
  [ StableHlo.nullary main_while1c_c_41 (constantI S_ 32 64#32),
    StableHlo.binary main_v193_2 main_while1c_c_41 main_while1c_v261 (cmpi .slt : (⟨S_, .i32⟩ : BufTy).Contents (Elt F) → (⟨S_, .i32⟩ : BufTy).Contents (Elt F) → (⟨S_, .i1⟩ : BufTy).Contents (Elt F)) ]
set_option maxHeartbeats 40000000 in
theorem c1_sub : (c1 : List (HloOp τ sig (Elt F))).Forall fun op => op.bufs ⊆ StableHlo.tcRefs τ sig :=
  ⟨StableHlo.nullary_bufs_sub .., StableHlo.binary_bufs_sub ..⟩
set_option maxHeartbeats 40000000 in
theorem c1_fresh : (c1 : List (HloOp τ sig (Elt F))).Forall fun op => op.fresh = ∅ :=
  StableHlo.forall_fresh_of_map rfl
abbrev c1_W : List (Ref sig .tc) := [main_while1c_c_41, main_while1c_v261]
set_option maxHeartbeats 40000000 in
theorem c1_writes : (c1 : List (HloOp τ sig (Elt F))).Forall fun op => op.writes ⊆ (c1_W.map (Proc.devRef (τ := τ) .tc)).toFinset :=
  StableHlo.forall_writes_sub_of_map rfl

theorem part0_chain (c : Dev nD) : main_part0 (F := F) c = (Pipeline.chainK [StableHlo.seq s0, StableHlo.seq s1] (StableHlo.seq s2) : (Prog (TpuEff nD τ sig (Elt F) (HostLoop.Sig (Pipeline.Sig Λ₀ (Fin 0) fun p => (pcfgs (F := F) p).Adm) 2) .tc) PUnit)) := by
  rewrite [StableHlo.chainK_seq_cons, StableHlo.chainK_seq_cons]
  chain_rfl
theorem part1_chain (c : Dev nD) : main_part1 (F := F) c = (Pipeline.chainK [StableHlo.seq s3, StableHlo.seq s4, StableHlo.seq s5] (StableHlo.seq s6) : (Prog (TpuEff nD τ sig (Elt F) (HostLoop.Sig (Pipeline.Sig Λ₀ (Fin 0) fun p => (pcfgs (F := F) p).Adm) 2) .tc) PUnit)) := by
  rewrite [StableHlo.chainK_seq_cons, StableHlo.chainK_seq_cons, StableHlo.chainK_seq_cons]
  chain_rfl
theorem part2_chain (c : Dev nD) : main_part2 (F := F) c = (Pipeline.chainK [StableHlo.seq s7, StableHlo.seq s8, HostLoop.enter 0, StableHlo.seq s9, StableHlo.seq s10, StableHlo.seq s11] (StableHlo.seq s12) : (Prog (TpuEff nD τ sig (Elt F) (HostLoop.Sig (Pipeline.Sig Λ₀ (Fin 0) fun p => (pcfgs (F := F) p).Adm) 2) .tc) PUnit)) := by
  rewrite [StableHlo.chainK_seq_cons, StableHlo.chainK_seq_cons, Pipeline.chainK_cons, StableHlo.chainK_seq_cons, StableHlo.chainK_seq_cons, Pipeline.chainK_cons]
  chain_rfl
theorem part3_chain (c : Dev nD) : main_part3 (F := F) c = (Pipeline.chainK [StableHlo.seq s13, StableHlo.seq s14, StableHlo.seq s15, StableHlo.seq s16, HostLoop.enter 1] (StableHlo.seq s17) : (Prog (TpuEff nD τ sig (Elt F) (HostLoop.Sig (Pipeline.Sig Λ₀ (Fin 0) fun p => (pcfgs (F := F) p).Adm) 2) .tc) PUnit)) := by
  rewrite [StableHlo.chainK_seq_cons, Pipeline.chainK_cons, StableHlo.chainK_seq_cons, StableHlo.chainK_seq_cons, Pipeline.chainK_cons]
  chain_rfl
theorem part4_chain (c : Dev nD) : main_part4 (F := F) c = (Pipeline.chainK [StableHlo.seq s18, StableHlo.seq s19, StableHlo.seq s20, StableHlo.seq s21] (StableHlo.seq s22) : (Prog (TpuEff nD τ sig (Elt F) (HostLoop.Sig (Pipeline.Sig Λ₀ (Fin 0) fun p => (pcfgs (F := F) p).Adm) 2) .tc) PUnit)) := by
  rewrite [StableHlo.chainK_seq_cons, StableHlo.chainK_seq_cons, StableHlo.chainK_seq_cons, StableHlo.chainK_seq_cons]
  chain_rfl
theorem part5_chain (c : Dev nD) : main_part5 (F := F) c = (Pipeline.chain [StableHlo.seq s23] : (Prog (TpuEff nD τ sig (Elt F) (HostLoop.Sig (Pipeline.Sig Λ₀ (Fin 0) fun p => (pcfgs (F := F) p).Adm) 2) .tc) PUnit)) := by
  chain_rfl
theorem body0_chain : main_while0_body (F := F) = (Pipeline.chain [StableHlo.seq b0_0, StableHlo.seq b0_1, StableHlo.seq b0_2, StableHlo.seq b0_3] : (Prog (TpuEff nD τ sig (Elt F) (HostLoop.Sig (Pipeline.Sig Λ₀ (Fin 0) fun p => (pcfgs (F := F) p).Adm) 2) .tc) PUnit)) := by
  rewrite [Pipeline.chain_cons, StableHlo.chain_seq_cons, Pipeline.chain_cons]
  chain_rfl
theorem body1_chain : main_while1_body (F := F) = (Pipeline.chain [StableHlo.seq b1_0, StableHlo.seq b1_1, StableHlo.seq b1_2, StableHlo.seq b1_3, StableHlo.seq b1_4] : (Prog (TpuEff nD τ sig (Elt F) (HostLoop.Sig (Pipeline.Sig Λ₀ (Fin 0) fun p => (pcfgs (F := F) p).Adm) 2) .tc) PUnit)) := by
  rewrite [StableHlo.chain_seq_cons, Pipeline.chain_cons, StableHlo.chain_seq_cons, Pipeline.chain_cons]
  chain_rfl
set_option maxRecDepth 16384 in
theorem main_chain (c : Dev nD) : main (F := F) c = (Pipeline.chain [StableHlo.seq s0, StableHlo.seq s1, StableHlo.seq s2, StableHlo.seq s3, StableHlo.seq s4, StableHlo.seq s5, StableHlo.seq s6, StableHlo.seq s7, StableHlo.seq s8, HostLoop.enter 0, StableHlo.seq s9, StableHlo.seq s10, StableHlo.seq s11, StableHlo.seq s12, StableHlo.seq s13, StableHlo.seq s14, StableHlo.seq s15, StableHlo.seq s16, HostLoop.enter 1, StableHlo.seq s17, StableHlo.seq s18, StableHlo.seq s19, StableHlo.seq s20, StableHlo.seq s21, StableHlo.seq s22, StableHlo.seq s23] : (Prog (TpuEff nD τ sig (Elt F) (HostLoop.Sig (Pipeline.Sig Λ₀ (Fin 0) fun p => (pcfgs (F := F) p).Adm) 2) .tc) PUnit)) := by
  show (main_part0 (F := F) c >>= fun _ => main_part1 (F := F) c >>= fun _ => main_part2 (F := F) c >>= fun _ => main_part3 (F := F) c >>= fun _ => main_part4 (F := F) c >>= fun _ => main_part5 (F := F) c) = _
  rewrite [part5_chain, part4_chain, Pipeline.chainK_bind_chain, part3_chain, Pipeline.chainK_bind_chain, part2_chain, Pipeline.chainK_bind_chain, part1_chain, Pipeline.chainK_bind_chain, part0_chain, Pipeline.chainK_bind_chain]
  chain_rfl

abbrev preI : List (List (HloOp τ sig (Elt F))) := [s0, s1, s2, s3, s4, s5, s6, s7, s8]
theorem preI_plain : StableHlo.Plain (preI (F := F)) := .cons s0_sub (hf := List.forall_iff_forall_mem.mp s0_fresh) (.cons s1_sub (hf := List.forall_iff_forall_mem.mp s1_fresh) (.cons s2_sub (hf := List.forall_iff_forall_mem.mp s2_fresh) (.cons s3_sub (hf := List.forall_iff_forall_mem.mp s3_fresh) (.cons s4_sub (hf := List.forall_iff_forall_mem.mp s4_fresh) (.cons s5_sub (hf := List.forall_iff_forall_mem.mp s5_fresh) (.cons s6_sub (hf := List.forall_iff_forall_mem.mp s6_fresh) (.cons s7_sub (hf := List.forall_iff_forall_mem.mp s7_fresh) (.cons s8_sub (hf := List.forall_iff_forall_mem.mp s8_fresh) (.nil)))))))))

abbrev midI : List (List (HloOp τ sig (Elt F))) := [s9, s10, s11, s12, s13, s14, s15, s16]
theorem midI_plain : StableHlo.Plain (midI (F := F)) := .cons s9_sub (hf := List.forall_iff_forall_mem.mp s9_fresh) (.cons s10_sub (hf := List.forall_iff_forall_mem.mp s10_fresh) (.cons s11_sub (hf := List.forall_iff_forall_mem.mp s11_fresh) (.cons s12_sub (hf := List.forall_iff_forall_mem.mp s12_fresh) (.cons s13_sub (hf := List.forall_iff_forall_mem.mp s13_fresh) (.cons s14_sub (hf := List.forall_iff_forall_mem.mp s14_fresh) (.cons s15_sub (hf := List.forall_iff_forall_mem.mp s15_fresh) (.cons s16_sub (hf := List.forall_iff_forall_mem.mp s16_fresh) (.nil))))))))

abbrev postI : List (List (HloOp τ sig (Elt F))) := [s17, s18, s19, s20, s21, s22, s23]
theorem postI_plain : StableHlo.Plain (postI (F := F)) := .cons s17_sub (hf := List.forall_iff_forall_mem.mp s17_fresh) (.cons s18_sub (hf := List.forall_iff_forall_mem.mp s18_fresh) (.cons s19_sub (hf := List.forall_iff_forall_mem.mp s19_fresh) (.cons s20_sub (hf := List.forall_iff_forall_mem.mp s20_fresh) (.cons s21_sub (hf := List.forall_iff_forall_mem.mp s21_fresh) (.cons s22_sub (hf := List.forall_iff_forall_mem.mp s22_fresh) (.cons s23_sub (hf := List.forall_iff_forall_mem.mp s23_fresh) (.nil)))))))

abbrev body0 : List (List (HloOp τ sig (Elt F))) := [b0_0, b0_1, b0_2, b0_3]
theorem body0_plain : StableHlo.Plain (body0 (F := F)) := .cons b0_0_sub (hf := List.forall_iff_forall_mem.mp b0_0_fresh) (.cons b0_1_sub (hf := List.forall_iff_forall_mem.mp b0_1_fresh) (.cons b0_2_sub (hf := List.forall_iff_forall_mem.mp b0_2_fresh) (.cons b0_3_sub (hf := List.forall_iff_forall_mem.mp b0_3_fresh) (.nil))))

abbrev body1 : List (List (HloOp τ sig (Elt F))) := [b1_0, b1_1, b1_2, b1_3, b1_4]
theorem body1_plain : StableHlo.Plain (body1 (F := F)) := .cons b1_0_sub (hf := List.forall_iff_forall_mem.mp b1_0_fresh) (.cons b1_1_sub (hf := List.forall_iff_forall_mem.mp b1_1_fresh) (.cons b1_2_sub (hf := List.forall_iff_forall_mem.mp b1_2_fresh) (.cons b1_3_sub (hf := List.forall_iff_forall_mem.mp b1_3_fresh) (.cons b1_4_sub (hf := List.forall_iff_forall_mem.mp b1_4_fresh) (.nil)))))

end Cert.RetReferenceIdeal.Lists
-- ==== Proof.RetLoops.lean ====
/-
A host program that is a list of stretches, a counted loop, a second list, a second counted loop and a
third list: every run ends with each buffer at the value the stretches give it in order.
-/
module

public import Idealize.ShloMosaic.Lib.Pipeline.Regions
public import Idealize.ShloMosaic.Lib.StableHlo.RunLoop
public import Idealize.ShloMosaic.Lib.StableHlo.RunRead

@[expose] public section

noncomputable section

namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs CSeg PCfg Ticket)

variable {nD : Nat} {τ : Topo} {sig : RefSig} {F : FTy → Type} [FloatOps F] {Λ₀ : Idealize.SL.Sem.Labels}

local notation "𝕄" => MT nD τ sig Unit (Elt F) ℕ (Option PUnit) ℕ

/-- A program's stretches: lists of host operations, one list per stretch. -/
abbrev Stretches (τ : Topo) (sig : RefSig) (F : FTy → Type) [FloatOps F] := List (List (HloOp τ sig (Elt F)))

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- A counted loop as data: its label, its two regions, their operations, the number of trips. -/
structure Loop where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  is_step : loops l = HostLoop.step l cond body
  test : List (HloOp τ sig (Elt F))
  trip : Stretches τ sig F
  plain : Plain trip
  is_chain : body = Pipeline.chain (trip.map fun ops => (seq ops : Prog _ PUnit))
  n : ℕ

variable {pcs defs₀ loops}

/-- The buffers after the loop has been left, entered at `W`. -/
abbrev Loop.out (A : Loop pcs loops) (W : Dev nD → Valuation τ sig (Elt F)) (c : Dev nD) : Valuation τ sig (Elt F) :=
  after A.test (atTrip A.test A.trip W A.n c)

/-- The loop's test, run before trip `k`, says whether `k` is below the number of trips. -/
abbrev Loop.Tested (defs₀ : Defs nD τ sig (Elt F) Λ₀) (A : Loop pcs loops) (W : Dev nD → Valuation τ sig (Elt F)) : Prop :=
  CondSpec pcs defs₀ loops A.cond A.test A.trip W A.n

variable (F) in
/-- Beside the buffers a core carries what it owes: nothing. -/
abbrev Debt (c : Dev nD) : sProp 𝕄 := iprop(∃ W, owes (c : Thread nD τ) (0 : CellTallies nD τ sig Unit) W)

/-- The test with the core's debt carried along. -/
theorem Loop.Tested.carry {A : Loop pcs loops} {W : Dev nD → Valuation τ sig (Elt F)} (h : A.Tested defs₀ W) :
    LoopCond pcs defs₀ Variants.none loops (Debt F) A.cond A.test A.trip W A.n := by
  intro k hk c bd
  refine BIBase.Entails.trans (?_ : _ ⊢ iprop((boundary (c : Thread nD τ) ∗ held (c : Thread nD τ) (ucRefs τ sig) (atTrip A.test A.trip W k c)) ∗ Debt F c))
    (((sep_mono_left (h k hk c bd)).trans (wp_frame_r _ _ _)).trans (wp_mono _ _ _ fun v => ?_))
  · iintro ⟨B, H, D⟩
    isplitl [B H]
    · isplitl [B]
      · iexact B
      iexact H
    iexact D
  · iintro ⟨⟨%e, B, H⟩, D⟩
    isplitr
    · ipureintro; exact e
    isplitl [B]
    · iexact B
    isplitl [H]
    · iexact H
    iexact D

/-- Nothing is admitted, no ticket is held, no level is used. -/
abbrev none_adm (pcs : Fin 0 → PCfg sig Λ₀ (Elt F)) : (p : Fin 0) → (pcs p).Adm := fun p => p.elim0
abbrev none_tk (pcs : Fin 0 → PCfg sig Λ₀ (Elt F)) :
    Fin 0 → Ticket (Ix := Unit) (Name := ℕ) (U := Option PUnit) (Lvl := ℕ) (nD := nD) (τ := τ) pcs (none_adm pcs) := fun j => j.elim0
abbrev no_ix : GSem nD τ sig → Finset Unit := fun _ => ∅
abbrev no_lv : GSem nD τ sig → Unit → ℕ := fun _ _ => 0

theorem no_cell (pcs : Fin 0 → PCfg sig Λ₀ (Elt F)) :
    Function.Injective (Pipeline.cellOf (nD := nD) (τ := τ) (Pipeline.pin pcs (none_adm pcs))) := fun k => k.1.elim0

section Program

variable (A B : Loop pcs loops) (pre mid post : Stretches τ sig F) (m : (ℓ : Loc nD τ sig) → Buf (Elt F) ℓ)

/-- The buffers where the first loop is entered, where the second is, and at the end. -/
abbrev into1 (c : Dev nD) : Valuation τ sig (Elt F) := afterL pre (launchContents m c)
abbrev into2 (c : Dev nD) : Valuation τ sig (Elt F) := afterL mid (A.out (into1 pre m) c)
abbrev atEnd (c : Dev nD) : Valuation τ sig (Elt F) := afterL post (B.out (into2 A pre mid m) c)

variable (hpre : Plain pre) (hmid : Plain mid) (hpost : Plain post)
  (hA : A.Tested defs₀ (into1 pre m)) (hB : B.Tested defs₀ (into2 A pre mid m))

/-- One loop as a segment of the program. -/
def Loop.seg (A : Loop pcs loops) (W : Dev nD → Valuation τ sig (Elt F)) (h : A.Tested defs₀ W) :
    CSeg pcs (none_adm pcs) defs₀ Variants.none no_ix no_lv loops (none_tk (nD := nD) (τ := τ) pcs) :=
  loopSeg pcs (none_adm pcs) defs₀ Variants.none no_ix no_lv loops (none_tk pcs) A.l A.cond A.body A.is_step A.test A.trip A.plain A.is_chain A.n W
    (Debt F) h.carry

/-- One list of stretches as segments. -/
abbrev lineSegs (items : Stretches τ sig F) (h : Plain items) (W : Dev nD → Valuation τ sig (Elt F)) :
    List (CSeg pcs (none_adm pcs) defs₀ Variants.none no_ix no_lv loops (none_tk (nD := nD) (τ := τ) pcs)) :=
  segsOf pcs (none_adm pcs) defs₀ Variants.none no_ix no_lv loops (none_tk pcs) (Debt F) items h W

/-- The whole program's segments. -/
def allSegs : List (CSeg pcs (none_adm pcs) defs₀ Variants.none no_ix no_lv loops (none_tk (nD := nD) (τ := τ) pcs)) :=
  lineSegs pre hpre (launchContents m) ++ A.seg (into1 pre m) hA ::
    (lineSegs mid hmid (A.out (into1 pre m)) ++ B.seg (into2 A pre mid m) hB ::
      lineSegs post hpost (B.out (into2 A pre mid m)))

/-- The same as a list of programs. -/
abbrev items (l₁ l₂ : Fin nL) : List (Prog (TpuEff nD τ sig (Elt F) (HostLoop.Sig (Pipeline.Sig Λ₀ (Fin 0) fun p => (pcs p).Adm) nL) .tc) PUnit) :=
  (pre.map fun ops => (seq ops : Prog _ PUnit)) ++ HostLoop.enter l₁ ::
    ((mid.map fun ops => (seq ops : Prog _ PUnit)) ++ HostLoop.enter l₂ :: post.map fun ops => (seq ops : Prog _ PUnit))

theorem allSegs_prog : (allSegs A B pre mid post m hpre hmid hpost hA hB).map CSeg.prog = items (pcs := pcs) pre mid post A.l B.l := by
  unfold allSegs lineSegs
  rw [List.map_append, List.map_cons, List.map_append, List.map_cons, segsOf_prog, segsOf_prog, segsOf_prog]
  rfl

theorem allSegs_chain : CSeg.Chains (fun c => iprop(held (c : Thread nD τ) (ucRefs τ sig) (launchContents m c) ∗ Debt F c))
    (allSegs A B pre mid post m hpre hmid hpost hA hB)
    (fun c => iprop(iprop(held (c : Thread nD τ) (ucRefs τ sig) (atEnd A B pre mid post m c)) ∗ ∃ W, owes (c : Thread nD τ) (0 : CellTallies nD τ sig Unit) W)) := by
  unfold allSegs lineSegs
  refine CSeg.Chains.append (segsOf_chains _ _ _ _ _ _ _ _ (Debt F) pre hpre _) ⟨fun _ => .rfl, ?_⟩
  exact CSeg.Chains.append (segsOf_chains _ _ _ _ _ _ _ _ (Debt F) mid hmid _)
    ⟨fun _ => .rfl, segsOf_chains _ _ _ _ _ _ _ _ (Debt F) post hpost _⟩

include hpre hmid hpost hA hB in
/-- THE RUN. Every weakly fair execution from zero counters ends with each unscoped buffer at `atEnd`. -/
theorem run [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain (items (pcs := pcs) pre mid post A.l B.l)) (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd A B pre mid post m c (Proc.devRef .tc b)) := by
  refine Pipeline.θ_run_regions_loop_kit (Ix := Unit) (Name := ℕ) (U := Option PUnit) (Lvl := ℕ) (J := Fin 0) (P := Fin 0) (Val := Elt F)
    pcs (none_adm pcs) (no_cell pcs) defs₀ Variants.none no_ix no_lv loops (none_tk pcs) m ρ main
    (allSegs A B pre mid post m hpre hmid hpost hA hB) ?_
    (CSeg.pairwise_disjoint_of_T_empty _ fun s _ => Finset.eq_empty_of_isEmpty s.T)
    (O₀ := 0) (hL := fun _ _ => rfl) (G := fun _ => iprop(emp)) (u₀ := 1) ?_
    (T₀ := fun c => iprop(held (c : Thread nD τ) (ucRefs τ sig) (launchContents m c) ∗ Debt F c))
    (Tₙ := fun c => iprop(held (c : Thread nD τ) (ucRefs τ sig) (atEnd A B pre mid post m c)))
    (allSegs_chain A B pre mid post m hpre hmid hpost hA hB) ?_
    (QY := fun c s => ∀ b ∈ ucRefs τ sig, s.mem ((c : Dev nD), b) = atEnd A B pre mid post m c b) ?_
    (fun _ h c b hb => h c _ (devRef_mem_ucRefs b hb))
  · intro c Q
    rw [hmain c, ← allSegs_prog A B pre mid post m hpre hmid hpost hA hB]
    exact .rfl
  · iintro -
    imodintro
    isplitl []
    · rw [Finset.univ_eq_empty, BI.bigSep_empty]
      iempintro
    · have none : (BI.emp : sProp 𝕄) ⊢ bigSep Finset.univ (fun _ : Dev nD => (BI.emp : sProp 𝕄)) := by rw [BI.bigSep_emp_const]
      iapply none
      iempintro
  · refine Pipeline.initEach no_ix no_lv fun c => ?_
    rw [show unscopedBufs c (fun b => m ((c : Thread nD τ).loc b)) = held (c : Thread nD τ) (ucRefs τ sig) (launchContents m c) from
      Pipeline.unscopedBufs_held c (launchContents m c)]
    iintro ⟨⟨H, -, D, -, -, -⟩, -⟩
    imodintro
    isplitl [H]
    · iexact H
    iexists ∅
    iexact D
  · intro c s
    unfold held
    iintro ⟨H, S⟩
    ihave R := (pointsTo_read_all (ucRefs τ sig) (fun b => ((c : Dev nD), b)) (fun b => atEnd A B pre mid post m c b) s) $$ [H S]
    · isplitl [H]
      · iexact H
      iexact S
    icases R with ⟨%h, S⟩
    imodintro
    isplitr
    · ipureintro; exact h
    iexact S

end Program

end Cert.TwoLoops
-- ==== Proof.RetRun.lean ====
/-
The run of the retention backward pass's reference: the trip counters of its two loops, their tests, and
the buffers at the end.
-/
module

public import proofs.«01_k».proof.Proof.RetLists
public import proofs.«01_k».proof.Proof.RetLoops
public import Idealize.ShloMosaic.Lib.Scf.ExitTest
public import Idealize.ShloMosaic.Lib.Scf.Counter

@[expose] public section

set_option maxRecDepth 16384

noncomputable section

namespace Cert.RetReferenceIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.RetReferenceIdeal Cert.RetReferenceIdeal.Gen Cert.RetReferenceIdeal.Lists Cert.TwoLoops

variable {F : FTy → Type} [FloatOps F]

/-- Loop 0 as data. -/
def loop0 : Loop (pcfgs (F := F)) loops where
  l := 0
  cond := main_while0_cond
  body := main_while0_body
  is_step := rfl
  test := c0
  trip := body0
  plain := body0_plain
  is_chain := by rw [body0_chain]; rfl
  n := 64

theorem ctr0_last (V : Valuation τ sig (Elt F)) :
    after b0_3 V (Proc.devRef .tc main_v114_2) = addi (V (Proc.devRef .tc main_v114_2)) (constantI S_ 32 1#32) := by
  after_results
  rfl

/-- One trip of loop 0 adds one to its counter. -/
theorem ctr0_trip (V : Valuation τ sig (Elt F)) :
    afterL body0 (after c0 V) (Proc.devRef .tc main_v114_2) = addi (V (Proc.devRef .tc main_v114_2)) (constantI S_ 32 1#32) := by
  simp only [afterL_cons, afterL_nil]
  rw [ctr0_last, after_of_writes_sub b0_2 _ b0_2_writes (by decide +kernel),
    after_of_writes_sub b0_1 _ b0_1_writes (by decide +kernel),
    after_of_writes_sub b0_0 _ b0_0_writes (by decide +kernel),
    after_of_writes_sub c0 _ c0_writes (by decide +kernel)]

theorem ctr0_at (W : Dev nD → Valuation τ sig (Elt F)) (c : Dev nD)
    (h : W c (Proc.devRef .tc main_v114_2) = fun _ => (0#32 : BitVec 32)) :
    ∀ k, atTrip c0 body0 W k c (Proc.devRef .tc main_v114_2) = fun _ => Scf.iv 0#32 1#32 k
  | 0 => by rw [show atTrip c0 body0 W 0 c = W c from rfl, h, Scf.iv_zero]
  | k + 1 => by
    rw [show atTrip c0 body0 W (k + 1) c = afterL body0 (after c0 (atTrip c0 body0 W k c)) from rfl,
      ctr0_trip, ctr0_at W c h k, Scf.iv_succ]
    rfl

set_option backward.isDefEq.respectTransparency.types false in
/-- The test of loop 0. -/
theorem tested0 (W : Dev nD → Valuation τ sig (Elt F)) (h : ∀ c, W c (Proc.devRef .tc main_v114_2) = fun _ => (0#32 : BitVec 32)) :
    CondSpec (pcfgs (F := F)) defs₀ loops (main_while0_cond (F := F)) c0 body0 W 64 := by
  intro k hk c bd
  have now := ctr0_at W c (h c) k
  unfold main_while0_cond
  rw [wp_bind]
  iintro ⟨B, H⟩
  iapply (wp_hlo_within (Variants.lift Variants.none) (c : Thread nD τ) bd Set.univ (sub_ucRefs _ (nullary_bufs_sub ..))) $$ [B H]
  · isplitl [B]
    · iexact B
    iexact H
  iintro ⟨B, H⟩
  rw [wp_ret]
  imodintro
  iapply (wp_hlo_within (Variants.lift Variants.none) (c : Thread nD τ) bd Set.univ (sub_ucRefs _ (binary_bufs_sub ..))) $$ [B H]
  · isplitl [B]
    · iexact B
    iexact H
  iintro ⟨B, H⟩
  rw [HostLoop.elt_apply, wp_ret]
  imodintro
  isplitr
  · ipureintro
    show Iff (IntOp.cmpi .slt (HloOp.result _ (atTrip c0 body0 W k c) main_v114_2 HostLoop.idx0)
        (HloOp.result _ (atTrip c0 body0 W k c) main_while0c_c_41 HostLoop.idx0) = 1#1) (k < 64)
    rw [nullary_result_ne _ _ _ _ (by decide), nullary_result, now]
    exact Scf.cmpi_slt_iv_ub_iff (lb := 0#32) (ub := 64#32) (st := 1#32) (by decide) (show k ≤ Scf.trips 0#32 64#32 1#32 from hk)
  isplitl [B]
  · iexact B
  rw [after_cons, after_cons, after_nil]
  iexact H

/-- Loop 0's counter is zero after the stretch in front of it. -/
theorem ctr0_zero (V : Valuation τ sig (Elt F)) : after s8 V (Proc.devRef .tc main_v114_2) = fun _ => (0#32 : BitVec 32) := by
  after_results
  rfl

/-- Loop 1 as data. -/
def loop1 : Loop (pcfgs (F := F)) loops where
  l := 1
  cond := main_while1_cond
  body := main_while1_body
  is_step := rfl
  test := c1
  trip := body1
  plain := body1_plain
  is_chain := by rw [body1_chain]; rfl
  n := 64

theorem ctr1_last (V : Valuation τ sig (Elt F)) :
    after b1_4 V (Proc.devRef .tc main_v193_2) = addi (V (Proc.devRef .tc main_v193_2)) (constantI S_ 32 1#32) := by
  after_results
  rfl

/-- One trip of loop 1 adds one to its counter. -/
theorem ctr1_trip (V : Valuation τ sig (Elt F)) :
    afterL body1 (after c1 V) (Proc.devRef .tc main_v193_2) = addi (V (Proc.devRef .tc main_v193_2)) (constantI S_ 32 1#32) := by
  simp only [afterL_cons, afterL_nil]
  rw [ctr1_last, after_of_writes_sub b1_3 _ b1_3_writes (by decide +kernel),
    after_of_writes_sub b1_2 _ b1_2_writes (by decide +kernel),
    after_of_writes_sub b1_1 _ b1_1_writes (by decide +kernel),
    after_of_writes_sub b1_0 _ b1_0_writes (by decide +kernel),
    after_of_writes_sub c1 _ c1_writes (by decide +kernel)]

theorem ctr1_at (W : Dev nD → Valuation τ sig (Elt F)) (c : Dev nD)
    (h : W c (Proc.devRef .tc main_v193_2) = fun _ => (0#32 : BitVec 32)) :
    ∀ k, atTrip c1 body1 W k c (Proc.devRef .tc main_v193_2) = fun _ => Scf.iv 0#32 1#32 k
  | 0 => by rw [show atTrip c1 body1 W 0 c = W c from rfl, h, Scf.iv_zero]
  | k + 1 => by
    rw [show atTrip c1 body1 W (k + 1) c = afterL body1 (after c1 (atTrip c1 body1 W k c)) from rfl,
      ctr1_trip, ctr1_at W c h k, Scf.iv_succ]
    rfl

set_option backward.isDefEq.respectTransparency.types false in
/-- The test of loop 1. -/
theorem tested1 (W : Dev nD → Valuation τ sig (Elt F)) (h : ∀ c, W c (Proc.devRef .tc main_v193_2) = fun _ => (0#32 : BitVec 32)) :
    CondSpec (pcfgs (F := F)) defs₀ loops (main_while1_cond (F := F)) c1 body1 W 64 := by
  intro k hk c bd
  have now := ctr1_at W c (h c) k
  unfold main_while1_cond
  rw [wp_bind]
  iintro ⟨B, H⟩
  iapply (wp_hlo_within (Variants.lift Variants.none) (c : Thread nD τ) bd Set.univ (sub_ucRefs _ (nullary_bufs_sub ..))) $$ [B H]
  · isplitl [B]
    · iexact B
    iexact H
  iintro ⟨B, H⟩
  rw [wp_ret]
  imodintro
  iapply (wp_hlo_within (Variants.lift Variants.none) (c : Thread nD τ) bd Set.univ (sub_ucRefs _ (binary_bufs_sub ..))) $$ [B H]
  · isplitl [B]
    · iexact B
    iexact H
  iintro ⟨B, H⟩
  rw [HostLoop.elt_apply, wp_ret]
  imodintro
  isplitr
  · ipureintro
    show Iff (IntOp.cmpi .slt (HloOp.result _ (atTrip c1 body1 W k c) main_v193_2 HostLoop.idx0)
        (HloOp.result _ (atTrip c1 body1 W k c) main_while1c_c_41 HostLoop.idx0) = 1#1) (k < 64)
    rw [nullary_result_ne _ _ _ _ (by decide), nullary_result, now]
    exact Scf.cmpi_slt_iv_ub_iff (lb := 0#32) (ub := 64#32) (st := 1#32) (by decide) (show k ≤ Scf.trips 0#32 64#32 1#32 from hk)
  isplitl [B]
  · iexact B
  rw [after_cons, after_cons, after_nil]
  iexact H

/-- Loop 1's counter is zero after the stretch in front of it. -/
theorem ctr1_zero (V : Valuation τ sig (Elt F)) : after s16 V (Proc.devRef .tc main_v193_2) = fun _ => (0#32 : BitVec 32) := by
  after_results
  rfl

variable (m : (ℓ : Loc nD τ sig) → Buf (Elt F) ℓ) (ρ : Dev nD → PrngReg)

/-- The buffers at four places: at the first loop, after it, at the second, after it. -/
abbrev W1 (c : Dev nD) : Valuation τ sig (Elt F) := into1 preI m c
abbrev W2 (c : Dev nD) : Valuation τ sig (Elt F) := loop0.out (W1 m) c
abbrev W3 (c : Dev nD) : Valuation τ sig (Elt F) := into2 loop0 preI midI m c
abbrev W4 (c : Dev nD) : Valuation τ sig (Elt F) := loop1.out (W3 m) c

theorem zero0 (c : Dev nD) : W1 m c (Proc.devRef .tc main_v114_2) = fun _ => (0#32 : BitVec 32) := by
  show afterL preI (launchContents m c) _ = _
  simp only [afterL_cons, afterL_nil]
  exact ctr0_zero _

theorem zero1 (c : Dev nD) : W3 m c (Proc.devRef .tc main_v193_2) = fun _ => (0#32 : BitVec 32) := by
  show afterL midI (W2 m c) _ = _
  simp only [afterL_cons, afterL_nil]
  exact ctr1_zero _

/-- The run: every buffer ends at the fold of the stretches and the loops. -/
theorem run_at : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd loop0 loop1 preI midI postI m c (Proc.devRef .tc b)) :=
  TwoLoops.run (pcs := pcfgs (F := F)) (defs₀ := defs₀) loop0 loop1 preI midI postI m preI_plain midI_plain postI_plain
    (tested0 _ (zero0 m)) (tested1 _ (zero1 m)) main (fun c => by rw [main_chain]; rfl) ρ

/-- A buffer no stretch and no loop writes. -/
structure Untouched (r : Ref sig .tc) : Prop where
  s0 : r ∉ s0_W
  s1 : r ∉ s1_W
  s2 : r ∉ s2_W
  s3 : r ∉ s3_W
  s4 : r ∉ s4_W
  s5 : r ∉ s5_W
  s6 : r ∉ s6_W
  s7 : r ∉ s7_W
  s8 : r ∉ s8_W
  s9 : r ∉ s9_W
  s10 : r ∉ s10_W
  s11 : r ∉ s11_W
  s12 : r ∉ s12_W
  s13 : r ∉ s13_W
  s14 : r ∉ s14_W
  s15 : r ∉ s15_W
  s16 : r ∉ s16_W
  s17 : r ∉ s17_W
  s18 : r ∉ s18_W
  s19 : r ∉ s19_W
  s20 : r ∉ s20_W
  s21 : r ∉ s21_W
  s22 : r ∉ s22_W
  s23 : r ∉ s23_W
  b0_0 : r ∉ b0_0_W
  b0_1 : r ∉ b0_1_W
  b0_2 : r ∉ b0_2_W
  b0_3 : r ∉ b0_3_W
  b1_0 : r ∉ b1_0_W
  b1_1 : r ∉ b1_1_W
  b1_2 : r ∉ b1_2_W
  b1_3 : r ∉ b1_3_W
  b1_4 : r ∉ b1_4_W
  c0 : r ∉ c0_W
  c1 : r ∉ c1_W

theorem preI_keep {r : Ref sig .tc} (h : Untouched r) (V : Valuation τ sig (Elt F)) :
    afterL preI V (Proc.devRef .tc r) = V (Proc.devRef .tc r) := by
  simp only [afterL_cons, afterL_nil]
  rw [after_of_writes_sub s8 _ s8_writes h.s8,
    after_of_writes_sub s7 _ s7_writes h.s7,
    after_of_writes_sub s6 _ s6_writes h.s6,
    after_of_writes_sub s5 _ s5_writes h.s5,
    after_of_writes_sub s4 _ s4_writes h.s4,
    after_of_writes_sub s3 _ s3_writes h.s3,
    after_of_writes_sub s2 _ s2_writes h.s2,
    after_of_writes_sub s1 _ s1_writes h.s1,
    after_of_writes_sub s0 _ s0_writes h.s0]

theorem midI_keep {r : Ref sig .tc} (h : Untouched r) (V : Valuation τ sig (Elt F)) :
    afterL midI V (Proc.devRef .tc r) = V (Proc.devRef .tc r) := by
  simp only [afterL_cons, afterL_nil]
  rw [after_of_writes_sub s16 _ s16_writes h.s16,
    after_of_writes_sub s15 _ s15_writes h.s15,
    after_of_writes_sub s14 _ s14_writes h.s14,
    after_of_writes_sub s13 _ s13_writes h.s13,
    after_of_writes_sub s12 _ s12_writes h.s12,
    after_of_writes_sub s11 _ s11_writes h.s11,
    after_of_writes_sub s10 _ s10_writes h.s10,
    after_of_writes_sub s9 _ s9_writes h.s9]

theorem postI_keep {r : Ref sig .tc} (h : Untouched r) (V : Valuation τ sig (Elt F)) :
    afterL postI V (Proc.devRef .tc r) = V (Proc.devRef .tc r) := by
  simp only [afterL_cons, afterL_nil]
  rw [after_of_writes_sub s23 _ s23_writes h.s23,
    after_of_writes_sub s22 _ s22_writes h.s22,
    after_of_writes_sub s21 _ s21_writes h.s21,
    after_of_writes_sub s20 _ s20_writes h.s20,
    after_of_writes_sub s19 _ s19_writes h.s19,
    after_of_writes_sub s18 _ s18_writes h.s18,
    after_of_writes_sub s17 _ s17_writes h.s17]

theorem body0_keep {r : Ref sig .tc} (h : Untouched r) (V : Valuation τ sig (Elt F)) :
    afterL body0 V (Proc.devRef .tc r) = V (Proc.devRef .tc r) := by
  simp only [afterL_cons, afterL_nil]
  rw [after_of_writes_sub b0_3 _ b0_3_writes h.b0_3,
    after_of_writes_sub b0_2 _ b0_2_writes h.b0_2,
    after_of_writes_sub b0_1 _ b0_1_writes h.b0_1,
    after_of_writes_sub b0_0 _ b0_0_writes h.b0_0]

theorem body1_keep {r : Ref sig .tc} (h : Untouched r) (V : Valuation τ sig (Elt F)) :
    afterL body1 V (Proc.devRef .tc r) = V (Proc.devRef .tc r) := by
  simp only [afterL_cons, afterL_nil]
  rw [after_of_writes_sub b1_4 _ b1_4_writes h.b1_4,
    after_of_writes_sub b1_3 _ b1_3_writes h.b1_3,
    after_of_writes_sub b1_2 _ b1_2_writes h.b1_2,
    after_of_writes_sub b1_1 _ b1_1_writes h.b1_1,
    after_of_writes_sub b1_0 _ b1_0_writes h.b1_0]

theorem loop0_keep {r : Ref sig .tc} (h : Untouched r) (W : Dev nD → Valuation τ sig (Elt F)) (c : Dev nD) :
    loop0.out W c (Proc.devRef .tc r) = W c (Proc.devRef .tc r) := by
  have go : ∀ k, atTrip c0 body0 W k c (Proc.devRef .tc r) = W c (Proc.devRef .tc r) := by
    intro k
    induction k with
    | zero => rfl
    | succ k ih =>
      show afterL body0 (after c0 (atTrip c0 body0 W k c)) _ = _
      rw [body0_keep h, after_of_writes_sub c0 _ c0_writes h.c0, ih]
  exact (after_of_writes_sub c0 _ c0_writes h.c0).trans (go 64)

theorem loop1_keep {r : Ref sig .tc} (h : Untouched r) (W : Dev nD → Valuation τ sig (Elt F)) (c : Dev nD) :
    loop1.out W c (Proc.devRef .tc r) = W c (Proc.devRef .tc r) := by
  have go : ∀ k, atTrip c1 body1 W k c (Proc.devRef .tc r) = W c (Proc.devRef .tc r) := by
    intro k
    induction k with
    | zero => rfl
    | succ k ih =>
      show afterL body1 (after c1 (atTrip c1 body1 W k c)) _ = _
      rw [body1_keep h, after_of_writes_sub c1 _ c1_writes h.c1, ih]
  exact (after_of_writes_sub c1 _ c1_writes h.c1).trans (go 64)

/-- Such a buffer ends as it was launched. -/
theorem atEnd_keep {r : Ref sig .tc} (h : Untouched r) (c : Dev nD) :
    atEnd loop0 loop1 preI midI postI m c (Proc.devRef .tc r) = m (c, Proc.devRef .tc r) :=
  (postI_keep h _).trans ((loop1_keep h _ c).trans ((midI_keep h _).trans ((loop0_keep h _ c).trans (preI_keep h _))))

theorem arg0_kept : Untouched main_arg0 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem arg1_kept : Untouched main_arg1 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩

/-- The run, read at the result and the arguments. -/
theorem run : θ_run (defs (F := F)) (onTc (τ := τ) (main (F := F))) ⟨m, fun _ => 0, ρ⟩ (fun r => ∀ c : Dev nD,
    r.2.mem ((c.tc : Thread nD τ).loc main_v260) = atEnd loop0 loop1 preI midI postI m c (Proc.devRef .tc main_v260)
      ∧ (r.2.mem ((c.tc : Thread nD τ).loc main_arg0) = m ((c.tc : Thread nD τ).loc main_arg0)
        ∧ r.2.mem ((c.tc : Thread nD τ).loc main_arg1) = m ((c.tc : Thread nD τ).loc main_arg1))) :=
  (θ_run defs _ _).mono (fun r h c => ⟨h c main_v260 rfl, (h c main_arg0 rfl).trans (atEnd_keep m arg0_kept c),
    (h c main_arg1 rfl).trans (atEnd_keep m arg1_kept c)⟩) (run_at m ρ)

end Cert.RetReferenceIdeal.Runs
-- ==== Proof.RetMath.lean ====
/-
  Retention over the reals. A row attends to every row of its chunk of 64 and of the chunks before it, with weight `exp (l · distance)`.
  Summed a block at a time, with a state carried between the blocks, it is the same sum: forwards for the output, backwards for the
  gradients, at any block length that 64 divides.
-/
module

public import Mathlib.Analysis.SpecialFunctions.Exp
public import Mathlib.Algebra.BigOperators.Intervals
public import Mathlib.Data.EReal.Operations

@[expose] public section

noncomputable section

namespace Cert.RetMath

open Finset

/-- The weight of row `m` in the output of row `n`. -/
def D (l : ℝ) (n m : ℕ) : ℝ := if m / 64 ≤ n / 64 then Real.exp (l * |(n : ℝ) - (m : ℝ)|) else 0

variable (l : ℝ) {B : ℕ}

theorem D_shift (hB : 64 ∣ B) (b i j : ℕ) : D l (b * B + i) (b * B + j) = D l i j := by
  obtain ⟨q, rfl⟩ := hB
  have h (x : ℕ) : (b * (64 * q) + x) / 64 = b * q + x / 64 := by
    rw [show b * (64 * q) + x = x + 64 * (b * q) by ring, Nat.add_mul_div_left _ _ (by norm_num)]; omega
  unfold D
  rw [h, h]
  simp only [add_le_add_iff_left, Nat.cast_add, add_sub_add_left_eq_sub]

theorem D_below (hB : 64 ∣ B) (b i m : ℕ) (hm : m < b * B) :
    D l (b * B + i) m = Real.exp (l * i) * Real.exp (l * (((b * B : ℕ) : ℝ) - m)) := by
  unfold D
  rw [if_pos (Nat.div_le_div_right (by omega)), ← Real.exp_add, abs_of_nonneg (by
    have : (m : ℝ) ≤ ((b * B + i : ℕ) : ℝ) := by exact_mod_cast (by omega : m ≤ b * B + i)
    linarith)]
  push_cast; ring_nf

theorem D_above (b j r : ℕ) (hj : j < B) :
    D l ((b + 1) * B + r) (b * B + j) = Real.exp (l * ((B : ℝ) - j)) * Real.exp (l * r) := by
  have h : b * B + j ≤ (b + 1) * B + r := by rw [add_mul]; omega
  unfold D
  rw [if_pos (Nat.div_le_div_right h), ← Real.exp_add, abs_of_nonneg (by
    have : ((b * B + j : ℕ) : ℝ) ≤ (((b + 1) * B + r : ℕ) : ℝ) := by exact_mod_cast h
    linarith)]
  push_cast; ring_nf

theorem D_zero (hB : 64 ∣ B) (b i r : ℕ) (hi : i < B) : D l (b * B + i) ((b + 1) * B + r) = 0 := by
  obtain ⟨q, rfl⟩ := hB
  unfold D
  rw [if_neg]
  rw [show b * (64 * q) + i = i + 64 * (b * q) by ring, show (b + 1) * (64 * q) + r = r + 64 * (b * q + q) by ring,
    Nat.add_mul_div_left _ _ (by norm_num), Nat.add_mul_div_left _ _ (by norm_num)]
  have : i / 64 < q := by omega
  omega

/-- The state before block `b`: the rows before it, decayed to its first row. -/
def St (l : ℝ) (B : ℕ) (f : ℕ → ℝ) (b : ℕ) : ℝ := ∑ m ∈ range (b * B), Real.exp (l * (((b * B : ℕ) : ℝ) - m)) * f m

/-- The state after block `b`: the rows after it, decayed back to the first of them. -/
def Re (l : ℝ) (B N : ℕ) (f : ℕ → ℝ) (b : ℕ) : ℝ := ∑ r ∈ range ((N - (b + 1)) * B), Real.exp (l * r) * f ((b + 1) * B + r)

theorem St_zero (f : ℕ → ℝ) : St l B f 0 = 0 := by simp [St]

theorem St_succ (f : ℕ → ℝ) (b : ℕ) :
    St l B f (b + 1) = St l B f b * Real.exp (l * B) + ∑ j ∈ range B, Real.exp (l * ((B : ℝ) - j)) * f (b * B + j) := by
  unfold St
  rw [show (b + 1) * B = b * B + B by ring, sum_range_add, sum_mul]
  congr 1
  · refine sum_congr rfl fun m _ => ?_
    rw [mul_right_comm, ← Real.exp_add]; push_cast; ring_nf
  · refine sum_congr rfl fun m _ => ?_
    push_cast; ring_nf

theorem Re_last (N : ℕ) (f : ℕ → ℝ) (b : ℕ) (h : N = b + 1) : Re l B N f b = 0 := by subst h; simp [Re]

theorem Re_step (N : ℕ) (f : ℕ → ℝ) (b : ℕ) (h : b + 1 < N) :
    Re l B N f b = ∑ i ∈ range B, Real.exp (l * i) * f ((b + 1) * B + i) + Re l B N f (b + 1) * Real.exp (l * B) := by
  unfold Re
  rw [show (N - (b + 1)) * B = B + (N - (b + 1 + 1)) * B by
    rw [show N - (b + 1) = N - (b + 1 + 1) + 1 by omega]; ring, sum_range_add, sum_mul]
  congr 1
  refine sum_congr rfl fun m _ => ?_
  rw [mul_right_comm, ← Real.exp_add, show (b + 1) * B + (B + m) = (b + 1 + 1) * B + m by ring]
  push_cast; ring_nf

/-- Forwards: a block's own rows and the state before it are all the rows. -/
theorem fwd (hB : 64 ∣ B) (N : ℕ) (G : ℕ → ℝ) (b i : ℕ) (hb : b < N) (hi : i < B) :
    ∑ j ∈ range B, D l i j * G (b * B + j) + Real.exp (l * i) * St l B G b = ∑ m ∈ range (N * B), D l (b * B + i) m * G m := by
  rw [show N * B = b * B + (B + (N - (b + 1)) * B) by
    obtain ⟨k, rfl⟩ : ∃ k, N = b + 1 + k := ⟨N - (b + 1), by omega⟩
    rw [show b + 1 + k - (b + 1) = k by omega]; ring, sum_range_add, sum_range_add]
  rw [sum_eq_zero (s := range ((N - (b + 1)) * B)), add_zero, add_comm]
  · congr 1
    · unfold St
      rw [mul_sum]
      refine sum_congr rfl fun m hm => ?_
      rw [D_below l hB b i m (mem_range.mp hm), mul_assoc]
    · exact sum_congr rfl fun m _ => by rw [D_shift l hB]
  · intro r _
    rw [show b * B + (B + r) = (b + 1) * B + r by ring, D_zero l hB b i r hi, zero_mul]

/-- Backwards: a block's own rows and the state after it are all the rows. -/
theorem bwd (hB : 64 ∣ B) (N : ℕ) (G : ℕ → ℝ) (b j : ℕ) (hb : b < N) (hj : j < B) :
    ∑ i ∈ range B, D l i j * G (b * B + i) + Real.exp (l * ((B : ℝ) - j)) * Re l B N G b =
      ∑ n ∈ range (N * B), D l n (b * B + j) * G n := by
  rw [show N * B = b * B + (B + (N - (b + 1)) * B) by
    obtain ⟨k, rfl⟩ : ∃ k, N = b + 1 + k := ⟨N - (b + 1), by omega⟩
    rw [show b + 1 + k - (b + 1) = k by omega]; ring, sum_range_add, sum_range_add]
  rw [sum_eq_zero (s := range (b * B)), zero_add]
  · congr 1
    · exact sum_congr rfl fun m _ => by rw [D_shift l hB]
    · unfold Re
      rw [mul_sum]
      refine sum_congr rfl fun r _ => ?_
      rw [show b * B + (B + r) = (b + 1) * B + r by ring, D_above l b j r hj, mul_assoc]
  · intro n hn
    have hn := mem_range.mp hn
    obtain ⟨b', i', hi', rfl⟩ : ∃ b' i', i' < B ∧ n = b' * B + i' :=
      ⟨n / B, n % B, Nat.mod_lt _ (by omega), by rw [mul_comm]; exact (Nat.div_add_mod n B).symm⟩
    have hbb : b' < b := by
      by_contra h
      have : b * B ≤ b' * B := Nat.mul_le_mul_right _ (by omega)
      omega
    obtain ⟨k, rfl⟩ : ∃ k, b = b' + 1 + k := ⟨b - (b' + 1), by omega⟩
    rw [show (b' + 1 + k) * B + j = (b' + 1) * B + (k * B + j) by ring, D_zero l hB b' i' _ hi', zero_mul]

theorem St_lin {ι : Type} (s : Finset ι) (c : ι → ℝ) (f : ι → ℕ → ℝ) (b : ℕ) :
    ∑ d ∈ s, c d * St l B (f d) b = St l B (fun m => ∑ d ∈ s, c d * f d m) b := by
  unfold St
  simp only [mul_sum]
  rw [sum_comm]
  exact sum_congr rfl fun m _ => sum_congr rfl fun d _ => by ring

theorem Re_lin {ι : Type} (s : Finset ι) (N : ℕ) (c : ι → ℝ) (f : ι → ℕ → ℝ) (b : ℕ) :
    ∑ d ∈ s, c d * Re l B N (f d) b = Re l B N (fun m => ∑ d ∈ s, c d * f d m) b := by
  unfold Re
  simp only [mul_sum]
  rw [sum_comm]
  exact sum_congr rfl fun m _ => sum_congr rfl fun d _ => by ring

/-- A sum of products of coerced reals is the coerced sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.RetMath
-- ==== Proof.RetModel.lean ====
/-
  One head of the retention, its norm and gate, and their gradients, over the reals: the whole-sequence formulas, and the same sums taken
  a block of rows at a time with the states carried between the blocks. Both programs are read against these.
-/
module

public import proofs.«01_k».proof.Proof.RetMath
public import Mathlib.Analysis.SpecialFunctions.Pow.Real

@[expose] public section

noncomputable section

namespace Cert.RetMath

open Finset

/-- A head's inputs: scaled queries, keys, values, gates and the output's cotangent, by row and lane, with the logarithm of its decay and
    the norm's epsilon. -/
structure Head where
  q : ℕ → ℕ → ℝ
  k : ℕ → ℕ → ℝ
  v : ℕ → ℕ → ℝ
  g : ℕ → ℕ → ℝ
  c : ℕ → ℕ → ℝ
  l : ℝ
  ε : ℝ

/-! The norm and the gate of one row, with the row's output `o`, gate `g` and cotangent `c`. -/

section Gate

variable (o g c : Fin 128 → ℝ) (ε : ℝ)

def cen (e : Fin 128) : ℝ := o e - (∑ x, o x) / 128
def wv : ℝ := (∑ x, cen o x * cen o x) / 128 + ε
def rs : ℝ := (√(wv o ε))⁻¹
def sg (x : ℝ) : ℝ := (1 + Real.exp (-x))⁻¹
def uu (e : Fin 128) : ℝ := c e * (g e * sg (g e))
def tt : ℝ := (∑ x, cen o x * uu g c x) * (-(1 / 2) * (rs o ε / wv o ε)) / 128
def bb (e : Fin 128) : ℝ := uu g c e * rs o ε + cen o e * tt o g c ε + tt o g c ε * cen o e
def dOut (e : Fin 128) : ℝ := bb o g c ε e + (∑ x, (0 - bb o g c ε x)) / 128
def dGate (e : Fin 128) : ℝ :=
  cen o e * rs o ε * c e * sg (g e) + g e * (cen o e * rs o ε * c e) * (sg (g e) * (1 - sg (g e)))

theorem wv_pos (h : 0 < ε) : 0 < wv o ε :=
  add_pos_of_nonneg_of_pos (div_nonneg (sum_nonneg fun _ _ => mul_self_nonneg _) (by norm_num)) h

end Gate

namespace Head

variable (H : Head)

def s (n m : ℕ) : ℝ := ∑ d : Fin 64, H.q n d * H.k m d
def o (n e : ℕ) : ℝ := ∑ m ∈ range 4096, D H.l n m * (H.s n m * H.v m e)
def dO (n e : ℕ) : ℝ :=
  if h : e < 128 then dOut (fun x => H.o n x) (fun x => H.g n x) (fun x => H.c n x) H.ε ⟨e, h⟩ else 0
def dg (n e : ℕ) : ℝ :=
  if h : e < 128 then dGate (fun x => H.o n x) (fun x => H.g n x) (fun x => H.c n x) H.ε ⟨e, h⟩ else 0
def ds (n m : ℕ) : ℝ := ∑ e : Fin 128, H.dO n e * H.v m e
def dq (n d : ℕ) : ℝ := ∑ m ∈ range 4096, D H.l n m * (H.ds n m * H.k m d)
def dk (m d : ℕ) : ℝ := ∑ n ∈ range 4096, D H.l n m * (H.ds n m * H.q n d)
def dv (m e : ℕ) : ℝ := ∑ n ∈ range 4096, D H.l n m * (H.s n m * H.dO n e)

/-- The state before block `b` and the gradient carried back to it. -/
def st (B b d e : ℕ) : ℝ := St H.l B (fun m => H.k m d * H.v m e) b
def re (B N b d e : ℕ) : ℝ := Re H.l B N (fun n => H.q n d * H.dO n e) b

theorem dO_fin (n : ℕ) (e : Fin 128) :
    H.dO n e = dOut (fun x => H.o n x) (fun x => H.g n x) (fun x => H.c n x) H.ε e := dif_pos e.isLt
theorem dg_fin (n : ℕ) (e : Fin 128) :
    H.dg n e = dGate (fun x => H.o n x) (fun x => H.g n x) (fun x => H.c n x) H.ε e := dif_pos e.isLt

variable {B N b : ℕ} (hB : 64 ∣ B) (hN : N * B = 4096) (hb : b < N) (i : Fin B)
include hB hN hb

theorem o_blk (e : ℕ) :
    ∑ j : Fin B, H.s (b * B + i) (b * B + j) * D H.l i j * H.v (b * B + j) e +
      ∑ d : Fin 64, H.q (b * B + i) d * Real.exp (H.l * (i : ℕ)) * H.st B b d e = H.o (b * B + i) e := by
  have := fwd H.l hB N (fun m => H.s (b * B + i) m * H.v m e) b i hb i.isLt
  rw [hN] at this
  unfold o
  rw [← this, sum_range]
  congr 1
  · exact sum_congr rfl fun _ _ => by ring
  · have h2 := St_lin (B := B) H.l univ (fun d : Fin 64 => H.q (b * B + i) d) (fun d m => H.k m d * H.v m e) b
    rw [show (fun m => H.s (b * B + i) m * H.v m e) = fun m => ∑ d : Fin 64, H.q (b * B + i) d * (H.k m d * H.v m e) from
      funext fun m => by unfold s; rw [sum_mul]; exact sum_congr rfl fun _ _ => by ring, ← h2, mul_sum]
    exact sum_congr rfl fun _ _ => by unfold st; ring

theorem dq_blk (d : ℕ) :
    ∑ j : Fin B, H.ds (b * B + i) (b * B + j) * D H.l i j * H.k (b * B + j) d +
      (∑ e : Fin 128, H.dO (b * B + i) e * H.st B b d e) * Real.exp (H.l * (i : ℕ)) = H.dq (b * B + i) d := by
  have := fwd H.l hB N (fun m => H.ds (b * B + i) m * H.k m d) b i hb i.isLt
  rw [hN] at this
  unfold dq
  rw [← this, sum_range]
  congr 1
  · exact sum_congr rfl fun _ _ => by ring
  · have h2 := St_lin (B := B) H.l univ (fun e : Fin 128 => H.dO (b * B + i) e) (fun e m => H.k m d * H.v m e) b
    rw [show (fun m => H.ds (b * B + i) m * H.k m d) = fun m => ∑ e : Fin 128, H.dO (b * B + i) e * (H.k m d * H.v m e) from
      funext fun m => by unfold ds; rw [sum_mul]; exact sum_congr rfl fun _ _ => by ring, ← h2, mul_comm]
    rfl

theorem dk_blk (d : ℕ) :
    ∑ n : Fin B, H.ds (b * B + n) (b * B + i) * D H.l n i * H.q (b * B + n) d +
      (∑ e : Fin 128, H.v (b * B + i) e * H.re B N b d e) * Real.exp (H.l * ((B : ℝ) - (i : ℕ))) = H.dk (b * B + i) d := by
  have := bwd H.l hB N (fun n => H.ds n (b * B + i) * H.q n d) b i hb i.isLt
  rw [hN] at this
  unfold dk
  rw [← this, sum_range]
  congr 1
  · exact sum_congr rfl fun _ _ => by ring
  · have h2 := Re_lin (B := B) H.l univ N (fun e : Fin 128 => H.v (b * B + i) e) (fun e n => H.q n d * H.dO n e) b
    rw [show (fun n => H.ds n (b * B + i) * H.q n d) = fun n => ∑ e : Fin 128, H.v (b * B + i) e * (H.q n d * H.dO n e) from
      funext fun m => by unfold ds; rw [sum_mul]; exact sum_congr rfl fun _ _ => by ring, ← h2, mul_comm]
    rfl

theorem dv_blk (e : ℕ) :
    ∑ n : Fin B, H.s (b * B + n) (b * B + i) * D H.l n i * H.dO (b * B + n) e +
      ∑ d : Fin 64, H.k (b * B + i) d * Real.exp (H.l * ((B : ℝ) - (i : ℕ))) * H.re B N b d e = H.dv (b * B + i) e := by
  have := bwd H.l hB N (fun n => H.s n (b * B + i) * H.dO n e) b i hb i.isLt
  rw [hN] at this
  unfold dv
  rw [← this, sum_range]
  congr 1
  · exact sum_congr rfl fun _ _ => by ring
  · have h2 := Re_lin (B := B) H.l univ N (fun d : Fin 64 => H.k (b * B + i) d) (fun d n => H.q n d * H.dO n e) b
    rw [show (fun n => H.s n (b * B + i) * H.dO n e) = fun n => ∑ d : Fin 64, H.k (b * B + i) d * (H.q n d * H.dO n e) from
      funext fun m => by unfold s; rw [sum_mul]; exact sum_congr rfl fun _ _ => by ring, ← h2, mul_sum]
    exact sum_congr rfl fun _ _ => by unfold re; ring

end Head

end Cert.RetMath
-- ==== Proof.RetHead.lean ====
/-
  One head of the retention's backward kernel: the vectors its body computes, over the loads it makes.
-/
module

public import proofs.«01_k».proof.Proof.Gen.RetKernelIdeal.Value
public import proofs.«01_k».proof.Proof.RetModel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.RetKernelIdeal.Value

open Cert.RetKernelIdeal Cert.RetKernelIdeal.Gen

/-- What one head's part of the body loads: the rotated queries and keys, the values, gates and cotangents, the head's rows of the
    tables, the state before the block and the gradient carried to it. -/
structure HeadV where
  rq : FVec Ideal S512x128 .f32
  rk : FVec Ideal S512x128 .f32
  v : Vec Ideal S512x128 .bf16
  g : Vec Ideal S512x128 .bf16
  ct : Vec Ideal S512x128 .bf16
  mqs : Vec Ideal S1x1x128 .f32
  qdm : Vec Ideal S1x512x128 .f32
  kdm : Vec Ideal S1x512x128 .f32
  msk : Vec Ideal S1x512x512 .f32
  st : Vec Ideal S1x1x128x128 .f32
  gs : Vec Ideal S1x128x128 .f32
  cd : Vec Ideal S1x1x128 .f32

namespace HeadV

variable (H : HeadV)

def rkb : FVec Ideal S512x128 .bf16 := truncf .bf16 H.rk bitsLt_bf16_f32
def c128 : Ideal .f32 := Scalar.ofBits .f32 0x43000000#32
def p : FVec Ideal S512x512 .bf16 := k0_pay19 H.rq H.rkb H.mqs H.msk
def oc : FVec Ideal S512x128 .f32 := k0_pay21 H.rq H.rkb (k0_pay12 H.v) H.mqs H.qdm H.msk H.st
def ss : FVec Ideal S512x1 .f32 := k0_pay22 H.rq H.rkb (k0_pay12 H.v) H.mqs H.qdm H.msk H.st
def dg : FVec Ideal S512x128 .f32 := k0_pay27 (k0_pay13 H.g) H.oc H.ss c128 H.ct
def b : FVec Ideal S512x128 .f32 := k0_pay28 (k0_pay13 H.g) H.oc H.ss c128 H.ct
def b2 : FVec Ideal S512x128 .f32 := k0_pay29 (k0_pay13 H.g) H.oc H.ss c128 H.ct
def dq (a : FVec Ideal S512x128 .f32) : FVec Ideal S512x128 .f32 :=
  k0_pay34 H.rkb a (k0_pay12 H.v) (k0_pay14 H.mqs) (k0_pay18 H.msk) (k0_pay20 H.st) H.b H.b2 H.qdm
def dk (a : FVec Ideal S512x128 .f32) : FVec Ideal S512x128 .f32 :=
  k0_pay35 a (k0_pay12 H.v) (k0_pay15 H.rq H.mqs) (k0_pay18 H.msk) H.b H.b2 H.gs H.kdm
def dv : FVec Ideal S512x128 .bf16 := k0_pay38 (k0_pay36 (k0_pay17 H.rk H.kdm) H.p H.b H.b2 H.gs)
def dgb : FVec Ideal S512x128 .bf16 := k0_pay39 H.dg
def gs' : FVec Ideal S1x128x128 .f32 := k0_pay37 (k0_pay16 H.rq H.qdm) H.b H.b2 H.gs H.cd

end HeadV

/-! The literals and the scalar functions at real numbers. -/

theorem lit_128 : Ideal.ofBits .f32 0x43000000#32 = ((128 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
/-- The norm's epsilon: the literal's exact value. -/
def eps : ℝ := 8796093 / 8796093022208
theorem lit_eps : Ideal.ofBits .f32 0x358637BD#32 = ((eps : ℝ) : EReal) := by
  unfold eps
  simp [Ideal.ofBits, Ideal.ieee, -EReal.coe_mul]; norm_num
theorem eps_pos : 0 < eps := by unfold eps; norm_num

theorem div_coe (a b : ℝ) (h : b ≠ 0) : Ideal.div (a : EReal) b = ((a / b : ℝ) : EReal) := by
  have : (b : EReal) ≠ 0 := by exact_mod_cast h
  rw [Ideal.div, if_neg this, ← EReal.coe_inv, ← EReal.coe_mul, div_eq_mul_inv]
theorem rsqrt_coe (a : ℝ) (h : 0 < a) : Ideal.rsqrt (a : EReal) = (((√a)⁻¹ : ℝ) : EReal) := by
  show (if a < 0 then _ else if a = 0 then _ else _) = _
  rw [if_neg h.not_gt, if_neg h.ne']
theorem logistic_coe (a : ℝ) : Ideal.logistic (a : EReal) = ((RetMath.sg a : ℝ) : EReal) := by
  unfold RetMath.sg
  show Ideal.div 1 (1 + Ideal.exp (-(a : EReal))) = _
  rw [← EReal.coe_neg, show Ideal.exp ((-a : ℝ) : EReal) = ((Real.exp (-a) : ℝ) : EReal) from rfl, ← EReal.coe_one, ← EReal.coe_add,
    div_coe _ _ (by positivity), one_div]

theorem lanes (e : ℕ) (he : e < 2) (F : ℕ → ℝ) :
    ∑ l : Fin 128, (if l.val / 64 = e then F l else 0) = ∑ d : Fin 64, F (64 * e + d) := by
  rw [← Finset.sum_range (fun l => if l / 64 = e then F l else 0), ← Finset.sum_range (fun d => F (64 * e + d)),
    show (128 : ℕ) = 64 + 64 from rfl, Finset.sum_range_add]
  have h0 : ∀ d ∈ Finset.range 64, (if d / 64 = e then F d else 0) = if e = 0 then F (64 * e + d) else 0 := fun d hd => by
    have := Finset.mem_range.1 hd
    rw [show d / 64 = 0 by omega]
    by_cases h : e = 0
    · subst h; simp
    · rw [if_neg (Ne.symm h), if_neg h]
  have h1 : ∀ d ∈ Finset.range 64, (if (64 + d) / 64 = e then F (64 + d) else 0) = if e = 1 then F (64 * e + d) else 0 := fun d hd => by
    have := Finset.mem_range.1 hd
    rw [show (64 + d) / 64 = 1 by omega]
    by_cases h : e = 1
    · subst h; simp
    · rw [if_neg (Ne.symm h), if_neg h]
  rw [Finset.sum_congr rfl h0, Finset.sum_congr rfl h1]
  interval_cases e <;> simp

open RetMath

/-- The vectors hold the reals of head `H` in block `b`: `e` is the head's half of the 128 lanes, `q` and `k` the unscaled rotated pair. -/
structure HeadV.Is (V : HeadV) (H : Head) (b e : ℕ) (q k : ℕ → ℕ → ℝ) : Prop where
  e_lt : e < 2
  ε : H.ε = eps
  hq : ∀ n d, q n (64 * e + d) * (1 / 8) = H.q n d
  hk : ∀ n d, k n (64 * e + d) = H.k n d
  rq : ∀ r l, V.rq (ix2 r l) = (q (b * 512 + r.val) l.val : ℝ)
  rk : ∀ r l, V.rk (ix2 r l) = (k (b * 512 + r.val) l.val : ℝ)
  v : ∀ r l, V.v (ix2 r l) = (H.v (b * 512 + r.val) l.val : ℝ)
  g : ∀ r l, V.g (ix2 r l) = (H.g (b * 512 + r.val) l.val : ℝ)
  ct : ∀ r l, V.ct (ix2 r l) = (H.c (b * 512 + r.val) l.val : ℝ)
  mqs : ∀ l, V.mqs (ix3 0 0 l) = ((if l.val / 64 = e then 1 / 8 else 0 : ℝ) : ℝ)
  qdm : ∀ r l, V.qdm (ix3 0 r l) = ((if l.val / 64 = e then Real.exp (H.l * r.val) * (1 / 8) else 0 : ℝ) : ℝ)
  kdm : ∀ r l, V.kdm (ix3 0 r l) = ((if l.val / 64 = e then Real.exp (H.l * (512 - r.val)) else 0 : ℝ) : ℝ)
  msk : ∀ r x, V.msk (ix3 0 r x) = (D H.l r.val x.val : ℝ)
  st : ∀ (l x : Fin 128), V.st (ix4 0 0 l x) = ((if l.val / 64 = e then H.st 512 b (l.val % 64) x.val else 0 : ℝ) : ℝ)
  gs : ∀ (l x : Fin 128), V.gs (ix3 0 l x) = ((if l.val / 64 = e then H.re 512 8 b (l.val % 64) x.val else 0 : ℝ) : ℝ)
  cd : ∀ l, V.cd (ix3 0 0 l) = (Real.exp (H.l * 512) : ℝ)

namespace HeadV

variable {V : HeadV} {H : Head} {b e : ℕ} {q k : ℕ → ℕ → ℝ} (h : V.Is H b e q k) (hb : b < 8)
include h

theorem Is.p (r x : Fin 512) :
    V.p (ix2 r x) = (H.s (b * 512 + r.val) (b * 512 + x.val) * D H.l r.val x.val : ℝ) := by
  unfold HeadV.p HeadV.rkb
  pointwise [k0_pay19, k0_pay15, k0_pay14, k0_pay18]
  simp only [h.rq, h.rk, h.mqs, h.msk, ← EReal.coe_mul, ← RetMath.coe_sum]
  congr 2
  rw [show H.s (b * 512 + r.val) (b * 512 + x.val) = _ from rfl, Head.s]
  simp only [← h.hq, ← h.hk]
  rw [← lanes e h.e_lt fun l => q (b * 512 + r.val) l * (1 / 8) * k (b * 512 + x.val) l]
  exact Finset.sum_congr rfl fun l _ => by split <;> simp

include hb

theorem Is.out (r : Fin 512) (x : Fin 128) :
    ∑ y : Fin 512, V.p (ix2 r y) * V.v (ix2 y x) + ∑ l : Fin 128, V.rq (ix2 r l) * V.qdm (ix3 0 r l) * V.st (ix4 0 0 l x) =
      (H.o (b * 512 + r.val) x.val : ℝ) := by
  simp only [h.p, h.v, h.rq, h.qdm, h.st, ← EReal.coe_mul, ← RetMath.coe_sum, ← EReal.coe_add]
  rw [← H.o_blk (N := 8) (by norm_num) (by norm_num) hb r x.val]
  congr 2
  simp only [← h.hq]
  rw [← Finset.sum_congr rfl fun (d : Fin 64) _ => congrArg (fun z => q (b * 512 + r.val) (64 * e + d) * (1 / 8) *
      Real.exp (H.l * (r.val : ℝ)) * H.st 512 b z x.val) (show (64 * e + d.val) % 64 = d.val by have := d.isLt; omega),
    ← lanes e h.e_lt fun l => q (b * 512 + r.val) l * (1 / 8) * Real.exp (H.l * r.val) * H.st 512 b (l % 64) x.val]
  refine Finset.sum_congr rfl fun l _ => ?_
  split
  · ring
  · simp

theorem Is.oc (r : Fin 512) (x : Fin 128) :
    V.oc (ix2 r x) = (cen (fun y => H.o (b * 512 + r.val) y) x : ℝ) := by
  unfold HeadV.oc
  pointwise [k0_pay21, k0_pay16, k0_pay20, k0_pay12]
  rw [lit_128]
  simp only [show k0_pay19 V.rq V.rkb V.mqs V.msk = V.p from rfl, h.out hb, ← RetMath.coe_sum]
  rw [div_coe _ _ (by norm_num), ← EReal.coe_sub]
  rfl

theorem Is.ss (r : Fin 512) :
    V.ss (ix2 r 0) = (∑ x : Fin 128, cen (fun y => H.o (b * 512 + r.val) y) x * cen (fun y => H.o (b * 512 + r.val) y) x : ℝ) := by
  unfold HeadV.ss
  pointwise [k0_pay22]
  simp only [show k0_pay21 V.rq V.rkb (k0_pay12 V.v) V.mqs V.qdm V.msk V.st = V.oc from rfl, h.oc hb, ← EReal.coe_mul, ← RetMath.coe_sum]

theorem Is.w (r : Fin 512) (y : Fin 1) :
    Ideal.div (V.ss (ix2 r y)) HeadV.c128 + Ideal.ofBits .f32 0x358637BD#32 = (wv (fun y => H.o (b * 512 + r.val) y) H.ε : ℝ) := by
  rw [Subsingleton.elim y 0, h.ss hb, show HeadV.c128 = _ from lit_128, lit_eps, div_coe _ _ (by norm_num), ← EReal.coe_add, ← h.ε]
  rfl

theorem Is.w_pos (r : ℕ) : 0 < wv (fun y => H.o r y) H.ε := wv_pos _ _ (h.ε ▸ eps_pos)

theorem Is.dg (r : Fin 512) (x : Fin 128) : V.dg (ix2 r x) = (H.dg (b * 512 + r.val) x.val : ℝ) := by
  unfold HeadV.dg
  pointwise [k0_pay27, k0_pay24, k0_pay23, k0_pay25, k0_pay26, k0_pay13]
  rw [h.w hb, rsqrt_coe _ (h.w_pos hb _), h.oc hb, h.ct, h.g, logistic_coe, H.dg_fin]
  simp only [← EReal.coe_one, ← EReal.coe_mul, ← EReal.coe_sub, ← EReal.coe_add]
  rfl

theorem Is.b_eq (r : Fin 512) (x : Fin 128) :
    V.b (ix2 r x) = (bb (fun y => H.o (b * 512 + r.val) y) (fun y => H.g (b * 512 + r.val) y) (fun y => H.c (b * 512 + r.val) y) H.ε x : ℝ) := by
  unfold HeadV.b
  pointwise [k0_pay28, k0_pay24, k0_pay23, k0_pay25, k0_pay26, k0_pay13]
  simp only [h.w hb, rsqrt_coe _ (h.w_pos hb _), h.oc hb, h.ct, h.g, logistic_coe, lit_128, lit_neg_half, div_coe _ _ (h.w_pos hb _).ne',
    div_coe _ (128 : ℝ) (by norm_num), ← EReal.coe_mul, ← EReal.coe_sub, ← EReal.coe_add, ← RetMath.coe_sum, Fin.sum_univ_one]
  rfl

theorem Is.dO (r : Fin 512) (x : Fin 128) :
    V.b (ix2 r x) + V.b2 (ix2 r x) = (H.dO (b * 512 + r.val) x.val : ℝ) := by
  unfold HeadV.b2
  pointwise [k0_pay29]
  simp only [show k0_pay28 (k0_pay13 V.g) V.oc V.ss c128 V.ct = V.b from rfl, h.b_eq hb, lit_128, ← EReal.coe_zero, ← EReal.coe_sub,
    ← RetMath.coe_sum, div_coe _ (128 : ℝ) (by norm_num), ← EReal.coe_add, H.dO_fin, Fin.sum_univ_one]
  rfl

theorem Is.dq_eq (a : FVec Ideal S512x128 .f32) (r : Fin 512) (x : Fin 128) :
    V.dq a (ix2 r x) = a (ix2 r x) + ((if x.val / 64 = e then H.dq (b * 512 + r.val) (x.val % 64) * (1 / 8) else 0 : ℝ) : EReal) := by
  unfold HeadV.dq
  pointwise [k0_pay34, k0_pay33, k0_pay30, k0_pay14, k0_pay18, k0_pay20, k0_pay12]
  have hk : ∀ y, V.rkb (ix2 y x) = (k (b * 512 + y.val) x.val : ℝ) := fun y => h.rk y x
  simp only [h.dO hb, h.v, h.msk, hk, h.mqs, h.st, h.qdm, ← EReal.coe_mul, ← RetMath.coe_sum]
  rw [add_assoc, ← EReal.coe_add]
  congr 2
  split
  · next hx =>
    rw [← H.dq_blk (N := 8) (by norm_num) (by norm_num) hb r (x.val % 64), add_mul]
    simp only [← h.hk, show 64 * e + x.val % 64 = x.val by omega]
    congr 1
    ring
  · simp

theorem Is.dk_eq (a : FVec Ideal S512x128 .f32) (r : Fin 512) (x : Fin 128) :
    V.dk a (ix2 r x) = a (ix2 r x) + ((if x.val / 64 = e then H.dk (b * 512 + r.val) (x.val % 64) else 0 : ℝ) : EReal) := by
  unfold HeadV.dk
  pointwise [k0_pay35, k0_pay33, k0_pay30, k0_pay15, k0_pay18, k0_pay14, k0_pay12, k0_pay31, k0_pay32]
  simp only [h.dO hb, h.v, h.msk, h.rq, h.mqs, h.gs, h.kdm, ← EReal.coe_mul, ← RetMath.coe_sum]
  rw [add_assoc, ← EReal.coe_add]
  congr 2
  split
  · next hx =>
    rw [← H.dk_blk (N := 8) (by norm_num) (by norm_num) hb r (x.val % 64)]
    simp only [← h.hq, show 64 * e + x.val % 64 = x.val by omega]
    rfl
  · simp

theorem Is.dv_eq (r : Fin 512) (x : Fin 128) : V.dv (ix2 r x) = (H.dv (b * 512 + r.val) x.val : ℝ) := by
  unfold HeadV.dv
  pointwise [k0_pay36, k0_pay38, k0_pay30, k0_pay17, k0_pay31, k0_pay32]
  simp only [h.p, h.dO hb, h.rk, h.kdm, h.gs, ← EReal.coe_mul, ← RetMath.coe_sum, ← EReal.coe_add]
  rw [← H.dv_blk (N := 8) (by norm_num) (by norm_num) hb r x.val]
  congr 2
  simp only [← h.hk]
  rw [← Finset.sum_congr rfl fun (d : Fin 64) _ => congrArg (fun z => k (b * 512 + r.val) (64 * e + d) *
      Real.exp (H.l * (((512 : ℕ) : ℝ) - (r.val : ℝ))) * H.re 512 8 b z x.val) (show (64 * e + d.val) % 64 = d.val by have := d.isLt; omega),
    ← lanes e h.e_lt fun l => k (b * 512 + r.val) l * Real.exp (H.l * (((512 : ℕ) : ℝ) - r.val)) * H.re 512 8 b (l % 64) x.val]
  refine Finset.sum_congr rfl fun l _ => ?_
  split
  · push_cast; ring
  · simp

theorem Is.gs_eq (b' : ℕ) (hb' : b = b' + 1) (l x : Fin 128) :
    V.gs' (ix3 0 l x) = ((if l.val / 64 = e then H.re 512 8 b' (l.val % 64) x.val else 0 : ℝ) : EReal) := by
  unfold HeadV.gs'
  pointwise [k0_pay37, k0_pay30, k0_pay16, k0_pay31, k0_pay32]
  simp only [h.rq, h.qdm, h.dO hb, h.gs, h.cd, ← EReal.coe_mul, ← RetMath.coe_sum, ← EReal.coe_add]
  congr 1
  subst hb'
  split
  · next hx =>
    unfold Head.re
    rw [Re_step _ _ _ _ hb, Finset.sum_range]
    congr 1
    · refine Finset.sum_congr rfl fun i _ => ?_
      rw [← h.hq, show 64 * e + l.val % 64 = l.val by omega]
      ring
  · simp

end HeadV

end Cert.RetKernelIdeal.Value
-- ==== Proof.RetBlock.lean ====
/-
  What one grid point of the retention's backward kernel stores, head by head: the six stores of each pair of heads and the gradient each
  head carries on, as the vectors of `HeadV`.
-/
module

public import proofs.«01_k».proof.Proof.RetHead
public import proofs.«01_k».proof.Proof.Pieces

@[expose] public section

set_option maxRecDepth 16384

noncomputable section

open Idealize.ShloMosaic Idealize.ShloMosaic.TcCoe Idealize.SL.Sem

namespace Cert.RetKernelIdeal.Value

open Cert.RetKernelIdeal Cert.RetKernelIdeal.Gen

/-- What the body loads at a point. -/
structure Block where
  ct : Vec Ideal S512x1024 .bf16
  proj : Vec Ideal S512x3072 .bf16
  st : Vec Ideal S1x8x128x128 .f32
  rope : Vec Ideal S3x512x128 .f32
  msk : Vec Ideal S8x512x512 .f32
  qdm : Vec Ideal S8x512x128 .f32
  kdm : Vec Ideal S8x512x128 .f32
  mqs : Vec Ideal S8x8x128 .f32
  cd : Vec Ideal S8x8x128 .f32

namespace Block

variable (X : Block)

theorem in2 {n k o : ℕ} (h : o + k ≤ n) : ∀ a, (![0, o] : Fin 2 → ℕ) a + (![512, k] : Fin 2 → ℕ) a ≤ (![512, n] : Fin 2 → ℕ) a := by
  intro a; fin_cases a
  · exact le_refl _
  · exact h
theorem in3 {n a b A B h : ℕ} (hh : h + 1 ≤ n) (ha : a ≤ A) (hb : b ≤ B) :
    ∀ i, (![h, 0, 0] : Fin 3 → ℕ) i + (![1, a, b] : Fin 3 → ℕ) i ≤ (![n, A, B] : Fin 3 → ℕ) i := by
  intro i; fin_cases i
  · exact hh
  · simpa using ha
  · simpa using hb
theorem in4 {h : ℕ} (hh : h + 1 ≤ 8) : ∀ i, (![0, h, 0, 0] : Fin 4 → ℕ) i + (![1, 1, 128, 128] : Fin 4 → ℕ) i ≤ (![1, 8, 128, 128] : Fin 4 → ℕ) i := by
  intro i; fin_cases i
  · exact le_refl _
  · exact hh
  · exact le_refl _
  · exact le_refl _

def cos : FVec Ideal S512x128 .f32 := k0_pay4 (View.ld X.rope (Rect.unit ![0, 0, 0] ![1, 512, 128] (in3 (by norm_num) le_rfl le_rfl)))
def sinl : FVec Ideal S512x128 .f32 := k0_pay5 (View.ld X.rope (Rect.unit ![1, 0, 0] ![1, 512, 128] (in3 (by norm_num) le_rfl le_rfl)))
def sinh : FVec Ideal S512x128 .f32 := k0_pay6 (View.ld X.rope (Rect.unit ![2, 0, 0] ![1, 512, 128] (in3 (by norm_num) le_rfl le_rfl)))

/-- The pair of 128 lanes at column `o`, rotated. -/
def rot (o : ℕ) (h : o + 128 ≤ 3072) : FVec Ideal S512x128 .f32 :=
  k0_pay7 (View.ld X.rope (Rect.unit ![0, 0, 0] ![1, 512, 128] (in3 (by norm_num) le_rfl le_rfl)))
    (View.ld X.rope (Rect.unit ![1, 0, 0] ![1, 512, 128] (in3 (by norm_num) le_rfl le_rfl)))
    (View.ld X.rope (Rect.unit ![2, 0, 0] ![1, 512, 128] (in3 (by norm_num) le_rfl le_rfl)))
    (View.ld X.proj (Rect.unit ![0, o] ![512, 128] (in2 h)))

/-- Head `h`'s vectors, with the gradient `gs` carried to it. -/
def head (h : ℕ) (hh : h < 8) (gs : Vec Ideal S1x128x128 .f32) : HeadV where
  rq := X.rot (128 * (h / 2)) (by omega)
  rk := X.rot (512 + 128 * (h / 2)) (by omega)
  v := View.ld X.proj (Rect.unit ![0, 1024 + 128 * h] ![512, 128] (in2 (by omega)))
  g := View.ld X.proj (Rect.unit ![0, 2048 + 128 * h] ![512, 128] (in2 (by omega)))
  ct := View.ld X.ct (Rect.unit ![0, 128 * h] ![512, 128] (in2 (by omega)))
  mqs := View.ld X.mqs (Rect.unit ![h, 0, 0] ![1, 1, 128] (in3 (by omega) (by norm_num) le_rfl))
  qdm := View.ld X.qdm (Rect.unit ![h, 0, 0] ![1, 512, 128] (in3 (by omega) le_rfl le_rfl))
  kdm := View.ld X.kdm (Rect.unit ![h, 0, 0] ![1, 512, 128] (in3 (by omega) le_rfl le_rfl))
  msk := View.ld X.msk (Rect.unit ![h, 0, 0] ![1, 512, 512] (in3 (by omega) le_rfl le_rfl))
  st := View.ld X.st (Rect.unit ![0, h, 0, 0] ![1, 1, 128, 128] (in4 (by omega)))
  gs := gs
  cd := View.ld X.cd (Rect.unit ![h, 0, 0] ![1, 1, 128] (in3 (by omega) (by norm_num) le_rfl))

variable (gs : Fin 8 → Vec Ideal S1x128x128 .f32)

/-- What each head leaves in the carried gradient, newest store first, over the stores `L` before. -/
def carried (L : List (View.Piece (Elt Ideal) S8x128x128 .f32)) : List (View.Piece (Elt Ideal) S8x128x128 .f32) :=
  ⟨Rect.unit ![7, 0, 0] ![1, 128, 128] (in3 (by norm_num) le_rfl le_rfl), (X.head 7 (by norm_num) (gs 7)).gs'⟩ ::
  ⟨Rect.unit ![6, 0, 0] ![1, 128, 128] (in3 (by norm_num) le_rfl le_rfl), (X.head 6 (by norm_num) (gs 6)).gs'⟩ ::
  ⟨Rect.unit ![5, 0, 0] ![1, 128, 128] (in3 (by norm_num) le_rfl le_rfl), (X.head 5 (by norm_num) (gs 5)).gs'⟩ ::
  ⟨Rect.unit ![4, 0, 0] ![1, 128, 128] (in3 (by norm_num) le_rfl le_rfl), (X.head 4 (by norm_num) (gs 4)).gs'⟩ ::
  ⟨Rect.unit ![3, 0, 0] ![1, 128, 128] (in3 (by norm_num) le_rfl le_rfl), (X.head 3 (by norm_num) (gs 3)).gs'⟩ ::
  ⟨Rect.unit ![2, 0, 0] ![1, 128, 128] (in3 (by norm_num) le_rfl le_rfl), (X.head 2 (by norm_num) (gs 2)).gs'⟩ ::
  ⟨Rect.unit ![1, 0, 0] ![1, 128, 128] (in3 (by norm_num) le_rfl le_rfl), (X.head 1 (by norm_num) (gs 1)).gs'⟩ ::
  ⟨Rect.unit ![0, 0, 0] ![1, 128, 128] (in3 (by norm_num) le_rfl le_rfl), (X.head 0 (by norm_num) (gs 0)).gs'⟩ :: L

/-- A pair's gradients of the rotated queries and keys, both heads added. -/
def dqPair (j : ℕ) (hj : j < 4) (a b : Vec Ideal S1x128x128 .f32) : FVec Ideal S512x128 .f32 :=
  (X.head (2 * j + 1) (by omega) b).dq ((X.head (2 * j) (by omega) a).dq k0_pay10)
def dkPair (j : ℕ) (hj : j < 4) (a b : Vec Ideal S1x128x128 .f32) : FVec Ideal S512x128 .f32 :=
  (X.head (2 * j + 1) (by omega) b).dk ((X.head (2 * j) (by omega) a).dk k0_pay10)

/-- A pair's six stores, newest first: its rotated-back gradients, then each head's gate and value gradients. -/
def pair (j : ℕ) (hj : j < 4) (a b : Vec Ideal S1x128x128 .f32) (L : List (View.Piece (Elt Ideal) S512x3072 .bf16)) :
    List (View.Piece (Elt Ideal) S512x3072 .bf16) :=
  ⟨Rect.unit ![0, 512 + 128 * j] ![512, 128] (in2 (by omega)), k0_pay2 X.cos X.sinl X.sinh (X.dkPair j hj a b)⟩ ::
  ⟨Rect.unit ![0, 128 * j] ![512, 128] (in2 (by omega)), k0_pay2 X.cos X.sinl X.sinh (X.dqPair j hj a b)⟩ ::
  ⟨Rect.unit ![0, 2048 + 128 * (2 * j + 1)] ![512, 128] (in2 (by omega)), (X.head (2 * j + 1) (by omega) b).dgb⟩ ::
  ⟨Rect.unit ![0, 1024 + 128 * (2 * j + 1)] ![512, 128] (in2 (by omega)), (X.head (2 * j + 1) (by omega) b).dv⟩ ::
  ⟨Rect.unit ![0, 2048 + 128 * (2 * j)] ![512, 128] (in2 (by omega)), (X.head (2 * j) (by omega) a).dgb⟩ ::
  ⟨Rect.unit ![0, 1024 + 128 * (2 * j)] ![512, 128] (in2 (by omega)), (X.head (2 * j) (by omega) a).dv⟩ :: L

def stored : List (View.Piece (Elt Ideal) S512x3072 .bf16) :=
  X.pair 3 (by norm_num) (gs 6) (gs 7) (X.pair 2 (by norm_num) (gs 4) (gs 5) (X.pair 1 (by norm_num) (gs 2) (gs 3)
    (X.pair 0 (by norm_num) (gs 0) (gs 1) [])))

end Block

variable (m : (ℓ : Loc nD τ sig) → Buf (Elt Ideal) ℓ)

def blockAt (c : Dev nD) (t : Fin cfg0.N) : Block where
  ct := iblk m c 0 t
  proj := X0_1 m c t
  st := iblk m c 2 t
  rope := iblk m c 3 t
  msk := iblk m c 4 t
  qdm := iblk m c 5 t
  kdm := iblk m c 6 t
  mqs := iblk m c 7 t
  cd := iblk m c 8 t

/-- The gradient head `h` reads at a point after the first. -/
def gsB (c : Dev nD) (t : Fin cfg0.N) (h : Fin 8) : Vec Ideal S1x128x128 .f32 :=
  View.ld (View.read (Elt Ideal) (View.whole cc0_scratch0)
    ((Memref.isWhole_whole cc0_scratch0).unread (outsAt0 m c (t.val - 1) (Nat.lt_of_le_of_lt (Nat.sub_le _ _) t.isLt)).2))
    (Rect.unit ![h.val, 0, 0] ![1, 128, 128] (Block.in3 (by omega) le_rfl le_rfl))

attribute [local irreducible] iblk X0_1 outsAt0

theorem carried_B (c : Dev nD) (t : Fin cfg0.N) (h0 : ¬ t.val % 8 = 0) :
    (outsAt0 m c t.val t.isLt).2 = View.canon ((blockAt m c t).carried (gsB m c t) []) := by
  rw [outsAt0_B m c t h0]; frame_out
  unfold Block.carried
  refine congrArg View.canon ?_
  repeat' refine congrArg₂ List.cons ?_ ?_
  all_goals rfl

theorem stored_B (c : Dev nD) (t : Fin cfg0.N) (h0 : ¬ t.val % 8 = 0) :
    (outsAt0 m c t.val t.isLt).1 = View.canon ((blockAt m c t).stored (gsB m c t)) := by
  rw [outsAt0_B m c t h0]; frame_out
  unfold Block.stored Block.pair
  refine congrArg View.canon ?_
  repeat' refine congrArg₂ List.cons ?_ ?_
  · rfl
  all_goals rfl

/-- The first point clears the carried gradient: head `h` reads zeros, past the stores of the heads before it. -/
def zeros : Vec Ideal S1x128x128 .f32 := fun _ => 0

theorem read_past {κ : Kind} {sp : Space} (v : View sig κ sp S8x128x128 .f32) (h k : ℕ) (hk : k < h) (inb inb') (w) (L : List (View.Piece (Elt Ideal) S8x128x128 .f32)) :
    v.readCov (Val := Elt Ideal) (⟨Rect.unit ![k, 0, 0] ![1, 128, 128] inb, w⟩ :: L) (Rect.unit (s := S8x128x128) ![h, 0, 0] ![1, 128, 128] inb').toLoadRect =
      v.readCov (Val := Elt Ideal) L (Rect.unit (s := S8x128x128) ![h, 0, 0] ![1, 128, 128] inb').toLoadRect := by
  rw [View.readCov_eq_canon', View.readCov_eq_canon']
  funext j
  refine Pieces.canon_not_mem _ _ _ _ 0 (.inr ?_)
  show k + 1 ≤ h + 1 * _
  omega

theorem read_cleared {κ : Kind} {sp : Space} (v : View sig κ sp S8x128x128 .f32) (h : ℕ) (inb inb') :
    v.readCov (Val := Elt Ideal) [⟨Rect.unit ![0, 0, 0] ![8, 128, 128] inb, k0_pay3 (F := Ideal)⟩] (Rect.unit (s := S8x128x128) ![h, 0, 0] ![1, 128, 128] inb').toLoadRect = zeros := by
  rw [View.readCov_eq_canon']
  funext j
  refine (Pieces.canon_mem _ _ _ _ ((Rect.unit (s := S8x128x128) ![h, 0, 0] ![1, 128, 128] inb').toLoadRect.idx j)
    fun a => by fin_cases a <;> exact (Nat.zero_add _).symm).trans ?_
  show k0_pay3 (F := Ideal) _ = 0
  pointwise [k0_pay3]

theorem carried_A (c : Dev nD) (t : Fin cfg0.N) (h0 : t.val % 8 = 0) :
    (outsAt0 m c t.val t.isLt).2 = View.canon ((blockAt m c t).carried (fun _ => zeros) [⟨Rect.unit ![0, 0, 0] ![8, 128, 128] inb_S8x128x128_S8x128x128_0_0_0, k0_pay3 (F := Ideal)⟩]) := by
  rw [outsAt0_A m c t h0]; frame_out
  simp only [read_past, read_cleared, Nat.reduceLT, Nat.zero_lt_succ]
  unfold Block.carried
  refine congrArg View.canon ?_
  repeat' refine congrArg₂ List.cons ?_ ?_
  all_goals rfl

theorem stored_A (c : Dev nD) (t : Fin cfg0.N) (h0 : t.val % 8 = 0) :
    (outsAt0 m c t.val t.isLt).1 = View.canon ((blockAt m c t).stored (fun _ => zeros)) := by
  rw [outsAt0_A m c t h0]; frame_out
  simp only [read_past, read_cleared, Nat.reduceLT, Nat.zero_lt_succ]
  unfold Block.stored Block.pair
  refine congrArg View.canon ?_
  repeat' refine congrArg₂ List.cons ?_ ?_
  all_goals rfl

end Cert.RetKernelIdeal.Value
-- ==== Proof.RetTables.lean ====
/-
  The retention's tables over the reals: the rotary angles, the heads' log decays, the rotation of the columns and its transpose, and the
  backward pass's result column by column. Kernel and reference are both shown to compute this.
-/
module

public import proofs.«01_k».proof.Proof.RetModel
public import Idealize.ShloMosaic.Lib.Pointwise
public import Mathlib.Analysis.SpecialFunctions.Pow.Real

@[expose] public section

set_option maxRecDepth 16384

noncomputable section

open Idealize.ShloMosaic

namespace Cert.RetMath

/-- The rotary angle of row `n` at frequency `d`. -/
def ang (n d : ℕ) : ℝ := n * (10000 : ℝ) ^ (-(d : ℝ) / 32)

/-- The literal of `log 2`: its exact value. -/
def ln2 : ℝ := 11629080 / 16777216

/-- Head `h`'s log decay. -/
def lg (h : ℕ) : ℝ := Real.log (1 + -Real.exp (ln2 * (-5 - h)))

theorem sitofp_coe (n : ℕ) (hn : n < 2 ^ 31) : FloatOps.sitofp (F := Ideal) FTy.f32 (BitVec.ofNat 32 n) = ((n : ℝ) : EReal) := by
  show ((((BitVec.ofNat 32 n).toInt : ℤ) : ℝ) : EReal) = _
  rw [BitVec.toInt_eq_toNat_of_lt (by rw [BitVec.toNat_ofNat, Nat.mod_eq_of_lt (by omega)]; omega), BitVec.toNat_ofNat, Nat.mod_eq_of_lt (by omega)]
  simp

theorem lit_10000 : Ideal.ofBits .f32 1176256512#32 = ((10000 : ℝ) : EReal) := by
  simp [Ideal.ofBits, Ideal.ieee, -EReal.coe_mul]; norm_num
theorem lit_32 : Ideal.ofBits .f32 1107296256#32 = ((32 : ℝ) : EReal) := by
  simp [Ideal.ofBits, Ideal.ieee, -EReal.coe_mul]; norm_num
theorem lit_ln2 : Ideal.ofBits .f32 1060205080#32 = ((ln2 : ℝ) : EReal) := by
  unfold ln2
  simp [Ideal.ofBits, Ideal.ieee, -EReal.coe_mul]; norm_num
theorem lit_neg_5 : Ideal.ofBits .f32 3231711232#32 = ((-5 : ℝ) : EReal) := by
  simp [Ideal.ofBits, Ideal.ieee, -EReal.coe_mul]; norm_num

theorem ang_coe (n d : ℕ) (hn : n < 4096) (hd : d < 32) :
    (FloatOps.sitofp (F := Ideal) FTy.f32 (BitVec.ofNat 32 n) : EReal) * Ideal.pow (Ideal.ofBits FTy.f32 1176256512#32)
      (Ideal.div (-(FloatOps.sitofp (F := Ideal) FTy.f32 (BitVec.ofNat 32 d) : EReal)) (Ideal.ofBits FTy.f32 1107296256#32)) = (ang n d : ℝ) := by
  rw [sitofp_coe n (by omega), sitofp_coe d (by omega), lit_10000, lit_32, ← EReal.coe_neg, Ideal.div,
    if_neg (by exact_mod_cast (by norm_num : (32 : ℝ) ≠ 0)), ← EReal.coe_inv, ← EReal.coe_mul]
  show ((n : ℝ) : EReal) * ((Real.rpow 10000 (-(d : ℝ) * 32⁻¹) : ℝ) : EReal) = _
  rw [← EReal.coe_mul, ang, div_eq_mul_inv]
  rfl

theorem lg_arg (h : ℕ) : 0 < 1 + -Real.exp (ln2 * (-5 - h)) := by
  have : Real.exp (ln2 * (-5 - h)) < 1 := by
    rw [Real.exp_lt_one_iff]
    unfold ln2
    have : (0 : ℝ) ≤ h := Nat.cast_nonneg h
    nlinarith
  linarith

theorem lg_coe (h : ℕ) (hh : h < 8) :
    Ideal.log1p (-Ideal.exp (Ideal.ofBits FTy.f32 1060205080#32 *
      (Ideal.ofBits FTy.f32 3231711232#32 - (FloatOps.sitofp (F := Ideal) FTy.f32 (BitVec.ofNat 32 h) : EReal)))) = (lg h : ℝ) := by
  rw [sitofp_coe h (by omega), lit_ln2, lit_neg_5, ← EReal.coe_sub, ← EReal.coe_mul]
  show Ideal.log (1 + -((Real.exp (ln2 * (-5 - h)) : ℝ) : EReal)) = _
  rw [← EReal.coe_neg, ← EReal.coe_one, ← EReal.coe_add]
  show (if (1 + -Real.exp (ln2 * (-5 - h))) ≤ 0 then (⊥ : EReal) else ((Real.log (1 + -Real.exp (ln2 * (-5 - h))) : ℝ) : EReal)) = _
  rw [if_neg (not_le.mpr (lg_arg h))]
  rfl

/-- Lane `l` of the three rotary rows: cosine, and the sine on each half. -/
def cosL (n l : ℕ) : ℝ := Real.cos (ang n (l % 32))
def sinLo (n l : ℕ) : ℝ := if l % 64 < 32 then -Real.sin (ang n (l % 32)) else 0
def sinHi (n l : ℕ) : ℝ := if l % 64 < 32 then 0 else Real.sin (ang n (l % 32))

/-- Row `x` rotated by row `n`'s angles, at column `c` of heads of 64 columns. -/
def rot (x : ℕ → ℝ) (n c : ℕ) : ℝ :=
  if c % 64 < 32 then x c * Real.cos (ang n (c % 32)) - x (c + 32) * Real.sin (ang n (c % 32))
  else x (c - 32) * Real.sin (ang n (c % 32)) + x c * Real.cos (ang n (c % 32))

/-- The transposed rotation. -/
def rotT (y : ℕ → ℝ) (n c : ℕ) : ℝ :=
  if c % 64 < 32 then y c * Real.cos (ang n (c % 32)) + y (c + 32) * Real.sin (ang n (c % 32))
  else y c * Real.cos (ang n (c % 32)) - y (c - 32) * Real.sin (ang n (c % 32))

theorem rot_lane (x : ℕ → ℝ) (n o l : ℕ) (ho : 64 ∣ o) (hl : l < 128) :
    x (o + l) * cosL n l + x (o + (l + 32) % 128) * sinLo n l + x (o + (l + 96) % 128) * sinHi n l = rot x n (o + l) := by
  have h1 : (o + l) % 64 = l % 64 := by omega
  have h2 : (o + l) % 32 = l % 32 := by omega
  unfold rot cosL sinLo sinHi
  rw [h1, h2]
  split_ifs with h
  · rw [show o + (l + 32) % 128 = o + l + 32 by omega]; ring
  · rw [show o + (l + 96) % 128 = o + l - 32 by omega]; ring

theorem rotT_lane (y : ℕ → ℝ) (n o l : ℕ) (ho : 64 ∣ o) (hl : l < 128) :
    y (o + l) * cosL n l + y (o + (l + 96) % 128) * sinLo n ((l + 96) % 128) + y (o + (l + 32) % 128) * sinHi n ((l + 32) % 128) =
      rotT y n (o + l) := by
  have h1 : (o + l) % 64 = l % 64 := by omega
  have h2 : (o + l) % 32 = l % 32 := by omega
  have h3 : (l + 96) % 128 % 32 = l % 32 := by omega
  have h4 : (l + 32) % 128 % 32 = l % 32 := by omega
  unfold rotT cosL sinLo sinHi
  rw [h1, h2, h3, h4]
  by_cases h : l % 64 < 32
  · rw [if_pos h, if_neg (by omega : ¬ (l + 96) % 128 % 64 < 32), if_neg (by omega : ¬ (l + 32) % 128 % 64 < 32),
      show o + (l + 32) % 128 = o + l + 32 by omega]; ring
  · rw [if_neg h, if_pos (by omega : (l + 96) % 128 % 64 < 32), if_pos (by omega : (l + 32) % 128 % 64 < 32),
      show o + (l + 96) % 128 = o + l - 32 by omega]; ring

/-- Head `h` of the retention: its rotated queries, scaled, and keys, its values, gates and cotangent. `X` is the projection, `C` the cotangent. -/
def headOf (X C : ℕ → ℕ → ℝ) (ε : ℝ) (h : ℕ) : Head where
  q n d := rot (X n) n (64 * h + d) * (1 / 8)
  k n d := rot (X n) n (512 + 64 * h + d)
  v n e := X n (1024 + 128 * h + e)
  g n e := X n (2048 + 128 * h + e)
  c n e := C n (128 * h + e)
  l := lg h
  ε := ε

/-- The projection's gradient at row `n`, column `c`. -/
def gradOf (X C : ℕ → ℕ → ℝ) (ε : ℝ) (n c : ℕ) : ℝ :=
  if c < 512 then rotT (fun c => (headOf X C ε (c / 64)).dq n (c % 64) * (1 / 8)) n c
  else if c < 1024 then rotT (fun c => (headOf X C ε (c / 64 - 8)).dk n (c % 64)) n c
  else if c < 2048 then (headOf X C ε ((c - 1024) / 128)).dv n ((c - 1024) % 128)
  else if c < 3072 then (headOf X C ε ((c - 2048) / 128)).dg n ((c - 2048) % 128)
  else 0

end Cert.RetMath
-- ==== Proof.RetArrays.lean ====
/-
  The arrays the host makes for the retention's backward kernel, read entry by entry.
-/
module

public import proofs.«01_k».proof.Proof.RetBlock
public import proofs.«01_k».proof.Proof.RetTables
public import Idealize.ShloMosaic.Lib.StableHlo.RunLoop

@[expose] public section

set_option maxRecDepth 16384

noncomputable section

open Idealize.ShloMosaic Idealize.ShloMosaic.TcCoe Idealize.SL.Sem

namespace Cert.RetKernelIdeal.Value

open Cert.RetKernelIdeal Cert.RetKernelIdeal.Gen Cert.RetMath

variable (m : (ℓ : Loc nD τ sig) → Buf (Elt Ideal) ℓ)

/-- The buffers before the host's last stretch, which makes the rotated keys, the states and the kernel's operands. -/
def early (c : Dev nD) := StableHlo.after hostOps0_7 (StableHlo.after hostOps0_6 (StableHlo.after hostOps0_5 (StableHlo.after hostOps0_4
  (StableHlo.after hostOps0_3 (StableHlo.after hostOps0_2 (StableHlo.after hostOps0_1 (StableHlo.after hostOps0 (fun b => m (c, b)))))))))

theorem V_early (c : Dev nD) (r : Ref sig .tc) : V m c r = StableHlo.after hostOps0_12 (StableHlo.after hostOps0_11 (StableHlo.after hostOps0_10
    (StableHlo.after hostOps0_9 (StableHlo.after hostOps0_8 (early m c))))) (Proc.tc.devRef r) := by
  show StableHlo.after [hostOps0, hostOps0_1, hostOps0_2, hostOps0_3, hostOps0_4, hostOps0_5, hostOps0_6, hostOps0_7, hostOps0_8,
    hostOps0_9, hostOps0_10, hostOps0_11, hostOps0_12].flatten (fun b => m (c, b)) _ = _
  rw [← StableHlo.afterL_eq_after_flatten]
  rfl

theorem cosL_coe (n d l : ℕ) (hn : n < 4096) (hd : d = l % 32) :
    Ideal.cos ((FloatOps.sitofp (F := Ideal) FTy.f32 (BitVec.ofNat 32 n) : EReal) * Ideal.pow (Ideal.ofBits FTy.f32 1176256512#32)
      (Ideal.div (-(FloatOps.sitofp (F := Ideal) FTy.f32 (BitVec.ofNat 32 d) : EReal)) (Ideal.ofBits FTy.f32 1107296256#32))) =
        (cosL n l : ℝ) := by rw [ang_coe n d hn (by omega), hd]; rfl
theorem sin_coe (n d : ℕ) (hn : n < 4096) (hd : d < 32) :
    Ideal.sin ((FloatOps.sitofp (F := Ideal) FTy.f32 (BitVec.ofNat 32 n) : EReal) * Ideal.pow (Ideal.ofBits FTy.f32 1176256512#32)
      (Ideal.div (-(FloatOps.sitofp (F := Ideal) FTy.f32 (BitVec.ofNat 32 d) : EReal)) (Ideal.ofBits FTy.f32 1107296256#32))) =
        (Real.sin (ang n d) : ℝ) := by rw [ang_coe n d hn hd]; rfl
theorem sinHi_coe (n d l : ℕ) (hn : n < 4096) (hd : d = l % 32) (h : ¬ l % 64 < 32) :
    Ideal.sin ((FloatOps.sitofp (F := Ideal) FTy.f32 (BitVec.ofNat 32 n) : EReal) * Ideal.pow (Ideal.ofBits FTy.f32 1176256512#32)
      (Ideal.div (-(FloatOps.sitofp (F := Ideal) FTy.f32 (BitVec.ofNat 32 d) : EReal)) (Ideal.ofBits FTy.f32 1107296256#32))) =
        (sinHi n l : ℝ) := by rw [sin_coe n d hn (by omega), hd, sinHi, if_neg h]
theorem sinLo_coe (n d l : ℕ) (hn : n < 4096) (hd : d = l % 32) (h : l % 64 < 32) :
    -Ideal.sin ((FloatOps.sitofp (F := Ideal) FTy.f32 (BitVec.ofNat 32 n) : EReal) * Ideal.pow (Ideal.ofBits FTy.f32 1176256512#32)
      (Ideal.div (-(FloatOps.sitofp (F := Ideal) FTy.f32 (BitVec.ofNat 32 d) : EReal)) (Ideal.ofBits FTy.f32 1107296256#32))) =
        (sinLo n l : ℝ) := by rw [sin_coe n d hn (by omega), hd, sinLo, if_pos h, ← EReal.coe_neg]

theorem sinLo_zero (n l : ℕ) (h : ¬ l % 64 < 32) : (0 : EReal) = (sinLo n l : ℝ) := by rw [sinLo, if_neg h]; rfl
theorem sinHi_zero (n l : ℕ) (h : l % 64 < 32) : (0 : EReal) = (sinHi n l : ℝ) := by rw [sinHi, if_pos h]; rfl

/-- The rotary rows: cosine, and the sine on each half. -/
theorem early_rope (c : Dev nD) (k : Fin 3) (n : Fin 4096) (l : Fin 128) :
    @Eq EReal ((early m c (Proc.tc.devRef main_v23) : S3x4096x128.Idx → EReal) (ix3 k n l)) ((![cosL n l, sinLo n l, sinHi n l] k : ℝ) : EReal) := by
  unfold early
  after_results
  match k with
  | 0 | 1 | 2 =>
    pointwise
    after_results_simp
    pointwise
    split_ifs
    all_goals after_results_simp
    all_goals pointwise
    all_goals first
      | exact cosL_coe _ _ _ n.isLt (by omega)
      | exact sinLo_coe _ _ _ n.isLt (by omega) (by omega)
      | exact sinHi_coe _ _ _ n.isLt (by omega) (by omega)
      | exact sinLo_zero _ _ (by omega)
      | exact sinHi_zero _ _ (by omega)

/-- Head `h`'s log decay. -/
theorem early_lg (c : Dev nD) (h : Fin 8) : @Eq EReal ((early m c (Proc.tc.devRef main_v31) : S8.Idx → EReal) (ix1 h)) (lg h : ℝ) := by
  unfold early
  after_results
  pointwise
  exact lg_coe h h.isLt

theorem V_rope (c : Dev nD) (k : Fin 3) (n : Fin 4096) (l : Fin 128) :
    @Eq EReal ((V m c main_v23 : S3x4096x128.Idx → EReal) (ix3 k n l)) ((![cosL n l, sinLo n l, sinHi n l] k : ℝ) : EReal) := by
  rw [V_early]
  after_results
  exact early_rope m c k n l
theorem V_lg (c : Dev nD) (h : Fin 8) : @Eq EReal ((V m c main_v31 : S8.Idx → EReal) (ix1 h)) (lg h : ℝ) := by
  rw [V_early]
  after_results
  exact early_lg m c h

/-! Integer division and remainder of the lanes, as the host computes them. -/

def sgn (x : BitVec 32) : BitVec 32 := if x = 0 then 0 else if x.msb = true then -1 else 1
def fdiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)
def rem2 (x : BitVec 32) : BitVec 32 :=
  let y : BitVec 32 := Scalar.select (IntOp.cmpi .eq 2#32 0#32) 1#32 2#32
  let r := IntOp.remsi .host x y
  Scalar.select (IntOp.andi (IntOp.cmpi .ne (IntOp.cmpi .slt r 0#32) (IntOp.cmpi .slt y 0#32)) (IntOp.cmpi .ne r 0#32)) (IntOp.addi r y) r

theorem fdiv_64 : ∀ i : Fin 512, fdiv (BitVec.ofNat 32 i) 64#32 = BitVec.ofNat 32 (i.val / 64) := by decide +kernel
theorem lane_head : ∀ h : Fin 8, ∀ l : Fin 128, IntOp.cmpi .eq (fdiv (BitVec.ofNat 32 l) 64#32) (rem2 (BitVec.ofNat 32 h)) =
    if l.val / 64 = h.val % 2 then 1#1 else 0#1 := by decide +kernel
theorem le_chunk : ∀ a b : Fin 8, IntOp.cmpi .sle (BitVec.ofNat 32 a) (BitVec.ofNat 32 b) = if a ≤ b then 1#1 else 0#1 := by decide +kernel

/-- Whether lane `l` of its pair is head `h`'s, as a number. -/
theorem lane_coe (h : Fin 8) (l : Fin 128) :
    (FloatOps.sitofp (F := Ideal) FTy.f32 (BitVec.setWidth 32 (IntOp.cmpi .eq (fdiv (BitVec.ofNat 32 l) 64#32) (rem2 (BitVec.ofNat 32 h)))) : EReal) =
      ((if l.val / 64 = h.val % 2 then 1 else 0 : ℝ) : EReal) := by
  rw [lane_head]
  split_ifs
  · exact (sitofp_coe 1 (by norm_num)).trans (by norm_num)
  · exact (sitofp_coe 0 (by norm_num)).trans (by norm_num)

theorem select_if {α : Type} (p : Prop) [Decidable p] (a b : α) : Scalar.select (if p then 1#1 else 0#1) a b = if p then a else b := by
  split_ifs <;> rfl

theorem exp_coe (x : ℝ) : Ideal.exp (x : EReal) = (Real.exp x : ℝ) := rfl
theorem lit_eighth : Ideal.ofBits .f32 1040187392#32 = ((1 / 8 : ℝ) : EReal) := by
  simp [Ideal.ofBits, Ideal.ieee, -EReal.coe_mul]; norm_num
theorem lit_512 : Ideal.ofBits .f32 1140850688#32 = ((512 : ℝ) : EReal) := by
  simp [Ideal.ofBits, Ideal.ieee, -EReal.coe_mul]; norm_num

/-- The decay between two rows of a block. -/
theorem V_mask (c : Dev nD) (h : Fin 8) (r x : Fin 512) :
    @Eq EReal ((V m c main_v52 : S8x512x512.Idx → EReal) (ix3 h r x)) (D (lg h) r x : ℝ) := by
  rw [V_early]
  unfold early
  after_results
  simp -implicitDefEqProofs only [StableHlo.TRef.toBuf, StableHlo.TRef.ofBuf, cast_cast, cast_eq]
  pointwise
  show Scalar.select (IntOp.cmpi .sle (fdiv (BitVec.ofNat 32 x) 64#32) (fdiv (BitVec.ofNat 32 r) 64#32))
    (Ideal.exp (_ * max ((FloatOps.sitofp (F := Ideal) FTy.f32 _ : EReal) - (FloatOps.sitofp (F := Ideal) FTy.f32 _ : EReal)) (-(_ - _)))) (Ideal.ofBits .f32 0#32) = _
  rw [fdiv_64, fdiv_64, le_chunk ⟨x.val / 64, by omega⟩ ⟨r.val / 64, by omega⟩, select_if, lg_coe h h.isLt, sitofp_coe r (by omega), sitofp_coe x (by omega),
    D, ← EReal.coe_sub, ← EReal.coe_neg, ← EReal.coe_strictMono.monotone.map_max]
  simp only [Fin.mk_le_mk]
  split_ifs
  · rw [← EReal.coe_mul]; rfl
  · simp [Ideal.ofBits, Ideal.ieee]

theorem V_qdm (c : Dev nD) (h : Fin 8) (r : Fin 512) (l : Fin 128) :
    @Eq EReal ((V m c main_v83 : S8x512x128.Idx → EReal) (ix3 h r l)) ((if l.val / 64 = h.val % 2 then Real.exp (lg h * r) * (1 / 8) else 0 : ℝ) : EReal) := by
  rw [V_early]
  unfold early
  after_results
  simp -implicitDefEqProofs only [StableHlo.TRef.toBuf, StableHlo.TRef.ofBuf, cast_cast, cast_eq]
  pointwise
  show Ideal.exp (_ * FloatOps.sitofp (F := Ideal) FTy.f32 _) * FloatOps.sitofp (F := Ideal) FTy.f32 (BitVec.setWidth 32 (IntOp.cmpi .eq (fdiv (BitVec.ofNat 32 l) 64#32) (rem2 (BitVec.ofNat 32 h)))) * _ = _
  rw [lane_coe, lg_coe h h.isLt, sitofp_coe r (by omega), lit_eighth, ← EReal.coe_mul, exp_coe, ← EReal.coe_mul, ← EReal.coe_mul]
  split_ifs <;> simp
theorem V_kdm (c : Dev nD) (h : Fin 8) (r : Fin 512) (l : Fin 128) :
    @Eq EReal ((V m c main_v88 : S8x512x128.Idx → EReal) (ix3 h r l)) ((if l.val / 64 = h.val % 2 then Real.exp (lg h * (512 - r)) else 0 : ℝ) : EReal) := by
  rw [V_early]
  unfold early
  after_results
  simp -implicitDefEqProofs only [StableHlo.TRef.toBuf, StableHlo.TRef.ofBuf, cast_cast, cast_eq]
  pointwise
  show Ideal.exp (_ * (_ - FloatOps.sitofp (F := Ideal) FTy.f32 _)) * FloatOps.sitofp (F := Ideal) FTy.f32 (BitVec.setWidth 32 (IntOp.cmpi .eq (fdiv (BitVec.ofNat 32 l) 64#32) (rem2 (BitVec.ofNat 32 h)))) = _
  rw [lane_coe, lg_coe h h.isLt, sitofp_coe r (by omega), lit_512, ← EReal.coe_sub, ← EReal.coe_mul, exp_coe, ← EReal.coe_mul]
  split_ifs <;> simp
theorem V_mqs (c : Dev nD) (h i : Fin 8) (l : Fin 128) :
    @Eq EReal ((V m c main_v92 : S8x8x128.Idx → EReal) (ix3 h i l)) ((if l.val / 64 = h.val % 2 then 1 / 8 else 0 : ℝ) : EReal) := by
  rw [V_early]
  unfold early
  after_results
  simp -implicitDefEqProofs only [StableHlo.TRef.toBuf, StableHlo.TRef.ofBuf, cast_cast, cast_eq]
  pointwise
  show FloatOps.sitofp (F := Ideal) FTy.f32 (BitVec.setWidth 32 (IntOp.cmpi .eq (fdiv (BitVec.ofNat 32 l) 64#32) (rem2 (BitVec.ofNat 32 h)))) * _ = _
  rw [lane_coe, lit_eighth, ← EReal.coe_mul]
  split_ifs <;> simp
theorem V_cd (c : Dev nD) (h i : Fin 8) (l : Fin 128) :
    @Eq EReal ((V m c main_v97 : S8x8x128.Idx → EReal) (ix3 h i l)) (Real.exp (lg h * 512) : ℝ) := by
  rw [V_early]
  unfold early
  after_results
  pointwise
  rw [lg_coe h h.isLt, lit_512, ← EReal.coe_mul]
  rfl
/-! The host's rotation of the keys, a pair of heads at a time. -/

abbrev Mem := (b : DevRef τ sig) → b.ty.Contents (Elt Ideal)

theorem roll_lo (W : Mem) (n : Fin 4096) (j : Fin 4) (l : Fin 128) :
    @Eq EReal ((StableHlo.after hostOps0_9 W (Proc.tc.devRef main_v111) : S4096x4x128.Idx → EReal) (ix3 n j l))
      ((W (Proc.tc.devRef main_v99) : S4096x4x128.Idx → EReal) (ix3 n j ⟨(l.val + 32) % 128, by omega⟩)) := by
  after_results
  simp -implicitDefEqProofs only [StableHlo.TRef.toBuf, StableHlo.TRef.ofBuf, cast_cast, cast_eq]
  pointwise
  split_ifs <;> exact congrArg (fun i => (W (Proc.tc.devRef main_v99) : S4096x4x128.Idx → EReal) (ix3 n j i)) (Fin.ext (by simp only []; omega))
theorem roll_hi (W : Mem) (n : Fin 4096) (j : Fin 4) (l : Fin 128) :
    @Eq EReal ((StableHlo.after hostOps0_11 W (Proc.tc.devRef main_v115) : S4096x4x128.Idx → EReal) (ix3 n j l))
      ((W (Proc.tc.devRef main_v99) : S4096x4x128.Idx → EReal) (ix3 n j ⟨(l.val + 96) % 128, by omega⟩)) := by
  after_results
  simp -implicitDefEqProofs only [StableHlo.TRef.toBuf, StableHlo.TRef.ofBuf, cast_cast, cast_eq]
  pointwise
  split_ifs <;> exact congrArg (fun i => (W (Proc.tc.devRef main_v99) : S4096x4x128.Idx → EReal) (ix3 n j i)) (Fin.ext (by simp only []; omega))

/-- A buffer's contents as an array of extended reals. -/
abbrev rd {S : Shape} (x : S.Idx → EReal) : S.Idx → EReal := x

theorem k_12 (W : Mem) (n : Fin 4096) (j : Fin 4) (l : Fin 128) :
    @Eq EReal ((StableHlo.after hostOps0_12 (StableHlo.after hostOps0_11 W) (Proc.tc.devRef main_v118) : S4096x4x128.Idx → EReal) (ix3 n j l))
      (rd (S := S4096x4x128) (W (Proc.tc.devRef main_v114)) (ix3 n j l) + rd (S := S4096x4x128) (W (Proc.tc.devRef main_v99)) (ix3 n j ⟨(l.val + 96) % 128, by omega⟩) *
        rd (S := S4096x1x128) (W (Proc.tc.devRef main_v108)) (ix3 n 0 l)) := by
  refine Eq.trans ?_ (congrArg (fun y : EReal => rd (S := S4096x4x128) (W (Proc.tc.devRef main_v114)) (ix3 n j l) +
    y * rd (S := S4096x1x128) (W (Proc.tc.devRef main_v108)) (ix3 n 0 l)) (roll_hi W n j l))
  generalize hU : StableHlo.after hostOps0_11 W = U
  have h1 : U (Proc.tc.devRef main_v114) = W (Proc.tc.devRef main_v114) := by rw [← hU]; after_results
  have h2 : U (Proc.tc.devRef main_v108) = W (Proc.tc.devRef main_v108) := by rw [← hU]; after_results
  rw [← h1, ← h2]
  after_results
  pointwise

theorem k_10 (W : Mem) (n : Fin 4096) (j : Fin 4) (l : Fin 128) :
    @Eq EReal ((StableHlo.after hostOps0_10 (StableHlo.after hostOps0_9 W) (Proc.tc.devRef main_v114) : S4096x4x128.Idx → EReal) (ix3 n j l))
      (rd (S := S4096x4x128) (W (Proc.tc.devRef main_v110)) (ix3 n j l) + rd (S := S4096x4x128) (W (Proc.tc.devRef main_v99)) (ix3 n j ⟨(l.val + 32) % 128, by omega⟩) *
        rd (S := S4096x1x128) (W (Proc.tc.devRef main_v105)) (ix3 n 0 l)) := by
  refine Eq.trans ?_ (congrArg (fun y : EReal => rd (S := S4096x4x128) (W (Proc.tc.devRef main_v110)) (ix3 n j l) +
    y * rd (S := S4096x1x128) (W (Proc.tc.devRef main_v105)) (ix3 n 0 l)) (roll_lo W n j l))
  generalize hU : StableHlo.after hostOps0_9 W = U
  have h1 : U (Proc.tc.devRef main_v110) = W (Proc.tc.devRef main_v110) := by rw [← hU]; after_results
  have h2 : U (Proc.tc.devRef main_v105) = W (Proc.tc.devRef main_v105) := by rw [← hU]; after_results
  rw [← h1, ← h2]
  after_results
  pointwise

/-- The buffers once the keys' pairs and their rotary rows are cut out. -/
def cut (c : Dev nD) : Mem := StableHlo.after hostOps0_8 (early m c)

theorem cut_rope (c : Dev nD) (n : Fin 4096) (l : Fin 128) :
    @Eq EReal ((cut m c (Proc.tc.devRef main_v105) : S4096x1x128.Idx → EReal) (ix3 n 0 l)) (sinLo n l : ℝ) ∧
    @Eq EReal ((cut m c (Proc.tc.devRef main_v108) : S4096x1x128.Idx → EReal) (ix3 n 0 l)) (sinHi n l : ℝ) := by
  unfold cut
  constructor
  · refine Eq.trans ?_ (early_rope m c 1 n l)
    after_results
    pointwise
  · refine Eq.trans ?_ (early_rope m c 2 n l)
    after_results
    pointwise

variable (X : ℕ → ℕ → ℝ)

theorem cut_k (c : Dev nD) (hX : ∀ n l, @Eq EReal ((V m c main_arg1 : S4096x8192.Idx → EReal) (ix2 n l)) (X n l : ℝ)) (n : Fin 4096) (j : Fin 4) (l : Fin 128) :
    @Eq EReal ((cut m c (Proc.tc.devRef main_v99) : S4096x4x128.Idx → EReal) (ix3 n j l)) (X n (512 + 128 * j + l) : ℝ) ∧
    @Eq EReal ((cut m c (Proc.tc.devRef main_v110) : S4096x4x128.Idx → EReal) (ix3 n j l)) (X n (512 + 128 * j + l) * cosL n l : ℝ) := by
  have h : V m c main_arg1 = early m c (Proc.tc.devRef main_arg1) := by rw [V_early]; after_results
  have e : @Eq EReal ((cut m c (Proc.tc.devRef main_v99) : S4096x4x128.Idx → EReal) (ix3 n j l)) (X n (512 + 128 * j + l) : ℝ) := by
    refine Eq.trans ?_ ((hX n ⟨512 + 128 * j.val + l.val, by omega⟩))
    rw [h]
    unfold cut
    after_results
    pointwise
    exact congrArg (fun i => rd (S := S4096x8192) (early m c (Proc.tc.devRef main_arg1)) (ix2 n i)) (Fin.ext (by simp only []; omega))
  refine ⟨e, ?_⟩
  rw [EReal.coe_mul, ← e, ← show ((![cosL n l, sinLo n l, sinHi n l] 0 : ℝ) : EReal) = (cosL n l : ℝ) from rfl, ← early_rope m c 0 n l]
  unfold cut
  after_results
  pointwise

theorem V_cut (c : Dev nD) (r : Ref sig .tc) : V m c r = StableHlo.after hostOps0_12 (StableHlo.after hostOps0_11 (StableHlo.after hostOps0_10
    (StableHlo.after hostOps0_9 (cut m c)))) (Proc.tc.devRef r) := V_early m c r

/-- The rotated keys. -/
theorem V_k (c : Dev nD) (hX : ∀ n l, @Eq EReal ((V m c main_arg1 : S4096x8192.Idx → EReal) (ix2 n l)) (X n l : ℝ)) (n : Fin 4096) (j : Fin 4) (l : Fin 128) :
    @Eq EReal ((V m c main_v118 : S4096x4x128.Idx → EReal) (ix3 n j l)) (rot (X n) n (512 + 128 * j + l) : ℝ) := by
  rw [V_cut]
  refine (k_12 _ n j l).trans ?_
  rw [rd, k_10]
  generalize hW : StableHlo.after hostOps0_10 (StableHlo.after hostOps0_9 (cut m c)) = W
  have h1 : W (Proc.tc.devRef main_v99) = cut m c (Proc.tc.devRef main_v99) := by rw [← hW]; after_results
  have h2 : W (Proc.tc.devRef main_v108) = cut m c (Proc.tc.devRef main_v108) := by rw [← hW]; after_results
  simp only [rd, h1, h2]
  rw [(cut_k m X c hX n j _).1, (cut_k m X c hX n j _).1, (cut_k m X c hX n j _).2, (cut_rope m c n l).1, (cut_rope m c n l).2]
  rw [← rot_lane (X n) n (512 + 128 * j) l (by omega) l.isLt]
  simp only [EReal.coe_add, EReal.coe_mul]

/-- A block's decayed keys against its values. -/
theorem kv_raw (W : Mem) (b h : Fin 8) (l x : Fin 128) :
    @Eq EReal ((StableHlo.after hostOps0_12 W (Proc.tc.devRef main_v128) : S8x8x128x128.Idx → EReal) (ix4 b h l x))
      (∑ i : Fin 512, rd (S := S4096x4x128) (StableHlo.after hostOps0_12 W (Proc.tc.devRef main_v118)) (ix3 ⟨b.val * 512 + i.val, by omega⟩ ⟨h.val / 2, by omega⟩ l) *
        rd (S := S8x512x128) (StableHlo.after hostOps0_12 W (Proc.tc.devRef main_v88)) (ix3 h i l) *
          rd (S := S4096x8192) (StableHlo.after hostOps0_12 W (Proc.tc.devRef main_arg1)) (ix2 ⟨b.val * 512 + i.val, by omega⟩ ⟨1024 + 128 * h.val + x.val, by omega⟩)) := by
  after_results
  pointwise
  refine Finset.sum_congr rfl fun i _ => congrArg₂ _ rfl ?_
  exact congrArg (fun i => rd (S := S4096x8192) (W (Proc.tc.devRef main_arg1)) (ix2 _ i)) (Fin.ext (by simp only []; omega))

def chain (cd : EReal) (kv : ℕ → EReal) : ℕ → EReal
  | 0 => 0
  | b + 1 => chain cd kv b * cd + kv b

theorem tail (W : Mem) : StableHlo.after hostOps0_12 W = StableHlo.after (hostOps0_12.drop 13) (StableHlo.after (hostOps0_12.take 13) W) := by
  rw [← StableHlo.after_append, List.take_append_drop]

theorem st_raw (Y : Mem) (b h : Fin 8) (l x : Fin 128) :
    @Eq EReal ((StableHlo.after (hostOps0_12.drop 13) Y (Proc.tc.devRef main_v180) : S8x8x128x128.Idx → EReal) (ix4 b h l x))
      (chain (rd (S := S8x8x128) (Y (Proc.tc.devRef main_v97)) (ix3 h 0 x)) (fun b => rd (S := S8x8x128x128) (Y (Proc.tc.devRef main_v128)) (ix4 (Fin.ofNat 8 b) h l x)) b) := by
  simp only [hostOps0_12, List.drop_succ_cons, List.drop_zero]
  after_results
  match b with
  | 0 | 1 | 2 | 3 | 4 | 5 | 6 | 7 =>
    pointwise
    after_results_simp
    pointwise
    rfl

variable (C : ℕ → ℕ → ℝ)

theorem V_kv (c : Dev nD) (hX : ∀ n l, @Eq EReal ((V m c main_arg1 : S4096x8192.Idx → EReal) (ix2 n l)) (X n l : ℝ)) (b h : Fin 8) (l x : Fin 128) :
    @Eq EReal ((V m c main_v128 : S8x8x128x128.Idx → EReal) (ix4 b h l x))
      ((if l.val / 64 = h.val % 2 then ∑ j ∈ Finset.range 512, Real.exp (lg h * (((512 : ℕ) : ℝ) - j)) *
        ((headOf X C eps h).k (b.val * 512 + j) (l.val % 64) * (headOf X C eps h).v (b.val * 512 + j) x.val) else 0 : ℝ) : EReal) := by
  rw [V_cut]
  refine (kv_raw _ b h l x).trans ?_
  rw [← V_cut, ← V_cut, ← V_cut]
  have e1 : ∀ i : Fin 512, rd (S := S4096x4x128) (V m c main_v118) (ix3 ⟨b.val * 512 + i.val, by omega⟩ ⟨h.val / 2, by omega⟩ l) = _ :=
    fun i => V_k m X c hX ⟨b.val * 512 + i.val, by omega⟩ ⟨h.val / 2, by omega⟩ l
  have e2 : ∀ i : Fin 512, rd (S := S8x512x128) (V m c main_v88) (ix3 h i l) = _ := fun i => V_kdm m c h i l
  have e3 : ∀ i : Fin 512, rd (S := S4096x8192) (V m c main_arg1) (ix2 ⟨b.val * 512 + i.val, by omega⟩ ⟨1024 + 128 * h.val + x.val, by omega⟩) = _ :=
    fun i => hX ⟨b.val * 512 + i.val, by omega⟩ ⟨1024 + 128 * h.val + x.val, by omega⟩
  simp only [e1, e2, e3]
  simp only [← EReal.coe_mul, ← RetMath.coe_sum]
  congr 1
  split_ifs with hl
  · rw [Finset.sum_range]
    refine Finset.sum_congr rfl fun i _ => ?_
    show _ = Real.exp _ * (rot (X (b.val * 512 + i.val)) (b.val * 512 + i.val) (512 + 64 * h.val + l.val % 64) * X (b.val * 512 + i.val) (1024 + 128 * h.val + x.val))
    rw [show 512 + 128 * (h.val / 2) + l.val = 512 + 64 * h.val + l.val % 64 by omega]
    push_cast
    ring
  · simp

/-- The state before each block. -/
theorem V_st (c : Dev nD) (hX : ∀ n l, @Eq EReal ((V m c main_arg1 : S4096x8192.Idx → EReal) (ix2 n l)) (X n l : ℝ)) (b h : Fin 8) (l x : Fin 128) :
    @Eq EReal ((V m c main_v180 : S8x8x128x128.Idx → EReal) (ix4 b h l x))
      ((if l.val / 64 = h.val % 2 then (headOf X C eps h).st 512 b (l.val % 64) x.val else 0 : ℝ) : EReal) := by
  rw [V_cut, tail]
  refine (st_raw _ b h l x).trans ?_
  generalize hU : StableHlo.after hostOps0_11 _ = U
  have h1 : StableHlo.after (hostOps0_12.take 13) U (Proc.tc.devRef main_v97) = V m c main_v97 := by
    rw [V_cut, hU]
    simp only [hostOps0_12, List.take_succ_cons, List.take_zero]
    after_results
  have h2 : StableHlo.after (hostOps0_12.take 13) U (Proc.tc.devRef main_v128) = V m c main_v128 := by
    rw [V_cut, hU]
    simp only [hostOps0_12, List.take_succ_cons, List.take_zero]
    after_results
  simp only [rd, h1, h2]
  have key (n : ℕ) (hn : n ≤ 8) : chain (Real.exp (lg h * 512) : ℝ) (fun b => (V m c main_v128 : S8x8x128x128.Idx → EReal) (ix4 (Fin.ofNat 8 b) h l x)) n =
      ((if l.val / 64 = h.val % 2 then (headOf X C eps h).st 512 n (l.val % 64) x.val else 0 : ℝ) : EReal) := by
    induction n with
    | zero => simp [chain, Head.st, St_zero]
    | succ n ih =>
      rw [chain, ih (by omega), V_kv m X C c hX, ← EReal.coe_mul, ← EReal.coe_add, Fin.val_ofNat, Nat.mod_eq_of_lt (by omega : n < 8)]
      congr 1
      split_ifs
      · rw [Head.st, Head.st, St_succ]
        rfl
      · simp
  exact (congrArg (fun y => chain y _ b) (V_cd m c h 0 x)).trans (key b (by omega))

/-- The operands cast to the kernel's types, and the array its result is written over. -/
theorem V_ct (c : Dev nD) : (V m c main_v182 : S4096x1024.Idx → EReal) = V m c main_arg0 := by
  rw [V_early, V_early]; after_results; rfl
theorem V_proj (c : Dev nD) : (V m c main_v183 : S4096x8192.Idx → EReal) = V m c main_arg1 := by
  rw [V_early, V_early]; after_results; rfl
theorem V_out (c : Dev nD) (n : Fin 4096) (l : Fin 8192) : @Eq EReal ((V m c main_v184 : S4096x8192.Idx → EReal) (ix2 n l)) 0 := by
  rw [V_early]; after_results
  show Ideal.ofBits .bf16 0#16 = 0
  simp [Ideal.ofBits, Ideal.ieee]

end Cert.RetKernelIdeal.Value
-- ==== Proof.RetRead1.lean ====
/-
  The retention's reference read entry by entry, up to its first loop.
-/
module

public import proofs.«01_k».proof.Proof.RetRun
public import proofs.«01_k».proof.Proof.RetArrays

@[expose] public section

set_option maxRecDepth 16384

noncomputable section

open Idealize.ShloMosaic Idealize.ShloMosaic.TcCoe Idealize.SL.Sem

namespace Cert.RetReferenceIdeal.Reading

open Cert.RetReferenceIdeal Cert.RetReferenceIdeal.Gen Cert.RetReferenceIdeal.Lists Cert.RetMath
open Cert.RetKernelIdeal.Value (sin_coe exp_coe lit_eighth eps)

abbrev Mem := (b : DevRef τ sig) → b.ty.Contents (Elt Ideal)

/-- A buffer's contents as an array of extended reals. -/
abbrev rd {S : Shape} (x : S.Idx → EReal) : S.Idx → EReal := x

variable (X C : ℕ → ℕ → ℝ)

theorem cos_coe (n d : ℕ) (hn : n < 4096) (hd : d < 32) :
    Ideal.cos ((FloatOps.sitofp (F := Ideal) FTy.f32 (BitVec.ofNat 32 n) : EReal) * Ideal.pow (Ideal.ofBits FTy.f32 1176256512#32)
      (Ideal.div (-(FloatOps.sitofp (F := Ideal) FTy.f32 (BitVec.ofNat 32 d) : EReal)) (Ideal.ofBits FTy.f32 1107296256#32))) =
        (Real.cos (ang n d) : ℝ) := by rw [ang_coe n d hn hd]; rfl

/-! Real forms of the values met on the way. -/

theorem lit_64 : Ideal.ofBits .f32 1115684864#32 = ((64 : ℝ) : EReal) := by
  simp [Ideal.ofBits, Ideal.ieee, -EReal.coe_mul]; norm_num
theorem absf_coe (x : ℝ) : (FloatOps.absf (F := Ideal) (φ := FTy.f32) (x : EReal) : EReal) = ((|x| : ℝ) : EReal) := by
  show max (x : EReal) (-(x : EReal)) = _
  rw [← EReal.coe_neg, ← EReal.coe_strictMono.monotone.map_max]
  rfl
theorem D_in (l : ℝ) (i j : Fin 64) : D l i j = Real.exp (l * |(i : ℝ) - (j : ℝ)|) := by
  unfold D
  rw [if_pos (by omega)]
theorem rot_lo {xa xb co si : EReal} (x : ℕ → ℝ) (n o d a b : ℕ) (hxa : xa = (x a : ℝ)) (hxb : xb = (x b : ℝ))
    (hco : co = (Real.cos (ang n d) : ℝ)) (hsi : si = (Real.sin (ang n d) : ℝ))
    (ho : 64 ∣ o) (hd : d < 32) (ha : a = o + d) (hb : b = o + d + 32) :
    xa * co - xb * si = (rot x n (o + d) : ℝ) := by
  subst ha hb hxa hxb hco hsi
  unfold rot
  rw [if_pos (by omega), show (o + d) % 32 = d by omega, ← EReal.coe_mul, ← EReal.coe_mul, ← EReal.coe_sub]
theorem rot_hi {xa xb co si : EReal} (x : ℕ → ℝ) (n o d a b : ℕ) (hxa : xa = (x a : ℝ)) (hxb : xb = (x b : ℝ))
    (hsi : si = (Real.sin (ang n (d - 32)) : ℝ)) (hco : co = (Real.cos (ang n (d - 32)) : ℝ))
    (ho : 64 ∣ o) (hd : ¬ d < 32) (hd' : d < 64) (ha : a = o + d - 32) (hb : b = o + d) :
    xa * si + xb * co = (rot x n (o + d) : ℝ) := by
  subst ha hb hxa hxb hco hsi
  unfold rot
  rw [if_neg (by omega), show (o + d) % 32 = d - 32 by omega, ← EReal.coe_mul, ← EReal.coe_mul, ← EReal.coe_add]

/-! Buffers kept from one place to another. -/

def Same (R : List (Ref sig .tc)) (V V' : Mem) : Prop := ∀ r ∈ R, V' (Proc.devRef .tc r) = V (Proc.devRef .tc r)

theorem Same.trans {R : List (Ref sig .tc)} {V V' V'' : Mem} (a : Same R V V') (b : Same R V' V'') : Same R V V'' :=
  fun r h => (b r h).trans (a r h)
theorem Same.after {R : List (Ref sig .tc)} {ops : List (HloOp τ sig (Elt Ideal))} {W : List (Ref sig .tc)}
    (hw : ops.Forall fun op => op.writes ⊆ (W.map (Proc.devRef (τ := τ) .tc)).toFinset) (hd : ∀ r ∈ R, r ∉ W) (V : Mem) :
    Same R V (StableHlo.after ops V) := fun r h => StableHlo.after_of_writes_sub ops V hw (hd r h)

/-! What the host reads off its arguments: the rotary angles, the heads by chunks of 64 rows, the decays' logarithms. -/

structure Base (V : Mem) : Prop where
  cosq : ∀ (n : Fin 4096) (d : Fin 32), @Eq EReal ((V (Proc.tc.devRef main_v18) : S4096x1x32.Idx → EReal) (ix3 n 0 d)) (Real.cos (ang n d) : ℝ)
  sinq : ∀ (n : Fin 4096) (d : Fin 32), @Eq EReal ((V (Proc.tc.devRef main_v20) : S4096x1x32.Idx → EReal) (ix3 n 0 d)) (Real.sin (ang n d) : ℝ)
  cosk : ∀ (n : Fin 4096) (d : Fin 32), @Eq EReal ((V (Proc.tc.devRef main_v49) : S4096x1x32.Idx → EReal) (ix3 n 0 d)) (Real.cos (ang n d) : ℝ)
  sink : ∀ (n : Fin 4096) (d : Fin 32), @Eq EReal ((V (Proc.tc.devRef main_v51) : S4096x1x32.Idx → EReal) (ix3 n 0 d)) (Real.sin (ang n d) : ℝ)
  q : ∀ (N i : Fin 64) (h : Fin 8) (d : Fin 64), @Eq EReal ((V (Proc.tc.devRef main_v66) : S64x64x8x64.Idx → EReal) (ix4 N i h d))
    ((headOf X C eps h).q (N * 64 + i) d : ℝ)
  k : ∀ (N i : Fin 64) (h : Fin 8) (d : Fin 64), @Eq EReal ((V (Proc.tc.devRef main_v67) : S64x64x8x64.Idx → EReal) (ix4 N i h d))
    ((headOf X C eps h).k (N * 64 + i) d : ℝ)
  v : ∀ (N i : Fin 64) (h : Fin 8) (e : Fin 128), @Eq EReal ((V (Proc.tc.devRef main_v68) : S64x64x8x128.Idx → EReal) (ix4 N i h e))
    ((headOf X C eps h).v (N * 64 + i) e : ℝ)
  g : ∀ (n : Fin 4096) (c : Fin 1024), @Eq EReal ((V (Proc.tc.devRef main_v3) : S4096x1024.Idx → EReal) (ix2 n c)) (X n (2048 + c) : ℝ)
  ct : ∀ (n : Fin 4096) (c : Fin 1024), @Eq EReal ((V (Proc.tc.devRef main_arg0) : S4096x1024.Idx → EReal) (ix2 n c)) (C n c : ℝ)
  lgs : ∀ h : Fin 8, @Eq EReal ((V (Proc.tc.devRef main_v76) : S8.Idx → EReal) (ix1 h)) (lg h : ℝ)

abbrev baseR : List (Ref sig .tc) := [main_v18, main_v20, main_v49, main_v51, main_v66, main_v67, main_v68, main_v3, main_arg0, main_v76]

variable {X C}

theorem Base.keep {V V' : Mem} (H : Base X C V) (S : Same baseR V V') : Base X C V' where
  cosq n d := (congrFun (S main_v18 (by decide +kernel)) _).trans (H.cosq n d)
  sinq n d := (congrFun (S main_v20 (by decide +kernel)) _).trans (H.sinq n d)
  cosk n d := (congrFun (S main_v49 (by decide +kernel)) _).trans (H.cosk n d)
  sink n d := (congrFun (S main_v51 (by decide +kernel)) _).trans (H.sink n d)
  q N i h d := (congrFun (S main_v66 (by decide +kernel)) _).trans (H.q N i h d)
  k N i h d := (congrFun (S main_v67 (by decide +kernel)) _).trans (H.k N i h d)
  v N i h d := (congrFun (S main_v68 (by decide +kernel)) _).trans (H.v N i h d)
  g n c := (congrFun (S main_v3 (by decide +kernel)) _).trans (H.g n c)
  ct n c := (congrFun (S main_arg0 (by decide +kernel)) _).trans (H.ct n c)
  lgs h := (congrFun (S main_v76 (by decide +kernel)) _).trans (H.lgs h)

/-- The arguments' reals. -/
structure Given (X C : ℕ → ℕ → ℝ) (W : Mem) : Prop where
  proj : ∀ (n : Fin 4096) (l : Fin 8192), @Eq EReal ((W (Proc.tc.devRef main_arg1) : S4096x8192.Idx → EReal) (ix2 n l)) (X n l : ℝ)
  ct : ∀ (n : Fin 4096) (l : Fin 1024), @Eq EReal ((W (Proc.tc.devRef main_arg0) : S4096x1024.Idx → EReal) (ix2 n l)) (C n l : ℝ)

/-- The buffers after the first five stretches. -/
abbrev start (W : Mem) : Mem := StableHlo.after s4 (StableHlo.after s3 (StableHlo.after s2 (StableHlo.after s1 (StableHlo.after s0 W))))

theorem base_q (W : Mem) (G : Given X C W) (N i : Fin 64) (h : Fin 8) (d : Fin 64) :
    @Eq EReal ((start W (Proc.tc.devRef main_v66) : S64x64x8x64.Idx → EReal) (ix4 N i h d)) ((headOf X C eps h).q (N * 64 + i) d : ℝ) := by
  after_results
  pointwise
  refine Eq.trans (congrArg (fun y : EReal => y * _) (?_ : _ = ((rot (X (N * 64 + i)) (N * 64 + i) (64 * h + d) : ℝ) : EReal))) ?_
  · split_ifs with hd
    · exact rot_lo (X (N * 64 + i)) (N * 64 + i) (64 * h) d _ _ (G.proj _ _) (G.proj _ _) (cos_coe (N * 64 + i) d (by omega) hd)
        (sin_coe (N * 64 + i) d (by omega) hd) ⟨_, rfl⟩ hd (by simp only []; omega) (by simp only []; omega)
    · exact absurd ‹_› (by decide)
    · exact rot_hi (X (N * 64 + i)) (N * 64 + i) (64 * h) d _ _ (G.proj _ _) (G.proj _ _) (sin_coe (N * 64 + i) (d - 32) (by omega) (by omega))
        (cos_coe (N * 64 + i) (d - 32) (by omega) (by omega)) ⟨_, rfl⟩ hd d.isLt (by simp only []; omega) (by simp only []; omega)
  · rw [lit_eighth]; exact (EReal.coe_mul _ _).symm

theorem base_k (W : Mem) (G : Given X C W) (N i : Fin 64) (h : Fin 8) (d : Fin 64) :
    @Eq EReal ((start W (Proc.tc.devRef main_v67) : S64x64x8x64.Idx → EReal) (ix4 N i h d)) ((headOf X C eps h).k (N * 64 + i) d : ℝ) := by
  after_results
  pointwise
  show _ = ((rot (X (N * 64 + i)) (N * 64 + i) (512 + 64 * h + d) : ℝ) : EReal)
  split_ifs with hd
  · exact rot_lo (X (N * 64 + i)) (N * 64 + i) (512 + 64 * h) d _ _ (G.proj _ _) (G.proj _ _) (cos_coe (N * 64 + i) d (by omega) hd)
      (sin_coe (N * 64 + i) d (by omega) hd) ⟨8 + h, by ring⟩ hd (by simp only []; omega) (by simp only []; omega)
  · exact absurd ‹_› (by decide)
  · exact rot_hi (X (N * 64 + i)) (N * 64 + i) (512 + 64 * h) d _ _ (G.proj _ _) (G.proj _ _) (sin_coe (N * 64 + i) (d - 32) (by omega) (by omega))
      (cos_coe (N * 64 + i) (d - 32) (by omega) (by omega)) ⟨8 + h, by ring⟩ hd d.isLt (by simp only []; omega) (by simp only []; omega)

theorem base (W : Mem) (G : Given X C W) : Base X C (start W) where
  cosq n d := by
    after_results
    pointwise
    exact cos_coe _ _ n.isLt d.isLt
  sinq n d := by
    after_results
    pointwise
    exact sin_coe _ _ n.isLt d.isLt
  cosk n d := by
    after_results
    pointwise
    exact cos_coe _ _ n.isLt d.isLt
  sink n d := by
    after_results
    pointwise
    exact sin_coe _ _ n.isLt d.isLt
  q N i h d := base_q W G N i h d
  k N i h d := base_k W G N i h d
  v N i h e := by
    after_results
    pointwise
    rw [G.proj]
    refine congrArg (fun a => ((X (N * 64 + i) a : ℝ) : EReal)) ?_
    simp only []
    omega
  g n c := by
    after_results
    pointwise
    rw [G.proj]
  ct n c := by
    refine Eq.trans ?_ (G.ct n c)
    after_results
  lgs h := by
    after_results
    pointwise
    exact lg_coe h h.isLt

end Cert.RetReferenceIdeal.Reading
-- ==== Proof.RetRead2.lean ====
/-
What the retention backward pass's reference holds at the entry of its first loop: the products of queries and
keys inside a block, the decays, and each block's contribution to the state.
-/
module

public import proofs.«01_k».proof.Proof.RetRead1

@[expose] public section

set_option maxRecDepth 16384

noncomputable section

open Idealize.ShloMosaic Idealize.ShloMosaic.TcCoe Idealize.SL.Sem

namespace Cert.RetReferenceIdeal.Reading

open Cert.RetReferenceIdeal Cert.RetReferenceIdeal.Gen Cert.RetReferenceIdeal.Lists Cert.RetMath
open Cert.RetKernelIdeal.Value (sin_coe exp_coe lit_eighth eps)

variable {X C : ℕ → ℕ → ℝ}

theorem mul_of {a b : EReal} {x y : ℝ} (ha : a = x) (hb : b = y) : a * b = (x * y : ℝ) := by rw [ha, hb, EReal.coe_mul]
theorem add_of {a b : EReal} {x y : ℝ} (ha : a = x) (hb : b = y) : a + b = (x + y : ℝ) := by rw [ha, hb, EReal.coe_add]
theorem sub_of {a b : EReal} {x y : ℝ} (ha : a = x) (hb : b = y) : a - b = (x - y : ℝ) := by rw [ha, hb, EReal.coe_sub]
theorem neg_of {a : EReal} {x : ℝ} (ha : a = x) : -a = ((-x : ℝ) : EReal) := by rw [ha, EReal.coe_neg]
theorem sum_of {n : ℕ} {f : Fin n → EReal} {r : Fin n → ℝ} (h : ∀ i, f i = r i) : ∑ i, f i = ((∑ i, r i : ℝ) : EReal) := by
  rw [coe_sum]
  exact Finset.sum_congr rfl fun i _ => h i
theorem exp_of {a : EReal} {x : ℝ} (ha : a = x) : Ideal.exp a = (Real.exp x : ℝ) := by rw [ha, exp_coe]
/-- The decay of row `i` against row `j` of one block. -/
theorem dec_of {a : EReal} {l : ℝ} (ha : a = l) (i j : Fin 64) :
    Ideal.exp (a * FloatOps.absf (F := Ideal) (FloatOps.sitofp (F := Ideal) FTy.f32 (BitVec.ofNat 32 i) - FloatOps.sitofp (F := Ideal) FTy.f32 (BitVec.ofNat 32 j) : EReal)) =
      (D l i j : ℝ) := by
  rw [sitofp_coe _ (by omega), sitofp_coe _ (by omega), ← EReal.coe_sub, absf_coe, D_in]
  exact exp_of (mul_of ha rfl)
/-- The decay from row `j` to the end of its block. -/
theorem kdec_of {a b : EReal} {l : ℝ} {j : ℕ} (ha : a = l) (hb : b = (j : ℝ)) :
    Ideal.exp (a * (Ideal.ofBits FTy.f32 1115684864#32 - b)) = (Real.exp (l * ((64 : ℝ) - j)) : ℝ) :=
  exp_of (mul_of ha (sub_of lit_64 hb))

/-- What the reference holds at the entry of its first loop. -/
structure Entry (X C : ℕ → ℕ → ℝ) (V : Mem) : Prop where
  base : Base X C V
  dec : ∀ (h : Fin 8) (i j : Fin 64), @Eq EReal ((V (Proc.tc.devRef main_v91) : S1x8x64x64.Idx → EReal) (ix4 0 h i j)) (D (lg h) i j : ℝ)
  sD : ∀ (N : Fin 64) (h : Fin 8) (i j : Fin 64), @Eq EReal ((V (Proc.tc.devRef main_v93) : S64x8x64x64.Idx → EReal) (ix4 N h i j))
    ((headOf X C eps h).s (N * 64 + i) (N * 64 + j) * D (lg h) i j : ℝ)
  inn : ∀ (N : Fin 64) (h : Fin 8) (i : Fin 64) (e : Fin 128), @Eq EReal ((V (Proc.tc.devRef main_v95) : S64x64x8x128.Idx → EReal) (ix4 N i h e))
    (∑ j : Fin 64, (headOf X C eps h).s (N * 64 + i) (N * 64 + j) * D (lg h) i j * (headOf X C eps h).v (N * 64 + j) e : ℝ)
  pos : ∀ i : Fin 64, @Eq EReal ((V (Proc.tc.devRef main_v77) : S64.Idx → EReal) (ix1 i)) ((i : ℕ) : ℝ)
  kdec : ∀ (h : Fin 8) (j : Fin 64), @Eq EReal ((V (Proc.tc.devRef main_v104) : S1x64x8x1.Idx → EReal) (ix4 0 j h 0)) (Real.exp (lg h * ((64 : ℝ) - (j : ℕ))) : ℝ)
  kk : ∀ (N : Fin 64) (h : Fin 8) (j d : Fin 64), @Eq EReal ((V (Proc.tc.devRef main_v106) : S64x64x8x64.Idx → EReal) (ix4 N j h d))
    ((headOf X C eps h).k (N * 64 + j) d * Real.exp (lg h * ((64 : ℝ) - (j : ℕ))) : ℝ)
  kv : ∀ (N : Fin 64) (h : Fin 8) (d : Fin 64) (e : Fin 128), @Eq EReal ((V (Proc.tc.devRef main_v107) : S64x8x64x128.Idx → EReal) (ix4 N h d e))
    (∑ j ∈ Finset.range 64, Real.exp (lg h * ((64 : ℝ) - j)) * ((headOf X C eps h).k (N * 64 + j) d * (headOf X C eps h).v (N * 64 + j) e) : ℝ)
  cd : ∀ h : Fin 8, @Eq EReal ((V (Proc.tc.devRef main_v111) : S8x1x1.Idx → EReal) (ix3 h 0 0)) (Real.exp (lg h * 64) : ℝ)

abbrev entryR : List (Ref sig .tc) := baseR ++ [main_v91, main_v93, main_v95, main_v77, main_v104, main_v106, main_v107, main_v111]

theorem Entry.keep {V V' : Mem} (H : Entry X C V) (S : Same entryR V V') : Entry X C V' where
  base := H.base.keep fun r h => S r (List.mem_append_left _ h)
  dec h i j := (congrFun (S main_v91 (by decide +kernel)) _).trans (H.dec h i j)
  sD N h i j := (congrFun (S main_v93 (by decide +kernel)) _).trans (H.sD N h i j)
  inn N h i e := (congrFun (S main_v95 (by decide +kernel)) _).trans (H.inn N h i e)
  pos i := (congrFun (S main_v77 (by decide +kernel)) _).trans (H.pos i)
  kdec h j := (congrFun (S main_v104 (by decide +kernel)) _).trans (H.kdec h j)
  kk N h j d := (congrFun (S main_v106 (by decide +kernel)) _).trans (H.kk N h j d)
  kv N h d e := (congrFun (S main_v107 (by decide +kernel)) _).trans (H.kv N h d e)
  cd h := (congrFun (S main_v111 (by decide +kernel)) _).trans (H.cd h)

theorem pos_read (W : Mem) (i : Fin 64) : @Eq EReal ((StableHlo.after s5 W (Proc.tc.devRef main_v77) : S64.Idx → EReal) (ix1 i)) ((i : ℕ) : ℝ) := by
  after_results
  pointwise
  exact sitofp_coe _ (by omega)
theorem dec_read {W : Mem} (B : Base X C W) (h : Fin 8) (i j : Fin 64) :
    @Eq EReal ((StableHlo.after s5 W (Proc.tc.devRef main_v91) : S1x8x64x64.Idx → EReal) (ix4 0 h i j)) (D (lg h) i j : ℝ) := by
  after_results
  pointwise
  exact dec_of (B.lgs h) i j
theorem sD_read {W : Mem} (B : Base X C W) (N : Fin 64) (h : Fin 8) (i j : Fin 64) :
    @Eq EReal ((StableHlo.after s5 W (Proc.tc.devRef main_v93) : S64x8x64x64.Idx → EReal) (ix4 N h i j))
      ((headOf X C eps h).s (N * 64 + i) (N * 64 + j) * D (lg h) i j : ℝ) := by
  after_results
  pointwise
  exact mul_of (sum_of fun x => mul_of (B.q N i h x) (B.k N j h x)) (dec_of (B.lgs h) i j)
theorem inn_read {W : Mem} (B : Base X C W) (N : Fin 64) (h : Fin 8) (i : Fin 64) (e : Fin 128) :
    @Eq EReal ((StableHlo.after s5 W (Proc.tc.devRef main_v95) : S64x64x8x128.Idx → EReal) (ix4 N i h e))
      (∑ j : Fin 64, (headOf X C eps h).s (N * 64 + i) (N * 64 + j) * D (lg h) i j * (headOf X C eps h).v (N * 64 + j) e : ℝ) := by
  after_results
  pointwise
  refine (sum_of fun x => mul_of (B.v N x h e) (mul_of (sum_of fun y => mul_of (B.q N i h y) (B.k N x h y)) (dec_of (B.lgs h) i x))).trans ?_
  exact congrArg _ (Finset.sum_congr rfl fun x _ => mul_comm _ _)
theorem kdec_read {W : Mem} (B : Base X C W) (P : ∀ i : Fin 64, @Eq EReal ((W (Proc.tc.devRef main_v77) : S64.Idx → EReal) (ix1 i)) ((i : ℕ) : ℝ))
    (h : Fin 8) (j : Fin 64) : @Eq EReal ((StableHlo.after s6 W (Proc.tc.devRef main_v104) : S1x64x8x1.Idx → EReal) (ix4 0 j h 0))
      (Real.exp (lg h * ((64 : ℝ) - (j : ℕ))) : ℝ) := by
  after_results
  pointwise
  exact kdec_of (B.lgs h) (P j)
theorem kk_read {W : Mem} (B : Base X C W) (P : ∀ i : Fin 64, @Eq EReal ((W (Proc.tc.devRef main_v77) : S64.Idx → EReal) (ix1 i)) ((i : ℕ) : ℝ))
    (N : Fin 64) (h : Fin 8) (j d : Fin 64) : @Eq EReal ((StableHlo.after s6 W (Proc.tc.devRef main_v106) : S64x64x8x64.Idx → EReal) (ix4 N j h d))
      ((headOf X C eps h).k (N * 64 + j) d * Real.exp (lg h * ((64 : ℝ) - (j : ℕ))) : ℝ) := by
  after_results
  pointwise
  exact mul_of (B.k N j h d) (kdec_of (B.lgs h) (P j))
theorem kv_read {W : Mem} (B : Base X C W) (P : ∀ i : Fin 64, @Eq EReal ((W (Proc.tc.devRef main_v77) : S64.Idx → EReal) (ix1 i)) ((i : ℕ) : ℝ))
    (N : Fin 64) (h : Fin 8) (d : Fin 64) (e : Fin 128) :
    @Eq EReal ((StableHlo.after s6 W (Proc.tc.devRef main_v107) : S64x8x64x128.Idx → EReal) (ix4 N h d e))
      (∑ j ∈ Finset.range 64, Real.exp (lg h * ((64 : ℝ) - j)) * ((headOf X C eps h).k (N * 64 + j) d * (headOf X C eps h).v (N * 64 + j) e) : ℝ) := by
  after_results
  pointwise
  refine (sum_of fun x => mul_of (mul_of (B.k N x h d) (kdec_of (B.lgs h) (P x))) (B.v N x h e)).trans ?_
  rw [Finset.sum_range]
  exact congrArg _ (Finset.sum_congr rfl fun x _ => by ring)
theorem cd_read {W : Mem} (B : Base X C W) (h : Fin 8) :
    @Eq EReal ((StableHlo.after s7 (StableHlo.after s6 W) (Proc.tc.devRef main_v111) : S8x1x1.Idx → EReal) (ix3 h 0 0)) (Real.exp (lg h * 64) : ℝ) := by
  after_results
  pointwise
  exact exp_of (mul_of (B.lgs h) lit_64)

theorem entry {W : Mem} (B : Base X C W) : Entry X C (StableHlo.after s7 (StableHlo.after s6 (StableHlo.after s5 W))) := by
  have B5 : Base X C (StableHlo.after s5 W) := B.keep (Same.after s5_writes (by decide +kernel) _)
  have P := pos_read W
  have k6 (r : Ref sig .tc) (h : r ∉ s6_W) : StableHlo.after s6 (StableHlo.after s5 W) (Proc.tc.devRef r) = StableHlo.after s5 W (Proc.tc.devRef r) :=
    StableHlo.after_of_writes_sub s6 _ s6_writes h
  have k7 (r : Ref sig .tc) (h : r ∉ s7_W) : StableHlo.after s7 (StableHlo.after s6 (StableHlo.after s5 W)) (Proc.tc.devRef r) = StableHlo.after s6 (StableHlo.after s5 W) (Proc.tc.devRef r) :=
    StableHlo.after_of_writes_sub s7 _ s7_writes h
  have k67 (r : Ref sig .tc) (h : r ∉ s6_W) (h' : r ∉ s7_W) := (k7 r h').trans (k6 r h)
  exact {
    base := B5.keep (Same.trans (Same.after s6_writes (by decide +kernel) _) (Same.after s7_writes (by decide +kernel) _))
    dec := fun h i j => (congrFun (k67 main_v91 (by decide +kernel) (by decide +kernel)) _).trans (dec_read B h i j)
    sD := fun N h i j => (congrFun (k67 main_v93 (by decide +kernel) (by decide +kernel)) _).trans (sD_read B N h i j)
    inn := fun N h i e => (congrFun (k67 main_v95 (by decide +kernel) (by decide +kernel)) _).trans (inn_read B N h i e)
    pos := fun i => (congrFun (k67 main_v77 (by decide +kernel) (by decide +kernel)) _).trans (P i)
    kdec := fun h j => (congrFun (k7 main_v104 (by decide +kernel)) _).trans (kdec_read B5 P h j)
    kk := fun N h j d => (congrFun (k7 main_v106 (by decide +kernel)) _).trans (kk_read B5 P N h j d)
    kv := fun N h d e => (congrFun (k7 main_v107 (by decide +kernel)) _).trans (kv_read B5 P N h d e)
    cd := fun h => cd_read B5 h }

end Cert.RetReferenceIdeal.Reading
-- ==== Proof.RetRead3.lean ====
/-
The two loops of the retention backward pass's reference: the states before the blocks, stacked by the first loop, and
the gradients carried back past them, stacked by the second.
-/
module

public import proofs.«01_k».proof.Proof.RetRead2
public import proofs.«01_k».proof.Proof.RetRun
public import Idealize.ShloMosaic.Lib.DynamicIndex

@[expose] public section

set_option maxRecDepth 16384

noncomputable section

open Idealize.ShloMosaic Idealize.ShloMosaic.TcCoe Idealize.SL.Sem

namespace Cert.RetReferenceIdeal.Reading

open Cert.RetReferenceIdeal Cert.RetReferenceIdeal.Gen Cert.RetReferenceIdeal.Lists Cert.RetMath
open Cert.RetKernelIdeal.Value (sin_coe exp_coe lit_eighth eps)

variable {X C : ℕ → ℕ → ℝ}

theorem slot_fits (k : Fin 64) : S64x8x64x128.Slices (![(k : ℕ), 0, 0, 0] : Fin 4 → ℕ) S1x8x64x128 := ⟨rfl, by
  intro a
  fin_cases a
  · show (k : ℕ) + 1 ≤ 64
    omega
  all_goals exact Nat.le_of_eq rfl⟩
/-- Block `k` of the stacked states, read at a start that is `k` on the first axis. -/
theorem slice_at (x : S64x8x64x128.Idx → EReal) (start : Fin S64x8x64x128.rank → Int) (k : Fin 64) (hs : ∀ a, start a = ((![(k : ℕ), 0, 0, 0] : Fin 4 → ℕ) a : Int))
    (hf : S64x8x64x128.Slices (fun _ => 0) S1x8x64x128) (hc : S1x8x64x128.ShapeCasts S8x64x128) (h : Fin 8) (d : Fin 64) (e : Fin 128) :
    shapeCast S8x64x128 (Host.dynamicSlice S1x8x64x128 x start hf) hc (ix3 h d e) = x (ix4 k h d e) := by
  rw [Host.dynamicSlice_eq_extractStridedSlice _ _ _ _ hf (slot_fits k) hs]
  pointwise
/-- The stacked states after block `k` is replaced. -/
theorem put_at (x : S64x8x64x128.Idx → EReal) (u : S8x64x128.Idx → EReal) (start : Fin S64x8x64x128.rank → Int) (k : Fin 64) (hs : ∀ a, start a = ((![(k : ℕ), 0, 0, 0] : Fin 4 → ℕ) a : Int))
    (hf : S64x8x64x128.Slices (fun _ => 0) S1x8x64x128) (N : Fin 64) (h : Fin 8) (d : Fin 64) (e : Fin 128) :
    Host.dynamicUpdateSlice x (broadcastInDim S1x8x64x128 ![1, 2, 3] bcast_S8x64x128_S1x8x64x128_1_2_3 u) start hf (ix4 N h d e) =
      if N = k then u (ix3 h d e) else x (ix4 N h d e) := by
  rw [Host.dynamicUpdateSlice_eq_updateSlice _ _ _ hf (![(k : ℕ), 0, 0, 0] : Fin 4 → ℕ) (fun a => by
    have := (slot_fits k).2 a
    rw [hs a]
    omega) (slot_fits k)]
  pointwise
  by_cases hk : N = k
  · rw [if_pos hk, dif_pos (by subst hk; omega)]
  · rw [if_neg hk, dif_neg (by have := Fin.val_ne_of_ne hk; omega)]
theorem iv_toInt (k : Fin 64) : (Scf.iv (0#32 : BitVec 32) 1#32 k).toInt = ((k : ℕ) : Int) := by
  unfold Scf.iv
  revert k
  decide
theorem iv_back (k : Fin 64) : (64#32 - Scf.iv (0#32 : BitVec 32) 1#32 k - 1#32).toInt = ((63 - (k : ℕ) : ℕ) : Int) := by
  unfold Scf.iv
  revert k
  decide
/-- A start given by four scalars, the last three zero. -/
theorem start_at (w : S_.Idx → BitVec 32) (i : S_.Idx) (k : Fin 64) (hw : (w i).toInt = ((k : ℕ) : Int)) :
    ∀ a : Fin 4, BitVec.toInt ((![w, constantI S_ 32 0#32, constantI S_ 32 0#32, constantI S_ 32 0#32] : Fin 4 → S_.Idx → BitVec 32) a i) =
      ((![(k : ℕ), 0, 0, 0] : Fin 4 → ℕ) a : Int) := by
  intro a
  fin_cases a
  · exact hw
  all_goals rfl

theorem take0 (W : Mem) : (StableHlo.after b0_0 W (Proc.tc.devRef main_while0b_v261) : S8x64x128.Idx → EReal) =
    shapeCast S8x64x128 (Host.dynamicSlice S1x8x64x128 (W (Proc.tc.devRef main_v114_0) : S64x8x64x128.Idx → EReal) (fun k =>
      BitVec.toInt ((![W (Proc.tc.devRef main_v114_2), constantI S_ 32 0#32, constantI S_ 32 0#32, constantI S_ 32 0#32] : Fin 4 → S_.Idx → BitVec 32) k
        (Shape.Idx.first h_S_))) sliceFits_S64x8x64x128_S1x8x64x128) shapeCasts_S1x8x64x128_S8x64x128 := by
  simp only [b0_0]
  after_results_entrywise [cast_eq]
theorem put0 (W : Mem) : (StableHlo.after b0_2 W (Proc.tc.devRef main_while0b_v265) : S64x8x64x128.Idx → EReal) =
    Host.dynamicUpdateSlice (W (Proc.tc.devRef main_v114_4) : S64x8x64x128.Idx → EReal)
      (broadcastInDim S1x8x64x128 ![1, 2, 3] bcast_S8x64x128_S1x8x64x128_1_2_3 (W (Proc.tc.devRef main_v114_3) : S8x64x128.Idx → EReal)) (fun k =>
      BitVec.toInt ((![W (Proc.tc.devRef main_v114_2), constantI S_ 32 0#32, constantI S_ 32 0#32, constantI S_ 32 0#32] : Fin 4 → S_.Idx → BitVec 32) k
        (Shape.Idx.first h_S_))) updateFits_S64x8x64x128_S1x8x64x128 := by
  simp only [b0_2]
  after_results_entrywise [cast_eq]
theorem take1 (W : Mem) : (StableHlo.after b1_1 W (Proc.tc.devRef main_while1b_v263) : S8x64x128.Idx → EReal) =
    shapeCast S8x64x128 (Host.dynamicSlice S1x8x64x128 (W (Proc.tc.devRef main_v193_0) : S64x8x64x128.Idx → EReal) (fun k =>
      BitVec.toInt ((![W (Proc.tc.devRef main_while1b_v262), constantI S_ 32 0#32, constantI S_ 32 0#32, constantI S_ 32 0#32] : Fin 4 → S_.Idx → BitVec 32) k
        (Shape.Idx.first h_S_))) sliceFits_S64x8x64x128_S1x8x64x128) shapeCasts_S1x8x64x128_S8x64x128 := by
  simp only [b1_1]
  after_results_entrywise [cast_eq]
theorem put1 (W : Mem) : (StableHlo.after b1_3 W (Proc.tc.devRef main_while1b_v267) : S64x8x64x128.Idx → EReal) =
    Host.dynamicUpdateSlice (W (Proc.tc.devRef main_v193_4) : S64x8x64x128.Idx → EReal)
      (broadcastInDim S1x8x64x128 ![1, 2, 3] bcast_S8x64x128_S1x8x64x128_1_2_3 (W (Proc.tc.devRef main_v193_3) : S8x64x128.Idx → EReal)) (fun k =>
      BitVec.toInt ((![W (Proc.tc.devRef main_while1b_v262), constantI S_ 32 0#32, constantI S_ 32 0#32, constantI S_ 32 0#32] : Fin 4 → S_.Idx → BitVec 32) k
        (Shape.Idx.first h_S_))) updateFits_S64x8x64x128_S1x8x64x128 := by
  simp only [b1_3]
  after_results_entrywise [cast_eq]

/-- One trip of the first loop. -/
abbrev trip0 (V : Mem) : Mem := StableHlo.afterL body0 (StableHlo.after c0 V)

theorem trip0_keep (V : Mem) (r : Ref sig .tc) (h : r ∉ c0_W ++ b0_0_W ++ b0_1_W ++ b0_2_W ++ b0_3_W) :
    trip0 V (Proc.tc.devRef r) = V (Proc.tc.devRef r) := by
  simp only [List.mem_append, not_or] at h
  obtain ⟨⟨⟨⟨h1, h2⟩, h3⟩, h4⟩, h5⟩ := h
  show StableHlo.after b0_3 (StableHlo.after b0_2 (StableHlo.after b0_1 (StableHlo.after b0_0 (StableHlo.after c0 V)))) _ = _
  rw [StableHlo.after_of_writes_sub b0_3 _ b0_3_writes h5, StableHlo.after_of_writes_sub b0_2 _ b0_2_writes h4,
    StableHlo.after_of_writes_sub b0_1 _ b0_1_writes h3, StableHlo.after_of_writes_sub b0_0 _ b0_0_writes h2,
    StableHlo.after_of_writes_sub c0 _ c0_writes h1]

theorem trip0_state (V : Mem) (k : Fin 64) (hc : V (Proc.tc.devRef main_v114_2) = fun _ => Scf.iv 0#32 1#32 k) (h : Fin 8) (d : Fin 64) (e : Fin 128) :
    rd (S := S8x64x128) (trip0 V (Proc.tc.devRef main_v114_3)) (ix3 h d e) =
      rd (S := S8x64x128) (V (Proc.tc.devRef main_v114_3)) (ix3 h d e) * rd (S := S8x1x1) (V (Proc.tc.devRef main_v114_1)) (ix3 h 0 0) +
        rd (S := S64x8x64x128) (V (Proc.tc.devRef main_v114_0)) (ix4 k h d e) := by
  have e1 (U : Mem) : (StableHlo.after b0_3 U (Proc.tc.devRef main_v114_3) : S8x64x128.Idx → EReal) = (U (Proc.tc.devRef main_while0b_v264) : S8x64x128.Idx → EReal) := by
    after_results
    rfl
  have e2 (U : Mem) : rd (S := S8x64x128) (StableHlo.after b0_1 U (Proc.tc.devRef main_while0b_v264)) (ix3 h d e) =
      rd (S := S8x64x128) (U (Proc.tc.devRef main_v114_3)) (ix3 h d e) * rd (S := S8x1x1) (U (Proc.tc.devRef main_v114_1)) (ix3 h 0 0) +
        rd (S := S8x64x128) (U (Proc.tc.devRef main_while0b_v261)) (ix3 h d e) := by
    unfold rd
    after_results
    pointwise
  have k0 (r : Ref sig .tc) (h : r ∉ b0_0_W) (h' : r ∉ c0_W) : StableHlo.after b0_0 (StableHlo.after c0 V) (Proc.tc.devRef r) = V (Proc.tc.devRef r) :=
    (StableHlo.after_of_writes_sub b0_0 _ b0_0_writes h).trans (StableHlo.after_of_writes_sub c0 _ c0_writes h')
  have kc (r : Ref sig .tc) (h' : r ∉ c0_W) : StableHlo.after c0 V (Proc.tc.devRef r) = V (Proc.tc.devRef r) :=
    StableHlo.after_of_writes_sub c0 _ c0_writes h'
  show rd (S := S8x64x128) (StableHlo.after b0_3 (StableHlo.after b0_2 (StableHlo.after b0_1 (StableHlo.after b0_0 (StableHlo.after c0 V)))) (Proc.tc.devRef main_v114_3)) (ix3 h d e) = _
  rw [e1, StableHlo.after_of_writes_sub b0_2 _ b0_2_writes (r := main_while0b_v264) (by decide +kernel), e2, k0 main_v114_3 (by decide +kernel) (by decide +kernel),
    k0 main_v114_1 (by decide +kernel) (by decide +kernel), take0, kc main_v114_0 (by decide +kernel), kc main_v114_2 (by decide +kernel)]
  exact congrArg (fun y : EReal => _ + y) (slice_at _ _ k (start_at _ _ k (by rw [hc]; exact iv_toInt k)) _ _ h d e)

theorem trip0_stack (V : Mem) (k : Fin 64) (hc : V (Proc.tc.devRef main_v114_2) = fun _ => Scf.iv 0#32 1#32 k) (N : Fin 64) (h : Fin 8) (d : Fin 64) (e : Fin 128) :
    @Eq EReal ((trip0 V (Proc.tc.devRef main_v114_4) : S64x8x64x128.Idx → EReal) (ix4 N h d e))
      (if N = k then (V (Proc.tc.devRef main_v114_3) : S8x64x128.Idx → EReal) (ix3 h d e) else (V (Proc.tc.devRef main_v114_4) : S64x8x64x128.Idx → EReal) (ix4 N h d e)) := by
  have e1 (U : Mem) : (StableHlo.after b0_3 U (Proc.tc.devRef main_v114_4) : S64x8x64x128.Idx → EReal) = (U (Proc.tc.devRef main_while0b_v265) : S64x8x64x128.Idx → EReal) := by
    after_results
    rfl
  have k0 (r : Ref sig .tc) (h : r ∉ b0_0_W) (h' : r ∉ c0_W) (h'' : r ∉ b0_1_W) : StableHlo.after b0_1 (StableHlo.after b0_0 (StableHlo.after c0 V)) (Proc.tc.devRef r) = V (Proc.tc.devRef r) :=
    (StableHlo.after_of_writes_sub b0_1 _ b0_1_writes h'').trans ((StableHlo.after_of_writes_sub b0_0 _ b0_0_writes h).trans (StableHlo.after_of_writes_sub c0 _ c0_writes h'))
  show @Eq EReal ((StableHlo.after b0_3 (StableHlo.after b0_2 (StableHlo.after b0_1 (StableHlo.after b0_0 (StableHlo.after c0 V)))) (Proc.tc.devRef main_v114_4) : S64x8x64x128.Idx → EReal) (ix4 N h d e)) _
  rw [e1, put0, k0 main_v114_3 (by decide +kernel) (by decide +kernel) (by decide +kernel), k0 main_v114_4 (by decide +kernel) (by decide +kernel) (by decide +kernel),
    k0 main_v114_2 (by decide +kernel) (by decide +kernel) (by decide +kernel)]
  exact put_at _ _ _ k (start_at _ _ k (by rw [hc]; exact iv_toInt k)) _ N h d e

/-- One trip of the second loop. -/
abbrev trip1 (V : Mem) : Mem := StableHlo.afterL body1 (StableHlo.after c1 V)

theorem trip1_keep (V : Mem) (r : Ref sig .tc) (h : r ∉ c1_W ++ b1_0_W ++ b1_1_W ++ b1_2_W ++ b1_3_W ++ b1_4_W) :
    trip1 V (Proc.tc.devRef r) = V (Proc.tc.devRef r) := by
  simp only [List.mem_append, not_or] at h
  obtain ⟨⟨⟨⟨⟨h1, h2⟩, h3⟩, h4⟩, h5⟩, h6⟩ := h
  show StableHlo.after b1_4 (StableHlo.after b1_3 (StableHlo.after b1_2 (StableHlo.after b1_1 (StableHlo.after b1_0 (StableHlo.after c1 V))))) _ = _
  rw [StableHlo.after_of_writes_sub b1_4 _ b1_4_writes h6, StableHlo.after_of_writes_sub b1_3 _ b1_3_writes h5, StableHlo.after_of_writes_sub b1_2 _ b1_2_writes h4,
    StableHlo.after_of_writes_sub b1_1 _ b1_1_writes h3, StableHlo.after_of_writes_sub b1_0 _ b1_0_writes h2,
    StableHlo.after_of_writes_sub c1 _ c1_writes h1]

/-- The block a trip of the second loop is at. -/
theorem turn1 (V : Mem) (k : Fin 64) (hc : V (Proc.tc.devRef main_v193_2) = fun _ => Scf.iv 0#32 1#32 k) :
    (StableHlo.after b1_0 (StableHlo.after c1 V) (Proc.tc.devRef main_while1b_v262) : S_.Idx → BitVec 32) = fun _ => 64#32 - Scf.iv 0#32 1#32 k - 1#32 := by
  have e (U : Mem) : (StableHlo.after b1_0 U (Proc.tc.devRef main_while1b_v262) : S_.Idx → BitVec 32) =
      subi (subi (constantI S_ 32 64#32) (U (Proc.tc.devRef main_v193_2) : S_.Idx → BitVec 32)) (constantI S_ 32 1#32) := by
    after_results
  rw [e, StableHlo.after_of_writes_sub c1 _ c1_writes (by decide +kernel), hc]
  rfl

theorem trip1_carry (V : Mem) (k : Fin 64) (hc : V (Proc.tc.devRef main_v193_2) = fun _ => Scf.iv 0#32 1#32 k) (h : Fin 8) (d : Fin 64) (e : Fin 128) :
    rd (S := S8x64x128) (trip1 V (Proc.tc.devRef main_v193_3)) (ix3 h d e) =
      rd (S := S64x8x64x128) (V (Proc.tc.devRef main_v193_0)) (ix4 ⟨63 - k, by omega⟩ h d e) +
        rd (S := S8x64x128) (V (Proc.tc.devRef main_v193_3)) (ix3 h d e) * rd (S := S8x1x1) (V (Proc.tc.devRef main_v193_1)) (ix3 h 0 0) := by
  have e1 (U : Mem) : (StableHlo.after b1_4 U (Proc.tc.devRef main_v193_3) : S8x64x128.Idx → EReal) = (U (Proc.tc.devRef main_while1b_v266) : S8x64x128.Idx → EReal) := by
    after_results
    rfl
  have e2 (U : Mem) : rd (S := S8x64x128) (StableHlo.after b1_2 U (Proc.tc.devRef main_while1b_v266)) (ix3 h d e) =
      rd (S := S8x64x128) (U (Proc.tc.devRef main_while1b_v263)) (ix3 h d e) +
        rd (S := S8x64x128) (U (Proc.tc.devRef main_v193_3)) (ix3 h d e) * rd (S := S8x1x1) (U (Proc.tc.devRef main_v193_1)) (ix3 h 0 0) := by
    unfold rd
    after_results
    pointwise
  have kc (r : Ref sig .tc) (h : r ∉ b1_0_W) (h' : r ∉ c1_W) : StableHlo.after b1_0 (StableHlo.after c1 V) (Proc.tc.devRef r) = V (Proc.tc.devRef r) :=
    (StableHlo.after_of_writes_sub b1_0 _ b1_0_writes h).trans (StableHlo.after_of_writes_sub c1 _ c1_writes h')
  have k0 (r : Ref sig .tc) (h : r ∉ b1_0_W) (h' : r ∉ c1_W) (h'' : r ∉ b1_1_W) :
      StableHlo.after b1_1 (StableHlo.after b1_0 (StableHlo.after c1 V)) (Proc.tc.devRef r) = V (Proc.tc.devRef r) :=
    (StableHlo.after_of_writes_sub b1_1 _ b1_1_writes h'').trans (kc r h h')
  show rd (S := S8x64x128) (StableHlo.after b1_4 (StableHlo.after b1_3 (StableHlo.after b1_2 (StableHlo.after b1_1 (StableHlo.after b1_0 (StableHlo.after c1 V))))) (Proc.tc.devRef main_v193_3)) (ix3 h d e) = _
  rw [e1, StableHlo.after_of_writes_sub b1_3 _ b1_3_writes (r := main_while1b_v266) (by decide +kernel), e2, k0 main_v193_3 (by decide +kernel) (by decide +kernel) (by decide +kernel),
    k0 main_v193_1 (by decide +kernel) (by decide +kernel) (by decide +kernel), take1, kc main_v193_0 (by decide +kernel) (by decide +kernel), turn1 V k hc]
  exact congrArg (fun y : EReal => y + _) (slice_at _ _ ⟨63 - k, by omega⟩ (start_at _ _ ⟨63 - k, by omega⟩ (iv_back k)) _ _ h d e)

theorem trip1_stack (V : Mem) (k : Fin 64) (hc : V (Proc.tc.devRef main_v193_2) = fun _ => Scf.iv 0#32 1#32 k) (N : Fin 64) (h : Fin 8) (d : Fin 64) (e : Fin 128) :
    @Eq EReal ((trip1 V (Proc.tc.devRef main_v193_4) : S64x8x64x128.Idx → EReal) (ix4 N h d e))
      (if N = ⟨63 - k, by omega⟩ then (V (Proc.tc.devRef main_v193_3) : S8x64x128.Idx → EReal) (ix3 h d e) else (V (Proc.tc.devRef main_v193_4) : S64x8x64x128.Idx → EReal) (ix4 N h d e)) := by
  have e1 (U : Mem) : (StableHlo.after b1_4 U (Proc.tc.devRef main_v193_4) : S64x8x64x128.Idx → EReal) = (U (Proc.tc.devRef main_while1b_v267) : S64x8x64x128.Idx → EReal) := by
    after_results
    rfl
  have kc (r : Ref sig .tc) (h : r ∉ b1_1_W) (h' : r ∉ b1_2_W) : StableHlo.after b1_2 (StableHlo.after b1_1 (StableHlo.after b1_0 (StableHlo.after c1 V))) (Proc.tc.devRef r) =
      StableHlo.after b1_0 (StableHlo.after c1 V) (Proc.tc.devRef r) :=
    (StableHlo.after_of_writes_sub b1_2 _ b1_2_writes h').trans (StableHlo.after_of_writes_sub b1_1 _ b1_1_writes h)
  have k0 (r : Ref sig .tc) (h : r ∉ b1_0_W) (h' : r ∉ c1_W) (h1 : r ∉ b1_1_W) (h2 : r ∉ b1_2_W) :
      StableHlo.after b1_2 (StableHlo.after b1_1 (StableHlo.after b1_0 (StableHlo.after c1 V))) (Proc.tc.devRef r) = V (Proc.tc.devRef r) :=
    (kc r h1 h2).trans ((StableHlo.after_of_writes_sub b1_0 _ b1_0_writes h).trans (StableHlo.after_of_writes_sub c1 _ c1_writes h'))
  show @Eq EReal ((StableHlo.after b1_4 (StableHlo.after b1_3 (StableHlo.after b1_2 (StableHlo.after b1_1 (StableHlo.after b1_0 (StableHlo.after c1 V))))) (Proc.tc.devRef main_v193_4) : S64x8x64x128.Idx → EReal) (ix4 N h d e)) _
  rw [e1, put1, k0 main_v193_3 (by decide +kernel) (by decide +kernel) (by decide +kernel) (by decide +kernel),
    k0 main_v193_4 (by decide +kernel) (by decide +kernel) (by decide +kernel) (by decide +kernel), kc main_while1b_v262 (by decide +kernel) (by decide +kernel), turn1 V k hc]
  exact put_at _ _ _ ⟨63 - k, by omega⟩ (start_at _ _ ⟨63 - k, by omega⟩ (iv_back k)) _ N h d e

theorem at0_keep (W : Dev nD → Mem) (c : Dev nD) (r : Ref sig .tc) (h : r ∉ c0_W ++ b0_0_W ++ b0_1_W ++ b0_2_W ++ b0_3_W) :
    ∀ k, StableHlo.atTrip c0 body0 W k c (Proc.tc.devRef r) = W c (Proc.tc.devRef r)
  | 0 => rfl
  | k + 1 => (trip0_keep (StableHlo.atTrip c0 body0 W k c) r h).trans (at0_keep W c r h k)
theorem at1_keep (W : Dev nD → Mem) (c : Dev nD) (r : Ref sig .tc) (h : r ∉ c1_W ++ b1_0_W ++ b1_1_W ++ b1_2_W ++ b1_3_W ++ b1_4_W) :
    ∀ k, StableHlo.atTrip c1 body1 W k c (Proc.tc.devRef r) = W c (Proc.tc.devRef r)
  | 0 => rfl
  | k + 1 => (trip1_keep (StableHlo.atTrip c1 body1 W k c) r h).trans (at1_keep W c r h k)

/-- The states before each block, as the first loop stacks them. -/
theorem states (W : Dev nD → Mem) (c : Dev nD) (hz : W c (Proc.tc.devRef main_v114_2) = fun _ => (0#32 : BitVec 32))
    (hkv : ∀ (N : Fin 64) (h : Fin 8) (d : Fin 64) (e : Fin 128), rd (S := S64x8x64x128) (W c (Proc.tc.devRef main_v114_0)) (ix4 N h d e) =
      (∑ j ∈ Finset.range 64, Real.exp (lg h * ((64 : ℝ) - j)) * ((headOf X C eps h).k (N * 64 + j) d * (headOf X C eps h).v (N * 64 + j) e) : ℝ))
    (hcd : ∀ h : Fin 8, rd (S := S8x1x1) (W c (Proc.tc.devRef main_v114_1)) (ix3 h 0 0) = (Real.exp (lg h * 64) : ℝ))
    (h0 : ∀ (h : Fin 8) (d : Fin 64) (e : Fin 128), rd (S := S8x64x128) (W c (Proc.tc.devRef main_v114_3)) (ix3 h d e) = ((0 : ℝ) : EReal)) :
    ∀ k ≤ 64, (∀ (h : Fin 8) (d : Fin 64) (e : Fin 128), rd (S := S8x64x128) (StableHlo.atTrip c0 body0 W k c (Proc.tc.devRef main_v114_3)) (ix3 h d e) =
        ((headOf X C eps h).st 64 k d e : ℝ)) ∧
      ∀ (N : Fin 64) (h : Fin 8) (d : Fin 64) (e : Fin 128), N.val < k → rd (S := S64x8x64x128) (StableHlo.atTrip c0 body0 W k c (Proc.tc.devRef main_v114_4)) (ix4 N h d e) =
        ((headOf X C eps h).st 64 N d e : ℝ)
  | 0, _ => ⟨fun h d e => (h0 h d e).trans (congrArg _ (St_zero _ _).symm), fun _ _ _ _ h => absurd h (Nat.not_lt_zero _)⟩
  | k + 1, hk => by
    obtain ⟨i1, i2⟩ := states W c hz hkv hcd h0 k (by omega)
    have hc := Runs.ctr0_at W c hz k
    refine ⟨fun h d e => ?_, fun N h d e hN => ?_⟩
    · refine (trip0_state (StableHlo.atTrip c0 body0 W k c) ⟨k, by omega⟩ hc h d e).trans ?_
      rw [at0_keep W c main_v114_1 (by decide +kernel) k, at0_keep W c main_v114_0 (by decide +kernel) k]
      refine (add_of (mul_of (i1 h d e) (hcd h)) (hkv ⟨k, by omega⟩ h d e)).trans (congrArg _ ?_)
      unfold Head.st
      rw [St_succ]
      simp only [Nat.cast_ofNat]
      rfl
    · refine (trip0_stack (StableHlo.atTrip c0 body0 W k c) ⟨k, by omega⟩ hc N h d e).trans ?_
      by_cases hNk : N = ⟨k, by omega⟩
      · rw [if_pos hNk, hNk]
        exact i1 h d e
      · rw [if_neg hNk]
        have := Fin.val_ne_of_ne hNk
        exact i2 N h d e (by simp only [] at this; omega)

/-- The gradients carried back past each block, as the second loop stacks them. -/
theorem carries (W : Dev nD → Mem) (c : Dev nD) (hz : W c (Proc.tc.devRef main_v193_2) = fun _ => (0#32 : BitVec 32))
    (hx : ∀ (N : Fin 64) (h : Fin 8) (d : Fin 64) (e : Fin 128), rd (S := S64x8x64x128) (W c (Proc.tc.devRef main_v193_0)) (ix4 N h d e) =
      (∑ i ∈ Finset.range 64, Real.exp (lg h * i) * ((headOf X C eps h).q (N * 64 + i) d * (headOf X C eps h).dO (N * 64 + i) e) : ℝ))
    (hcd : ∀ h : Fin 8, rd (S := S8x1x1) (W c (Proc.tc.devRef main_v193_1)) (ix3 h 0 0) = (Real.exp (lg h * 64) : ℝ))
    (h0 : ∀ (h : Fin 8) (d : Fin 64) (e : Fin 128), rd (S := S8x64x128) (W c (Proc.tc.devRef main_v193_3)) (ix3 h d e) = ((0 : ℝ) : EReal)) :
    ∀ k ≤ 64, (∀ (h : Fin 8) (d : Fin 64) (e : Fin 128), k < 64 → rd (S := S8x64x128) (StableHlo.atTrip c1 body1 W k c (Proc.tc.devRef main_v193_3)) (ix3 h d e) =
        ((headOf X C eps h).re 64 64 (63 - k) d e : ℝ)) ∧
      ∀ (N : Fin 64) (h : Fin 8) (d : Fin 64) (e : Fin 128), 64 ≤ N.val + k → rd (S := S64x8x64x128) (StableHlo.atTrip c1 body1 W k c (Proc.tc.devRef main_v193_4)) (ix4 N h d e) =
        ((headOf X C eps h).re 64 64 N d e : ℝ)
  | 0, _ => ⟨fun h d e _ => (h0 h d e).trans (congrArg _ (Re_last _ _ _ _ rfl).symm), fun N _ _ _ h => absurd h (by omega)⟩
  | k + 1, hk => by
    obtain ⟨i1, i2⟩ := carries W c hz hx hcd h0 k (by omega)
    have hc := Runs.ctr1_at W c hz k
    refine ⟨fun h d e hk' => ?_, fun N h d e hN => ?_⟩
    · refine (trip1_carry (StableHlo.atTrip c1 body1 W k c) ⟨k, by omega⟩ hc h d e).trans ?_
      rw [at1_keep W c main_v193_1 (by decide +kernel) k, at1_keep W c main_v193_0 (by decide +kernel) k]
      refine (add_of (hx ⟨63 - k, by omega⟩ h d e) (mul_of (i1 h d e (by omega)) (hcd h))).trans (congrArg _ ?_)
      unfold Head.re
      rw [Re_step _ 64 _ (63 - (k + 1)) (by omega), show 63 - (k + 1) + 1 = 63 - k by omega]
      simp only [Nat.cast_ofNat]
      rfl
    · refine (trip1_stack (StableHlo.atTrip c1 body1 W k c) ⟨k, by omega⟩ hc N h d e).trans ?_
      by_cases hNk : N = ⟨63 - k, by omega⟩
      · rw [if_pos hNk, hNk]
        exact i1 h d e (by omega)
      · rw [if_neg hNk]
        have := Fin.val_ne_of_ne hNk
        exact i2 N h d e (by simp only [] at this; omega)

end Cert.RetReferenceIdeal.Reading
-- ==== Proof.RetRead4.lean ====
/-
What the retention backward pass's reference computes between its loops: the output, its norm and gate, the
gradients through both, and what the second loop starts from.
-/
module

public import proofs.«01_k».proof.Proof.RetRead3

@[expose] public section

set_option maxRecDepth 16384

noncomputable section

open Idealize.ShloMosaic Idealize.ShloMosaic.TcCoe Idealize.SL.Sem

namespace Cert.RetReferenceIdeal.Reading

open Cert.RetReferenceIdeal Cert.RetReferenceIdeal.Gen Cert.RetReferenceIdeal.Lists Cert.RetMath
open Cert.RetKernelIdeal.Value (sin_coe exp_coe lit_eighth eps lit_128 lit_eps lit_neg_half eps_pos div_coe rsqrt_coe)

variable {X C : ℕ → ℕ → ℝ}

theorem lit_two : Ideal.ofBits .f32 1073741824#32 = ((2 : ℝ) : EReal) := by
  simp [Ideal.ofBits, Ideal.ieee, -EReal.coe_mul]; norm_num
theorem mean_of {a : EReal} {x : ℝ} (ha : a = x) : Ideal.div a (Ideal.ofBits .f32 1124073472#32) = ((x / 128 : ℝ) : EReal) := by
  rw [ha, lit_128, div_coe _ _ (by norm_num)]

section
variable {f : Fin 128 → EReal} {o : Fin 128 → ℝ} (hf : ∀ e, f e = (o e : ℝ))
include hf
theorem cen_of (e : Fin 128) : f e - Ideal.div (∑ x, f x) (Ideal.ofBits .f32 1124073472#32) = (cen o e : ℝ) :=
  sub_of (hf e) (mean_of (sum_of hf))
theorem wv_of : Ideal.div (∑ x, (f x - Ideal.div (∑ x, f x) (Ideal.ofBits .f32 1124073472#32)) * (f x - Ideal.div (∑ x, f x) (Ideal.ofBits .f32 1124073472#32)))
    (Ideal.ofBits .f32 1124073472#32) + Ideal.ofBits .f32 897988541#32 = (wv o eps : ℝ) :=
  add_of (mean_of (sum_of fun x => mul_of (cen_of hf x) (cen_of hf x))) lit_eps
theorem rs_of : Ideal.rsqrt (Ideal.div (∑ x, (f x - Ideal.div (∑ x, f x) (Ideal.ofBits .f32 1124073472#32)) * (f x - Ideal.div (∑ x, f x) (Ideal.ofBits .f32 1124073472#32)))
    (Ideal.ofBits .f32 1124073472#32) + Ideal.ofBits .f32 897988541#32) = (rs o eps : ℝ) := by
  rw [wv_of hf, rsqrt_coe _ (wv_pos o eps eps_pos), rs]
end

theorem sg_of {a : EReal} {x : ℝ} (ha : a = x) : Ideal.div 1 (1 + Ideal.exp (-a)) = (sg x : ℝ) := by
  rw [exp_of (neg_of ha), ← EReal.coe_one, ← EReal.coe_add, div_coe _ _ (by positivity), sg, one_div]
theorem one_of {f : Fin 1 → EReal} {r : ℝ} (h : ∀ x, f x = r) : ∑ x, f x = (r : EReal) := by
  rw [Fin.sum_univ_one, h]

/-- The gradient through the norm in the reference's order of summands. -/
theorem dOut_alt (o g c : Fin 128 → ℝ) (ε : ℝ) (e : Fin 128) :
    uu g c e * rs o ε + tt o g c ε * (2 * cen o e) +
      (∑ x, -(uu g c x * rs o ε) + ∑ x, -(tt o g c ε * (2 * cen o x))) / 128 = dOut o g c ε e := by
  unfold dOut bb
  rw [← Finset.sum_add_distrib]
  congr 1
  · ring
  · congr 1
    exact Finset.sum_congr rfl fun x _ => by ring

/-- The rows of the first loop's states. -/
abbrev Sts (X C : ℕ → ℕ → ℝ) (V : Mem) : Prop := ∀ (N : Fin 64) (h : Fin 8) (d : Fin 64) (e : Fin 128),
  rd (S := S64x8x64x128) (V (Proc.tc.devRef main_v114_4)) (ix4 N h d e) = ((headOf X C eps h).st 64 N d e : ℝ)

theorem o_read {W : Mem} (E : Entry X C W) (S : Sts X C W) (N i : Fin 64) (h : Fin 8) (e : Fin 128) :
    rd (S := S4096x8x128) (StableHlo.after s9 W (Proc.tc.devRef main_v127)) (ix3 ⟨N * 64 + i, by omega⟩ h e) = ((headOf X C eps h).o (N * 64 + i) e : ℝ) := by
  unfold rd
  after_results
  pointwise
  refine (add_of (E.inn N h i e) (sum_of fun x => mul_of (S N h x e) (mul_of (E.base.q N i h x) (exp_of (mul_of (E.base.lgs h) (E.pos i)))))).trans ?_
  refine (congrArg _ ?_).trans (congrArg _ ((headOf X C eps h).o_blk (B := 64) (N := 64) (by norm_num) (by norm_num) N.isLt i e))
  refine congrArg (fun y : ℝ => _ + y) (Finset.sum_congr rfl fun x _ => ?_)
  exact mul_comm _ _
theorem qi_read {W : Mem} (E : Entry X C W) (h : Fin 8) (i : Fin 64) :
    rd (S := S1x64x8x1) (StableHlo.after s9 W (Proc.tc.devRef main_v121)) (ix4 0 i h 0) = (Real.exp (lg h * (i : ℕ)) : ℝ) := by
  unfold rd
  after_results
  pointwise
  exact exp_of (mul_of (E.base.lgs h) (E.pos i))
theorem qq_read {W : Mem} (E : Entry X C W) (N i : Fin 64) (h : Fin 8) (d : Fin 64) :
    rd (S := S64x64x8x64) (StableHlo.after s9 W (Proc.tc.devRef main_v123)) (ix4 N i h d) = ((headOf X C eps h).q (N * 64 + i) d * Real.exp (lg h * (i : ℕ)) : ℝ) := by
  unfold rd
  after_results
  pointwise
  exact mul_of (E.base.q N i h d) (exp_of (mul_of (E.base.lgs h) (E.pos i)))

/-- The rows of the output. -/
abbrev Outs (X C : ℕ → ℕ → ℝ) (V : Mem) : Prop := ∀ (n : Fin 4096) (h : Fin 8) (e : Fin 128),
  rd (S := S4096x8x128) (V (Proc.tc.devRef main_v127)) (ix3 n h e) = ((headOf X C eps h).o n e : ℝ)
/-- One row of the output, gate and cotangent of a head. -/
abbrev oRow (X C : ℕ → ℕ → ℝ) (h n : ℕ) (e : Fin 128) : ℝ := (headOf X C eps h).o n e
abbrev gRow (X C : ℕ → ℕ → ℝ) (h n : ℕ) (e : Fin 128) : ℝ := (headOf X C eps h).g n e
abbrev cRow (X C : ℕ → ℕ → ℝ) (h n : ℕ) (e : Fin 128) : ℝ := (headOf X C eps h).c n e

theorem cen_read {W : Mem} (O : Outs X C W) (n : Fin 4096) (h : Fin 8) (e : Fin 128) :
    rd (S := S4096x8x128) (StableHlo.after s10 W (Proc.tc.devRef main_v142)) (ix3 n h e) = (cen (oRow X C h n) e : ℝ) := by
  unfold rd
  after_results
  pointwise
  exact cen_of (O n h) e
theorem cen2_read {W : Mem} (O : Outs X C W) (n : Fin 4096) (h : Fin 8) (e : Fin 128) :
    rd (S := S4096x8x128) (StableHlo.after s10 W (Proc.tc.devRef main_v136)) (ix3 n h e) = (2 * cen (oRow X C h n) e : ℝ) := by
  unfold rd
  after_results
  pointwise
  exact mul_of lit_two (cen_of (O n h) e)
theorem norm_read {W : Mem} (O : Outs X C W) (n : Fin 4096) (h : Fin 8) (e : Fin 128) :
    rd (S := S4096x1024) (StableHlo.after s10 W (Proc.tc.devRef main_v151)) (ix2 n ⟨h * 128 + e, by omega⟩) = (cen (oRow X C h n) e * rs (oRow X C h n) eps : ℝ) := by
  unfold rd
  after_results
  pointwise
  exact mul_of (cen_of (O n h) e) (rs_of (O n h))
theorem rs_read {W : Mem} (O : Outs X C W) (n : Fin 4096) (h : Fin 8) :
    rd (S := S4096x8x1) (StableHlo.after s10 W (Proc.tc.devRef main_v145)) (ix3 n h 0) = (rs (oRow X C h n) eps : ℝ) := by
  unfold rd
  after_results
  pointwise
  exact rs_of (O n h)
theorem dw_read {W : Mem} (O : Outs X C W) (n : Fin 4096) (h : Fin 8) :
    rd (S := S4096x8x1) (StableHlo.after s10 W (Proc.tc.devRef main_v148)) (ix3 n h 0) = (-(1 / 2) * (rs (oRow X C h n) eps / wv (oRow X C h n) eps) : ℝ) := by
  unfold rd
  after_results
  pointwise
  refine mul_of lit_neg_half ((congrArg₂ Ideal.div (rs_of (O n h)) (wv_of (O n h))).trans (div_coe _ _ (wv_pos _ _ eps_pos).ne'))

/-- What the norm leaves behind. -/
structure Norm (X C : ℕ → ℕ → ℝ) (V : Mem) : Prop where
  cen : ∀ (n : Fin 4096) (h : Fin 8) (e : Fin 128), rd (S := S4096x8x128) (V (Proc.tc.devRef main_v142)) (ix3 n h e) = (cen (oRow X C h n) e : ℝ)
  cen2 : ∀ (n : Fin 4096) (h : Fin 8) (e : Fin 128), rd (S := S4096x8x128) (V (Proc.tc.devRef main_v136)) (ix3 n h e) = (2 * RetMath.cen (oRow X C h n) e : ℝ)
  norm : ∀ (n : Fin 4096) (h : Fin 8) (e : Fin 128), rd (S := S4096x1024) (V (Proc.tc.devRef main_v151)) (ix2 n ⟨h * 128 + e, by omega⟩) =
    (RetMath.cen (oRow X C h n) e * rs (oRow X C h n) eps : ℝ)
  rs : ∀ (n : Fin 4096) (h : Fin 8), rd (S := S4096x8x1) (V (Proc.tc.devRef main_v145)) (ix3 n h 0) = (rs (oRow X C h n) eps : ℝ)
  dw : ∀ (n : Fin 4096) (h : Fin 8), rd (S := S4096x8x1) (V (Proc.tc.devRef main_v148)) (ix3 n h 0) = (-(1 / 2) * (RetMath.rs (oRow X C h n) eps / wv (oRow X C h n) eps) : ℝ)

theorem Norm.of {W : Mem} (O : Outs X C W) : Norm X C (StableHlo.after s10 W) :=
  ⟨cen_read O, cen2_read O, norm_read O, rs_read O, dw_read O⟩

abbrev normR : List (Ref sig .tc) := [main_v142, main_v136, main_v151, main_v145, main_v148]
theorem Norm.keep {V V' : Mem} (H : Norm X C V) (S : Same normR V V') : Norm X C V' where
  cen n h e := (congrFun (S main_v142 (by decide +kernel)) _).trans (H.cen n h e)
  cen2 n h e := (congrFun (S main_v136 (by decide +kernel)) _).trans (H.cen2 n h e)
  norm n h e := (congrFun (S main_v151 (by decide +kernel)) _).trans (H.norm n h e)
  rs n h := (congrFun (S main_v145 (by decide +kernel)) _).trans (H.rs n h)
  dw n h := (congrFun (S main_v148 (by decide +kernel)) _).trans (H.dw n h)

theorem Base.gate {V : Mem} (B : Base X C V) (n : Fin 4096) (h : Fin 8) (e : Fin 128) :
    rd (S := S4096x1024) (V (Proc.tc.devRef main_v3)) (ix2 n ⟨h * 128 + e, by omega⟩) = (gRow X C h n e : ℝ) := by
  refine (B.g n ⟨h * 128 + e, by omega⟩).trans (congrArg (fun a => ((X n a : ℝ) : EReal)) ?_)
  simp only []
  omega
theorem Base.cot {V : Mem} (B : Base X C V) (n : Fin 4096) (h : Fin 8) (e : Fin 128) :
    rd (S := S4096x1024) (V (Proc.tc.devRef main_arg0)) (ix2 n ⟨h * 128 + e, by omega⟩) = (cRow X C h n e : ℝ) := by
  refine (B.ct n ⟨h * 128 + e, by omega⟩).trans (congrArg (fun a => ((C n a : ℝ) : EReal)) ?_)
  simp only []
  omega

/-- The gate and its derivative. -/
structure Gates (X C : ℕ → ℕ → ℝ) (V : Mem) : Prop where
  sil : ∀ (n : Fin 4096) (h : Fin 8) (e : Fin 128), rd (S := S4096x1024) (V (Proc.tc.devRef main_v152_0)) (ix2 n ⟨h * 128 + e, by omega⟩) =
    (gRow X C h n e * sg (gRow X C h n e) : ℝ)
  der : ∀ (n : Fin 4096) (h : Fin 8) (e : Fin 128), rd (S := S4096x1024) (V (Proc.tc.devRef main_v152_1)) (ix2 n ⟨h * 128 + e, by omega⟩) =
    (sg (gRow X C h n e) * (1 - sg (gRow X C h n e)) : ℝ)
  sig : ∀ (n : Fin 4096) (h : Fin 8) (e : Fin 128), rd (S := S4096x1024) (V (Proc.tc.devRef main_v152_2)) (ix2 n ⟨h * 128 + e, by omega⟩) =
    (sg (gRow X C h n e) : ℝ)

theorem Gates.of {W : Mem} (B : Base X C W) : Gates X C (StableHlo.after s11 W) where
  sil n h e := by
    unfold rd
    after_results
    simp -implicitDefEqProofs only [StableHlo.TRef.toBuf, StableHlo.TRef.ofBuf, cast_cast, cast_eq]
    pointwise
    exact mul_of (B.gate n h e) (sg_of (B.gate n h e))
  der n h e := by
    unfold rd
    after_results
    simp -implicitDefEqProofs only [StableHlo.TRef.toBuf, StableHlo.TRef.ofBuf, cast_cast, cast_eq]
    pointwise
    exact mul_of (sg_of (B.gate n h e)) (sub_of EReal.coe_one.symm (sg_of (B.gate n h e)))
  sig n h e := by
    unfold rd
    after_results
    simp -implicitDefEqProofs only [StableHlo.TRef.toBuf, StableHlo.TRef.ofBuf, cast_cast, cast_eq]
    pointwise
    exact sg_of (B.gate n h e)

abbrev gatesR : List (Ref sig .tc) := [main_v152_0, main_v152_1, main_v152_2]
theorem Gates.keep {V V' : Mem} (H : Gates X C V) (S : Same gatesR V V') : Gates X C V' where
  sil n h e := (congrFun (S main_v152_0 (by decide +kernel)) _).trans (H.sil n h e)
  der n h e := (congrFun (S main_v152_1 (by decide +kernel)) _).trans (H.der n h e)
  sig n h e := (congrFun (S main_v152_2 (by decide +kernel)) _).trans (H.sig n h e)

theorem u_read {W : Mem} (B : Base X C W) (G : Gates X C W) (n : Fin 4096) (h : Fin 8) (e : Fin 128) :
    rd (S := S4096x1024) (StableHlo.after s14 (StableHlo.after s13 W) (Proc.tc.devRef main_v156)) (ix2 n ⟨h * 128 + e, by omega⟩) =
      (uu (gRow X C h n) (cRow X C h n) e : ℝ) := by
  unfold rd
  after_results
  pointwise
  exact mul_of (B.cot n h e) (G.sil n h e)
theorem dg_read {W : Mem} (B : Base X C W) (M : Norm X C W) (G : Gates X C W) (n : Fin 4096) (h : Fin 8) (e : Fin 128) :
    rd (S := S4096x1024) (StableHlo.after s14 (StableHlo.after s13 W) (Proc.tc.devRef main_v157)) (ix2 n ⟨h * 128 + e, by omega⟩) =
      ((headOf X C eps h).dg n e : ℝ) := by
  unfold rd
  after_results
  simp -implicitDefEqProofs only [StableHlo.TRef.toBuf, StableHlo.TRef.ofBuf, cast_cast, cast_eq]
  pointwise
  refine (add_of (mul_of (mul_of (M.norm n h e) (B.cot n h e)) (G.sig n h e)) (mul_of (mul_of (B.gate n h e) (mul_of (M.norm n h e) (B.cot n h e))) (G.der n h e))).trans ?_
  rw [Head.dg_fin]
  rfl
theorem dO_read {W : Mem} (M : Norm X C W) (U : ∀ (n : Fin 4096) (h : Fin 8) (e : Fin 128), rd (S := S4096x1024) (W (Proc.tc.devRef main_v156)) (ix2 n ⟨h * 128 + e, by omega⟩) =
      (uu (gRow X C h n) (cRow X C h n) e : ℝ)) (N i : Fin 64) (h : Fin 8) (e : Fin 128) :
    rd (S := S64x64x8x128) (StableHlo.after s15 W (Proc.tc.devRef main_v183)) (ix4 N i h e) = ((headOf X C eps h).dO (N * 64 + i) e : ℝ) := by
  have w (n : Fin 4096) (x : Fin 1) : rd (S := S4096x8x1) (W (Proc.tc.devRef main_v148)) (ix3 n h x) =
      (-(1 / 2) * (RetMath.rs (oRow X C h n) eps / wv (oRow X C h n) eps) : ℝ) := by
    rw [Subsingleton.elim x 0]
    exact M.dw n h
  unfold rd
  after_results
  pointwise
  have t := one_of fun x => mean_of (mul_of (sum_of fun y => mul_of (M.cen ⟨N * 64 + i, by omega⟩ h y) (U ⟨N * 64 + i, by omega⟩ h y)) (w ⟨N * 64 + i, by omega⟩ x))
  have a (y : Fin 128) := mul_of (U ⟨N * 64 + i, by omega⟩ h y) (M.rs ⟨N * 64 + i, by omega⟩ h)
  have b (y : Fin 128) := mul_of t (M.cen2 ⟨N * 64 + i, by omega⟩ h y)
  refine (add_of (add_of (a e) (b e)) (one_of fun _ => mean_of (add_of (sum_of fun y => neg_of (a y)) (sum_of fun y => neg_of (b y))))).trans ?_
  rw [Head.dO_fin]
  exact congrArg _ (dOut_alt _ _ _ _ e)
theorem dOt_read (W : Mem) (N i : Fin 64) (h : Fin 8) (e : Fin 128) :
    rd (S := S64x8x128x64) (StableHlo.after s15 W (Proc.tc.devRef main_v184)) (ix4 N h e i) =
      rd (S := S64x64x8x128) (StableHlo.after s15 W (Proc.tc.devRef main_v183)) (ix4 N i h e) := by
  have e0 : (StableHlo.after s15 W (Proc.tc.devRef main_v184) : S64x8x128x64.Idx → EReal) =
      transpose S64x8x128x64 [0, 2, 3, 1] (StableHlo.after s15 W (Proc.tc.devRef main_v183) : S64x64x8x128.Idx → EReal) transposes_S64x64x8x128_S64x8x128x64_0_2_3_1 := by
    after_results
  rw [e0]
  unfold rd
  generalize StableHlo.after s15 W (Proc.tc.devRef main_v183) = y
  pointwise
theorem qx_read {W : Mem} (S : Sts X C W) (Q : ∀ (h : Fin 8) (i : Fin 64), rd (S := S1x64x8x1) (W (Proc.tc.devRef main_v121)) (ix4 0 i h 0) = (Real.exp (lg h * (i : ℕ)) : ℝ))
    (T : ∀ (N i : Fin 64) (h : Fin 8) (e : Fin 128), rd (S := S64x8x128x64) (W (Proc.tc.devRef main_v184)) (ix4 N h e i) = ((headOf X C eps h).dO (N * 64 + i) e : ℝ))
    (N i : Fin 64) (h : Fin 8) (d : Fin 64) : rd (S := S64x64x8x64) (StableHlo.after s16 W (Proc.tc.devRef main_v190)) (ix4 N i h d) =
      ((∑ e : Fin 128, (headOf X C eps h).dO (N * 64 + i) e * (headOf X C eps h).st 64 N d e) * Real.exp (lg h * (i : ℕ)) : ℝ) := by
  unfold rd
  after_results
  pointwise
  exact mul_of (sum_of fun x => mul_of (T N i h x) (S N h d x)) (Q h i)
theorem x_read {W : Mem} (Q : ∀ (N i : Fin 64) (h : Fin 8) (d : Fin 64), rd (S := S64x64x8x64) (W (Proc.tc.devRef main_v123)) (ix4 N i h d) =
      ((headOf X C eps h).q (N * 64 + i) d * Real.exp (lg h * (i : ℕ)) : ℝ))
    (T : ∀ (N i : Fin 64) (h : Fin 8) (e : Fin 128), rd (S := S64x8x128x64) (W (Proc.tc.devRef main_v184)) (ix4 N h e i) = ((headOf X C eps h).dO (N * 64 + i) e : ℝ))
    (N : Fin 64) (h : Fin 8) (d : Fin 64) (e : Fin 128) : rd (S := S64x8x64x128) (StableHlo.after s16 W (Proc.tc.devRef main_v193_0)) (ix4 N h d e) =
      (∑ i ∈ Finset.range 64, Real.exp (lg h * i) * ((headOf X C eps h).q (N * 64 + i) d * (headOf X C eps h).dO (N * 64 + i) e) : ℝ) := by
  have e0 : StableHlo.after s16 W (Proc.tc.devRef main_v193_0) = StableHlo.after s16 W (Proc.tc.devRef main_v188) := by
    after_results
    rfl
  rw [e0]
  unfold rd
  after_results
  pointwise
  refine (sum_of fun x => mul_of (T N x h e) (Q N x h d)).trans (congrArg _ ?_)
  rw [Finset.sum_range]
  exact Finset.sum_congr rfl fun x _ => by ring
theorem cd1_read {W : Mem} : StableHlo.after s16 W (Proc.tc.devRef main_v193_1) = W (Proc.tc.devRef main_v111) := by
  after_results
  rfl
theorem zero1_read {W : Mem} (h : Fin 8) (d : Fin 64) (e : Fin 128) :
    rd (S := S8x64x128) (StableHlo.after s16 W (Proc.tc.devRef main_v193_3)) (ix3 h d e) = ((0 : ℝ) : EReal) := by
  have e0 : StableHlo.after s16 W (Proc.tc.devRef main_v193_3) = StableHlo.after s16 W (Proc.tc.devRef main_v191) := by
    after_results
    rfl
  rw [e0]
  unfold rd
  after_results
  pointwise
  exact EReal.coe_zero.symm

end Cert.RetReferenceIdeal.Reading
-- ==== Proof.RetRead5.lean ====
/-
The retention backward pass's reference from its first loop to its gradients: what crosses the second loop, and the
gradients of queries, keys and values, row by row.
-/
module

public import proofs.«01_k».proof.Proof.RetRead4

@[expose] public section

set_option maxRecDepth 16384

noncomputable section

open Idealize.ShloMosaic Idealize.ShloMosaic.TcCoe Idealize.SL.Sem

namespace Cert.RetReferenceIdeal.Reading

open Cert.RetReferenceIdeal Cert.RetReferenceIdeal.Gen Cert.RetReferenceIdeal.Lists Cert.RetMath
open Cert.RetKernelIdeal.Value (sin_coe exp_coe lit_eighth eps lit_128 lit_eps lit_neg_half eps_pos div_coe rsqrt_coe)

variable {X C : ℕ → ℕ → ℝ}

/-- What the reference holds from the second loop on. -/
structure Mid (X C : ℕ → ℕ → ℝ) (V : Mem) : Prop where
  base : Base X C V
  dec : ∀ (h : Fin 8) (i j : Fin 64), @Eq EReal ((V (Proc.tc.devRef main_v91) : S1x8x64x64.Idx → EReal) (ix4 0 h i j)) (D (lg h) i j : ℝ)
  sD : ∀ (N : Fin 64) (h : Fin 8) (i j : Fin 64), @Eq EReal ((V (Proc.tc.devRef main_v93) : S64x8x64x64.Idx → EReal) (ix4 N h i j))
    ((headOf X C eps h).s (N * 64 + i) (N * 64 + j) * D (lg h) i j : ℝ)
  kdec : ∀ (h : Fin 8) (j : Fin 64), @Eq EReal ((V (Proc.tc.devRef main_v104) : S1x64x8x1.Idx → EReal) (ix4 0 j h 0)) (Real.exp (lg h * ((64 : ℝ) - (j : ℕ))) : ℝ)
  kk : ∀ (N : Fin 64) (h : Fin 8) (j d : Fin 64), @Eq EReal ((V (Proc.tc.devRef main_v106) : S64x64x8x64.Idx → EReal) (ix4 N j h d))
    ((headOf X C eps h).k (N * 64 + j) d * Real.exp (lg h * ((64 : ℝ) - (j : ℕ))) : ℝ)
  dO : ∀ (N i : Fin 64) (h : Fin 8) (e : Fin 128), rd (S := S64x64x8x128) (V (Proc.tc.devRef main_v183)) (ix4 N i h e) = ((headOf X C eps h).dO (N * 64 + i) e : ℝ)
  qx : ∀ (N i : Fin 64) (h : Fin 8) (d : Fin 64), rd (S := S64x64x8x64) (V (Proc.tc.devRef main_v190)) (ix4 N i h d) =
    ((∑ e : Fin 128, (headOf X C eps h).dO (N * 64 + i) e * (headOf X C eps h).st 64 N d e) * Real.exp (lg h * (i : ℕ)) : ℝ)
  dg : ∀ (n : Fin 4096) (h : Fin 8) (e : Fin 128), rd (S := S4096x1024) (V (Proc.tc.devRef main_v157)) (ix2 n ⟨h * 128 + e, by omega⟩) = ((headOf X C eps h).dg n e : ℝ)

abbrev midR : List (Ref sig .tc) := baseR ++ [main_v91, main_v93, main_v104, main_v106, main_v183, main_v190, main_v157]

theorem Mid.keep {V V' : Mem} (H : Mid X C V) (S : Same midR V V') : Mid X C V' where
  base := H.base.keep fun r h => S r (List.mem_append_left _ h)
  dec h i j := (congrFun (S main_v91 (by decide +kernel)) _).trans (H.dec h i j)
  sD N h i j := (congrFun (S main_v93 (by decide +kernel)) _).trans (H.sD N h i j)
  kdec h j := (congrFun (S main_v104 (by decide +kernel)) _).trans (H.kdec h j)
  kk N h j d := (congrFun (S main_v106 (by decide +kernel)) _).trans (H.kk N h j d)
  dO N i h e := (congrFun (S main_v183 (by decide +kernel)) _).trans (H.dO N i h e)
  qx N i h d := (congrFun (S main_v190 (by decide +kernel)) _).trans (H.qx N i h d)
  dg n h e := (congrFun (S main_v157 (by decide +kernel)) _).trans (H.dg n h e)

theorem o_all {W : Mem} (E : Entry X C W) (S : Sts X C W) : Outs X C (StableHlo.after s9 W) := by
  intro n h e
  have := o_read E S ⟨n / 64, by omega⟩ ⟨n % 64, by omega⟩ h e
  have hn : n / 64 * 64 + n % 64 = (n : ℕ) := by omega
  simp only [hn] at this
  exact this

abbrev crossR : List (Ref sig .tc) := baseR ++ [main_v91, main_v93, main_v104, main_v106, main_v111, main_v114_4, main_v121, main_v123]

/-- From the first loop to the second. -/
theorem between {W : Mem} (E : Entry X C W) (S : Sts X C W) :
    Mid X C (StableHlo.afterL midI W) ∧
      (∀ (N : Fin 64) (h : Fin 8) (d : Fin 64) (e : Fin 128), rd (S := S64x8x64x128) (StableHlo.afterL midI W (Proc.tc.devRef main_v193_0)) (ix4 N h d e) =
        (∑ i ∈ Finset.range 64, Real.exp (lg h * i) * ((headOf X C eps h).q (N * 64 + i) d * (headOf X C eps h).dO (N * 64 + i) e) : ℝ)) ∧
      (∀ h : Fin 8, rd (S := S8x1x1) (StableHlo.afterL midI W (Proc.tc.devRef main_v193_1)) (ix3 h 0 0) = (Real.exp (lg h * 64) : ℝ)) ∧
      ∀ (h : Fin 8) (d : Fin 64) (e : Fin 128), rd (S := S8x64x128) (StableHlo.afterL midI W (Proc.tc.devRef main_v193_3)) (ix3 h d e) = ((0 : ℝ) : EReal) := by
  have O := o_all E S
  have Q := qi_read E
  have QQ := qq_read E
  have K9 : Same (baseR ++ [main_v91, main_v93, main_v104, main_v106, main_v111, main_v114_4]) W (StableHlo.after s9 W) := Same.after s9_writes (by decide +kernel) W
  have B9 : Base X C (StableHlo.after s9 W) := E.base.keep fun r h => K9 r (List.mem_append_left _ h)
  generalize h9 : StableHlo.after s9 W = V9 at *
  have M10 := Norm.of O
  have K10 : Same crossR V9 (StableHlo.after s10 V9) := Same.after s10_writes (by decide +kernel) V9
  have B10 : Base X C (StableHlo.after s10 V9) := B9.keep fun r h => K10 r (List.mem_append_left _ h)
  generalize h10 : StableHlo.after s10 V9 = V10 at *
  have G12 : Gates X C (StableHlo.after s12 (StableHlo.after s11 V10)) := (Gates.of B10).keep (Same.after s12_writes (by decide +kernel) _)
  have K12 : Same (crossR ++ normR) V10 (StableHlo.after s12 (StableHlo.after s11 V10)) :=
    Same.trans (Same.after s11_writes (by decide +kernel) _) (Same.after s12_writes (by decide +kernel) _)
  have M12 : Norm X C (StableHlo.after s12 (StableHlo.after s11 V10)) := M10.keep fun r h => K12 r (List.mem_append_right _ h)
  have B12 : Base X C (StableHlo.after s12 (StableHlo.after s11 V10)) := B10.keep fun r h => K12 r (List.mem_append_left _ (List.mem_append_left _ h))
  generalize h12 : StableHlo.after s12 (StableHlo.after s11 V10) = V12 at *
  have U := u_read B12 G12
  have DG := dg_read B12 M12 G12
  have K14 : Same (crossR ++ normR) V12 (StableHlo.after s14 (StableHlo.after s13 V12)) :=
    Same.trans (Same.after s13_writes (by decide +kernel) _) (Same.after s14_writes (by decide +kernel) _)
  have M14 : Norm X C (StableHlo.after s14 (StableHlo.after s13 V12)) := M12.keep fun r h => K14 r (List.mem_append_right _ h)
  generalize h14 : StableHlo.after s14 (StableHlo.after s13 V12) = V14 at *
  have DO := dO_read M14 U
  have T (N i : Fin 64) (h : Fin 8) (e : Fin 128) := (dOt_read V14 N i h e).trans (DO N i h e)
  have K15 : Same (crossR ++ [main_v157]) V14 (StableHlo.after s15 V14) := Same.after s15_writes (by decide +kernel) _
  generalize h15 : StableHlo.after s15 V14 = V15 at *
  have K16 : Same (crossR ++ [main_v157, main_v183]) V15 (StableHlo.after s16 V15) := Same.after s16_writes (by decide +kernel) _
  have hm : StableHlo.afterL midI W = StableHlo.after s16 V15 := by
    rw [← h15, ← h14, ← h12, ← h10, ← h9]
    rfl
  have c15 (r : Ref sig .tc) (h : r ∈ crossR) : V15 (Proc.tc.devRef r) = V9 (Proc.tc.devRef r) :=
    (K15 r (List.mem_append_left _ h)).trans ((K14 r (List.mem_append_left _ h)).trans ((K12 r (List.mem_append_left _ h)).trans (K10 r h)))
  have c16 (r : Ref sig .tc) (h : r ∈ crossR) : StableHlo.after s16 V15 (Proc.tc.devRef r) = V9 (Proc.tc.devRef r) :=
    (K16 r (List.mem_append_left _ h)).trans (c15 r h)
  rw [hm]
  refine ⟨?_, ?_, ?_, ?_⟩
  · exact {
      base := B9.keep fun r h => c16 r (List.mem_append_left _ h)
      dec := fun h i j => (congrFun ((c16 main_v91 (by decide +kernel)).trans (K9 main_v91 (by decide +kernel))) _).trans (E.dec h i j)
      sD := fun N h i j => (congrFun ((c16 main_v93 (by decide +kernel)).trans (K9 main_v93 (by decide +kernel))) _).trans (E.sD N h i j)
      kdec := fun h j => (congrFun ((c16 main_v104 (by decide +kernel)).trans (K9 main_v104 (by decide +kernel))) _).trans (E.kdec h j)
      kk := fun N h j d => (congrFun ((c16 main_v106 (by decide +kernel)).trans (K9 main_v106 (by decide +kernel))) _).trans (E.kk N h j d)
      dO := fun N i h e => (congrFun (K16 main_v183 (by decide +kernel)) _).trans (DO N i h e)
      qx := qx_read (fun N h d e => (congrFun ((c15 main_v114_4 (by decide +kernel)).trans (K9 main_v114_4 (by decide +kernel))) _).trans (S N h d e))
        (fun h i => (congrFun (c15 main_v121 (by decide +kernel)) _).trans (Q h i)) T
      dg := fun n h e => (congrFun ((K16 main_v157 (by decide +kernel)).trans (K15 main_v157 (by decide +kernel))) _).trans (DG n h e) }
  · exact x_read (fun N i h d => (congrFun (c15 main_v123 (by decide +kernel)) _).trans (QQ N i h d)) T
  · intro h
    rw [cd1_read]
    exact (congrFun ((c15 main_v111 (by decide +kernel)).trans (K9 main_v111 (by decide +kernel))) _).trans (E.cd h)
  · exact zero1_read

/-- The rows carried back past a block. -/
abbrev Res (X C : ℕ → ℕ → ℝ) (V : Mem) : Prop := ∀ (N : Fin 64) (h : Fin 8) (d : Fin 64) (e : Fin 128),
  rd (S := S64x8x64x128) (V (Proc.tc.devRef main_v193_4)) (ix4 N h d e) = ((headOf X C eps h).re 64 64 N d e : ℝ)

/-- A row number as its block and its place in it. -/
theorem row_split (n : Fin 4096) : n / 64 * 64 + n % 64 = (n : ℕ) := by omega

theorem dv_read {W : Mem} (H : Mid X C W) (R : Res X C W) (n : Fin 4096) (h : Fin 8) (e : Fin 128) :
    rd (S := S4096x1024) (StableHlo.after s19 (StableHlo.after s18 (StableHlo.after s17 W)) (Proc.tc.devRef main_v216)) (ix2 n ⟨h * 128 + e, by omega⟩) =
      ((headOf X C eps h).dv n e : ℝ) := by
  unfold rd
  after_results
  pointwise
  refine (add_of (sum_of fun x => mul_of (R ⟨n / 64, by omega⟩ h x e) (H.kk ⟨n / 64, by omega⟩ h ⟨n % 64, by omega⟩ x))
    (sum_of fun x => mul_of (H.dO ⟨n / 64, by omega⟩ x h e) (H.sD ⟨n / 64, by omega⟩ h x ⟨n % 64, by omega⟩))).trans (congrArg _ ?_)
  have := (headOf X C eps h).dv_blk (B := 64) (N := 64) (b := n / 64) (by norm_num) (by norm_num) (by omega) ⟨n % 64, by omega⟩ e
  simp only [row_split n] at this
  rw [← this, add_comm]
  congr 1
  all_goals
    refine Finset.sum_congr rfl fun x _ => ?_
    rw [mul_comm]
    simp only [row_split n, Nat.cast_ofNat]
    rfl
theorem dk_read {W : Mem} (H : Mid X C W) (R : Res X C W) (N i : Fin 64) (h : Fin 8) (d : Fin 64) :
    rd (S := S4096x8x64) (StableHlo.after s19 (StableHlo.after s18 (StableHlo.after s17 W)) (Proc.tc.devRef main_v214)) (ix3 ⟨N * 64 + i, by omega⟩ h d) =
      ((headOf X C eps h).dk (N * 64 + i) d : ℝ) := by
  unfold rd
  after_results
  pointwise
  refine (add_of (mul_of (sum_of fun x => mul_of (R N h d x) (H.base.v N i h x)) (H.kdec h i))
    (sum_of fun x => mul_of (mul_of (sum_of fun y => mul_of (H.dO N x h y) (H.base.v N i h y)) (H.dec h x i)) (H.base.q N x h d))).trans (congrArg _ ?_)
  rw [← (headOf X C eps h).dk_blk (B := 64) (N := 64) (b := N) (by norm_num) (by norm_num) N.isLt i d, add_comm]
  congr 1
  simp only [mul_comm]
  rfl
theorem dq_read {W : Mem} (H : Mid X C W) (N i : Fin 64) (h : Fin 8) (d : Fin 64) :
    rd (S := S4096x8x64) (StableHlo.after s19 (StableHlo.after s18 (StableHlo.after s17 W)) (Proc.tc.devRef main_v215)) (ix3 ⟨N * 64 + i, by omega⟩ h d) =
      ((headOf X C eps h).dq (N * 64 + i) d : ℝ) := by
  unfold rd
  after_results
  pointwise
  refine (add_of (H.qx N i h d)
    (sum_of fun x => mul_of (mul_of (sum_of fun y => mul_of (H.dO N i h y) (H.base.v N x h y)) (H.dec h i x)) (H.base.k N x h d))).trans (congrArg _ ?_)
  rw [← (headOf X C eps h).dq_blk (B := 64) (N := 64) (b := N) (by norm_num) (by norm_num) N.isLt i d, add_comm]
  rfl

/-- A gradient by row, from its blocks. -/
theorem by_rows {f : S4096x8x64.Idx → EReal} {y : ℕ → ℕ → ℕ → ℝ}
    (H : ∀ (N i : Fin 64) (h : Fin 8) (d : Fin 64), f (ix3 ⟨N * 64 + i, by omega⟩ h d) = (y h (N * 64 + i) d : ℝ)) (n : Fin 4096) (h : Fin 8) (d : Fin 64) :
    f (ix3 n h d) = (y h n d : ℝ) := by
  have := H ⟨n / 64, by omega⟩ ⟨n % 64, by omega⟩ h d
  simp only [row_split n] at this
  exact this

/-- The two halves of a head's columns, rotated back. -/
theorem turned (Y y : ℕ → ℝ) (n o : ℕ) (ho : o % 64 = 0) (hY : ∀ d < 64, Y (o + d) = y d) {a : Fin 64 → EReal} {cs sn : Fin 32 → EReal}
    (ha : ∀ d, a d = (y d : ℝ)) (hc : ∀ d : Fin 32, cs d = (Real.cos (ang n d) : ℝ)) (hs : ∀ d : Fin 32, sn d = (Real.sin (ang n d) : ℝ)) (d : Fin 64) :
    (if _ : 32 ≤ (d : ℕ) ∧ (d : ℕ) - 32 < 32 then a ⟨32 + (d - 32), by omega⟩ * cs ⟨d - 32, by omega⟩ + -a ⟨d - 32, by omega⟩ * sn ⟨d - 32, by omega⟩ else 0) +
      (if _ : (d : ℕ) < 32 then a ⟨32 + d, by omega⟩ * sn ⟨d, by omega⟩ + a d * cs ⟨d, by omega⟩ else 0) = (rotT Y n (o + d) : ℝ) := by
  have e1 : (o + d) % 64 = d := by omega
  unfold rotT
  rw [e1]
  by_cases h : (d : ℕ) < 32
  · rw [dif_neg (by omega), dif_pos h, if_pos h, zero_add, show (o + d) % 32 = d by omega, show o + d + 32 = o + (32 + d) by omega, hY d d.isLt,
      hY (32 + d) (by omega)]
    exact (add_of (mul_of (ha _) (hs _)) (mul_of (ha _) (hc _))).trans (congrArg _ (add_comm _ _))
  · rw [dif_pos (by omega), dif_neg h, if_neg h, add_zero, show (o + d) % 32 = d - 32 by omega, show o + d - 32 = o + (d - 32) by omega, hY d d.isLt,
      hY (d - 32) (by omega)]
    refine (add_of (mul_of (ha _) (hc _)) (mul_of (neg_of (ha _)) (hs _))).trans (congrArg _ ?_)
    simp only [show 32 + ((d : ℕ) - 32) = d by omega]
    rw [neg_mul, ← sub_eq_add_neg]

theorem rk_read {W : Mem} (B : Base X C W)
    (K : ∀ (n : Fin 4096) (h : Fin 8) (d : Fin 64), rd (S := S4096x8x64) (W (Proc.tc.devRef main_v214)) (ix3 n h d) = ((headOf X C eps h).dk n d : ℝ))
    (n : Fin 4096) (h : Fin 8) (d : Fin 64) :
    rd (S := S4096x512) (StableHlo.after s20 W (Proc.tc.devRef main_v233)) (ix2 n ⟨h * 64 + d, by omega⟩) =
      (rotT (fun c => (headOf X C eps (c / 64 - 8)).dk n (c % 64)) n (512 + h * 64 + d) : ℝ) := by
  unfold rd
  after_results
  pointwise
  refine turned _ (fun d => (headOf X C eps h).dk n d) n (512 + h * 64) (by omega) (fun d hd => ?_) (fun d => K n h d) (fun d => B.cosk n d)
    (fun d => B.sink n d) d
  show (headOf X C eps ((512 + h * 64 + d) / 64 - 8)).dk n ((512 + h * 64 + d) % 64) = _
  rw [show (512 + (h : ℕ) * 64 + d) / 64 - 8 = h by omega, show (512 + (h : ℕ) * 64 + d) % 64 = d by omega]
theorem rq_read {W : Mem} (B : Base X C W)
    (K : ∀ (n : Fin 4096) (h : Fin 8) (d : Fin 64), rd (S := S4096x8x64) (W (Proc.tc.devRef main_v215)) (ix3 n h d) = ((headOf X C eps h).dq n d : ℝ))
    (n : Fin 4096) (h : Fin 8) (d : Fin 64) :
    rd (S := S4096x512) (StableHlo.after s21 W (Proc.tc.devRef main_v252)) (ix2 n ⟨h * 64 + d, by omega⟩) =
      (rotT (fun c => (headOf X C eps (c / 64)).dq n (c % 64) * (1 / 8)) n (h * 64 + d) : ℝ) := by
  unfold rd
  after_results
  pointwise
  refine turned _ (fun d => (headOf X C eps h).dq n d * (1 / 8)) n (h * 64) (by omega) (fun d hd => ?_) (fun d => mul_of (K n h d) lit_eighth)
    (fun d => B.cosq n d) (fun d => B.sinq n d) d
  show (headOf X C eps ((h * 64 + d) / 64)).dq n ((h * 64 + d) % 64) * (1 / 8) = _
  rw [show ((h : ℕ) * 64 + d) / 64 = h by omega, show ((h : ℕ) * 64 + d) % 64 = d by omega]

/-- A column of a flat row by its head. -/
theorem by_heads {k m : ℕ} (hk : 0 < k) {f : Fin m → EReal} {y : ℕ → ℝ} (hm : m = 8 * k)
    (H : ∀ (h : Fin 8) (d : Fin k) (hl : h * k + d < m), f ⟨h * k + d, hl⟩ = (y (h * k + d) : ℝ)) (c : Fin m) :
    f c = (y c : ℝ) := by
  have e : (c : ℕ) / k * k + c % k = c := Nat.div_add_mod' _ _
  have := H ⟨c / k, Nat.div_lt_of_lt_mul (by rw [mul_comm, ← hm]; exact c.isLt)⟩ ⟨c % k, Nat.mod_lt _ hk⟩ (by simp only [e]; exact c.isLt)
  simp only [e] at this
  exact this

/-- The gradients side by side. -/
theorem end_read {W : Mem} (n : Fin 4096)
    (Hg : ∀ (h : Fin 8) (e : Fin 128), rd (S := S4096x1024) (W (Proc.tc.devRef main_v157)) (ix2 n ⟨h * 128 + e, by omega⟩) = ((headOf X C eps h).dg n e : ℝ))
    (Hv : ∀ (h : Fin 8) (e : Fin 128), rd (S := S4096x1024) (W (Proc.tc.devRef main_v216)) (ix2 n ⟨h * 128 + e, by omega⟩) = ((headOf X C eps h).dv n e : ℝ))
    (Hk : ∀ (h : Fin 8) (d : Fin 64), rd (S := S4096x512) (W (Proc.tc.devRef main_v233)) (ix2 n ⟨h * 64 + d, by omega⟩) =
      (rotT (fun c => (headOf X C eps (c / 64 - 8)).dk n (c % 64)) n (512 + h * 64 + d) : ℝ))
    (Hq : ∀ (h : Fin 8) (d : Fin 64), rd (S := S4096x512) (W (Proc.tc.devRef main_v252)) (ix2 n ⟨h * 64 + d, by omega⟩) =
      (rotT (fun c => (headOf X C eps (c / 64)).dq n (c % 64) * (1 / 8)) n (h * 64 + d) : ℝ)) (c : Fin 8192) :
    rd (S := S4096x8192) (StableHlo.after s23 (StableHlo.after s22 W) (Proc.tc.devRef main_v260)) (ix2 n c) = (gradOf X C eps n c : ℝ) := by
  have split {k : ℕ} (hk : 0 < k) (h : Fin 8) (d : Fin k) : ((h : ℕ) * k + d) / k = h ∧ ((h : ℕ) * k + d) % k = d := by
    constructor
    · rw [mul_comm, Nat.mul_add_div hk, Nat.div_eq_of_lt d.isLt, add_zero]
    · rw [mul_comm, Nat.mul_add_mod, Nat.mod_eq_of_lt d.isLt]
  have G := by_heads (k := 128) (by norm_num) rfl (y := fun c => (headOf X C eps (c / 128)).dg n (c % 128))
    (f := fun c => rd (S := S4096x1024) (W (Proc.tc.devRef main_v157)) (ix2 n c)) fun h e hl => by
      simp only [(split (by norm_num : 0 < 128) h e).1, (split (by norm_num : 0 < 128) h e).2]; exact Hg h e
  have V := by_heads (k := 128) (by norm_num) rfl (y := fun c => (headOf X C eps (c / 128)).dv n (c % 128))
    (f := fun c => rd (S := S4096x1024) (W (Proc.tc.devRef main_v216)) (ix2 n c)) fun h e hl => by
      simp only [(split (by norm_num : 0 < 128) h e).1, (split (by norm_num : 0 < 128) h e).2]; exact Hv h e
  have K := by_heads (k := 64) (by norm_num) rfl (y := fun c => rotT (fun c => (headOf X C eps (c / 64 - 8)).dk n (c % 64)) n (512 + c))
    (f := fun c => rd (S := S4096x512) (W (Proc.tc.devRef main_v233)) (ix2 n c)) fun h d hl => by rw [← add_assoc]; exact Hk h d
  have Q := by_heads (k := 64) (by norm_num) rfl (y := rotT (fun c => (headOf X C eps (c / 64)).dq n (c % 64) * (1 / 8)) n)
    (f := fun c => rd (S := S4096x512) (W (Proc.tc.devRef main_v252)) (ix2 n c)) fun h d hl => Hq h d
  unfold rd
  after_results
  pointwise
  unfold gradOf
  have z : (0 : EReal) = ((0 : ℝ) : EReal) := EReal.coe_zero.symm
  by_cases h1 : (c : ℕ) < 512
  · rw [if_pos h1]
    refine (add_of (add_of (add_of ((dif_neg (by omega)).trans z) ((dif_neg (by omega)).trans z)) ((dif_neg (by omega)).trans z))
      ((dif_pos h1).trans (Q ⟨c, h1⟩))).trans (congrArg _ ?_)
    rw [zero_add, zero_add, zero_add]
  rw [if_neg h1]
  by_cases h2 : (c : ℕ) < 1024
  · rw [if_pos h2]
    refine (add_of (add_of (add_of ((dif_neg (by omega)).trans z) ((dif_neg (by omega)).trans z)) ((dif_pos (by omega)).trans (K ⟨c - 512, by omega⟩)))
      ((dif_neg h1).trans z)).trans (congrArg _ ?_)
    simp only [show 512 + ((c : ℕ) - 512) = c by omega]
    rw [add_zero, zero_add, zero_add]
  rw [if_neg h2]
  by_cases h3 : (c : ℕ) < 2048
  · rw [if_pos h3]
    refine (add_of (add_of (add_of ((dif_neg (by omega)).trans z) ((dif_pos (by omega)).trans (V ⟨c - 1024, by omega⟩))) ((dif_neg (by omega)).trans z))
      ((dif_neg h1).trans z)).trans (congrArg _ ?_)
    rw [add_zero, add_zero, zero_add]
  rw [if_neg h3]
  by_cases h4 : (c : ℕ) < 3072
  · rw [if_pos h4]
    refine (add_of (add_of (add_of ((dif_pos (by omega)).trans (G ⟨c - 2048, by omega⟩)) ((dif_neg (by omega)).trans z)) ((dif_neg (by omega)).trans z))
      ((dif_neg h1).trans z)).trans (congrArg _ ?_)
    rw [add_zero, add_zero, add_zero]
  · rw [if_neg h4]
    refine (add_of (add_of (add_of ((dif_neg (by omega)).trans z) ((dif_neg (by omega)).trans z)) ((dif_neg (by omega)).trans z))
      ((dif_neg h1).trans z)).trans (congrArg _ ?_)
    rw [add_zero, add_zero, add_zero]

/-- From the second loop to the result. -/
theorem finish {W : Mem} (H : Mid X C W) (R : Res X C W) (n : Fin 4096) (c : Fin 8192) :
    rd (S := S4096x8192) (StableHlo.afterL postI W (Proc.tc.devRef main_v260)) (ix2 n c) = (gradOf X C eps n c : ℝ) := by
  have V := dv_read H R
  have K := by_rows (y := fun h n d => (headOf X C eps h).dk n d) (dk_read H R)
  have Q := by_rows (y := fun h n d => (headOf X C eps h).dq n d) (dq_read H)
  have S3 : Same (baseR ++ [main_v157]) W (StableHlo.after s19 (StableHlo.after s18 (StableHlo.after s17 W))) :=
    Same.trans (Same.trans (Same.after s17_writes (by decide +kernel) _) (Same.after s18_writes (by decide +kernel) _))
      (Same.after s19_writes (by decide +kernel) _)
  have B := H.base.keep fun r h => S3 r (List.mem_append_left _ h)
  have G (n : Fin 4096) (h : Fin 8) (e : Fin 128) := (congrFun (S3 main_v157 (by decide +kernel)) _).trans (H.dg n h e)
  have e : StableHlo.afterL postI W = StableHlo.after s23 (StableHlo.after s22 (StableHlo.after s21 (StableHlo.after s20
    (StableHlo.after s19 (StableHlo.after s18 (StableHlo.after s17 W)))))) := rfl
  rw [e]
  generalize StableHlo.after s19 (StableHlo.after s18 (StableHlo.after s17 W)) = U at *
  have rk := rk_read B K
  have S4 : Same (baseR ++ [main_v157, main_v215, main_v216]) U (StableHlo.after s20 U) := Same.after s20_writes (by decide +kernel) _
  have rq := rq_read (B.keep fun r h => S4 r (List.mem_append_left _ h)) fun n h d => (congrFun (S4 main_v215 (by decide +kernel)) _).trans (Q n h d)
  have S5 : Same [main_v157, main_v216, main_v233] (StableHlo.after s20 U) (StableHlo.after s21 (StableHlo.after s20 U)) :=
    Same.after s21_writes (by decide +kernel) _
  exact end_read n (fun h e => (congrFun ((S5 main_v157 (by decide +kernel)).trans (S4 main_v157 (by decide +kernel))) _).trans (G n h e))
    (fun h e => (congrFun ((S5 main_v216 (by decide +kernel)).trans (S4 main_v216 (by decide +kernel))) _).trans (V n h e))
    (fun h d => (congrFun (S5 main_v233 (by decide +kernel)) _).trans (rk n h d)) (rq n) c

end Cert.RetReferenceIdeal.Reading
-- ==== Proof.RetKernelValue.lean ====
/-
  The retention's backward kernel over the reals: what each point's blocks hold, the gradient carried from block to block, and the
  projection's gradient it leaves.
-/
module

public import proofs.«01_k».proof.Proof.RetArrays
public import proofs.«01_k».proof.Proof.Gen.RetKernelIdeal.Value
public import Idealize.ShloMosaic.Lib.WritesUnit

@[expose] public section

set_option maxRecDepth 16384

noncomputable section

open Idealize.ShloMosaic Idealize.ShloMosaic.TcCoe Idealize.SL.Sem

namespace Cert.RetKernelIdeal.Value

open Cert.RetKernelIdeal Cert.RetKernelIdeal.Gen Cert.RetMath

variable (m : (ℓ : Loc nD τ sig) → Buf (Elt Ideal) ℓ)

theorem idx0 : ∀ t : Fin cfg0.N, win0_0.index t = ![7 - t.val, 0] := (by decide +kernel : ∀ t : Fin grid0.N, _)
theorem idx1 : ∀ t : Fin cfg0.N, win0_1.index t = ![7 - t.val, 0] := (by decide +kernel : ∀ t : Fin grid0.N, _)
theorem idx2 : ∀ t : Fin cfg0.N, win0_2.index t = ![7 - t.val, 0, 0, 0] := (by decide +kernel : ∀ t : Fin grid0.N, _)
theorem idx3 : ∀ t : Fin cfg0.N, win0_3.index t = ![0, 7 - t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![7 - t.val, 0] := (by decide +kernel : ∀ t : Fin grid0.N, _)

/-- The blocks run from the last to the first. -/
def blockOf (t : Fin cfg0.N) : Fin 8 := ⟨7 - t.val, by omega⟩
/-- Row `r` of point `t`'s block. -/
def rowOf (t : Fin cfg0.N) (r : Fin 512) : Fin 4096 := ⟨(7 - t.val) * 512 + r.val, by omega⟩

theorem blk0 (c : Dev nD) (t : Fin cfg0.N) (r : Fin 512) (l : Fin 1024) :
    @Eq EReal (iblk m c 0 t (ix2 r l)) ((V m c main_arg0 : S4096x1024.Idx → EReal) (ix2 (rowOf t r) l)) := by
  rw [← V_ct]
  show _ = (V m c main_v182 : S4096x1024.Idx → EReal) (ix2 (rowOf t r) l)
  blk_ext [iblk, idx0 t, rowOf]
theorem blk1 (c : Dev nD) (t : Fin cfg0.N) (r : Fin 512) (l : Fin 3072) :
    @Eq EReal (X0_1 m c t (ix2 r l)) ((V m c main_arg1 : S4096x8192.Idx → EReal) (ix2 (rowOf t r) ⟨l.val, by omega⟩)) := by
  rw [← V_proj]
  show _ = (V m c main_v183 : S4096x8192.Idx → EReal) (ix2 (rowOf t r) ⟨l.val, by omega⟩)
  unfold X0_1 Pipeline.Window.fill
  rw [dif_pos (moved0_1 t _)]
  blk_ext [iblk, idx1 t, rowOf]
theorem blk2 (c : Dev nD) (t : Fin cfg0.N) (h : Fin 8) (l x : Fin 128) :
    @Eq EReal (iblk m c 2 t (ix4 0 h l x)) ((V m c main_v180 : S8x8x128x128.Idx → EReal) (ix4 (blockOf t) h l x)) := by
  show _ = (V m c main_v180 : S8x8x128x128.Idx → EReal) (ix4 (blockOf t) h l x)
  blk_ext [iblk, idx2 t, blockOf]
theorem blk3 (c : Dev nD) (t : Fin cfg0.N) (k : Fin 3) (r : Fin 512) (l : Fin 128) :
    @Eq EReal (iblk m c 3 t (ix3 k r l)) ((V m c main_v23 : S3x4096x128.Idx → EReal) (ix3 k (rowOf t r) l)) := by
  show _ = (V m c main_v23 : S3x4096x128.Idx → EReal) (ix3 k (rowOf t r) l)
  blk_ext [iblk, idx3 t, rowOf]
theorem blk4 (c : Dev nD) (t : Fin cfg0.N) (h : Fin 8) (r x : Fin 512) :
    @Eq EReal (iblk m c 4 t (ix3 h r x)) ((V m c main_v52 : S8x512x512.Idx → EReal) (ix3 h r x)) := by
  show _ = (V m c main_v52 : S8x512x512.Idx → EReal) (ix3 h r x)
  blk_ext [iblk, idx4 t]
theorem blk5 (c : Dev nD) (t : Fin cfg0.N) (h : Fin 8) (r : Fin 512) (l : Fin 128) :
    @Eq EReal (iblk m c 5 t (ix3 h r l)) ((V m c main_v83 : S8x512x128.Idx → EReal) (ix3 h r l)) := by
  show _ = (V m c main_v83 : S8x512x128.Idx → EReal) (ix3 h r l)
  blk_ext [iblk, idx5 t]
theorem blk6 (c : Dev nD) (t : Fin cfg0.N) (h : Fin 8) (r : Fin 512) (l : Fin 128) :
    @Eq EReal (iblk m c 6 t (ix3 h r l)) ((V m c main_v88 : S8x512x128.Idx → EReal) (ix3 h r l)) := by
  show _ = (V m c main_v88 : S8x512x128.Idx → EReal) (ix3 h r l)
  blk_ext [iblk, idx6 t]
theorem blk7 (c : Dev nD) (t : Fin cfg0.N) (h i : Fin 8) (l : Fin 128) :
    @Eq EReal (iblk m c 7 t (ix3 h i l)) ((V m c main_v92 : S8x8x128.Idx → EReal) (ix3 h i l)) := by
  show _ = (V m c main_v92 : S8x8x128.Idx → EReal) (ix3 h i l)
  blk_ext [iblk, idx7 t]
theorem blk8 (c : Dev nD) (t : Fin cfg0.N) (h i : Fin 8) (l : Fin 128) :
    @Eq EReal (iblk m c 8 t (ix3 h i l)) ((V m c main_v97 : S8x8x128.Idx → EReal) (ix3 h i l)) := by
  show _ = (V m c main_v97 : S8x8x128.Idx → EReal) (ix3 h i l)
  blk_ext [iblk, idx8 t]

/-- The arguments at real entries. -/
structure Args (c : Dev nD) (X C : ℕ → ℕ → ℝ) : Prop where
  proj : ∀ n l, @Eq EReal ((V m c main_arg1 : S4096x8192.Idx → EReal) (ix2 n l)) (X n l : ℝ)
  ct : ∀ n l, @Eq EReal ((V m c main_arg0 : S4096x1024.Idx → EReal) (ix2 n l)) (C n l : ℝ)

variable {X C : ℕ → ℕ → ℝ}

theorem proj_at {c : Dev nD} (A : Args m c X C) (t : Fin cfg0.N) (o k : ℕ) (h : o + k ≤ 3072) (r : Fin 512) (l : Fin k) :
    @Eq EReal (View.ld (blockAt m c t).proj (Rect.unit ![0, o] ![512, k] (Block.in2 h)) (ix2 r l)) (X ((blockOf t).val * 512 + r) (o + l) : ℝ) := by
  refine Eq.trans (Pieces.ld_at (blockAt m c t).proj (Block.in2 h) _ (ix2 r ⟨o + l.val, by omega⟩) ?_) ?_
  · intro a; fin_cases a <;> simp [ix2]
  · exact (blk1 m c t r _).trans (A.proj _ _)

theorem ct_at {c : Dev nD} (A : Args m c X C) (t : Fin cfg0.N) (o k : ℕ) (h : o + k ≤ 1024) (r : Fin 512) (l : Fin k) :
    @Eq EReal (View.ld (blockAt m c t).ct (Rect.unit ![0, o] ![512, k] (Block.in2 h)) (ix2 r l)) (C ((blockOf t).val * 512 + r) (o + l) : ℝ) := by
  refine Eq.trans (Pieces.ld_at (blockAt m c t).ct (Block.in2 h) _ (ix2 r ⟨o + l.val, by omega⟩) ?_) ?_
  · intro a; fin_cases a <;> simp [ix2]
  · exact (blk0 m c t r _).trans (A.ct _ _)

/-- A load of one plane of a table of planes. -/
theorem plane {n a b A B : ℕ} {e : EltTy} (T : (⟨3, ![n, A, B]⟩ : Shape).Idx → Elt Ideal e) (h : ℕ) (hh : h + 1 ≤ n) (ha : a ≤ A) (hb : b ≤ B) (i : Fin a) (j : Fin b) :
    View.ld T (Rect.unit ![h, 0, 0] ![1, a, b] (Block.in3 hh ha hb)) (ix3 0 i j) = T (ix3 ⟨h, hh⟩ ⟨i.val, by omega⟩ ⟨j.val, by omega⟩) := by
  refine Pieces.ld_at T (Block.in3 hh ha hb) _ _ ?_
  intro a; fin_cases a <;> simp [ix3]

theorem rope_at (c : Dev nD) (t : Fin cfg0.N) (k : Fin 3) (r : Fin 512) (l : Fin 128) :
    @Eq EReal (View.ld (blockAt m c t).rope (Rect.unit ![k.val, 0, 0] ![1, 512, 128] (Block.in3 k.isLt le_rfl le_rfl)) (ix3 0 r l))
      ((![cosL ((blockOf t).val * 512 + r) l, sinLo ((blockOf t).val * 512 + r) l, sinHi ((blockOf t).val * 512 + r) l] k : ℝ) : EReal) :=
  (plane (blockAt m c t).rope k.val k.isLt le_rfl le_rfl r l).trans ((blk3 m c t _ _ _).trans (V_rope m c _ _ _))

theorem cos_at (c : Dev nD) (t : Fin cfg0.N) (r : Fin 512) (l : Fin 128) : @Eq EReal ((blockAt m c t).cos (ix2 r l)) (cosL ((blockOf t).val * 512 + r) l : ℝ) := by
  refine Eq.trans ?_ (rope_at m c t 0 r l)
  unfold Block.cos
  pointwise [k0_pay4]
theorem sinl_at (c : Dev nD) (t : Fin cfg0.N) (r : Fin 512) (l : Fin 128) : @Eq EReal ((blockAt m c t).sinl (ix2 r l)) (sinLo ((blockOf t).val * 512 + r) l : ℝ) := by
  refine Eq.trans ?_ (rope_at m c t 1 r l)
  unfold Block.sinl
  pointwise [k0_pay5]
theorem sinh_at (c : Dev nD) (t : Fin cfg0.N) (r : Fin 512) (l : Fin 128) : @Eq EReal ((blockAt m c t).sinh (ix2 r l)) (sinHi ((blockOf t).val * 512 + r) l : ℝ) := by
  refine Eq.trans ?_ (rope_at m c t 2 r l)
  unfold Block.sinh
  pointwise [k0_pay6]

/-- A pair's rotated lanes. -/
theorem rot_at {c : Dev nD} (A : Args m c X C) (t : Fin cfg0.N) (o : ℕ) (h : o + 128 ≤ 3072) (ho : 64 ∣ o) (r : Fin 512) (l : Fin 128) :
    @Eq EReal ((blockAt m c t).rot o h (ix2 r l)) (rot (X ((blockOf t).val * 512 + r)) ((blockOf t).val * 512 + r) (o + l) : ℝ) := by
  have hp (j : Fin 128) : rd (S := S512x3072) (blockAt m c t).proj (ix2 r ⟨o + j.val, by omega⟩) = (X ((blockOf t).val * 512 + r) (o + j) : ℝ) :=
    (blk1 m c t r _).trans (A.proj _ _)
  unfold Block.rot
  pointwise [k0_pay7]
  show rd (S := S512x3072) (blockAt m c t).proj (ix2 r ⟨o + l.val, _⟩) * rd (S := S512x128) (blockAt m c t).cos (ix2 r l) +
    rd (S := S512x3072) (blockAt m c t).proj (ix2 r ⟨o + (l.val + 128 - 96) % 128, _⟩) * rd (S := S512x128) (blockAt m c t).sinl (ix2 r l) +
    rd (S := S512x3072) (blockAt m c t).proj (ix2 r ⟨o + (l.val + 128 - 32) % 128, _⟩) * rd (S := S512x128) (blockAt m c t).sinh (ix2 r l) = _
  rw [hp l, hp ⟨(l.val + 128 - 96) % 128, Nat.mod_lt _ (by norm_num)⟩, hp ⟨(l.val + 128 - 32) % 128, Nat.mod_lt _ (by norm_num)⟩,
    rd, rd, rd, cos_at, sinl_at, sinh_at, ← rot_lane _ _ o l.val ho l.isLt]
  simp only [EReal.coe_add, EReal.coe_mul, show l.val + 128 - 96 = l.val + 32 by omega, show l.val + 128 - 32 = l.val + 96 by omega]

section
attribute [local irreducible] iblk X0_1 outsAt0 headOf eps

/-- What head `h` reads at a point. -/
abbrev hd (c : Dev nD) (t : Fin cfg0.N) (h : ℕ) (hh : h < 8) (gs : Vec Ideal S1x128x128 .f32) : HeadV := (blockAt m c t).head h hh gs

theorem hd_st {c : Dev nD} (A : Args m c X C) (t : Fin cfg0.N) (h : ℕ) (hh : h < 8) (gs : Vec Ideal S1x128x128 .f32) (l x : Fin 128) :
    @Eq EReal ((hd m c t h hh gs).st (ix4 0 0 l x)) ((if l.val / 64 = h % 2 then (headOf X C eps h).st 512 (blockOf t) (l.val % 64) x.val else 0 : ℝ) : EReal) := by
  have e : (hd m c t h hh gs).st (ix4 0 0 l x) = (blockAt m c t).st (ix4 0 ⟨h, hh⟩ l x) := by
    refine Pieces.ld_at (blockAt m c t).st (Block.in4 hh) _ (ix4 0 ⟨h, hh⟩ l x) ?_
    intro a; fin_cases a <;> simp [ix4]
  have e2 := blk2 m c t ⟨h, hh⟩ l x
  have e3 := V_st m X C c A.proj (blockOf t) ⟨h, hh⟩ l x
  have e4 := e2.trans e3
  refine Eq.trans e ?_
  exact e4
theorem hd_mqs (c : Dev nD) (t : Fin cfg0.N) (h : ℕ) (hh : h < 8) (gs : Vec Ideal S1x128x128 .f32) (l : Fin 128) :
    @Eq EReal ((hd m c t h hh gs).mqs (ix3 0 0 l)) ((if l.val / 64 = h % 2 then 1 / 8 else 0 : ℝ) : EReal) :=
  (plane (blockAt m c t).mqs h hh (by norm_num) le_rfl 0 l).trans ((blk7 m c t ⟨h, hh⟩ 0 l).trans (V_mqs m c ⟨h, hh⟩ 0 l))
theorem hd_qdm (c : Dev nD) (t : Fin cfg0.N) (h : ℕ) (hh : h < 8) (gs : Vec Ideal S1x128x128 .f32) (r : Fin 512) (l : Fin 128) :
    @Eq EReal ((hd m c t h hh gs).qdm (ix3 0 r l)) ((if l.val / 64 = h % 2 then Real.exp (lg h * r.val) * (1 / 8) else 0 : ℝ) : EReal) :=
  (plane (blockAt m c t).qdm h hh le_rfl le_rfl r l).trans ((blk5 m c t ⟨h, hh⟩ r l).trans (V_qdm m c ⟨h, hh⟩ r l))
theorem hd_kdm (c : Dev nD) (t : Fin cfg0.N) (h : ℕ) (hh : h < 8) (gs : Vec Ideal S1x128x128 .f32) (r : Fin 512) (l : Fin 128) :
    @Eq EReal ((hd m c t h hh gs).kdm (ix3 0 r l)) ((if l.val / 64 = h % 2 then Real.exp (lg h * (512 - r.val)) else 0 : ℝ) : EReal) :=
  (plane (blockAt m c t).kdm h hh le_rfl le_rfl r l).trans ((blk6 m c t ⟨h, hh⟩ r l).trans (V_kdm m c ⟨h, hh⟩ r l))
theorem hd_msk (c : Dev nD) (t : Fin cfg0.N) (h : ℕ) (hh : h < 8) (gs : Vec Ideal S1x128x128 .f32) (r x : Fin 512) :
    @Eq EReal ((hd m c t h hh gs).msk (ix3 0 r x)) (D (lg h) r.val x.val : ℝ) :=
  by
  refine Eq.trans (plane (n := 8) (A := 512) (B := 512) (blockAt m c t).msk h hh (le_refl 512) (le_refl 512) r x) ?_
  refine Eq.trans (blk4 m c t ⟨h, hh⟩ r x) ?_
  exact V_mask m c ⟨h, hh⟩ r x
theorem hd_cd (c : Dev nD) (t : Fin cfg0.N) (h : ℕ) (hh : h < 8) (gs : Vec Ideal S1x128x128 .f32) (l : Fin 128) :
    @Eq EReal ((hd m c t h hh gs).cd (ix3 0 0 l)) (Real.exp (lg h * 512) : ℝ) :=
  (plane (blockAt m c t).cd h hh (by norm_num) le_rfl 0 l).trans ((blk8 m c t ⟨h, hh⟩ 0 l).trans (V_cd m c ⟨h, hh⟩ 0 l))

end
attribute [local irreducible] iblk X0_1 outsAt0

/-- Head `h` at a point, its carried gradient given. -/
theorem head_is {c : Dev nD} (A : Args m c X C) (t : Fin cfg0.N) (h : ℕ) (hh : h < 8) (gs : Vec Ideal S1x128x128 .f32)
    (hgs : ∀ l x : Fin 128, @Eq EReal (gs (ix3 0 l x)) ((if l.val / 64 = h % 2 then (headOf X C eps h).re 512 8 (blockOf t) (l.val % 64) x.val else 0 : ℝ) : EReal)) :
    (hd m c t h hh gs).Is (headOf X C eps h) (blockOf t) (h % 2) (fun n l => rot (X n) n (128 * (h / 2) + l)) (fun n l => rot (X n) n (512 + 128 * (h / 2) + l)) := by
  refine ⟨Nat.mod_lt _ (by norm_num), rfl, fun n d => ?_, fun n d => ?_, rot_at m A t (128 * (h / 2)) (by omega) (by omega),
    rot_at m A t (512 + 128 * (h / 2)) (by omega) (by omega), proj_at m A t (1024 + 128 * h) 128 (by omega), proj_at m A t (2048 + 128 * h) 128 (by omega),
    ct_at m A t (128 * h) 128 (by omega), hd_mqs m c t h hh gs, hd_qdm m c t h hh gs, hd_kdm m c t h hh gs, hd_msk m c t h hh gs, hd_st m A t h hh gs, hgs,
    hd_cd m c t h hh gs⟩
  · show rot (X n) n (128 * (h / 2) + (64 * (h % 2) + d)) * (1 / 8) = rot (X n) n (64 * h + d) * (1 / 8)
    rw [show 128 * (h / 2) + (64 * (h % 2) + d) = 64 * h + d by omega]
  · show rot (X n) n (512 + 128 * (h / 2) + (64 * (h % 2) + d)) = rot (X n) n (512 + 64 * h + d)
    rw [show 512 + 128 * (h / 2) + (64 * (h % 2) + d) = 512 + 64 * h + d by omega]

end Cert.RetKernelIdeal.Value
-- ==== Proof.RetCarry.lean ====
module

public import proofs.«01_k».proof.Proof.RetKernelValue

@[expose] public section

set_option maxRecDepth 16384

noncomputable section

open Idealize.ShloMosaic Idealize.ShloMosaic.TcCoe Idealize.SL.Sem

namespace Cert.RetKernelIdeal.Value

open Cert.RetKernelIdeal Cert.RetKernelIdeal.Gen Cert.RetMath

variable {X C : ℕ → ℕ → ℝ} (m : (ℓ : Loc nD τ sig) → Buf (Elt Ideal) ℓ)

/-- A store of one plane, read at a plane. -/
theorem canon_plane (k : ℕ) (inb : ∀ i, (![k, 0, 0] : Fin 3 → ℕ) i + (![1, 128, 128] : Fin 3 → ℕ) i ≤ S8x128x128.size i)
    (w : Vec Ideal S1x128x128 .f32) (L : List (View.Piece (Elt Ideal) S8x128x128 .f32)) (h : Fin 8) (l x : Fin 128) :
    View.canon ((⟨Rect.unit ![k, 0, 0] ![1, 128, 128] inb, w⟩ : View.Piece (Elt Ideal) S8x128x128 .f32) :: L) (ix3 h l x) =
      if h.val = k then w (ix3 0 l x) else View.canon L (ix3 h l x) := by
  split_ifs with e
  · exact Pieces.canon_mem inb w L (ix3 h l x) (ix3 0 l x) fun a => by fin_cases a <;> simp [ix3, e]
  · refine Pieces.canon_not_mem inb w L (ix3 h l x) 0 ?_
    show h.val < k ∨ k + 1 ≤ h.val
    omega

theorem carried_at (B : Block) (gs : Fin 8 → Vec Ideal S1x128x128 .f32) (L : List (View.Piece (Elt Ideal) S8x128x128 .f32)) (h : Fin 8) (l x : Fin 128) :
    View.canon (B.carried gs L) (ix3 h l x) = (B.head h.val h.isLt (gs h)).gs' (ix3 0 l x) := by
  unfold Block.carried
  simp only [canon_plane]
  generalize View.canon L (ix3 h l x) = z
  fin_cases h <;> simp only [Fin.zero_eta, Fin.mk_one, Fin.reduceFinMk, Fin.isValue, Fin.val_zero, Fin.val_one, Fin.reduceEq, Nat.reduceEqDiff, if_true, if_false, OfNat.ofNat_ne_zero,
    OfNat.zero_ne_ofNat, OfNat.one_ne_ofNat, zero_ne_one, one_ne_zero, OfNat.ofNat_ne_one] <;> rfl

/-- What the heads read at a point is the gradient of the state that the later blocks left. -/
def Carries (X C : ℕ → ℕ → ℝ) (b : ℕ) (gs : Fin 8 → Vec Ideal S1x128x128 .f32) : Prop :=
  ∀ (h : Fin 8) (l x : Fin 128), @Eq EReal (gs h (ix3 0 l x))
    ((if l.val / 64 = h.val % 2 then (headOf X C eps h).re 512 8 b (l.val % 64) x.val else 0 : ℝ) : EReal)

def gsAt (c : Dev nD) (t : Fin cfg0.N) : Fin 8 → Vec Ideal S1x128x128 .f32 := if t.val % 8 = 0 then fun _ => zeros else gsB m c t

attribute [local irreducible] iblk X0_1 outsAt0

theorem out_at (c : Dev nD) (t : Fin cfg0.N) (h : Fin 8) (l x : Fin 128) :
    (outsAt0 m c t.val t.isLt).2 (ix3 h l x) = (hd m c t h h.isLt (gsAt m c t h)).gs' (ix3 0 l x) := by
  unfold gsAt
  split_ifs with h0
  · rw [carried_A m c t h0]; exact carried_at _ _ _ h l x
  · rw [carried_B m c t h0]; exact carried_at _ _ _ h l x

theorem gsB_at (c : Dev nD) (t s : Fin cfg0.N) (hs : t.val = s.val + 1) (h : Fin 8) (l x : Fin 128) :
    gsB m c t h (ix3 0 l x) = (outsAt0 m c s.val s.isLt).2 (ix3 h l x) := by
  unfold gsB
  refine Eq.trans (plane _ h.val h.isLt le_rfl le_rfl l x) ?_
  refine Eq.trans (congrFun ((Memref.isWhole_whole cc0_scratch0).read_unread _) _) ?_
  have e : t.val - 1 = s.val := by omega
  simp only [e]

theorem carries {c : Dev nD} (A : Args m c X C) : ∀ (k : ℕ) (hk : k < cfg0.N), Carries X C (blockOf ⟨k, hk⟩) (gsAt m c ⟨k, hk⟩)
  | 0, hk => fun h l x => by
    have e : (headOf X C eps h).re 512 8 (blockOf ⟨0, hk⟩) (l.val % 64) x.val = 0 := Re_last _ _ _ _ rfl
    rw [e, ite_self]
    rfl
  | k + 1, hk => fun h l x => by
    have hN : k + 1 < 8 := hk
    have hk' : k < cfg0.N := by omega
    have e : gsAt m c ⟨k + 1, hk⟩ = gsB m c ⟨k + 1, hk⟩ := if_neg (by show ¬ (k + 1) % 8 = 0; omega)
    rw [e]
    refine (gsB_at m c ⟨k + 1, hk⟩ ⟨k, hk'⟩ rfl h l x).trans ?_
    refine (out_at m c ⟨k, hk'⟩ h l x).trans ?_
    exact (head_is m A ⟨k, hk'⟩ h h.isLt _ (carries A k hk' h)).gs_eq (blockOf ⟨k, hk'⟩).isLt _ (by show 7 - k = 7 - (k + 1) + 1; omega) l x

end Cert.RetKernelIdeal.Value
-- ==== Proof.RetCols.lean ====
/-
  The retention's backward kernel over the reals: the columns each point stores, and the projection's gradient after the run.
-/
module

public import proofs.«01_k».proof.Proof.RetCarry

@[expose] public section

set_option maxRecDepth 16384

noncomputable section

open Idealize.ShloMosaic Idealize.ShloMosaic.TcCoe Idealize.SL.Sem

namespace Cert.RetMath

variable (X C : ℕ → ℕ → ℝ) (ε : ℝ) (n : ℕ)

def dqCol (c : ℕ) : ℝ := (headOf X C ε (c / 64)).dq n (c % 64) * (1 / 8)
def dkCol (c : ℕ) : ℝ := (headOf X C ε (c / 64 - 8)).dk n (c % 64)

theorem gradOf_q (j l : ℕ) (hj : j < 4) (hl : l < 128) : gradOf X C ε n (128 * j + l) = rotT (dqCol X C ε n) n (128 * j + l) :=
  if_pos (by omega)
theorem gradOf_k (j l : ℕ) (hj : j < 4) (hl : l < 128) : gradOf X C ε n (128 * (4 + j) + l) = rotT (dkCol X C ε n) n (128 * (4 + j) + l) := by
  unfold gradOf
  rw [if_neg (by omega), if_pos (by omega)]
  rfl
theorem gradOf_v (h l : ℕ) (hh : h < 8) (hl : l < 128) : gradOf X C ε n (128 * (8 + h) + l) = (headOf X C ε h).dv n l := by
  unfold gradOf
  rw [if_neg (by omega), if_neg (by omega), if_pos (by omega), show (128 * (8 + h) + l - 1024) / 128 = h by omega, show (128 * (8 + h) + l - 1024) % 128 = l by omega]
theorem gradOf_g (h l : ℕ) (hh : h < 8) (hl : l < 128) : gradOf X C ε n (128 * (16 + h) + l) = (headOf X C ε h).dg n l := by
  unfold gradOf
  rw [if_neg (by omega), if_neg (by omega), if_neg (by omega), if_pos (by omega), show (128 * (16 + h) + l - 2048) / 128 = h by omega,
    show (128 * (16 + h) + l - 2048) % 128 = l by omega]
theorem gradOf_rest (c : ℕ) (hc : 3072 ≤ c) : gradOf X C ε n c = 0 := by
  unfold gradOf
  rw [if_neg (by omega), if_neg (by omega), if_neg (by omega), if_neg (by omega)]

end Cert.RetMath

namespace Cert.RetKernelIdeal.Value

open Cert.RetKernelIdeal Cert.RetKernelIdeal.Gen Cert.RetMath

variable {X C : ℕ → ℕ → ℝ} (m : (ℓ : Loc nD τ sig) → Buf (Elt Ideal) ℓ)

/-- Row `r` of the pieces' contents is `W` on the groups of 128 columns listed. -/
def On (L : List (View.Piece (Elt Ideal) S512x3072 .bf16)) (r : Fin 512) (W : ℕ → ℝ) (ks : List ℕ) : Prop :=
  ∀ y : Fin 3072, y.val / 128 ∈ ks → @Eq EReal (View.canon L (ix2 r y)) (W y : ℝ)

theorem On.cons {L : List (View.Piece (Elt Ideal) S512x3072 .bf16)} {r : Fin 512} {W : ℕ → ℝ} {ks : List ℕ} (hL : On L r W ks) (k : ℕ) {o : ℕ} (ho : o = 128 * k)
    (inb : ∀ i, (![0, o] : Fin 2 → ℕ) i + (![512, 128] : Fin 2 → ℕ) i ≤ S512x3072.size i) (w : FVec Ideal S512x128 .bf16)
    (hw : ∀ l : Fin 128, @Eq EReal (w (ix2 r l)) (W (128 * k + l) : ℝ)) :
    On ((⟨Rect.unit ![0, o] ![512, 128] inb, w⟩ : View.Piece (Elt Ideal) S512x3072 .bf16) :: L) r W (k :: ks) := by
  subst ho
  intro y hy
  by_cases e : y.val / 128 = k
  · refine Eq.trans (Pieces.canon_mem inb w L (ix2 r y) (ix2 r ⟨y.val % 128, Nat.mod_lt _ (by norm_num)⟩) fun a => ?_) ?_
    · fin_cases a
      · simp [ix2]
      · show y.val = 128 * k + y.val % 128
        omega
    · refine (hw _).trans ?_
      show ((W (128 * k + y.val % 128) : ℝ) : EReal) = _
      rw [show 128 * k + y.val % 128 = y.val by omega]
  · refine Eq.trans (Pieces.canon_not_mem inb w L (ix2 r y) 1 ?_) (hL y ((List.mem_cons.mp hy).resolve_left e))
    show y.val < 128 * k ∨ 128 * k + 128 ≤ y.val
    omega

/-- Rotating a pair's lanes back. -/
theorem back_at (c : Dev nD) (t : Fin cfg0.N) (Y : FVec Ideal S512x128 .f32) (y : ℕ → ℝ) (k : ℕ) (r : Fin 512)
    (hY : ∀ l : Fin 128, @Eq EReal (Y (ix2 r l)) (y (128 * k + l) : ℝ)) (l : Fin 128) :
    @Eq EReal (k0_pay2 (blockAt m c t).cos (blockAt m c t).sinl (blockAt m c t).sinh Y (ix2 r l)) (rotT y ((blockOf t).val * 512 + r) (128 * k + l) : ℝ) := by
  have h96 : (l.val + 128 - 32) % 128 = (l.val + 96) % 128 := by omega
  have h32 : (l.val + 128 - 96) % 128 = (l.val + 32) % 128 := by omega
  pointwise [k0_pay2]
  refine Eq.trans (congrArg₂ (fun a b : EReal => a + b) (congrArg₂ (fun a b : EReal => a + b)
    (congrArg₂ (fun a b : EReal => a * b) (hY l) (cos_at m c t r l))
    (congrArg₂ (fun a b : EReal => a * b) (hY ⟨(l.val + 128 - 32) % 128, Nat.mod_lt _ (by norm_num)⟩) (sinl_at m c t r ⟨(l.val + 128 - 32) % 128, Nat.mod_lt _ (by norm_num)⟩)))
    (congrArg₂ (fun a b : EReal => a * b) (hY ⟨(l.val + 128 - 96) % 128, Nat.mod_lt _ (by norm_num)⟩) (sinh_at m c t r ⟨(l.val + 128 - 96) % 128, Nat.mod_lt _ (by norm_num)⟩))) ?_
  simp only [h96, h32, ← EReal.coe_mul, ← EReal.coe_add]
  rw [rotT_lane y _ _ _ (by omega) l.isLt]

attribute [local irreducible] iblk X0_1 outsAt0

theorem pay10_at (r : Fin 512) (l : Fin 128) : @Eq EReal (k0_pay10 (F := Ideal) (ix2 r l)) 0 := by
  pointwise [k0_pay10]

/-- One pair's columns. -/
theorem pair_on {c : Dev nD} (A : Args m c X C) (t : Fin cfg0.N) (gs : Fin 8 → Vec Ideal S1x128x128 .f32) (hgs : Carries X C (blockOf t) gs) (j : ℕ) (hj : j < 4)
    (r : Fin 512) (L : List (View.Piece (Elt Ideal) S512x3072 .bf16)) (ks : List ℕ) (hL : On L r (gradOf X C eps ((blockOf t).val * 512 + r)) ks) :
    On ((blockAt m c t).pair j hj (gs ⟨2 * j, by omega⟩) (gs ⟨2 * j + 1, by omega⟩) L) r (gradOf X C eps ((blockOf t).val * 512 + r))
      ((4 + j) :: j :: (16 + (2 * j + 1)) :: (8 + (2 * j + 1)) :: (16 + 2 * j) :: (8 + 2 * j) :: ks) := by
  have hb := (blockOf t).isLt
  have h0 := head_is m A t (2 * j) (by omega) _ (hgs ⟨2 * j, by omega⟩)
  have h1 := head_is m A t (2 * j + 1) (by omega) _ (hgs ⟨2 * j + 1, by omega⟩)
  unfold Block.pair
  refine On.cons (On.cons (On.cons (On.cons (On.cons (On.cons hL _ (by omega) _ _ fun l => ?_) _ (by omega) _ _ fun l => ?_) _ (by omega) _ _ fun l => ?_) _ (by omega) _ _ fun l => ?_)
    _ (by omega) _ _ fun l => ?_) _ (by omega) _ _ fun l => ?_
  · rw [gradOf_v _ _ _ _ _ _ (by omega) l.isLt]; exact h0.dv_eq hb r l
  · rw [gradOf_g _ _ _ _ _ _ (by omega) l.isLt]
    refine Eq.trans ?_ (h0.dg hb r l)
    unfold HeadV.dgb; pointwise [k0_pay39]
  · rw [gradOf_v _ _ _ _ _ _ (by omega) l.isLt]; exact h1.dv_eq hb r l
  · rw [gradOf_g _ _ _ _ _ _ (by omega) l.isLt]
    refine Eq.trans ?_ (h1.dg hb r l)
    unfold HeadV.dgb; pointwise [k0_pay39]
  · rw [gradOf_q _ _ _ _ _ _ hj l.isLt]
    refine back_at m c t _ _ j r (fun l => ?_) l
    refine (h1.dq_eq hb _ r l).trans ?_
    rw [h0.dq_eq hb, pay10_at, zero_add, ← EReal.coe_add]
    refine congrArg _ ?_
    unfold dqCol
    rcases (by omega : l.val / 64 = 0 ∨ l.val / 64 = 1) with e | e
    · rw [if_pos (by omega), if_neg (by omega), add_zero, show (128 * j + l.val) / 64 = 2 * j by omega, show (128 * j + l.val) % 64 = l.val % 64 by omega]
    · rw [if_neg (by omega), if_pos (by omega), zero_add, show (128 * j + l.val) / 64 = 2 * j + 1 by omega, show (128 * j + l.val) % 64 = l.val % 64 by omega]
  · rw [gradOf_k _ _ _ _ _ _ hj l.isLt]
    refine back_at m c t _ _ (4 + j) r (fun l => ?_) l
    refine (h1.dk_eq hb _ r l).trans ?_
    rw [h0.dk_eq hb, pay10_at, zero_add, ← EReal.coe_add]
    refine congrArg _ ?_
    unfold dkCol
    rcases (by omega : l.val / 64 = 0 ∨ l.val / 64 = 1) with e | e
    · rw [if_pos (by omega), if_neg (by omega), add_zero, show (128 * (4 + j) + l.val) / 64 - 8 = 2 * j by omega, show (128 * (4 + j) + l.val) % 64 = l.val % 64 by omega]
    · rw [if_neg (by omega), if_pos (by omega), zero_add, show (128 * (4 + j) + l.val) / 64 - 8 = 2 * j + 1 by omega,
        show (128 * (4 + j) + l.val) % 64 = l.val % 64 by omega]

theorem stored_on {c : Dev nD} (A : Args m c X C) (t : Fin cfg0.N) (r : Fin 512) (y : Fin 3072) :
    @Eq EReal (View.canon ((blockAt m c t).stored (gsAt m c t)) (ix2 r y)) (gradOf X C eps ((blockOf t).val * 512 + r) y : ℝ) := by
  have hc := carries m A t.val t.isLt
  unfold Block.stored
  refine pair_on m A t _ hc 3 _ r _ _ (pair_on m A t _ hc 2 _ r _ _ (pair_on m A t _ hc 1 _ r _ _ (pair_on m A t _ hc 0 _ r _ [] fun y hy => absurd hy List.not_mem_nil))) y ?_
  have h : y.val / 128 < 24 := by omega
  generalize y.val / 128 = k at h
  interval_cases k <;> decide

/-- What a point leaves in its block of the gradient. -/
theorem out_col {c : Dev nD} (A : Args m c X C) (t : Fin cfg0.N) (r : Fin 512) (y : Fin 3072) :
    @Eq EReal ((outsAt0 m c t.val t.isLt).1 (ix2 r y)) (gradOf X C eps ((blockOf t).val * 512 + r) y : ℝ) := by
  refine Eq.trans ?_ (stored_on m A t r y)
  unfold gsAt
  split_ifs with h0
  · rw [stored_A m c t h0]
  · rw [stored_B m c t h0]

/-- The gradient as an array. -/
def gradArr (X C : ℕ → ℕ → ℝ) : S4096x8192.Idx → EReal := fun i => (gradOf X C eps (i 0).val (i 1).val : ℝ)

theorem emb9_row (t : Fin cfg0.N) (y : ((cfg0.win 9).xblock (cfg0.grid.coords t)).Idx) :
    (((cfg0.win 9).blk t).view.emb y (0 : Fin 2)).val = (blockOf t).val * 512 + (y (0 : Fin 2)).val := by
  refine ((cfg0.win 9).rect_emb_val t y (0 : Fin 2)).trans ?_
  rw [idx9 t]
  rfl

theorem emb9_col (t : Fin cfg0.N) (y : ((cfg0.win 9).xblock (cfg0.grid.coords t)).Idx) :
    (((cfg0.win 9).blk t).view.emb y (1 : Fin 2)).val = (y (1 : Fin 2)).val := by
  refine ((cfg0.win 9).rect_emb_val t y (1 : Fin 2)).trans ?_
  rw [idx9 t]
  show 0 * 3072 + (y (1 : Fin 2)).val = (y (1 : Fin 2)).val
  rw [Nat.zero_mul, Nat.zero_add]

theorem xinj9 (t : Fin cfg0.N) (y : ((cfg0.win 9).xblock (cfg0.grid.coords t)).Idx) :
    ∃ (r : Fin 512) (l : Fin 3072), (cfg0.win 9).xinj (cfg0.grid.coords t) y = ix2 r l ∧ (y (0 : Fin 2)).val = r.val ∧ (y (1 : Fin 2)).val = l.val :=
  ⟨(cfg0.win 9).xinj (cfg0.grid.coords t) y (0 : Fin 2), (cfg0.win 9).xinj (cfg0.grid.coords t) y (1 : Fin 2), by funext a; fin_cases a <;> rfl, rfl, rfl⟩

theorem covers9 : (cfg0.win 9).CoversWhere (fun β => β (1 : Fin 2) < 1) := by decide +kernel

theorem written {c : Dev nD} (A : Args m c X C) (t : Fin cfg0.N) (y : ((cfg0.win 9).xblock (cfg0.grid.coords t)).Idx) :
    @Eq EReal ((outsAt0 m c t.val t.isLt).1 ((cfg0.win 9).xinj (cfg0.grid.coords t) y)) (gradArr X C (((cfg0.win 9).blk t).view.emb y)) := by
  obtain ⟨r, l, e, e0, e1⟩ := xinj9 t y
  rw [e, out_col m A t r l]
  show _ = ((gradOf X C eps (((cfg0.win 9).blk t).view.emb y (0 : Fin 2)).val (((cfg0.win 9).blk t).view.emb y (1 : Fin 2)).val : ℝ) : EReal)
  rw [emb9_row, emb9_col, e0, e1]

/-- The projection's gradient after the run. -/
theorem final {c : Dev nD} (A : Args m c X C) : (dats m 0 c).arrAt 9 cfg0.N = (gradArr X C : S4096x8192.Idx → Elt Ideal .bf16) := by
  refine (dats m 0 c).arrAt_eq_of_coversWhere_of_agree 9 _ _ covers9 (fun t hf y => ?_) (fun j hj => ?_)
  · rw [after0_9]
    exact written m A t y
  · have h : ¬ (j (1 : Fin 2)).val / 3072 < 1 := hj
    rw [A_eq]
    refine Eq.trans (congrArg (V m c main_v184) (?_ : _ = ix2 (j (0 : Fin 2) : Fin 4096) (j (1 : Fin 2) : Fin 8192))) ?_
    · funext a; fin_cases a <;> rfl
    refine (V_out m c (j (0 : Fin 2)) (j (1 : Fin 2))).trans ?_
    show _ = ((gradOf X C eps (j (0 : Fin 2)).val (j (1 : Fin 2)).val : ℝ) : EReal)
    rw [gradOf_rest _ _ _ _ _ (by omega)]
    rfl

end Cert.RetKernelIdeal.Value
-- ==== Proof.RetEq.lean ====
/-
  The retention's backward pass: the reference's two loops put together, and the claim that the results agree.
-/
module

public import proofs.«01_k».proof.Proof.RetRead5
public import proofs.«01_k».proof.Proof.RetCols
public import proofs.«01_k».proof.Proof.Gen.Pre_ret_finite
public import proofs.«01_k».proof.Defs
public import Idealize.ShloMosaic.Lib.Quiescent

@[expose] public section

set_option maxRecDepth 16384

noncomputable section

open Idealize.ShloMosaic Idealize.ShloMosaic.TcCoe Idealize.SL.Sem

namespace Cert.RetReferenceIdeal.Reading

open Cert.RetReferenceIdeal Cert.RetReferenceIdeal.Gen Cert.RetReferenceIdeal.Lists Cert.RetMath
open Cert.RetKernelIdeal.Value (eps)

variable {X C : ℕ → ℕ → ℝ}
variable (m : (ℓ : Loc nD τ sig) → Buf (Elt Ideal) ℓ)

/-- The reference's result. -/
theorem result (c : Dev nD) (G : Given X C (StableHlo.launchContents m c)) (n : Fin 4096) (l : Fin 8192) :
    rd (S := S4096x8192) (TwoLoops.atEnd Runs.loop0 Runs.loop1 preI midI postI m c (Proc.tc.devRef main_v260)) (ix2 n l) = (gradOf X C eps n l : ℝ) := by
  have E7 := entry (base _ G)
  generalize h7 : StableHlo.after s7 (StableHlo.after s6 (StableHlo.after s5 (start (StableHlo.launchContents m c)))) = V7 at E7
  have E8 : Entry X C (StableHlo.after s8 V7) := E7.keep (Same.after s8_writes (by decide +kernel) _)
  have w1 : Runs.W1 m c = StableHlo.after s8 V7 := by rw [← h7]; rfl
  have hkv (N : Fin 64) (h : Fin 8) (d : Fin 64) (e : Fin 128) : rd (S := S64x8x64x128) (Runs.W1 m c (Proc.tc.devRef main_v114_0)) (ix4 N h d e) =
      (∑ j ∈ Finset.range 64, Real.exp (lg h * ((64 : ℝ) - j)) * ((headOf X C eps h).k (N * 64 + j) d * (headOf X C eps h).v (N * 64 + j) e) : ℝ) := by
    rw [w1]
    refine Eq.trans ?_ (E7.kv N h d e)
    unfold rd
    after_results
    rfl
  have hcd (h : Fin 8) : rd (S := S8x1x1) (Runs.W1 m c (Proc.tc.devRef main_v114_1)) (ix3 h 0 0) = (Real.exp (lg h * 64) : ℝ) := by
    rw [w1]
    refine Eq.trans ?_ (E7.cd h)
    unfold rd
    after_results
    rfl
  have h0 (h : Fin 8) (d : Fin 64) (e : Fin 128) : rd (S := S8x64x128) (Runs.W1 m c (Proc.tc.devRef main_v114_3)) (ix3 h d e) = ((0 : ℝ) : EReal) := by
    rw [w1]
    unfold rd
    after_results
    simp only [id]
    pointwise
    exact EReal.coe_zero.symm
  have St := (states (X := X) (C := C) (Runs.W1 m) c (Runs.zero0 m c) hkv hcd h0 64 le_rfl).2
  have k0 (r : Ref sig .tc) (h : r ∉ c0_W ++ b0_0_W ++ b0_1_W ++ b0_2_W ++ b0_3_W) : Runs.W2 m c (Proc.tc.devRef r) = StableHlo.after s8 V7 (Proc.tc.devRef r) := by
    rw [← w1]
    exact (StableHlo.after_of_writes_sub c0 _ c0_writes (by simp only [List.mem_append, not_or] at h; exact h.1.1.1.1)).trans (at0_keep _ c r h 64)
  have E2 : Entry X C (Runs.W2 m c) := E8.keep fun r h => k0 r ((by decide +kernel : ∀ r ∈ entryR, r ∉ c0_W ++ b0_0_W ++ b0_1_W ++ b0_2_W ++ b0_3_W) r h)
  have S2 : Sts X C (Runs.W2 m c) := fun N h d e =>
    (congrFun (StableHlo.after_of_writes_sub (r := main_v114_4) c0 _ c0_writes (by decide +kernel)) _).trans (St N h d e N.isLt)
  obtain ⟨M3, hx, hcd1, h1⟩ := between E2 S2
  have Re := (carries (X := X) (C := C) (Runs.W3 m) c (Runs.zero1 m c) hx hcd1 h1 64 le_rfl).2
  have k1 (r : Ref sig .tc) (h : r ∉ c1_W ++ b1_0_W ++ b1_1_W ++ b1_2_W ++ b1_3_W ++ b1_4_W) : Runs.W4 m c (Proc.tc.devRef r) = Runs.W3 m c (Proc.tc.devRef r) :=
    (StableHlo.after_of_writes_sub c1 _ c1_writes (by simp only [List.mem_append, not_or] at h; exact h.1.1.1.1.1)).trans (at1_keep _ c r h 64)
  have M4 : Mid X C (Runs.W4 m c) := M3.keep fun r h => k1 r ((by decide +kernel : ∀ r ∈ midR, r ∉ c1_W ++ b1_0_W ++ b1_1_W ++ b1_2_W ++ b1_3_W ++ b1_4_W) r h)
  have R4 : Res X C (Runs.W4 m c) := fun N h d e =>
    (congrFun (StableHlo.after_of_writes_sub (r := main_v193_4) c1 _ c1_writes (by decide +kernel)) _).trans (Re N h d e (by omega))
  exact finish M4 R4 n l

end Cert.RetReferenceIdeal.Reading

namespace Cert.RetEq

open Cert.RetMath
open Cert.RetKernelIdeal.Value (eps gradArr)

/-- A number below infinity is a real. -/
theorem real_of_below {x : EReal} (h : FloatOps.cmpf (F := Ideal) (φ := .f32) .olt (FloatOps.absf (F := Ideal) (φ := .f32) x) (FloatOps.ofBits .f32 0x7F800000#32) = 1#1) : x = (x.toReal : ℝ) := by
  induction x with
  | coe r => rfl
  | bot => simp [FloatOps.cmpf, FloatOps.absf, FloatOps.ofBits, Ideal.ofBits, Ideal.ieee, Ideal.cmp] at h
  | top => simp [FloatOps.cmpf, FloatOps.absf, FloatOps.ofBits, Ideal.ofBits, Ideal.ieee, Ideal.cmp] at h

/-- The arguments as real arrays. -/
abbrev arr {a b : ℕ} (ha : 0 < a) (hb : 0 < b) (x : (⟨2, ![a, b]⟩ : Shape).Idx → EReal) (n l : ℕ) : ℝ :=
  (x (ix2 ⟨n % a, Nat.mod_lt _ ha⟩ ⟨l % b, Nat.mod_lt _ hb⟩)).toReal

theorem arr_at {a b : ℕ} {ha : 0 < a} {hb : 0 < b} {x : (⟨2, ![a, b]⟩ : Shape).Idx → EReal} (h : ∀ i, x i = ((x i).toReal : ℝ)) (n : Fin a) (l : Fin b) :
    x (ix2 n l) = (arr ha hb x n l : ℝ) := by
  unfold arr
  simp only [Nat.mod_eq_of_lt n.isLt, Nat.mod_eq_of_lt l.isLt]
  exact h _

theorem pre_real {x : Cert.Pre_ret_finite.S4096x1024.Idx → EReal} {y : Cert.Pre_ret_finite.S4096x8192.Idx → EReal}
    (h : (Cert.Pre_ret_finite.fn (F := Ideal) x y).1 = (fun _ => 1#1) ∧ (Cert.Pre_ret_finite.fn (F := Ideal) x y).2 = (fun _ => 1#1)) :
    (∀ i, x i = ((x i).toReal : ℝ)) ∧ ∀ i, y i = ((y i).toReal : ℝ) :=
  ⟨fun i => real_of_below (congrFun h.1 i), fun i => real_of_below (congrFun h.2 i)⟩

/-- The claim. -/
theorem value : Cert.algebraic_RetKernelIdeal_RetReferenceIdeal_pre_ret_finite
    (hRetKernelIdeal := Cert.RetKernelIdeal.Gen.facts) (hRetReferenceIdeal := Cert.RetReferenceIdeal.Gen.facts)
    (hPre_ret_finite := Cert.Pre_ret_finite.Gen.facts) := by
  intro m g m' g' hpre hargs
  have real (c) := pre_real (hpre c)
  refine ⟨fun c => (gradArr (arr (by norm_num) (by norm_num) (m ((c.tc : Thread Cert.RetKernelIdeal.nD Cert.RetKernelIdeal.τ).loc Cert.RetKernelIdeal.main_arg1)))
      (arr (by norm_num) (by norm_num) (m ((c.tc : Thread Cert.RetKernelIdeal.nD Cert.RetKernelIdeal.τ).loc Cert.RetKernelIdeal.main_arg0))) : Cert.RetKernelIdeal.S4096x8192.Idx → EReal),
    (θ_run _ _ _).mono (fun r h c => ?_) (Cert.RetKernelIdeal.Value.run_blocks m g), (θ_run _ _ _).mono (fun r h c => ?_) (Cert.RetReferenceIdeal.Runs.run m' g')⟩
  · obtain ⟨hr, hk⟩ := h c
    refine ⟨hr.trans (Cert.RetKernelIdeal.Value.final m ⟨fun n l => ?_, fun n l => ?_⟩), hk⟩
    · rw [Cert.RetKernelIdeal.Gen.V_main_arg1]
      exact arr_at (real c).2 n l
    · rw [Cert.RetKernelIdeal.Gen.V_main_arg0]
      exact arr_at (real c).1 n l
  · obtain ⟨hr, hk⟩ := h c
    refine ⟨hr.trans (funext fun i => ?_), hk⟩
    obtain ⟨n, l, rfl⟩ : ∃ n l, i = ix2 n l := ⟨i 0, i 1, by funext a; fin_cases a <;> rfl⟩
    refine Cert.RetReferenceIdeal.Reading.result m' c ⟨fun n l => ?_, fun n l => ?_⟩ n l
    · exact (congrFun (hargs c).2 _).trans (arr_at (real c).2 n l)
    · exact (congrFun (hargs c).1 _).trans (arr_at (real c).1 n l)

/-- The reference runs, leaves its arguments, and declares no semaphore. -/
theorem frame_ref : Cert.quiescent_RetReferenceIdeal (hRetReferenceIdeal := Cert.RetReferenceIdeal.Gen.facts) :=
  fun m ρ _ => (θ_run Cert.RetReferenceIdeal.defs _ _).mono
    (fun r h => ⟨fun c => (h c).2, sem_eq_zero_of_no_sems (by decide) r.2⟩) (Cert.RetReferenceIdeal.Runs.run m ρ)

end Cert.RetEq

end
-- ==== Proof.RetFwdLists.lean ====
/-
The reference of the retention's forward pass as lists of host operations: the stretches of @main before and
after its loop, the loop's body and its condition, each with the buffers it writes. @main and the
loop's body are the chains of these stretches.
-/
module

public import proofs.«01_k».proof.Proof.Gen.RetFwdReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.RetFwdReferenceIdeal.Lists

open Idealize.ShloMosaic Idealize.ShloMosaic.TcCoe
open Idealize.SL.Sem
open Cert.RetFwdReferenceIdeal Cert.RetFwdReferenceIdeal.Gen

variable {F : FTy → Type} [FloatOps F]

set_option maxHeartbeats 40000000 in
/-- From `main_v0` to `main_v35`. -/
abbrev s0 : List (HloOp τ sig (Elt F)) :=
  [ StableHlo.unary main_arg0 main_v0 ((extractStridedSlice S4096x512 ![0, 0] · slices_S4096x8192_S4096x512_0_0) : (⟨S4096x8192, .f32⟩ : BufTy).Contents (Elt F) → (⟨S4096x512, .f32⟩ : BufTy).Contents (Elt F)),
    StableHlo.unary main_arg0 main_v1 ((extractStridedSlice S4096x512 ![0, 512] · slices_S4096x8192_S4096x512_0_512) : (⟨S4096x8192, .f32⟩ : BufTy).Contents (Elt F) → (⟨S4096x512, .f32⟩ : BufTy).Contents (Elt F)),
    StableHlo.unary main_arg0 main_v2 ((extractStridedSlice S4096x1024 ![0, 1024] · slices_S4096x8192_S4096x1024_0_1024) : (⟨S4096x8192, .f32⟩ : BufTy).Contents (Elt F) → (⟨S4096x1024, .f32⟩ : BufTy).Contents (Elt F)),
    StableHlo.unary main_arg0 main_v3 ((extractStridedSlice S4096x1024 ![0, 2048] · slices_S4096x8192_S4096x1024_0_2048) : (⟨S4096x8192, .f32⟩ : BufTy).Contents (Elt F) → (⟨S4096x1024, .f32⟩ : BufTy).Contents (Elt F)),
    StableHlo.nullary main_v4 (sitofp .f32 (iotaInDim S4096 32 0)),
    StableHlo.reshape main_v0 main_v5 (rfl : (.f32 : EltTy) = .f32) shapeCasts_S4096x512_S4096x8x64,
    StableHlo.nullary main_v6 (sitofp .f32 (iotaInDim S32 32 0)),
    StableHlo.unary main_v6 main_v7 (Host.negf : (⟨S32, .f32⟩ : BufTy).Contents (Elt F) → (⟨S32, .f32⟩ : BufTy).Contents (Elt F)),
    StableHlo.nullary main_cst (constant S_ .f32 0x42000000#32),
    StableHlo.unary main_cst main_v8 (broadcastInDim S32 ![] bcast_S_S32 : (⟨S_, .f32⟩ : BufTy).Contents (Elt F) → (⟨S32, .f32⟩ : BufTy).Contents (Elt F)),
    StableHlo.binary main_v7 main_v8 main_v9 (Host.divf : (⟨S32, .f32⟩ : BufTy).Contents (Elt F) → (⟨S32, .f32⟩ : BufTy).Contents (Elt F) → (⟨S32, .f32⟩ : BufTy).Contents (Elt F)),
    StableHlo.nullary main_cst_0 (constant S_ .f32 0x461C4000#32),
    StableHlo.unary main_cst_0 main_v10 (broadcastInDim S32 ![] bcast_S_S32 : (⟨S_, .f32⟩ : BufTy).Contents (Elt F) → (⟨S32, .f32⟩ : BufTy).Contents (Elt F)),
    StableHlo.binary main_v10 main_v9 main_v11 (Host.powf : (⟨S32, .f32⟩ : BufTy).Contents (Elt F) → (⟨S32, .f32⟩ : BufTy).Contents (Elt F) → (⟨S32, .f32⟩ : BufTy).Contents (Elt F)),
    StableHlo.unary main_v4 main_v12 (broadcastInDim S4096x1 ![0] bcast_S4096_S4096x1_0 : (⟨S4096, .f32⟩ : BufTy).Contents (Elt F) → (⟨S4096x1, .f32⟩ : BufTy).Contents (Elt F)),
    StableHlo.unary main_v11 main_v13 (broadcastInDim S1x32 ![1] bcast_S32_S1x32_1 : (⟨S32, .f32⟩ : BufTy).Contents (Elt F) → (⟨S1x32, .f32⟩ : BufTy).Contents (Elt F)),
    StableHlo.unary main_v12 main_v14 (broadcastInDim S4096x32 ![0, 1] bcast_S4096x1_S4096x32_0_1 : (⟨S4096x1, .f32⟩ : BufTy).Contents (Elt F) → (⟨S4096x32, .f32⟩ : BufTy).Contents (Elt F)),
    StableHlo.unary main_v13 main_v15 (broadcastInDim S4096x32 ![0, 1] bcast_S1x32_S4096x32_0_1 : (⟨S1x32, .f32⟩ : BufTy).Contents (Elt F) → (⟨S4096x32, .f32⟩ : BufTy).Contents (Elt F)),
    StableHlo.binary main_v14 main_v15 main_v16 (mulf : (⟨S4096x32, .f32⟩ : BufTy).Contents (Elt F) → (⟨S4096x32, .f32⟩ : BufTy).Contents (Elt F) → (⟨S4096x32, .f32⟩ : BufTy).Contents (Elt F)),
    StableHlo.unary main_v16 main_v17 (Host.cos : (⟨S4096x32, .f32⟩ : BufTy).Contents (Elt F) → (⟨S4096x32, .f32⟩ : BufTy).Contents (Elt F)),
    StableHlo.unary main_v17 main_v18 (broadcastInDim S4096x1x32 ![0, 2] bcast_S4096x32_S4096x1x32_0_2 : (⟨S4096x32, .f32⟩ : BufTy).Contents (Elt F) → (⟨S4096x1x32, .f32⟩ : BufTy).Contents (Elt F)),
    StableHlo.unary main_v16 main_v19 (Host.sin : (⟨S4096x32, .f32⟩ : BufTy).Contents (Elt F) → (⟨S4096x32, .f32⟩ : BufTy).Contents (Elt F)),
    StableHlo.unary main_v19 main_v20 (broadcastInDim S4096x1x32 ![0, 2] bcast_S4096x32_S4096x1x32_0_2 : (⟨S4096x32, .f32⟩ : BufTy).Contents (Elt F) → (⟨S4096x1x32, .f32⟩ : BufTy).Contents (Elt F)),
    StableHlo.unary main_v5 main_v21 ((extractStridedSlice S4096x8x32 ![0, 0, 0] · slices_S4096x8x64_S4096x8x32_0_0_0) : (⟨S4096x8x64, .f32⟩ : BufTy).Contents (Elt F) → (⟨S4096x8x32, .f32⟩ : BufTy).Contents (Elt F)),
    StableHlo.unary main_v5 main_v22 ((extractStridedSlice S4096x8x32 ![0, 0, 32] · slices_S4096x8x64_S4096x8x32_0_0_32) : (⟨S4096x8x64, .f32⟩ : BufTy).Contents (Elt F) → (⟨S4096x8x32, .f32⟩ : BufTy).Contents (Elt F)),
    StableHlo.unary main_v18 main_v23 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v21 main_v23 main_v24 (mulf : (⟨S4096x8x32, .f32⟩ : BufTy).Contents (Elt F) → (⟨S4096x8x32, .f32⟩ : BufTy).Contents (Elt F) → (⟨S4096x8x32, .f32⟩ : BufTy).Contents (Elt F)),
    StableHlo.unary main_v20 main_v25 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v22 main_v25 main_v26 (mulf : (⟨S4096x8x32, .f32⟩ : BufTy).Contents (Elt F) → (⟨S4096x8x32, .f32⟩ : BufTy).Contents (Elt F) → (⟨S4096x8x32, .f32⟩ : BufTy).Contents (Elt F)),
    StableHlo.binary main_v24 main_v26 main_v27 (subf : (⟨S4096x8x32, .f32⟩ : BufTy).Contents (Elt F) → (⟨S4096x8x32, .f32⟩ : BufTy).Contents (Elt F) → (⟨S4096x8x32, .f32⟩ : BufTy).Contents (Elt F)),
    StableHlo.unary main_v20 main_v28 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v21 main_v28 main_v29 (mulf : (⟨S4096x8x32, .f32⟩ : BufTy).Contents (Elt F) → (⟨S4096x8x32, .f32⟩ : BufTy).Contents (Elt F) → (⟨S4096x8x32, .f32⟩ : BufTy).Contents (Elt F)),
    StableHlo.unary main_v18 main_v30 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v22 main_v30 main_v31 (mulf : (⟨S4096x8x32, .f32⟩ : BufTy).Contents (Elt F) → (⟨S4096x8x32, .f32⟩ : BufTy).Contents (Elt F) → (⟨S4096x8x32, .f32⟩ : BufTy).Contents (Elt F)),
    StableHlo.binary main_v29 main_v31 main_v32 (addf : (⟨S4096x8x32, .f32⟩ : BufTy).Contents (Elt F) → (⟨S4096x8x32, .f32⟩ : BufTy).Contents (Elt F) → (⟨S4096x8x32, .f32⟩ : BufTy).Contents (Elt F)),
    StableHlo.binary main_v27 main_v32 main_v33 ((fun a b => concatenate S4096x8x64 2 [⟨S4096x8x32, a⟩, ⟨S4096x8x32, b⟩] concatenates_S4096x8x32_S4096x8x32_S4096x8x64_d2) : (⟨S4096x8x32, .f32⟩ : BufTy).Contents (Elt F) → (⟨S4096x8x32, .f32⟩ : BufTy).Contents (Elt F) → (⟨S4096x8x64, .f32⟩ : BufTy).Contents (Elt F)),
    StableHlo.nullary main_cst_1 (constant S_ .f32 0x3E000000#32),
    StableHlo.unary main_cst_1 main_v34 (broadcastInDim S4096x8x64 ![] bcast_S_S4096x8x64 : (⟨S_, .f32⟩ : BufTy).Contents (Elt F) → (⟨S4096x8x64, .f32⟩ : BufTy).Contents (Elt F)),
    StableHlo.binary main_v33 main_v34 main_v35 (mulf : (⟨S4096x8x64, .f32⟩ : BufTy).Contents (Elt F) → (⟨S4096x8x64, .f32⟩ : BufTy).Contents (Elt F) → (⟨S4096x8x64, .f32⟩ : BufTy).Contents (Elt F)) ]
set_option maxHeartbeats 40000000 in
theorem s0_sub : (s0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩
set_option maxHeartbeats 40000000 in
theorem s0_fresh : (s0 : List (HloOp τ sig (Elt F))).Forall fun op => op.fresh = ∅ :=
  StableHlo.forall_fresh_of_map rfl
abbrev s0_W : List (Ref sig .tc) := [main_v0, main_v1, main_v2, main_v3, main_v4, main_v5, main_v6, main_v7, main_cst, main_v8, main_v9, main_cst_0, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35]
set_option maxHeartbeats 40000000 in
theorem s0_writes : (s0 : List (HloOp τ sig (Elt F))).Forall fun op => op.writes ⊆ (s0_W.map (Proc.devRef (τ := τ) .tc)).toFinset :=
  StableHlo.forall_writes_sub_of_map rfl

set_option maxHeartbeats 40000000 in
/-- From `main_v36` to `main_v51`. -/
abbrev s1 : List (HloOp τ sig (Elt F)) :=
  [ StableHlo.reshape main_v1 main_v36 (rfl : (.f32 : EltTy) = .f32) shapeCasts_S4096x512_S4096x8x64,
    StableHlo.nullary main_v37 (sitofp .f32 (iotaInDim S32 32 0)),
    StableHlo.unary main_v37 main_v38 (Host.negf : (⟨S32, .f32⟩ : BufTy).Contents (Elt F) → (⟨S32, .f32⟩ : BufTy).Contents (Elt F)),
    StableHlo.nullary main_cst_2 (constant S_ .f32 0x42000000#32),
    StableHlo.unary main_cst_2 main_v39 (broadcastInDim S32 ![] bcast_S_S32 : (⟨S_, .f32⟩ : BufTy).Contents (Elt F) → (⟨S32, .f32⟩ : BufTy).Contents (Elt F)),
    StableHlo.binary main_v38 main_v39 main_v40 (Host.divf : (⟨S32, .f32⟩ : BufTy).Contents (Elt F) → (⟨S32, .f32⟩ : BufTy).Contents (Elt F) → (⟨S32, .f32⟩ : BufTy).Contents (Elt F)),
    StableHlo.nullary main_cst_3 (constant S_ .f32 0x461C4000#32),
    StableHlo.unary main_cst_3 main_v41 (broadcastInDim S32 ![] bcast_S_S32 : (⟨S_, .f32⟩ : BufTy).Contents (Elt F) → (⟨S32, .f32⟩ : BufTy).Contents (Elt F)),
    StableHlo.binary main_v41 main_v40 main_v42 (Host.powf : (⟨S32, .f32⟩ : BufTy).Contents (Elt F) → (⟨S32, .f32⟩ : BufTy).Contents (Elt F) → (⟨S32, .f32⟩ : BufTy).Contents (Elt F)),
    StableHlo.unary main_v4 main_v43 (broadcastInDim S4096x1 ![0] bcast_S4096_S4096x1_0 : (⟨S4096, .f32⟩ : BufTy).Contents (Elt F) → (⟨S4096x1, .f32⟩ : BufTy).Contents (Elt F)),
    StableHlo.unary main_v42 main_v44 (broadcastInDim S1x32 ![1] bcast_S32_S1x32_1 : (⟨S32, .f32⟩ : BufTy).Contents (Elt F) → (⟨S1x32, .f32⟩ : BufTy).Contents (Elt F)),
    StableHlo.unary main_v43 main_v45 (broadcastInDim S4096x32 ![0, 1] bcast_S4096x1_S4096x32_0_1 : (⟨S4096x1, .f32⟩ : BufTy).Contents (Elt F) → (⟨S4096x32, .f32⟩ : BufTy).Contents (Elt F)),
    StableHlo.unary main_v44 main_v46 (broadcastInDim S4096x32 ![0, 1] bcast_S1x32_S4096x32_0_1 : (⟨S1x32, .f32⟩ : BufTy).Contents (Elt F) → (⟨S4096x32, .f32⟩ : BufTy).Contents (Elt F)),
    StableHlo.binary main_v45 main_v46 main_v47 (mulf : (⟨S4096x32, .f32⟩ : BufTy).Contents (Elt F) → (⟨S4096x32, .f32⟩ : BufTy).Contents (Elt F) → (⟨S4096x32, .f32⟩ : BufTy).Contents (Elt F)),
    StableHlo.unary main_v47 main_v48 (Host.cos : (⟨S4096x32, .f32⟩ : BufTy).Contents (Elt F) → (⟨S4096x32, .f32⟩ : BufTy).Contents (Elt F)),
    StableHlo.unary main_v48 main_v49 (broadcastInDim S4096x1x32 ![0, 2] bcast_S4096x32_S4096x1x32_0_2 : (⟨S4096x32, .f32⟩ : BufTy).Contents (Elt F) → (⟨S4096x1x32, .f32⟩ : BufTy).Contents (Elt F)),
    StableHlo.unary main_v47 main_v50 (Host.sin : (⟨S4096x32, .f32⟩ : BufTy).Contents (Elt F) → (⟨S4096x32, .f32⟩ : BufTy).Contents (Elt F)),
    StableHlo.unary main_v50 main_v51 (broadcastInDim S4096x1x32 ![0, 2] bcast_S4096x32_S4096x1x32_0_2 : (⟨S4096x32, .f32⟩ : BufTy).Contents (Elt F) → (⟨S4096x1x32, .f32⟩ : BufTy).Contents (Elt F)) ]
set_option maxHeartbeats 40000000 in
theorem s1_sub : (s1 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub ..⟩
set_option maxHeartbeats 40000000 in
theorem s1_fresh : (s1 : List (HloOp τ sig (Elt F))).Forall fun op => op.fresh = ∅ :=
  StableHlo.forall_fresh_of_map rfl
abbrev s1_W : List (Ref sig .tc) := [main_v36, main_v37, main_v38, main_cst_2, main_v39, main_v40, main_cst_3, main_v41, main_v42, main_v43, main_v44, main_v45, main_v46, main_v47, main_v48, main_v49, main_v50, main_v51]
set_option maxHeartbeats 40000000 in
theorem s1_writes : (s1 : List (HloOp τ sig (Elt F))).Forall fun op => op.writes ⊆ (s1_W.map (Proc.devRef (τ := τ) .tc)).toFinset :=
  StableHlo.forall_writes_sub_of_map rfl

set_option maxHeartbeats 40000000 in
/-- From `main_v52` to `main_v54`. -/
abbrev s2 : List (HloOp τ sig (Elt F)) :=
  [ StableHlo.unary main_v36 main_v52 ((extractStridedSlice S4096x8x32 ![0, 0, 0] · slices_S4096x8x64_S4096x8x32_0_0_0) : (⟨S4096x8x64, .f32⟩ : BufTy).Contents (Elt F) → (⟨S4096x8x32, .f32⟩ : BufTy).Contents (Elt F)),
    StableHlo.unary main_v36 main_v53 ((extractStridedSlice S4096x8x32 ![0, 0, 32] · slices_S4096x8x64_S4096x8x32_0_0_32) : (⟨S4096x8x64, .f32⟩ : BufTy).Contents (Elt F) → (⟨S4096x8x32, .f32⟩ : BufTy).Contents (Elt F)),
    StableHlo.unary main_v49 main_v54 (broadcastInDim S4096x8x32 ![0, 1, 2] bcast_S4096x1x32_S4096x8x32_0_1_2 : (⟨S4096x1x32, .f32⟩ : BufTy).Contents (Elt F) → (⟨S4096x8x32, .f32⟩ : BufTy).Contents (Elt F)) ]
set_option maxHeartbeats 40000000 in
theorem s2_sub : (s2 : List (HloOp τ sig (Elt F))).Forall fun op => op.bufs ⊆ StableHlo.tcRefs τ sig :=
  ⟨StableHlo.unary_bufs_sub .., StableHlo.unary_bufs_sub .., StableHlo.unary_bufs_sub ..⟩
set_option maxHeartbeats 40000000 in
theorem s2_fresh : (s2 : List (HloOp τ sig (Elt F))).Forall fun op => op.fresh = ∅ :=
  StableHlo.forall_fresh_of_map rfl
abbrev s2_W : List (Ref sig .tc) := [main_v52, main_v53, main_v54]
set_option maxHeartbeats 40000000 in
theorem s2_writes : (s2 : List (HloOp τ sig (Elt F))).Forall fun op => op.writes ⊆ (s2_W.map (Proc.devRef (τ := τ) .tc)).toFinset :=
  StableHlo.forall_writes_sub_of_map rfl

set_option maxHeartbeats 40000000 in
/-- From `main_v55` to `main_v68`. -/
abbrev s3 : List (HloOp τ sig (Elt F)) :=
  [ StableHlo.binary main_v52 main_v54 main_v55 (mulf : (⟨S4096x8x32, .f32⟩ : BufTy).Contents (Elt F) → (⟨S4096x8x32, .f32⟩ : BufTy).Contents (Elt F) → (⟨S4096x8x32, .f32⟩ : BufTy).Contents (Elt F)),
    StableHlo.unary main_v51 main_v56 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v53 main_v56 main_v57 (mulf : (⟨S4096x8x32, .f32⟩ : BufTy).Contents (Elt F) → (⟨S4096x8x32, .f32⟩ : BufTy).Contents (Elt F) → (⟨S4096x8x32, .f32⟩ : BufTy).Contents (Elt F)),
    StableHlo.binary main_v55 main_v57 main_v58 (subf : (⟨S4096x8x32, .f32⟩ : BufTy).Contents (Elt F) → (⟨S4096x8x32, .f32⟩ : BufTy).Contents (Elt F) → (⟨S4096x8x32, .f32⟩ : BufTy).Contents (Elt F)),
    StableHlo.unary main_v51 main_v59 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v52 main_v59 main_v60 (mulf : (⟨S4096x8x32, .f32⟩ : BufTy).Contents (Elt F) → (⟨S4096x8x32, .f32⟩ : BufTy).Contents (Elt F) → (⟨S4096x8x32, .f32⟩ : BufTy).Contents (Elt F)),
    StableHlo.unary main_v49 main_v61 (broadcastInDim S4096x8x32 ![0, 1, 2] bcast_S4096x1x32_S4096x8x32_0_1_2 : (⟨S4096x1x32, .f32⟩ : BufTy).Contents (Elt F) → (⟨S4096x8x32, .f32⟩ : BufTy).Contents (Elt F)),
    StableHlo.binary main_v53 main_v61 main_v62 (mulf : (⟨S4096x8x32, .f32⟩ : BufTy).Contents (Elt F) → (⟨S4096x8x32, .f32⟩ : BufTy).Contents (Elt F) → (⟨S4096x8x32, .f32⟩ : BufTy).Contents (Elt F)),
    StableHlo.binary main_v60 main_v62 main_v63 (addf : (⟨S4096x8x32, .f32⟩ : BufTy).Contents (Elt F) → (⟨S4096x8x32, .f32⟩ : BufTy).Contents (Elt F) → (⟨S4096x8x32, .f32⟩ : BufTy).Contents (Elt F)),
    StableHlo.binary main_v58 main_v63 main_v64 ((fun a b => concatenate S4096x8x64 2 [⟨S4096x8x32, a⟩, ⟨S4096x8x32, b⟩] concatenates_S4096x8x32_S4096x8x32_S4096x8x64_d2) : (⟨S4096x8x32, .f32⟩ : BufTy).Contents (Elt F) → (⟨S4096x8x32, .f32⟩ : BufTy).Contents (Elt F) → (⟨S4096x8x64, .f32⟩ : BufTy).Contents (Elt F)),
    StableHlo.reshape main_v2 main_v65 (rfl : (.f32 : EltTy) = .f32) shapeCasts_S4096x1024_S4096x8x128,
    StableHlo.reshape main_v35 main_v66 (rfl : (.f32 : EltTy) = .f32) shapeCasts_S4096x8x64_S64x64x8x64,
    StableHlo.reshape main_v64 main_v67 (rfl : (.f32 : EltTy) = .f32) shapeCasts_S4096x8x64_S64x64x8x64,
    StableHlo.reshape main_v65 main_v68 (rfl : (.f32 : EltTy) = .f32) shapeCasts_S4096x8x128_S64x64x8x128 ]
set_option maxHeartbeats 40000000 in
theorem s3_sub : (s3 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.reshape_bufs_sub .., StableHlo.reshape_bufs_sub .., StableHlo.reshape_bufs_sub .., StableHlo.reshape_bufs_sub ..⟩
set_option maxHeartbeats 40000000 in
theorem s3_fresh : (s3 : List (HloOp τ sig (Elt F))).Forall fun op => op.fresh = ∅ :=
  StableHlo.forall_fresh_of_map rfl
abbrev s3_W : List (Ref sig .tc) := [main_v55, main_v56, main_v57, main_v58, main_v59, main_v60, main_v61, main_v62, main_v63, main_v64, main_v65, main_v66, main_v67, main_v68]
set_option maxHeartbeats 40000000 in
theorem s3_writes : (s3 : List (HloOp τ sig (Elt F))).Forall fun op => op.writes ⊆ (s3_W.map (Proc.devRef (τ := τ) .tc)).toFinset :=
  StableHlo.forall_writes_sub_of_map rfl

set_option maxHeartbeats 40000000 in
/-- From `main_v69` to `main_v76`. -/
abbrev s4 : List (HloOp τ sig (Elt F)) :=
  [ StableHlo.nullary main_v69 (sitofp .f32 (iotaInDim S8 32 0)),
    StableHlo.nullary main_cst_4 (constant S_ .f32 0xC0A00000#32),
    StableHlo.unary main_cst_4 main_v70 (broadcastInDim S8 ![] bcast_S_S8 : (⟨S_, .f32⟩ : BufTy).Contents (Elt F) → (⟨S8, .f32⟩ : BufTy).Contents (Elt F)),
    StableHlo.binary main_v70 main_v69 main_v71 (subf : (⟨S8, .f32⟩ : BufTy).Contents (Elt F) → (⟨S8, .f32⟩ : BufTy).Contents (Elt F) → (⟨S8, .f32⟩ : BufTy).Contents (Elt F)),
    StableHlo.nullary main_cst_5 (constant S_ .f32 0x3F317218#32),
    StableHlo.unary main_cst_5 main_v72 (broadcastInDim S8 ![] bcast_S_S8 : (⟨S_, .f32⟩ : BufTy).Contents (Elt F) → (⟨S8, .f32⟩ : BufTy).Contents (Elt F)),
    StableHlo.binary main_v72 main_v71 main_v73 (mulf : (⟨S8, .f32⟩ : BufTy).Contents (Elt F) → (⟨S8, .f32⟩ : BufTy).Contents (Elt F) → (⟨S8, .f32⟩ : BufTy).Contents (Elt F)),
    StableHlo.unary main_v73 main_v74 (Host.exp : (⟨S8, .f32⟩ : BufTy).Contents (Elt F) → (⟨S8, .f32⟩ : BufTy).Contents (Elt F)),
    StableHlo.unary main_v74 main_v75 (Host.negf : (⟨S8, .f32⟩ : BufTy).Contents (Elt F) → (⟨S8, .f32⟩ : BufTy).Contents (Elt F)),
    StableHlo.unary main_v75 main_v76 (Host.log1p : (⟨S8, .f32⟩ : BufTy).Contents (Elt F) → (⟨S8, .f32⟩ : BufTy).Contents (Elt F)) ]
set_option maxHeartbeats 40000000 in
theorem s4_sub : (s4 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub ..⟩
set_option maxHeartbeats 40000000 in
theorem s4_fresh : (s4 : List (HloOp τ sig (Elt F))).Forall fun op => op.fresh = ∅ :=
  StableHlo.forall_fresh_of_map rfl
abbrev s4_W : List (Ref sig .tc) := [main_v69, main_cst_4, main_v70, main_v71, main_cst_5, main_v72, main_v73, main_v74, main_v75, main_v76]
set_option maxHeartbeats 40000000 in
theorem s4_writes : (s4 : List (HloOp τ sig (Elt F))).Forall fun op => op.writes ⊆ (s4_W.map (Proc.devRef (τ := τ) .tc)).toFinset :=
  StableHlo.forall_writes_sub_of_map rfl

set_option maxHeartbeats 40000000 in
/-- From `main_v77` to `main_v95`. -/
abbrev s5 : List (HloOp τ sig (Elt F)) :=
  [ StableHlo.nullary main_v77 (sitofp .f32 (iotaInDim S64 32 0)),
    StableHlo.unary main_v76 main_v78 (broadcastInDim S8x1x1 ![0] bcast_S8_S8x1x1_0 : (⟨S8, .f32⟩ : BufTy).Contents (Elt F) → (⟨S8x1x1, .f32⟩ : BufTy).Contents (Elt F)),
    StableHlo.unary main_v77 main_v79 (broadcastInDim S64x1 ![0] bcast_S64_S64x1_0 : (⟨S64, .f32⟩ : BufTy).Contents (Elt F) → (⟨S64x1, .f32⟩ : BufTy).Contents (Elt F)),
    StableHlo.unary main_v77 main_v80 (broadcastInDim S1x64 ![1] bcast_S64_S1x64_1 : (⟨S64, .f32⟩ : BufTy).Contents (Elt F) → (⟨S1x64, .f32⟩ : BufTy).Contents (Elt F)),
    StableHlo.unary main_v79 main_v81 (broadcastInDim S64x64 ![0, 1] bcast_S64x1_S64x64_0_1 : (⟨S64x1, .f32⟩ : BufTy).Contents (Elt F) → (⟨S64x64, .f32⟩ : BufTy).Contents (Elt F)),
    StableHlo.unary main_v80 main_v82 (broadcastInDim S64x64 ![0, 1] bcast_S1x64_S64x64_0_1 : (⟨S1x64, .f32⟩ : BufTy).Contents (Elt F) → (⟨S64x64, .f32⟩ : BufTy).Contents (Elt F)),
    StableHlo.binary main_v81 main_v82 main_v83 (subf : (⟨S64x64, .f32⟩ : BufTy).Contents (Elt F) → (⟨S64x64, .f32⟩ : BufTy).Contents (Elt F) → (⟨S64x64, .f32⟩ : BufTy).Contents (Elt F)),
    StableHlo.unary main_v83 main_v84 (Host.absf : (⟨S64x64, .f32⟩ : BufTy).Contents (Elt F) → (⟨S64x64, .f32⟩ : BufTy).Contents (Elt F)),
    StableHlo.unary main_v84 main_v85 (broadcastInDim S1x64x64 ![1, 2] bcast_S64x64_S1x64x64_1_2 : (⟨S64x64, .f32⟩ : BufTy).Contents (Elt F) → (⟨S1x64x64, .f32⟩ : BufTy).Contents (Elt F)),
    StableHlo.unary main_v78 main_v86 (broadcastInDim S8x64x64 ![0, 1, 2] bcast_S8x1x1_S8x64x64_0_1_2 : (⟨S8x1x1, .f32⟩ : BufTy).Contents (Elt F) → (⟨S8x64x64, .f32⟩ : BufTy).Contents (Elt F)),
    StableHlo.unary main_v85 main_v87 (broadcastInDim S8x64x64 ![0, 1, 2] bcast_S1x64x64_S8x64x64_0_1_2 : (⟨S1x64x64, .f32⟩ : BufTy).Contents (Elt F) → (⟨S8x64x64, .f32⟩ : BufTy).Contents (Elt F)),
    StableHlo.binary main_v86 main_v87 main_v88 (mulf : (⟨S8x64x64, .f32⟩ : BufTy).Contents (Elt F) → (⟨S8x64x64, .f32⟩ : BufTy).Contents (Elt F) → (⟨S8x64x64, .f32⟩ : BufTy).Contents (Elt F)),
    StableHlo.unary main_v88 main_v89 (Host.exp : (⟨S8x64x64, .f32⟩ : BufTy).Contents (Elt F) → (⟨S8x64x64, .f32⟩ : BufTy).Contents (Elt F)),
    StableHlo.binary main_v66 main_v67 main_v90 ((fun l r => Host.dotGeneral dot_S64x64x8x64_S64x64x8x64_S64x8x64x64_3_3_1_1_02_02 none l r) : (⟨S64x64x8x64, .f32⟩ : BufTy).Contents (Elt F) → (⟨S64x64x8x64, .f32⟩ : BufTy).Contents (Elt F) → (⟨S64x8x64x64, .f32⟩ : BufTy).Contents (Elt F)),
    StableHlo.unary main_v89 main_v91 (broadcastInDim S1x8x64x64 ![1, 2, 3] bcast_S8x64x64_S1x8x64x64_1_2_3 : (⟨S8x64x64, .f32⟩ : BufTy).Contents (Elt F) → (⟨S1x8x64x64, .f32⟩ : BufTy).Contents (Elt F)),
    StableHlo.unary main_v91 main_v92 (broadcastInDim S64x8x64x64 ![0, 1, 2, 3] bcast_S1x8x64x64_S64x8x64x64_0_1_2_3 : (⟨S1x8x64x64, .f32⟩ : BufTy).Contents (Elt F) → (⟨S64x8x64x64, .f32⟩ : BufTy).Contents (Elt F)),
    StableHlo.binary main_v90 main_v92 main_v93 (mulf : (⟨S64x8x64x64, .f32⟩ : BufTy).Contents (Elt F) → (⟨S64x8x64x64, .f32⟩ : BufTy).Contents (Elt F) → (⟨S64x8x64x64, .f32⟩ : BufTy).Contents (Elt F)),
    StableHlo.binary main_v68 main_v93 main_v94 ((fun l r => Host.dotGeneral dot_S64x64x8x128_S64x8x64x64_S64x8x128x64_1_3_3_2_02_01 none l r) : (⟨S64x64x8x128, .f32⟩ : BufTy).Contents (Elt F) → (⟨S64x8x64x64, .f32⟩ : BufTy).Contents (Elt F) → (⟨S64x8x128x64, .f32⟩ : BufTy).Contents (Elt F)),
    StableHlo.unary main_v94 main_v95 ((transpose S64x64x8x128 [0, 3, 1, 2] · transposes_S64x8x128x64_S64x64x8x128_0_3_1_2) : (⟨S64x8x128x64, .f32⟩ : BufTy).Contents (Elt F) → (⟨S64x64x8x128, .f32⟩ : BufTy).Contents (Elt F)) ]
set_option maxHeartbeats 40000000 in
theorem s5_sub : (s5 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub ..⟩
set_option maxHeartbeats 40000000 in
theorem s5_fresh : (s5 : List (HloOp τ sig (Elt F))).Forall fun op => op.fresh = ∅ :=
  StableHlo.forall_fresh_of_map rfl
abbrev s5_W : List (Ref sig .tc) := [main_v77, main_v78, main_v79, main_v80, main_v81, main_v82, main_v83, main_v84, main_v85, main_v86, main_v87, main_v88, main_v89, main_v90, main_v91, main_v92, main_v93, main_v94, main_v95]
set_option maxHeartbeats 40000000 in
theorem s5_writes : (s5 : List (HloOp τ sig (Elt F))).Forall fun op => op.writes ⊆ (s5_W.map (Proc.devRef (τ := τ) .tc)).toFinset :=
  StableHlo.forall_writes_sub_of_map rfl

set_option maxHeartbeats 40000000 in
/-- From `main_v96` to `main_v110`. -/
abbrev s6 : List (HloOp τ sig (Elt F)) :=
  [ StableHlo.unary main_v76 main_v96 (broadcastInDim S1x8 ![1] bcast_S8_S1x8_1 : (⟨S8, .f32⟩ : BufTy).Contents (Elt F) → (⟨S1x8, .f32⟩ : BufTy).Contents (Elt F)),
    StableHlo.unary main_v77 main_v97 (broadcastInDim S64x1 ![0] bcast_S64_S64x1_0 : (⟨S64, .f32⟩ : BufTy).Contents (Elt F) → (⟨S64x1, .f32⟩ : BufTy).Contents (Elt F)),
    StableHlo.nullary main_cst_6 (constant S_ .f32 0x42800000#32),
    StableHlo.unary main_cst_6 main_v98 (broadcastInDim S64x1 ![] bcast_S_S64x1 : (⟨S_, .f32⟩ : BufTy).Contents (Elt F) → (⟨S64x1, .f32⟩ : BufTy).Contents (Elt F)),
    StableHlo.binary main_v98 main_v97 main_v99 (subf : (⟨S64x1, .f32⟩ : BufTy).Contents (Elt F) → (⟨S64x1, .f32⟩ : BufTy).Contents (Elt F) → (⟨S64x1, .f32⟩ : BufTy).Contents (Elt F)),
    StableHlo.unary main_v96 main_v100 (broadcastInDim S64x8 ![0, 1] bcast_S1x8_S64x8_0_1 : (⟨S1x8, .f32⟩ : BufTy).Contents (Elt F) → (⟨S64x8, .f32⟩ : BufTy).Contents (Elt F)),
    StableHlo.unary main_v99 main_v101 (broadcastInDim S64x8 ![0, 1] bcast_S64x1_S64x8_0_1 : (⟨S64x1, .f32⟩ : BufTy).Contents (Elt F) → (⟨S64x8, .f32⟩ : BufTy).Contents (Elt F)),
    StableHlo.binary main_v100 main_v101 main_v102 (mulf : (⟨S64x8, .f32⟩ : BufTy).Contents (Elt F) → (⟨S64x8, .f32⟩ : BufTy).Contents (Elt F) → (⟨S64x8, .f32⟩ : BufTy).Contents (Elt F)),
    StableHlo.unary main_v102 main_v103 (Host.exp : (⟨S64x8, .f32⟩ : BufTy).Contents (Elt F) → (⟨S64x8, .f32⟩ : BufTy).Contents (Elt F)),
    StableHlo.unary main_v103 main_v104 (broadcastInDim S1x64x8x1 ![1, 2] bcast_S64x8_S1x64x8x1_1_2 : (⟨S64x8, .f32⟩ : BufTy).Contents (Elt F) → (⟨S1x64x8x1, .f32⟩ : BufTy).Contents (Elt F)),
    StableHlo.unary main_v104 main_v105 (broadcastInDim S64x64x8x64 ![0, 1, 2, 3] bcast_S1x64x8x1_S64x64x8x64_0_1_2_3 : (⟨S1x64x8x1, .f32⟩ : BufTy).Contents (Elt F) → (⟨S64x64x8x64, .f32⟩ : BufTy).Contents (Elt F)),
    StableHlo.binary main_v67 main_v105 main_v106 (mulf : (⟨S64x64x8x64, .f32⟩ : BufTy).Contents (Elt F) → (⟨S64x64x8x64, .f32⟩ : BufTy).Contents (Elt F) → (⟨S64x64x8x64, .f32⟩ : BufTy).Contents (Elt F)),
    StableHlo.binary main_v106 main_v68 main_v107 ((fun l r => Host.dotGeneral dot_S64x64x8x64_S64x64x8x128_S64x8x64x128_1_1_3_3_02_02 none l r) : (⟨S64x64x8x64, .f32⟩ : BufTy).Contents (Elt F) → (⟨S64x64x8x128, .f32⟩ : BufTy).Contents (Elt F) → (⟨S64x8x64x128, .f32⟩ : BufTy).Contents (Elt F)),
    StableHlo.nullary main_cst_7 (constant S_ .f32 0x42800000#32),
    StableHlo.unary main_cst_7 main_v108 (broadcastInDim S8 ![] bcast_S_S8 : (⟨S_, .f32⟩ : BufTy).Contents (Elt F) → (⟨S8, .f32⟩ : BufTy).Contents (Elt F)),
    StableHlo.binary main_v76 main_v108 main_v109 (mulf : (⟨S8, .f32⟩ : BufTy).Contents (Elt F) → (⟨S8, .f32⟩ : BufTy).Contents (Elt F) → (⟨S8, .f32⟩ : BufTy).Contents (Elt F)),
    StableHlo.unary main_v109 main_v110 (Host.exp : (⟨S8, .f32⟩ : BufTy).Contents (Elt F) → (⟨S8, .f32⟩ : BufTy).Contents (Elt F)) ]
set_option maxHeartbeats 40000000 in
theorem s6_sub : (s6 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩
set_option maxHeartbeats 40000000 in
theorem s6_fresh : (s6 : List (HloOp τ sig (Elt F))).Forall fun op => op.fresh = ∅ :=
  StableHlo.forall_fresh_of_map rfl
abbrev s6_W : List (Ref sig .tc) := [main_v96, main_v97, main_cst_6, main_v98, main_v99, main_v100, main_v101, main_v102, main_v103, main_v104, main_v105, main_v106, main_v107, main_cst_7, main_v108, main_v109, main_v110]
set_option maxHeartbeats 40000000 in
theorem s6_writes : (s6 : List (HloOp τ sig (Elt F))).Forall fun op => op.writes ⊆ (s6_W.map (Proc.devRef (τ := τ) .tc)).toFinset :=
  StableHlo.forall_writes_sub_of_map rfl

set_option maxHeartbeats 40000000 in
/-- From `main_v111` to `main_v111`. -/
abbrev s7 : List (HloOp τ sig (Elt F)) :=
  [ StableHlo.unary main_v110 main_v111 (broadcastInDim S8x1x1 ![0] bcast_S8_S8x1x1_0 : (⟨S8, .f32⟩ : BufTy).Contents (Elt F) → (⟨S8x1x1, .f32⟩ : BufTy).Contents (Elt F)) ]
set_option maxHeartbeats 40000000 in
theorem s7_sub : (s7 : List (HloOp τ sig (Elt F))).Forall fun op => op.bufs ⊆ StableHlo.tcRefs τ sig :=
  StableHlo.unary_bufs_sub ..
set_option maxHeartbeats 40000000 in
theorem s7_fresh : (s7 : List (HloOp τ sig (Elt F))).Forall fun op => op.fresh = ∅ :=
  StableHlo.forall_fresh_of_map rfl
abbrev s7_W : List (Ref sig .tc) := [main_v111]
set_option maxHeartbeats 40000000 in
theorem s7_writes : (s7 : List (HloOp τ sig (Elt F))).Forall fun op => op.writes ⊆ (s7_W.map (Proc.devRef (τ := τ) .tc)).toFinset :=
  StableHlo.forall_writes_sub_of_map rfl

set_option maxHeartbeats 40000000 in
/-- From `main_cst_8` to `main_v114_4`. -/
abbrev s8 : List (HloOp τ sig (Elt F)) :=
  [ StableHlo.nullary main_cst_8 (constant S_ .f32 0x00000000#32),
    StableHlo.unary main_cst_8 main_v112 (broadcastInDim S8x64x128 ![] bcast_S_S8x64x128 : (⟨S_, .f32⟩ : BufTy).Contents (Elt F) → (⟨S8x64x128, .f32⟩ : BufTy).Contents (Elt F)),
    StableHlo.nullary main_cst_9 (constant S_ .f32 0x00000000#32),
    StableHlo.unary main_cst_9 main_v113 (broadcastInDim S64x8x64x128 ![] bcast_S_S64x8x64x128 : (⟨S_, .f32⟩ : BufTy).Contents (Elt F) → (⟨S64x8x64x128, .f32⟩ : BufTy).Contents (Elt F)),
    StableHlo.nullary main_c (constantI S_ 32 0#32),
    StableHlo.unary main_v107 main_v114_0 id,
    StableHlo.unary main_v111 main_v114_1 id,
    StableHlo.unary main_c main_v114_2 id,
    StableHlo.unary main_v112 main_v114_3 id,
    StableHlo.unary main_v113 main_v114_4 id ]
set_option maxHeartbeats 40000000 in
theorem s8_sub : (s8 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
set_option maxHeartbeats 40000000 in
theorem s8_fresh : (s8 : List (HloOp τ sig (Elt F))).Forall fun op => op.fresh = ∅ :=
  StableHlo.forall_fresh_of_map rfl
abbrev s8_W : List (Ref sig .tc) := [main_cst_8, main_v112, main_cst_9, main_v113, main_c, main_v114_0, main_v114_1, main_v114_2, main_v114_3, main_v114_4]
set_option maxHeartbeats 40000000 in
theorem s8_writes : (s8 : List (HloOp τ sig (Elt F))).Forall fun op => op.writes ⊆ (s8_W.map (Proc.devRef (τ := τ) .tc)).toFinset :=
  StableHlo.forall_writes_sub_of_map rfl

set_option maxHeartbeats 40000000 in
/-- From `main_v115` to `main_v127`. -/
abbrev s9 : List (HloOp τ sig (Elt F)) :=
  [ StableHlo.unary main_v76 main_v115 (broadcastInDim S1x8 ![1] bcast_S8_S1x8_1 : (⟨S8, .f32⟩ : BufTy).Contents (Elt F) → (⟨S1x8, .f32⟩ : BufTy).Contents (Elt F)),
    StableHlo.unary main_v77 main_v116 (broadcastInDim S64x1 ![0] bcast_S64_S64x1_0 : (⟨S64, .f32⟩ : BufTy).Contents (Elt F) → (⟨S64x1, .f32⟩ : BufTy).Contents (Elt F)),
    StableHlo.unary main_v115 main_v117 (broadcastInDim S64x8 ![0, 1] bcast_S1x8_S64x8_0_1 : (⟨S1x8, .f32⟩ : BufTy).Contents (Elt F) → (⟨S64x8, .f32⟩ : BufTy).Contents (Elt F)),
    StableHlo.unary main_v116 main_v118 (broadcastInDim S64x8 ![0, 1] bcast_S64x1_S64x8_0_1 : (⟨S64x1, .f32⟩ : BufTy).Contents (Elt F) → (⟨S64x8, .f32⟩ : BufTy).Contents (Elt F)),
    StableHlo.binary main_v117 main_v118 main_v119 (mulf : (⟨S64x8, .f32⟩ : BufTy).Contents (Elt F) → (⟨S64x8, .f32⟩ : BufTy).Contents (Elt F) → (⟨S64x8, .f32⟩ : BufTy).Contents (Elt F)),
    StableHlo.unary main_v119 main_v120 (Host.exp : (⟨S64x8, .f32⟩ : BufTy).Contents (Elt F) → (⟨S64x8, .f32⟩ : BufTy).Contents (Elt F)),
    StableHlo.unary main_v120 main_v121 (broadcastInDim S1x64x8x1 ![1, 2] bcast_S64x8_S1x64x8x1_1_2 : (⟨S64x8, .f32⟩ : BufTy).Contents (Elt F) → (⟨S1x64x8x1, .f32⟩ : BufTy).Contents (Elt F)),
    StableHlo.unary main_v121 main_v122 (broadcastInDim S64x64x8x64 ![0, 1, 2, 3] bcast_S1x64x8x1_S64x64x8x64_0_1_2_3 : (⟨S1x64x8x1, .f32⟩ : BufTy).Contents (Elt F) → (⟨S64x64x8x64, .f32⟩ : BufTy).Contents (Elt F)),
    StableHlo.binary main_v66 main_v122 main_v123 (mulf : (⟨S64x64x8x64, .f32⟩ : BufTy).Contents (Elt F) → (⟨S64x64x8x64, .f32⟩ : BufTy).Contents (Elt F) → (⟨S64x64x8x64, .f32⟩ : BufTy).Contents (Elt F)),
    StableHlo.binary main_v114_4 main_v123 main_v124 ((fun l r => Host.dotGeneral dot_S64x8x64x128_S64x64x8x64_S64x8x128x64_2_3_3_1_01_02 none l r) : (⟨S64x8x64x128, .f32⟩ : BufTy).Contents (Elt F) → (⟨S64x64x8x64, .f32⟩ : BufTy).Contents (Elt F) → (⟨S64x8x128x64, .f32⟩ : BufTy).Contents (Elt F)),
    StableHlo.unary main_v124 main_v125 ((transpose S64x64x8x128 [0, 3, 1, 2] · transposes_S64x8x128x64_S64x64x8x128_0_3_1_2) : (⟨S64x8x128x64, .f32⟩ : BufTy).Contents (Elt F) → (⟨S64x64x8x128, .f32⟩ : BufTy).Contents (Elt F)),
    StableHlo.binary main_v95 main_v125 main_v126 (addf : (⟨S64x64x8x128, .f32⟩ : BufTy).Contents (Elt F) → (⟨S64x64x8x128, .f32⟩ : BufTy).Contents (Elt F) → (⟨S64x64x8x128, .f32⟩ : BufTy).Contents (Elt F)),
    StableHlo.reshape main_v126 main_v127 (rfl : (.f32 : EltTy) = .f32) shapeCasts_S64x64x8x128_S4096x8x128 ]
set_option maxHeartbeats 40000000 in
theorem s9_sub : (s9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub ..⟩
set_option maxHeartbeats 40000000 in
theorem s9_fresh : (s9 : List (HloOp τ sig (Elt F))).Forall fun op => op.fresh = ∅ :=
  StableHlo.forall_fresh_of_map rfl
abbrev s9_W : List (Ref sig .tc) := [main_v115, main_v116, main_v117, main_v118, main_v119, main_v120, main_v121, main_v122, main_v123, main_v124, main_v125, main_v126, main_v127]
set_option maxHeartbeats 40000000 in
theorem s9_writes : (s9 : List (HloOp τ sig (Elt F))).Forall fun op => op.writes ⊆ (s9_W.map (Proc.devRef (τ := τ) .tc)).toFinset :=
  StableHlo.forall_writes_sub_of_map rfl

set_option maxHeartbeats 40000000 in
/-- From `main_cst_10` to `main_v145`. -/
abbrev s10 : List (HloOp τ sig (Elt F)) :=
  [ StableHlo.nullary main_cst_10 (constant S_ .f32 0x00000000#32),
    StableHlo.binary main_v127 main_cst_10 main_v128 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.unary main_v128 main_v129 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_11 (constant S_ .f32 0x43000000#32),
    StableHlo.unary main_cst_11 main_v130 (broadcastInDim S4096x8x1 ![] bcast_S_S4096x8x1 : (⟨S_, .f32⟩ : BufTy).Contents (Elt F) → (⟨S4096x8x1, .f32⟩ : BufTy).Contents (Elt F)),
    StableHlo.binary main_v129 main_v130 main_v131 (Host.divf : (⟨S4096x8x1, .f32⟩ : BufTy).Contents (Elt F) → (⟨S4096x8x1, .f32⟩ : BufTy).Contents (Elt F) → (⟨S4096x8x1, .f32⟩ : BufTy).Contents (Elt F)),
    StableHlo.unary main_v131 main_v132 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v127 main_v132 main_v133 (subf : (⟨S4096x8x128, .f32⟩ : BufTy).Contents (Elt F) → (⟨S4096x8x128, .f32⟩ : BufTy).Contents (Elt F) → (⟨S4096x8x128, .f32⟩ : BufTy).Contents (Elt F)),
    StableHlo.binary main_v133 main_v133 main_v134 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_12 (constant S_ .f32 0x00000000#32),
    StableHlo.binary main_v134 main_cst_12 main_v135 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.unary main_v135 main_v136 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_13 (constant S_ .f32 0x43000000#32),
    StableHlo.unary main_cst_13 main_v137 (broadcastInDim S4096x8x1 ![] bcast_S_S4096x8x1 : (⟨S_, .f32⟩ : BufTy).Contents (Elt F) → (⟨S4096x8x1, .f32⟩ : BufTy).Contents (Elt F)),
    StableHlo.binary main_v136 main_v137 main_v138 (Host.divf : (⟨S4096x8x1, .f32⟩ : BufTy).Contents (Elt F) → (⟨S4096x8x1, .f32⟩ : BufTy).Contents (Elt F) → (⟨S4096x8x1, .f32⟩ : BufTy).Contents (Elt F)),
    StableHlo.unary main_v131 main_v139 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v127 main_v139 main_v140 (subf : (⟨S4096x8x128, .f32⟩ : BufTy).Contents (Elt F) → (⟨S4096x8x128, .f32⟩ : BufTy).Contents (Elt F) → (⟨S4096x8x128, .f32⟩ : BufTy).Contents (Elt F)),
    StableHlo.nullary main_cst_14 (constant S_ .f32 0x358637BD#32),
    StableHlo.unary main_cst_14 main_v141 (broadcastInDim S4096x8x1 ![] bcast_S_S4096x8x1 : (⟨S_, .f32⟩ : BufTy).Contents (Elt F) → (⟨S4096x8x1, .f32⟩ : BufTy).Contents (Elt F)),
    StableHlo.binary main_v138 main_v141 main_v142 (addf : (⟨S4096x8x1, .f32⟩ : BufTy).Contents (Elt F) → (⟨S4096x8x1, .f32⟩ : BufTy).Contents (Elt F) → (⟨S4096x8x1, .f32⟩ : BufTy).Contents (Elt F)),
    StableHlo.unary main_v142 main_v143 (Host.rsqrt : (⟨S4096x8x1, .f32⟩ : BufTy).Contents (Elt F) → (⟨S4096x8x1, .f32⟩ : BufTy).Contents (Elt F)),
    StableHlo.unary main_v143 main_v144 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v140 main_v144 main_v145 (mulf : (⟨S4096x8x128, .f32⟩ : BufTy).Contents (Elt F) → (⟨S4096x8x128, .f32⟩ : BufTy).Contents (Elt F) → (⟨S4096x8x128, .f32⟩ : BufTy).Contents (Elt F)) ]
set_option maxHeartbeats 40000000 in
theorem s10_sub : (s10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩
set_option maxHeartbeats 40000000 in
theorem s10_fresh : (s10 : List (HloOp τ sig (Elt F))).Forall fun op => op.fresh = ∅ :=
  StableHlo.forall_fresh_of_map rfl
abbrev s10_W : List (Ref sig .tc) := [main_cst_10, main_v128, main_v129, main_cst_11, main_v130, main_v131, main_v132, main_v133, main_v134, main_cst_12, main_v135, main_v136, main_cst_13, main_v137, main_v138, main_v139, main_v140, main_cst_14, main_v141, main_v142, main_v143, main_v144, main_v145]
set_option maxHeartbeats 40000000 in
theorem s10_writes : (s10 : List (HloOp τ sig (Elt F))).Forall fun op => op.writes ⊆ (s10_W.map (Proc.devRef (τ := τ) .tc)).toFinset :=
  StableHlo.forall_writes_sub_of_map rfl

set_option maxHeartbeats 40000000 in
/-- From `main_v146` to `main_v146`. -/
abbrev s11 : List (HloOp τ sig (Elt F)) :=
  [ StableHlo.reshape main_v145 main_v146 (rfl : (.f32 : EltTy) = .f32) shapeCasts_S4096x8x128_S4096x1024 ]
set_option maxHeartbeats 40000000 in
theorem s11_sub : (s11 : List (HloOp τ sig (Elt F))).Forall fun op => op.bufs ⊆ StableHlo.tcRefs τ sig :=
  StableHlo.reshape_bufs_sub ..
set_option maxHeartbeats 40000000 in
theorem s11_fresh : (s11 : List (HloOp τ sig (Elt F))).Forall fun op => op.fresh = ∅ :=
  StableHlo.forall_fresh_of_map rfl
abbrev s11_W : List (Ref sig .tc) := [main_v146]
set_option maxHeartbeats 40000000 in
theorem s11_writes : (s11 : List (HloOp τ sig (Elt F))).Forall fun op => op.writes ⊆ (s11_W.map (Proc.devRef (τ := τ) .tc)).toFinset :=
  StableHlo.forall_writes_sub_of_map rfl

set_option maxHeartbeats 40000000 in
/-- From `main_call2_v0` to `main_v147`. -/
abbrev s12 : List (HloOp τ sig (Elt F)) :=
  [ StableHlo.TRef.unary (.of main_v3 : StableHlo.TRef sig ⟨S4096x1024, .f32⟩) (.of main_call2_v0 : StableHlo.TRef sig ⟨S4096x1024, .f32⟩) Host.negf,
    StableHlo.TRef.unary (.of main_call2_v0 : StableHlo.TRef sig ⟨S4096x1024, .f32⟩) (.of main_call2_v1 : StableHlo.TRef sig ⟨S4096x1024, .f32⟩) Host.exp,
    StableHlo.TRef.nullary (.of main_call2_cst : StableHlo.TRef sig ⟨S_, .f32⟩) (constant S_ .f32 0x3F800000#32),
    StableHlo.TRef.unary (.of main_call2_cst : StableHlo.TRef sig ⟨S_, .f32⟩) (.of main_call2_v2 : StableHlo.TRef sig ⟨S4096x1024, .f32⟩) (broadcastInDim S4096x1024 ![] bcast_S_S4096x1024),
    StableHlo.TRef.binary (.of main_call2_v2 : StableHlo.TRef sig ⟨S4096x1024, .f32⟩) (.of main_call2_v1 : StableHlo.TRef sig ⟨S4096x1024, .f32⟩) (.of main_call2_v3 : StableHlo.TRef sig ⟨S4096x1024, .f32⟩) addf,
    StableHlo.TRef.nullary (.of main_call2_cst_0 : StableHlo.TRef sig ⟨S_, .f32⟩) (constant S_ .f32 0x3F800000#32),
    StableHlo.TRef.unary (.of main_call2_cst_0 : StableHlo.TRef sig ⟨S_, .f32⟩) (.of main_call2_v4 : StableHlo.TRef sig ⟨S4096x1024, .f32⟩) (broadcastInDim S4096x1024 ![] bcast_S_S4096x1024),
    StableHlo.TRef.binary (.of main_call2_v4 : StableHlo.TRef sig ⟨S4096x1024, .f32⟩) (.of main_call2_v3 : StableHlo.TRef sig ⟨S4096x1024, .f32⟩) (.of main_call2_v5 : StableHlo.TRef sig ⟨S4096x1024, .f32⟩) Host.divf,
    StableHlo.TRef.binary (.of main_v3 : StableHlo.TRef sig ⟨S4096x1024, .f32⟩) (.of main_call2_v5 : StableHlo.TRef sig ⟨S4096x1024, .f32⟩) (.of main_v147 : StableHlo.TRef sig ⟨S4096x1024, .f32⟩) mulf ]
set_option maxHeartbeats 40000000 in
theorem s12_sub : (s12 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
set_option maxHeartbeats 40000000 in
theorem s12_fresh : (s12 : List (HloOp τ sig (Elt F))).Forall fun op => op.fresh = ∅ :=
  StableHlo.forall_fresh_of_map rfl
abbrev s12_W : List (Ref sig .tc) := [main_call2_v0, main_call2_v1, main_call2_cst, main_call2_v2, main_call2_v3, main_call2_cst_0, main_call2_v4, main_call2_v5, main_v147]
set_option maxHeartbeats 40000000 in
theorem s12_writes : (s12 : List (HloOp τ sig (Elt F))).Forall fun op => op.writes ⊆ (s12_W.map (Proc.devRef (τ := τ) .tc)).toFinset :=
  StableHlo.forall_writes_sub_of_map rfl

set_option maxHeartbeats 40000000 in
/-- From `main_v148` to `main_v156`. -/
abbrev s13 : List (HloOp τ sig (Elt F)) :=
  [ StableHlo.binary main_v146 main_v147 main_v148 (mulf : (⟨S4096x1024, .f32⟩ : BufTy).Contents (Elt F) → (⟨S4096x1024, .f32⟩ : BufTy).Contents (Elt F) → (⟨S4096x1024, .f32⟩ : BufTy).Contents (Elt F)),
    StableHlo.reshape main_v114_4 main_v149 (rfl : (.f32 : EltTy) = .f32) shapeCasts_S64x8x64x128_S8x8x4x2x64x128,
    StableHlo.unary main_v149 main_v150 ((extractStridedSlice S8x1x4x2x64x128 ![0, 0, 0, 0, 0, 0] · slices_S8x8x4x2x64x128_S8x1x4x2x64x128_0_0_0_0_0_0) : (⟨S8x8x4x2x64x128, .f32⟩ : BufTy).Contents (Elt F) → (⟨S8x1x4x2x64x128, .f32⟩ : BufTy).Contents (Elt F)),
    StableHlo.reshape main_v150 main_v151 (rfl : (.f32 : EltTy) = .f32) shapeCasts_S8x1x4x2x64x128_S8x4x2x64x128,
    StableHlo.unary main_v151 main_v152 ((extractStridedSlice S8x4x1x64x128 ![0, 0, 0, 0, 0] · slices_S8x4x2x64x128_S8x4x1x64x128_0_0_0_0_0) : (⟨S8x4x2x64x128, .f32⟩ : BufTy).Contents (Elt F) → (⟨S8x4x1x64x128, .f32⟩ : BufTy).Contents (Elt F)),
    StableHlo.reshape main_v152 main_v153 (rfl : (.f32 : EltTy) = .f32) shapeCasts_S8x4x1x64x128_S8x4x64x128,
    StableHlo.unary main_v151 main_v154 ((extractStridedSlice S8x4x1x64x128 ![0, 0, 1, 0, 0] · slices_S8x4x2x64x128_S8x4x1x64x128_0_0_1_0_0) : (⟨S8x4x2x64x128, .f32⟩ : BufTy).Contents (Elt F) → (⟨S8x4x1x64x128, .f32⟩ : BufTy).Contents (Elt F)),
    StableHlo.reshape main_v154 main_v155 (rfl : (.f32 : EltTy) = .f32) shapeCasts_S8x4x1x64x128_S8x4x64x128,
    StableHlo.nullary main_cst_15 (constant S_ .f32 0x00000000#32),
    StableHlo.unary main_cst_15 main_v156 (broadcastInDim S8x4x64x128 ![] bcast_S_S8x4x64x128 : (⟨S_, .f32⟩ : BufTy).Contents (Elt F) → (⟨S8x4x64x128, .f32⟩ : BufTy).Contents (Elt F)) ]
set_option maxHeartbeats 40000000 in
theorem s13_sub : (s13 : List (HloOp τ sig (Elt F))).Forall fun op => op.bufs ⊆ StableHlo.tcRefs τ sig :=
  ⟨StableHlo.binary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub ..⟩
set_option maxHeartbeats 40000000 in
theorem s13_fresh : (s13 : List (HloOp τ sig (Elt F))).Forall fun op => op.fresh = ∅ :=
  StableHlo.forall_fresh_of_map rfl
abbrev s13_W : List (Ref sig .tc) := [main_v148, main_v149, main_v150, main_v151, main_v152, main_v153, main_v154, main_v155, main_cst_15, main_v156]
set_option maxHeartbeats 40000000 in
theorem s13_writes : (s13 : List (HloOp τ sig (Elt F))).Forall fun op => op.writes ⊆ (s13_W.map (Proc.devRef (τ := τ) .tc)).toFinset :=
  StableHlo.forall_writes_sub_of_map rfl

set_option maxHeartbeats 40000000 in
/-- From `main_v157` to `main_v163`. -/
abbrev s14 : List (HloOp τ sig (Elt F)) :=
  [ StableHlo.binary main_v153 main_v156 main_v157 ((fun a b => concatenate S8x4x128x128 2 [⟨S8x4x64x128, a⟩, ⟨S8x4x64x128, b⟩] concatenates_S8x4x64x128_S8x4x64x128_S8x4x128x128_d2) : (⟨S8x4x64x128, .f32⟩ : BufTy).Contents (Elt F) → (⟨S8x4x64x128, .f32⟩ : BufTy).Contents (Elt F) → (⟨S8x4x128x128, .f32⟩ : BufTy).Contents (Elt F)),
    StableHlo.binary main_v156 main_v155 main_v158 ((fun a b => concatenate S8x4x128x128 2 [⟨S8x4x64x128, a⟩, ⟨S8x4x64x128, b⟩] concatenates_S8x4x64x128_S8x4x64x128_S8x4x128x128_d2) : (⟨S8x4x64x128, .f32⟩ : BufTy).Contents (Elt F) → (⟨S8x4x64x128, .f32⟩ : BufTy).Contents (Elt F) → (⟨S8x4x128x128, .f32⟩ : BufTy).Contents (Elt F)),
    StableHlo.unary main_v157 main_v159 (broadcastInDim S8x4x1x128x128 ![0, 1, 3, 4] bcast_S8x4x128x128_S8x4x1x128x128_0_1_3_4 : (⟨S8x4x128x128, .f32⟩ : BufTy).Contents (Elt F) → (⟨S8x4x1x128x128, .f32⟩ : BufTy).Contents (Elt F)),
    StableHlo.unary main_v158 main_v160 (broadcastInDim S8x4x1x128x128 ![0, 1, 3, 4] bcast_S8x4x128x128_S8x4x1x128x128_0_1_3_4 : (⟨S8x4x128x128, .f32⟩ : BufTy).Contents (Elt F) → (⟨S8x4x1x128x128, .f32⟩ : BufTy).Contents (Elt F)),
    StableHlo.binary main_v159 main_v160 main_v161 ((fun a b => concatenate S8x4x2x128x128 2 [⟨S8x4x1x128x128, a⟩, ⟨S8x4x1x128x128, b⟩] concatenates_S8x4x1x128x128_S8x4x1x128x128_S8x4x2x128x128_d2) : (⟨S8x4x1x128x128, .f32⟩ : BufTy).Contents (Elt F) → (⟨S8x4x1x128x128, .f32⟩ : BufTy).Contents (Elt F) → (⟨S8x4x2x128x128, .f32⟩ : BufTy).Contents (Elt F)),
    StableHlo.unary main_v148 main_v162 ((truncf .bf16 · bitsLt_bf16_f32) : (⟨S4096x1024, .f32⟩ : BufTy).Contents (Elt F) → (⟨S4096x1024, .bf16⟩ : BufTy).Contents (Elt F)),
    StableHlo.reshape main_v161 main_v163 (rfl : (.f32 : EltTy) = .f32) shapeCasts_S8x4x2x128x128_S8x8x128x128 ]
set_option maxHeartbeats 40000000 in
theorem s14_sub : (s14 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.unary_bufs_sub .., StableHlo.reshape_bufs_sub ..⟩
set_option maxHeartbeats 40000000 in
theorem s14_fresh : (s14 : List (HloOp τ sig (Elt F))).Forall fun op => op.fresh = ∅ :=
  StableHlo.forall_fresh_of_map rfl
abbrev s14_W : List (Ref sig .tc) := [main_v157, main_v158, main_v159, main_v160, main_v161, main_v162, main_v163]
set_option maxHeartbeats 40000000 in
theorem s14_writes : (s14 : List (HloOp τ sig (Elt F))).Forall fun op => op.writes ⊆ (s14_W.map (Proc.devRef (τ := τ) .tc)).toFinset :=
  StableHlo.forall_writes_sub_of_map rfl

set_option maxHeartbeats 40000000 in
/-- From `main_while0b_call0_c` to `main_while0b_v164`. -/
abbrev b0_0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v114_0 : StableHlo.TRef sig ⟨S64x8x64x128, .f32⟩) ![(.of main_v114_2 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while0b_call0_v0 : StableHlo.TRef sig ⟨S1x8x64x128, .f32⟩) (.of main_while0b_v164 : StableHlo.TRef sig ⟨S8x64x128, .f32⟩) (rfl : (.f32 : EltTy) = .f32) shapeCasts_S1x8x64x128_S8x64x128 ]
set_option maxHeartbeats 40000000 in
theorem b0_0_sub : (b0_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
set_option maxHeartbeats 40000000 in
theorem b0_0_fresh : (b0_0 : List (HloOp τ sig (Elt F))).Forall fun op => op.fresh = ∅ :=
  StableHlo.forall_fresh_of_map rfl
abbrev b0_0_W : List (Ref sig .tc) := [main_while0b_call0_c, main_while0b_call0_c_0, main_while0b_call0_c_1, main_while0b_call0_v0, main_while0b_v164]
set_option maxHeartbeats 40000000 in
theorem b0_0_writes : (b0_0 : List (HloOp τ sig (Elt F))).Forall fun op => op.writes ⊆ (b0_0_W.map (Proc.devRef (τ := τ) .tc)).toFinset :=
  StableHlo.forall_writes_sub_of_map rfl

set_option maxHeartbeats 40000000 in
/-- From `main_while0b_v165` to `main_while0b_v167`. -/
abbrev b0_1 : List (HloOp τ sig (Elt F)) :=
  [ StableHlo.unary main_v114_1 main_while0b_v165 (broadcastInDim S8x64x128 ![0, 1, 2] bcast_S8x1x1_S8x64x128_0_1_2 : (⟨S8x1x1, .f32⟩ : BufTy).Contents (Elt F) → (⟨S8x64x128, .f32⟩ : BufTy).Contents (Elt F)),
    StableHlo.binary main_v114_3 main_while0b_v165 main_while0b_v166 (mulf : (⟨S8x64x128, .f32⟩ : BufTy).Contents (Elt F) → (⟨S8x64x128, .f32⟩ : BufTy).Contents (Elt F) → (⟨S8x64x128, .f32⟩ : BufTy).Contents (Elt F)),
    StableHlo.binary main_while0b_v166 main_while0b_v164 main_while0b_v167 (addf : (⟨S8x64x128, .f32⟩ : BufTy).Contents (Elt F) → (⟨S8x64x128, .f32⟩ : BufTy).Contents (Elt F) → (⟨S8x64x128, .f32⟩ : BufTy).Contents (Elt F)) ]
set_option maxHeartbeats 40000000 in
theorem b0_1_sub : (b0_1 : List (HloOp τ sig (Elt F))).Forall fun op => op.bufs ⊆ StableHlo.tcRefs τ sig :=
  ⟨StableHlo.unary_bufs_sub .., StableHlo.binary_bufs_sub .., StableHlo.binary_bufs_sub ..⟩
set_option maxHeartbeats 40000000 in
theorem b0_1_fresh : (b0_1 : List (HloOp τ sig (Elt F))).Forall fun op => op.fresh = ∅ :=
  StableHlo.forall_fresh_of_map rfl
abbrev b0_1_W : List (Ref sig .tc) := [main_while0b_v165, main_while0b_v166, main_while0b_v167]
set_option maxHeartbeats 40000000 in
theorem b0_1_writes : (b0_1 : List (HloOp τ sig (Elt F))).Forall fun op => op.writes ⊆ (b0_1_W.map (Proc.devRef (τ := τ) .tc)).toFinset :=
  StableHlo.forall_writes_sub_of_map rfl

set_option maxHeartbeats 40000000 in
/-- From `main_while0b_call1_v0` to `main_while0b_v168`. -/
abbrev b0_2 : List (HloOp τ sig (Elt F)) :=
  [ StableHlo.TRef.unary (.of main_v114_3 : StableHlo.TRef sig ⟨S8x64x128, .f32⟩) (.of main_while0b_call1_v0 : StableHlo.TRef sig ⟨S1x8x64x128, .f32⟩) (broadcastInDim S1x8x64x128 ![1, 2, 3] bcast_S8x64x128_S1x8x64x128_1_2_3),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.binaryIndexed (.of main_v114_4 : StableHlo.TRef sig ⟨S64x8x64x128, .f32⟩) (.of main_while0b_call1_v0 : StableHlo.TRef sig ⟨S1x8x64x128, .f32⟩) ![(.of main_v114_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_v168 : StableHlo.TRef sig ⟨S64x8x64x128, .f32⟩) (fun x u i => Host.dynamicUpdateSlice x u (fun k => (i k (Shape.Idx.first h_S_)).toInt) updateFits_S64x8x64x128_S1x8x64x128) ]
set_option maxHeartbeats 40000000 in
theorem b0_2_sub : (b0_2 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
set_option maxHeartbeats 40000000 in
theorem b0_2_fresh : (b0_2 : List (HloOp τ sig (Elt F))).Forall fun op => op.fresh = ∅ :=
  StableHlo.forall_fresh_of_map rfl
abbrev b0_2_W : List (Ref sig .tc) := [main_while0b_call1_v0, main_while0b_call1_c, main_while0b_call1_c_0, main_while0b_call1_c_1, main_while0b_v168]
set_option maxHeartbeats 40000000 in
theorem b0_2_writes : (b0_2 : List (HloOp τ sig (Elt F))).Forall fun op => op.writes ⊆ (b0_2_W.map (Proc.devRef (τ := τ) .tc)).toFinset :=
  StableHlo.forall_writes_sub_of_map rfl

set_option maxHeartbeats 40000000 in
/-- From `main_while0b_c_20` to `main_v114_4`. -/
abbrev b0_3 : List (HloOp τ sig (Elt F)) :=
  [ StableHlo.nullary main_while0b_c_20 (constantI S_ 32 1#32),
    StableHlo.binary main_v114_2 main_while0b_c_20 main_while0b_v169 (addi : (⟨S_, .i32⟩ : BufTy).Contents (Elt F) → (⟨S_, .i32⟩ : BufTy).Contents (Elt F) → (⟨S_, .i32⟩ : BufTy).Contents (Elt F)),
    StableHlo.unary main_while0b_v169 main_v114_2 id,
    StableHlo.unary main_while0b_v167 main_v114_3 id,
    StableHlo.unary main_while0b_v168 main_v114_4 id ]
set_option maxHeartbeats 40000000 in
theorem b0_3_sub : (b0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
set_option maxHeartbeats 40000000 in
theorem b0_3_fresh : (b0_3 : List (HloOp τ sig (Elt F))).Forall fun op => op.fresh = ∅ :=
  StableHlo.forall_fresh_of_map rfl
abbrev b0_3_W : List (Ref sig .tc) := [main_while0b_c_20, main_while0b_v169, main_v114_2, main_v114_3, main_v114_4]
set_option maxHeartbeats 40000000 in
theorem b0_3_writes : (b0_3 : List (HloOp τ sig (Elt F))).Forall fun op => op.writes ⊆ (b0_3_W.map (Proc.devRef (τ := τ) .tc)).toFinset :=
  StableHlo.forall_writes_sub_of_map rfl

set_option maxHeartbeats 40000000 in
/-- From `main_while0c_c_20` to `main_while0c_v164`. -/
abbrev c0 : List (HloOp τ sig (Elt F)) :=
  [ StableHlo.nullary main_while0c_c_20 (constantI S_ 32 64#32),
    StableHlo.binary main_v114_2 main_while0c_c_20 main_while0c_v164 (cmpi .slt : (⟨S_, .i32⟩ : BufTy).Contents (Elt F) → (⟨S_, .i32⟩ : BufTy).Contents (Elt F) → (⟨S_, .i1⟩ : BufTy).Contents (Elt F)) ]
set_option maxHeartbeats 40000000 in
theorem c0_sub : (c0 : List (HloOp τ sig (Elt F))).Forall fun op => op.bufs ⊆ StableHlo.tcRefs τ sig :=
  ⟨StableHlo.nullary_bufs_sub .., StableHlo.binary_bufs_sub ..⟩
set_option maxHeartbeats 40000000 in
theorem c0_fresh : (c0 : List (HloOp τ sig (Elt F))).Forall fun op => op.fresh = ∅ :=
  StableHlo.forall_fresh_of_map rfl
abbrev c0_W : List (Ref sig .tc) := [main_while0c_c_20, main_while0c_v164]
set_option maxHeartbeats 40000000 in
theorem c0_writes : (c0 : List (HloOp τ sig (Elt F))).Forall fun op => op.writes ⊆ (c0_W.map (Proc.devRef (τ := τ) .tc)).toFinset :=
  StableHlo.forall_writes_sub_of_map rfl

theorem part0_chain (c : Dev nD) : main_part0 (F := F) c = (Pipeline.chainK [StableHlo.seq s0, StableHlo.seq s1] (StableHlo.seq s2) : (Prog (TpuEff nD τ sig (Elt F) (HostLoop.Sig (Pipeline.Sig Λ₀ (Fin 0) fun p => (pcfgs (F := F) p).Adm) 1) .tc) PUnit)) := by
  rewrite [StableHlo.chainK_seq_cons, StableHlo.chainK_seq_cons]
  chain_rfl
theorem part1_chain (c : Dev nD) : main_part1 (F := F) c = (Pipeline.chainK [StableHlo.seq s3, StableHlo.seq s4, StableHlo.seq s5] (StableHlo.seq s6) : (Prog (TpuEff nD τ sig (Elt F) (HostLoop.Sig (Pipeline.Sig Λ₀ (Fin 0) fun p => (pcfgs (F := F) p).Adm) 1) .tc) PUnit)) := by
  rewrite [StableHlo.chainK_seq_cons, StableHlo.chainK_seq_cons, StableHlo.chainK_seq_cons]
  chain_rfl
theorem part2_chain (c : Dev nD) : main_part2 (F := F) c = (Pipeline.chainK [StableHlo.seq s7, StableHlo.seq s8, HostLoop.enter 0, StableHlo.seq s9, StableHlo.seq s10, StableHlo.seq s11, StableHlo.seq s12] (StableHlo.seq s13) : (Prog (TpuEff nD τ sig (Elt F) (HostLoop.Sig (Pipeline.Sig Λ₀ (Fin 0) fun p => (pcfgs (F := F) p).Adm) 1) .tc) PUnit)) := by
  rewrite [StableHlo.chainK_seq_cons, StableHlo.chainK_seq_cons, Pipeline.chainK_cons, StableHlo.chainK_seq_cons, StableHlo.chainK_seq_cons, StableHlo.chainK_seq_cons, Pipeline.chainK_cons]
  chain_rfl
theorem part3_chain (c : Dev nD) : main_part3 (F := F) c = (Pipeline.chain [StableHlo.seq s14] : (Prog (TpuEff nD τ sig (Elt F) (HostLoop.Sig (Pipeline.Sig Λ₀ (Fin 0) fun p => (pcfgs (F := F) p).Adm) 1) .tc) PUnit)) := by
  chain_rfl
theorem body0_chain : main_while0_body (F := F) = (Pipeline.chain [StableHlo.seq b0_0, StableHlo.seq b0_1, StableHlo.seq b0_2, StableHlo.seq b0_3] : (Prog (TpuEff nD τ sig (Elt F) (HostLoop.Sig (Pipeline.Sig Λ₀ (Fin 0) fun p => (pcfgs (F := F) p).Adm) 1) .tc) PUnit)) := by
  rewrite [Pipeline.chain_cons, StableHlo.chain_seq_cons, Pipeline.chain_cons]
  chain_rfl
set_option maxRecDepth 16384 in
theorem main_chain (c : Dev nD) : main (F := F) c = (Pipeline.chain [StableHlo.seq s0, StableHlo.seq s1, StableHlo.seq s2, StableHlo.seq s3, StableHlo.seq s4, StableHlo.seq s5, StableHlo.seq s6, StableHlo.seq s7, StableHlo.seq s8, HostLoop.enter 0, StableHlo.seq s9, StableHlo.seq s10, StableHlo.seq s11, StableHlo.seq s12, StableHlo.seq s13, StableHlo.seq s14] : (Prog (TpuEff nD τ sig (Elt F) (HostLoop.Sig (Pipeline.Sig Λ₀ (Fin 0) fun p => (pcfgs (F := F) p).Adm) 1) .tc) PUnit)) := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  chain_rfl

abbrev preI : List (List (HloOp τ sig (Elt F))) := [s0, s1, s2, s3, s4, s5, s6, s7, s8]
theorem preI_plain : StableHlo.Plain (preI (F := F)) := .cons s0_sub (hf := List.forall_iff_forall_mem.mp s0_fresh) (.cons s1_sub (hf := List.forall_iff_forall_mem.mp s1_fresh) (.cons s2_sub (hf := List.forall_iff_forall_mem.mp s2_fresh) (.cons s3_sub (hf := List.forall_iff_forall_mem.mp s3_fresh) (.cons s4_sub (hf := List.forall_iff_forall_mem.mp s4_fresh) (.cons s5_sub (hf := List.forall_iff_forall_mem.mp s5_fresh) (.cons s6_sub (hf := List.forall_iff_forall_mem.mp s6_fresh) (.cons s7_sub (hf := List.forall_iff_forall_mem.mp s7_fresh) (.cons s8_sub (hf := List.forall_iff_forall_mem.mp s8_fresh) (.nil)))))))))

abbrev postI : List (List (HloOp τ sig (Elt F))) := [s9, s10, s11, s12, s13, s14]
theorem postI_plain : StableHlo.Plain (postI (F := F)) := .cons s9_sub (hf := List.forall_iff_forall_mem.mp s9_fresh) (.cons s10_sub (hf := List.forall_iff_forall_mem.mp s10_fresh) (.cons s11_sub (hf := List.forall_iff_forall_mem.mp s11_fresh) (.cons s12_sub (hf := List.forall_iff_forall_mem.mp s12_fresh) (.cons s13_sub (hf := List.forall_iff_forall_mem.mp s13_fresh) (.cons s14_sub (hf := List.forall_iff_forall_mem.mp s14_fresh) (.nil))))))

abbrev body0 : List (List (HloOp τ sig (Elt F))) := [b0_0, b0_1, b0_2, b0_3]
theorem body0_plain : StableHlo.Plain (body0 (F := F)) := .cons b0_0_sub (hf := List.forall_iff_forall_mem.mp b0_0_fresh) (.cons b0_1_sub (hf := List.forall_iff_forall_mem.mp b0_1_fresh) (.cons b0_2_sub (hf := List.forall_iff_forall_mem.mp b0_2_fresh) (.cons b0_3_sub (hf := List.forall_iff_forall_mem.mp b0_3_fresh) (.nil))))

end Cert.RetFwdReferenceIdeal.Lists
-- ==== Proof.RetFwdLoops.lean ====
/-
A host program with one counted loop: a list of stretches, the loop, a second list. Every run ends with each
buffer at the value the stretches give it in order.
-/
module

public import proofs.«01_k».proof.Proof.RetLoops

@[expose] public section

noncomputable section

namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs CSeg PCfg Ticket)

variable {nD : Nat} {τ : Topo} {sig : RefSig} {F : FTy → Type} [FloatOps F] {Λ₀ : Idealize.SL.Sem.Labels}

local notation "𝕄" => MT nD τ sig Unit (Elt F) ℕ (Option PUnit) ℕ

variable {pcs : Fin 0 → PCfg sig Λ₀ (Elt F)} {defs₀ : Defs nD τ sig (Elt F) Λ₀} {nL : Nat}
  {loops : Fin nL → Prog (TpuEff nD τ sig (Elt F) (HostLoop.Sig (Pipeline.Sig Λ₀ (Fin 0) fun p => (pcs p).Adm) nL) .tc) PUnit}
variable (A : Loop pcs loops) (pre post : Stretches τ sig F) (m : (ℓ : Loc nD τ sig) → Buf (Elt F) ℓ)

/-- The buffers at the end. -/
abbrev atEnd1 (c : Dev nD) : Valuation τ sig (Elt F) := afterL post (A.out (into1 pre m) c)

variable (hpre : Plain pre) (hpost : Plain post) (hA : A.Tested defs₀ (into1 pre m))

/-- The whole program's segments. -/
def allSegs1 : List (CSeg pcs (none_adm pcs) defs₀ Variants.none no_ix no_lv loops (none_tk (nD := nD) (τ := τ) pcs)) :=
  lineSegs pre hpre (launchContents m) ++ A.seg (into1 pre m) hA :: lineSegs post hpost (A.out (into1 pre m))

/-- The same as a list of programs. -/
abbrev items1 (l : Fin nL) : List (Prog (TpuEff nD τ sig (Elt F) (HostLoop.Sig (Pipeline.Sig Λ₀ (Fin 0) fun p => (pcs p).Adm) nL) .tc) PUnit) :=
  (pre.map fun ops => (seq ops : Prog _ PUnit)) ++ HostLoop.enter l ::
    post.map fun ops => (seq ops : Prog _ PUnit)

theorem allSegs1_prog : (allSegs1 A pre post m hpre hpost hA).map CSeg.prog = items1 (pcs := pcs) pre post A.l := by
  unfold allSegs1 lineSegs
  rw [List.map_append, List.map_cons, segsOf_prog, segsOf_prog]
  rfl

theorem allSegs1_chain : CSeg.Chains (fun c => iprop(held (c : Thread nD τ) (ucRefs τ sig) (launchContents m c) ∗ Debt F c))
    (allSegs1 A pre post m hpre hpost hA)
    (fun c => iprop(iprop(held (c : Thread nD τ) (ucRefs τ sig) (atEnd1 A pre post m c)) ∗ ∃ W, owes (c : Thread nD τ) (0 : CellTallies nD τ sig Unit) W)) := by
  unfold allSegs1 lineSegs
  exact CSeg.Chains.append (segsOf_chains _ _ _ _ _ _ _ _ (Debt F) pre hpre _) ⟨fun _ => .rfl, segsOf_chains _ _ _ _ _ _ _ _ (Debt F) post hpost _⟩

include hpre hpost hA in
/-- The run: every weakly fair execution from zero counters ends with each unscoped buffer at `atEnd`. -/
theorem run1 [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain (items1 (pcs := pcs) pre post A.l)) (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd1 A pre post m c (Proc.devRef .tc b)) := by
  refine Pipeline.θ_run_regions_loop_kit (Ix := Unit) (Name := ℕ) (U := Option PUnit) (Lvl := ℕ) (J := Fin 0) (P := Fin 0) (Val := Elt F)
    pcs (none_adm pcs) (no_cell pcs) defs₀ Variants.none no_ix no_lv loops (none_tk pcs) m ρ main
    (allSegs1 A pre post m hpre hpost hA) ?_
    (CSeg.pairwise_disjoint_of_T_empty _ fun s _ => Finset.eq_empty_of_isEmpty s.T)
    (O₀ := 0) (hL := fun _ _ => rfl) (G := fun _ => iprop(emp)) (u₀ := 1) ?_
    (T₀ := fun c => iprop(held (c : Thread nD τ) (ucRefs τ sig) (launchContents m c) ∗ Debt F c))
    (Tₙ := fun c => iprop(held (c : Thread nD τ) (ucRefs τ sig) (atEnd1 A pre post m c)))
    (allSegs1_chain A pre post m hpre hpost hA) ?_
    (QY := fun c s => ∀ b ∈ ucRefs τ sig, s.mem ((c : Dev nD), b) = atEnd1 A pre post m c b) ?_
    (fun _ h c b hb => h c _ (devRef_mem_ucRefs b hb))
  · intro c Q
    rw [hmain c, ← allSegs1_prog A pre post m hpre hpost hA]
    exact .rfl
  · iintro -
    imodintro
    isplitl []
    · rw [Finset.univ_eq_empty, BI.bigSep_empty]
      iempintro
    · have none : (BI.emp : sProp 𝕄) ⊢ bigSep Finset.univ (fun _ : Dev nD => (BI.emp : sProp 𝕄)) := by rw [BI.bigSep_emp_const]
      iapply none
      iempintro
  · refine Pipeline.initEach no_ix no_lv fun c => ?_
    rw [show unscopedBufs c (fun b => m ((c : Thread nD τ).loc b)) = held (c : Thread nD τ) (ucRefs τ sig) (launchContents m c) from
      Pipeline.unscopedBufs_held c (launchContents m c)]
    iintro ⟨⟨H, -, D, -, -, -⟩, -⟩
    imodintro
    isplitl [H]
    · iexact H
    iexists ∅
    iexact D
  · intro c s
    unfold held
    iintro ⟨H, S⟩
    ihave R := (pointsTo_read_all (ucRefs τ sig) (fun b => ((c : Dev nD), b)) (fun b => atEnd1 A pre post m c b) s) $$ [H S]
    · isplitl [H]
      · iexact H
      iexact S
    icases R with ⟨%h, S⟩
    imodintro
    isplitr
    · ipureintro; exact h
    iexact S

end Cert.TwoLoops
-- ==== Proof.RetFwdRun.lean ====
/-
The run of the reference of the retention's forward pass: the trip counter of its loop, its test, and
the buffers at the end.
-/
module

public import proofs.«01_k».proof.Proof.RetFwdLists
public import proofs.«01_k».proof.Proof.RetFwdLoops
public import Idealize.ShloMosaic.Lib.Scf.ExitTest
public import Idealize.ShloMosaic.Lib.Scf.Counter

@[expose] public section

set_option maxRecDepth 16384

noncomputable section

namespace Cert.RetFwdReferenceIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.RetFwdReferenceIdeal Cert.RetFwdReferenceIdeal.Gen Cert.RetFwdReferenceIdeal.Lists Cert.TwoLoops

variable {F : FTy → Type} [FloatOps F]

/-- The loop as data. -/
def loop0 : Loop (pcfgs (F := F)) loops where
  l := 0
  cond := main_while0_cond
  body := main_while0_body
  is_step := rfl
  test := c0
  trip := body0
  plain := body0_plain
  is_chain := by rw [body0_chain]; rfl
  n := 64

theorem ctr0_last (V : Valuation τ sig (Elt F)) :
    after b0_3 V (Proc.devRef .tc main_v114_2) = addi (V (Proc.devRef .tc main_v114_2)) (constantI S_ 32 1#32) := by
  after_results
  rfl

/-- One trip adds one to its counter. -/
theorem ctr0_trip (V : Valuation τ sig (Elt F)) :
    afterL body0 (after c0 V) (Proc.devRef .tc main_v114_2) = addi (V (Proc.devRef .tc main_v114_2)) (constantI S_ 32 1#32) := by
  simp only [afterL_cons, afterL_nil]
  rw [ctr0_last, after_of_writes_sub b0_2 _ b0_2_writes (by decide +kernel),
    after_of_writes_sub b0_1 _ b0_1_writes (by decide +kernel),
    after_of_writes_sub b0_0 _ b0_0_writes (by decide +kernel),
    after_of_writes_sub c0 _ c0_writes (by decide +kernel)]

theorem ctr0_at (W : Dev nD → Valuation τ sig (Elt F)) (c : Dev nD)
    (h : W c (Proc.devRef .tc main_v114_2) = fun _ => (0#32 : BitVec 32)) :
    ∀ k, atTrip c0 body0 W k c (Proc.devRef .tc main_v114_2) = fun _ => Scf.iv 0#32 1#32 k
  | 0 => by rw [show atTrip c0 body0 W 0 c = W c from rfl, h, Scf.iv_zero]
  | k + 1 => by
    rw [show atTrip c0 body0 W (k + 1) c = afterL body0 (after c0 (atTrip c0 body0 W k c)) from rfl,
      ctr0_trip, ctr0_at W c h k, Scf.iv_succ]
    rfl

set_option backward.isDefEq.respectTransparency.types false in
/-- The loop's test. -/
theorem tested0 (W : Dev nD → Valuation τ sig (Elt F)) (h : ∀ c, W c (Proc.devRef .tc main_v114_2) = fun _ => (0#32 : BitVec 32)) :
    CondSpec (pcfgs (F := F)) defs₀ loops (main_while0_cond (F := F)) c0 body0 W 64 := by
  intro k hk c bd
  have now := ctr0_at W c (h c) k
  unfold main_while0_cond
  rw [wp_bind]
  iintro ⟨B, H⟩
  iapply (wp_hlo_within (Variants.lift Variants.none) (c : Thread nD τ) bd Set.univ (sub_ucRefs _ (nullary_bufs_sub ..))) $$ [B H]
  · isplitl [B]
    · iexact B
    iexact H
  iintro ⟨B, H⟩
  rw [wp_ret]
  imodintro
  iapply (wp_hlo_within (Variants.lift Variants.none) (c : Thread nD τ) bd Set.univ (sub_ucRefs _ (binary_bufs_sub ..))) $$ [B H]
  · isplitl [B]
    · iexact B
    iexact H
  iintro ⟨B, H⟩
  rw [HostLoop.elt_apply, wp_ret]
  imodintro
  isplitr
  · ipureintro
    show Iff (IntOp.cmpi .slt (HloOp.result _ (atTrip c0 body0 W k c) main_v114_2 HostLoop.idx0)
        (HloOp.result _ (atTrip c0 body0 W k c) main_while0c_c_20 HostLoop.idx0) = 1#1) (k < 64)
    rw [nullary_result_ne _ _ _ _ (by decide), nullary_result, now]
    exact Scf.cmpi_slt_iv_ub_iff (lb := 0#32) (ub := 64#32) (st := 1#32) (by decide) (show k ≤ Scf.trips 0#32 64#32 1#32 from hk)
  isplitl [B]
  · iexact B
  rw [after_cons, after_cons, after_nil]
  iexact H

/-- The counter is zero after the stretch in front of it. -/
theorem ctr0_zero (V : Valuation τ sig (Elt F)) : after s8 V (Proc.devRef .tc main_v114_2) = fun _ => (0#32 : BitVec 32) := by
  after_results
  rfl

variable (m : (ℓ : Loc nD τ sig) → Buf (Elt F) ℓ) (ρ : Dev nD → PrngReg)

/-- The buffers at two places: at the loop and after it. -/
abbrev W1 (c : Dev nD) : Valuation τ sig (Elt F) := into1 preI m c
abbrev W2 (c : Dev nD) : Valuation τ sig (Elt F) := loop0.out (W1 m) c

theorem zero0 (c : Dev nD) : W1 m c (Proc.devRef .tc main_v114_2) = fun _ => (0#32 : BitVec 32) := by
  show afterL preI (launchContents m c) _ = _
  simp only [afterL_cons, afterL_nil]
  exact ctr0_zero _

/-- The run: every buffer ends at the fold of the stretches and the loops. -/
theorem run_at : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd1 loop0 preI postI m c (Proc.devRef .tc b)) :=
  run1 (pcs := pcfgs (F := F)) (defs₀ := defs₀) loop0 preI postI m preI_plain postI_plain
    (tested0 _ (zero0 m)) main (fun c => by rw [main_chain]; rfl) ρ

/-- A buffer no stretch and the loop does not write. -/
structure Untouched (r : Ref sig .tc) : Prop where
  s0 : r ∉ s0_W
  s1 : r ∉ s1_W
  s2 : r ∉ s2_W
  s3 : r ∉ s3_W
  s4 : r ∉ s4_W
  s5 : r ∉ s5_W
  s6 : r ∉ s6_W
  s7 : r ∉ s7_W
  s8 : r ∉ s8_W
  s9 : r ∉ s9_W
  s10 : r ∉ s10_W
  s11 : r ∉ s11_W
  s12 : r ∉ s12_W
  s13 : r ∉ s13_W
  s14 : r ∉ s14_W
  b0_0 : r ∉ b0_0_W
  b0_1 : r ∉ b0_1_W
  b0_2 : r ∉ b0_2_W
  b0_3 : r ∉ b0_3_W
  c0 : r ∉ c0_W

theorem preI_keep {r : Ref sig .tc} (h : Untouched r) (V : Valuation τ sig (Elt F)) :
    afterL preI V (Proc.devRef .tc r) = V (Proc.devRef .tc r) := by
  simp only [afterL_cons, afterL_nil]
  rw [after_of_writes_sub s8 _ s8_writes h.s8,
    after_of_writes_sub s7 _ s7_writes h.s7,
    after_of_writes_sub s6 _ s6_writes h.s6,
    after_of_writes_sub s5 _ s5_writes h.s5,
    after_of_writes_sub s4 _ s4_writes h.s4,
    after_of_writes_sub s3 _ s3_writes h.s3,
    after_of_writes_sub s2 _ s2_writes h.s2,
    after_of_writes_sub s1 _ s1_writes h.s1,
    after_of_writes_sub s0 _ s0_writes h.s0]

theorem postI_keep {r : Ref sig .tc} (h : Untouched r) (V : Valuation τ sig (Elt F)) :
    afterL postI V (Proc.devRef .tc r) = V (Proc.devRef .tc r) := by
  simp only [afterL_cons, afterL_nil]
  rw [after_of_writes_sub s14 _ s14_writes h.s14,
    after_of_writes_sub s13 _ s13_writes h.s13,
    after_of_writes_sub s12 _ s12_writes h.s12,
    after_of_writes_sub s11 _ s11_writes h.s11,
    after_of_writes_sub s10 _ s10_writes h.s10,
    after_of_writes_sub s9 _ s9_writes h.s9]

theorem body0_keep {r : Ref sig .tc} (h : Untouched r) (V : Valuation τ sig (Elt F)) :
    afterL body0 V (Proc.devRef .tc r) = V (Proc.devRef .tc r) := by
  simp only [afterL_cons, afterL_nil]
  rw [after_of_writes_sub b0_3 _ b0_3_writes h.b0_3,
    after_of_writes_sub b0_2 _ b0_2_writes h.b0_2,
    after_of_writes_sub b0_1 _ b0_1_writes h.b0_1,
    after_of_writes_sub b0_0 _ b0_0_writes h.b0_0]

theorem loop0_keep {r : Ref sig .tc} (h : Untouched r) (W : Dev nD → Valuation τ sig (Elt F)) (c : Dev nD) :
    loop0.out W c (Proc.devRef .tc r) = W c (Proc.devRef .tc r) := by
  have go : ∀ k, atTrip c0 body0 W k c (Proc.devRef .tc r) = W c (Proc.devRef .tc r) := by
    intro k
    induction k with
    | zero => rfl
    | succ k ih =>
      show afterL body0 (after c0 (atTrip c0 body0 W k c)) _ = _
      rw [body0_keep h, after_of_writes_sub c0 _ c0_writes h.c0, ih]
  exact (after_of_writes_sub c0 _ c0_writes h.c0).trans (go 64)

/-- Such a buffer ends as it was launched. -/
theorem atEnd_keep {r : Ref sig .tc} (h : Untouched r) (c : Dev nD) :
    atEnd1 loop0 preI postI m c (Proc.devRef .tc r) = m (c, Proc.devRef .tc r) :=
  (postI_keep h _).trans ((loop0_keep h _ c).trans (preI_keep h _))

theorem arg0_kept : Untouched main_arg0 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩

/-- The run, read at the results and the argument. -/
theorem run : θ_run (defs (F := F)) (onTc (τ := τ) (main (F := F))) ⟨m, fun _ => 0, ρ⟩ (fun r => ∀ c : Dev nD,
    r.2.mem ((c.tc : Thread nD τ).loc main_v162) = atEnd1 loop0 preI postI m c (Proc.devRef .tc main_v162)
      ∧ r.2.mem ((c.tc : Thread nD τ).loc main_v163) = atEnd1 loop0 preI postI m c (Proc.devRef .tc main_v163)
      ∧ r.2.mem ((c.tc : Thread nD τ).loc main_arg0) = m ((c.tc : Thread nD τ).loc main_arg0)) :=
  (θ_run defs _ _).mono (fun r h c => ⟨h c main_v162 rfl, h c main_v163 rfl, (h c main_arg0 rfl).trans (atEnd_keep m arg0_kept c)⟩) (run_at m ρ)

end Cert.RetFwdReferenceIdeal.Runs
-- ==== Proof.RetFwdHead.lean ====
/-
  One head of the retention's forward kernel: the vectors its body computes over the loads it makes, at real numbers.
-/
module

public import proofs.«01_k».proof.Proof.Gen.RetFwdKernelIdeal.Value
public import proofs.«01_k».proof.Proof.RetHead

@[expose] public section

set_option maxRecDepth 16384

noncomputable section

open Idealize.ShloMosaic Idealize.ShloMosaic.TcCoe Idealize.SL.Sem

namespace Cert.RetFwdKernelIdeal.Value

open Cert.RetFwdKernelIdeal Cert.RetFwdKernelIdeal.Gen Cert.RetMath
open Cert.RetKernelIdeal.Value (lit_128 eps lit_eps eps_pos div_coe rsqrt_coe logistic_coe lanes)

/-- What one head's part of the body loads: the rotated queries and keys, the values and gates, the head's rows of the tables and the
    state before the block. -/
structure Lane where
  rq : FVec Ideal S512x128 .f32
  rk : FVec Ideal S512x128 .f32
  v : Vec Ideal S512x128 .bf16
  g : Vec Ideal S512x128 .bf16
  mqs : Vec Ideal S1x1x128 .f32
  qdm : Vec Ideal S1x512x128 .f32
  kdm : Vec Ideal S1x512x128 .f32
  msk : Vec Ideal S1x512x512 .f32
  cd : Vec Ideal S1x1x128 .f32
  st : Vec Ideal S1x128x128 .f32

namespace Lane

variable (T : Lane)

/-- The head's output before its norm, what it stores of it, and the state it leaves. -/
def mix : FVec Ideal S512x128 .f32 := k0_pay13 T.rq (truncf .bf16 T.rk bitsLt_bf16_f32) (k0_pay9 T.v) T.mqs T.msk T.st T.qdm
def kept : FVec Ideal S512x128 .bf16 := k0_pay16 (k0_pay10 T.g) T.mix
def next : FVec Ideal S1x128x128 .f32 := k0_pay15 (k0_pay14 T.rk (k0_pay9 T.v) T.st T.cd T.kdm)

/-- The vectors hold the reals of head `H` in block `b`: `e` is the head's half of the 128 lanes, `q` and `k` the unscaled rotated pair. -/
structure Holds (T : Lane) (H : Head) (b e : ℕ) (q k : ℕ → ℕ → ℝ) : Prop where
  e_lt : e < 2
  ε : H.ε = eps
  hq : ∀ n d, q n (64 * e + d) * (1 / 8) = H.q n d
  hk : ∀ n d, k n (64 * e + d) = H.k n d
  rq : ∀ r l, T.rq (ix2 r l) = (q (b * 512 + r.val) l.val : ℝ)
  rk : ∀ r l, T.rk (ix2 r l) = (k (b * 512 + r.val) l.val : ℝ)
  v : ∀ r l, T.v (ix2 r l) = (H.v (b * 512 + r.val) l.val : ℝ)
  g : ∀ r l, T.g (ix2 r l) = (H.g (b * 512 + r.val) l.val : ℝ)
  mqs : ∀ l, T.mqs (ix3 0 0 l) = ((if l.val / 64 = e then 1 / 8 else 0 : ℝ) : ℝ)
  qdm : ∀ r l, T.qdm (ix3 0 r l) = ((if l.val / 64 = e then Real.exp (H.l * r.val) * (1 / 8) else 0 : ℝ) : ℝ)
  kdm : ∀ r l, T.kdm (ix3 0 r l) = ((if l.val / 64 = e then Real.exp (H.l * (512 - r.val)) else 0 : ℝ) : ℝ)
  msk : ∀ r x, T.msk (ix3 0 r x) = (D H.l r.val x.val : ℝ)
  cd : ∀ l, T.cd (ix3 0 0 l) = (Real.exp (H.l * 512) : ℝ)
  st : ∀ (l x : Fin 128), T.st (ix3 0 l x) = ((if l.val / 64 = e then H.st 512 b (l.val % 64) x.val else 0 : ℝ) : ℝ)

variable {T} {H : Head} {b e : ℕ} {q k : ℕ → ℕ → ℝ} (h : T.Holds H b e q k) (hb : b < 8)
include h

/-- A row of queries against a row of keys, over the head's lanes. -/
theorem Holds.score (r x : Fin 512) :
    ∑ l : Fin 128, T.rq (ix2 r l) * T.mqs (ix3 0 0 l) * T.rk (ix2 x l) = (H.s (b * 512 + r.val) (b * 512 + x.val) : ℝ) := by
  simp only [h.rq, h.rk, h.mqs, ← EReal.coe_mul, ← RetMath.coe_sum]
  unfold Head.s
  simp only [← h.hq, ← h.hk]
  rw [← lanes e h.e_lt fun l => q (b * 512 + r.val) l * (1 / 8) * k (b * 512 + x.val) l]
  congr 1
  exact Finset.sum_congr rfl fun l _ => by split <;> simp

/-- The queries against the state before the block. -/
theorem Holds.past (r : Fin 512) (x : Fin 128) :
    ∑ l : Fin 128, T.rq (ix2 r l) * T.qdm (ix3 0 r l) * T.st (ix3 0 l x) =
      (∑ d : Fin 64, H.q (b * 512 + r.val) d * Real.exp (H.l * (r.val : ℕ)) * H.st 512 b d x.val : ℝ) := by
  simp only [h.rq, h.qdm, h.st, ← EReal.coe_mul, ← RetMath.coe_sum]
  have hd (d : Fin 64) : (64 * e + d.val) % 64 = d.val := by omega
  have hs := lanes e h.e_lt fun l => q (b * 512 + r.val) l * (1 / 8) * Real.exp (H.l * r.val) * H.st 512 b (l % 64) x.val
  simp only [h.hq, hd] at hs
  rw [← hs]
  congr 1
  refine Finset.sum_congr rfl fun l _ => ?_
  split
  · ring
  · simp

include hb

theorem Holds.mix_eq (r : Fin 512) (x : Fin 128) : T.mix (ix2 r x) = (H.o (b * 512 + r.val) x.val : ℝ) := by
  unfold mix
  pointwise [k0_pay13, k0_pay11, k0_pay9]
  simp only [h.score, h.msk, h.v, h.past, ← EReal.coe_mul, ← RetMath.coe_sum, ← EReal.coe_add]
  rw [← H.o_blk (N := 8) (by norm_num) (by norm_num) hb r x.val]

theorem Holds.kept_eq (r : Fin 512) (x : Fin 128) :
    T.kept (ix2 r x) = (cen (fun y => H.o (b * 512 + r.val) y) x * rs (fun y => H.o (b * 512 + r.val) y) H.ε *
      (H.g (b * 512 + r.val) x.val * sg (H.g (b * 512 + r.val) x.val)) : ℝ) := by
  have hw : 0 < wv (fun y : Fin 128 => H.o (b * 512 + r.val) y) H.ε := wv_pos _ _ (h.ε ▸ eps_pos)
  unfold kept
  pointwise [k0_pay16, k0_pay10]
  simp only [h.mix_eq hb, h.g, logistic_coe, lit_128, lit_eps, ← RetMath.coe_sum, div_coe _ (128 : ℝ) (by norm_num), ← EReal.coe_sub, ← EReal.coe_mul,
    ← EReal.coe_add]
  have hw' : (∑ y : Fin 128, (H.o (b * 512 + r.val) y - (∑ z : Fin 128, H.o (b * 512 + r.val) z) / 128) *
      (H.o (b * 512 + r.val) y - (∑ z : Fin 128, H.o (b * 512 + r.val) z) / 128)) / 128 + eps = wv (fun y : Fin 128 => H.o (b * 512 + r.val) y) H.ε := by
    rw [h.ε]; rfl
  rw [hw', rsqrt_coe _ hw]
  simp only [← EReal.coe_mul]
  rfl

omit hb in
theorem Holds.next_eq (l x : Fin 128) :
    T.next (ix3 0 l x) = ((if l.val / 64 = e then H.st 512 (b + 1) (l.val % 64) x.val else 0 : ℝ) : ℝ) := by
  unfold next
  pointwise [k0_pay15, k0_pay14, k0_pay11, k0_pay9]
  simp only [h.st, h.cd, h.rk, h.kdm, h.v, ← EReal.coe_mul, ← RetMath.coe_sum, ← EReal.coe_add]
  congr 1
  split
  · next hx =>
    unfold Head.st
    rw [St_succ, Finset.sum_range]
    refine congrArg₂ (· + ·) (by norm_num) (Finset.sum_congr rfl fun i _ => ?_)
    rw [← h.hk, show 64 * e + l.val % 64 = l.val by omega]
    push_cast
    ring
  · simp

end Lane

end Cert.RetFwdKernelIdeal.Value
-- ==== Proof.RetFwdBlock.lean ====
/-
  What one grid point of the retention's forward kernel stores: each head's output, the state before the block and the state after it.
-/
module

public import proofs.«01_k».proof.Proof.RetFwdHead
public import proofs.«01_k».proof.Proof.RetBlock

@[expose] public section

set_option maxRecDepth 16384

noncomputable section

open Idealize.ShloMosaic Idealize.ShloMosaic.TcCoe Idealize.SL.Sem

namespace Cert.RetFwdKernelIdeal.Value

open Cert.RetFwdKernelIdeal Cert.RetFwdKernelIdeal.Gen
open Cert.RetKernelIdeal.Value.Block (in2 in3 in4)

/-- The blocks a point's body reads. -/
structure Tile where
  proj : Vec Ideal S512x3072 .bf16
  rope : Vec Ideal S3x512x128 .f32
  msk : Vec Ideal S8x512x512 .f32
  qdm : Vec Ideal S8x512x128 .f32
  kdm : Vec Ideal S8x512x128 .f32
  mqs : Vec Ideal S8x8x128 .f32
  cd : Vec Ideal S8x8x128 .f32

namespace Tile

variable (X : Tile)

/-- The cosines (`k = 0`) and the sines of either half. -/
def wave (k : ℕ) (hk : k < 3) : Vec Ideal S1x512x128 .f32 := View.ld X.rope (Rect.unit ![k, 0, 0] ![1, 512, 128] (in3 (by omega) le_rfl le_rfl))

/-- The pair of heads at column `o`, rotated. -/
def turn (o : ℕ) (h : o + 128 ≤ 3072) : FVec Ideal S512x128 .f32 :=
  k0_pay6 (X.wave 0 (by norm_num)) (X.wave 1 (by norm_num)) (X.wave 2 (by norm_num)) (View.ld X.proj (Rect.unit ![0, o] ![512, 128] (in2 h)))

/-- Head `h`'s vectors, over the state `st` before the block. -/
def lane (h : ℕ) (hh : h < 8) (st : Vec Ideal S1x128x128 .f32) : Lane where
  rq := X.turn (128 * (h / 2)) (by omega)
  rk := X.turn (512 + 128 * (h / 2)) (by omega)
  v := View.ld X.proj (Rect.unit ![0, 1024 + 128 * h] ![512, 128] (in2 (by omega)))
  g := View.ld X.proj (Rect.unit ![0, 2048 + 128 * h] ![512, 128] (in2 (by omega)))
  mqs := View.ld X.mqs (Rect.unit ![h, 0, 0] ![1, 1, 128] (in3 (by omega) (by norm_num) le_rfl))
  qdm := View.ld X.qdm (Rect.unit ![h, 0, 0] ![1, 512, 128] (in3 (by omega) le_rfl le_rfl))
  kdm := View.ld X.kdm (Rect.unit ![h, 0, 0] ![1, 512, 128] (in3 (by omega) le_rfl le_rfl))
  msk := View.ld X.msk (Rect.unit ![h, 0, 0] ![1, 512, 512] (in3 (by omega) le_rfl le_rfl))
  cd := View.ld X.cd (Rect.unit ![h, 0, 0] ![1, 1, 128] (in3 (by omega) (by norm_num) le_rfl))
  st := st

variable (st : Fin 8 → Vec Ideal S1x128x128 .f32)

/-- One head's store in each of the three arrays. -/
def leaves (h : ℕ) (hh : h < 8) : View.Piece (Elt Ideal) S8x128x128 .f32 :=
  ⟨Rect.unit ![h, 0, 0] ![1, 128, 128] (in3 (by omega) le_rfl le_rfl), (X.lane h hh (st ⟨h, hh⟩)).next⟩
def keeps (h : ℕ) (hh : h < 8) : View.Piece (Elt Ideal) S512x1024 .bf16 :=
  ⟨Rect.unit ![0, 128 * h] ![512, 128] (in2 (by omega)), (X.lane h hh (st ⟨h, hh⟩)).kept⟩
def saves (h : ℕ) (hh : h < 8) : View.Piece (Elt Ideal) S1x8x128x128 .f32 :=
  ⟨Rect.unit ![0, h, 0, 0] ![1, 1, 128, 128] (in4 (by omega)), k0_pay12 (st ⟨h, hh⟩)⟩

/-- The eight heads' stores, the last head's first. -/
def all {α : Type} (f : (h : ℕ) → h < 8 → α) (L : List α) : List α :=
  f 7 (by norm_num) :: f 6 (by norm_num) :: f 5 (by norm_num) :: f 4 (by norm_num) :: f 3 (by norm_num) :: f 2 (by norm_num) ::
    f 1 (by norm_num) :: f 0 (by norm_num) :: L

end Tile

variable (m : (ℓ : Loc nD τ sig) → Buf (Elt Ideal) ℓ)

def tileAt (c : Dev nD) (t : Fin cfg0.N) : Tile where
  proj := X0_0 m c t
  rope := iblk m c 1 t
  msk := iblk m c 2 t
  qdm := iblk m c 3 t
  kdm := iblk m c 4 t
  mqs := iblk m c 5 t
  cd := iblk m c 6 t

/-- The state head `h` reads at a point after the first. -/
def stB (c : Dev nD) (t : Fin cfg0.N) (h : Fin 8) : Vec Ideal S1x128x128 .f32 :=
  View.ld (View.read (Elt Ideal) (View.whole cc0_scratch0)
    ((Memref.isWhole_whole cc0_scratch0).unread (outsAt0 m c (t.val - 1) (Nat.lt_of_le_of_lt (Nat.sub_le _ _) t.isLt)).2.2))
    (Rect.unit ![h.val, 0, 0] ![1, 128, 128] (in3 (by omega) le_rfl le_rfl))

/-- At the first point the states are cleared: every head reads zeros. -/
def none : Vec Ideal S1x128x128 .f32 := fun _ => 0

attribute [local irreducible] iblk X0_0 outsAt0

theorem leaves_B (c : Dev nD) (t : Fin cfg0.N) (h0 : ¬ t.val % 8 = 0) :
    (outsAt0 m c t.val t.isLt).2.2 = View.canon (Tile.all ((tileAt m c t).leaves (stB m c t)) []) := by
  rw [outsAt0_B m c t h0]; frame_out
  unfold Tile.all Tile.leaves
  refine congrArg View.canon ?_
  repeat' refine congrArg₂ List.cons ?_ ?_
  all_goals rfl

theorem keeps_B (c : Dev nD) (t : Fin cfg0.N) (h0 : ¬ t.val % 8 = 0) :
    (outsAt0 m c t.val t.isLt).1 = View.canon (Tile.all ((tileAt m c t).keeps (stB m c t)) []) := by
  rw [outsAt0_B m c t h0]; frame_out
  unfold Tile.all Tile.keeps
  refine congrArg View.canon ?_
  repeat' refine congrArg₂ List.cons ?_ ?_
  all_goals rfl

theorem saves_B (c : Dev nD) (t : Fin cfg0.N) (h0 : ¬ t.val % 8 = 0) :
    (outsAt0 m c t.val t.isLt).2.1 = View.canon (Tile.all (Tile.saves (stB m c t)) []) := by
  rw [outsAt0_B m c t h0]; frame_out
  unfold Tile.all Tile.saves
  refine congrArg View.canon ?_
  repeat' refine congrArg₂ List.cons ?_ ?_
  all_goals rfl

/-- A head's read passes the stores of the heads before it and finds the cleared array. -/
theorem past_store {κ : Kind} {sp : Space} (v : View sig κ sp S8x128x128 .f32) (h k : ℕ) (hk : k < h) (inb inb') (w) (L : List (View.Piece (Elt Ideal) S8x128x128 .f32)) :
    v.readCov (Val := Elt Ideal) (⟨Rect.unit ![k, 0, 0] ![1, 128, 128] inb, w⟩ :: L) (Rect.unit (s := S8x128x128) ![h, 0, 0] ![1, 128, 128] inb').toLoadRect =
      v.readCov (Val := Elt Ideal) L (Rect.unit (s := S8x128x128) ![h, 0, 0] ![1, 128, 128] inb').toLoadRect := by
  simp only [View.readCov_eq_canon']
  exact funext fun j => Pieces.canon_not_mem _ _ _ _ 0 (.inr (show k + 1 ≤ h + 1 * _ by omega))

theorem cleared {κ : Kind} {sp : Space} (v : View sig κ sp S8x128x128 .f32) (h : ℕ) (inb inb') :
    v.readCov (Val := Elt Ideal) [⟨Rect.unit ![0, 0, 0] ![8, 128, 128] inb, k0_pay2 (F := Ideal)⟩] (Rect.unit (s := S8x128x128) ![h, 0, 0] ![1, 128, 128] inb').toLoadRect = none := by
  rw [View.readCov_eq_canon']
  refine funext fun j => (Pieces.canon_mem _ _ _ _ ((Rect.unit (s := S8x128x128) ![h, 0, 0] ![1, 128, 128] inb').toLoadRect.idx j)
    fun a => by fin_cases a <;> exact (Nat.zero_add _).symm).trans ?_
  show k0_pay2 (F := Ideal) _ = 0
  pointwise [k0_pay2]

theorem leaves_A (c : Dev nD) (t : Fin cfg0.N) (h0 : t.val % 8 = 0) :
    (outsAt0 m c t.val t.isLt).2.2 = View.canon (Tile.all ((tileAt m c t).leaves fun _ => none)
      [⟨Rect.unit ![0, 0, 0] ![8, 128, 128] inb_S8x128x128_S8x128x128_0_0_0, k0_pay2 (F := Ideal)⟩]) := by
  rw [outsAt0_A m c t h0]; frame_out
  simp only [past_store, cleared, Nat.reduceLT, Nat.zero_lt_succ]
  unfold Tile.all Tile.leaves
  refine congrArg View.canon ?_
  repeat' refine congrArg₂ List.cons ?_ ?_
  all_goals rfl

theorem keeps_A (c : Dev nD) (t : Fin cfg0.N) (h0 : t.val % 8 = 0) :
    (outsAt0 m c t.val t.isLt).1 = View.canon (Tile.all ((tileAt m c t).keeps fun _ => none) []) := by
  rw [outsAt0_A m c t h0]; frame_out
  simp only [past_store, cleared, Nat.reduceLT, Nat.zero_lt_succ]
  unfold Tile.all Tile.keeps
  refine congrArg View.canon ?_
  repeat' refine congrArg₂ List.cons ?_ ?_
  all_goals rfl

theorem saves_A (c : Dev nD) (t : Fin cfg0.N) (h0 : t.val % 8 = 0) :
    (outsAt0 m c t.val t.isLt).2.1 = View.canon (Tile.all (Tile.saves fun _ => none) []) := by
  rw [outsAt0_A m c t h0]; frame_out
  simp only [past_store, cleared, Nat.reduceLT, Nat.zero_lt_succ]
  unfold Tile.all Tile.saves
  refine congrArg View.canon ?_
  repeat' refine congrArg₂ List.cons ?_ ?_
  all_goals rfl

end Cert.RetFwdKernelIdeal.Value
-- ==== Proof.RetFwdArrays.lean ====
/-
  The tables the host makes for the retention's forward kernel, read entry by entry.
-/
module

public import proofs.«01_k».proof.Proof.RetFwdBlock
public import proofs.«01_k».proof.Proof.RetArrays

@[expose] public section

set_option maxRecDepth 16384

noncomputable section

open Idealize.ShloMosaic Idealize.ShloMosaic.TcCoe Idealize.SL.Sem

namespace Cert.RetFwdKernelIdeal.Value

open Cert.RetFwdKernelIdeal Cert.RetFwdKernelIdeal.Gen Cert.RetMath
open Cert.RetKernelIdeal.Value (cosL_coe sinLo_coe sinHi_coe sinLo_zero sinHi_zero fdiv fdiv_64 rem2 le_chunk lane_coe select_if exp_coe lit_eighth lit_512)

variable (m : (ℓ : Loc nD τ sig) → Buf (Elt Ideal) ℓ)

/-- The buffers before the host's last stretch. -/
def before (c : Dev nD) := StableHlo.after hostOps0_7 (StableHlo.after hostOps0_6 (StableHlo.after hostOps0_5 (StableHlo.after hostOps0_4
  (StableHlo.after hostOps0_3 (StableHlo.after hostOps0_2 (StableHlo.after hostOps0_1 (StableHlo.after hostOps0 (fun b => m (c, b)))))))))

theorem V_last (c : Dev nD) (r : Ref sig .tc) : V m c r = StableHlo.after hostOps0_8 (before m c) (Proc.tc.devRef r) := by
  show StableHlo.after [hostOps0, hostOps0_1, hostOps0_2, hostOps0_3, hostOps0_4, hostOps0_5, hostOps0_6, hostOps0_7, hostOps0_8].flatten (fun b => m (c, b)) _ = _
  rw [← StableHlo.afterL_eq_after_flatten]
  rfl

/-- The rotary rows: cosine, and the sine on each half. -/
theorem before_rope (c : Dev nD) (k : Fin 3) (n : Fin 4096) (l : Fin 128) :
    @Eq EReal ((before m c (Proc.tc.devRef main_v24) : S3x4096x128.Idx → EReal) (ix3 k n l)) ((![cosL n l, sinLo n l, sinHi n l] k : ℝ) : EReal) := by
  unfold before
  after_results
  match k with
  | 0 | 1 | 2 =>
    pointwise
    after_results_simp
    pointwise
    split_ifs
    all_goals after_results_simp
    all_goals pointwise
    all_goals first
      | exact cosL_coe _ _ _ n.isLt (by omega)
      | exact sinLo_coe _ _ _ n.isLt (by omega) (by omega)
      | exact sinHi_coe _ _ _ n.isLt (by omega) (by omega)
      | exact sinLo_zero _ _ (by omega)
      | exact sinHi_zero _ _ (by omega)

theorem V_rope (c : Dev nD) (k : Fin 3) (n : Fin 4096) (l : Fin 128) :
    @Eq EReal ((V m c main_v24 : S3x4096x128.Idx → EReal) (ix3 k n l)) ((![cosL n l, sinLo n l, sinHi n l] k : ℝ) : EReal) := by
  rw [V_last]
  after_results
  exact before_rope m c k n l
/-- The decay between two rows of a block. -/
theorem V_mask (c : Dev nD) (h : Fin 8) (r x : Fin 512) :
    @Eq EReal ((V m c main_v53 : S8x512x512.Idx → EReal) (ix3 h r x)) (D (lg h) r x : ℝ) := by
  rw [V_last]
  unfold before
  after_results
  simp -implicitDefEqProofs only [StableHlo.TRef.toBuf, StableHlo.TRef.ofBuf, cast_cast, cast_eq]
  pointwise
  show Scalar.select (IntOp.cmpi .sle (fdiv (BitVec.ofNat 32 x) 64#32) (fdiv (BitVec.ofNat 32 r) 64#32))
    (Ideal.exp (_ * max ((FloatOps.sitofp (F := Ideal) FTy.f32 _ : EReal) - (FloatOps.sitofp (F := Ideal) FTy.f32 _ : EReal)) (-(_ - _)))) (Ideal.ofBits .f32 0#32) = _
  rw [fdiv_64, fdiv_64, le_chunk ⟨x.val / 64, by omega⟩ ⟨r.val / 64, by omega⟩, select_if, lg_coe h h.isLt, sitofp_coe r (by omega), sitofp_coe x (by omega),
    D, ← EReal.coe_sub, ← EReal.coe_neg, ← EReal.coe_strictMono.monotone.map_max]
  simp only [Fin.mk_le_mk]
  split_ifs
  · rw [← EReal.coe_mul]; rfl
  · simp [Ideal.ofBits, Ideal.ieee]

theorem V_qdm (c : Dev nD) (h : Fin 8) (r : Fin 512) (l : Fin 128) :
    @Eq EReal ((V m c main_v84 : S8x512x128.Idx → EReal) (ix3 h r l)) ((if l.val / 64 = h.val % 2 then Real.exp (lg h * r) * (1 / 8) else 0 : ℝ) : EReal) := by
  rw [V_last]
  unfold before
  after_results
  simp -implicitDefEqProofs only [StableHlo.TRef.toBuf, StableHlo.TRef.ofBuf, cast_cast, cast_eq]
  pointwise
  show Ideal.exp (_ * FloatOps.sitofp (F := Ideal) FTy.f32 _) * FloatOps.sitofp (F := Ideal) FTy.f32 (BitVec.setWidth 32 (IntOp.cmpi .eq (fdiv (BitVec.ofNat 32 l) 64#32) (rem2 (BitVec.ofNat 32 h)))) * _ = _
  rw [lane_coe, lg_coe h h.isLt, sitofp_coe r (by omega), lit_eighth, ← EReal.coe_mul, exp_coe, ← EReal.coe_mul, ← EReal.coe_mul]
  split_ifs <;> simp
theorem V_kdm (c : Dev nD) (h : Fin 8) (r : Fin 512) (l : Fin 128) :
    @Eq EReal ((V m c main_v89 : S8x512x128.Idx → EReal) (ix3 h r l)) ((if l.val / 64 = h.val % 2 then Real.exp (lg h * (512 - r)) else 0 : ℝ) : EReal) := by
  rw [V_last]
  unfold before
  after_results
  simp -implicitDefEqProofs only [StableHlo.TRef.toBuf, StableHlo.TRef.ofBuf, cast_cast, cast_eq]
  pointwise
  show Ideal.exp (_ * (_ - FloatOps.sitofp (F := Ideal) FTy.f32 _)) * FloatOps.sitofp (F := Ideal) FTy.f32 (BitVec.setWidth 32 (IntOp.cmpi .eq (fdiv (BitVec.ofNat 32 l) 64#32) (rem2 (BitVec.ofNat 32 h)))) = _
  rw [lane_coe, lg_coe h h.isLt, sitofp_coe r (by omega), lit_512, ← EReal.coe_sub, ← EReal.coe_mul, exp_coe, ← EReal.coe_mul]
  split_ifs <;> simp
theorem V_mqs (c : Dev nD) (h i : Fin 8) (l : Fin 128) :
    @Eq EReal ((V m c main_v93 : S8x8x128.Idx → EReal) (ix3 h i l)) ((if l.val / 64 = h.val % 2 then 1 / 8 else 0 : ℝ) : EReal) := by
  rw [V_last]
  unfold before
  after_results
  simp -implicitDefEqProofs only [StableHlo.TRef.toBuf, StableHlo.TRef.ofBuf, cast_cast, cast_eq]
  pointwise
  show FloatOps.sitofp (F := Ideal) FTy.f32 (BitVec.setWidth 32 (IntOp.cmpi .eq (fdiv (BitVec.ofNat 32 l) 64#32) (rem2 (BitVec.ofNat 32 h)))) * _ = _
  rw [lane_coe, lit_eighth, ← EReal.coe_mul]
  split_ifs <;> simp
theorem V_cd (c : Dev nD) (h i : Fin 8) (l : Fin 128) :
    @Eq EReal ((V m c main_v98 : S8x8x128.Idx → EReal) (ix3 h i l)) (Real.exp (lg h * 512) : ℝ) := by
  rw [V_last]
  unfold before
  after_results
  pointwise
  rw [lg_coe h h.isLt, lit_512, ← EReal.coe_mul]
  rfl

/-- The projection's rounding is the identity, so the kernel reads the argument. -/
theorem V_proj (c : Dev nD) (n : Fin 4096) (l : Fin 8192) :
    @Eq EReal ((V m c main_v0 : S4096x8192.Idx → EReal) (ix2 n l)) ((V m c main_arg0 : S4096x8192.Idx → EReal) (ix2 n l)) := by
  rw [V_last, V_last]
  unfold before
  after_results
  pointwise

end Cert.RetFwdKernelIdeal.Value
-- ==== Proof.RetFwdValue.lean ====
/-
  The retention's forward kernel over the reals: what each point's blocks hold, the state carried from block to block, and the two arrays
  it leaves.
-/
module

public import proofs.«01_k».proof.Proof.RetFwdArrays
public import proofs.«01_k».proof.Proof.RetCarry

@[expose] public section

set_option maxRecDepth 16384

noncomputable section

open Idealize.ShloMosaic Idealize.ShloMosaic.TcCoe Idealize.SL.Sem

namespace Cert.RetFwdKernelIdeal.Value

open Cert.RetFwdKernelIdeal Cert.RetFwdKernelIdeal.Gen Cert.RetMath
open Cert.RetKernelIdeal.Value (eps plane rd canon_plane)
open Cert.RetKernelIdeal.Value.Block (in2 in3 in4)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idxT : ∀ t : Fin cfg0.N, win0_2.index t = ![0, 0, 0] ∧ win0_3.index t = ![0, 0, 0] ∧ win0_4.index t = ![0, 0, 0] ∧ win0_5.index t = ![0, 0, 0] ∧
    win0_6.index t = ![0, 0, 0] := (by decide +kernel : ∀ t : Fin grid0.N, _)

theorem points (t : Fin cfg0.N) : t.val < 8 := t.isLt

/-- Row `r` of point `t`'s block. -/
def rowOf (t : Fin cfg0.N) (r : Fin 512) : Fin 4096 := ⟨t.val * 512 + r.val, by have := points t; omega⟩

theorem blk0 (c : Dev nD) (t : Fin cfg0.N) (r : Fin 512) (l : Fin 3072) :
    @Eq EReal (X0_0 m c t (ix2 r l)) ((V m c main_arg0 : S4096x8192.Idx → EReal) (ix2 (rowOf t r) ⟨l.val, by omega⟩)) := by
  rw [← V_proj]
  show _ = (V m c main_v0 : S4096x8192.Idx → EReal) (ix2 (rowOf t r) ⟨l.val, by omega⟩)
  unfold X0_0 Pipeline.Window.fill
  rw [dif_pos (moved0_0 t _)]
  blk_ext [iblk, idx0 t, rowOf]
theorem blk1 (c : Dev nD) (t : Fin cfg0.N) (k : Fin 3) (r : Fin 512) (l : Fin 128) :
    @Eq EReal (iblk m c 1 t (ix3 k r l)) ((V m c main_v24 : S3x4096x128.Idx → EReal) (ix3 k (rowOf t r) l)) := by
  show _ = (V m c main_v24 : S3x4096x128.Idx → EReal) (ix3 k (rowOf t r) l)
  blk_ext [iblk, idx1 t, rowOf]
theorem blk2 (c : Dev nD) (t : Fin cfg0.N) (h : Fin 8) (r x : Fin 512) :
    @Eq EReal (iblk m c 2 t (ix3 h r x)) ((V m c main_v53 : S8x512x512.Idx → EReal) (ix3 h r x)) := by
  show _ = (V m c main_v53 : S8x512x512.Idx → EReal) (ix3 h r x)
  blk_ext [iblk, (idxT t).1]
theorem blk3 (c : Dev nD) (t : Fin cfg0.N) (h : Fin 8) (r : Fin 512) (l : Fin 128) :
    @Eq EReal (iblk m c 3 t (ix3 h r l)) ((V m c main_v84 : S8x512x128.Idx → EReal) (ix3 h r l)) := by
  show _ = (V m c main_v84 : S8x512x128.Idx → EReal) (ix3 h r l)
  blk_ext [iblk, (idxT t).2.1]
theorem blk4 (c : Dev nD) (t : Fin cfg0.N) (h : Fin 8) (r : Fin 512) (l : Fin 128) :
    @Eq EReal (iblk m c 4 t (ix3 h r l)) ((V m c main_v89 : S8x512x128.Idx → EReal) (ix3 h r l)) := by
  show _ = (V m c main_v89 : S8x512x128.Idx → EReal) (ix3 h r l)
  blk_ext [iblk, (idxT t).2.2.1]
theorem blk5 (c : Dev nD) (t : Fin cfg0.N) (h i : Fin 8) (l : Fin 128) :
    @Eq EReal (iblk m c 5 t (ix3 h i l)) ((V m c main_v93 : S8x8x128.Idx → EReal) (ix3 h i l)) := by
  show _ = (V m c main_v93 : S8x8x128.Idx → EReal) (ix3 h i l)
  blk_ext [iblk, (idxT t).2.2.2.1]
theorem blk6 (c : Dev nD) (t : Fin cfg0.N) (h i : Fin 8) (l : Fin 128) :
    @Eq EReal (iblk m c 6 t (ix3 h i l)) ((V m c main_v98 : S8x8x128.Idx → EReal) (ix3 h i l)) := by
  show _ = (V m c main_v98 : S8x8x128.Idx → EReal) (ix3 h i l)
  blk_ext [iblk, (idxT t).2.2.2.2]

/-- The argument at real entries. -/
def Arg (c : Dev nD) (X : ℕ → ℕ → ℝ) : Prop := ∀ n l, @Eq EReal ((V m c main_arg0 : S4096x8192.Idx → EReal) (ix2 n l)) (X n l : ℝ)

variable {X : ℕ → ℕ → ℝ}

theorem cols_at {c : Dev nD} (A : Arg m c X) (t : Fin cfg0.N) (o k : ℕ) (h : o + k ≤ 3072) (r : Fin 512) (l : Fin k) :
    @Eq EReal (View.ld (tileAt m c t).proj (Rect.unit ![0, o] ![512, k] (in2 h)) (ix2 r l)) (X (t.val * 512 + r) (o + l) : ℝ) :=
  (Pieces.ld_at (tileAt m c t).proj (in2 h) _ (ix2 r ⟨o + l.val, by omega⟩) fun a => by fin_cases a <;> simp [ix2]).trans
    ((blk0 m c t r _).trans (A _ _))

theorem wave_at (c : Dev nD) (t : Fin cfg0.N) (k : Fin 3) (r : Fin 512) (l : Fin 128) :
    @Eq EReal ((tileAt m c t).wave k.val k.isLt (ix3 0 r l))
      ((![cosL (t.val * 512 + r) l, sinLo (t.val * 512 + r) l, sinHi (t.val * 512 + r) l] k : ℝ) : EReal) :=
  (plane (tileAt m c t).rope k.val k.isLt le_rfl le_rfl r l).trans ((blk1 m c t _ _ _).trans (V_rope m c _ _ _))

/-- A pair's rotated lanes. -/
theorem turn_at {c : Dev nD} (A : Arg m c X) (t : Fin cfg0.N) (o : ℕ) (h : o + 128 ≤ 3072) (ho : 64 ∣ o) (r : Fin 512) (l : Fin 128) :
    @Eq EReal ((tileAt m c t).turn o h (ix2 r l)) (rot (X (t.val * 512 + r)) (t.val * 512 + r) (o + l) : ℝ) := by
  have hp (j : Fin 128) : rd (S := S512x3072) (tileAt m c t).proj (ix2 r ⟨o + j.val, by omega⟩) = (X (t.val * 512 + r) (o + j) : ℝ) :=
    (blk0 m c t r _).trans (A _ _)
  have h0 : rd (S := S1x512x128) ((tileAt m c t).wave 0 (by norm_num)) (ix3 0 r l) = (cosL (t.val * 512 + r) l : ℝ) := wave_at m c t 0 r l
  have h1 : rd (S := S1x512x128) ((tileAt m c t).wave 1 (by norm_num)) (ix3 0 r l) = (sinLo (t.val * 512 + r) l : ℝ) := wave_at m c t 1 r l
  have h2 : rd (S := S1x512x128) ((tileAt m c t).wave 2 (by norm_num)) (ix3 0 r l) = (sinHi (t.val * 512 + r) l : ℝ) := wave_at m c t 2 r l
  unfold Tile.turn
  pointwise [k0_pay6, k0_pay3, k0_pay4, k0_pay5]
  show rd (S := S512x3072) (tileAt m c t).proj (ix2 r ⟨o + l.val, _⟩) * rd (S := S1x512x128) ((tileAt m c t).wave 0 _) (ix3 0 r l) +
    rd (S := S512x3072) (tileAt m c t).proj (ix2 r ⟨o + (l.val + 128 - 96) % 128, _⟩) * rd (S := S1x512x128) ((tileAt m c t).wave 1 _) (ix3 0 r l) +
    rd (S := S512x3072) (tileAt m c t).proj (ix2 r ⟨o + (l.val + 128 - 32) % 128, _⟩) * rd (S := S1x512x128) ((tileAt m c t).wave 2 _) (ix3 0 r l) = _
  rw [hp l, hp ⟨(l.val + 128 - 96) % 128, Nat.mod_lt _ (by norm_num)⟩, hp ⟨(l.val + 128 - 32) % 128, Nat.mod_lt _ (by norm_num)⟩,
    h0, h1, h2, ← rot_lane _ _ o l.val ho l.isLt]
  simp only [EReal.coe_add, EReal.coe_mul, show l.val + 128 - 96 = l.val + 32 by omega, show l.val + 128 - 32 = l.val + 96 by omega]

/-- Head `h` of the argument `X`; its forward half takes no cotangent. -/
abbrev hdOf (X : ℕ → ℕ → ℝ) (h : ℕ) : Head := headOf X (fun _ _ => 0) eps h

section
attribute [local irreducible] iblk X0_0 outsAt0 headOf eps

variable (c : Dev nD) (t : Fin cfg0.N) (h : ℕ) (hh : h < 8) (st : Vec Ideal S1x128x128 .f32)

theorem mqs_at (l : Fin 128) : @Eq EReal (((tileAt m c t).lane h hh st).mqs (ix3 0 0 l)) ((if l.val / 64 = h % 2 then 1 / 8 else 0 : ℝ) : EReal) :=
  (plane (tileAt m c t).mqs h hh (by norm_num) le_rfl 0 l).trans ((blk5 m c t ⟨h, hh⟩ 0 l).trans (V_mqs m c ⟨h, hh⟩ 0 l))
theorem qdm_at (r : Fin 512) (l : Fin 128) :
    @Eq EReal (((tileAt m c t).lane h hh st).qdm (ix3 0 r l)) ((if l.val / 64 = h % 2 then Real.exp (lg h * r.val) * (1 / 8) else 0 : ℝ) : EReal) :=
  (plane (tileAt m c t).qdm h hh le_rfl le_rfl r l).trans ((blk3 m c t ⟨h, hh⟩ r l).trans (V_qdm m c ⟨h, hh⟩ r l))
theorem kdm_at (r : Fin 512) (l : Fin 128) :
    @Eq EReal (((tileAt m c t).lane h hh st).kdm (ix3 0 r l)) ((if l.val / 64 = h % 2 then Real.exp (lg h * (512 - r.val)) else 0 : ℝ) : EReal) :=
  (plane (tileAt m c t).kdm h hh le_rfl le_rfl r l).trans ((blk4 m c t ⟨h, hh⟩ r l).trans (V_kdm m c ⟨h, hh⟩ r l))
theorem msk_at (r x : Fin 512) : @Eq EReal (((tileAt m c t).lane h hh st).msk (ix3 0 r x)) (D (lg h) r.val x.val : ℝ) := by
  refine Eq.trans (plane (n := 8) (A := 512) (B := 512) (tileAt m c t).msk h hh (le_refl 512) (le_refl 512) r x) ?_
  exact (blk2 m c t ⟨h, hh⟩ r x).trans (V_mask m c ⟨h, hh⟩ r x)
theorem cd_at (l : Fin 128) : @Eq EReal (((tileAt m c t).lane h hh st).cd (ix3 0 0 l)) (Real.exp (lg h * 512) : ℝ) :=
  (plane (tileAt m c t).cd h hh (by norm_num) le_rfl 0 l).trans ((blk6 m c t ⟨h, hh⟩ 0 l).trans (V_cd m c ⟨h, hh⟩ 0 l))
end

attribute [local irreducible] iblk X0_0 outsAt0

/-- The state before block `b`, as head `h` keeps it: its own half of the rows, zeros in the other. -/
def stateOf (X : ℕ → ℕ → ℝ) (b h l x : ℕ) : ℝ := if l / 64 = h % 2 then (hdOf X h).st 512 b (l % 64) x else 0

/-- Head `h` at a point, the state before the block given. -/
theorem holds {c : Dev nD} (A : Arg m c X) (t : Fin cfg0.N) (h : ℕ) (hh : h < 8) (st : Vec Ideal S1x128x128 .f32)
    (hst : ∀ l x : Fin 128, @Eq EReal (st (ix3 0 l x)) (stateOf X t h l x : ℝ)) :
    ((tileAt m c t).lane h hh st).Holds (hdOf X h) t (h % 2) (fun n l => rot (X n) n (128 * (h / 2) + l)) (fun n l => rot (X n) n (512 + 128 * (h / 2) + l)) := by
  have hs : ∀ l x : Fin 128, @Eq EReal (st (ix3 0 l x)) ((if l.val / 64 = h % 2 then (hdOf X h).st 512 t (l.val % 64) x.val else 0 : ℝ) : EReal) := hst
  refine ⟨Nat.mod_lt _ (by norm_num), rfl, fun n d => ?_, fun n d => ?_, turn_at m A t (128 * (h / 2)) (by omega) (by omega),
    turn_at m A t (512 + 128 * (h / 2)) (by omega) (by omega), cols_at m A t (1024 + 128 * h) 128 (by omega), cols_at m A t (2048 + 128 * h) 128 (by omega),
    mqs_at m c t h hh st, qdm_at m c t h hh st, kdm_at m c t h hh st, msk_at m c t h hh st, cd_at m c t h hh st, hs⟩
  · show rot (X n) n (128 * (h / 2) + (64 * (h % 2) + d)) * (1 / 8) = rot (X n) n (64 * h + d) * (1 / 8)
    rw [show 128 * (h / 2) + (64 * (h % 2) + d) = 64 * h + d by omega]
  · show rot (X n) n (512 + 128 * (h / 2) + (64 * (h % 2) + d)) = rot (X n) n (512 + 64 * h + d)
    rw [show 512 + 128 * (h / 2) + (64 * (h % 2) + d) = 512 + 64 * h + d by omega]

/-! A list of eight stores, read at the place of one of them. -/

theorem canon_cols (k : ℕ) (hk : ∀ a, (![0, 128 * k] : Fin 2 → ℕ) a + (![512, 128] : Fin 2 → ℕ) a ≤ S512x1024.size a) (w : Vec Ideal S512x128 .bf16) (L : List (View.Piece (Elt Ideal) S512x1024 .bf16)) (r : Fin 512) (j : Fin 1024) :
    View.canon ((⟨Rect.unit ![0, 128 * k] ![512, 128] hk, w⟩ : View.Piece (Elt Ideal) S512x1024 .bf16) :: L) (ix2 r j) =
      if j.val / 128 = k then w (ix2 r ⟨j.val % 128, Nat.mod_lt _ (by norm_num)⟩) else View.canon L (ix2 r j) := by
  split_ifs with e
  · exact Pieces.canon_mem hk w L (ix2 r j) (ix2 r ⟨j.val % 128, Nat.mod_lt _ (by norm_num)⟩) fun a => by
      fin_cases a
      · simp [ix2]
      · show j.val = 128 * k + j.val % 128
        omega
  · refine Pieces.canon_not_mem hk w L (ix2 r j) 1 ?_
    show j.val < 128 * k ∨ 128 * k + 128 ≤ j.val
    omega

theorem canon_save (k : ℕ) (hk : ∀ a, (![0, k, 0, 0] : Fin 4 → ℕ) a + (![1, 1, 128, 128] : Fin 4 → ℕ) a ≤ S1x8x128x128.size a) (w : Vec Ideal S1x1x128x128 .f32) (L : List (View.Piece (Elt Ideal) S1x8x128x128 .f32)) (h : Fin 8) (l x : Fin 128) :
    View.canon ((⟨Rect.unit ![0, k, 0, 0] ![1, 1, 128, 128] hk, w⟩ : View.Piece (Elt Ideal) S1x8x128x128 .f32) :: L) (ix4 0 h l x) =
      if h.val = k then w (ix4 0 0 l x) else View.canon L (ix4 0 h l x) := by
  split_ifs with e
  · exact Pieces.canon_mem (s := S1x8x128x128) (off := ![0, k, 0, 0]) (size := ![1, 1, 128, 128]) hk w L (ix4 (0 : Fin 1) h l x) (ix4 (0 : Fin 1) (0 : Fin 1) l x) fun a => by fin_cases a <;> simp [ix4, e]
  · exact Pieces.canon_not_mem (s := S1x8x128x128) (off := ![0, k, 0, 0]) (size := ![1, 1, 128, 128]) hk w L (ix4 (0 : Fin 1) h l x) (1 : Fin 4)
      (show h.val < k ∨ k + 1 ≤ h.val by omega)

/-- Of eight alternatives the one at `k`. -/
theorem pick {α : Type} (f : (h : ℕ) → h < 8 → α) (z : α) (k : ℕ) (hk : k < 8) :
    (if k = 7 then f 7 (by norm_num) else if k = 6 then f 6 (by norm_num) else if k = 5 then f 5 (by norm_num) else if k = 4 then f 4 (by norm_num) else
      if k = 3 then f 3 (by norm_num) else if k = 2 then f 2 (by norm_num) else if k = 1 then f 1 (by norm_num) else if k = 0 then f 0 (by norm_num) else z) = f k hk := by
  interval_cases k <;> rfl

variable (B : Tile) (st : Fin 8 → Vec Ideal S1x128x128 .f32)

theorem leaves_at (L : List (View.Piece (Elt Ideal) S8x128x128 .f32)) (h : Fin 8) (l x : Fin 128) :
    View.canon (Tile.all (B.leaves st) L) (ix3 h l x) = (B.lane h.val h.isLt (st h)).next (ix3 0 l x) := by
  unfold Tile.all Tile.leaves
  simp only [canon_plane]
  exact pick (fun k hk => (B.lane k hk (st ⟨k, hk⟩)).next (ix3 0 l x)) _ h.val h.isLt
theorem keeps_at (L : List (View.Piece (Elt Ideal) S512x1024 .bf16)) (r : Fin 512) (j : Fin 1024) :
    View.canon (Tile.all (B.keeps st) L) (ix2 r j) =
      (B.lane (j.val / 128) (by omega) (st ⟨j.val / 128, by omega⟩)).kept (ix2 r ⟨j.val % 128, Nat.mod_lt _ (by norm_num)⟩) := by
  unfold Tile.all Tile.keeps
  simp only [canon_cols]
  exact pick (fun k hk => (B.lane k hk (st ⟨k, hk⟩)).kept (ix2 r ⟨j.val % 128, Nat.mod_lt _ (by norm_num)⟩)) _ (j.val / 128) (by omega)
theorem saves_at (L : List (View.Piece (Elt Ideal) S1x8x128x128 .f32)) (h : Fin 8) (l x : Fin 128) :
    View.canon (Tile.all (Tile.saves st) L) (ix4 0 h l x) = st h (ix3 0 l x) := by
  unfold Tile.all Tile.saves
  simp only [canon_save]
  refine (pick (fun k hk => k0_pay12 (st ⟨k, hk⟩) (ix4 0 0 l x)) _ h.val h.isLt).trans ?_
  pointwise [k0_pay12, k0_pay11]

/-- What the heads read at a point. -/
def stAt (c : Dev nD) (t : Fin cfg0.N) : Fin 8 → Vec Ideal S1x128x128 .f32 := if t.val % 8 = 0 then fun _ => none else stB m c t

theorem next_at (c : Dev nD) (t : Fin cfg0.N) (h : Fin 8) (l x : Fin 128) :
    (outsAt0 m c t.val t.isLt).2.2 (ix3 h l x) = ((tileAt m c t).lane h h.isLt (stAt m c t h)).next (ix3 0 l x) := by
  unfold stAt
  split_ifs with h0
  · rw [leaves_A m c t h0]; exact leaves_at _ _ _ h l x
  · rw [leaves_B m c t h0]; exact leaves_at _ _ _ h l x
theorem kept_at (c : Dev nD) (t : Fin cfg0.N) (r : Fin 512) (j : Fin 1024) :
    (outsAt0 m c t.val t.isLt).1 (ix2 r j) =
      ((tileAt m c t).lane (j.val / 128) (by omega) (stAt m c t ⟨j.val / 128, by omega⟩)).kept (ix2 r ⟨j.val % 128, Nat.mod_lt _ (by norm_num)⟩) := by
  unfold stAt
  split_ifs with h0
  · rw [keeps_A m c t h0]; exact keeps_at _ _ _ r j
  · rw [keeps_B m c t h0]; exact keeps_at _ _ _ r j
theorem saved_at (c : Dev nD) (t : Fin cfg0.N) (h : Fin 8) (l x : Fin 128) :
    (outsAt0 m c t.val t.isLt).2.1 (ix4 0 h l x) = stAt m c t h (ix3 0 l x) := by
  unfold stAt
  split_ifs with h0
  · rw [saves_A m c t h0]; exact saves_at _ _ h l x
  · rw [saves_B m c t h0]; exact saves_at _ _ h l x

theorem stB_at (c : Dev nD) (t s : Fin cfg0.N) (hs : t.val = s.val + 1) (h : Fin 8) (l x : Fin 128) :
    stB m c t h (ix3 0 l x) = (outsAt0 m c s.val s.isLt).2.2 (ix3 h l x) := by
  unfold stB
  refine Eq.trans (plane _ h.val h.isLt le_rfl le_rfl l x) ?_
  refine Eq.trans (congrFun ((Memref.isWhole_whole cc0_scratch0).read_unread _) _) ?_
  have e : t.val - 1 = s.val := by omega
  simp only [e]

/-- The state each point reads is the state before its block. -/
theorem states {c : Dev nD} (A : Arg m c X) : ∀ (k : ℕ) (hk : k < cfg0.N) (h : Fin 8) (l x : Fin 128),
    @Eq EReal (stAt m c ⟨k, hk⟩ h (ix3 0 l x)) (stateOf X k h l x : ℝ)
  | 0, hk, h, l, x => by
    have e : (hdOf X h).st 512 0 (l.val % 64) x.val = 0 := St_zero _ _
    rw [stateOf, e, ite_self]
    rfl
  | k + 1, hk, h, l, x => by
    have hN : k + 1 < 8 := hk
    have hk' : k < cfg0.N := by omega
    have e : stAt m c ⟨k + 1, hk⟩ = stB m c ⟨k + 1, hk⟩ := if_neg (by show ¬ (k + 1) % 8 = 0; omega)
    rw [e]
    refine (stB_at m c ⟨k + 1, hk⟩ ⟨k, hk'⟩ rfl h l x).trans ?_
    refine (next_at m c ⟨k, hk'⟩ h l x).trans ?_
    exact (holds m A ⟨k, hk'⟩ h h.isLt _ (states A k hk' h)).next_eq l x

/-- Column `j` of row `n`: its head's output, normed and gated. -/
def gated (H : Head) (n : ℕ) (e : Fin 128) : ℝ :=
  cen (fun y => H.o n y) e * rs (fun y => H.o n y) H.ε * (H.g n e * sg (H.g n e))
def keptOf (X : ℕ → ℕ → ℝ) (n j : ℕ) : ℝ := gated (hdOf X (j / 128)) n ⟨j % 128, Nat.mod_lt _ (by norm_num)⟩

theorem kept_arr {c : Dev nD} (A : Arg m c X) (n : Fin 4096) (j : Fin 1024) : @Eq EReal (G7 m c (ix2 n j)) (keptOf X n j : ℝ) := by
  have hp : pt7Of (ix2 n j) = n.val / 512 := by
    show 1 * (n.val / 512 - 0) + 1 * (j.val / 1024 - 0) = _
    omega
  have hl : loc7Of (ix2 n j) = ix2 ⟨n.val % 512, Nat.mod_lt _ (by norm_num)⟩ j := by
    funext a
    fin_cases a
    · rfl
    · exact Fin.ext (Nat.mod_eq_of_lt j.isLt)
  have hk : n.val / 512 < cfg0.N := show n.val / 512 < 8 by omega
  unfold G7
  rw [dif_pos (hp ▸ hk), hl, ← outsAt0_sweep m c _ (hp ▸ hk)]
  simp only [hp]
  refine (kept_at m c ⟨n.val / 512, hk⟩ _ j).trans ?_
  refine ((holds m A ⟨n.val / 512, hk⟩ _ _ _ (states m A _ hk ⟨j.val / 128, by omega⟩)).kept_eq (show n.val / 512 < 8 by omega) _ _).trans ?_
  show ((gated (hdOf X (j / 128)) (n.val / 512 * 512 + n.val % 512) _ : ℝ) : EReal) = _
  rw [show n.val / 512 * 512 + n.val % 512 = n.val by omega]
  rfl

theorem state_arr {c : Dev nD} (A : Arg m c X) (b h : Fin 8) (l x : Fin 128) : @Eq EReal (G8 m c (ix4 b h l x)) (stateOf X b h l x : ℝ) := by
  have hp : pt8Of (ix4 b h l x) = b.val := by
    show 1 * (b.val / 1 - 0) + 1 * (h.val / 8 - 0) + 1 * (l.val / 128 - 0) + 1 * (x.val / 128 - 0) = _
    omega
  have hl : loc8Of (ix4 b h l x) = ix4 0 h l x := by
    funext a
    fin_cases a
    · exact Fin.ext (Nat.mod_one _)
    · exact Fin.ext (Nat.mod_eq_of_lt h.isLt)
    · exact Fin.ext (Nat.mod_eq_of_lt l.isLt)
    · exact Fin.ext (Nat.mod_eq_of_lt x.isLt)
  have hk : b.val < cfg0.N := b.isLt
  unfold G8
  rw [dif_pos (hp ▸ hk), hl, ← outsAt0_sweep m c _ (hp ▸ hk)]
  simp only [hp]
  exact (saved_at m c ⟨b.val, hk⟩ h l x).trans (states m A _ hk h l x)

end Cert.RetFwdKernelIdeal.Value
-- ==== Proof.RetFwdRead1.lean ====
/-
The reference of the retention's forward pass read entry by entry, up to its loop: the heads, the products inside
a block, the decays, and each block's contribution to the state.
-/
module

public import proofs.«01_k».proof.Proof.RetFwdRun
public import proofs.«01_k».proof.Proof.RetFwdValue
public import proofs.«01_k».proof.Proof.RetRead3

@[expose] public section

set_option maxRecDepth 16384

noncomputable section

open Idealize.ShloMosaic Idealize.ShloMosaic.TcCoe Idealize.SL.Sem

namespace Cert.RetFwdReferenceIdeal.Reading

open Cert.RetFwdReferenceIdeal Cert.RetFwdReferenceIdeal.Gen Cert.RetFwdReferenceIdeal.Lists Cert.RetMath
open Cert.RetFwdKernelIdeal.Value (hdOf)
open Cert.RetKernelIdeal.Value (sin_coe exp_coe lit_eighth eps)
open Cert.RetReferenceIdeal.Reading (rd cos_coe rot_lo rot_hi lit_64 mul_of add_of sub_of neg_of sum_of exp_of dec_of kdec_of)

abbrev Mem := (b : DevRef τ sig) → b.ty.Contents (Elt Ideal)

/-! Buffers kept from one place to another. -/

/-- The buffers of `R` hold the same in both. -/
def Same (R : List (Ref sig .tc)) (V V' : Mem) : Prop := ∀ r ∈ R, V' (Proc.devRef .tc r) = V (Proc.devRef .tc r)

theorem Same.trans {R : List (Ref sig .tc)} {V V' V'' : Mem} (a : Same R V V') (b : Same R V' V'') : Same R V V'' :=
  fun r h => (b r h).trans (a r h)
theorem Same.after {R : List (Ref sig .tc)} {ops : List (HloOp τ sig (Elt Ideal))} {W : List (Ref sig .tc)}
    (hw : ops.Forall fun op => op.writes ⊆ (W.map (Proc.devRef (τ := τ) .tc)).toFinset) (hd : ∀ r ∈ R, r ∉ W) (V : Mem) :
    Same R V (StableHlo.after ops V) := fun r h => StableHlo.after_of_writes_sub ops V hw (hd r h)

/-! What the host reads off its argument: the heads by chunks of 64 rows, the decays' logarithms. -/

structure Base (X : ℕ → ℕ → ℝ) (V : Mem) : Prop where
  q : ∀ (N i : Fin 64) (h : Fin 8) (d : Fin 64), @Eq EReal ((V (Proc.tc.devRef main_v66) : S64x64x8x64.Idx → EReal) (ix4 N i h d))
    ((hdOf X h).q (N * 64 + i) d : ℝ)
  k : ∀ (N i : Fin 64) (h : Fin 8) (d : Fin 64), @Eq EReal ((V (Proc.tc.devRef main_v67) : S64x64x8x64.Idx → EReal) (ix4 N i h d))
    ((hdOf X h).k (N * 64 + i) d : ℝ)
  v : ∀ (N i : Fin 64) (h : Fin 8) (e : Fin 128), @Eq EReal ((V (Proc.tc.devRef main_v68) : S64x64x8x128.Idx → EReal) (ix4 N i h e))
    ((hdOf X h).v (N * 64 + i) e : ℝ)
  g : ∀ (n : Fin 4096) (c : Fin 1024), @Eq EReal ((V (Proc.tc.devRef main_v3) : S4096x1024.Idx → EReal) (ix2 n c)) (X n (2048 + c) : ℝ)
  lgs : ∀ h : Fin 8, @Eq EReal ((V (Proc.tc.devRef main_v76) : S8.Idx → EReal) (ix1 h)) (lg h : ℝ)

abbrev baseR : List (Ref sig .tc) := [main_v66, main_v67, main_v68, main_v3, main_v76]

variable {X : ℕ → ℕ → ℝ}

theorem Base.keep {V V' : Mem} (H : Base X V) (S : Same baseR V V') : Base X V' where
  q N i h d := (congrFun (S main_v66 (by decide +kernel)) _).trans (H.q N i h d)
  k N i h d := (congrFun (S main_v67 (by decide +kernel)) _).trans (H.k N i h d)
  v N i h d := (congrFun (S main_v68 (by decide +kernel)) _).trans (H.v N i h d)
  g n c := (congrFun (S main_v3 (by decide +kernel)) _).trans (H.g n c)
  lgs h := (congrFun (S main_v76 (by decide +kernel)) _).trans (H.lgs h)

/-- The argument's reals. -/
structure Given (X : ℕ → ℕ → ℝ) (W : Mem) : Prop where
  proj : ∀ (n : Fin 4096) (l : Fin 8192), @Eq EReal ((W (Proc.tc.devRef main_arg0) : S4096x8192.Idx → EReal) (ix2 n l)) (X n l : ℝ)

/-- The buffers after the first five stretches. -/
abbrev start (W : Mem) : Mem := StableHlo.after s4 (StableHlo.after s3 (StableHlo.after s2 (StableHlo.after s1 (StableHlo.after s0 W))))

theorem base_q (W : Mem) (G : Given X W) (N i : Fin 64) (h : Fin 8) (d : Fin 64) :
    @Eq EReal ((start W (Proc.tc.devRef main_v66) : S64x64x8x64.Idx → EReal) (ix4 N i h d)) ((hdOf X h).q (N * 64 + i) d : ℝ) := by
  after_results
  pointwise
  refine Eq.trans (congrArg (fun y : EReal => y * _) (?_ : _ = ((rot (X (N * 64 + i)) (N * 64 + i) (64 * h + d) : ℝ) : EReal))) ?_
  · split_ifs with hd
    · exact rot_lo (X (N * 64 + i)) (N * 64 + i) (64 * h) d _ _ (G.proj _ _) (G.proj _ _) (cos_coe (N * 64 + i) d (by omega) hd)
        (sin_coe (N * 64 + i) d (by omega) hd) ⟨_, rfl⟩ hd (by simp only []; omega) (by simp only []; omega)
    · exact absurd ‹_› (by decide)
    · exact rot_hi (X (N * 64 + i)) (N * 64 + i) (64 * h) d _ _ (G.proj _ _) (G.proj _ _) (sin_coe (N * 64 + i) (d - 32) (by omega) (by omega))
        (cos_coe (N * 64 + i) (d - 32) (by omega) (by omega)) ⟨_, rfl⟩ hd d.isLt (by simp only []; omega) (by simp only []; omega)
  · rw [lit_eighth]; exact (EReal.coe_mul _ _).symm

theorem base_k (W : Mem) (G : Given X W) (N i : Fin 64) (h : Fin 8) (d : Fin 64) :
    @Eq EReal ((start W (Proc.tc.devRef main_v67) : S64x64x8x64.Idx → EReal) (ix4 N i h d)) ((hdOf X h).k (N * 64 + i) d : ℝ) := by
  after_results
  pointwise
  show _ = ((rot (X (N * 64 + i)) (N * 64 + i) (512 + 64 * h + d) : ℝ) : EReal)
  split_ifs with hd
  · exact rot_lo (X (N * 64 + i)) (N * 64 + i) (512 + 64 * h) d _ _ (G.proj _ _) (G.proj _ _) (cos_coe (N * 64 + i) d (by omega) hd)
      (sin_coe (N * 64 + i) d (by omega) hd) ⟨8 + h, by ring⟩ hd (by simp only []; omega) (by simp only []; omega)
  · exact absurd ‹_› (by decide)
  · exact rot_hi (X (N * 64 + i)) (N * 64 + i) (512 + 64 * h) d _ _ (G.proj _ _) (G.proj _ _) (sin_coe (N * 64 + i) (d - 32) (by omega) (by omega))
      (cos_coe (N * 64 + i) (d - 32) (by omega) (by omega)) ⟨8 + h, by ring⟩ hd d.isLt (by simp only []; omega) (by simp only []; omega)

theorem base (W : Mem) (G : Given X W) : Base X (start W) where
  q N i h d := base_q W G N i h d
  k N i h d := base_k W G N i h d
  v N i h e := by
    after_results
    pointwise
    rw [G.proj]
    refine congrArg (fun a => ((X (N * 64 + i) a : ℝ) : EReal)) ?_
    simp only []
    omega
  g n c := by
    after_results
    pointwise
    rw [G.proj]
  lgs h := by
    after_results
    pointwise
    exact lg_coe h h.isLt

/-- What the reference holds at the entry of its loop. -/
structure Entry (X : ℕ → ℕ → ℝ) (V : Mem) : Prop where
  base : Base X V
  inn : ∀ (N : Fin 64) (h : Fin 8) (i : Fin 64) (e : Fin 128), @Eq EReal ((V (Proc.tc.devRef main_v95) : S64x64x8x128.Idx → EReal) (ix4 N i h e))
    (∑ j : Fin 64, (hdOf X h).s (N * 64 + i) (N * 64 + j) * D (lg h) i j * (hdOf X h).v (N * 64 + j) e : ℝ)
  pos : ∀ i : Fin 64, @Eq EReal ((V (Proc.tc.devRef main_v77) : S64.Idx → EReal) (ix1 i)) ((i : ℕ) : ℝ)
  kv : ∀ (N : Fin 64) (h : Fin 8) (d : Fin 64) (e : Fin 128), @Eq EReal ((V (Proc.tc.devRef main_v107) : S64x8x64x128.Idx → EReal) (ix4 N h d e))
    (∑ j ∈ Finset.range 64, Real.exp (lg h * ((64 : ℝ) - j)) * ((hdOf X h).k (N * 64 + j) d * (hdOf X h).v (N * 64 + j) e) : ℝ)
  cd : ∀ h : Fin 8, @Eq EReal ((V (Proc.tc.devRef main_v111) : S8x1x1.Idx → EReal) (ix3 h 0 0)) (Real.exp (lg h * 64) : ℝ)

abbrev entryR : List (Ref sig .tc) := baseR ++ [main_v95, main_v77, main_v107, main_v111]

theorem Entry.keep {V V' : Mem} (H : Entry X V) (S : Same entryR V V') : Entry X V' where
  base := H.base.keep fun r h => S r (List.mem_append_left _ h)
  inn N h i e := (congrFun (S main_v95 (by decide +kernel)) _).trans (H.inn N h i e)
  pos i := (congrFun (S main_v77 (by decide +kernel)) _).trans (H.pos i)
  kv N h d e := (congrFun (S main_v107 (by decide +kernel)) _).trans (H.kv N h d e)
  cd h := (congrFun (S main_v111 (by decide +kernel)) _).trans (H.cd h)

theorem pos_read (W : Mem) (i : Fin 64) : @Eq EReal ((StableHlo.after s5 W (Proc.tc.devRef main_v77) : S64.Idx → EReal) (ix1 i)) ((i : ℕ) : ℝ) := by
  after_results
  pointwise
  exact sitofp_coe _ (by omega)
theorem inn_read {W : Mem} (B : Base X W) (N : Fin 64) (h : Fin 8) (i : Fin 64) (e : Fin 128) :
    @Eq EReal ((StableHlo.after s5 W (Proc.tc.devRef main_v95) : S64x64x8x128.Idx → EReal) (ix4 N i h e))
      (∑ j : Fin 64, (hdOf X h).s (N * 64 + i) (N * 64 + j) * D (lg h) i j * (hdOf X h).v (N * 64 + j) e : ℝ) := by
  after_results
  pointwise
  refine (sum_of fun x => mul_of (B.v N x h e) (mul_of (sum_of fun y => mul_of (B.q N i h y) (B.k N x h y)) (dec_of (B.lgs h) i x))).trans ?_
  exact congrArg _ (Finset.sum_congr rfl fun x _ => mul_comm _ _)
theorem kv_read {W : Mem} (B : Base X W) (P : ∀ i : Fin 64, @Eq EReal ((W (Proc.tc.devRef main_v77) : S64.Idx → EReal) (ix1 i)) ((i : ℕ) : ℝ))
    (N : Fin 64) (h : Fin 8) (d : Fin 64) (e : Fin 128) :
    @Eq EReal ((StableHlo.after s6 W (Proc.tc.devRef main_v107) : S64x8x64x128.Idx → EReal) (ix4 N h d e))
      (∑ j ∈ Finset.range 64, Real.exp (lg h * ((64 : ℝ) - j)) * ((hdOf X h).k (N * 64 + j) d * (hdOf X h).v (N * 64 + j) e) : ℝ) := by
  after_results
  pointwise
  refine (sum_of fun x => mul_of (mul_of (B.k N x h d) (kdec_of (B.lgs h) (P x))) (B.v N x h e)).trans ?_
  rw [Finset.sum_range]
  exact congrArg _ (Finset.sum_congr rfl fun x _ => by ring)
theorem cd_read {W : Mem} (B : Base X W) (h : Fin 8) :
    @Eq EReal ((StableHlo.after s7 (StableHlo.after s6 W) (Proc.tc.devRef main_v111) : S8x1x1.Idx → EReal) (ix3 h 0 0)) (Real.exp (lg h * 64) : ℝ) := by
  after_results
  pointwise
  exact exp_of (mul_of (B.lgs h) lit_64)

theorem entry {W : Mem} (B : Base X W) : Entry X (StableHlo.after s7 (StableHlo.after s6 (StableHlo.after s5 W))) := by
  have B5 : Base X (StableHlo.after s5 W) := B.keep (Same.after s5_writes (by decide +kernel) _)
  have P := pos_read W
  have k6 (r : Ref sig .tc) (h : r ∉ s6_W) : StableHlo.after s6 (StableHlo.after s5 W) (Proc.tc.devRef r) = StableHlo.after s5 W (Proc.tc.devRef r) :=
    StableHlo.after_of_writes_sub s6 _ s6_writes h
  have k7 (r : Ref sig .tc) (h : r ∉ s7_W) : StableHlo.after s7 (StableHlo.after s6 (StableHlo.after s5 W)) (Proc.tc.devRef r) = StableHlo.after s6 (StableHlo.after s5 W) (Proc.tc.devRef r) :=
    StableHlo.after_of_writes_sub s7 _ s7_writes h
  have k67 (r : Ref sig .tc) (h : r ∉ s6_W) (h' : r ∉ s7_W) := (k7 r h').trans (k6 r h)
  exact {
    base := B5.keep (Same.trans (Same.after s6_writes (by decide +kernel) _) (Same.after s7_writes (by decide +kernel) _))
    inn := fun N h i e => (congrFun (k67 main_v95 (by decide +kernel) (by decide +kernel)) _).trans (inn_read B N h i e)
    pos := fun i => (congrFun (k67 main_v77 (by decide +kernel) (by decide +kernel)) _).trans (P i)
    kv := fun N h d e => (congrFun (k7 main_v107 (by decide +kernel)) _).trans (kv_read B5 P N h d e)
    cd := fun h => cd_read B5 h }

end Cert.RetFwdReferenceIdeal.Reading
-- ==== Proof.RetFwdRead2.lean ====
/-
The loop of the reference of the retention's forward pass: the states before the blocks, stacked.
-/
module

public import proofs.«01_k».proof.Proof.RetFwdRead1

@[expose] public section

set_option maxRecDepth 16384

noncomputable section

open Idealize.ShloMosaic Idealize.ShloMosaic.TcCoe Idealize.SL.Sem

namespace Cert.RetFwdReferenceIdeal.Reading

open Cert.RetFwdReferenceIdeal Cert.RetFwdReferenceIdeal.Gen Cert.RetFwdReferenceIdeal.Lists Cert.RetMath
open Cert.RetFwdKernelIdeal.Value (hdOf)
open Cert.RetReferenceIdeal.Reading (rd mul_of add_of slice_at put_at iv_toInt start_at)

variable {X : ℕ → ℕ → ℝ}

theorem take (W : Mem) : (StableHlo.after b0_0 W (Proc.tc.devRef main_while0b_v164) : S8x64x128.Idx → EReal) =
    shapeCast S8x64x128 (Host.dynamicSlice S1x8x64x128 (W (Proc.tc.devRef main_v114_0) : S64x8x64x128.Idx → EReal) (fun k =>
      BitVec.toInt ((![W (Proc.tc.devRef main_v114_2), constantI S_ 32 0#32, constantI S_ 32 0#32, constantI S_ 32 0#32] : Fin 4 → S_.Idx → BitVec 32) k
        (Shape.Idx.first h_S_))) sliceFits_S64x8x64x128_S1x8x64x128) shapeCasts_S1x8x64x128_S8x64x128 := by
  simp only [b0_0]
  after_results_entrywise [cast_eq]
theorem put (W : Mem) : (StableHlo.after b0_2 W (Proc.tc.devRef main_while0b_v168) : S64x8x64x128.Idx → EReal) =
    Host.dynamicUpdateSlice (W (Proc.tc.devRef main_v114_4) : S64x8x64x128.Idx → EReal)
      (broadcastInDim S1x8x64x128 ![1, 2, 3] bcast_S8x64x128_S1x8x64x128_1_2_3 (W (Proc.tc.devRef main_v114_3) : S8x64x128.Idx → EReal)) (fun k =>
      BitVec.toInt ((![W (Proc.tc.devRef main_v114_2), constantI S_ 32 0#32, constantI S_ 32 0#32, constantI S_ 32 0#32] : Fin 4 → S_.Idx → BitVec 32) k
        (Shape.Idx.first h_S_))) updateFits_S64x8x64x128_S1x8x64x128 := by
  simp only [b0_2]
  after_results_entrywise [cast_eq]
/-- One trip of the loop. -/
abbrev trip (V : Mem) : Mem := StableHlo.afterL body0 (StableHlo.after c0 V)

theorem trip_keep (V : Mem) (r : Ref sig .tc) (h : r ∉ c0_W ++ b0_0_W ++ b0_1_W ++ b0_2_W ++ b0_3_W) :
    trip V (Proc.tc.devRef r) = V (Proc.tc.devRef r) := by
  simp only [List.mem_append, not_or] at h
  obtain ⟨⟨⟨⟨h1, h2⟩, h3⟩, h4⟩, h5⟩ := h
  show StableHlo.after b0_3 (StableHlo.after b0_2 (StableHlo.after b0_1 (StableHlo.after b0_0 (StableHlo.after c0 V)))) _ = _
  rw [StableHlo.after_of_writes_sub b0_3 _ b0_3_writes h5, StableHlo.after_of_writes_sub b0_2 _ b0_2_writes h4,
    StableHlo.after_of_writes_sub b0_1 _ b0_1_writes h3, StableHlo.after_of_writes_sub b0_0 _ b0_0_writes h2,
    StableHlo.after_of_writes_sub c0 _ c0_writes h1]

theorem trip_state (V : Mem) (k : Fin 64) (hc : V (Proc.tc.devRef main_v114_2) = fun _ => Scf.iv 0#32 1#32 k) (h : Fin 8) (d : Fin 64) (e : Fin 128) :
    rd (S := S8x64x128) (trip V (Proc.tc.devRef main_v114_3)) (ix3 h d e) =
      rd (S := S8x64x128) (V (Proc.tc.devRef main_v114_3)) (ix3 h d e) * rd (S := S8x1x1) (V (Proc.tc.devRef main_v114_1)) (ix3 h 0 0) +
        rd (S := S64x8x64x128) (V (Proc.tc.devRef main_v114_0)) (ix4 k h d e) := by
  have e1 (U : Mem) : (StableHlo.after b0_3 U (Proc.tc.devRef main_v114_3) : S8x64x128.Idx → EReal) = (U (Proc.tc.devRef main_while0b_v167) : S8x64x128.Idx → EReal) := by
    after_results
    rfl
  have e2 (U : Mem) : rd (S := S8x64x128) (StableHlo.after b0_1 U (Proc.tc.devRef main_while0b_v167)) (ix3 h d e) =
      rd (S := S8x64x128) (U (Proc.tc.devRef main_v114_3)) (ix3 h d e) * rd (S := S8x1x1) (U (Proc.tc.devRef main_v114_1)) (ix3 h 0 0) +
        rd (S := S8x64x128) (U (Proc.tc.devRef main_while0b_v164)) (ix3 h d e) := by
    unfold rd
    after_results
    pointwise
  have k0 (r : Ref sig .tc) (h : r ∉ b0_0_W) (h' : r ∉ c0_W) : StableHlo.after b0_0 (StableHlo.after c0 V) (Proc.tc.devRef r) = V (Proc.tc.devRef r) :=
    (StableHlo.after_of_writes_sub b0_0 _ b0_0_writes h).trans (StableHlo.after_of_writes_sub c0 _ c0_writes h')
  have kc (r : Ref sig .tc) (h' : r ∉ c0_W) : StableHlo.after c0 V (Proc.tc.devRef r) = V (Proc.tc.devRef r) :=
    StableHlo.after_of_writes_sub c0 _ c0_writes h'
  show rd (S := S8x64x128) (StableHlo.after b0_3 (StableHlo.after b0_2 (StableHlo.after b0_1 (StableHlo.after b0_0 (StableHlo.after c0 V)))) (Proc.tc.devRef main_v114_3)) (ix3 h d e) = _
  rw [e1, StableHlo.after_of_writes_sub b0_2 _ b0_2_writes (r := main_while0b_v167) (by decide +kernel), e2, k0 main_v114_3 (by decide +kernel) (by decide +kernel),
    k0 main_v114_1 (by decide +kernel) (by decide +kernel), take, kc main_v114_0 (by decide +kernel), kc main_v114_2 (by decide +kernel)]
  exact congrArg (fun y : EReal => _ + y) (slice_at _ _ k (start_at _ _ k (by rw [hc]; exact iv_toInt k)) _ _ h d e)

theorem trip_stack (V : Mem) (k : Fin 64) (hc : V (Proc.tc.devRef main_v114_2) = fun _ => Scf.iv 0#32 1#32 k) (N : Fin 64) (h : Fin 8) (d : Fin 64) (e : Fin 128) :
    @Eq EReal ((trip V (Proc.tc.devRef main_v114_4) : S64x8x64x128.Idx → EReal) (ix4 N h d e))
      (if N = k then (V (Proc.tc.devRef main_v114_3) : S8x64x128.Idx → EReal) (ix3 h d e) else (V (Proc.tc.devRef main_v114_4) : S64x8x64x128.Idx → EReal) (ix4 N h d e)) := by
  have e1 (U : Mem) : (StableHlo.after b0_3 U (Proc.tc.devRef main_v114_4) : S64x8x64x128.Idx → EReal) = (U (Proc.tc.devRef main_while0b_v168) : S64x8x64x128.Idx → EReal) := by
    after_results
    rfl
  have k0 (r : Ref sig .tc) (h : r ∉ b0_0_W) (h' : r ∉ c0_W) (h'' : r ∉ b0_1_W) : StableHlo.after b0_1 (StableHlo.after b0_0 (StableHlo.after c0 V)) (Proc.tc.devRef r) = V (Proc.tc.devRef r) :=
    (StableHlo.after_of_writes_sub b0_1 _ b0_1_writes h'').trans ((StableHlo.after_of_writes_sub b0_0 _ b0_0_writes h).trans (StableHlo.after_of_writes_sub c0 _ c0_writes h'))
  show @Eq EReal ((StableHlo.after b0_3 (StableHlo.after b0_2 (StableHlo.after b0_1 (StableHlo.after b0_0 (StableHlo.after c0 V)))) (Proc.tc.devRef main_v114_4) : S64x8x64x128.Idx → EReal) (ix4 N h d e)) _
  rw [e1, put, k0 main_v114_3 (by decide +kernel) (by decide +kernel) (by decide +kernel), k0 main_v114_4 (by decide +kernel) (by decide +kernel) (by decide +kernel),
    k0 main_v114_2 (by decide +kernel) (by decide +kernel) (by decide +kernel)]
  exact put_at _ _ _ k (start_at _ _ k (by rw [hc]; exact iv_toInt k)) _ N h d e

theorem at_keep (W : Dev nD → Mem) (c : Dev nD) (r : Ref sig .tc) (h : r ∉ c0_W ++ b0_0_W ++ b0_1_W ++ b0_2_W ++ b0_3_W) :
    ∀ k, StableHlo.atTrip c0 body0 W k c (Proc.tc.devRef r) = W c (Proc.tc.devRef r)
  | 0 => rfl
  | k + 1 => (trip_keep (StableHlo.atTrip c0 body0 W k c) r h).trans (at_keep W c r h k)

/-- The states before each block, as the loop stacks them. -/
theorem states (W : Dev nD → Mem) (c : Dev nD) (hz : W c (Proc.tc.devRef main_v114_2) = fun _ => (0#32 : BitVec 32))
    (hkv : ∀ (N : Fin 64) (h : Fin 8) (d : Fin 64) (e : Fin 128), rd (S := S64x8x64x128) (W c (Proc.tc.devRef main_v114_0)) (ix4 N h d e) =
      (∑ j ∈ Finset.range 64, Real.exp (lg h * ((64 : ℝ) - j)) * ((hdOf X h).k (N * 64 + j) d * (hdOf X h).v (N * 64 + j) e) : ℝ))
    (hcd : ∀ h : Fin 8, rd (S := S8x1x1) (W c (Proc.tc.devRef main_v114_1)) (ix3 h 0 0) = (Real.exp (lg h * 64) : ℝ))
    (h0 : ∀ (h : Fin 8) (d : Fin 64) (e : Fin 128), rd (S := S8x64x128) (W c (Proc.tc.devRef main_v114_3)) (ix3 h d e) = ((0 : ℝ) : EReal)) :
    ∀ k ≤ 64, (∀ (h : Fin 8) (d : Fin 64) (e : Fin 128), rd (S := S8x64x128) (StableHlo.atTrip c0 body0 W k c (Proc.tc.devRef main_v114_3)) (ix3 h d e) =
        ((hdOf X h).st 64 k d e : ℝ)) ∧
      ∀ (N : Fin 64) (h : Fin 8) (d : Fin 64) (e : Fin 128), N.val < k → rd (S := S64x8x64x128) (StableHlo.atTrip c0 body0 W k c (Proc.tc.devRef main_v114_4)) (ix4 N h d e) =
        ((hdOf X h).st 64 N d e : ℝ)
  | 0, _ => ⟨fun h d e => (h0 h d e).trans (congrArg _ (St_zero _ _).symm), fun _ _ _ _ h => absurd h (Nat.not_lt_zero _)⟩
  | k + 1, hk => by
    obtain ⟨i1, i2⟩ := states W c hz hkv hcd h0 k (by omega)
    have hc := Runs.ctr0_at W c hz k
    refine ⟨fun h d e => ?_, fun N h d e hN => ?_⟩
    · refine (trip_state (StableHlo.atTrip c0 body0 W k c) ⟨k, by omega⟩ hc h d e).trans ?_
      rw [at_keep W c main_v114_1 (by decide +kernel) k, at_keep W c main_v114_0 (by decide +kernel) k]
      refine (add_of (mul_of (i1 h d e) (hcd h)) (hkv ⟨k, by omega⟩ h d e)).trans (congrArg _ ?_)
      unfold Head.st
      rw [St_succ]
      simp only [Nat.cast_ofNat]
      rfl
    · refine (trip_stack (StableHlo.atTrip c0 body0 W k c) ⟨k, by omega⟩ hc N h d e).trans ?_
      by_cases hNk : N = ⟨k, by omega⟩
      · rw [if_pos hNk, hNk]
        exact i1 h d e
      · rw [if_neg hNk]
        have := Fin.val_ne_of_ne hNk
        exact i2 N h d e (by simp only [] at this; omega)

end Cert.RetFwdReferenceIdeal.Reading
-- ==== Proof.RetFwdRead3.lean ====
/-
What the reference of the retention's forward pass computes after its loop: the output, its norm and gate, and the
states laid out for the backward pass.
-/
module

public import proofs.«01_k».proof.Proof.RetFwdRead2
public import proofs.«01_k».proof.Proof.RetRead4

@[expose] public section

set_option maxRecDepth 16384

noncomputable section

open Idealize.ShloMosaic Idealize.ShloMosaic.TcCoe Idealize.SL.Sem

namespace Cert.RetFwdReferenceIdeal.Reading

open Cert.RetFwdReferenceIdeal Cert.RetFwdReferenceIdeal.Gen Cert.RetFwdReferenceIdeal.Lists Cert.RetMath
open Cert.RetFwdKernelIdeal.Value (hdOf gated keptOf stateOf)
open Cert.RetKernelIdeal.Value (eps)
open Cert.RetReferenceIdeal.Reading (rd mul_of add_of sum_of exp_of cen_of rs_of sg_of)

variable {X : ℕ → ℕ → ℝ}

/-- The rows of the loop's states. -/
abbrev Sts (X : ℕ → ℕ → ℝ) (V : Mem) : Prop := ∀ (N : Fin 64) (h : Fin 8) (d : Fin 64) (e : Fin 128),
  rd (S := S64x8x64x128) (V (Proc.tc.devRef main_v114_4)) (ix4 N h d e) = ((hdOf X h).st 64 N d e : ℝ)
/-- The rows of the output. -/
abbrev Outs (X : ℕ → ℕ → ℝ) (V : Mem) : Prop := ∀ (n : Fin 4096) (h : Fin 8) (e : Fin 128),
  rd (S := S4096x8x128) (V (Proc.tc.devRef main_v127)) (ix3 n h e) = ((hdOf X h).o n e : ℝ)

theorem o_read {W : Mem} (E : Entry X W) (S : Sts X W) (N i : Fin 64) (h : Fin 8) (e : Fin 128) :
    rd (S := S4096x8x128) (StableHlo.after s9 W (Proc.tc.devRef main_v127)) (ix3 ⟨N * 64 + i, by omega⟩ h e) = ((hdOf X h).o (N * 64 + i) e : ℝ) := by
  unfold rd
  after_results
  pointwise
  refine (add_of (E.inn N h i e) (sum_of fun x => mul_of (S N h x e) (mul_of (E.base.q N i h x) (exp_of (mul_of (E.base.lgs h) (E.pos i)))))).trans ?_
  refine (congrArg _ ?_).trans (congrArg _ ((hdOf X h).o_blk (B := 64) (N := 64) (by norm_num) (by norm_num) N.isLt i e))
  exact congrArg (fun y : ℝ => _ + y) (Finset.sum_congr rfl fun x _ => mul_comm _ _)

theorem outs {W : Mem} (E : Entry X W) (S : Sts X W) : Outs X (StableHlo.after s9 W) := fun n h e => by
  have := o_read E S ⟨n / 64, by omega⟩ ⟨n % 64, by omega⟩ h e
  simp only [show n.val / 64 * 64 + n.val % 64 = n.val by omega] at this
  exact this

theorem norm_read {W : Mem} (O : Outs X W) (n : Fin 4096) (h : Fin 8) (e : Fin 128) :
    rd (S := S4096x8x128) (StableHlo.after s10 W (Proc.tc.devRef main_v145)) (ix3 n h e) =
      (cen (fun y => (hdOf X h).o n y) e * rs (fun y => (hdOf X h).o n y) eps : ℝ) := by
  unfold rd
  after_results
  pointwise
  exact mul_of (cen_of (O n h) e) (rs_of (O n h))
theorem silu_read {W : Mem} (B : Base X W) (n : Fin 4096) (j : Fin 1024) :
    rd (S := S4096x1024) (StableHlo.after s12 W (Proc.tc.devRef main_v147)) (ix2 n j) = (X n (2048 + j) * sg (X n (2048 + j)) : ℝ) := by
  unfold rd
  after_results
  simp -implicitDefEqProofs only [StableHlo.TRef.toBuf, StableHlo.TRef.ofBuf, cast_cast, cast_eq]
  pointwise
  exact mul_of (B.g n j) (sg_of (B.g n j))
theorem prod_read (W : Mem) (n : Fin 4096) (j : Fin 1024) :
    rd (S := S4096x1024) (StableHlo.after s14 (StableHlo.after s13 W) (Proc.tc.devRef main_v162)) (ix2 n j) =
      rd (S := S4096x1024) (W (Proc.tc.devRef main_v146)) (ix2 n j) * rd (S := S4096x1024) (W (Proc.tc.devRef main_v147)) (ix2 n j) := by
  unfold rd
  after_results
  pointwise
theorem flat_read (W : Mem) (n : Fin 4096) (j : Fin 1024) :
    rd (S := S4096x1024) (StableHlo.after s11 W (Proc.tc.devRef main_v146)) (ix2 n j) =
      rd (S := S4096x8x128) (W (Proc.tc.devRef main_v145)) (ix3 n ⟨j / 128, by omega⟩ ⟨j % 128, by omega⟩) := by
  unfold rd
  after_results
  pointwise
theorem kept_eq (n j : ℕ) : keptOf X n j = cen (fun y => (hdOf X (j / 128)).o n y) ⟨j % 128, Nat.mod_lt _ (by norm_num)⟩ *
    rs (fun y => (hdOf X (j / 128)).o n y) eps * (X n (2048 + j) * sg (X n (2048 + j))) := by
  have g : 2048 + j = 2048 + 128 * (j / 128) + j % 128 := by omega
  rw [g]
  rfl
theorem kept_read {W : Mem} (O : Outs X W) (B : Base X W) (n : Fin 4096) (j : Fin 1024) :
    rd (S := S4096x1024) (StableHlo.after s14 (StableHlo.after s13 (StableHlo.after s12 (StableHlo.after s11 (StableHlo.after s10 W)))) (Proc.tc.devRef main_v162)) (ix2 n j) =
      (keptOf X n j : ℝ) := by
  have B11 : Base X (StableHlo.after s11 (StableHlo.after s10 W)) :=
    B.keep (Same.trans (Same.after s10_writes (by decide +kernel) _) (Same.after s11_writes (by decide +kernel) _))
  have N := norm_read O
  rw [kept_eq]
  generalize StableHlo.after s10 W = V at B11 N
  have F := flat_read V
  generalize StableHlo.after s11 V = U at B11 F
  refine (prod_read _ n j).trans (mul_of (((congrFun (StableHlo.after_of_writes_sub (r := main_v146) s12 U s12_writes (by decide +kernel)) (ix2 n j)).trans
    (F n j)).trans (N n _ _)) (silu_read B11 n j))
/-- The layout of the saved states: every eighth state, the even heads' in the first half of 128 rows, the odd heads' in the second. -/
def laid (f : S64x8x64x128.Idx → EReal) (b h : Fin 8) (l x : Fin 128) : EReal :=
  if _h1 : h.val % 2 < 1 then
    if h2 : l.val < 64 then f (ix4 ⟨b * 8, by omega⟩ ⟨h / 2 * 2, by omega⟩ ⟨l, h2⟩ x) else 0
  else
    if h2 : l.val < 64 then 0 else f (ix4 ⟨b * 8, by omega⟩ ⟨h / 2 * 2 + 1, by omega⟩ ⟨l - 64, by omega⟩ x)

theorem laid_read (W : Mem) (b h : Fin 8) (l x : Fin 128) :
    rd (S := S8x8x128x128) (StableHlo.after s14 (StableHlo.after s13 W) (Proc.tc.devRef main_v163)) (ix4 b h l x) =
      laid (rd (S := S64x8x64x128) (W (Proc.tc.devRef main_v114_4))) b h l x := by
  unfold rd laid
  after_results
  pointwise

theorem st_eight (H : Head) (b d : ℕ) (x : ℕ) : H.st 64 (b * 8) d x = H.st 512 b d x := by
  unfold Head.st St
  rw [show b * 8 * 64 = b * 512 by ring]

theorem laid_eq {f : S64x8x64x128.Idx → EReal} (S : ∀ (N : Fin 64) (h : Fin 8) (d : Fin 64) (e : Fin 128), f (ix4 N h d e) = ((hdOf X h).st 64 N d e : ℝ))
    (b h : Fin 8) (l x : Fin 128) : laid f b h l x = (stateOf X b h l x : ℝ) := by
  unfold laid stateOf
  by_cases h1 : h.val % 2 < 1 <;> by_cases h2 : l.val < 64
  · rw [dif_pos h1, dif_pos h2, if_pos (by omega), S, ← st_eight, Nat.mod_eq_of_lt h2]
    have e : h.val / 2 * 2 = h.val := by omega
    simp only [e]
  · rw [dif_pos h1, dif_neg h2, if_neg (by omega)]
    exact EReal.coe_zero.symm
  · rw [dif_neg h1, dif_pos h2, if_neg (by omega)]
    exact EReal.coe_zero.symm
  · rw [dif_neg h1, dif_neg h2, if_pos (by omega), S, ← st_eight]
    have e : h.val / 2 * 2 + 1 = h.val := by omega
    have e' : l.val % 64 = l.val - 64 := by omega
    simp only [e, e']

variable (m : (ℓ : Loc nD τ sig) → Buf (Elt Ideal) ℓ)

/-- The buffers where the loop has been left hold the entry's arrays and the stacked states. -/
theorem left (c : Dev nD) (G : Given X (StableHlo.launchContents m c)) : Entry X (Runs.W2 m c) ∧ Sts X (Runs.W2 m c) := by
  have E7 := entry (base _ G)
  generalize h7 : StableHlo.after s7 (StableHlo.after s6 (StableHlo.after s5 (start (StableHlo.launchContents m c)))) = V7 at E7
  have E8 : Entry X (StableHlo.after s8 V7) := E7.keep (Same.after s8_writes (by decide +kernel) _)
  have w1 : Runs.W1 m c = StableHlo.after s8 V7 := by rw [← h7]; rfl
  have st := (states (X := X) (Runs.W1 m) c (Runs.zero0 m c) (fun N h d e => ?_) (fun h => ?_) (fun h d e => ?_) 64 le_rfl).2
  · have k0 (r : Ref sig .tc) (h : r ∉ c0_W ++ b0_0_W ++ b0_1_W ++ b0_2_W ++ b0_3_W) : Runs.W2 m c (Proc.tc.devRef r) = StableHlo.after s8 V7 (Proc.tc.devRef r) := by
      rw [← w1]
      exact (StableHlo.after_of_writes_sub c0 _ c0_writes (by simp only [List.mem_append, not_or] at h; exact h.1.1.1.1)).trans (at_keep _ c r h 64)
    exact ⟨E8.keep fun r h => k0 r ((by decide +kernel : ∀ r ∈ entryR, r ∉ c0_W ++ b0_0_W ++ b0_1_W ++ b0_2_W ++ b0_3_W) r h), fun N h d e =>
      (congrFun (StableHlo.after_of_writes_sub (r := main_v114_4) c0 _ c0_writes (by decide +kernel)) _).trans (st N h d e N.isLt)⟩
  · rw [w1]
    refine Eq.trans ?_ (E7.kv N h d e)
    unfold rd
    after_results
    rfl
  · rw [w1]
    refine Eq.trans ?_ (E7.cd h)
    unfold rd
    after_results
    rfl
  · rw [w1]
    unfold rd
    after_results
    simp only [id]
    pointwise
    exact EReal.coe_zero.symm

/-- The reference's first result: the gated output. -/
theorem kept_result (c : Dev nD) (G : Given X (StableHlo.launchContents m c)) (n : Fin 4096) (j : Fin 1024) :
    rd (S := S4096x1024) (TwoLoops.atEnd1 Runs.loop0 preI postI m c (Proc.tc.devRef main_v162)) (ix2 n j) = (keptOf X n j : ℝ) := by
  obtain ⟨E, S⟩ := left m c G
  generalize hW : Runs.W2 m c = W at E S
  refine (congrArg (fun V : Mem => rd (S := S4096x1024) (StableHlo.afterL postI V (Proc.tc.devRef main_v162)) (ix2 n j)) hW).trans ?_
  exact kept_read (outs E S) (E.base.keep (Same.after s9_writes (by decide +kernel) _)) n j
/-- The reference's second result: the states of the blocks of 512 rows. -/
theorem state_result (c : Dev nD) (G : Given X (StableHlo.launchContents m c)) (b h : Fin 8) (l x : Fin 128) :
    rd (S := S8x8x128x128) (TwoLoops.atEnd1 Runs.loop0 preI postI m c (Proc.tc.devRef main_v163)) (ix4 b h l x) = (stateOf X b h l x : ℝ) := by
  obtain ⟨-, S⟩ := left m c G
  generalize hW : Runs.W2 m c = W at S
  refine (congrArg (fun V : Mem => rd (S := S8x8x128x128) (StableHlo.afterL postI V (Proc.tc.devRef main_v163)) (ix4 b h l x)) hW).trans ?_
  refine (laid_read _ b h l x).trans (laid_eq (fun N h d e => ?_) b h l x)
  refine Eq.trans ?_ (S N h d e)
  exact congrFun ((((StableHlo.after_of_writes_sub s12 _ s12_writes (by decide +kernel)).trans (StableHlo.after_of_writes_sub s11 _ s11_writes (by decide +kernel))).trans
    (StableHlo.after_of_writes_sub s10 _ s10_writes (by decide +kernel))).trans (StableHlo.after_of_writes_sub s9 _ s9_writes (by decide +kernel))) _

end Cert.RetFwdReferenceIdeal.Reading
-- ==== Proof.RetFwdEq.lean ====
/-
The retention's forward pass: the claim that the kernel's and the reference's results agree.
-/
module

public import proofs.«01_k».proof.Proof.RetFwdRead3
public import proofs.«01_k».proof.Proof.RetEq
public import proofs.«01_k».proof.Proof.Gen.Pre_proj_finite

@[expose] public section

set_option maxRecDepth 16384

noncomputable section

open Idealize.ShloMosaic Idealize.ShloMosaic.TcCoe Idealize.SL.Sem

namespace Cert.RetFwdEq

open Cert.RetMath
open Cert.RetEq (arr arr_at real_of_below)
open Cert.RetFwdKernelIdeal.Value (keptOf stateOf kept_arr state_arr)

/-- The two results as arrays. -/
abbrev keptArr (X : ℕ → ℕ → ℝ) : (⟨2, ![4096, 1024]⟩ : Shape).Idx → EReal := fun i => (keptOf X (i 0).val (i 1).val : ℝ)
abbrev stateArr (X : ℕ → ℕ → ℝ) : (⟨4, ![8, 8, 128, 128]⟩ : Shape).Idx → EReal := fun i => (stateOf X (i 0).val (i 1).val (i 2).val (i 3).val : ℝ)

theorem at2 {a b : ℕ} {f g : (⟨2, ![a, b]⟩ : Shape).Idx → EReal} (h : ∀ (n : Fin a) (l : Fin b), f (ix2 n l) = g (ix2 n l)) : f = g := funext fun i => by
  obtain ⟨n, l, rfl⟩ : ∃ n l, i = ix2 n l := ⟨i 0, i 1, by funext x; fin_cases x <;> rfl⟩
  exact h n l
theorem at4 {a b c d : ℕ} {f g : (⟨4, ![a, b, c, d]⟩ : Shape).Idx → EReal} (h : ∀ (n : Fin a) (l : Fin b) (x : Fin c) (y : Fin d), f (ix4 n l x y) = g (ix4 n l x y)) :
    f = g := funext fun i => by
  obtain ⟨n, l, x, y, rfl⟩ : ∃ n l x y, i = ix4 n l x y := ⟨i 0, i 1, i 2, i 3, by funext z; fin_cases z <;> rfl⟩
  exact h n l x y

/-- The claim. -/
theorem value : Cert.algebraic_RetFwdKernelIdeal_RetFwdReferenceIdeal_pre_proj_finite
    (hRetFwdKernelIdeal := Cert.RetFwdKernelIdeal.Gen.facts) (hRetFwdReferenceIdeal := Cert.RetFwdReferenceIdeal.Gen.facts)
    (hPre_proj_finite := Cert.Pre_proj_finite.Gen.facts) := by
  intro m g m' g' hpre hargs
  have real (c) (i) := real_of_below (congrFun (hpre c) i)
  refine ⟨fun c => keptArr (arr (by norm_num) (by norm_num) (m ((c.tc : Thread Cert.RetFwdKernelIdeal.nD Cert.RetFwdKernelIdeal.τ).loc Cert.RetFwdKernelIdeal.main_arg0))),
    fun c => stateArr (arr (by norm_num) (by norm_num) (m ((c.tc : Thread Cert.RetFwdKernelIdeal.nD Cert.RetFwdKernelIdeal.τ).loc Cert.RetFwdKernelIdeal.main_arg0))),
    (θ_run _ _ _).mono (fun r h c => ?_) (Cert.RetFwdKernelIdeal.Value.run m g), (θ_run _ _ _).mono (fun r h c => ?_) (Cert.RetFwdReferenceIdeal.Runs.run m' g')⟩
  · obtain ⟨h0, h1, hk⟩ := h c
    have A : Cert.RetFwdKernelIdeal.Value.Arg m c (arr (by norm_num) (by norm_num) (m ((c.tc : Thread Cert.RetFwdKernelIdeal.nD Cert.RetFwdKernelIdeal.τ).loc Cert.RetFwdKernelIdeal.main_arg0))) :=
      fun n l => by
        rw [Cert.RetFwdKernelIdeal.Gen.V_main_arg0]
        exact arr_at (real c) n l
    exact ⟨h0.trans (at2 fun n j => kept_arr m A n j), h1.trans (at4 fun b h l x => state_arr m A b h l x), hk⟩
  · obtain ⟨h0, h1, hk⟩ := h c
    have G : Cert.RetFwdReferenceIdeal.Reading.Given (arr (by norm_num) (by norm_num) (m ((c.tc : Thread Cert.RetFwdKernelIdeal.nD Cert.RetFwdKernelIdeal.τ).loc Cert.RetFwdKernelIdeal.main_arg0)))
        (StableHlo.launchContents m' c) := ⟨fun n l => (congrFun (hargs c) _).trans (arr_at (real c) n l)⟩
    exact ⟨h0.trans (at2 fun n j => Cert.RetFwdReferenceIdeal.Reading.kept_result m' c G n j),
      h1.trans (at4 fun b h l x => Cert.RetFwdReferenceIdeal.Reading.state_result m' c G b h l x), hk⟩

/-- The reference runs, leaves its argument, and declares no semaphore. -/
theorem frame_ref : Cert.quiescent_RetFwdReferenceIdeal (hRetFwdReferenceIdeal := Cert.RetFwdReferenceIdeal.Gen.facts) :=
  fun m ρ _ => (θ_run Cert.RetFwdReferenceIdeal.defs _ _).mono
    (fun r h => ⟨fun c => (h c).2.2, sem_eq_zero_of_no_sems (by decide) r.2⟩) (Cert.RetFwdReferenceIdeal.Runs.run m ρ)

end Cert.RetFwdEq

end
-- ==== Proof.MergeFwdValue.lean ====
/-
  The merge of the two mixers, forward: what the kernel's frame run leaves in its result arrays, in terms of the
  arguments. The stages are those of the backward pass's file, with the stream in the cotangent's place.
-/
module

public import proofs.«01_k».proof.Proof.MergeKernelValue
public import proofs.«01_k».proof.Proof.Gen.MergeFwdKernelIdeal.Value

@[expose] public section

set_option maxRecDepth 16384

noncomputable section

open Idealize.ShloMosaic Idealize.ShloMosaic.TcCoe Idealize.SL.Sem
open Idealize.ShloMosaic.Pipeline (Dat)

namespace Cert.MergeFwdKernelIdeal.Value

open Cert.MergeFwdKernelIdeal Cert.MergeFwdKernelIdeal.Gen
open Cert.MergeKernelIdeal.Value (Args row_found)

/-- The layer's output: the stream plus the normed product. -/
def out (A : Args) (n : Fin 4096) (j : Fin 1024) : EReal := A.ct n j + A.z n j * A.rs n * A.g j

variable (m : (ℓ : Loc nD τ sig) → Buf (Elt Ideal) ℓ) (ρ : Dev nD → PrngReg)

/-- The arguments in memory. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem arr5 (c : Dev nD) (n : Fin 4096) (l : Fin 8192) : V m c main_v5 (ix2 n l) = (args m c).proj n l := by
  show StableHlo.after [hostOps0].flatten (fun b => m (c, b)) _ _ = _
  simp only [List.flatten_cons, List.flatten_nil, List.append_nil]
  after_results
  pointwise
  rfl

theorem arr6 (c : Dev nD) (n : Fin 4096) (l : Fin 1024) : V m c main_v6 (ix2 n l) = (args m c).ar n l := by
  show StableHlo.after [hostOps0].flatten (fun b => m (c, b)) _ _ = _
  simp only [List.flatten_cons, List.flatten_nil, List.append_nil]
  after_results
  pointwise
  rfl

theorem arr7 (c : Dev nD) (n : Fin 4096) (l : Fin 1024) : V m c main_v7 (ix2 n l) = (args m c).ac n l := by
  show StableHlo.after [hostOps0].flatten (fun b => m (c, b)) _ _ = _
  simp only [List.flatten_cons, List.flatten_nil, List.append_nil]
  after_results
  pointwise
  rfl

theorem arr8 (c : Dev nD) (l : Fin 1024) : V m c main_v8 (ix3 3 0 l) = (args m c).g l := by
  show StableHlo.after [hostOps0].flatten (fun b => m (c, b)) _ _ = _
  simp only [List.flatten_cons, List.flatten_nil, List.append_nil]
  after_results
  pointwise
  rfl

/-- The packed weights: the first range of each quarter's rows, the second, the third. -/
theorem arr4 (c : Dev nD) (a : Fin 4) (r : Fin 256) (l : Fin 1024) :
    V m c main_v4 (ix3 a ⟨0 + r.val, by omega⟩ l) = (args m c).wr ⟨256 * a.val + r.val, by omega⟩ l
    ∧ V m c main_v4 (ix3 a ⟨256 + r.val, by omega⟩ l) = (args m c).wc ⟨256 * a.val + r.val, by omega⟩ l
    ∧ V m c main_v4 (ix3 a ⟨512 + r.val, by omega⟩ l) = (args m c).wo ⟨256 * a.val + r.val, by omega⟩ l := by
  refine ⟨?_, ?_, ?_⟩
  all_goals
    show StableHlo.after [hostOps0].flatten (fun b => m (c, b)) _ _ = _
    simp only [List.flatten_cons, List.flatten_nil, List.append_nil]
    after_results
    pointwise
    try simp only [show ¬ (512 + r.val < 256) by omega, show ¬ (512 + r.val - 256 < 256) by omega, r.isLt, dif_pos, dif_neg, not_false_eq_true]
    all_goals after_results_simp
    pointwise
    unfold args Args.of
    congr 2
    exact Fin.ext (by simp only []; omega)

theorem idx0 : ∀ t : Fin cfg0.N, win0_0.index t = ![t.val, 0] := (by decide +kernel : ∀ t : Fin grid0.N, _)
theorem idx1 : ∀ t : Fin cfg0.N, win0_1.index t = ![t.val, 3] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 1, 0] := (by decide +kernel : ∀ t : Fin grid0.N, _)
theorem idx6 : ∀ t : Fin cfg0.N, win0_6.index t = ![0, 2, 0] := (by decide +kernel : ∀ t : Fin grid0.N, _)
theorem idx7 : ∀ t : Fin cfg0.N, win0_7.index t = ![3, 0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

/-- The row of the array that point `t` reads at row `r` of its block. -/
def rowOf (t : Fin cfg0.N) (r : Fin 512) : Fin 4096 :=
  ⟨512 * t.val + r.val, by have := lt_of_lt_of_eq t.isLt N_0; omega⟩

theorem blk0 (c : Dev nD) (t : Fin cfg0.N) (r : Fin 512) (l : Fin 1024) :
    iblk m c 0 t (ix2 r l) = (args m c).ct (rowOf t r) l := by
  show _ = V m c main_arg0 (ix2 (rowOf t r) l)
  blk_ext [iblk, V, idx0 t, rowOf]

theorem blk1 (c : Dev nD) (t : Fin cfg0.N) (r : Fin 512) (l : Fin 2048) :
    iblk m c 1 t (ix2 r l) = (args m c).proj (rowOf t r) ⟨6144 + l.val, by omega⟩ := by
  rw [← arr5 m c]
  blk_ext [iblk, V, idx1 t, rowOf]

theorem blk2 (c : Dev nD) (t : Fin cfg0.N) (r : Fin 512) (l : Fin 1024) :
    iblk m c 2 t (ix2 r l) = (args m c).ar (rowOf t r) l := by
  rw [← arr6 m c]
  blk_ext [iblk, V, idx2 t, rowOf]

theorem blk3 (c : Dev nD) (t : Fin cfg0.N) (r : Fin 512) (l : Fin 1024) :
    iblk m c 3 t (ix2 r l) = (args m c).ac (rowOf t r) l := by
  rw [← arr7 m c]
  blk_ext [iblk, V, idx3 t, rowOf]

theorem blk4 (c : Dev nD) (t : Fin cfg0.N) (a : Fin 4) (r : Fin 256) (l : Fin 1024) :
    iblk m c 4 t (ix3 a r l) = (args m c).wr ⟨256 * a.val + r.val, by omega⟩ l := by
  rw [← (arr4 m c a r l).1]
  blk_ext [iblk, V, idx4 t]

theorem blk5 (c : Dev nD) (t : Fin cfg0.N) (a : Fin 4) (r : Fin 256) (l : Fin 1024) :
    iblk m c 5 t (ix3 a r l) = (args m c).wc ⟨256 * a.val + r.val, by omega⟩ l := by
  rw [← (arr4 m c a r l).2.1]
  blk_ext [iblk, V, idx5 t]

theorem blk6 (c : Dev nD) (t : Fin cfg0.N) (a : Fin 4) (r : Fin 256) (l : Fin 1024) :
    iblk m c 6 t (ix3 a r l) = (args m c).wo ⟨256 * a.val + r.val, by omega⟩ l := by
  rw [← (arr4 m c a r l).2.2]
  blk_ext [iblk, V, idx6 t]

theorem blk7 (c : Dev nD) (t : Fin cfg0.N) (l : Fin 1024) : iblk m c 7 t (ix3 0 0 l) = (args m c).g l := by
  rw [← arr8 m c]
  blk_ext [iblk, V, idx7 t]

theorem pay_ro (c : Dev nD) (t : Fin cfg0.N) (r : Fin 512) (l : Fin 1024) :
    k0_pay3 (F := Ideal) (iblk m c 2 t) (iblk m c 4 t) (ix2 r l) = (args m c).ro (rowOf t r) l := by
  pointwise [k0_pay3]
  simp only [blk2, blk4, row_found]
  rfl

theorem pay_co (c : Dev nD) (t : Fin cfg0.N) (r : Fin 512) (l : Fin 1024) :
    k0_pay4 (F := Ideal) (iblk m c 3 t) (iblk m c 5 t) (ix2 r l) = (args m c).co (rowOf t r) l := by
  pointwise [k0_pay4]
  simp only [blk3, blk5, row_found]
  rfl

/-- The two halves of the projections' block. -/
abbrev half1 (c : Dev nD) (t : Fin cfg0.N) : S512x1024.Idx → EReal := View.ld (iblk m c 1 t) r0_2
abbrev half2 (c : Dev nD) (t : Fin cfg0.N) : S512x1024.Idx → EReal := View.ld (iblk m c 1 t) r0_3

theorem half1_at (c : Dev nD) (t : Fin cfg0.N) (r : Fin 512) (l : Fin 1024) :
    half1 m c t (ix2 r l) = (args m c).proj (rowOf t r) ⟨6144 + l.val, by omega⟩ := by
  rw [← blk1 m c t r ⟨l.val, by omega⟩]
  exact congrArg (iblk m c 1 t) (by funext a; fin_cases a <;> exact Fin.ext (by simp [LoadRect.idx, Rect.unit, ix2]))

theorem half2_at (c : Dev nD) (t : Fin cfg0.N) (r : Fin 512) (l : Fin 1024) :
    half2 m c t (ix2 r l) = (args m c).proj (rowOf t r) ⟨7168 + l.val, by omega⟩ := by
  rw [show (⟨7168 + l.val, by omega⟩ : Fin 8192) = ⟨6144 + (1024 + l.val), by omega⟩ from Fin.ext (by simp only []; omega),
    ← blk1 m c t r ⟨1024 + l.val, by omega⟩]
  exact congrArg (iblk m c 1 t) (by funext a; fin_cases a <;> exact Fin.ext (by simp [LoadRect.idx, Rect.unit, ix2]))

/-- The merged rows and their product, on a block. -/
abbrev by_ (c : Dev nD) (t : Fin cfg0.N) : S512x1024.Idx → EReal :=
  k0_pay5 (F := Ideal) (iblk m c 2 t) (iblk m c 4 t) (iblk m c 3 t) (iblk m c 5 t) (half1 m c t) (half2 m c t)

theorem pay_y (c : Dev nD) (t : Fin cfg0.N) (r : Fin 512) (l : Fin 1024) : by_ m c t (ix2 r l) = (args m c).y (rowOf t r) l := by
  pointwise [by_, k0_pay5]
  simp only [pay_ro, pay_co, half1_at, half2_at]
  rfl

abbrev bz (c : Dev nD) (t : Fin cfg0.N) : S512x1024.Idx → EReal :=
  k0_pay6 (F := Ideal) (iblk m c 2 t) (iblk m c 4 t) (iblk m c 3 t) (iblk m c 5 t) (half1 m c t) (half2 m c t) (iblk m c 6 t)

theorem pay_z (c : Dev nD) (t : Fin cfg0.N) (r : Fin 512) (l : Fin 1024) : bz m c t (ix2 r l) = (args m c).z (rowOf t r) l := by
  pointwise [bz, k0_pay6]
  simp only [blk6, row_found]
  exact Finset.sum_congr rfl fun k _ => congrArg (· * _) (pay_y m c t r k)

theorem pay_out (c : Dev nD) (t : Fin cfg0.N) (r : Fin 512) (l : Fin 1024) :
    k0_pay2 (F := Ideal) (bz m c t) (iblk m c 0 t) (iblk m c 7 t) (ix2 r l) = out (args m c) (rowOf t r) l := by
  pointwise [k0_pay2]
  simp only [pay_z, blk0, blk7, Fin.sum_univ_one]
  rfl

theorem final8 (c : Dev nD) : (dats m 0 c).arrAt 8 cfg0.N = fun i : S4096x1024.Idx => out (args m c) (i 0) (i 1) := by
  refine (dats m 0 c).arrAt_eq_of_covers 8 _ (by decide +kernel) fun t hf y => ?_
  obtain ⟨r, l, rfl⟩ : ∃ r l, y = ix2 r l := ⟨y 0, y 1, by funext a; fin_cases a <;> rfl⟩
  blk_simp [idx8 t]
  rw [after0_8, show out0_8 (iblk m c 0 t) (iblk m c 1 t) (iblk m c 2 t) (iblk m c 3 t) (iblk m c 4 t) (iblk m c 5 t) (iblk m c 6 t) (iblk m c 7 t) (ix2 r l) = out (args m c) (rowOf t r) l by
    unfold_out out0_8
    frame_out
    exact pay_out m c t r l]
  congr 1
  · exact Fin.ext (by blk_simp [idx8 t, rowOf]; show 512 * t.val + r.val = t.val * 512 + r.val; omega)
  · exact Fin.ext (by blk_simp [idx8 t, rowOf]; done)

theorem final9 (c : Dev nD) : (dats m 0 c).arrAt 9 cfg0.N = fun i : S4096x1024.Idx => (args m c).ro (i 0) (i 1) := by
  refine (dats m 0 c).arrAt_eq_of_covers 9 _ (by decide +kernel) fun t hf y => ?_
  obtain ⟨r, l, rfl⟩ : ∃ r l, y = ix2 r l := ⟨y 0, y 1, by funext a; fin_cases a <;> rfl⟩
  blk_simp [idx9 t]
  rw [after0_9, show out0_9 (iblk m c 0 t) (iblk m c 1 t) (iblk m c 2 t) (iblk m c 3 t) (iblk m c 4 t) (iblk m c 5 t) (iblk m c 6 t) (iblk m c 7 t) (ix2 r l) = (args m c).ro (rowOf t r) l by
    unfold_out out0_9
    frame_out
    pointwise [k0_pay7]
    exact pay_ro m c t r l]
  congr 1
  · exact Fin.ext (by blk_simp [idx9 t, rowOf]; show 512 * t.val + r.val = t.val * 512 + r.val; omega)
  · exact Fin.ext (by blk_simp [idx9 t, rowOf]; done)

theorem final10 (c : Dev nD) : (dats m 0 c).arrAt 10 cfg0.N = fun i : S4096x1024.Idx => (args m c).co (i 0) (i 1) := by
  refine (dats m 0 c).arrAt_eq_of_covers 10 _ (by decide +kernel) fun t hf y => ?_
  obtain ⟨r, l, rfl⟩ : ∃ r l, y = ix2 r l := ⟨y 0, y 1, by funext a; fin_cases a <;> rfl⟩
  blk_simp [idx10 t]
  rw [after0_10, show out0_10 (iblk m c 0 t) (iblk m c 1 t) (iblk m c 2 t) (iblk m c 3 t) (iblk m c 4 t) (iblk m c 5 t) (iblk m c 6 t) (iblk m c 7 t) (ix2 r l) = (args m c).co (rowOf t r) l by
    unfold_out out0_10
    frame_out
    pointwise [k0_pay8]
    exact pay_co m c t r l]
  congr 1
  · exact Fin.ext (by blk_simp [idx10 t, rowOf]; show 512 * t.val + r.val = t.val * 512 + r.val; omega)
  · exact Fin.ext (by blk_simp [idx10 t, rowOf]; done)

theorem final11 (c : Dev nD) : (dats m 0 c).arrAt 11 cfg0.N = fun i : S4096x1024.Idx => (args m c).y (i 0) (i 1) := by
  refine (dats m 0 c).arrAt_eq_of_covers 11 _ (by decide +kernel) fun t hf y => ?_
  obtain ⟨r, l, rfl⟩ : ∃ r l, y = ix2 r l := ⟨y 0, y 1, by funext a; fin_cases a <;> rfl⟩
  blk_simp [idx11 t]
  rw [after0_11, show out0_11 (iblk m c 0 t) (iblk m c 1 t) (iblk m c 2 t) (iblk m c 3 t) (iblk m c 4 t) (iblk m c 5 t) (iblk m c 6 t) (iblk m c 7 t) (ix2 r l) = (args m c).y (rowOf t r) l by
    unfold_out out0_11
    frame_out
    exact pay_y m c t r l]
  congr 1
  · exact Fin.ext (by blk_simp [idx11 t, rowOf]; show 512 * t.val + r.val = t.val * 512 + r.val; omega)
  · exact Fin.ext (by blk_simp [idx11 t, rowOf]; done)

theorem final12 (c : Dev nD) : (dats m 0 c).arrAt 12 cfg0.N = fun i : S4096x1024.Idx => (args m c).z (i 0) (i 1) := by
  refine (dats m 0 c).arrAt_eq_of_covers 12 _ (by decide +kernel) fun t hf y => ?_
  obtain ⟨r, l, rfl⟩ : ∃ r l, y = ix2 r l := ⟨y 0, y 1, by funext a; fin_cases a <;> rfl⟩
  blk_simp [idx12 t]
  rw [after0_12, show out0_12 (iblk m c 0 t) (iblk m c 1 t) (iblk m c 2 t) (iblk m c 3 t) (iblk m c 4 t) (iblk m c 5 t) (iblk m c 6 t) (iblk m c 7 t) (ix2 r l) = (args m c).z (rowOf t r) l by
    unfold_out out0_12
    frame_out
    pointwise [k0_pay1]
    exact pay_z m c t r l]
  congr 1
  · exact Fin.ext (by blk_simp [idx12 t, rowOf]; show 512 * t.val + r.val = t.val * 512 + r.val; omega)
  · exact Fin.ext (by blk_simp [idx12 t, rowOf]; done)

/-- The run: the results in terms of the arguments, and the arguments unchanged. -/
theorem run : θ_run defs (onTc (τ := τ) (main (F := Ideal))) ⟨m, fun _ => 0, ρ⟩ fun r => ∀ c : Dev nD,
      (r.2.mem ((c.tc : Thread nD τ).loc main_v9_0) = (fun i : S4096x1024.Idx => out (args m c) (i 0) (i 1))
        ∧ r.2.mem ((c.tc : Thread nD τ).loc main_v9_1) = (fun i : S4096x1024.Idx => (args m c).ro (i 0) (i 1))
        ∧ r.2.mem ((c.tc : Thread nD τ).loc main_v9_2) = (fun i : S4096x1024.Idx => (args m c).co (i 0) (i 1))
        ∧ r.2.mem ((c.tc : Thread nD τ).loc main_v9_3) = (fun i : S4096x1024.Idx => (args m c).y (i 0) (i 1))
        ∧ r.2.mem ((c.tc : Thread nD τ).loc main_v9_4) = (fun i : S4096x1024.Idx => (args m c).z (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨⟨(h c).1.trans (final8 m c), (h c).2.1.trans (final9 m c), (h c).2.2.1.trans (final10 m c),
    (h c).2.2.2.1.trans (final11 m c), (h c).2.2.2.2.1.trans (final12 m c)⟩, (h c).2.2.2.2.2⟩) (run_blocks m ρ)

end Cert.MergeFwdKernelIdeal.Value

end
-- ==== Proof.MergeFwdEq.lean ====
/-
  The merge of the two mixers, forward: the reference's stages are the kernel's, and the claim that the results agree.
-/
module

public import proofs.«01_k».proof.Proof.MergeFwdValue
public import proofs.«01_k».proof.Proof.Gen.MergeFwdReferenceIdeal.Run
public import proofs.«01_k».proof.Proof.Gen.MergeFwdReferenceIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.MergeFwdEq

open Cert.MergeKernelIdeal.Value (Args)
open Cert.MergeFwdKernelIdeal.Value (args out)
open Cert.MergeFwdReferenceIdeal Cert.MergeFwdReferenceIdeal.Read

variable (x0 : S4096x1024.Idx → EReal) (x1 : S4096x8192.Idx → EReal) (x2 x3 : S4096x1024.Idx → EReal)
    (x4 x5 x6 : S1024x1024.Idx → EReal) (x7 : S4x1024.Idx → EReal)

theorem r_ro (n : Fin 4096) (j : Fin 1024) : val_main_v36 (F := Ideal) x2 x4 (ix2 n j) = (Args.of x0 x1 x2 x3 x4 x5 x6 x7).ro n j := by
  pointwise [val_main_v36, val_main_v2]
  rfl

theorem r_co (n : Fin 4096) (j : Fin 1024) : val_main_v37 (F := Ideal) x3 x5 (ix2 n j) = (Args.of x0 x1 x2 x3 x4 x5 x6 x7).co n j := by
  pointwise [val_main_v37, val_main_v3]
  rfl

theorem r_g1 (n : Fin 4096) (j : Fin 1024) : val_main_v9 (F := Ideal) x1 (ix2 n j) = (Args.of x0 x1 x2 x3 x4 x5 x6 x7).g1 n j := by
  pointwise [val_main_v9, val_main_v8, val_main_v7, val_main_v6, val_main_v5, val_main_v4, val_main_v0, val_main_cst, val_main_cst_0]
  simp only [Cert.MergeKernelIdeal.Value.gate]
  rfl

theorem r_g2 (n : Fin 4096) (j : Fin 1024) : val_main_v16 (F := Ideal) x1 (ix2 n j) = (Args.of x0 x1 x2 x3 x4 x5 x6 x7).g2 n j := by
  pointwise [val_main_v16, val_main_v15, val_main_v14, val_main_v13, val_main_v12, val_main_v11, val_main_v1, val_main_cst_1, val_main_cst_2]
  simp only [Cert.MergeKernelIdeal.Value.gate]
  rfl

theorem r_y (n : Fin 4096) (j : Fin 1024) : val_main_v18 (F := Ideal) x1 x2 x3 x4 x5 (ix2 n j) = (Args.of x0 x1 x2 x3 x4 x5 x6 x7).y n j := by
  pointwise [val_main_v18, val_main_v17, val_main_v10]
  rw [r_g1 x0 x1 x2 x3 x4 x5 x6 x7, r_g2 x0 x1 x2 x3 x4 x5 x6 x7]
  exact congrArg₂ (fun a b => _ * a + _ * b) (r_ro x0 x1 x2 x3 x4 x5 x6 x7 n j) (r_co x0 x1 x2 x3 x4 x5 x6 x7 n j)

theorem r_z (n : Fin 4096) (j : Fin 1024) : val_main_v19 (F := Ideal) x1 x2 x3 x4 x5 x6 (ix2 n j) = (Args.of x0 x1 x2 x3 x4 x5 x6 x7).z n j := by
  pointwise [val_main_v19]
  exact Finset.sum_congr rfl fun k _ => congrArg (· * _) (r_y x0 x1 x2 x3 x4 x5 x6 x7 n k)

theorem r_rs (n : Fin 4096) : val_main_v29 (F := Ideal) x1 x2 x3 x4 x5 x6 (ix2 n 0) = (Args.of x0 x1 x2 x3 x4 x5 x6 x7).rs n := by
  pointwise [val_main_v29, val_main_v28, val_main_v27, val_main_v26, val_main_v25, val_main_v24, val_main_v23, val_main_v22, val_main_cst_3, val_main_cst_4, val_main_cst_5]
  simp only [r_z x0 x1 x2 x3 x4 x5 x6 x7]
  rfl

theorem r_out (n : Fin 4096) (j : Fin 1024) : val_main_v35 (F := Ideal) x0 x1 x2 x3 x4 x5 x6 x7 (ix2 n j) = out (Args.of x0 x1 x2 x3 x4 x5 x6 x7) n j := by
  pointwise [val_main_v35, val_main_v34, val_main_v33, val_main_v32, val_main_v31, val_main_v30, val_main_v21, val_main_v20]
  simp only [r_z x0 x1 x2 x3 x4 x5 x6 x7, r_rs x0 x1 x2 x3 x4 x5 x6 x7]
  rfl

/-- The claim. -/
theorem value : Cert.algebraic_MergeFwdKernelIdeal_MergeFwdReferenceIdeal
    (hMergeFwdKernelIdeal := Cert.MergeFwdKernelIdeal.Gen.facts) (hMergeFwdReferenceIdeal := Cert.MergeFwdReferenceIdeal.Gen.facts) := by
  intro m g m' g' _ hargs
  refine ⟨fun c i => out (args m c) (i 0) (i 1), fun c i => (args m c).ro (i 0) (i 1), fun c i => (args m c).co (i 0) (i 1),
    fun c i => (args m c).y (i 0) (i 1), fun c i => (args m c).z (i 0) (i 1),
    (θ_run _ _ _).mono (fun r h c => ⟨(h c).1.1, (h c).1.2.1, (h c).1.2.2.1, (h c).1.2.2.2.1, (h c).1.2.2.2.2, (h c).2⟩) (Cert.MergeFwdKernelIdeal.Value.run m g),
    (θ_run _ _ _).mono (fun r h c => ?_) (Cert.MergeFwdReferenceIdeal.Value.run m' g')⟩
  obtain ⟨h0, h1, h2, h3, h4, hk⟩ := h c
  refine ⟨h0.trans (funext fun i => ?_), h1.trans (funext fun i => ?_), h2.trans (funext fun i => ?_), h3.trans (funext fun i => ?_), h4.trans (funext fun i => ?_), hk⟩
  all_goals
    simp only [val_main_v35_eq, val_main_v36_eq, val_main_v37_eq, val_main_v38_eq, val_main_v39_eq, hargs]
    obtain ⟨n, l, rfl⟩ : ∃ n l, i = ix2 n l := ⟨i 0, i 1, by funext a; fin_cases a <;> rfl⟩
  · exact r_out ..
  · exact r_ro ..
  · exact r_co ..
  · exact (by pointwise [val_main_v38] : val_main_v38 (F := Ideal) _ _ _ _ _ (ix2 n l) = val_main_v18 (F := Ideal) _ _ _ _ _ (ix2 n l)).trans (r_y ..)
  · exact (by pointwise [val_main_v39] : val_main_v39 (F := Ideal) _ _ _ _ _ _ (ix2 n l) = val_main_v19 (F := Ideal) _ _ _ _ _ _ (ix2 n l)).trans (r_z ..)

/-- The reference runs, leaves its arguments, and declares no semaphore. -/
theorem frame_ref : Cert.quiescent_MergeFwdReferenceIdeal (hMergeFwdReferenceIdeal := Cert.MergeFwdReferenceIdeal.Gen.facts) :=
  fun m ρ _ => (θ_run Cert.MergeFwdReferenceIdeal.defs _ _).mono
    (fun r h => ⟨fun c => (h c).2.2.2.2.2, sem_eq_zero_of_no_sems (by decide) r.2⟩) (Cert.MergeFwdReferenceIdeal.Value.run m ρ)

end Cert.MergeFwdEq

end
-- ==== Proof.InFwdValue.lean ====
/-
  The norm and the input projection, forward: what the kernel's frame run leaves in its result arrays, in terms of the
  arguments.
-/
module

public import proofs.«01_k».proof.Proof.Gen.InFwdKernelIdeal.Value
public import proofs.«01_k».proof.Proof.Pieces
public import Idealize.ShloMosaic.Lib.Pipeline.ValueKit
public import Idealize.ShloMosaic.Lib.Pointwise
public import Idealize.ShloMosaic.Lib.IdealHost
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InFwdKernelIdeal.Value

open Cert.InFwdKernelIdeal Cert.InFwdKernelIdeal.Gen

/-- The arguments, as functions of the row and the column: the stream, the gain, the weight. -/
structure Args where
  x : Fin 4096 → Fin 1024 → EReal
  g : Fin 1024 → EReal
  w : Fin 1024 → Fin 8192 → EReal

namespace Args

/-- The functions that arrays hold. -/
def of (x0 : S4096x1024.Idx → EReal) (x1 : S4x1024.Idx → EReal) (x2 : S1024x8192.Idx → EReal) : Args where
  x n j := x0 (ix2 n j)
  g j := x1 (ix2 3 j)
  w k j := x2 (ix2 k j)

variable (A : Args)

/-- The norm's mean square, the normed rows, and their product with the weight. -/
def q (n : Fin 4096) : EReal :=
  Ideal.div (∑ j : Fin 1024, A.x n j * A.x n j) (Ideal.ofBits .f32 0x44800000#32) + Ideal.ofBits .f32 0x358637BD#32
def h (n : Fin 4096) (j : Fin 1024) : EReal := A.x n j * Ideal.rsqrt (A.q n) * A.g j
def p (n : Fin 4096) (l : Fin 8192) : EReal := ∑ k : Fin 1024, A.h n k * A.w k l

end Args

variable (m : (ℓ : Loc nD τ sig) → Buf (Elt Ideal) ℓ) (ρ : Dev nD → PrngReg)

/-- The arguments in memory. -/
def args (c : Dev nD) : Args :=
  Args.of (m ((c : Thread nD τ).loc main_arg0)) (m ((c : Thread nD τ).loc main_arg1)) (m ((c : Thread nD τ).loc main_arg2))

theorem arr3 (c : Dev nD) (l : Fin 1024) : V m c main_v3 (ix3 3 0 l) = (args m c).g l := by
  show StableHlo.after [hostOps0].flatten (fun b => m (c, b)) _ _ = _
  simp only [List.flatten_cons, List.flatten_nil, List.append_nil]
  after_results
  pointwise
  rfl

theorem arr2 (c : Dev nD) (a : Fin 4) (j : Fin 1024) (l : Fin 2048) :
    V m c main_v2 (ix3 a j l) = (args m c).w j ⟨2048 * a.val + l.val, by omega⟩ := by
  show StableHlo.after [hostOps0].flatten (fun b => m (c, b)) _ _ = _
  simp only [List.flatten_cons, List.flatten_nil, List.append_nil]
  after_results
  pointwise
  unfold args Args.of
  congr 2
  exact Fin.ext (by simp only []; omega)

theorem idx0 : ∀ t : Fin cfg0.N, win0_0.index t = ![t.val, 0] := (by decide +kernel : ∀ t : Fin grid0.N, _)
theorem idx1 : ∀ t : Fin cfg0.N, win0_1.index t = ![3, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The row of the array that point `t` reads at row `r` of its block. -/
def rowOf (t : Fin cfg0.N) (r : Fin 512) : Fin 4096 :=
  ⟨512 * t.val + r.val, by have := lt_of_lt_of_eq t.isLt N_0; omega⟩

theorem blk0 (c : Dev nD) (t : Fin cfg0.N) (r : Fin 512) (l : Fin 1024) :
    iblk m c 0 t (ix2 r l) = (args m c).x (rowOf t r) l := by
  show _ = V m c main_arg0 (ix2 (rowOf t r) l)
  blk_ext [iblk, V, idx0 t, rowOf]

theorem blk1 (c : Dev nD) (t : Fin cfg0.N) (l : Fin 1024) : iblk m c 1 t (ix3 0 0 l) = (args m c).g l := by
  rw [← arr3 m c]
  blk_ext [iblk, V, idx1 t]

theorem blk2 (c : Dev nD) (t : Fin cfg0.N) (a : Fin 4) (j : Fin 1024) (l : Fin 2048) :
    iblk m c 2 t (ix3 a j l) = (args m c).w j ⟨2048 * a.val + l.val, by omega⟩ := by
  rw [← arr2 m c]
  blk_ext [iblk, V, idx2 t]

theorem pay_h (c : Dev nD) (t : Fin cfg0.N) (r : Fin 512) (l : Fin 1024) :
    k0_pay3 (F := Ideal) (iblk m c 0 t) (iblk m c 1 t) (ix2 r l) = (args m c).h (rowOf t r) l := by
  pointwise [k0_pay3]
  simp only [blk0, blk1, Fin.sum_univ_one]
  rfl

/-- The four stores of the product, each a range of columns. -/
theorem pay_p (c : Dev nD) (t : Fin cfg0.N) (r : Fin 512) (l : Fin 2048) :
    k0_pay4 (F := Ideal) (iblk m c 0 t) (iblk m c 1 t) (View.ld (iblk m c 2 t) r0_2) (ix2 r l) = (args m c).p (rowOf t r) ⟨l.val, by omega⟩
    ∧ k0_pay5 (F := Ideal) (iblk m c 0 t) (iblk m c 1 t) (View.ld (iblk m c 2 t) r0_4) (ix2 r l) = (args m c).p (rowOf t r) ⟨2048 + l.val, by omega⟩
    ∧ k0_pay1 (F := Ideal) (k0_pay6 (iblk m c 0 t) (iblk m c 1 t) (View.ld (iblk m c 2 t) r0_6)) (ix2 r l) = (args m c).p (rowOf t r) ⟨4096 + l.val, by omega⟩
    ∧ k0_pay2 (F := Ideal) (k0_pay3 (iblk m c 0 t) (iblk m c 1 t)) (View.ld (iblk m c 2 t) r0_8) (ix2 r l) = (args m c).p (rowOf t r) ⟨6144 + l.val, by omega⟩ := by
  refine ⟨?_, ?_, ?_, ?_⟩
  all_goals
    pointwise [k0_pay1, k0_pay2, k0_pay4, k0_pay5, k0_pay6]
    simp only [pay_h, blk2]
    refine Finset.sum_congr rfl fun k _ => congrArg (_ * ·) (congrArg ((args m c).w k) (Fin.ext ?_))
    simp

theorem out_h (c : Dev nD) (t : Fin cfg0.N) (r : Fin 512) (l : Fin 1024) :
    out0_4 (iblk m c 0 t) (iblk m c 1 t) (iblk m c 2 t) (ix2 r l) = (args m c).h (rowOf t r) l := by
  unfold out0_4
  frame_out
  exact pay_h m c t r l

theorem out_p (c : Dev nD) (t : Fin cfg0.N) (r : Fin 512) (l : Fin 8192) :
    out0_3 (iblk m c 0 t) (iblk m c 1 t) (iblk m c 2 t) (ix2 r l) = (args m c).p (rowOf t r) l := by
  unfold out0_3
  frame_out
  by_cases h3 : 6144 ≤ l.val
  · rw [Pieces.canon_mem _ _ _ _ (ix2 r ⟨l.val - 6144, by omega⟩) fun a => by fin_cases a <;> simp [ix2]; omega]
    exact (pay_p m c t r _).2.2.2.trans (congrArg _ (Fin.ext (by show 6144 + (l.val - 6144) = l.val; omega)))
  rw [Pieces.canon_not_mem _ _ _ _ 1 (.inl (by show l.val < 6144; omega))]
  by_cases h2 : 4096 ≤ l.val
  · rw [Pieces.canon_mem _ _ _ _ (ix2 r ⟨l.val - 4096, by omega⟩) fun a => by fin_cases a <;> simp [ix2]; omega]
    exact (pay_p m c t r _).2.2.1.trans (congrArg _ (Fin.ext (by show 4096 + (l.val - 4096) = l.val; omega)))
  rw [Pieces.canon_not_mem _ _ _ _ 1 (.inl (by show l.val < 4096; omega))]
  by_cases h1 : 2048 ≤ l.val
  · rw [Pieces.canon_mem _ _ _ _ (ix2 r ⟨l.val - 2048, by omega⟩) fun a => by fin_cases a <;> simp [ix2]; omega]
    exact (pay_p m c t r _).2.1.trans (congrArg _ (Fin.ext (by show 2048 + (l.val - 2048) = l.val; omega)))
  rw [Pieces.canon_not_mem _ _ _ _ 1 (.inl (by show l.val < 2048; omega)),
    Pieces.canon_mem _ _ _ _ (ix2 r ⟨l.val, by omega⟩) fun a => by fin_cases a <;> simp [ix2]]
  exact (pay_p m c t r _).1

theorem final_h (c : Dev nD) : (dats m 0 c).arrAt 4 cfg0.N = fun i : S4096x1024.Idx => (args m c).h (i 0) (i 1) := by
  refine (dats m 0 c).arrAt_eq_of_covers 4 _ (by decide +kernel) fun t hf y => ?_
  obtain ⟨r, l, rfl⟩ : ∃ r l, y = ix2 r l := ⟨y 0, y 1, by funext a; fin_cases a <;> rfl⟩
  blk_simp [idx4 t]
  rw [after0_4, out_h m c t]
  congr 1
  · exact Fin.ext (by blk_simp [idx4 t, rowOf]; show 512 * t.val + r.val = t.val * 512 + r.val; omega)
  · exact Fin.ext (by blk_simp [idx4 t, rowOf]; done)

theorem final_p (c : Dev nD) : (dats m 0 c).arrAt 3 cfg0.N = fun i : S4096x8192.Idx => (args m c).p (i 0) (i 1) := by
  refine (dats m 0 c).arrAt_eq_of_covers 3 _ (by decide +kernel) fun t hf y => ?_
  obtain ⟨r, l, rfl⟩ : ∃ r l, y = ix2 r l := ⟨y 0, y 1, by funext a; fin_cases a <;> rfl⟩
  blk_simp [idx3 t]
  rw [after0_3, out_p m c t]
  congr 1
  · exact Fin.ext (by blk_simp [idx3 t, rowOf]; show 512 * t.val + r.val = t.val * 512 + r.val; omega)
  · exact Fin.ext (by blk_simp [idx3 t, rowOf]; done)

/-- The run: the results in terms of the arguments, and the arguments unchanged. -/
theorem run : θ_run defs (onTc (τ := τ) (main (F := Ideal))) ⟨m, fun _ => 0, ρ⟩ fun r => ∀ c : Dev nD,
      (r.2.mem ((c.tc : Thread nD τ).loc main_v4_0) = (fun i : S4096x8192.Idx => (args m c).p (i 0) (i 1))
        ∧ r.2.mem ((c.tc : Thread nD τ).loc main_v4_1) = (fun i : S4096x1024.Idx => (args m c).h (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨⟨(h c).1.trans (final_p m c), (h c).2.1.trans (final_h m c)⟩, (h c).2.2⟩) (run_blocks m ρ)

end Cert.InFwdKernelIdeal.Value

end
-- ==== Proof.InFwdEq.lean ====
/-
  The norm and the input projection, forward: the reference's stages are the kernel's, and the claim that the results agree.
-/
module

public import proofs.«01_k».proof.Proof.InFwdValue
public import proofs.«01_k».proof.Proof.Gen.InFwdReferenceIdeal.Run
public import proofs.«01_k».proof.Proof.Gen.InFwdReferenceIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.InFwdEq

open Cert.InFwdKernelIdeal.Value (Args args)
open Cert.InFwdReferenceIdeal Cert.InFwdReferenceIdeal.Read

variable (x0 : S4096x1024.Idx → EReal) (x1 : S4x1024.Idx → EReal) (x2 : S1024x8192.Idx → EReal)

theorem r_q (n : Fin 4096) : val_main_v8 (F := Ideal) x0 (ix2 n 0) = (Args.of x0 x1 x2).q n := by
  pointwise [val_main_v8, val_main_v7, val_main_v6, val_main_v5, val_main_v4, val_main_v3, val_main_v2, val_main_cst, val_main_cst_0, val_main_cst_1]
  rfl

theorem r_h (n : Fin 4096) (j : Fin 1024) : val_main_v17 (F := Ideal) x0 x1 (ix2 n j) = (Args.of x0 x1 x2).h n j := by
  pointwise [val_main_v17, val_main_v14, val_main_v13, val_main_v12, val_main_v11, val_main_v10, val_main_v9, val_main_v1, val_main_v0]
  rw [r_q x0 x1 x2]
  rfl

theorem r_p (n : Fin 4096) (j : Fin 8192) : val_main_v16 (F := Ideal) x0 x1 x2 (ix2 n j) = (Args.of x0 x1 x2).p n j := by
  pointwise [val_main_v16, val_main_v15]
  exact Finset.sum_congr rfl fun k _ => congrArg (· * _) (r_h x0 x1 x2 n k)

/-- The claim. -/
theorem value : Cert.algebraic_InFwdKernelIdeal_InFwdReferenceIdeal
    (hInFwdKernelIdeal := Cert.InFwdKernelIdeal.Gen.facts) (hInFwdReferenceIdeal := Cert.InFwdReferenceIdeal.Gen.facts) := by
  intro m g m' g' _ hargs
  refine ⟨fun c i => (args m c).p (i 0) (i 1), fun c i => (args m c).h (i 0) (i 1),
    (θ_run _ _ _).mono (fun r h c => ⟨(h c).1.1, (h c).1.2, (h c).2⟩) (Cert.InFwdKernelIdeal.Value.run m g),
    (θ_run _ _ _).mono (fun r h c => ?_) (Cert.InFwdReferenceIdeal.Value.run m' g')⟩
  obtain ⟨h0, h1, hk⟩ := h c
  refine ⟨h0.trans (funext fun i => ?_), h1.trans (funext fun i => ?_), hk⟩
  all_goals
    simp only [val_main_v16_eq, val_main_v17_eq, hargs]
    obtain ⟨r, l, rfl⟩ : ∃ r l, i = ix2 r l := ⟨i 0, i 1, by funext a; fin_cases a <;> rfl⟩
  · exact r_p ..
  · exact r_h ..

/-- The reference runs, leaves its arguments, and declares no semaphore. -/
theorem frame_ref : Cert.quiescent_InFwdReferenceIdeal (hInFwdReferenceIdeal := Cert.InFwdReferenceIdeal.Gen.facts) :=
  fun m ρ _ => (θ_run Cert.InFwdReferenceIdeal.defs _ _).mono
    (fun r h => ⟨fun c => (h c).2.2, sem_eq_zero_of_no_sems (by decide) r.2⟩) (Cert.InFwdReferenceIdeal.Value.run m ρ)

end Cert.InFwdEq

end
-- ==== Proof.ConvFwdFrame.lean ====
/-
  The convolution forward: the reference runs, leaves its arguments, and declares no semaphore.
-/
module

public import proofs.«01_k».proof.Proof.Gen.ConvFwdReferenceIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.ConvFwdFrame

theorem frame_ref : Cert.quiescent_ConvFwdReferenceIdeal (hConvFwdReferenceIdeal := Cert.ConvFwdReferenceIdeal.Gen.facts) :=
  fun m ρ _ => (θ_run Cert.ConvFwdReferenceIdeal.defs _ _).mono
    (fun r h => ⟨fun c => (h c).2.2, sem_eq_zero_of_no_sems (by decide) r.2⟩) (Cert.ConvFwdReferenceIdeal.Value.run m ρ)

end Cert.ConvFwdFrame

end
-- ==== Proof.lean ====
module

public import proofs.«01_k».proof.Defs
public import proofs.«01_k».proof.Proof.LossEq
public import proofs.«01_k».proof.Proof.MergeEq
public import proofs.«01_k».proof.Proof.InEq
public import proofs.«01_k».proof.Proof.RetEq
public import proofs.«01_k».proof.Proof.RetFwdEq
public import proofs.«01_k».proof.Proof.MergeFwdEq
public import proofs.«01_k».proof.Proof.InFwdEq
public import proofs.«01_k».proof.Proof.ConvFwdFrame
public import proofs.«01_k».proof.Proof.Gen.LossReferenceIdeal.Run
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.InKernel
public import proofs.«01_k».proof.Proof.Gen.InKernel.Frame
public import proofs.«01_k».proof.Proof.Gen.InKernel.Launch
public import proofs.«01_k».proof.Proof.Gen.InKernel.Points
public import proofs.«01_k».proof.Proof.Gen.InKernel.Skeleton
public import proofs.«01_k».proof.Proof.Gen.InKernelIdeal
public import proofs.«01_k».proof.Proof.Gen.InKernelIdeal.Frame
public import proofs.«01_k».proof.Proof.Gen.InKernelIdeal.Launch
public import proofs.«01_k».proof.Proof.Gen.InKernelIdeal.Points
public import proofs.«01_k».proof.Proof.Gen.InKernelIdeal.Skeleton
public import proofs.«01_k».proof.Proof.Gen.InKernelIdeal.Value
public import proofs.«01_k».proof.Proof.Gen.InReferenceIdeal
public import proofs.«01_k».proof.Proof.Gen.MergeKernel
public import proofs.«01_k».proof.Proof.Gen.MergeKernel.Frame
public import proofs.«01_k».proof.Proof.Gen.MergeKernel.Launch
public import proofs.«01_k».proof.Proof.Gen.MergeKernel.Points
public import proofs.«01_k».proof.Proof.Gen.MergeKernel.Skeleton
public import proofs.«01_k».proof.Proof.Gen.MergeKernelIdeal
public import proofs.«01_k».proof.Proof.Gen.MergeKernelIdeal.Frame
public import proofs.«01_k».proof.Proof.Gen.MergeKernelIdeal.Launch
public import proofs.«01_k».proof.Proof.Gen.MergeKernelIdeal.Points
public import proofs.«01_k».proof.Proof.Gen.MergeKernelIdeal.Skeleton
public import proofs.«01_k».proof.Proof.Gen.MergeKernelIdeal.Value
public import proofs.«01_k».proof.Proof.Gen.MergeReferenceIdeal
public import proofs.«01_k».proof.Proof.Gen.On_merge_mask
public import proofs.«01_k».proof.Proof.Gen.RetReferenceIdeal
public import proofs.«01_k».proof.Proof.Gen.Pre_ret_finite
public import proofs.«01_k».proof.Proof.Gen.RetFwdKernel
public import proofs.«01_k».proof.Proof.Gen.RetFwdKernel.Frame
public import proofs.«01_k».proof.Proof.Gen.RetFwdKernel.Launch
public import proofs.«01_k».proof.Proof.Gen.RetFwdKernel.Points
public import proofs.«01_k».proof.Proof.Gen.RetFwdKernel.Skeleton
public import proofs.«01_k».proof.Proof.Gen.RetFwdKernelIdeal
public import proofs.«01_k».proof.Proof.Gen.RetFwdKernelIdeal.Frame
public import proofs.«01_k».proof.Proof.Gen.RetFwdKernelIdeal.Launch
public import proofs.«01_k».proof.Proof.Gen.RetFwdKernelIdeal.Points
public import proofs.«01_k».proof.Proof.Gen.RetFwdKernelIdeal.Skeleton
public import proofs.«01_k».proof.Proof.Gen.RetFwdKernelIdeal.Value
public import proofs.«01_k».proof.Proof.Gen.RetFwdReferenceIdeal
public import proofs.«01_k».proof.Proof.Gen.Pre_proj_finite
public import proofs.«01_k».proof.Proof.Gen.MergeFwdKernel
public import proofs.«01_k».proof.Proof.Gen.MergeFwdKernel.Frame
public import proofs.«01_k».proof.Proof.Gen.MergeFwdKernel.Launch
public import proofs.«01_k».proof.Proof.Gen.MergeFwdKernel.Points
public import proofs.«01_k».proof.Proof.Gen.MergeFwdKernel.Skeleton
public import proofs.«01_k».proof.Proof.Gen.MergeFwdKernelIdeal
public import proofs.«01_k».proof.Proof.Gen.MergeFwdKernelIdeal.Frame
public import proofs.«01_k».proof.Proof.Gen.MergeFwdKernelIdeal.Launch
public import proofs.«01_k».proof.Proof.Gen.MergeFwdKernelIdeal.Points
public import proofs.«01_k».proof.Proof.Gen.MergeFwdKernelIdeal.Skeleton
public import proofs.«01_k».proof.Proof.Gen.MergeFwdKernelIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gen.InFwdKernel
public import proofs.«01_k».proof.Proof.Gen.InFwdKernel.Frame
public import proofs.«01_k».proof.Proof.Gen.InFwdKernel.Launch
public import proofs.«01_k».proof.Proof.Gen.InFwdKernel.Points
public import proofs.«01_k».proof.Proof.Gen.InFwdKernel.Skeleton
public import proofs.«01_k».proof.Proof.Gen.InFwdKernelIdeal
public import proofs.«01_k».proof.Proof.Gen.InFwdKernelIdeal.Frame
public import proofs.«01_k».proof.Proof.Gen.InFwdKernelIdeal.Launch
public import proofs.«01_k».proof.Proof.Gen.InFwdKernelIdeal.Points
public import proofs.«01_k».proof.Proof.Gen.InFwdKernelIdeal.Skeleton
public import proofs.«01_k».proof.Proof.Gen.InFwdKernelIdeal.Value
public import proofs.«01_k».proof.Proof.Gen.InFwdReferenceIdeal
public import proofs.«01_k».proof.Proof.Gen.InFwdReferenceIdeal.Run
public import proofs.«01_k».proof.Proof.Gen.InFwdReferenceIdeal.Read
public import proofs.«01_k».proof.Proof.Gen.ConvFwdKernel
public import proofs.«01_k».proof.Proof.Gen.ConvFwdKernel.Frame
public import proofs.«01_k».proof.Proof.Gen.ConvFwdKernel.Launch
public import proofs.«01_k».proof.Proof.Gen.ConvFwdKernel.Points
public import proofs.«01_k».proof.Proof.Gen.ConvFwdKernel.Skeleton
public import proofs.«01_k».proof.Proof.Gen.ConvFwdKernelIdeal
public import proofs.«01_k».proof.Proof.Gen.ConvFwdKernelIdeal.Frame
public import proofs.«01_k».proof.Proof.Gen.ConvFwdKernelIdeal.Launch
public import proofs.«01_k».proof.Proof.Gen.ConvFwdKernelIdeal.Points
public import proofs.«01_k».proof.Proof.Gen.ConvFwdKernelIdeal.Skeleton
public import proofs.«01_k».proof.Proof.Gen.ConvFwdReferenceIdeal
public import proofs.«01_k».proof.Proof.Gen.ConvFwdReferenceIdeal.Run
public import proofs.«01_k».proof.Proof.Gen.RetKernel
public import proofs.«01_k».proof.Proof.Gen.RetKernel.Frame
public import proofs.«01_k».proof.Proof.Gen.RetKernel.Launch
public import proofs.«01_k».proof.Proof.Gen.RetKernel.Points
public import proofs.«01_k».proof.Proof.Gen.RetKernel.Skeleton
public import proofs.«01_k».proof.Proof.Gen.RetKernelIdeal
public import proofs.«01_k».proof.Proof.Gen.RetKernelIdeal.Frame
public import proofs.«01_k».proof.Proof.Gen.RetKernelIdeal.Launch
public import proofs.«01_k».proof.Proof.Gen.RetKernelIdeal.Points
public import proofs.«01_k».proof.Proof.Gen.RetKernelIdeal.Skeleton
public import proofs.«01_k».proof.Proof.Gen.RetKernelIdeal.Value
public import proofs.«01_k».proof.Proof.Gen.MergeReferenceIdeal.Run
public import proofs.«01_k».proof.Proof.Gen.MergeReferenceIdeal.Read
public import proofs.«01_k».proof.Proof.Gen.InReferenceIdeal.Run
public import proofs.«01_k».proof.Proof.Gen.InReferenceIdeal.Read
public import Idealize.ShloMosaic.Adequacy
public import Idealize.ShloMosaic.Init

@[expose] public section

noncomputable section

namespace Cert.Proof

open Idealize.ShloMosaic Idealize.SL.Sem

theorem claim : Cert.Claim := ⟨Cert.LossKernel.Gen.facts, Cert.LossKernelIdeal.Gen.facts, Cert.LossReferenceIdeal.Gen.facts, Cert.MergeKernel.Gen.facts,
  Cert.MergeKernelIdeal.Gen.facts, Cert.MergeReferenceIdeal.Gen.facts, Cert.InKernel.Gen.facts, Cert.InKernelIdeal.Gen.facts,
  Cert.InReferenceIdeal.Gen.facts, Cert.RetKernel.Gen.facts, Cert.RetKernelIdeal.Gen.facts, Cert.RetReferenceIdeal.Gen.facts,
  Cert.RetFwdKernel.Gen.facts, Cert.RetFwdKernelIdeal.Gen.facts, Cert.RetFwdReferenceIdeal.Gen.facts,
  Cert.MergeFwdKernel.Gen.facts, Cert.MergeFwdKernelIdeal.Gen.facts, Cert.MergeFwdReferenceIdeal.Gen.facts,
  Cert.InFwdKernel.Gen.facts, Cert.InFwdKernelIdeal.Gen.facts, Cert.InFwdReferenceIdeal.Gen.facts,
  Cert.ConvFwdKernel.Gen.facts, Cert.ConvFwdKernelIdeal.Gen.facts, Cert.ConvFwdReferenceIdeal.Gen.facts,
  Cert.Pre_ret_finite.Gen.facts, Cert.Pre_proj_finite.Gen.facts, Cert.On_merge_mask.Gen.facts,
  fun m ρ _ => Cert.LossKernel.Gen.frame m ρ,
  fun m ρ _ => Cert.LossKernelIdeal.Gen.frame m ρ,
  Cert.LossEq.frame_ref,
  fun m ρ _ => Cert.MergeKernel.Gen.frame m ρ,
  fun m ρ _ => Cert.MergeKernelIdeal.Gen.frame m ρ,
  Cert.MergeEq.frame_ref,
  fun m ρ _ => Cert.InKernel.Gen.frame m ρ,
  fun m ρ _ => Cert.InKernelIdeal.Gen.frame m ρ,
  Cert.InEq.frame_ref,
  fun m ρ _ => Cert.RetKernel.Gen.frame m ρ,
  fun m ρ _ => Cert.RetKernelIdeal.Gen.frame m ρ,
  fun m ρ _ => Cert.RetKernelIdeal.Gen.frame m ρ,
  Cert.RetEq.frame_ref,
  fun m ρ _ => Cert.RetEq.frame_ref m ρ trivial,
  fun m ρ _ => Cert.RetFwdKernel.Gen.frame m ρ,
  fun m ρ _ => Cert.RetFwdKernelIdeal.Gen.frame m ρ,
  fun m ρ _ => Cert.RetFwdKernelIdeal.Gen.frame m ρ,
  Cert.RetFwdEq.frame_ref,
  fun m ρ _ => Cert.RetFwdEq.frame_ref m ρ trivial,
  fun m ρ _ => Cert.MergeFwdKernel.Gen.frame m ρ,
  fun m ρ _ => Cert.MergeFwdKernelIdeal.Gen.frame m ρ,
  Cert.MergeFwdEq.frame_ref,
  fun m ρ _ => Cert.InFwdKernel.Gen.frame m ρ,
  fun m ρ _ => Cert.InFwdKernelIdeal.Gen.frame m ρ,
  Cert.InFwdEq.frame_ref,
  fun m ρ _ => Cert.ConvFwdKernel.Gen.frame m ρ,
  fun m ρ _ => Cert.ConvFwdKernelIdeal.Gen.frame m ρ,
  Cert.ConvFwdFrame.frame_ref,
  trivial,
  Cert.LossEq.value,
  trivial,
  Cert.MergeEq.value,
  trivial,
  Cert.InEq.value,
  trivial,
  Cert.RetEq.value,
  trivial,
  Cert.RetFwdEq.value,
  trivial,
  Cert.MergeFwdEq.value,
  trivial,
  Cert.InFwdEq.value,
  trivial⟩

end Cert.Proof

end
